-- ==== Defs.lean ====
def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensRefIdeal (m : (ℓ : Loc Cert.TokensRefIdeal.nD Cert.TokensRefIdeal.τ Cert.TokensRefIdeal.sig) → Buf (Elt Ideal) ℓ) : Prop :=
  True

def Pre_Routes (m : (ℓ : Loc Cert.Routes.nD Cert.Routes.τ Cert.Routes.sig) → Buf (Elt Bits) ℓ) : Prop :=
  True

def Pre_RoutesIdeal (m : (ℓ : Loc Cert.RoutesIdeal.nD Cert.RoutesIdeal.τ Cert.RoutesIdeal.sig) → Buf (Elt Ideal) ℓ) : Prop :=
  True

def Pre_RoutesRefIdeal (m : (ℓ : Loc Cert.RoutesRefIdeal.nD Cert.RoutesRefIdeal.τ Cert.RoutesRefIdeal.sig) → Buf (Elt Ideal) ℓ) : Prop :=
  True

def Pre_Picks [hPre_picks_exist : Cert.Pre_picks_exist.Facts] (m : (ℓ : Loc Cert.Picks.nD Cert.Picks.τ Cert.Picks.sig) → Buf (Elt Bits) ℓ) : Prop :=
  ∀ c : Dev Cert.Picks.nD,
    (Cert.Pre_picks_exist.fn (F := Bits) (m ((c.tc : Thread Cert.Picks.nD Cert.Picks.τ).loc Cert.Picks.main_arg0)) (m ((c.tc : Thread Cert.Picks.nD Cert.Picks.τ).loc Cert.Picks.main_arg1))) = (fun _ => 1#1)

def Pre_PicksIdeal [hPre_picks_exist : Cert.Pre_picks_exist.Facts] (m : (ℓ : Loc Cert.PicksIdeal.nD Cert.PicksIdeal.τ Cert.PicksIdeal.sig) → Buf (Elt Ideal) ℓ) : Prop :=
  ∀ c : Dev Cert.PicksIdeal.nD,
    (Cert.Pre_picks_exist.fn (F := Ideal) (m ((c.tc : Thread Cert.PicksIdeal.nD Cert.PicksIdeal.τ).loc Cert.PicksIdeal.main_arg0)) (m ((c.tc : Thread Cert.PicksIdeal.nD Cert.PicksIdeal.τ).loc Cert.PicksIdeal.main_arg1))) = (fun _ => 1#1)

def Pre_PicksRefIdeal (m : (ℓ : Loc Cert.PicksRefIdeal.nD Cert.PicksRefIdeal.τ Cert.PicksRefIdeal.sig) → Buf (Elt Ideal) ℓ) : Prop :=
  True

def Pre_PicksRefIdeal_picks_exist [hPre_picks_exist : Cert.Pre_picks_exist.Facts] (m : (ℓ : Loc Cert.PicksRefIdeal.nD Cert.PicksRefIdeal.τ Cert.PicksRefIdeal.sig) → Buf (Elt Ideal) ℓ) : Prop :=
  ∀ c : Dev Cert.PicksRefIdeal.nD,
    (Cert.Pre_picks_exist.fn (F := Ideal) (m ((c.tc : Thread Cert.PicksRefIdeal.nD Cert.PicksRefIdeal.τ).loc Cert.PicksRefIdeal.main_arg0)) (m ((c.tc : Thread Cert.PicksRefIdeal.nD Cert.PicksRefIdeal.τ).loc Cert.PicksRefIdeal.main_arg1))) = (fun _ => 1#1)

def Pre_Returns [hPre_returns_exist : Cert.Pre_returns_exist.Facts] (m : (ℓ : Loc Cert.Returns.nD Cert.Returns.τ Cert.Returns.sig) → Buf (Elt Bits) ℓ) : Prop :=
  ∀ c : Dev Cert.Returns.nD,
    (Cert.Pre_returns_exist.fn (F := Bits) (m ((c.tc : Thread Cert.Returns.nD Cert.Returns.τ).loc Cert.Returns.main_arg0)) (m ((c.tc : Thread Cert.Returns.nD Cert.Returns.τ).loc Cert.Returns.main_arg1))) = (fun _ => 1#1)

def Pre_ReturnsIdeal [hPre_returns_exist : Cert.Pre_returns_exist.Facts] (m : (ℓ : Loc Cert.ReturnsIdeal.nD Cert.ReturnsIdeal.τ Cert.ReturnsIdeal.sig) → Buf (Elt Ideal) ℓ) : Prop :=
  ∀ c : Dev Cert.ReturnsIdeal.nD,
    (Cert.Pre_returns_exist.fn (F := Ideal) (m ((c.tc : Thread Cert.ReturnsIdeal.nD Cert.ReturnsIdeal.τ).loc Cert.ReturnsIdeal.main_arg0)) (m ((c.tc : Thread Cert.ReturnsIdeal.nD Cert.ReturnsIdeal.τ).loc Cert.ReturnsIdeal.main_arg1))) = (fun _ => 1#1)

def Pre_ReturnsRefIdeal (m : (ℓ : Loc Cert.ReturnsRefIdeal.nD Cert.ReturnsRefIdeal.τ Cert.ReturnsRefIdeal.sig) → Buf (Elt Ideal) ℓ) : Prop :=
  True

def Pre_ReturnsRefIdeal_returns_exist [hPre_returns_exist : Cert.Pre_returns_exist.Facts] (m : (ℓ : Loc Cert.ReturnsRefIdeal.nD Cert.ReturnsRefIdeal.τ Cert.ReturnsRefIdeal.sig) → Buf (Elt Ideal) ℓ) : Prop :=
  ∀ c : Dev Cert.ReturnsRefIdeal.nD,
    (Cert.Pre_returns_exist.fn (F := Ideal) (m ((c.tc : Thread Cert.ReturnsRefIdeal.nD Cert.ReturnsRefIdeal.τ).loc Cert.ReturnsRefIdeal.main_arg0)) (m ((c.tc : Thread Cert.ReturnsRefIdeal.nD Cert.ReturnsRefIdeal.τ).loc Cert.ReturnsRefIdeal.main_arg1))) = (fun _ => 1#1)

def Pre_Result [hPre_routes_exist : Cert.Pre_routes_exist.Facts] (m : (ℓ : Loc Cert.Result.nD Cert.Result.τ Cert.Result.sig) → Buf (Elt Bits) ℓ) : Prop :=
  ∀ c : Dev Cert.Result.nD,
    (Cert.Pre_routes_exist.fn (F := Bits) (m ((c.tc : Thread Cert.Result.nD Cert.Result.τ).loc Cert.Result.main_arg0)) (m ((c.tc : Thread Cert.Result.nD Cert.Result.τ).loc Cert.Result.main_arg1)) (m ((c.tc : Thread Cert.Result.nD Cert.Result.τ).loc Cert.Result.main_arg2))) = (fun _ => 1#1)

def Pre_ResultIdeal [hPre_routes_exist : Cert.Pre_routes_exist.Facts] (m : (ℓ : Loc Cert.ResultIdeal.nD Cert.ResultIdeal.τ Cert.ResultIdeal.sig) → Buf (Elt Ideal) ℓ) : Prop :=
  ∀ c : Dev Cert.ResultIdeal.nD,
    (Cert.Pre_routes_exist.fn (F := Ideal) (m ((c.tc : Thread Cert.ResultIdeal.nD Cert.ResultIdeal.τ).loc Cert.ResultIdeal.main_arg0)) (m ((c.tc : Thread Cert.ResultIdeal.nD Cert.ResultIdeal.τ).loc Cert.ResultIdeal.main_arg1)) (m ((c.tc : Thread Cert.ResultIdeal.nD Cert.ResultIdeal.τ).loc Cert.ResultIdeal.main_arg2))) = (fun _ => 1#1)

def Pre_ResultRefIdeal (m : (ℓ : Loc Cert.ResultRefIdeal.nD Cert.ResultRefIdeal.τ Cert.ResultRefIdeal.sig) → Buf (Elt Ideal) ℓ) : Prop :=
  True

def Pre_ResultRefIdeal_routes_exist [hPre_routes_exist : Cert.Pre_routes_exist.Facts] (m : (ℓ : Loc Cert.ResultRefIdeal.nD Cert.ResultRefIdeal.τ Cert.ResultRefIdeal.sig) → Buf (Elt Ideal) ℓ) : Prop :=
  ∀ c : Dev Cert.ResultRefIdeal.nD,
    (Cert.Pre_routes_exist.fn (F := Ideal) (m ((c.tc : Thread Cert.ResultRefIdeal.nD Cert.ResultRefIdeal.τ).loc Cert.ResultRefIdeal.main_arg0)) (m ((c.tc : Thread Cert.ResultRefIdeal.nD Cert.ResultRefIdeal.τ).loc Cert.ResultRefIdeal.main_arg1)) (m ((c.tc : Thread Cert.ResultRefIdeal.nD Cert.ResultRefIdeal.τ).loc Cert.ResultRefIdeal.main_arg2))) = (fun _ => 1#1)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      r.2.mem ((c.tc : Thread Cert.TableRefIdeal.nD Cert.TableRefIdeal.τ).loc Cert.TableRefIdeal.main_arg0) = m ((c.tc : Thread Cert.TableRefIdeal.nD Cert.TableRefIdeal.τ).loc Cert.TableRefIdeal.main_arg0)
      ∧ r.2.mem ((c.tc : Thread Cert.TableRefIdeal.nD Cert.TableRefIdeal.τ).loc Cert.TableRefIdeal.main_arg1) = m ((c.tc : Thread Cert.TableRefIdeal.nD Cert.TableRefIdeal.τ).loc Cert.TableRefIdeal.main_arg1))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0))
      ∧ r.2.sem = fun _ => 0)

def quiescent_TokensRefIdeal [hTokensRefIdeal : Cert.TokensRefIdeal.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0))
      ∧ r.2.sem = fun _ => 0)

def quiescent_Routes [hRoutes : Cert.Routes.Facts] : Prop :=
  ∀ (m : (ℓ : Loc Cert.Routes.nD Cert.Routes.τ Cert.Routes.sig) → Buf (Elt Bits) ℓ) (g : Dev Cert.Routes.nD → PrngReg), Pre_Routes m →
    θ_run (Cert.Routes.defs (F := Bits)) (onTc (τ := Cert.Routes.τ) (Cert.Routes.main (F := Bits))) ⟨m, fun _ => 0, g⟩ (fun r => (∀ c : Dev Cert.Routes.nD,
      r.2.mem ((c.tc : Thread Cert.Routes.nD Cert.Routes.τ).loc Cert.Routes.main_arg0) = m ((c.tc : Thread Cert.Routes.nD Cert.Routes.τ).loc Cert.Routes.main_arg0))
      ∧ r.2.sem = fun _ => 0)

def quiescent_RoutesIdeal [hRoutesIdeal : Cert.RoutesIdeal.Facts] : Prop :=
  ∀ (m : (ℓ : Loc Cert.RoutesIdeal.nD Cert.RoutesIdeal.τ Cert.RoutesIdeal.sig) → Buf (Elt Ideal) ℓ) (g : Dev Cert.RoutesIdeal.nD → PrngReg), Pre_RoutesIdeal m →
    θ_run (Cert.RoutesIdeal.defs (F := Ideal)) (onTc (τ := Cert.RoutesIdeal.τ) (Cert.RoutesIdeal.main (F := Ideal))) ⟨m, fun _ => 0, g⟩ (fun r => (∀ c : Dev Cert.RoutesIdeal.nD,
      r.2.mem ((c.tc : Thread Cert.RoutesIdeal.nD Cert.RoutesIdeal.τ).loc Cert.RoutesIdeal.main_arg0) = m ((c.tc : Thread Cert.RoutesIdeal.nD Cert.RoutesIdeal.τ).loc Cert.RoutesIdeal.main_arg0))
      ∧ r.2.sem = fun _ => 0)

def quiescent_RoutesRefIdeal [hRoutesRefIdeal : Cert.RoutesRefIdeal.Facts] : Prop :=
  ∀ (m : (ℓ : Loc Cert.RoutesRefIdeal.nD Cert.RoutesRefIdeal.τ Cert.RoutesRefIdeal.sig) → Buf (Elt Ideal) ℓ) (g : Dev Cert.RoutesRefIdeal.nD → PrngReg), Pre_RoutesRefIdeal m →
    θ_run (Cert.RoutesRefIdeal.defs (F := Ideal)) (onTc (τ := Cert.RoutesRefIdeal.τ) (Cert.RoutesRefIdeal.main (F := Ideal))) ⟨m, fun _ => 0, g⟩ (fun r => (∀ c : Dev Cert.RoutesRefIdeal.nD,
      r.2.mem ((c.tc : Thread Cert.RoutesRefIdeal.nD Cert.RoutesRefIdeal.τ).loc Cert.RoutesRefIdeal.main_arg0) = m ((c.tc : Thread Cert.RoutesRefIdeal.nD Cert.RoutesRefIdeal.τ).loc Cert.RoutesRefIdeal.main_arg0))
      ∧ r.2.sem = fun _ => 0)

def quiescent_Picks [hPicks : Cert.Picks.Facts] [hPre_picks_exist : Cert.Pre_picks_exist.Facts] : Prop :=
  ∀ (m : (ℓ : Loc Cert.Picks.nD Cert.Picks.τ Cert.Picks.sig) → Buf (Elt Bits) ℓ) (g : Dev Cert.Picks.nD → PrngReg), Pre_Picks m →
    θ_run (Cert.Picks.defs (F := Bits)) (onTc (τ := Cert.Picks.τ) (Cert.Picks.main (F := Bits))) ⟨m, fun _ => 0, g⟩ (fun r => (∀ c : Dev Cert.Picks.nD,
      r.2.mem ((c.tc : Thread Cert.Picks.nD Cert.Picks.τ).loc Cert.Picks.main_arg0) = m ((c.tc : Thread Cert.Picks.nD Cert.Picks.τ).loc Cert.Picks.main_arg0)
      ∧ r.2.mem ((c.tc : Thread Cert.Picks.nD Cert.Picks.τ).loc Cert.Picks.main_arg1) = m ((c.tc : Thread Cert.Picks.nD Cert.Picks.τ).loc Cert.Picks.main_arg1))
      ∧ r.2.sem = fun _ => 0)

def quiescent_PicksIdeal [hPicksIdeal : Cert.PicksIdeal.Facts] [hPre_picks_exist : Cert.Pre_picks_exist.Facts] : Prop :=
  ∀ (m : (ℓ : Loc Cert.PicksIdeal.nD Cert.PicksIdeal.τ Cert.PicksIdeal.sig) → Buf (Elt Ideal) ℓ) (g : Dev Cert.PicksIdeal.nD → PrngReg), Pre_PicksIdeal m →
    θ_run (Cert.PicksIdeal.defs (F := Ideal)) (onTc (τ := Cert.PicksIdeal.τ) (Cert.PicksIdeal.main (F := Ideal))) ⟨m, fun _ => 0, g⟩ (fun r => (∀ c : Dev Cert.PicksIdeal.nD,
      r.2.mem ((c.tc : Thread Cert.PicksIdeal.nD Cert.PicksIdeal.τ).loc Cert.PicksIdeal.main_arg0) = m ((c.tc : Thread Cert.PicksIdeal.nD Cert.PicksIdeal.τ).loc Cert.PicksIdeal.main_arg0)
      ∧ r.2.mem ((c.tc : Thread Cert.PicksIdeal.nD Cert.PicksIdeal.τ).loc Cert.PicksIdeal.main_arg1) = m ((c.tc : Thread Cert.PicksIdeal.nD Cert.PicksIdeal.τ).loc Cert.PicksIdeal.main_arg1))
      ∧ r.2.sem = fun _ => 0)

def quiescent_PicksRefIdeal [hPicksRefIdeal : Cert.PicksRefIdeal.Facts] : Prop :=
  ∀ (m : (ℓ : Loc Cert.PicksRefIdeal.nD Cert.PicksRefIdeal.τ Cert.PicksRefIdeal.sig) → Buf (Elt Ideal) ℓ) (g : Dev Cert.PicksRefIdeal.nD → PrngReg), Pre_PicksRefIdeal m →
    θ_run (Cert.PicksRefIdeal.defs (F := Ideal)) (onTc (τ := Cert.PicksRefIdeal.τ) (Cert.PicksRefIdeal.main (F := Ideal))) ⟨m, fun _ => 0, g⟩ (fun r => (∀ c : Dev Cert.PicksRefIdeal.nD,
      r.2.mem ((c.tc : Thread Cert.PicksRefIdeal.nD Cert.PicksRefIdeal.τ).loc Cert.PicksRefIdeal.main_arg0) = m ((c.tc : Thread Cert.PicksRefIdeal.nD Cert.PicksRefIdeal.τ).loc Cert.PicksRefIdeal.main_arg0)
      ∧ r.2.mem ((c.tc : Thread Cert.PicksRefIdeal.nD Cert.PicksRefIdeal.τ).loc Cert.PicksRefIdeal.main_arg1) = m ((c.tc : Thread Cert.PicksRefIdeal.nD Cert.PicksRefIdeal.τ).loc Cert.PicksRefIdeal.main_arg1))
      ∧ r.2.sem = fun _ => 0)

def quiescent_PicksRefIdeal_pre_picks_exist [hPicksRefIdeal : Cert.PicksRefIdeal.Facts] [hPre_picks_exist : Cert.Pre_picks_exist.Facts] : Prop :=
  ∀ (m : (ℓ : Loc Cert.PicksRefIdeal.nD Cert.PicksRefIdeal.τ Cert.PicksRefIdeal.sig) → Buf (Elt Ideal) ℓ) (g : Dev Cert.PicksRefIdeal.nD → PrngReg), Pre_PicksRefIdeal_picks_exist m →
    θ_run (Cert.PicksRefIdeal.defs (F := Ideal)) (onTc (τ := Cert.PicksRefIdeal.τ) (Cert.PicksRefIdeal.main (F := Ideal))) ⟨m, fun _ => 0, g⟩ (fun r => (∀ c : Dev Cert.PicksRefIdeal.nD,
      r.2.mem ((c.tc : Thread Cert.PicksRefIdeal.nD Cert.PicksRefIdeal.τ).loc Cert.PicksRefIdeal.main_arg0) = m ((c.tc : Thread Cert.PicksRefIdeal.nD Cert.PicksRefIdeal.τ).loc Cert.PicksRefIdeal.main_arg0)
      ∧ r.2.mem ((c.tc : Thread Cert.PicksRefIdeal.nD Cert.PicksRefIdeal.τ).loc Cert.PicksRefIdeal.main_arg1) = m ((c.tc : Thread Cert.PicksRefIdeal.nD Cert.PicksRefIdeal.τ).loc Cert.PicksRefIdeal.main_arg1))
      ∧ r.2.sem = fun _ => 0)

def quiescent_Returns [hReturns : Cert.Returns.Facts] [hPre_returns_exist : Cert.Pre_returns_exist.Facts] : Prop :=
  ∀ (m : (ℓ : Loc Cert.Returns.nD Cert.Returns.τ Cert.Returns.sig) → Buf (Elt Bits) ℓ) (g : Dev Cert.Returns.nD → PrngReg), Pre_Returns m →
    θ_run (Cert.Returns.defs (F := Bits)) (onTc (τ := Cert.Returns.τ) (Cert.Returns.main (F := Bits))) ⟨m, fun _ => 0, g⟩ (fun r => (∀ c : Dev Cert.Returns.nD,
      r.2.mem ((c.tc : Thread Cert.Returns.nD Cert.Returns.τ).loc Cert.Returns.main_arg0) = m ((c.tc : Thread Cert.Returns.nD Cert.Returns.τ).loc Cert.Returns.main_arg0)
      ∧ r.2.mem ((c.tc : Thread Cert.Returns.nD Cert.Returns.τ).loc Cert.Returns.main_arg1) = m ((c.tc : Thread Cert.Returns.nD Cert.Returns.τ).loc Cert.Returns.main_arg1))
      ∧ r.2.sem = fun _ => 0)

def quiescent_ReturnsIdeal [hReturnsIdeal : Cert.ReturnsIdeal.Facts] [hPre_returns_exist : Cert.Pre_returns_exist.Facts] : Prop :=
  ∀ (m : (ℓ : Loc Cert.ReturnsIdeal.nD Cert.ReturnsIdeal.τ Cert.ReturnsIdeal.sig) → Buf (Elt Ideal) ℓ) (g : Dev Cert.ReturnsIdeal.nD → PrngReg), Pre_ReturnsIdeal m →
    θ_run (Cert.ReturnsIdeal.defs (F := Ideal)) (onTc (τ := Cert.ReturnsIdeal.τ) (Cert.ReturnsIdeal.main (F := Ideal))) ⟨m, fun _ => 0, g⟩ (fun r => (∀ c : Dev Cert.ReturnsIdeal.nD,
      r.2.mem ((c.tc : Thread Cert.ReturnsIdeal.nD Cert.ReturnsIdeal.τ).loc Cert.ReturnsIdeal.main_arg0) = m ((c.tc : Thread Cert.ReturnsIdeal.nD Cert.ReturnsIdeal.τ).loc Cert.ReturnsIdeal.main_arg0)
      ∧ r.2.mem ((c.tc : Thread Cert.ReturnsIdeal.nD Cert.ReturnsIdeal.τ).loc Cert.ReturnsIdeal.main_arg1) = m ((c.tc : Thread Cert.ReturnsIdeal.nD Cert.ReturnsIdeal.τ).loc Cert.ReturnsIdeal.main_arg1))
      ∧ r.2.sem = fun _ => 0)

def quiescent_ReturnsRefIdeal [hReturnsRefIdeal : Cert.ReturnsRefIdeal.Facts] : Prop :=
  ∀ (m : (ℓ : Loc Cert.ReturnsRefIdeal.nD Cert.ReturnsRefIdeal.τ Cert.ReturnsRefIdeal.sig) → Buf (Elt Ideal) ℓ) (g : Dev Cert.ReturnsRefIdeal.nD → PrngReg), Pre_ReturnsRefIdeal m →
    θ_run (Cert.ReturnsRefIdeal.defs (F := Ideal)) (onTc (τ := Cert.ReturnsRefIdeal.τ) (Cert.ReturnsRefIdeal.main (F := Ideal))) ⟨m, fun _ => 0, g⟩ (fun r => (∀ c : Dev Cert.ReturnsRefIdeal.nD,
      r.2.mem ((c.tc : Thread Cert.ReturnsRefIdeal.nD Cert.ReturnsRefIdeal.τ).loc Cert.ReturnsRefIdeal.main_arg0) = m ((c.tc : Thread Cert.ReturnsRefIdeal.nD Cert.ReturnsRefIdeal.τ).loc Cert.ReturnsRefIdeal.main_arg0)
      ∧ r.2.mem ((c.tc : Thread Cert.ReturnsRefIdeal.nD Cert.ReturnsRefIdeal.τ).loc Cert.ReturnsRefIdeal.main_arg1) = m ((c.tc : Thread Cert.ReturnsRefIdeal.nD Cert.ReturnsRefIdeal.τ).loc Cert.ReturnsRefIdeal.main_arg1))
      ∧ r.2.sem = fun _ => 0)

def quiescent_ReturnsRefIdeal_pre_returns_exist [hReturnsRefIdeal : Cert.ReturnsRefIdeal.Facts] [hPre_returns_exist : Cert.Pre_returns_exist.Facts] : Prop :=
  ∀ (m : (ℓ : Loc Cert.ReturnsRefIdeal.nD Cert.ReturnsRefIdeal.τ Cert.ReturnsRefIdeal.sig) → Buf (Elt Ideal) ℓ) (g : Dev Cert.ReturnsRefIdeal.nD → PrngReg), Pre_ReturnsRefIdeal_returns_exist m →
    θ_run (Cert.ReturnsRefIdeal.defs (F := Ideal)) (onTc (τ := Cert.ReturnsRefIdeal.τ) (Cert.ReturnsRefIdeal.main (F := Ideal))) ⟨m, fun _ => 0, g⟩ (fun r => (∀ c : Dev Cert.ReturnsRefIdeal.nD,
      r.2.mem ((c.tc : Thread Cert.ReturnsRefIdeal.nD Cert.ReturnsRefIdeal.τ).loc Cert.ReturnsRefIdeal.main_arg0) = m ((c.tc : Thread Cert.ReturnsRefIdeal.nD Cert.ReturnsRefIdeal.τ).loc Cert.ReturnsRefIdeal.main_arg0)
      ∧ r.2.mem ((c.tc : Thread Cert.ReturnsRefIdeal.nD Cert.ReturnsRefIdeal.τ).loc Cert.ReturnsRefIdeal.main_arg1) = m ((c.tc : Thread Cert.ReturnsRefIdeal.nD Cert.ReturnsRefIdeal.τ).loc Cert.ReturnsRefIdeal.main_arg1))
      ∧ r.2.sem = fun _ => 0)

def quiescent_Result [hResult : Cert.Result.Facts] [hPre_routes_exist : Cert.Pre_routes_exist.Facts] : Prop :=
  ∀ (m : (ℓ : Loc Cert.Result.nD Cert.Result.τ Cert.Result.sig) → Buf (Elt Bits) ℓ) (g : Dev Cert.Result.nD → PrngReg), Pre_Result m →
    θ_run (Cert.Result.defs (F := Bits)) (onTc (τ := Cert.Result.τ) (Cert.Result.main (F := Bits))) ⟨m, fun _ => 0, g⟩ (fun r => (∀ c : Dev Cert.Result.nD,
      r.2.mem ((c.tc : Thread Cert.Result.nD Cert.Result.τ).loc Cert.Result.main_arg0) = m ((c.tc : Thread Cert.Result.nD Cert.Result.τ).loc Cert.Result.main_arg0)
      ∧ r.2.mem ((c.tc : Thread Cert.Result.nD Cert.Result.τ).loc Cert.Result.main_arg1) = m ((c.tc : Thread Cert.Result.nD Cert.Result.τ).loc Cert.Result.main_arg1)
      ∧ r.2.mem ((c.tc : Thread Cert.Result.nD Cert.Result.τ).loc Cert.Result.main_arg2) = m ((c.tc : Thread Cert.Result.nD Cert.Result.τ).loc Cert.Result.main_arg2))
      ∧ r.2.sem = fun _ => 0)

def quiescent_ResultIdeal [hResultIdeal : Cert.ResultIdeal.Facts] [hPre_routes_exist : Cert.Pre_routes_exist.Facts] : Prop :=
  ∀ (m : (ℓ : Loc Cert.ResultIdeal.nD Cert.ResultIdeal.τ Cert.ResultIdeal.sig) → Buf (Elt Ideal) ℓ) (g : Dev Cert.ResultIdeal.nD → PrngReg), Pre_ResultIdeal m →
    θ_run (Cert.ResultIdeal.defs (F := Ideal)) (onTc (τ := Cert.ResultIdeal.τ) (Cert.ResultIdeal.main (F := Ideal))) ⟨m, fun _ => 0, g⟩ (fun r => (∀ c : Dev Cert.ResultIdeal.nD,
      r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0)
      ∧ r.2.mem ((c.tc : Thread Cert.ResultIdeal.nD Cert.ResultIdeal.τ).loc Cert.ResultIdeal.main_arg1) = m ((c.tc : Thread Cert.ResultIdeal.nD Cert.ResultIdeal.τ).loc Cert.ResultIdeal.main_arg1)
      ∧ r.2.mem ((c.tc : Thread Cert.ResultIdeal.nD Cert.ResultIdeal.τ).loc Cert.ResultIdeal.main_arg2) = m ((c.tc : Thread Cert.ResultIdeal.nD Cert.ResultIdeal.τ).loc Cert.ResultIdeal.main_arg2))
      ∧ r.2.sem = fun _ => 0)

def quiescent_ResultRefIdeal [hResultRefIdeal : Cert.ResultRefIdeal.Facts] : Prop :=
  ∀ (m : (ℓ : Loc Cert.ResultRefIdeal.nD Cert.ResultRefIdeal.τ Cert.ResultRefIdeal.sig) → Buf (Elt Ideal) ℓ) (g : Dev Cert.ResultRefIdeal.nD → PrngReg), Pre_ResultRefIdeal m →
    θ_run (Cert.ResultRefIdeal.defs (F := Ideal)) (onTc (τ := Cert.ResultRefIdeal.τ) (Cert.ResultRefIdeal.main (F := Ideal))) ⟨m, fun _ => 0, g⟩ (fun r => (∀ c : Dev Cert.ResultRefIdeal.nD,
      r.2.mem ((c.tc : Thread Cert.ResultRefIdeal.nD Cert.ResultRefIdeal.τ).loc Cert.ResultRefIdeal.main_arg0) = m ((c.tc : Thread Cert.ResultRefIdeal.nD Cert.ResultRefIdeal.τ).loc Cert.ResultRefIdeal.main_arg0)
      ∧ r.2.mem ((c.tc : Thread Cert.ResultRefIdeal.nD Cert.ResultRefIdeal.τ).loc Cert.ResultRefIdeal.main_arg1) = m ((c.tc : Thread Cert.ResultRefIdeal.nD Cert.ResultRefIdeal.τ).loc Cert.ResultRefIdeal.main_arg1)
      ∧ r.2.mem ((c.tc : Thread Cert.ResultRefIdeal.nD Cert.ResultRefIdeal.τ).loc Cert.ResultRefIdeal.main_arg2) = m ((c.tc : Thread Cert.ResultRefIdeal.nD Cert.ResultRefIdeal.τ).loc Cert.ResultRefIdeal.main_arg2))
      ∧ r.2.sem = fun _ => 0)

def quiescent_ResultRefIdeal_pre_routes_exist [hResultRefIdeal : Cert.ResultRefIdeal.Facts] [hPre_routes_exist : Cert.Pre_routes_exist.Facts] : Prop :=
  ∀ (m : (ℓ : Loc Cert.ResultRefIdeal.nD Cert.ResultRefIdeal.τ Cert.ResultRefIdeal.sig) → Buf (Elt Ideal) ℓ) (g : Dev Cert.ResultRefIdeal.nD → PrngReg), Pre_ResultRefIdeal_routes_exist m →
    θ_run (Cert.ResultRefIdeal.defs (F := Ideal)) (onTc (τ := Cert.ResultRefIdeal.τ) (Cert.ResultRefIdeal.main (F := Ideal))) ⟨m, fun _ => 0, g⟩ (fun r => (∀ c : Dev Cert.ResultRefIdeal.nD,
      r.2.mem ((c.tc : Thread Cert.ResultRefIdeal.nD Cert.ResultRefIdeal.τ).loc Cert.ResultRefIdeal.main_arg0) = m ((c.tc : Thread Cert.ResultRefIdeal.nD Cert.ResultRefIdeal.τ).loc Cert.ResultRefIdeal.main_arg0)
      ∧ r.2.mem ((c.tc : Thread Cert.ResultRefIdeal.nD Cert.ResultRefIdeal.τ).loc Cert.ResultRefIdeal.main_arg1) = m ((c.tc : Thread Cert.ResultRefIdeal.nD Cert.ResultRefIdeal.τ).loc Cert.ResultRefIdeal.main_arg1)
      ∧ r.2.mem ((c.tc : Thread Cert.ResultRefIdeal.nD Cert.ResultRefIdeal.τ).loc Cert.ResultRefIdeal.main_arg2) = m ((c.tc : Thread Cert.ResultRefIdeal.nD Cert.ResultRefIdeal.τ).loc Cert.ResultRefIdeal.main_arg2))
      ∧ r.2.sem = fun _ => 0)

def preserves_Table_TableIdeal : Prop :=
  True

def algebraic_TableIdeal_TableRefIdeal [hTableIdeal : Cert.TableIdeal.Facts] [hTableRefIdeal : Cert.TableRefIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableRefIdeal.nD Cert.TableRefIdeal.τ Cert.TableRefIdeal.sig) → Buf (Elt Ideal) ℓ) (g' : Dev Cert.TableRefIdeal.nD → PrngReg), Pre_TableIdeal m →
    (∀ c : Dev Cert.TableIdeal.nD,
      m ((c.tc : Thread Cert.TableIdeal.nD Cert.TableIdeal.τ).loc Cert.TableIdeal.main_arg0) = Layout.block ⟨3, ![8, 208, 512]⟩ ⟨3, ![64, 208, 512]⟩ 0 8 c (m' (((0 : Dev Cert.TableRefIdeal.nD).tc : Thread Cert.TableRefIdeal.nD Cert.TableRefIdeal.τ).loc Cert.TableRefIdeal.main_arg0))
      ∧ m ((c.tc : Thread Cert.TableIdeal.nD Cert.TableIdeal.τ).loc Cert.TableIdeal.main_arg1) = Layout.block ⟨3, ![8, 512, 1024]⟩ ⟨3, ![64, 512, 1024]⟩ 0 8 c (m' (((0 : Dev Cert.TableRefIdeal.nD).tc : Thread Cert.TableRefIdeal.nD Cert.TableRefIdeal.τ).loc Cert.TableRefIdeal.main_arg1))) →
    ∃ (v0 : Buf (Elt Ideal) (((0 : Dev Cert.TableRefIdeal.nD).tc : Thread Cert.TableRefIdeal.nD Cert.TableRefIdeal.τ).loc Cert.TableRefIdeal.main_v4)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v1) = v0
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ θ_run (Cert.TableRefIdeal.defs (F := Ideal)) (onTc (τ := Cert.TableRefIdeal.τ) (Cert.TableRefIdeal.main (F := Ideal))) ⟨m', fun _ => 0, g'⟩ (fun r =>
          r.2.mem (((0 : Dev Cert.TableRefIdeal.nD).tc : Thread Cert.TableRefIdeal.nD Cert.TableRefIdeal.τ).loc Cert.TableRefIdeal.main_v4) = v0
          ∧ r.2.mem (((0 : Dev Cert.TableRefIdeal.nD).tc : Thread Cert.TableRefIdeal.nD Cert.TableRefIdeal.τ).loc Cert.TableRefIdeal.main_arg0) = m' (((0 : Dev Cert.TableRefIdeal.nD).tc : Thread Cert.TableRefIdeal.nD Cert.TableRefIdeal.τ).loc Cert.TableRefIdeal.main_arg0)
          ∧ r.2.mem (((0 : Dev Cert.TableRefIdeal.nD).tc : Thread Cert.TableRefIdeal.nD Cert.TableRefIdeal.τ).loc Cert.TableRefIdeal.main_arg1) = m' (((0 : Dev Cert.TableRefIdeal.nD).tc : Thread Cert.TableRefIdeal.nD Cert.TableRefIdeal.τ).loc Cert.TableRefIdeal.main_arg1))

def preserves_Tokens_TokensIdeal : Prop :=
  True

def algebraic_TokensIdeal_TokensRefIdeal [hTokensIdeal : Cert.TokensIdeal.Facts] [hTokensRefIdeal : Cert.TokensRefIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensRefIdeal.nD Cert.TokensRefIdeal.τ Cert.TokensRefIdeal.sig) → Buf (Elt Ideal) ℓ) (g' : Dev Cert.TokensRefIdeal.nD → PrngReg), Pre_TokensIdeal m →
    (∀ c : Dev Cert.TokensIdeal.nD,
      m ((c.tc : Thread Cert.TokensIdeal.nD Cert.TokensIdeal.τ).loc Cert.TokensIdeal.main_arg0) = Layout.block ⟨2, ![2048, 512]⟩ ⟨2, ![16384, 512]⟩ 0 8 c (m' (((0 : Dev Cert.TokensRefIdeal.nD).tc : Thread Cert.TokensRefIdeal.nD Cert.TokensRefIdeal.τ).loc Cert.TokensRefIdeal.main_arg0))) →
    ∃ (v0 : Buf (Elt Ideal) (((0 : Dev Cert.TokensRefIdeal.nD).tc : Thread Cert.TokensRefIdeal.nD Cert.TokensRefIdeal.τ).loc Cert.TokensRefIdeal.main_arg0)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v1) = v0
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0))
      ∧ θ_run (Cert.TokensRefIdeal.defs (F := Ideal)) (onTc (τ := Cert.TokensRefIdeal.τ) (Cert.TokensRefIdeal.main (F := Ideal))) ⟨m', fun _ => 0, g'⟩ (fun r =>
          r.2.mem (((0 : Dev Cert.TokensRefIdeal.nD).tc : Thread Cert.TokensRefIdeal.nD Cert.TokensRefIdeal.τ).loc Cert.TokensRefIdeal.main_arg0) = v0
          ∧ r.2.mem (((0 : Dev Cert.TokensRefIdeal.nD).tc : Thread Cert.TokensRefIdeal.nD Cert.TokensRefIdeal.τ).loc Cert.TokensRefIdeal.main_arg0) = m' (((0 : Dev Cert.TokensRefIdeal.nD).tc : Thread Cert.TokensRefIdeal.nD Cert.TokensRefIdeal.τ).loc Cert.TokensRefIdeal.main_arg0))

def preserves_Routes_RoutesIdeal : Prop :=
  True

def algebraic_RoutesIdeal_RoutesRefIdeal [hRoutesIdeal : Cert.RoutesIdeal.Facts] [hRoutesRefIdeal : Cert.RoutesRefIdeal.Facts] : Prop :=
  ∀ (m : (ℓ : Loc Cert.RoutesIdeal.nD Cert.RoutesIdeal.τ Cert.RoutesIdeal.sig) → Buf (Elt Ideal) ℓ) (g : Dev Cert.RoutesIdeal.nD → PrngReg)
    (m' : (ℓ : Loc Cert.RoutesRefIdeal.nD Cert.RoutesRefIdeal.τ Cert.RoutesRefIdeal.sig) → Buf (Elt Ideal) ℓ) (g' : Dev Cert.RoutesRefIdeal.nD → PrngReg), Pre_RoutesIdeal m →
    (∀ c : Dev Cert.RoutesIdeal.nD,
      m ((c.tc : Thread Cert.RoutesIdeal.nD Cert.RoutesIdeal.τ).loc Cert.RoutesIdeal.main_arg0) = Layout.block ⟨2, ![16, 128]⟩ ⟨2, ![128, 128]⟩ 0 8 c (m' (((0 : Dev Cert.RoutesRefIdeal.nD).tc : Thread Cert.RoutesRefIdeal.nD Cert.RoutesRefIdeal.τ).loc Cert.RoutesRefIdeal.main_arg0))) →
    ∃ (v0 : Buf (Elt Ideal) (((0 : Dev Cert.RoutesRefIdeal.nD).tc : Thread Cert.RoutesRefIdeal.nD Cert.RoutesRefIdeal.τ).loc Cert.RoutesRefIdeal.main_arg0)),
      θ_run (Cert.RoutesIdeal.defs (F := Ideal)) (onTc (τ := Cert.RoutesIdeal.τ) (Cert.RoutesIdeal.main (F := Ideal))) ⟨m, fun _ => 0, g⟩ (fun r => ∀ c : Dev Cert.RoutesIdeal.nD,
          r.2.mem ((c.tc : Thread Cert.RoutesIdeal.nD Cert.RoutesIdeal.τ).loc Cert.RoutesIdeal.main_v1) = v0
          ∧ r.2.mem ((c.tc : Thread Cert.RoutesIdeal.nD Cert.RoutesIdeal.τ).loc Cert.RoutesIdeal.main_arg0) = m ((c.tc : Thread Cert.RoutesIdeal.nD Cert.RoutesIdeal.τ).loc Cert.RoutesIdeal.main_arg0))
      ∧ θ_run (Cert.RoutesRefIdeal.defs (F := Ideal)) (onTc (τ := Cert.RoutesRefIdeal.τ) (Cert.RoutesRefIdeal.main (F := Ideal))) ⟨m', fun _ => 0, g'⟩ (fun r =>
          r.2.mem (((0 : Dev Cert.RoutesRefIdeal.nD).tc : Thread Cert.RoutesRefIdeal.nD Cert.RoutesRefIdeal.τ).loc Cert.RoutesRefIdeal.main_arg0) = v0
          ∧ r.2.mem (((0 : Dev Cert.RoutesRefIdeal.nD).tc : Thread Cert.RoutesRefIdeal.nD Cert.RoutesRefIdeal.τ).loc Cert.RoutesRefIdeal.main_arg0) = m' (((0 : Dev Cert.RoutesRefIdeal.nD).tc : Thread Cert.RoutesRefIdeal.nD Cert.RoutesRefIdeal.τ).loc Cert.RoutesRefIdeal.main_arg0))

def preserves_Picks_PicksIdeal : Prop :=
  True

def algebraic_PicksIdeal_PicksRefIdeal [hPicksIdeal : Cert.PicksIdeal.Facts] [hPicksRefIdeal : Cert.PicksRefIdeal.Facts] [hPre_picks_exist : Cert.Pre_picks_exist.Facts] : Prop :=
  ∀ (m : (ℓ : Loc Cert.PicksIdeal.nD Cert.PicksIdeal.τ Cert.PicksIdeal.sig) → Buf (Elt Ideal) ℓ) (g : Dev Cert.PicksIdeal.nD → PrngReg)
    (m' : (ℓ : Loc Cert.PicksRefIdeal.nD Cert.PicksRefIdeal.τ Cert.PicksRefIdeal.sig) → Buf (Elt Ideal) ℓ) (g' : Dev Cert.PicksRefIdeal.nD → PrngReg), Pre_PicksIdeal m →
    (∀ c : Dev Cert.PicksIdeal.nD,
      m' ((c.tc : Thread Cert.PicksRefIdeal.nD Cert.PicksRefIdeal.τ).loc Cert.PicksRefIdeal.main_arg0) = m ((c.tc : Thread Cert.PicksIdeal.nD Cert.PicksIdeal.τ).loc Cert.PicksIdeal.main_arg0)
      ∧ m' ((c.tc : Thread Cert.PicksRefIdeal.nD Cert.PicksRefIdeal.τ).loc Cert.PicksRefIdeal.main_arg1) = m ((c.tc : Thread Cert.PicksIdeal.nD Cert.PicksIdeal.τ).loc Cert.PicksIdeal.main_arg1)) →
    ∃ (v0 : (c : Dev Cert.PicksIdeal.nD) → Buf (Elt Ideal) ((c.tc : Thread Cert.PicksIdeal.nD Cert.PicksIdeal.τ).loc Cert.PicksIdeal.main_v0)),
      θ_run (Cert.PicksIdeal.defs (F := Ideal)) (onTc (τ := Cert.PicksIdeal.τ) (Cert.PicksIdeal.main (F := Ideal))) ⟨m, fun _ => 0, g⟩ (fun r => ∀ c : Dev Cert.PicksIdeal.nD,
          r.2.mem ((c.tc : Thread Cert.PicksIdeal.nD Cert.PicksIdeal.τ).loc Cert.PicksIdeal.main_v0) = v0 c
          ∧ r.2.mem ((c.tc : Thread Cert.PicksIdeal.nD Cert.PicksIdeal.τ).loc Cert.PicksIdeal.main_arg0) = m ((c.tc : Thread Cert.PicksIdeal.nD Cert.PicksIdeal.τ).loc Cert.PicksIdeal.main_arg0)
          ∧ r.2.mem ((c.tc : Thread Cert.PicksIdeal.nD Cert.PicksIdeal.τ).loc Cert.PicksIdeal.main_arg1) = m ((c.tc : Thread Cert.PicksIdeal.nD Cert.PicksIdeal.τ).loc Cert.PicksIdeal.main_arg1))
      ∧ θ_run (Cert.PicksRefIdeal.defs (F := Ideal)) (onTc (τ := Cert.PicksRefIdeal.τ) (Cert.PicksRefIdeal.main (F := Ideal))) ⟨m', fun _ => 0, g'⟩ (fun r => ∀ c : Dev Cert.PicksRefIdeal.nD,
          r.2.mem ((c.tc : Thread Cert.PicksRefIdeal.nD Cert.PicksRefIdeal.τ).loc Cert.PicksRefIdeal.main_v6) = v0 c
          ∧ r.2.mem ((c.tc : Thread Cert.PicksRefIdeal.nD Cert.PicksRefIdeal.τ).loc Cert.PicksRefIdeal.main_arg0) = m' ((c.tc : Thread Cert.PicksRefIdeal.nD Cert.PicksRefIdeal.τ).loc Cert.PicksRefIdeal.main_arg0)
          ∧ r.2.mem ((c.tc : Thread Cert.PicksRefIdeal.nD Cert.PicksRefIdeal.τ).loc Cert.PicksRefIdeal.main_arg1) = m' ((c.tc : Thread Cert.PicksRefIdeal.nD Cert.PicksRefIdeal.τ).loc Cert.PicksRefIdeal.main_arg1))

def preserves_Returns_ReturnsIdeal : Prop :=
  True

def algebraic_ReturnsIdeal_ReturnsRefIdeal [hReturnsIdeal : Cert.ReturnsIdeal.Facts] [hReturnsRefIdeal : Cert.ReturnsRefIdeal.Facts] [hPre_returns_exist : Cert.Pre_returns_exist.Facts] : Prop :=
  ∀ (m : (ℓ : Loc Cert.ReturnsIdeal.nD Cert.ReturnsIdeal.τ Cert.ReturnsIdeal.sig) → Buf (Elt Ideal) ℓ) (g : Dev Cert.ReturnsIdeal.nD → PrngReg)
    (m' : (ℓ : Loc Cert.ReturnsRefIdeal.nD Cert.ReturnsRefIdeal.τ Cert.ReturnsRefIdeal.sig) → Buf (Elt Ideal) ℓ) (g' : Dev Cert.ReturnsRefIdeal.nD → PrngReg), Pre_ReturnsIdeal m →
    (∀ c : Dev Cert.ReturnsIdeal.nD,
      m' ((c.tc : Thread Cert.ReturnsRefIdeal.nD Cert.ReturnsRefIdeal.τ).loc Cert.ReturnsRefIdeal.main_arg0) = m ((c.tc : Thread Cert.ReturnsIdeal.nD Cert.ReturnsIdeal.τ).loc Cert.ReturnsIdeal.main_arg0)
      ∧ m' ((c.tc : Thread Cert.ReturnsRefIdeal.nD Cert.ReturnsRefIdeal.τ).loc Cert.ReturnsRefIdeal.main_arg1) = m ((c.tc : Thread Cert.ReturnsIdeal.nD Cert.ReturnsIdeal.τ).loc Cert.ReturnsIdeal.main_arg1)) →
    ∃ (v0 : (c : Dev Cert.ReturnsIdeal.nD) → Buf (Elt Ideal) ((c.tc : Thread Cert.ReturnsIdeal.nD Cert.ReturnsIdeal.τ).loc Cert.ReturnsIdeal.main_v0)),
      θ_run (Cert.ReturnsIdeal.defs (F := Ideal)) (onTc (τ := Cert.ReturnsIdeal.τ) (Cert.ReturnsIdeal.main (F := Ideal))) ⟨m, fun _ => 0, g⟩ (fun r => ∀ c : Dev Cert.ReturnsIdeal.nD,
          r.2.mem ((c.tc : Thread Cert.ReturnsIdeal.nD Cert.ReturnsIdeal.τ).loc Cert.ReturnsIdeal.main_v0) = v0 c
          ∧ r.2.mem ((c.tc : Thread Cert.ReturnsIdeal.nD Cert.ReturnsIdeal.τ).loc Cert.ReturnsIdeal.main_arg0) = m ((c.tc : Thread Cert.ReturnsIdeal.nD Cert.ReturnsIdeal.τ).loc Cert.ReturnsIdeal.main_arg0)
          ∧ r.2.mem ((c.tc : Thread Cert.ReturnsIdeal.nD Cert.ReturnsIdeal.τ).loc Cert.ReturnsIdeal.main_arg1) = m ((c.tc : Thread Cert.ReturnsIdeal.nD Cert.ReturnsIdeal.τ).loc Cert.ReturnsIdeal.main_arg1))
      ∧ θ_run (Cert.ReturnsRefIdeal.defs (F := Ideal)) (onTc (τ := Cert.ReturnsRefIdeal.τ) (Cert.ReturnsRefIdeal.main (F := Ideal))) ⟨m', fun _ => 0, g'⟩ (fun r => ∀ c : Dev Cert.ReturnsRefIdeal.nD,
          r.2.mem ((c.tc : Thread Cert.ReturnsRefIdeal.nD Cert.ReturnsRefIdeal.τ).loc Cert.ReturnsRefIdeal.main_v6) = v0 c
          ∧ r.2.mem ((c.tc : Thread Cert.ReturnsRefIdeal.nD Cert.ReturnsRefIdeal.τ).loc Cert.ReturnsRefIdeal.main_arg0) = m' ((c.tc : Thread Cert.ReturnsRefIdeal.nD Cert.ReturnsRefIdeal.τ).loc Cert.ReturnsRefIdeal.main_arg0)
          ∧ r.2.mem ((c.tc : Thread Cert.ReturnsRefIdeal.nD Cert.ReturnsRefIdeal.τ).loc Cert.ReturnsRefIdeal.main_arg1) = m' ((c.tc : Thread Cert.ReturnsRefIdeal.nD Cert.ReturnsRefIdeal.τ).loc Cert.ReturnsRefIdeal.main_arg1))

def preserves_Result_ResultIdeal : Prop :=
  True

def algebraic_ResultIdeal_ResultRefIdeal [hResultIdeal : Cert.ResultIdeal.Facts] [hResultRefIdeal : Cert.ResultRefIdeal.Facts] [hPre_routes_exist : Cert.Pre_routes_exist.Facts] : Prop :=
  ∀ (m : (ℓ : Loc Cert.ResultIdeal.nD Cert.ResultIdeal.τ Cert.ResultIdeal.sig) → Buf (Elt Ideal) ℓ) (g : Dev Cert.ResultIdeal.nD → PrngReg)
    (m' : (ℓ : Loc Cert.ResultRefIdeal.nD Cert.ResultRefIdeal.τ Cert.ResultRefIdeal.sig) → Buf (Elt Ideal) ℓ) (g' : Dev Cert.ResultRefIdeal.nD → PrngReg), Pre_ResultIdeal m →
    (∀ c : Dev Cert.ResultIdeal.nD,
      m' ((c.tc : Thread Cert.ResultRefIdeal.nD Cert.ResultRefIdeal.τ).loc Cert.ResultRefIdeal.main_arg0) = m ((c.tc : Thread Cert.ResultIdeal.nD Cert.ResultIdeal.τ).loc Cert.ResultIdeal.main_arg0)
      ∧ m' ((c.tc : Thread Cert.ResultRefIdeal.nD Cert.ResultRefIdeal.τ).loc Cert.ResultRefIdeal.main_arg1) = m ((c.tc : Thread Cert.ResultIdeal.nD Cert.ResultIdeal.τ).loc Cert.ResultIdeal.main_arg1)
      ∧ m' ((c.tc : Thread Cert.ResultRefIdeal.nD Cert.ResultRefIdeal.τ).loc Cert.ResultRefIdeal.main_arg2) = m ((c.tc : Thread Cert.ResultIdeal.nD Cert.ResultIdeal.τ).loc Cert.ResultIdeal.main_arg2)) →
    ∃ (v0 : (c : Dev Cert.ResultIdeal.nD) → Buf (Elt Ideal) ((c.tc : Thread Cert.ResultIdeal.nD Cert.ResultIdeal.τ).loc Cert.ResultIdeal.main_v36)),
      θ_run (Cert.ResultIdeal.defs (F := Ideal)) (onTc (τ := Cert.ResultIdeal.τ) (Cert.ResultIdeal.main (F := Ideal))) ⟨m, fun _ => 0, g⟩ (fun r => ∀ c : Dev Cert.ResultIdeal.nD,
          r.2.mem ((c.tc : Thread Cert.ResultIdeal.nD Cert.ResultIdeal.τ).loc Cert.ResultIdeal.main_v36) = v0 c
          ∧ r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0)
          ∧ r.2.mem ((c.tc : Thread Cert.ResultIdeal.nD Cert.ResultIdeal.τ).loc Cert.ResultIdeal.main_arg1) = m ((c.tc : Thread Cert.ResultIdeal.nD Cert.ResultIdeal.τ).loc Cert.ResultIdeal.main_arg1)
          ∧ r.2.mem ((c.tc : Thread Cert.ResultIdeal.nD Cert.ResultIdeal.τ).loc Cert.ResultIdeal.main_arg2) = m ((c.tc : Thread Cert.ResultIdeal.nD Cert.ResultIdeal.τ).loc Cert.ResultIdeal.main_arg2))
      ∧ θ_run (Cert.ResultRefIdeal.defs (F := Ideal)) (onTc (τ := Cert.ResultRefIdeal.τ) (Cert.ResultRefIdeal.main (F := Ideal))) ⟨m', fun _ => 0, g'⟩ (fun r => ∀ c : Dev Cert.ResultRefIdeal.nD,
          r.2.mem ((c.tc : Thread Cert.ResultRefIdeal.nD Cert.ResultRefIdeal.τ).loc Cert.ResultRefIdeal.main_v35) = v0 c
          ∧ r.2.mem ((c.tc : Thread Cert.ResultRefIdeal.nD Cert.ResultRefIdeal.τ).loc Cert.ResultRefIdeal.main_arg0) = m' ((c.tc : Thread Cert.ResultRefIdeal.nD Cert.ResultRefIdeal.τ).loc Cert.ResultRefIdeal.main_arg0)
          ∧ r.2.mem ((c.tc : Thread Cert.ResultRefIdeal.nD Cert.ResultRefIdeal.τ).loc Cert.ResultRefIdeal.main_arg1) = m' ((c.tc : Thread Cert.ResultRefIdeal.nD Cert.ResultRefIdeal.τ).loc Cert.ResultRefIdeal.main_arg1)
          ∧ r.2.mem ((c.tc : Thread Cert.ResultRefIdeal.nD Cert.ResultRefIdeal.τ).loc Cert.ResultRefIdeal.main_arg2) = m' ((c.tc : Thread Cert.ResultRefIdeal.nD Cert.ResultRefIdeal.τ).loc Cert.ResultRefIdeal.main_arg2))

def Claim : Prop :=
  ∃ (hTable : Cert.Table.Facts) (hTableIdeal : Cert.TableIdeal.Facts) (hTableRefIdeal : Cert.TableRefIdeal.Facts) (hTokens : Cert.Tokens.Facts) (hTokensIdeal : Cert.TokensIdeal.Facts) (hTokensRefIdeal : Cert.TokensRefIdeal.Facts) (hRoutes : Cert.Routes.Facts) (hRoutesIdeal : Cert.RoutesIdeal.Facts) (hRoutesRefIdeal : Cert.RoutesRefIdeal.Facts) (hPicks : Cert.Picks.Facts) (hPicksIdeal : Cert.PicksIdeal.Facts) (hPicksRefIdeal : Cert.PicksRefIdeal.Facts) (hReturns : Cert.Returns.Facts) (hReturnsIdeal : Cert.ReturnsIdeal.Facts) (hReturnsRefIdeal : Cert.ReturnsRefIdeal.Facts) (hResult : Cert.Result.Facts) (hResultIdeal : Cert.ResultIdeal.Facts) (hResultRefIdeal : Cert.ResultRefIdeal.Facts) (hPre_picks_exist : Cert.Pre_picks_exist.Facts) (hPre_returns_exist : Cert.Pre_returns_exist.Facts) (hPre_routes_exist : Cert.Pre_routes_exist.Facts),
    quiescent_Table (hTable := hTable)
    ∧ quiescent_TableIdeal (hTableIdeal := hTableIdeal)
    ∧ quiescent_TableRefIdeal (hTableRefIdeal := hTableRefIdeal)
    ∧ quiescent_Tokens (hTokens := hTokens)
    ∧ quiescent_TokensIdeal (hTokensIdeal := hTokensIdeal)
    ∧ quiescent_TokensRefIdeal (hTokensRefIdeal := hTokensRefIdeal)
    ∧ quiescent_Routes (hRoutes := hRoutes)
    ∧ quiescent_RoutesIdeal (hRoutesIdeal := hRoutesIdeal)
    ∧ quiescent_RoutesRefIdeal (hRoutesRefIdeal := hRoutesRefIdeal)
    ∧ quiescent_Picks (hPicks := hPicks) (hPre_picks_exist := hPre_picks_exist)
    ∧ quiescent_PicksIdeal (hPicksIdeal := hPicksIdeal) (hPre_picks_exist := hPre_picks_exist)
    ∧ quiescent_PicksRefIdeal (hPicksRefIdeal := hPicksRefIdeal)
    ∧ quiescent_PicksRefIdeal_pre_picks_exist (hPicksRefIdeal := hPicksRefIdeal) (hPre_picks_exist := hPre_picks_exist)
    ∧ quiescent_Returns (hReturns := hReturns) (hPre_returns_exist := hPre_returns_exist)
    ∧ quiescent_ReturnsIdeal (hReturnsIdeal := hReturnsIdeal) (hPre_returns_exist := hPre_returns_exist)
    ∧ quiescent_ReturnsRefIdeal (hReturnsRefIdeal := hReturnsRefIdeal)
    ∧ quiescent_ReturnsRefIdeal_pre_returns_exist (hReturnsRefIdeal := hReturnsRefIdeal) (hPre_returns_exist := hPre_returns_exist)
    ∧ quiescent_Result (hResult := hResult) (hPre_routes_exist := hPre_routes_exist)
    ∧ quiescent_ResultIdeal (hResultIdeal := hResultIdeal) (hPre_routes_exist := hPre_routes_exist)
    ∧ quiescent_ResultRefIdeal (hResultRefIdeal := hResultRefIdeal)
    ∧ quiescent_ResultRefIdeal_pre_routes_exist (hResultRefIdeal := hResultRefIdeal) (hPre_routes_exist := hPre_routes_exist)
    ∧ preserves_Table_TableIdeal
    ∧ algebraic_TableIdeal_TableRefIdeal (hTableIdeal := hTableIdeal) (hTableRefIdeal := hTableRefIdeal)
    ∧ preserves_Tokens_TokensIdeal
    ∧ algebraic_TokensIdeal_TokensRefIdeal (hTokensIdeal := hTokensIdeal) (hTokensRefIdeal := hTokensRefIdeal)
    ∧ preserves_Routes_RoutesIdeal
    ∧ algebraic_RoutesIdeal_RoutesRefIdeal (hRoutesIdeal := hRoutesIdeal) (hRoutesRefIdeal := hRoutesRefIdeal)
    ∧ preserves_Picks_PicksIdeal
    ∧ algebraic_PicksIdeal_PicksRefIdeal (hPicksIdeal := hPicksIdeal) (hPicksRefIdeal := hPicksRefIdeal) (hPre_picks_exist := hPre_picks_exist)
    ∧ preserves_Returns_ReturnsIdeal
    ∧ algebraic_ReturnsIdeal_ReturnsRefIdeal (hReturnsIdeal := hReturnsIdeal) (hReturnsRefIdeal := hReturnsRefIdeal) (hPre_returns_exist := hPre_returns_exist)
    ∧ preserves_Result_ResultIdeal
    ∧ algebraic_ResultIdeal_ResultRefIdeal (hResultIdeal := hResultIdeal) (hResultRefIdeal := hResultRefIdeal) (hPre_routes_exist := hPre_routes_exist)
-- ==== Pre_picks_exist.lean ====
abbrev S16384x4x128 : Shape := ⟨3, ![16384, 4, 128]⟩
abbrev S1664 : Shape := ⟨1, ![1664]⟩
abbrev S_ : Shape := ⟨0, ![]⟩

class Facts : Prop where
  bcast_S_S1664 : S_.BroadcastsInDim S1664 (![] : Fin 0 → Fin S1664.rank)

variable [Facts]

def fn {F : FTy → Type} [FloatOps F] (main_arg0 : FVec F S16384x4x128 .bf16) (main_arg1 : IVec S1664 32) : IVec S1664 1 :=
  let main_c : IVec S_ 32 := constantI S_ 32 0#32
  let main_v0 : IVec S1664 32 := broadcastInDim S1664 ![] bcast_S_S1664 main_c
  let main_v1 : IVec S1664 1 := cmpi .sge main_arg1 main_v0
  let main_c_0 : IVec S_ 32 := constantI S_ 32 16384#32
  let main_v2 : IVec S1664 32 := broadcastInDim S1664 ![] bcast_S_S1664 main_c_0
  let main_v3 : IVec S1664 1 := cmpi .slt main_arg1 main_v2
  let main_v4 : IVec S1664 1 := andi main_v1 main_v3
  main_v4
-- ==== Pre_returns_exist.lean ====
abbrev S13312x8x128 : Shape := ⟨3, ![13312, 8, 128]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S13312x8x128 .bf16) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 13312#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Pre_routes_exist.lean ====
abbrev S13312x1024 : Shape := ⟨2, ![13312, 1024]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S13312x1024 .bf16) (main_arg1 : IVec S16384 32) (main_arg2 : IVec S_ 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 64#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Table.lean ====
abbrev S8x208x512 : Shape := ⟨3, ![8, 208, 512]⟩
abbrev S8x512x1024 : Shape := ⟨3, ![8, 512, 1024]⟩
abbrev S13312x1024 : Shape := ⟨2, ![13312, 1024]⟩
abbrev S4 : Shape := ⟨1, ![4]⟩
abbrev S3 : Shape := ⟨1, ![3]⟩
abbrev S_ : Shape := ⟨0, ![]⟩
abbrev S1x208x512 : Shape := ⟨3, ![1, 208, 512]⟩
abbrev S208x512 : Shape := ⟨2, ![208, 512]⟩
abbrev S1x512x1024 : Shape := ⟨3, ![1, 512, 1024]⟩
abbrev S512x1024 : Shape := ⟨2, ![512, 1024]⟩
abbrev S208x1024 : Shape := ⟨2, ![208, 1024]⟩
abbrev S1 : Shape := ⟨1, ![1]⟩
abbrev S1664x1024 : Shape := ⟨2, ![1664, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x208x512, .bf16⟩
  | .hbm, ⟨1, _⟩ => ⟨S8x512x1024, .bf16⟩
  | .hbm, ⟨2, _⟩ => ⟨S13312x1024, .bf16⟩
  | .local _ .vmem, ⟨0, _⟩ => ⟨S8x208x512, .bf16⟩
  | .local _ .vmem, ⟨1, _⟩ => ⟨S8x512x1024, .bf16⟩
  | .local _ .vmem, ⟨2, _⟩ => ⟨S13312x1024, .bf16⟩
  | _, _ => ⟨S8x208x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier2 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_15 : BitVec 32 := 8#32
  let v18 : BitVec 32 := Scalar.muli v2 c8_i32_15
  let v19 : BitVec 32 := Scalar.addi v18 c0_i32_16
  let c208_i32 : BitVec 32 := 208#32
  let v20 : BitVec 32 := Scalar.muli v19 c208_i32
  let v22 : Index := Scalar.indexCast v20
  let c0_17 : Index := 0#32
  ![v22.toNat, 0]
def k0_off2 (d0 : Dev nD) (c0_i32_83 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.subi v2 c0_i32_83
  let c8_i32_84 : BitVec 32 := 8#32
  let v102 : BitVec 32 := Scalar.addi v101 c8_i32_84
  let c8_i32_85 : BitVec 32 := 8#32
  let v103 : BitVec 32 := Scalar.remsi v102 c8_i32_85
  let c1664_i32_86 : BitVec 32 := 1664#32
  let v105 : BitVec 32 := Scalar.muli v103 c1664_i32_86
  let c0_i32_91 : BitVec 32 := 0#32
  ![v105.toNat, 0]
def k0_dev3 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_89 : BitVec 32 := 1#32
  let v106 : BitVec 32 := Scalar.muli v7 c1_i32_89
  let v107 : BitVec 32 := Scalar.addi c0_i32_90 v106
  v107.toNat
def k0_off3 (d0 : Dev nD) (c0_i32_93 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : BitVec 32 := Scalar.addi v2 c0_i32_93
  let c8_i32_94 : BitVec 32 := 8#32
  let v115 : BitVec 32 := Scalar.remsi v114 c8_i32_94
  let c1664_i32_96 : BitVec 32 := 1664#32
  let v117 : BitVec 32 := Scalar.muli v115 c1664_i32_96
  let c0_i32_101 : BitVec 32 := 0#32
  ![v117.toNat, 0]
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_99 : BitVec 32 := 1#32
  let v118 : BitVec 32 := Scalar.muli v5 c1_i32_99
  let v119 : BitVec 32 := Scalar.addi c0_i32_100 v118
  v119.toNat
def k0_dev5 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_132 : BitVec 32 := 1#32
  let v151 : BitVec 32 := Scalar.muli v7 c1_i32_132
  let v152 : BitVec 32 := Scalar.addi c0_i32_133 v151
  v152.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_142 : BitVec 32 := 1#32
  let v163 : BitVec 32 := Scalar.muli v5 c1_i32_142
  let v164 : BitVec 32 := Scalar.addi c0_i32_143 v163
  v164.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_175 : BitVec 32 := 1#32
  let v196 : BitVec 32 := Scalar.muli v7 c1_i32_175
  let v197 : BitVec 32 := Scalar.addi c0_i32_176 v196
  v197.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_185 : BitVec 32 := 1#32
  let v208 : BitVec 32 := Scalar.muli v5 c1_i32_185
  let v209 : BitVec 32 := Scalar.addi c0_i32_186 v208
  v209.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_218 : BitVec 32 := 1#32
  let v241 : BitVec 32 := Scalar.muli v7 c1_i32_218
  let v242 : BitVec 32 := Scalar.addi c0_i32_219 v241
  v242.toNat
abbrev stage0_0 : Fin 1 → Memref sig .tc .vmem S8x208x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13312x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== TableRefIdeal.lean ====
abbrev S64x208x512 : Shape := ⟨3, ![64, 208, 512]⟩
abbrev S64x512x1024 : Shape := ⟨3, ![64, 512, 1024]⟩
abbrev S64x208x1024 : Shape := ⟨3, ![64, 208, 1024]⟩
abbrev S13312x1024 : Shape := ⟨2, ![13312, 1024]⟩

abbrev nBuf : Space → Nat
  | .hbm => 7
  | .vmem => 0
  | .smem => 0
  | _ => 0

abbrev bufTy : (tb : Table) → Fin (tcTables nBuf tb) → BufTy
  | .hbm, ⟨0, _⟩ => ⟨S64x208x512, .bf16⟩
  | .hbm, ⟨1, _⟩ => ⟨S64x512x1024, .bf16⟩
  | .hbm, ⟨2, _⟩ => ⟨S64x208x512, .f32⟩
  | .hbm, ⟨3, _⟩ => ⟨S64x512x1024, .f32⟩
  | .hbm, ⟨4, _⟩ => ⟨S64x208x1024, .f32⟩
  | .hbm, ⟨5, _⟩ => ⟨S64x208x1024, .bf16⟩
  | .hbm, ⟨6, _⟩ => ⟨S13312x1024, .bf16⟩
  | _, _ => ⟨S64x208x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Tokens.lean ====
abbrev S2048x512 : Shape := ⟨2, ![2048, 512]⟩
abbrev S16384x512 : Shape := ⟨2, ![16384, 512]⟩
abbrev S4 : Shape := ⟨1, ![4]⟩
abbrev S3 : Shape := ⟨1, ![3]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S16384x512, .bf16⟩
  | .local _ .vmem, ⟨0, _⟩ => ⟨S2048x512, .bf16⟩
  | .local _ .vmem, ⟨1, _⟩ => ⟨S16384x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier1 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32 : BitVec 32 := 2048#32
  let v15 : BitVec 32 := Scalar.muli v2 c2048_i32
  let v16 : Index := Scalar.indexCast v15
  let c0_11 : Index := 0#32
  ![v16.toNat, 0]
def k0_off2 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.subi v2 c0_i32_12
  let c8_i32_13 : BitVec 32 := 8#32
  let v19 : BitVec 32 := Scalar.addi v18 c8_i32_13
  let c8_i32_14 : BitVec 32 := 8#32
  let v20 : BitVec 32 := Scalar.remsi v19 c8_i32_14
  let c2048_i32_16 : BitVec 32 := 2048#32
  let v22 : BitVec 32 := Scalar.muli v20 c2048_i32_16
  let c0_i32_21 : BitVec 32 := 0#32
  ![v22.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_19 : BitVec 32 := 1#32
  let v23 : BitVec 32 := Scalar.muli v7 c1_i32_19
  let v24 : BitVec 32 := Scalar.addi c0_i32_20 v23
  v24.toNat
def k0_off3 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.addi v2 c0_i32_23
  let c8_i32_24 : BitVec 32 := 8#32
  let v32 : BitVec 32 := Scalar.remsi v31 c8_i32_24
  let c2048_i32_26 : BitVec 32 := 2048#32
  let v34 : BitVec 32 := Scalar.muli v32 c2048_i32_26
  let c0_i32_31 : BitVec 32 := 0#32
  ![v34.toNat, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_29 : BitVec 32 := 1#32
  let v35 : BitVec 32 := Scalar.muli v5 c1_i32_29
  let v36 : BitVec 32 := Scalar.addi c0_i32_30 v35
  v36.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_62 : BitVec 32 := 1#32
  let v68 : BitVec 32 := Scalar.muli v7 c1_i32_62
  let v69 : BitVec 32 := Scalar.addi c0_i32_63 v68
  v69.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_72 : BitVec 32 := 1#32
  let v80 : BitVec 32 := Scalar.muli v5 c1_i32_72
  let v81 : BitVec 32 := Scalar.addi c0_i32_73 v80
  v81.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_105 : BitVec 32 := 1#32
  let v113 : BitVec 32 := Scalar.muli v7 c1_i32_105
  let v114 : BitVec 32 := Scalar.addi c0_i32_106 v113
  v114.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_115 : BitVec 32 := 1#32
  let v125 : BitVec 32 := Scalar.muli v5 c1_i32_115
  let v126 : BitVec 32 := Scalar.addi c0_i32_116 v125
  v126.toNat
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_147 : BitVec 32 := 1#32
  let v158 : BitVec 32 := Scalar.muli v7 c1_i32_147
  let v159 : BitVec 32 := Scalar.addi c0_i32_148 v158
  v159.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TokensRefIdeal.lean ====
abbrev S16384x512 : Shape := ⟨2, ![16384, 512]⟩

abbrev nBuf : Space → Nat
  | .hbm => 1
  | .vmem => 0
  | .smem => 0
  | _ => 0

abbrev bufTy : (tb : Table) → Fin (tcTables nBuf tb) → BufTy
  | .hbm, ⟨0, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Routes.lean ====
abbrev S16x128 : Shape := ⟨2, ![16, 128]⟩
abbrev S128x128 : Shape := ⟨2, ![128, 128]⟩
abbrev S4 : Shape := ⟨1, ![4]⟩
abbrev S3 : Shape := ⟨1, ![3]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S16x128, .i32⟩
  | .hbm, ⟨1, _⟩ => ⟨S128x128, .i32⟩
  | .local _ .vmem, ⟨0, _⟩ => ⟨S16x128, .i32⟩
  | .local _ .vmem, ⟨1, _⟩ => ⟨S128x128, .i32⟩
  | _, _ => ⟨S16x128, .i32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v15 : BitVec 32 := Scalar.muli v2 c16_i32
  let v16 : Index := Scalar.indexCast v15
  let c0_11 : Index := 0#32
  ![v16.toNat, 0]
def k0_off2 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : BitVec 32 := Scalar.subi v2 c0_i32_12
  let c8_i32_13 : BitVec 32 := 8#32
  let v19 : BitVec 32 := Scalar.addi v18 c8_i32_13
  let c8_i32_14 : BitVec 32 := 8#32
  let v20 : BitVec 32 := Scalar.remsi v19 c8_i32_14
  let c16_i32_16 : BitVec 32 := 16#32
  let v22 : BitVec 32 := Scalar.muli v20 c16_i32_16
  let c0_i32_21 : BitVec 32 := 0#32
  ![v22.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_19 : BitVec 32 := 1#32
  let v23 : BitVec 32 := Scalar.muli v7 c1_i32_19
  let v24 : BitVec 32 := Scalar.addi c0_i32_20 v23
  v24.toNat
def k0_off3 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.addi v2 c0_i32_23
  let c8_i32_24 : BitVec 32 := 8#32
  let v32 : BitVec 32 := Scalar.remsi v31 c8_i32_24
  let c16_i32_26 : BitVec 32 := 16#32
  let v34 : BitVec 32 := Scalar.muli v32 c16_i32_26
  let c0_i32_31 : BitVec 32 := 0#32
  ![v34.toNat, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_29 : BitVec 32 := 1#32
  let v35 : BitVec 32 := Scalar.muli v5 c1_i32_29
  let v36 : BitVec 32 := Scalar.addi c0_i32_30 v35
  v36.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_62 : BitVec 32 := 1#32
  let v68 : BitVec 32 := Scalar.muli v7 c1_i32_62
  let v69 : BitVec 32 := Scalar.addi c0_i32_63 v68
  v69.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_72 : BitVec 32 := 1#32
  let v80 : BitVec 32 := Scalar.muli v5 c1_i32_72
  let v81 : BitVec 32 := Scalar.addi c0_i32_73 v80
  v81.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_105 : BitVec 32 := 1#32
  let v113 : BitVec 32 := Scalar.muli v7 c1_i32_105
  let v114 : BitVec 32 := Scalar.addi c0_i32_106 v113
  v114.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_115 : BitVec 32 := 1#32
  let v125 : BitVec 32 := Scalar.muli v5 c1_i32_115
  let v126 : BitVec 32 := Scalar.addi c0_i32_116 v125
  v126.toNat
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_147 : BitVec 32 := 1#32
  let v158 : BitVec 32 := Scalar.muli v7 c1_i32_147
  let v159 : BitVec 32 := Scalar.addi c0_i32_148 v158
  v159.toNat
abbrev stage0_0 : Fin 1 → Memref sig .tc .vmem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RoutesRefIdeal.lean ====
abbrev S128x128 : Shape := ⟨2, ![128, 128]⟩

abbrev nBuf : Space → Nat
  | .hbm => 1
  | .vmem => 0
  | .smem => 0
  | _ => 0

abbrev bufTy : (tb : Table) → Fin (tcTables nBuf tb) → BufTy
  | .hbm, ⟨0, _⟩ => ⟨S128x128, .i32⟩
  | _, _ => ⟨S128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Picks.lean ====
abbrev S16384x4x128 : Shape := ⟨3, ![16384, 4, 128]⟩
abbrev S1664 : Shape := ⟨1, ![1664]⟩
abbrev S1664x4x128 : Shape := ⟨3, ![1664, 4, 128]⟩
abbrev S64 : Shape := ⟨1, ![64]⟩
abbrev S1 : Shape := ⟨1, ![1]⟩
abbrev S_ : Shape := ⟨0, ![]⟩
abbrev S1x4x128 : Shape := ⟨3, ![1, 4, 128]⟩
abbrev S4x128 : Shape := ⟨2, ![4, 128]⟩

abbrev nBuf : Space → Nat
  | .hbm => 3
  | .vmem => 1
  | .smem => 1
  | _ => 0

abbrev bufTy : (tb : Table) → Fin (tcTables nBuf tb) → BufTy
  | .hbm, ⟨0, _⟩ => ⟨S16384x4x128, .bf16⟩
  | .hbm, ⟨1, _⟩ => ⟨S1664, .i32⟩
  | .hbm, ⟨2, _⟩ => ⟨S1664x4x128, .bf16⟩
  | .local _ .vmem, ⟨0, _⟩ => ⟨S1664x4x128, .bf16⟩
  | .local _ .smem, ⟨0, _⟩ => ⟨S1664, .i32⟩
  | _, _ => ⟨S16384x4x128, .bf16⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c26_i32 : BitVec 32 := 26#32
  let v0 : BitVec 32 := Scalar.addi c0_i32 c26_i32
  let c1_i32 : BitVec 32 := 1#32
  ⟨c0_i32, v0, c1_i32⟩
def k0_cond1 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_261 : BitVec 32 := 0#32
  let v451 : BitVec 1 := Scalar.cmpi .sgt arg4 c0_i32_261
  let v452 : BitVec 32 := Scalar.extui v451
  let c0_i32_262 : BitVec 32 := 0#32
  let v453 : BitVec 1 := Scalar.cmpi .ne v452 c0_i32_262
  v453

def k0_off1 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let v1282 : Index := Scalar.indexCast v1281
  ![v1282.toNat]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let c0_i32_837 : BitVec 32 := 0#32
  let c0_i32_838 : BitVec 32 := 0#32
  ![v1281.toNat, 0, 0]
def k0_off3 (v1283 : BitVec 32) : Fin 3 → Nat :=
  let c0_i32_839 : BitVec 32 := 0#32
  let c0_i32_840 : BitVec 32 := 0#32
  ![v1283.toNat, 0, 0]

def k0_chk1 (k0_t1 : Fin k0_t1_loop.trips) (v1283 : BitVec 32) : Prop :=
  (∀ (k0_h1 : k0_cond1 k0_t1 = 1#1), ∀ a, (k0_off3 v1283) a + S1x4x128.size a ≤ S16384x4x128.size a) ∧
  (∀ (k0_h1 : k0_cond1 k0_t1 = 1#1), ∀ (hinb : ∀ a, (k0_off3 v1283) a + S1x4x128.size a ≤ S16384x4x128.size a), (Rect.unit (s := S16384x4x128) (k0_off3 v1283) S1x4x128.size hinb).WholeWords (EltTy.packing .bf16))
theorem k0_off3_inb : ∀ (k0_t1 : Fin k0_t1_loop.trips) (v1283 : BitVec 32) (k0_hw1 : k0_chk1 k0_t1 v1283), ∀ (k0_h1 : k0_cond1 k0_t1 = 1#1), ∀ a, (k0_off3 v1283) a + S1x4x128.size a ≤ S16384x4x128.size a := fun k0_t1 v1283 k0_hw1 k0_h1 => k0_hw1.1 k0_h1
theorem k0_off3_wordsbf16 : ∀ (k0_t1 : Fin k0_t1_loop.trips) (v1283 : BitVec 32) (k0_hw1 : k0_chk1 k0_t1 v1283), ∀ (k0_h1 : k0_cond1 k0_t1 = 1#1), (Rect.unit (s := S16384x4x128) (k0_off3 v1283) S1x4x128.size (k0_off3_inb k0_t1 v1283 k0_hw1 k0_h1)).WholeWords (EltTy.packing .bf16) := fun k0_t1 v1283 k0_hw1 k0_h1 => k0_hw1.2 k0_h1 (k0_off3_inb k0_t1 v1283 k0_hw1 k0_h1)

def k0_off4 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let v454 : Index := Scalar.indexCast v450
  ![v454.toNat]
def k0_off5 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c0_i32_264 : BitVec 32 := 0#32
  let c0_i32_265 : BitVec 32 := 0#32
  ![v450.toNat, 0, 0]
def k0_off6 (v455 : BitVec 32) : Fin 3 → Nat :=
  let c0_i32_266 : BitVec 32 := 0#32
  let c0_i32_267 : BitVec 32 := 0#32
  ![v455.toNat, 0, 0]

def k0_chk2 (v455 : BitVec 32) : Prop :=
  (∀ a, (k0_off6 v455) a + S1x4x128.size a ≤ S16384x4x128.size a) ∧
  (∀ (hinb : ∀ a, (k0_off6 v455) a + S1x4x128.size a ≤ S16384x4x128.size a), (Rect.unit (s := S16384x4x128) (k0_off6 v455) S1x4x128.size hinb).WholeWords (EltTy.packing .bf16))
theorem k0_off6_inb : ∀ (v455 : BitVec 32) (k0_hw2 : k0_chk2 v455), ∀ a, (k0_off6 v455) a + S1x4x128.size a ≤ S16384x4x128.size a := fun v455 k0_hw2 => k0_hw2.1
theorem k0_off6_wordsbf16 : ∀ (v455 : BitVec 32) (k0_hw2 : k0_chk2 v455), (Rect.unit (s := S16384x4x128) (k0_off6 v455) S1x4x128.size (k0_off6_inb v455 k0_hw2)).WholeWords (EltTy.packing .bf16) := fun v455 k0_hw2 => k0_hw2.2 (k0_off6_inb v455 k0_hw2)

def k0_cond2 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_270 : BitVec 32 := 0#32
  let v464 : BitVec 1 := Scalar.cmpi .sgt arg4 c0_i32_270
  let v465 : BitVec 32 := Scalar.extui v464
  let c0_i32_271 : BitVec 32 := 0#32
  let v466 : BitVec 1 := Scalar.cmpi .ne v465 c0_i32_271
  v466

def k0_off7 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let v1282 : Index := Scalar.indexCast v1281
  ![v1282.toNat]
def k0_off8 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let c0_i32_837 : BitVec 32 := 0#32
  let c0_i32_838 : BitVec 32 := 0#32
  ![v1281.toNat, 0, 0]
def k0_off9 (v1283 : BitVec 32) : Fin 3 → Nat :=
  let c0_i32_839 : BitVec 32 := 0#32
  let c0_i32_840 : BitVec 32 := 0#32
  ![v1283.toNat, 0, 0]

def k0_chk3 (k0_t1 : Fin k0_t1_loop.trips) (v1283 : BitVec 32) : Prop :=
  (∀ (k0_h2 : k0_cond2 k0_t1 = 1#1), ∀ a, (k0_off9 v1283) a + S1x4x128.size a ≤ S16384x4x128.size a) ∧
  (∀ (k0_h2 : k0_cond2 k0_t1 = 1#1), ∀ (hinb : ∀ a, (k0_off9 v1283) a + S1x4x128.size a ≤ S16384x4x128.size a), (Rect.unit (s := S16384x4x128) (k0_off9 v1283) S1x4x128.size hinb).WholeWords (EltTy.packing .bf16))
theorem k0_off9_inb : ∀ (k0_t1 : Fin k0_t1_loop.trips) (v1283 : BitVec 32) (k0_hw3 : k0_chk3 k0_t1 v1283), ∀ (k0_h2 : k0_cond2 k0_t1 = 1#1), ∀ a, (k0_off9 v1283) a + S1x4x128.size a ≤ S16384x4x128.size a := fun k0_t1 v1283 k0_hw3 k0_h2 => k0_hw3.1 k0_h2
theorem k0_off9_wordsbf16 : ∀ (k0_t1 : Fin k0_t1_loop.trips) (v1283 : BitVec 32) (k0_hw3 : k0_chk3 k0_t1 v1283), ∀ (k0_h2 : k0_cond2 k0_t1 = 1#1), (Rect.unit (s := S16384x4x128) (k0_off9 v1283) S1x4x128.size (k0_off9_inb k0_t1 v1283 k0_hw3 k0_h2)).WholeWords (EltTy.packing .bf16) := fun k0_t1 v1283 k0_hw3 k0_h2 => k0_hw3.2 k0_h2 (k0_off9_inb k0_t1 v1283 k0_hw3 k0_h2)

def k0_off10 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let v467 : Index := Scalar.indexCast v463
  ![v467.toNat]
def k0_off11 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c0_i32_273 : BitVec 32 := 0#32
  let c0_i32_274 : BitVec 32 := 0#32
  ![v463.toNat, 0, 0]
def k0_off12 (v468 : BitVec 32) : Fin 3 → Nat :=
  let c0_i32_275 : BitVec 32 := 0#32
  let c0_i32_276 : BitVec 32 := 0#32
  ![v468.toNat, 0, 0]

def k0_chk4 (v468 : BitVec 32) : Prop :=
  (∀ a, (k0_off12 v468) a + S1x4x128.size a ≤ S16384x4x128.size a) ∧
  (∀ (hinb : ∀ a, (k0_off12 v468) a + S1x4x128.size a ≤ S16384x4x128.size a), (Rect.unit (s := S16384x4x128) (k0_off12 v468) S1x4x128.size hinb).WholeWords (EltTy.packing .bf16))
theorem k0_off12_inb : ∀ (v468 : BitVec 32) (k0_hw4 : k0_chk4 v468), ∀ a, (k0_off12 v468) a + S1x4x128.size a ≤ S16384x4x128.size a := fun v468 k0_hw4 => k0_hw4.1
theorem k0_off12_wordsbf16 : ∀ (v468 : BitVec 32) (k0_hw4 : k0_chk4 v468), (Rect.unit (s := S16384x4x128) (k0_off12 v468) S1x4x128.size (k0_off12_inb v468 k0_hw4)).WholeWords (EltTy.packing .bf16) := fun v468 k0_hw4 => k0_hw4.2 (k0_off12_inb v468 k0_hw4)

def k0_cond3 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_279 : BitVec 32 := 0#32
  let v477 : BitVec 1 := Scalar.cmpi .sgt arg4 c0_i32_279
  let v478 : BitVec 32 := Scalar.extui v477
  let c0_i32_280 : BitVec 32 := 0#32
  let v479 : BitVec 1 := Scalar.cmpi .ne v478 c0_i32_280
  v479

def k0_off13 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let v1282 : Index := Scalar.indexCast v1281
  ![v1282.toNat]
def k0_off14 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let c0_i32_837 : BitVec 32 := 0#32
  let c0_i32_838 : BitVec 32 := 0#32
  ![v1281.toNat, 0, 0]
def k0_off15 (v1283 : BitVec 32) : Fin 3 → Nat :=
  let c0_i32_839 : BitVec 32 := 0#32
  let c0_i32_840 : BitVec 32 := 0#32
  ![v1283.toNat, 0, 0]

def k0_chk5 (k0_t1 : Fin k0_t1_loop.trips) (v1283 : BitVec 32) : Prop :=
  (∀ (k0_h3 : k0_cond3 k0_t1 = 1#1), ∀ a, (k0_off15 v1283) a + S1x4x128.size a ≤ S16384x4x128.size a) ∧
  (∀ (k0_h3 : k0_cond3 k0_t1 = 1#1), ∀ (hinb : ∀ a, (k0_off15 v1283) a + S1x4x128.size a ≤ S16384x4x128.size a), (Rect.unit (s := S16384x4x128) (k0_off15 v1283) S1x4x128.size hinb).WholeWords (EltTy.packing .bf16))
theorem k0_off15_inb : ∀ (k0_t1 : Fin k0_t1_loop.trips) (v1283 : BitVec 32) (k0_hw5 : k0_chk5 k0_t1 v1283), ∀ (k0_h3 : k0_cond3 k0_t1 = 1#1), ∀ a, (k0_off15 v1283) a + S1x4x128.size a ≤ S16384x4x128.size a := fun k0_t1 v1283 k0_hw5 k0_h3 => k0_hw5.1 k0_h3
theorem k0_off15_wordsbf16 : ∀ (k0_t1 : Fin k0_t1_loop.trips) (v1283 : BitVec 32) (k0_hw5 : k0_chk5 k0_t1 v1283), ∀ (k0_h3 : k0_cond3 k0_t1 = 1#1), (Rect.unit (s := S16384x4x128) (k0_off15 v1283) S1x4x128.size (k0_off15_inb k0_t1 v1283 k0_hw5 k0_h3)).WholeWords (EltTy.packing .bf16) := fun k0_t1 v1283 k0_hw5 k0_h3 => k0_hw5.2 k0_h3 (k0_off15_inb k0_t1 v1283 k0_hw5 k0_h3)

def k0_off16 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let v480 : Index := Scalar.indexCast v476
  ![v480.toNat]
def k0_off17 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c0_i32_282 : BitVec 32 := 0#32
  let c0_i32_283 : BitVec 32 := 0#32
  ![v476.toNat, 0, 0]
def k0_off18 (v481 : BitVec 32) : Fin 3 → Nat :=
  let c0_i32_284 : BitVec 32 := 0#32
  let c0_i32_285 : BitVec 32 := 0#32
  ![v481.toNat, 0, 0]

def k0_chk6 (v481 : BitVec 32) : Prop :=
  (∀ a, (k0_off18 v481) a + S1x4x128.size a ≤ S16384x4x128.size a) ∧
  (∀ (hinb : ∀ a, (k0_off18 v481) a + S1x4x128.size a ≤ S16384x4x128.size a), (Rect.unit (s := S16384x4x128) (k0_off18 v481) S1x4x128.size hinb).WholeWords (EltTy.packing .bf16))
theorem k0_off18_inb : ∀ (v481 : BitVec 32) (k0_hw6 : k0_chk6 v481), ∀ a, (k0_off18 v481) a + S1x4x128.size a ≤ S16384x4x128.size a := fun v481 k0_hw6 => k0_hw6.1
theorem k0_off18_wordsbf16 : ∀ (v481 : BitVec 32) (k0_hw6 : k0_chk6 v481), (Rect.unit (s := S16384x4x128) (k0_off18 v481) S1x4x128.size (k0_off18_inb v481 k0_hw6)).WholeWords (EltTy.packing .bf16) := fun v481 k0_hw6 => k0_hw6.2 (k0_off18_inb v481 k0_hw6)

def k0_cond4 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_288 : BitVec 32 := 0#32
  let v490 : BitVec 1 := Scalar.cmpi .sgt arg4 c0_i32_288
  let v491 : BitVec 32 := Scalar.extui v490
  let c0_i32_289 : BitVec 32 := 0#32
  let v492 : BitVec 1 := Scalar.cmpi .ne v491 c0_i32_289
  v492

def k0_off19 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let v1282 : Index := Scalar.indexCast v1281
  ![v1282.toNat]
def k0_off20 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let c0_i32_837 : BitVec 32 := 0#32
  let c0_i32_838 : BitVec 32 := 0#32
  ![v1281.toNat, 0, 0]
def k0_off21 (v1283 : BitVec 32) : Fin 3 → Nat :=
  let c0_i32_839 : BitVec 32 := 0#32
  let c0_i32_840 : BitVec 32 := 0#32
  ![v1283.toNat, 0, 0]

def k0_chk7 (k0_t1 : Fin k0_t1_loop.trips) (v1283 : BitVec 32) : Prop :=
  (∀ (k0_h4 : k0_cond4 k0_t1 = 1#1), ∀ a, (k0_off21 v1283) a + S1x4x128.size a ≤ S16384x4x128.size a) ∧
  (∀ (k0_h4 : k0_cond4 k0_t1 = 1#1), ∀ (hinb : ∀ a, (k0_off21 v1283) a + S1x4x128.size a ≤ S16384x4x128.size a), (Rect.unit (s := S16384x4x128) (k0_off21 v1283) S1x4x128.size hinb).WholeWords (EltTy.packing .bf16))
theorem k0_off21_inb : ∀ (k0_t1 : Fin k0_t1_loop.trips) (v1283 : BitVec 32) (k0_hw7 : k0_chk7 k0_t1 v1283), ∀ (k0_h4 : k0_cond4 k0_t1 = 1#1), ∀ a, (k0_off21 v1283) a + S1x4x128.size a ≤ S16384x4x128.size a := fun k0_t1 v1283 k0_hw7 k0_h4 => k0_hw7.1 k0_h4
theorem k0_off21_wordsbf16 : ∀ (k0_t1 : Fin k0_t1_loop.trips) (v1283 : BitVec 32) (k0_hw7 : k0_chk7 k0_t1 v1283), ∀ (k0_h4 : k0_cond4 k0_t1 = 1#1), (Rect.unit (s := S16384x4x128) (k0_off21 v1283) S1x4x128.size (k0_off21_inb k0_t1 v1283 k0_hw7 k0_h4)).WholeWords (EltTy.packing .bf16) := fun k0_t1 v1283 k0_hw7 k0_h4 => k0_hw7.2 k0_h4 (k0_off21_inb k0_t1 v1283 k0_hw7 k0_h4)

def k0_off22 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let v493 : Index := Scalar.indexCast v489
  ![v493.toNat]
def k0_off23 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c0_i32_291 : BitVec 32 := 0#32
  let c0_i32_292 : BitVec 32 := 0#32
  ![v489.toNat, 0, 0]
def k0_off24 (v494 : BitVec 32) : Fin 3 → Nat :=
  let c0_i32_293 : BitVec 32 := 0#32
  let c0_i32_294 : BitVec 32 := 0#32
  ![v494.toNat, 0, 0]

def k0_chk8 (v494 : BitVec 32) : Prop :=
  (∀ a, (k0_off24 v494) a + S1x4x128.size a ≤ S16384x4x128.size a) ∧
  (∀ (hinb : ∀ a, (k0_off24 v494) a + S1x4x128.size a ≤ S16384x4x128.size a), (Rect.unit (s := S16384x4x128) (k0_off24 v494) S1x4x128.size hinb).WholeWords (EltTy.packing .bf16))
theorem k0_off24_inb : ∀ (v494 : BitVec 32) (k0_hw8 : k0_chk8 v494), ∀ a, (k0_off24 v494) a + S1x4x128.size a ≤ S16384x4x128.size a := fun v494 k0_hw8 => k0_hw8.1
theorem k0_off24_wordsbf16 : ∀ (v494 : BitVec 32) (k0_hw8 : k0_chk8 v494), (Rect.unit (s := S16384x4x128) (k0_off24 v494) S1x4x128.size (k0_off24_inb v494 k0_hw8)).WholeWords (EltTy.packing .bf16) := fun v494 k0_hw8 => k0_hw8.2 (k0_off24_inb v494 k0_hw8)

def k0_cond5 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_297 : BitVec 32 := 0#32
  let v503 : BitVec 1 := Scalar.cmpi .sgt arg4 c0_i32_297
  let v504 : BitVec 32 := Scalar.extui v503
  let c0_i32_298 : BitVec 32 := 0#32
  let v505 : BitVec 1 := Scalar.cmpi .ne v504 c0_i32_298
  v505

def k0_off25 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let v1282 : Index := Scalar.indexCast v1281
  ![v1282.toNat]
def k0_off26 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let c0_i32_837 : BitVec 32 := 0#32
  let c0_i32_838 : BitVec 32 := 0#32
  ![v1281.toNat, 0, 0]
def k0_off27 (v1283 : BitVec 32) : Fin 3 → Nat :=
  let c0_i32_839 : BitVec 32 := 0#32
  let c0_i32_840 : BitVec 32 := 0#32
  ![v1283.toNat, 0, 0]

def k0_chk9 (k0_t1 : Fin k0_t1_loop.trips) (v1283 : BitVec 32) : Prop :=
  (∀ (k0_h5 : k0_cond5 k0_t1 = 1#1), ∀ a, (k0_off27 v1283) a + S1x4x128.size a ≤ S16384x4x128.size a) ∧
  (∀ (k0_h5 : k0_cond5 k0_t1 = 1#1), ∀ (hinb : ∀ a, (k0_off27 v1283) a + S1x4x128.size a ≤ S16384x4x128.size a), (Rect.unit (s := S16384x4x128) (k0_off27 v1283) S1x4x128.size hinb).WholeWords (EltTy.packing .bf16))
theorem k0_off27_inb : ∀ (k0_t1 : Fin k0_t1_loop.trips) (v1283 : BitVec 32) (k0_hw9 : k0_chk9 k0_t1 v1283), ∀ (k0_h5 : k0_cond5 k0_t1 = 1#1), ∀ a, (k0_off27 v1283) a + S1x4x128.size a ≤ S16384x4x128.size a := fun k0_t1 v1283 k0_hw9 k0_h5 => k0_hw9.1 k0_h5
theorem k0_off27_wordsbf16 : ∀ (k0_t1 : Fin k0_t1_loop.trips) (v1283 : BitVec 32) (k0_hw9 : k0_chk9 k0_t1 v1283), ∀ (k0_h5 : k0_cond5 k0_t1 = 1#1), (Rect.unit (s := S16384x4x128) (k0_off27 v1283) S1x4x128.size (k0_off27_inb k0_t1 v1283 k0_hw9 k0_h5)).WholeWords (EltTy.packing .bf16) := fun k0_t1 v1283 k0_hw9 k0_h5 => k0_hw9.2 k0_h5 (k0_off27_inb k0_t1 v1283 k0_hw9 k0_h5)

def k0_off28 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let v506 : Index := Scalar.indexCast v502
  ![v506.toNat]
def k0_off29 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c0_i32_300 : BitVec 32 := 0#32
  let c0_i32_301 : BitVec 32 := 0#32
  ![v502.toNat, 0, 0]
def k0_off30 (v507 : BitVec 32) : Fin 3 → Nat :=
  let c0_i32_302 : BitVec 32 := 0#32
  let c0_i32_303 : BitVec 32 := 0#32
  ![v507.toNat, 0, 0]

def k0_chk10 (v507 : BitVec 32) : Prop :=
  (∀ a, (k0_off30 v507) a + S1x4x128.size a ≤ S16384x4x128.size a) ∧
  (∀ (hinb : ∀ a, (k0_off30 v507) a + S1x4x128.size a ≤ S16384x4x128.size a), (Rect.unit (s := S16384x4x128) (k0_off30 v507) S1x4x128.size hinb).WholeWords (EltTy.packing .bf16))
theorem k0_off30_inb : ∀ (v507 : BitVec 32) (k0_hw10 : k0_chk10 v507), ∀ a, (k0_off30 v507) a + S1x4x128.size a ≤ S16384x4x128.size a := fun v507 k0_hw10 => k0_hw10.1
theorem k0_off30_wordsbf16 : ∀ (v507 : BitVec 32) (k0_hw10 : k0_chk10 v507), (Rect.unit (s := S16384x4x128) (k0_off30 v507) S1x4x128.size (k0_off30_inb v507 k0_hw10)).WholeWords (EltTy.packing .bf16) := fun v507 k0_hw10 => k0_hw10.2 (k0_off30_inb v507 k0_hw10)

def k0_cond6 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_306 : BitVec 32 := 0#32
  let v516 : BitVec 1 := Scalar.cmpi .sgt arg4 c0_i32_306
  let v517 : BitVec 32 := Scalar.extui v516
  let c0_i32_307 : BitVec 32 := 0#32
  let v518 : BitVec 1 := Scalar.cmpi .ne v517 c0_i32_307
  v518

def k0_off31 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let v1282 : Index := Scalar.indexCast v1281
  ![v1282.toNat]
def k0_off32 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let c0_i32_837 : BitVec 32 := 0#32
  let c0_i32_838 : BitVec 32 := 0#32
  ![v1281.toNat, 0, 0]
def k0_off33 (v1283 : BitVec 32) : Fin 3 → Nat :=
  let c0_i32_839 : BitVec 32 := 0#32
  let c0_i32_840 : BitVec 32 := 0#32
  ![v1283.toNat, 0, 0]

def k0_chk11 (k0_t1 : Fin k0_t1_loop.trips) (v1283 : BitVec 32) : Prop :=
  (∀ (k0_h6 : k0_cond6 k0_t1 = 1#1), ∀ a, (k0_off33 v1283) a + S1x4x128.size a ≤ S16384x4x128.size a) ∧
  (∀ (k0_h6 : k0_cond6 k0_t1 = 1#1), ∀ (hinb : ∀ a, (k0_off33 v1283) a + S1x4x128.size a ≤ S16384x4x128.size a), (Rect.unit (s := S16384x4x128) (k0_off33 v1283) S1x4x128.size hinb).WholeWords (EltTy.packing .bf16))
theorem k0_off33_inb : ∀ (k0_t1 : Fin k0_t1_loop.trips) (v1283 : BitVec 32) (k0_hw11 : k0_chk11 k0_t1 v1283), ∀ (k0_h6 : k0_cond6 k0_t1 = 1#1), ∀ a, (k0_off33 v1283) a + S1x4x128.size a ≤ S16384x4x128.size a := fun k0_t1 v1283 k0_hw11 k0_h6 => k0_hw11.1 k0_h6
theorem k0_off33_wordsbf16 : ∀ (k0_t1 : Fin k0_t1_loop.trips) (v1283 : BitVec 32) (k0_hw11 : k0_chk11 k0_t1 v1283), ∀ (k0_h6 : k0_cond6 k0_t1 = 1#1), (Rect.unit (s := S16384x4x128) (k0_off33 v1283) S1x4x128.size (k0_off33_inb k0_t1 v1283 k0_hw11 k0_h6)).WholeWords (EltTy.packing .bf16) := fun k0_t1 v1283 k0_hw11 k0_h6 => k0_hw11.2 k0_h6 (k0_off33_inb k0_t1 v1283 k0_hw11 k0_h6)

def k0_off34 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let v519 : Index := Scalar.indexCast v515
  ![v519.toNat]
def k0_off35 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c0_i32_309 : BitVec 32 := 0#32
  let c0_i32_310 : BitVec 32 := 0#32
  ![v515.toNat, 0, 0]
def k0_off36 (v520 : BitVec 32) : Fin 3 → Nat :=
  let c0_i32_311 : BitVec 32 := 0#32
  let c0_i32_312 : BitVec 32 := 0#32
  ![v520.toNat, 0, 0]

def k0_chk12 (v520 : BitVec 32) : Prop :=
  (∀ a, (k0_off36 v520) a + S1x4x128.size a ≤ S16384x4x128.size a) ∧
  (∀ (hinb : ∀ a, (k0_off36 v520) a + S1x4x128.size a ≤ S16384x4x128.size a), (Rect.unit (s := S16384x4x128) (k0_off36 v520) S1x4x128.size hinb).WholeWords (EltTy.packing .bf16))
theorem k0_off36_inb : ∀ (v520 : BitVec 32) (k0_hw12 : k0_chk12 v520), ∀ a, (k0_off36 v520) a + S1x4x128.size a ≤ S16384x4x128.size a := fun v520 k0_hw12 => k0_hw12.1
theorem k0_off36_wordsbf16 : ∀ (v520 : BitVec 32) (k0_hw12 : k0_chk12 v520), (Rect.unit (s := S16384x4x128) (k0_off36 v520) S1x4x128.size (k0_off36_inb v520 k0_hw12)).WholeWords (EltTy.packing .bf16) := fun v520 k0_hw12 => k0_hw12.2 (k0_off36_inb v520 k0_hw12)

def k0_cond7 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_315 : BitVec 32 := 0#32
  let v529 : BitVec 1 := Scalar.cmpi .sgt arg4 c0_i32_315
  let v530 : BitVec 32 := Scalar.extui v529
  let c0_i32_316 : BitVec 32 := 0#32
  let v531 : BitVec 1 := Scalar.cmpi .ne v530 c0_i32_316
  v531

def k0_off37 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let v1282 : Index := Scalar.indexCast v1281
  ![v1282.toNat]
def k0_off38 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let c0_i32_837 : BitVec 32 := 0#32
  let c0_i32_838 : BitVec 32 := 0#32
  ![v1281.toNat, 0, 0]
def k0_off39 (v1283 : BitVec 32) : Fin 3 → Nat :=
  let c0_i32_839 : BitVec 32 := 0#32
  let c0_i32_840 : BitVec 32 := 0#32
  ![v1283.toNat, 0, 0]

def k0_chk13 (k0_t1 : Fin k0_t1_loop.trips) (v1283 : BitVec 32) : Prop :=
  (∀ (k0_h7 : k0_cond7 k0_t1 = 1#1), ∀ a, (k0_off39 v1283) a + S1x4x128.size a ≤ S16384x4x128.size a) ∧
  (∀ (k0_h7 : k0_cond7 k0_t1 = 1#1), ∀ (hinb : ∀ a, (k0_off39 v1283) a + S1x4x128.size a ≤ S16384x4x128.size a), (Rect.unit (s := S16384x4x128) (k0_off39 v1283) S1x4x128.size hinb).WholeWords (EltTy.packing .bf16))
theorem k0_off39_inb : ∀ (k0_t1 : Fin k0_t1_loop.trips) (v1283 : BitVec 32) (k0_hw13 : k0_chk13 k0_t1 v1283), ∀ (k0_h7 : k0_cond7 k0_t1 = 1#1), ∀ a, (k0_off39 v1283) a + S1x4x128.size a ≤ S16384x4x128.size a := fun k0_t1 v1283 k0_hw13 k0_h7 => k0_hw13.1 k0_h7
theorem k0_off39_wordsbf16 : ∀ (k0_t1 : Fin k0_t1_loop.trips) (v1283 : BitVec 32) (k0_hw13 : k0_chk13 k0_t1 v1283), ∀ (k0_h7 : k0_cond7 k0_t1 = 1#1), (Rect.unit (s := S16384x4x128) (k0_off39 v1283) S1x4x128.size (k0_off39_inb k0_t1 v1283 k0_hw13 k0_h7)).WholeWords (EltTy.packing .bf16) := fun k0_t1 v1283 k0_hw13 k0_h7 => k0_hw13.2 k0_h7 (k0_off39_inb k0_t1 v1283 k0_hw13 k0_h7)

def k0_off40 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let v532 : Index := Scalar.indexCast v528
  ![v532.toNat]
def k0_off41 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c0_i32_318 : BitVec 32 := 0#32
  let c0_i32_319 : BitVec 32 := 0#32
  ![v528.toNat, 0, 0]
def k0_off42 (v533 : BitVec 32) : Fin 3 → Nat :=
  let c0_i32_320 : BitVec 32 := 0#32
  let c0_i32_321 : BitVec 32 := 0#32
  ![v533.toNat, 0, 0]

def k0_chk14 (v533 : BitVec 32) : Prop :=
  (∀ a, (k0_off42 v533) a + S1x4x128.size a ≤ S16384x4x128.size a) ∧
  (∀ (hinb : ∀ a, (k0_off42 v533) a + S1x4x128.size a ≤ S16384x4x128.size a), (Rect.unit (s := S16384x4x128) (k0_off42 v533) S1x4x128.size hinb).WholeWords (EltTy.packing .bf16))
theorem k0_off42_inb : ∀ (v533 : BitVec 32) (k0_hw14 : k0_chk14 v533), ∀ a, (k0_off42 v533) a + S1x4x128.size a ≤ S16384x4x128.size a := fun v533 k0_hw14 => k0_hw14.1
theorem k0_off42_wordsbf16 : ∀ (v533 : BitVec 32) (k0_hw14 : k0_chk14 v533), (Rect.unit (s := S16384x4x128) (k0_off42 v533) S1x4x128.size (k0_off42_inb v533 k0_hw14)).WholeWords (EltTy.packing .bf16) := fun v533 k0_hw14 => k0_hw14.2 (k0_off42_inb v533 k0_hw14)

def k0_cond8 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_324 : BitVec 32 := 0#32
  let v542 : BitVec 1 := Scalar.cmpi .sgt arg4 c0_i32_324
  let v543 : BitVec 32 := Scalar.extui v542
  let c0_i32_325 : BitVec 32 := 0#32
  let v544 : BitVec 1 := Scalar.cmpi .ne v543 c0_i32_325
  v544

def k0_off43 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let v1282 : Index := Scalar.indexCast v1281
  ![v1282.toNat]
def k0_off44 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let c0_i32_837 : BitVec 32 := 0#32
  let c0_i32_838 : BitVec 32 := 0#32
  ![v1281.toNat, 0, 0]
def k0_off45 (v1283 : BitVec 32) : Fin 3 → Nat :=
  let c0_i32_839 : BitVec 32 := 0#32
  let c0_i32_840 : BitVec 32 := 0#32
  ![v1283.toNat, 0, 0]

def k0_chk15 (k0_t1 : Fin k0_t1_loop.trips) (v1283 : BitVec 32) : Prop :=
  (∀ (k0_h8 : k0_cond8 k0_t1 = 1#1), ∀ a, (k0_off45 v1283) a + S1x4x128.size a ≤ S16384x4x128.size a) ∧
  (∀ (k0_h8 : k0_cond8 k0_t1 = 1#1), ∀ (hinb : ∀ a, (k0_off45 v1283) a + S1x4x128.size a ≤ S16384x4x128.size a), (Rect.unit (s := S16384x4x128) (k0_off45 v1283) S1x4x128.size hinb).WholeWords (EltTy.packing .bf16))
theorem k0_off45_inb : ∀ (k0_t1 : Fin k0_t1_loop.trips) (v1283 : BitVec 32) (k0_hw15 : k0_chk15 k0_t1 v1283), ∀ (k0_h8 : k0_cond8 k0_t1 = 1#1), ∀ a, (k0_off45 v1283) a + S1x4x128.size a ≤ S16384x4x128.size a := fun k0_t1 v1283 k0_hw15 k0_h8 => k0_hw15.1 k0_h8
theorem k0_off45_wordsbf16 : ∀ (k0_t1 : Fin k0_t1_loop.trips) (v1283 : BitVec 32) (k0_hw15 : k0_chk15 k0_t1 v1283), ∀ (k0_h8 : k0_cond8 k0_t1 = 1#1), (Rect.unit (s := S16384x4x128) (k0_off45 v1283) S1x4x128.size (k0_off45_inb k0_t1 v1283 k0_hw15 k0_h8)).WholeWords (EltTy.packing .bf16) := fun k0_t1 v1283 k0_hw15 k0_h8 => k0_hw15.2 k0_h8 (k0_off45_inb k0_t1 v1283 k0_hw15 k0_h8)

def k0_off46 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let v545 : Index := Scalar.indexCast v541
  ![v545.toNat]
def k0_off47 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c0_i32_327 : BitVec 32 := 0#32
  let c0_i32_328 : BitVec 32 := 0#32
  ![v541.toNat, 0, 0]
def k0_off48 (v546 : BitVec 32) : Fin 3 → Nat :=
  let c0_i32_329 : BitVec 32 := 0#32
  let c0_i32_330 : BitVec 32 := 0#32
  ![v546.toNat, 0, 0]

def k0_chk16 (v546 : BitVec 32) : Prop :=
  (∀ a, (k0_off48 v546) a + S1x4x128.size a ≤ S16384x4x128.size a) ∧
  (∀ (hinb : ∀ a, (k0_off48 v546) a + S1x4x128.size a ≤ S16384x4x128.size a), (Rect.unit (s := S16384x4x128) (k0_off48 v546) S1x4x128.size hinb).WholeWords (EltTy.packing .bf16))
theorem k0_off48_inb : ∀ (v546 : BitVec 32) (k0_hw16 : k0_chk16 v546), ∀ a, (k0_off48 v546) a + S1x4x128.size a ≤ S16384x4x128.size a := fun v546 k0_hw16 => k0_hw16.1
theorem k0_off48_wordsbf16 : ∀ (v546 : BitVec 32) (k0_hw16 : k0_chk16 v546), (Rect.unit (s := S16384x4x128) (k0_off48 v546) S1x4x128.size (k0_off48_inb v546 k0_hw16)).WholeWords (EltTy.packing .bf16) := fun v546 k0_hw16 => k0_hw16.2 (k0_off48_inb v546 k0_hw16)

def k0_cond9 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_333 : BitVec 32 := 0#32
  let v555 : BitVec 1 := Scalar.cmpi .sgt arg4 c0_i32_333
  let v556 : BitVec 32 := Scalar.extui v555
  let c0_i32_334 : BitVec 32 := 0#32
  let v557 : BitVec 1 := Scalar.cmpi .ne v556 c0_i32_334
  v557

def k0_off49 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let v1282 : Index := Scalar.indexCast v1281
  ![v1282.toNat]
def k0_off50 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let c0_i32_837 : BitVec 32 := 0#32
  let c0_i32_838 : BitVec 32 := 0#32
  ![v1281.toNat, 0, 0]
def k0_off51 (v1283 : BitVec 32) : Fin 3 → Nat :=
  let c0_i32_839 : BitVec 32 := 0#32
  let c0_i32_840 : BitVec 32 := 0#32
  ![v1283.toNat, 0, 0]

def k0_chk17 (k0_t1 : Fin k0_t1_loop.trips) (v1283 : BitVec 32) : Prop :=
  (∀ (k0_h9 : k0_cond9 k0_t1 = 1#1), ∀ a, (k0_off51 v1283) a + S1x4x128.size a ≤ S16384x4x128.size a) ∧
  (∀ (k0_h9 : k0_cond9 k0_t1 = 1#1), ∀ (hinb : ∀ a, (k0_off51 v1283) a + S1x4x128.size a ≤ S16384x4x128.size a), (Rect.unit (s := S16384x4x128) (k0_off51 v1283) S1x4x128.size hinb).WholeWords (EltTy.packing .bf16))
theorem k0_off51_inb : ∀ (k0_t1 : Fin k0_t1_loop.trips) (v1283 : BitVec 32) (k0_hw17 : k0_chk17 k0_t1 v1283), ∀ (k0_h9 : k0_cond9 k0_t1 = 1#1), ∀ a, (k0_off51 v1283) a + S1x4x128.size a ≤ S16384x4x128.size a := fun k0_t1 v1283 k0_hw17 k0_h9 => k0_hw17.1 k0_h9
theorem k0_off51_wordsbf16 : ∀ (k0_t1 : Fin k0_t1_loop.trips) (v1283 : BitVec 32) (k0_hw17 : k0_chk17 k0_t1 v1283), ∀ (k0_h9 : k0_cond9 k0_t1 = 1#1), (Rect.unit (s := S16384x4x128) (k0_off51 v1283) S1x4x128.size (k0_off51_inb k0_t1 v1283 k0_hw17 k0_h9)).WholeWords (EltTy.packing .bf16) := fun k0_t1 v1283 k0_hw17 k0_h9 => k0_hw17.2 k0_h9 (k0_off51_inb k0_t1 v1283 k0_hw17 k0_h9)

def k0_off52 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let v558 : Index := Scalar.indexCast v554
  ![v558.toNat]
def k0_off53 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c0_i32_336 : BitVec 32 := 0#32
  let c0_i32_337 : BitVec 32 := 0#32
  ![v554.toNat, 0, 0]
def k0_off54 (v559 : BitVec 32) : Fin 3 → Nat :=
  let c0_i32_338 : BitVec 32 := 0#32
  let c0_i32_339 : BitVec 32 := 0#32
  ![v559.toNat, 0, 0]

def k0_chk18 (v559 : BitVec 32) : Prop :=
  (∀ a, (k0_off54 v559) a + S1x4x128.size a ≤ S16384x4x128.size a) ∧
  (∀ (hinb : ∀ a, (k0_off54 v559) a + S1x4x128.size a ≤ S16384x4x128.size a), (Rect.unit (s := S16384x4x128) (k0_off54 v559) S1x4x128.size hinb).WholeWords (EltTy.packing .bf16))
theorem k0_off54_inb : ∀ (v559 : BitVec 32) (k0_hw18 : k0_chk18 v559), ∀ a, (k0_off54 v559) a + S1x4x128.size a ≤ S16384x4x128.size a := fun v559 k0_hw18 => k0_hw18.1
theorem k0_off54_wordsbf16 : ∀ (v559 : BitVec 32) (k0_hw18 : k0_chk18 v559), (Rect.unit (s := S16384x4x128) (k0_off54 v559) S1x4x128.size (k0_off54_inb v559 k0_hw18)).WholeWords (EltTy.packing .bf16) := fun v559 k0_hw18 => k0_hw18.2 (k0_off54_inb v559 k0_hw18)

def k0_cond10 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_342 : BitVec 32 := 0#32
  let v568 : BitVec 1 := Scalar.cmpi .sgt arg4 c0_i32_342
  let v569 : BitVec 32 := Scalar.extui v568
  let c0_i32_343 : BitVec 32 := 0#32
  let v570 : BitVec 1 := Scalar.cmpi .ne v569 c0_i32_343
  v570

def k0_off55 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let v1282 : Index := Scalar.indexCast v1281
  ![v1282.toNat]
def k0_off56 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let c0_i32_837 : BitVec 32 := 0#32
  let c0_i32_838 : BitVec 32 := 0#32
  ![v1281.toNat, 0, 0]
def k0_off57 (v1283 : BitVec 32) : Fin 3 → Nat :=
  let c0_i32_839 : BitVec 32 := 0#32
  let c0_i32_840 : BitVec 32 := 0#32
  ![v1283.toNat, 0, 0]

def k0_chk19 (k0_t1 : Fin k0_t1_loop.trips) (v1283 : BitVec 32) : Prop :=
  (∀ (k0_h10 : k0_cond10 k0_t1 = 1#1), ∀ a, (k0_off57 v1283) a + S1x4x128.size a ≤ S16384x4x128.size a) ∧
  (∀ (k0_h10 : k0_cond10 k0_t1 = 1#1), ∀ (hinb : ∀ a, (k0_off57 v1283) a + S1x4x128.size a ≤ S16384x4x128.size a), (Rect.unit (s := S16384x4x128) (k0_off57 v1283) S1x4x128.size hinb).WholeWords (EltTy.packing .bf16))
theorem k0_off57_inb : ∀ (k0_t1 : Fin k0_t1_loop.trips) (v1283 : BitVec 32) (k0_hw19 : k0_chk19 k0_t1 v1283), ∀ (k0_h10 : k0_cond10 k0_t1 = 1#1), ∀ a, (k0_off57 v1283) a + S1x4x128.size a ≤ S16384x4x128.size a := fun k0_t1 v1283 k0_hw19 k0_h10 => k0_hw19.1 k0_h10
theorem k0_off57_wordsbf16 : ∀ (k0_t1 : Fin k0_t1_loop.trips) (v1283 : BitVec 32) (k0_hw19 : k0_chk19 k0_t1 v1283), ∀ (k0_h10 : k0_cond10 k0_t1 = 1#1), (Rect.unit (s := S16384x4x128) (k0_off57 v1283) S1x4x128.size (k0_off57_inb k0_t1 v1283 k0_hw19 k0_h10)).WholeWords (EltTy.packing .bf16) := fun k0_t1 v1283 k0_hw19 k0_h10 => k0_hw19.2 k0_h10 (k0_off57_inb k0_t1 v1283 k0_hw19 k0_h10)

def k0_off58 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let v571 : Index := Scalar.indexCast v567
  ![v571.toNat]
def k0_off59 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c0_i32_345 : BitVec 32 := 0#32
  let c0_i32_346 : BitVec 32 := 0#32
  ![v567.toNat, 0, 0]
def k0_off60 (v572 : BitVec 32) : Fin 3 → Nat :=
  let c0_i32_347 : BitVec 32 := 0#32
  let c0_i32_348 : BitVec 32 := 0#32
  ![v572.toNat, 0, 0]

def k0_chk20 (v572 : BitVec 32) : Prop :=
  (∀ a, (k0_off60 v572) a + S1x4x128.size a ≤ S16384x4x128.size a) ∧
  (∀ (hinb : ∀ a, (k0_off60 v572) a + S1x4x128.size a ≤ S16384x4x128.size a), (Rect.unit (s := S16384x4x128) (k0_off60 v572) S1x4x128.size hinb).WholeWords (EltTy.packing .bf16))
theorem k0_off60_inb : ∀ (v572 : BitVec 32) (k0_hw20 : k0_chk20 v572), ∀ a, (k0_off60 v572) a + S1x4x128.size a ≤ S16384x4x128.size a := fun v572 k0_hw20 => k0_hw20.1
theorem k0_off60_wordsbf16 : ∀ (v572 : BitVec 32) (k0_hw20 : k0_chk20 v572), (Rect.unit (s := S16384x4x128) (k0_off60 v572) S1x4x128.size (k0_off60_inb v572 k0_hw20)).WholeWords (EltTy.packing .bf16) := fun v572 k0_hw20 => k0_hw20.2 (k0_off60_inb v572 k0_hw20)

def k0_cond11 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_351 : BitVec 32 := 0#32
  let v581 : BitVec 1 := Scalar.cmpi .sgt arg4 c0_i32_351
  let v582 : BitVec 32 := Scalar.extui v581
  let c0_i32_352 : BitVec 32 := 0#32
  let v583 : BitVec 1 := Scalar.cmpi .ne v582 c0_i32_352
  v583

def k0_off61 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let v1282 : Index := Scalar.indexCast v1281
  ![v1282.toNat]
def k0_off62 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let c0_i32_837 : BitVec 32 := 0#32
  let c0_i32_838 : BitVec 32 := 0#32
  ![v1281.toNat, 0, 0]
def k0_off63 (v1283 : BitVec 32) : Fin 3 → Nat :=
  let c0_i32_839 : BitVec 32 := 0#32
  let c0_i32_840 : BitVec 32 := 0#32
  ![v1283.toNat, 0, 0]

def k0_chk21 (k0_t1 : Fin k0_t1_loop.trips) (v1283 : BitVec 32) : Prop :=
  (∀ (k0_h11 : k0_cond11 k0_t1 = 1#1), ∀ a, (k0_off63 v1283) a + S1x4x128.size a ≤ S16384x4x128.size a) ∧
  (∀ (k0_h11 : k0_cond11 k0_t1 = 1#1), ∀ (hinb : ∀ a, (k0_off63 v1283) a + S1x4x128.size a ≤ S16384x4x128.size a), (Rect.unit (s := S16384x4x128) (k0_off63 v1283) S1x4x128.size hinb).WholeWords (EltTy.packing .bf16))
theorem k0_off63_inb : ∀ (k0_t1 : Fin k0_t1_loop.trips) (v1283 : BitVec 32) (k0_hw21 : k0_chk21 k0_t1 v1283), ∀ (k0_h11 : k0_cond11 k0_t1 = 1#1), ∀ a, (k0_off63 v1283) a + S1x4x128.size a ≤ S16384x4x128.size a := fun k0_t1 v1283 k0_hw21 k0_h11 => k0_hw21.1 k0_h11
theorem k0_off63_wordsbf16 : ∀ (k0_t1 : Fin k0_t1_loop.trips) (v1283 : BitVec 32) (k0_hw21 : k0_chk21 k0_t1 v1283), ∀ (k0_h11 : k0_cond11 k0_t1 = 1#1), (Rect.unit (s := S16384x4x128) (k0_off63 v1283) S1x4x128.size (k0_off63_inb k0_t1 v1283 k0_hw21 k0_h11)).WholeWords (EltTy.packing .bf16) := fun k0_t1 v1283 k0_hw21 k0_h11 => k0_hw21.2 k0_h11 (k0_off63_inb k0_t1 v1283 k0_hw21 k0_h11)

def k0_off64 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let v584 : Index := Scalar.indexCast v580
  ![v584.toNat]
def k0_off65 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c0_i32_354 : BitVec 32 := 0#32
  let c0_i32_355 : BitVec 32 := 0#32
  ![v580.toNat, 0, 0]
def k0_off66 (v585 : BitVec 32) : Fin 3 → Nat :=
  let c0_i32_356 : BitVec 32 := 0#32
  let c0_i32_357 : BitVec 32 := 0#32
  ![v585.toNat, 0, 0]

def k0_chk22 (v585 : BitVec 32) : Prop :=
  (∀ a, (k0_off66 v585) a + S1x4x128.size a ≤ S16384x4x128.size a) ∧
  (∀ (hinb : ∀ a, (k0_off66 v585) a + S1x4x128.size a ≤ S16384x4x128.size a), (Rect.unit (s := S16384x4x128) (k0_off66 v585) S1x4x128.size hinb).WholeWords (EltTy.packing .bf16))
theorem k0_off66_inb : ∀ (v585 : BitVec 32) (k0_hw22 : k0_chk22 v585), ∀ a, (k0_off66 v585) a + S1x4x128.size a ≤ S16384x4x128.size a := fun v585 k0_hw22 => k0_hw22.1
theorem k0_off66_wordsbf16 : ∀ (v585 : BitVec 32) (k0_hw22 : k0_chk22 v585), (Rect.unit (s := S16384x4x128) (k0_off66 v585) S1x4x128.size (k0_off66_inb v585 k0_hw22)).WholeWords (EltTy.packing .bf16) := fun v585 k0_hw22 => k0_hw22.2 (k0_off66_inb v585 k0_hw22)

def k0_cond12 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_360 : BitVec 32 := 0#32
  let v594 : BitVec 1 := Scalar.cmpi .sgt arg4 c0_i32_360
  let v595 : BitVec 32 := Scalar.extui v594
  let c0_i32_361 : BitVec 32 := 0#32
  let v596 : BitVec 1 := Scalar.cmpi .ne v595 c0_i32_361
  v596

def k0_off67 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let v1282 : Index := Scalar.indexCast v1281
  ![v1282.toNat]
def k0_off68 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let c0_i32_837 : BitVec 32 := 0#32
  let c0_i32_838 : BitVec 32 := 0#32
  ![v1281.toNat, 0, 0]
def k0_off69 (v1283 : BitVec 32) : Fin 3 → Nat :=
  let c0_i32_839 : BitVec 32 := 0#32
  let c0_i32_840 : BitVec 32 := 0#32
  ![v1283.toNat, 0, 0]

def k0_chk23 (k0_t1 : Fin k0_t1_loop.trips) (v1283 : BitVec 32) : Prop :=
  (∀ (k0_h12 : k0_cond12 k0_t1 = 1#1), ∀ a, (k0_off69 v1283) a + S1x4x128.size a ≤ S16384x4x128.size a) ∧
  (∀ (k0_h12 : k0_cond12 k0_t1 = 1#1), ∀ (hinb : ∀ a, (k0_off69 v1283) a + S1x4x128.size a ≤ S16384x4x128.size a), (Rect.unit (s := S16384x4x128) (k0_off69 v1283) S1x4x128.size hinb).WholeWords (EltTy.packing .bf16))
theorem k0_off69_inb : ∀ (k0_t1 : Fin k0_t1_loop.trips) (v1283 : BitVec 32) (k0_hw23 : k0_chk23 k0_t1 v1283), ∀ (k0_h12 : k0_cond12 k0_t1 = 1#1), ∀ a, (k0_off69 v1283) a + S1x4x128.size a ≤ S16384x4x128.size a := fun k0_t1 v1283 k0_hw23 k0_h12 => k0_hw23.1 k0_h12
theorem k0_off69_wordsbf16 : ∀ (k0_t1 : Fin k0_t1_loop.trips) (v1283 : BitVec 32) (k0_hw23 : k0_chk23 k0_t1 v1283), ∀ (k0_h12 : k0_cond12 k0_t1 = 1#1), (Rect.unit (s := S16384x4x128) (k0_off69 v1283) S1x4x128.size (k0_off69_inb k0_t1 v1283 k0_hw23 k0_h12)).WholeWords (EltTy.packing .bf16) := fun k0_t1 v1283 k0_hw23 k0_h12 => k0_hw23.2 k0_h12 (k0_off69_inb k0_t1 v1283 k0_hw23 k0_h12)

def k0_off70 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let v597 : Index := Scalar.indexCast v593
  ![v597.toNat]
def k0_off71 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c0_i32_363 : BitVec 32 := 0#32
  let c0_i32_364 : BitVec 32 := 0#32
  ![v593.toNat, 0, 0]
def k0_off72 (v598 : BitVec 32) : Fin 3 → Nat :=
  let c0_i32_365 : BitVec 32 := 0#32
  let c0_i32_366 : BitVec 32 := 0#32
  ![v598.toNat, 0, 0]

def k0_chk24 (v598 : BitVec 32) : Prop :=
  (∀ a, (k0_off72 v598) a + S1x4x128.size a ≤ S16384x4x128.size a) ∧
  (∀ (hinb : ∀ a, (k0_off72 v598) a + S1x4x128.size a ≤ S16384x4x128.size a), (Rect.unit (s := S16384x4x128) (k0_off72 v598) S1x4x128.size hinb).WholeWords (EltTy.packing .bf16))
theorem k0_off72_inb : ∀ (v598 : BitVec 32) (k0_hw24 : k0_chk24 v598), ∀ a, (k0_off72 v598) a + S1x4x128.size a ≤ S16384x4x128.size a := fun v598 k0_hw24 => k0_hw24.1
theorem k0_off72_wordsbf16 : ∀ (v598 : BitVec 32) (k0_hw24 : k0_chk24 v598), (Rect.unit (s := S16384x4x128) (k0_off72 v598) S1x4x128.size (k0_off72_inb v598 k0_hw24)).WholeWords (EltTy.packing .bf16) := fun v598 k0_hw24 => k0_hw24.2 (k0_off72_inb v598 k0_hw24)

def k0_cond13 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_369 : BitVec 32 := 0#32
  let v607 : BitVec 1 := Scalar.cmpi .sgt arg4 c0_i32_369
  let v608 : BitVec 32 := Scalar.extui v607
  let c0_i32_370 : BitVec 32 := 0#32
  let v609 : BitVec 1 := Scalar.cmpi .ne v608 c0_i32_370
  v609

def k0_off73 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let v1282 : Index := Scalar.indexCast v1281
  ![v1282.toNat]
def k0_off74 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let c0_i32_837 : BitVec 32 := 0#32
  let c0_i32_838 : BitVec 32 := 0#32
  ![v1281.toNat, 0, 0]
def k0_off75 (v1283 : BitVec 32) : Fin 3 → Nat :=
  let c0_i32_839 : BitVec 32 := 0#32
  let c0_i32_840 : BitVec 32 := 0#32
  ![v1283.toNat, 0, 0]

def k0_chk25 (k0_t1 : Fin k0_t1_loop.trips) (v1283 : BitVec 32) : Prop :=
  (∀ (k0_h13 : k0_cond13 k0_t1 = 1#1), ∀ a, (k0_off75 v1283) a + S1x4x128.size a ≤ S16384x4x128.size a) ∧
  (∀ (k0_h13 : k0_cond13 k0_t1 = 1#1), ∀ (hinb : ∀ a, (k0_off75 v1283) a + S1x4x128.size a ≤ S16384x4x128.size a), (Rect.unit (s := S16384x4x128) (k0_off75 v1283) S1x4x128.size hinb).WholeWords (EltTy.packing .bf16))
theorem k0_off75_inb : ∀ (k0_t1 : Fin k0_t1_loop.trips) (v1283 : BitVec 32) (k0_hw25 : k0_chk25 k0_t1 v1283), ∀ (k0_h13 : k0_cond13 k0_t1 = 1#1), ∀ a, (k0_off75 v1283) a + S1x4x128.size a ≤ S16384x4x128.size a := fun k0_t1 v1283 k0_hw25 k0_h13 => k0_hw25.1 k0_h13
theorem k0_off75_wordsbf16 : ∀ (k0_t1 : Fin k0_t1_loop.trips) (v1283 : BitVec 32) (k0_hw25 : k0_chk25 k0_t1 v1283), ∀ (k0_h13 : k0_cond13 k0_t1 = 1#1), (Rect.unit (s := S16384x4x128) (k0_off75 v1283) S1x4x128.size (k0_off75_inb k0_t1 v1283 k0_hw25 k0_h13)).WholeWords (EltTy.packing .bf16) := fun k0_t1 v1283 k0_hw25 k0_h13 => k0_hw25.2 k0_h13 (k0_off75_inb k0_t1 v1283 k0_hw25 k0_h13)

def k0_off76 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let v610 : Index := Scalar.indexCast v606
  ![v610.toNat]
def k0_off77 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c0_i32_372 : BitVec 32 := 0#32
  let c0_i32_373 : BitVec 32 := 0#32
  ![v606.toNat, 0, 0]
def k0_off78 (v611 : BitVec 32) : Fin 3 → Nat :=
  let c0_i32_374 : BitVec 32 := 0#32
  let c0_i32_375 : BitVec 32 := 0#32
  ![v611.toNat, 0, 0]

def k0_chk26 (v611 : BitVec 32) : Prop :=
  (∀ a, (k0_off78 v611) a + S1x4x128.size a ≤ S16384x4x128.size a) ∧
  (∀ (hinb : ∀ a, (k0_off78 v611) a + S1x4x128.size a ≤ S16384x4x128.size a), (Rect.unit (s := S16384x4x128) (k0_off78 v611) S1x4x128.size hinb).WholeWords (EltTy.packing .bf16))
theorem k0_off78_inb : ∀ (v611 : BitVec 32) (k0_hw26 : k0_chk26 v611), ∀ a, (k0_off78 v611) a + S1x4x128.size a ≤ S16384x4x128.size a := fun v611 k0_hw26 => k0_hw26.1
theorem k0_off78_wordsbf16 : ∀ (v611 : BitVec 32) (k0_hw26 : k0_chk26 v611), (Rect.unit (s := S16384x4x128) (k0_off78 v611) S1x4x128.size (k0_off78_inb v611 k0_hw26)).WholeWords (EltTy.packing .bf16) := fun v611 k0_hw26 => k0_hw26.2 (k0_off78_inb v611 k0_hw26)

def k0_cond14 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_378 : BitVec 32 := 0#32
  let v620 : BitVec 1 := Scalar.cmpi .sgt arg4 c0_i32_378
  let v621 : BitVec 32 := Scalar.extui v620
  let c0_i32_379 : BitVec 32 := 0#32
  let v622 : BitVec 1 := Scalar.cmpi .ne v621 c0_i32_379
  v622

def k0_off79 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let v1282 : Index := Scalar.indexCast v1281
  ![v1282.toNat]
def k0_off80 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let c0_i32_837 : BitVec 32 := 0#32
  let c0_i32_838 : BitVec 32 := 0#32
  ![v1281.toNat, 0, 0]
def k0_off81 (v1283 : BitVec 32) : Fin 3 → Nat :=
  let c0_i32_839 : BitVec 32 := 0#32
  let c0_i32_840 : BitVec 32 := 0#32
  ![v1283.toNat, 0, 0]

def k0_chk27 (k0_t1 : Fin k0_t1_loop.trips) (v1283 : BitVec 32) : Prop :=
  (∀ (k0_h14 : k0_cond14 k0_t1 = 1#1), ∀ a, (k0_off81 v1283) a + S1x4x128.size a ≤ S16384x4x128.size a) ∧
  (∀ (k0_h14 : k0_cond14 k0_t1 = 1#1), ∀ (hinb : ∀ a, (k0_off81 v1283) a + S1x4x128.size a ≤ S16384x4x128.size a), (Rect.unit (s := S16384x4x128) (k0_off81 v1283) S1x4x128.size hinb).WholeWords (EltTy.packing .bf16))
theorem k0_off81_inb : ∀ (k0_t1 : Fin k0_t1_loop.trips) (v1283 : BitVec 32) (k0_hw27 : k0_chk27 k0_t1 v1283), ∀ (k0_h14 : k0_cond14 k0_t1 = 1#1), ∀ a, (k0_off81 v1283) a + S1x4x128.size a ≤ S16384x4x128.size a := fun k0_t1 v1283 k0_hw27 k0_h14 => k0_hw27.1 k0_h14
theorem k0_off81_wordsbf16 : ∀ (k0_t1 : Fin k0_t1_loop.trips) (v1283 : BitVec 32) (k0_hw27 : k0_chk27 k0_t1 v1283), ∀ (k0_h14 : k0_cond14 k0_t1 = 1#1), (Rect.unit (s := S16384x4x128) (k0_off81 v1283) S1x4x128.size (k0_off81_inb k0_t1 v1283 k0_hw27 k0_h14)).WholeWords (EltTy.packing .bf16) := fun k0_t1 v1283 k0_hw27 k0_h14 => k0_hw27.2 k0_h14 (k0_off81_inb k0_t1 v1283 k0_hw27 k0_h14)

def k0_off82 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let v623 : Index := Scalar.indexCast v619
  ![v623.toNat]
def k0_off83 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c0_i32_381 : BitVec 32 := 0#32
  let c0_i32_382 : BitVec 32 := 0#32
  ![v619.toNat, 0, 0]
def k0_off84 (v624 : BitVec 32) : Fin 3 → Nat :=
  let c0_i32_383 : BitVec 32 := 0#32
  let c0_i32_384 : BitVec 32 := 0#32
  ![v624.toNat, 0, 0]

def k0_chk28 (v624 : BitVec 32) : Prop :=
  (∀ a, (k0_off84 v624) a + S1x4x128.size a ≤ S16384x4x128.size a) ∧
  (∀ (hinb : ∀ a, (k0_off84 v624) a + S1x4x128.size a ≤ S16384x4x128.size a), (Rect.unit (s := S16384x4x128) (k0_off84 v624) S1x4x128.size hinb).WholeWords (EltTy.packing .bf16))
theorem k0_off84_inb : ∀ (v624 : BitVec 32) (k0_hw28 : k0_chk28 v624), ∀ a, (k0_off84 v624) a + S1x4x128.size a ≤ S16384x4x128.size a := fun v624 k0_hw28 => k0_hw28.1
theorem k0_off84_wordsbf16 : ∀ (v624 : BitVec 32) (k0_hw28 : k0_chk28 v624), (Rect.unit (s := S16384x4x128) (k0_off84 v624) S1x4x128.size (k0_off84_inb v624 k0_hw28)).WholeWords (EltTy.packing .bf16) := fun v624 k0_hw28 => k0_hw28.2 (k0_off84_inb v624 k0_hw28)

def k0_cond15 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_387 : BitVec 32 := 0#32
  let v633 : BitVec 1 := Scalar.cmpi .sgt arg4 c0_i32_387
  let v634 : BitVec 32 := Scalar.extui v633
  let c0_i32_388 : BitVec 32 := 0#32
  let v635 : BitVec 1 := Scalar.cmpi .ne v634 c0_i32_388
  v635

def k0_off85 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let v1282 : Index := Scalar.indexCast v1281
  ![v1282.toNat]
def k0_off86 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let c0_i32_837 : BitVec 32 := 0#32
  let c0_i32_838 : BitVec 32 := 0#32
  ![v1281.toNat, 0, 0]
def k0_off87 (v1283 : BitVec 32) : Fin 3 → Nat :=
  let c0_i32_839 : BitVec 32 := 0#32
  let c0_i32_840 : BitVec 32 := 0#32
  ![v1283.toNat, 0, 0]

def k0_chk29 (k0_t1 : Fin k0_t1_loop.trips) (v1283 : BitVec 32) : Prop :=
  (∀ (k0_h15 : k0_cond15 k0_t1 = 1#1), ∀ a, (k0_off87 v1283) a + S1x4x128.size a ≤ S16384x4x128.size a) ∧
  (∀ (k0_h15 : k0_cond15 k0_t1 = 1#1), ∀ (hinb : ∀ a, (k0_off87 v1283) a + S1x4x128.size a ≤ S16384x4x128.size a), (Rect.unit (s := S16384x4x128) (k0_off87 v1283) S1x4x128.size hinb).WholeWords (EltTy.packing .bf16))
theorem k0_off87_inb : ∀ (k0_t1 : Fin k0_t1_loop.trips) (v1283 : BitVec 32) (k0_hw29 : k0_chk29 k0_t1 v1283), ∀ (k0_h15 : k0_cond15 k0_t1 = 1#1), ∀ a, (k0_off87 v1283) a + S1x4x128.size a ≤ S16384x4x128.size a := fun k0_t1 v1283 k0_hw29 k0_h15 => k0_hw29.1 k0_h15
theorem k0_off87_wordsbf16 : ∀ (k0_t1 : Fin k0_t1_loop.trips) (v1283 : BitVec 32) (k0_hw29 : k0_chk29 k0_t1 v1283), ∀ (k0_h15 : k0_cond15 k0_t1 = 1#1), (Rect.unit (s := S16384x4x128) (k0_off87 v1283) S1x4x128.size (k0_off87_inb k0_t1 v1283 k0_hw29 k0_h15)).WholeWords (EltTy.packing .bf16) := fun k0_t1 v1283 k0_hw29 k0_h15 => k0_hw29.2 k0_h15 (k0_off87_inb k0_t1 v1283 k0_hw29 k0_h15)

def k0_off88 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let v636 : Index := Scalar.indexCast v632
  ![v636.toNat]
def k0_off89 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c0_i32_390 : BitVec 32 := 0#32
  let c0_i32_391 : BitVec 32 := 0#32
  ![v632.toNat, 0, 0]
def k0_off90 (v637 : BitVec 32) : Fin 3 → Nat :=
  let c0_i32_392 : BitVec 32 := 0#32
  let c0_i32_393 : BitVec 32 := 0#32
  ![v637.toNat, 0, 0]

def k0_chk30 (v637 : BitVec 32) : Prop :=
  (∀ a, (k0_off90 v637) a + S1x4x128.size a ≤ S16384x4x128.size a) ∧
  (∀ (hinb : ∀ a, (k0_off90 v637) a + S1x4x128.size a ≤ S16384x4x128.size a), (Rect.unit (s := S16384x4x128) (k0_off90 v637) S1x4x128.size hinb).WholeWords (EltTy.packing .bf16))
theorem k0_off90_inb : ∀ (v637 : BitVec 32) (k0_hw30 : k0_chk30 v637), ∀ a, (k0_off90 v637) a + S1x4x128.size a ≤ S16384x4x128.size a := fun v637 k0_hw30 => k0_hw30.1
theorem k0_off90_wordsbf16 : ∀ (v637 : BitVec 32) (k0_hw30 : k0_chk30 v637), (Rect.unit (s := S16384x4x128) (k0_off90 v637) S1x4x128.size (k0_off90_inb v637 k0_hw30)).WholeWords (EltTy.packing .bf16) := fun v637 k0_hw30 => k0_hw30.2 (k0_off90_inb v637 k0_hw30)

def k0_cond16 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_396 : BitVec 32 := 0#32
  let v646 : BitVec 1 := Scalar.cmpi .sgt arg4 c0_i32_396
  let v647 : BitVec 32 := Scalar.extui v646
  let c0_i32_397 : BitVec 32 := 0#32
  let v648 : BitVec 1 := Scalar.cmpi .ne v647 c0_i32_397
  v648

def k0_off91 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let v1282 : Index := Scalar.indexCast v1281
  ![v1282.toNat]
def k0_off92 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let c0_i32_837 : BitVec 32 := 0#32
  let c0_i32_838 : BitVec 32 := 0#32
  ![v1281.toNat, 0, 0]
def k0_off93 (v1283 : BitVec 32) : Fin 3 → Nat :=
  let c0_i32_839 : BitVec 32 := 0#32
  let c0_i32_840 : BitVec 32 := 0#32
  ![v1283.toNat, 0, 0]

def k0_chk31 (k0_t1 : Fin k0_t1_loop.trips) (v1283 : BitVec 32) : Prop :=
  (∀ (k0_h16 : k0_cond16 k0_t1 = 1#1), ∀ a, (k0_off93 v1283) a + S1x4x128.size a ≤ S16384x4x128.size a) ∧
  (∀ (k0_h16 : k0_cond16 k0_t1 = 1#1), ∀ (hinb : ∀ a, (k0_off93 v1283) a + S1x4x128.size a ≤ S16384x4x128.size a), (Rect.unit (s := S16384x4x128) (k0_off93 v1283) S1x4x128.size hinb).WholeWords (EltTy.packing .bf16))
theorem k0_off93_inb : ∀ (k0_t1 : Fin k0_t1_loop.trips) (v1283 : BitVec 32) (k0_hw31 : k0_chk31 k0_t1 v1283), ∀ (k0_h16 : k0_cond16 k0_t1 = 1#1), ∀ a, (k0_off93 v1283) a + S1x4x128.size a ≤ S16384x4x128.size a := fun k0_t1 v1283 k0_hw31 k0_h16 => k0_hw31.1 k0_h16
theorem k0_off93_wordsbf16 : ∀ (k0_t1 : Fin k0_t1_loop.trips) (v1283 : BitVec 32) (k0_hw31 : k0_chk31 k0_t1 v1283), ∀ (k0_h16 : k0_cond16 k0_t1 = 1#1), (Rect.unit (s := S16384x4x128) (k0_off93 v1283) S1x4x128.size (k0_off93_inb k0_t1 v1283 k0_hw31 k0_h16)).WholeWords (EltTy.packing .bf16) := fun k0_t1 v1283 k0_hw31 k0_h16 => k0_hw31.2 k0_h16 (k0_off93_inb k0_t1 v1283 k0_hw31 k0_h16)

def k0_off94 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let v649 : Index := Scalar.indexCast v645
  ![v649.toNat]
def k0_off95 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c0_i32_399 : BitVec 32 := 0#32
  let c0_i32_400 : BitVec 32 := 0#32
  ![v645.toNat, 0, 0]
def k0_off96 (v650 : BitVec 32) : Fin 3 → Nat :=
  let c0_i32_401 : BitVec 32 := 0#32
  let c0_i32_402 : BitVec 32 := 0#32
  ![v650.toNat, 0, 0]

def k0_chk32 (v650 : BitVec 32) : Prop :=
  (∀ a, (k0_off96 v650) a + S1x4x128.size a ≤ S16384x4x128.size a) ∧
  (∀ (hinb : ∀ a, (k0_off96 v650) a + S1x4x128.size a ≤ S16384x4x128.size a), (Rect.unit (s := S16384x4x128) (k0_off96 v650) S1x4x128.size hinb).WholeWords (EltTy.packing .bf16))
theorem k0_off96_inb : ∀ (v650 : BitVec 32) (k0_hw32 : k0_chk32 v650), ∀ a, (k0_off96 v650) a + S1x4x128.size a ≤ S16384x4x128.size a := fun v650 k0_hw32 => k0_hw32.1
theorem k0_off96_wordsbf16 : ∀ (v650 : BitVec 32) (k0_hw32 : k0_chk32 v650), (Rect.unit (s := S16384x4x128) (k0_off96 v650) S1x4x128.size (k0_off96_inb v650 k0_hw32)).WholeWords (EltTy.packing .bf16) := fun v650 k0_hw32 => k0_hw32.2 (k0_off96_inb v650 k0_hw32)

def k0_cond17 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_405 : BitVec 32 := 0#32
  let v659 : BitVec 1 := Scalar.cmpi .sgt arg4 c0_i32_405
  let v660 : BitVec 32 := Scalar.extui v659
  let c0_i32_406 : BitVec 32 := 0#32
  let v661 : BitVec 1 := Scalar.cmpi .ne v660 c0_i32_406
  v661

def k0_off97 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let v1282 : Index := Scalar.indexCast v1281
  ![v1282.toNat]
def k0_off98 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let c0_i32_837 : BitVec 32 := 0#32
  let c0_i32_838 : BitVec 32 := 0#32
  ![v1281.toNat, 0, 0]
def k0_off99 (v1283 : BitVec 32) : Fin 3 → Nat :=
  let c0_i32_839 : BitVec 32 := 0#32
  let c0_i32_840 : BitVec 32 := 0#32
  ![v1283.toNat, 0, 0]

def k0_chk33 (k0_t1 : Fin k0_t1_loop.trips) (v1283 : BitVec 32) : Prop :=
  (∀ (k0_h17 : k0_cond17 k0_t1 = 1#1), ∀ a, (k0_off99 v1283) a + S1x4x128.size a ≤ S16384x4x128.size a) ∧
  (∀ (k0_h17 : k0_cond17 k0_t1 = 1#1), ∀ (hinb : ∀ a, (k0_off99 v1283) a + S1x4x128.size a ≤ S16384x4x128.size a), (Rect.unit (s := S16384x4x128) (k0_off99 v1283) S1x4x128.size hinb).WholeWords (EltTy.packing .bf16))
theorem k0_off99_inb : ∀ (k0_t1 : Fin k0_t1_loop.trips) (v1283 : BitVec 32) (k0_hw33 : k0_chk33 k0_t1 v1283), ∀ (k0_h17 : k0_cond17 k0_t1 = 1#1), ∀ a, (k0_off99 v1283) a + S1x4x128.size a ≤ S16384x4x128.size a := fun k0_t1 v1283 k0_hw33 k0_h17 => k0_hw33.1 k0_h17
theorem k0_off99_wordsbf16 : ∀ (k0_t1 : Fin k0_t1_loop.trips) (v1283 : BitVec 32) (k0_hw33 : k0_chk33 k0_t1 v1283), ∀ (k0_h17 : k0_cond17 k0_t1 = 1#1), (Rect.unit (s := S16384x4x128) (k0_off99 v1283) S1x4x128.size (k0_off99_inb k0_t1 v1283 k0_hw33 k0_h17)).WholeWords (EltTy.packing .bf16) := fun k0_t1 v1283 k0_hw33 k0_h17 => k0_hw33.2 k0_h17 (k0_off99_inb k0_t1 v1283 k0_hw33 k0_h17)

def k0_off100 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let v662 : Index := Scalar.indexCast v658
  ![v662.toNat]
def k0_off101 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c0_i32_408 : BitVec 32 := 0#32
  let c0_i32_409 : BitVec 32 := 0#32
  ![v658.toNat, 0, 0]
def k0_off102 (v663 : BitVec 32) : Fin 3 → Nat :=
  let c0_i32_410 : BitVec 32 := 0#32
  let c0_i32_411 : BitVec 32 := 0#32
  ![v663.toNat, 0, 0]

def k0_chk34 (v663 : BitVec 32) : Prop :=
  (∀ a, (k0_off102 v663) a + S1x4x128.size a ≤ S16384x4x128.size a) ∧
  (∀ (hinb : ∀ a, (k0_off102 v663) a + S1x4x128.size a ≤ S16384x4x128.size a), (Rect.unit (s := S16384x4x128) (k0_off102 v663) S1x4x128.size hinb).WholeWords (EltTy.packing .bf16))
theorem k0_off102_inb : ∀ (v663 : BitVec 32) (k0_hw34 : k0_chk34 v663), ∀ a, (k0_off102 v663) a + S1x4x128.size a ≤ S16384x4x128.size a := fun v663 k0_hw34 => k0_hw34.1
theorem k0_off102_wordsbf16 : ∀ (v663 : BitVec 32) (k0_hw34 : k0_chk34 v663), (Rect.unit (s := S16384x4x128) (k0_off102 v663) S1x4x128.size (k0_off102_inb v663 k0_hw34)).WholeWords (EltTy.packing .bf16) := fun v663 k0_hw34 => k0_hw34.2 (k0_off102_inb v663 k0_hw34)

def k0_cond18 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_414 : BitVec 32 := 0#32
  let v672 : BitVec 1 := Scalar.cmpi .sgt arg4 c0_i32_414
  let v673 : BitVec 32 := Scalar.extui v672
  let c0_i32_415 : BitVec 32 := 0#32
  let v674 : BitVec 1 := Scalar.cmpi .ne v673 c0_i32_415
  v674

def k0_off103 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let v1282 : Index := Scalar.indexCast v1281
  ![v1282.toNat]
def k0_off104 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let c0_i32_837 : BitVec 32 := 0#32
  let c0_i32_838 : BitVec 32 := 0#32
  ![v1281.toNat, 0, 0]
def k0_off105 (v1283 : BitVec 32) : Fin 3 → Nat :=
  let c0_i32_839 : BitVec 32 := 0#32
  let c0_i32_840 : BitVec 32 := 0#32
  ![v1283.toNat, 0, 0]

def k0_chk35 (k0_t1 : Fin k0_t1_loop.trips) (v1283 : BitVec 32) : Prop :=
  (∀ (k0_h18 : k0_cond18 k0_t1 = 1#1), ∀ a, (k0_off105 v1283) a + S1x4x128.size a ≤ S16384x4x128.size a) ∧
  (∀ (k0_h18 : k0_cond18 k0_t1 = 1#1), ∀ (hinb : ∀ a, (k0_off105 v1283) a + S1x4x128.size a ≤ S16384x4x128.size a), (Rect.unit (s := S16384x4x128) (k0_off105 v1283) S1x4x128.size hinb).WholeWords (EltTy.packing .bf16))
theorem k0_off105_inb : ∀ (k0_t1 : Fin k0_t1_loop.trips) (v1283 : BitVec 32) (k0_hw35 : k0_chk35 k0_t1 v1283), ∀ (k0_h18 : k0_cond18 k0_t1 = 1#1), ∀ a, (k0_off105 v1283) a + S1x4x128.size a ≤ S16384x4x128.size a := fun k0_t1 v1283 k0_hw35 k0_h18 => k0_hw35.1 k0_h18
theorem k0_off105_wordsbf16 : ∀ (k0_t1 : Fin k0_t1_loop.trips) (v1283 : BitVec 32) (k0_hw35 : k0_chk35 k0_t1 v1283), ∀ (k0_h18 : k0_cond18 k0_t1 = 1#1), (Rect.unit (s := S16384x4x128) (k0_off105 v1283) S1x4x128.size (k0_off105_inb k0_t1 v1283 k0_hw35 k0_h18)).WholeWords (EltTy.packing .bf16) := fun k0_t1 v1283 k0_hw35 k0_h18 => k0_hw35.2 k0_h18 (k0_off105_inb k0_t1 v1283 k0_hw35 k0_h18)

def k0_off106 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let v675 : Index := Scalar.indexCast v671
  ![v675.toNat]
def k0_off107 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c0_i32_417 : BitVec 32 := 0#32
  let c0_i32_418 : BitVec 32 := 0#32
  ![v671.toNat, 0, 0]
def k0_off108 (v676 : BitVec 32) : Fin 3 → Nat :=
  let c0_i32_419 : BitVec 32 := 0#32
  let c0_i32_420 : BitVec 32 := 0#32
  ![v676.toNat, 0, 0]

def k0_chk36 (v676 : BitVec 32) : Prop :=
  (∀ a, (k0_off108 v676) a + S1x4x128.size a ≤ S16384x4x128.size a) ∧
  (∀ (hinb : ∀ a, (k0_off108 v676) a + S1x4x128.size a ≤ S16384x4x128.size a), (Rect.unit (s := S16384x4x128) (k0_off108 v676) S1x4x128.size hinb).WholeWords (EltTy.packing .bf16))
theorem k0_off108_inb : ∀ (v676 : BitVec 32) (k0_hw36 : k0_chk36 v676), ∀ a, (k0_off108 v676) a + S1x4x128.size a ≤ S16384x4x128.size a := fun v676 k0_hw36 => k0_hw36.1
theorem k0_off108_wordsbf16 : ∀ (v676 : BitVec 32) (k0_hw36 : k0_chk36 v676), (Rect.unit (s := S16384x4x128) (k0_off108 v676) S1x4x128.size (k0_off108_inb v676 k0_hw36)).WholeWords (EltTy.packing .bf16) := fun v676 k0_hw36 => k0_hw36.2 (k0_off108_inb v676 k0_hw36)

def k0_cond19 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_423 : BitVec 32 := 0#32
  let v685 : BitVec 1 := Scalar.cmpi .sgt arg4 c0_i32_423
  let v686 : BitVec 32 := Scalar.extui v685
  let c0_i32_424 : BitVec 32 := 0#32
  let v687 : BitVec 1 := Scalar.cmpi .ne v686 c0_i32_424
  v687

def k0_off109 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let v1282 : Index := Scalar.indexCast v1281
  ![v1282.toNat]
def k0_off110 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let c0_i32_837 : BitVec 32 := 0#32
  let c0_i32_838 : BitVec 32 := 0#32
  ![v1281.toNat, 0, 0]
def k0_off111 (v1283 : BitVec 32) : Fin 3 → Nat :=
  let c0_i32_839 : BitVec 32 := 0#32
  let c0_i32_840 : BitVec 32 := 0#32
  ![v1283.toNat, 0, 0]

def k0_chk37 (k0_t1 : Fin k0_t1_loop.trips) (v1283 : BitVec 32) : Prop :=
  (∀ (k0_h19 : k0_cond19 k0_t1 = 1#1), ∀ a, (k0_off111 v1283) a + S1x4x128.size a ≤ S16384x4x128.size a) ∧
  (∀ (k0_h19 : k0_cond19 k0_t1 = 1#1), ∀ (hinb : ∀ a, (k0_off111 v1283) a + S1x4x128.size a ≤ S16384x4x128.size a), (Rect.unit (s := S16384x4x128) (k0_off111 v1283) S1x4x128.size hinb).WholeWords (EltTy.packing .bf16))
theorem k0_off111_inb : ∀ (k0_t1 : Fin k0_t1_loop.trips) (v1283 : BitVec 32) (k0_hw37 : k0_chk37 k0_t1 v1283), ∀ (k0_h19 : k0_cond19 k0_t1 = 1#1), ∀ a, (k0_off111 v1283) a + S1x4x128.size a ≤ S16384x4x128.size a := fun k0_t1 v1283 k0_hw37 k0_h19 => k0_hw37.1 k0_h19
theorem k0_off111_wordsbf16 : ∀ (k0_t1 : Fin k0_t1_loop.trips) (v1283 : BitVec 32) (k0_hw37 : k0_chk37 k0_t1 v1283), ∀ (k0_h19 : k0_cond19 k0_t1 = 1#1), (Rect.unit (s := S16384x4x128) (k0_off111 v1283) S1x4x128.size (k0_off111_inb k0_t1 v1283 k0_hw37 k0_h19)).WholeWords (EltTy.packing .bf16) := fun k0_t1 v1283 k0_hw37 k0_h19 => k0_hw37.2 k0_h19 (k0_off111_inb k0_t1 v1283 k0_hw37 k0_h19)

def k0_off112 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let v688 : Index := Scalar.indexCast v684
  ![v688.toNat]
def k0_off113 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c0_i32_426 : BitVec 32 := 0#32
  let c0_i32_427 : BitVec 32 := 0#32
  ![v684.toNat, 0, 0]
def k0_off114 (v689 : BitVec 32) : Fin 3 → Nat :=
  let c0_i32_428 : BitVec 32 := 0#32
  let c0_i32_429 : BitVec 32 := 0#32
  ![v689.toNat, 0, 0]

def k0_chk38 (v689 : BitVec 32) : Prop :=
  (∀ a, (k0_off114 v689) a + S1x4x128.size a ≤ S16384x4x128.size a) ∧
  (∀ (hinb : ∀ a, (k0_off114 v689) a + S1x4x128.size a ≤ S16384x4x128.size a), (Rect.unit (s := S16384x4x128) (k0_off114 v689) S1x4x128.size hinb).WholeWords (EltTy.packing .bf16))
theorem k0_off114_inb : ∀ (v689 : BitVec 32) (k0_hw38 : k0_chk38 v689), ∀ a, (k0_off114 v689) a + S1x4x128.size a ≤ S16384x4x128.size a := fun v689 k0_hw38 => k0_hw38.1
theorem k0_off114_wordsbf16 : ∀ (v689 : BitVec 32) (k0_hw38 : k0_chk38 v689), (Rect.unit (s := S16384x4x128) (k0_off114 v689) S1x4x128.size (k0_off114_inb v689 k0_hw38)).WholeWords (EltTy.packing .bf16) := fun v689 k0_hw38 => k0_hw38.2 (k0_off114_inb v689 k0_hw38)

def k0_cond20 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_432 : BitVec 32 := 0#32
  let v698 : BitVec 1 := Scalar.cmpi .sgt arg4 c0_i32_432
  let v699 : BitVec 32 := Scalar.extui v698
  let c0_i32_433 : BitVec 32 := 0#32
  let v700 : BitVec 1 := Scalar.cmpi .ne v699 c0_i32_433
  v700

def k0_off115 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let v1282 : Index := Scalar.indexCast v1281
  ![v1282.toNat]
def k0_off116 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let c0_i32_837 : BitVec 32 := 0#32
  let c0_i32_838 : BitVec 32 := 0#32
  ![v1281.toNat, 0, 0]
def k0_off117 (v1283 : BitVec 32) : Fin 3 → Nat :=
  let c0_i32_839 : BitVec 32 := 0#32
  let c0_i32_840 : BitVec 32 := 0#32
  ![v1283.toNat, 0, 0]

def k0_chk39 (k0_t1 : Fin k0_t1_loop.trips) (v1283 : BitVec 32) : Prop :=
  (∀ (k0_h20 : k0_cond20 k0_t1 = 1#1), ∀ a, (k0_off117 v1283) a + S1x4x128.size a ≤ S16384x4x128.size a) ∧
  (∀ (k0_h20 : k0_cond20 k0_t1 = 1#1), ∀ (hinb : ∀ a, (k0_off117 v1283) a + S1x4x128.size a ≤ S16384x4x128.size a), (Rect.unit (s := S16384x4x128) (k0_off117 v1283) S1x4x128.size hinb).WholeWords (EltTy.packing .bf16))
theorem k0_off117_inb : ∀ (k0_t1 : Fin k0_t1_loop.trips) (v1283 : BitVec 32) (k0_hw39 : k0_chk39 k0_t1 v1283), ∀ (k0_h20 : k0_cond20 k0_t1 = 1#1), ∀ a, (k0_off117 v1283) a + S1x4x128.size a ≤ S16384x4x128.size a := fun k0_t1 v1283 k0_hw39 k0_h20 => k0_hw39.1 k0_h20
theorem k0_off117_wordsbf16 : ∀ (k0_t1 : Fin k0_t1_loop.trips) (v1283 : BitVec 32) (k0_hw39 : k0_chk39 k0_t1 v1283), ∀ (k0_h20 : k0_cond20 k0_t1 = 1#1), (Rect.unit (s := S16384x4x128) (k0_off117 v1283) S1x4x128.size (k0_off117_inb k0_t1 v1283 k0_hw39 k0_h20)).WholeWords (EltTy.packing .bf16) := fun k0_t1 v1283 k0_hw39 k0_h20 => k0_hw39.2 k0_h20 (k0_off117_inb k0_t1 v1283 k0_hw39 k0_h20)

def k0_off118 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let v701 : Index := Scalar.indexCast v697
  ![v701.toNat]
def k0_off119 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c0_i32_435 : BitVec 32 := 0#32
  let c0_i32_436 : BitVec 32 := 0#32
  ![v697.toNat, 0, 0]
def k0_off120 (v702 : BitVec 32) : Fin 3 → Nat :=
  let c0_i32_437 : BitVec 32 := 0#32
  let c0_i32_438 : BitVec 32 := 0#32
  ![v702.toNat, 0, 0]

def k0_chk40 (v702 : BitVec 32) : Prop :=
  (∀ a, (k0_off120 v702) a + S1x4x128.size a ≤ S16384x4x128.size a) ∧
  (∀ (hinb : ∀ a, (k0_off120 v702) a + S1x4x128.size a ≤ S16384x4x128.size a), (Rect.unit (s := S16384x4x128) (k0_off120 v702) S1x4x128.size hinb).WholeWords (EltTy.packing .bf16))
theorem k0_off120_inb : ∀ (v702 : BitVec 32) (k0_hw40 : k0_chk40 v702), ∀ a, (k0_off120 v702) a + S1x4x128.size a ≤ S16384x4x128.size a := fun v702 k0_hw40 => k0_hw40.1
theorem k0_off120_wordsbf16 : ∀ (v702 : BitVec 32) (k0_hw40 : k0_chk40 v702), (Rect.unit (s := S16384x4x128) (k0_off120 v702) S1x4x128.size (k0_off120_inb v702 k0_hw40)).WholeWords (EltTy.packing .bf16) := fun v702 k0_hw40 => k0_hw40.2 (k0_off120_inb v702 k0_hw40)

def k0_cond21 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_441 : BitVec 32 := 0#32
  let v711 : BitVec 1 := Scalar.cmpi .sgt arg4 c0_i32_441
  let v712 : BitVec 32 := Scalar.extui v711
  let c0_i32_442 : BitVec 32 := 0#32
  let v713 : BitVec 1 := Scalar.cmpi .ne v712 c0_i32_442
  v713

def k0_off121 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let v1282 : Index := Scalar.indexCast v1281
  ![v1282.toNat]
def k0_off122 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let c0_i32_837 : BitVec 32 := 0#32
  let c0_i32_838 : BitVec 32 := 0#32
  ![v1281.toNat, 0, 0]
def k0_off123 (v1283 : BitVec 32) : Fin 3 → Nat :=
  let c0_i32_839 : BitVec 32 := 0#32
  let c0_i32_840 : BitVec 32 := 0#32
  ![v1283.toNat, 0, 0]

def k0_chk41 (k0_t1 : Fin k0_t1_loop.trips) (v1283 : BitVec 32) : Prop :=
  (∀ (k0_h21 : k0_cond21 k0_t1 = 1#1), ∀ a, (k0_off123 v1283) a + S1x4x128.size a ≤ S16384x4x128.size a) ∧
  (∀ (k0_h21 : k0_cond21 k0_t1 = 1#1), ∀ (hinb : ∀ a, (k0_off123 v1283) a + S1x4x128.size a ≤ S16384x4x128.size a), (Rect.unit (s := S16384x4x128) (k0_off123 v1283) S1x4x128.size hinb).WholeWords (EltTy.packing .bf16))
theorem k0_off123_inb : ∀ (k0_t1 : Fin k0_t1_loop.trips) (v1283 : BitVec 32) (k0_hw41 : k0_chk41 k0_t1 v1283), ∀ (k0_h21 : k0_cond21 k0_t1 = 1#1), ∀ a, (k0_off123 v1283) a + S1x4x128.size a ≤ S16384x4x128.size a := fun k0_t1 v1283 k0_hw41 k0_h21 => k0_hw41.1 k0_h21
theorem k0_off123_wordsbf16 : ∀ (k0_t1 : Fin k0_t1_loop.trips) (v1283 : BitVec 32) (k0_hw41 : k0_chk41 k0_t1 v1283), ∀ (k0_h21 : k0_cond21 k0_t1 = 1#1), (Rect.unit (s := S16384x4x128) (k0_off123 v1283) S1x4x128.size (k0_off123_inb k0_t1 v1283 k0_hw41 k0_h21)).WholeWords (EltTy.packing .bf16) := fun k0_t1 v1283 k0_hw41 k0_h21 => k0_hw41.2 k0_h21 (k0_off123_inb k0_t1 v1283 k0_hw41 k0_h21)

def k0_off124 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let v714 : Index := Scalar.indexCast v710
  ![v714.toNat]
def k0_off125 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c0_i32_444 : BitVec 32 := 0#32
  let c0_i32_445 : BitVec 32 := 0#32
  ![v710.toNat, 0, 0]
def k0_off126 (v715 : BitVec 32) : Fin 3 → Nat :=
  let c0_i32_446 : BitVec 32 := 0#32
  let c0_i32_447 : BitVec 32 := 0#32
  ![v715.toNat, 0, 0]

def k0_chk42 (v715 : BitVec 32) : Prop :=
  (∀ a, (k0_off126 v715) a + S1x4x128.size a ≤ S16384x4x128.size a) ∧
  (∀ (hinb : ∀ a, (k0_off126 v715) a + S1x4x128.size a ≤ S16384x4x128.size a), (Rect.unit (s := S16384x4x128) (k0_off126 v715) S1x4x128.size hinb).WholeWords (EltTy.packing .bf16))
theorem k0_off126_inb : ∀ (v715 : BitVec 32) (k0_hw42 : k0_chk42 v715), ∀ a, (k0_off126 v715) a + S1x4x128.size a ≤ S16384x4x128.size a := fun v715 k0_hw42 => k0_hw42.1
theorem k0_off126_wordsbf16 : ∀ (v715 : BitVec 32) (k0_hw42 : k0_chk42 v715), (Rect.unit (s := S16384x4x128) (k0_off126 v715) S1x4x128.size (k0_off126_inb v715 k0_hw42)).WholeWords (EltTy.packing .bf16) := fun v715 k0_hw42 => k0_hw42.2 (k0_off126_inb v715 k0_hw42)

def k0_cond22 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_450 : BitVec 32 := 0#32
  let v724 : BitVec 1 := Scalar.cmpi .sgt arg4 c0_i32_450
  let v725 : BitVec 32 := Scalar.extui v724
  let c0_i32_451 : BitVec 32 := 0#32
  let v726 : BitVec 1 := Scalar.cmpi .ne v725 c0_i32_451
  v726

def k0_off127 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let v1282 : Index := Scalar.indexCast v1281
  ![v1282.toNat]
def k0_off128 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let c0_i32_837 : BitVec 32 := 0#32
  let c0_i32_838 : BitVec 32 := 0#32
  ![v1281.toNat, 0, 0]
def k0_off129 (v1283 : BitVec 32) : Fin 3 → Nat :=
  let c0_i32_839 : BitVec 32 := 0#32
  let c0_i32_840 : BitVec 32 := 0#32
  ![v1283.toNat, 0, 0]

def k0_chk43 (k0_t1 : Fin k0_t1_loop.trips) (v1283 : BitVec 32) : Prop :=
  (∀ (k0_h22 : k0_cond22 k0_t1 = 1#1), ∀ a, (k0_off129 v1283) a + S1x4x128.size a ≤ S16384x4x128.size a) ∧
  (∀ (k0_h22 : k0_cond22 k0_t1 = 1#1), ∀ (hinb : ∀ a, (k0_off129 v1283) a + S1x4x128.size a ≤ S16384x4x128.size a), (Rect.unit (s := S16384x4x128) (k0_off129 v1283) S1x4x128.size hinb).WholeWords (EltTy.packing .bf16))
theorem k0_off129_inb : ∀ (k0_t1 : Fin k0_t1_loop.trips) (v1283 : BitVec 32) (k0_hw43 : k0_chk43 k0_t1 v1283), ∀ (k0_h22 : k0_cond22 k0_t1 = 1#1), ∀ a, (k0_off129 v1283) a + S1x4x128.size a ≤ S16384x4x128.size a := fun k0_t1 v1283 k0_hw43 k0_h22 => k0_hw43.1 k0_h22
theorem k0_off129_wordsbf16 : ∀ (k0_t1 : Fin k0_t1_loop.trips) (v1283 : BitVec 32) (k0_hw43 : k0_chk43 k0_t1 v1283), ∀ (k0_h22 : k0_cond22 k0_t1 = 1#1), (Rect.unit (s := S16384x4x128) (k0_off129 v1283) S1x4x128.size (k0_off129_inb k0_t1 v1283 k0_hw43 k0_h22)).WholeWords (EltTy.packing .bf16) := fun k0_t1 v1283 k0_hw43 k0_h22 => k0_hw43.2 k0_h22 (k0_off129_inb k0_t1 v1283 k0_hw43 k0_h22)

def k0_off130 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let v727 : Index := Scalar.indexCast v723
  ![v727.toNat]
def k0_off131 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c0_i32_453 : BitVec 32 := 0#32
  let c0_i32_454 : BitVec 32 := 0#32
  ![v723.toNat, 0, 0]
def k0_off132 (v728 : BitVec 32) : Fin 3 → Nat :=
  let c0_i32_455 : BitVec 32 := 0#32
  let c0_i32_456 : BitVec 32 := 0#32
  ![v728.toNat, 0, 0]

def k0_chk44 (v728 : BitVec 32) : Prop :=
  (∀ a, (k0_off132 v728) a + S1x4x128.size a ≤ S16384x4x128.size a) ∧
  (∀ (hinb : ∀ a, (k0_off132 v728) a + S1x4x128.size a ≤ S16384x4x128.size a), (Rect.unit (s := S16384x4x128) (k0_off132 v728) S1x4x128.size hinb).WholeWords (EltTy.packing .bf16))
theorem k0_off132_inb : ∀ (v728 : BitVec 32) (k0_hw44 : k0_chk44 v728), ∀ a, (k0_off132 v728) a + S1x4x128.size a ≤ S16384x4x128.size a := fun v728 k0_hw44 => k0_hw44.1
theorem k0_off132_wordsbf16 : ∀ (v728 : BitVec 32) (k0_hw44 : k0_chk44 v728), (Rect.unit (s := S16384x4x128) (k0_off132 v728) S1x4x128.size (k0_off132_inb v728 k0_hw44)).WholeWords (EltTy.packing .bf16) := fun v728 k0_hw44 => k0_hw44.2 (k0_off132_inb v728 k0_hw44)

def k0_cond23 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_459 : BitVec 32 := 0#32
  let v737 : BitVec 1 := Scalar.cmpi .sgt arg4 c0_i32_459
  let v738 : BitVec 32 := Scalar.extui v737
  let c0_i32_460 : BitVec 32 := 0#32
  let v739 : BitVec 1 := Scalar.cmpi .ne v738 c0_i32_460
  v739

def k0_off133 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let v1282 : Index := Scalar.indexCast v1281
  ![v1282.toNat]
def k0_off134 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let c0_i32_837 : BitVec 32 := 0#32
  let c0_i32_838 : BitVec 32 := 0#32
  ![v1281.toNat, 0, 0]
def k0_off135 (v1283 : BitVec 32) : Fin 3 → Nat :=
  let c0_i32_839 : BitVec 32 := 0#32
  let c0_i32_840 : BitVec 32 := 0#32
  ![v1283.toNat, 0, 0]

def k0_chk45 (k0_t1 : Fin k0_t1_loop.trips) (v1283 : BitVec 32) : Prop :=
  (∀ (k0_h23 : k0_cond23 k0_t1 = 1#1), ∀ a, (k0_off135 v1283) a + S1x4x128.size a ≤ S16384x4x128.size a) ∧
  (∀ (k0_h23 : k0_cond23 k0_t1 = 1#1), ∀ (hinb : ∀ a, (k0_off135 v1283) a + S1x4x128.size a ≤ S16384x4x128.size a), (Rect.unit (s := S16384x4x128) (k0_off135 v1283) S1x4x128.size hinb).WholeWords (EltTy.packing .bf16))
theorem k0_off135_inb : ∀ (k0_t1 : Fin k0_t1_loop.trips) (v1283 : BitVec 32) (k0_hw45 : k0_chk45 k0_t1 v1283), ∀ (k0_h23 : k0_cond23 k0_t1 = 1#1), ∀ a, (k0_off135 v1283) a + S1x4x128.size a ≤ S16384x4x128.size a := fun k0_t1 v1283 k0_hw45 k0_h23 => k0_hw45.1 k0_h23
theorem k0_off135_wordsbf16 : ∀ (k0_t1 : Fin k0_t1_loop.trips) (v1283 : BitVec 32) (k0_hw45 : k0_chk45 k0_t1 v1283), ∀ (k0_h23 : k0_cond23 k0_t1 = 1#1), (Rect.unit (s := S16384x4x128) (k0_off135 v1283) S1x4x128.size (k0_off135_inb k0_t1 v1283 k0_hw45 k0_h23)).WholeWords (EltTy.packing .bf16) := fun k0_t1 v1283 k0_hw45 k0_h23 => k0_hw45.2 k0_h23 (k0_off135_inb k0_t1 v1283 k0_hw45 k0_h23)

def k0_off136 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let v740 : Index := Scalar.indexCast v736
  ![v740.toNat]
def k0_off137 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c0_i32_462 : BitVec 32 := 0#32
  let c0_i32_463 : BitVec 32 := 0#32
  ![v736.toNat, 0, 0]
def k0_off138 (v741 : BitVec 32) : Fin 3 → Nat :=
  let c0_i32_464 : BitVec 32 := 0#32
  let c0_i32_465 : BitVec 32 := 0#32
  ![v741.toNat, 0, 0]

def k0_chk46 (v741 : BitVec 32) : Prop :=
  (∀ a, (k0_off138 v741) a + S1x4x128.size a ≤ S16384x4x128.size a) ∧
  (∀ (hinb : ∀ a, (k0_off138 v741) a + S1x4x128.size a ≤ S16384x4x128.size a), (Rect.unit (s := S16384x4x128) (k0_off138 v741) S1x4x128.size hinb).WholeWords (EltTy.packing .bf16))
theorem k0_off138_inb : ∀ (v741 : BitVec 32) (k0_hw46 : k0_chk46 v741), ∀ a, (k0_off138 v741) a + S1x4x128.size a ≤ S16384x4x128.size a := fun v741 k0_hw46 => k0_hw46.1
theorem k0_off138_wordsbf16 : ∀ (v741 : BitVec 32) (k0_hw46 : k0_chk46 v741), (Rect.unit (s := S16384x4x128) (k0_off138 v741) S1x4x128.size (k0_off138_inb v741 k0_hw46)).WholeWords (EltTy.packing .bf16) := fun v741 k0_hw46 => k0_hw46.2 (k0_off138_inb v741 k0_hw46)

def k0_cond24 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_468 : BitVec 32 := 0#32
  let v750 : BitVec 1 := Scalar.cmpi .sgt arg4 c0_i32_468
  let v751 : BitVec 32 := Scalar.extui v750
  let c0_i32_469 : BitVec 32 := 0#32
  let v752 : BitVec 1 := Scalar.cmpi .ne v751 c0_i32_469
  v752

def k0_off139 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let v1282 : Index := Scalar.indexCast v1281
  ![v1282.toNat]
def k0_off140 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let c0_i32_837 : BitVec 32 := 0#32
  let c0_i32_838 : BitVec 32 := 0#32
  ![v1281.toNat, 0, 0]
def k0_off141 (v1283 : BitVec 32) : Fin 3 → Nat :=
  let c0_i32_839 : BitVec 32 := 0#32
  let c0_i32_840 : BitVec 32 := 0#32
  ![v1283.toNat, 0, 0]

def k0_chk47 (k0_t1 : Fin k0_t1_loop.trips) (v1283 : BitVec 32) : Prop :=
  (∀ (k0_h24 : k0_cond24 k0_t1 = 1#1), ∀ a, (k0_off141 v1283) a + S1x4x128.size a ≤ S16384x4x128.size a) ∧
  (∀ (k0_h24 : k0_cond24 k0_t1 = 1#1), ∀ (hinb : ∀ a, (k0_off141 v1283) a + S1x4x128.size a ≤ S16384x4x128.size a), (Rect.unit (s := S16384x4x128) (k0_off141 v1283) S1x4x128.size hinb).WholeWords (EltTy.packing .bf16))
theorem k0_off141_inb : ∀ (k0_t1 : Fin k0_t1_loop.trips) (v1283 : BitVec 32) (k0_hw47 : k0_chk47 k0_t1 v1283), ∀ (k0_h24 : k0_cond24 k0_t1 = 1#1), ∀ a, (k0_off141 v1283) a + S1x4x128.size a ≤ S16384x4x128.size a := fun k0_t1 v1283 k0_hw47 k0_h24 => k0_hw47.1 k0_h24
theorem k0_off141_wordsbf16 : ∀ (k0_t1 : Fin k0_t1_loop.trips) (v1283 : BitVec 32) (k0_hw47 : k0_chk47 k0_t1 v1283), ∀ (k0_h24 : k0_cond24 k0_t1 = 1#1), (Rect.unit (s := S16384x4x128) (k0_off141 v1283) S1x4x128.size (k0_off141_inb k0_t1 v1283 k0_hw47 k0_h24)).WholeWords (EltTy.packing .bf16) := fun k0_t1 v1283 k0_hw47 k0_h24 => k0_hw47.2 k0_h24 (k0_off141_inb k0_t1 v1283 k0_hw47 k0_h24)

def k0_off142 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let v753 : Index := Scalar.indexCast v749
  ![v753.toNat]
def k0_off143 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c0_i32_471 : BitVec 32 := 0#32
  let c0_i32_472 : BitVec 32 := 0#32
  ![v749.toNat, 0, 0]
def k0_off144 (v754 : BitVec 32) : Fin 3 → Nat :=
  let c0_i32_473 : BitVec 32 := 0#32
  let c0_i32_474 : BitVec 32 := 0#32
  ![v754.toNat, 0, 0]

def k0_chk48 (v754 : BitVec 32) : Prop :=
  (∀ a, (k0_off144 v754) a + S1x4x128.size a ≤ S16384x4x128.size a) ∧
  (∀ (hinb : ∀ a, (k0_off144 v754) a + S1x4x128.size a ≤ S16384x4x128.size a), (Rect.unit (s := S16384x4x128) (k0_off144 v754) S1x4x128.size hinb).WholeWords (EltTy.packing .bf16))
theorem k0_off144_inb : ∀ (v754 : BitVec 32) (k0_hw48 : k0_chk48 v754), ∀ a, (k0_off144 v754) a + S1x4x128.size a ≤ S16384x4x128.size a := fun v754 k0_hw48 => k0_hw48.1
theorem k0_off144_wordsbf16 : ∀ (v754 : BitVec 32) (k0_hw48 : k0_chk48 v754), (Rect.unit (s := S16384x4x128) (k0_off144 v754) S1x4x128.size (k0_off144_inb v754 k0_hw48)).WholeWords (EltTy.packing .bf16) := fun v754 k0_hw48 => k0_hw48.2 (k0_off144_inb v754 k0_hw48)

def k0_cond25 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_477 : BitVec 32 := 0#32
  let v763 : BitVec 1 := Scalar.cmpi .sgt arg4 c0_i32_477
  let v764 : BitVec 32 := Scalar.extui v763
  let c0_i32_478 : BitVec 32 := 0#32
  let v765 : BitVec 1 := Scalar.cmpi .ne v764 c0_i32_478
  v765

def k0_off145 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let v1282 : Index := Scalar.indexCast v1281
  ![v1282.toNat]
def k0_off146 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let c0_i32_837 : BitVec 32 := 0#32
  let c0_i32_838 : BitVec 32 := 0#32
  ![v1281.toNat, 0, 0]
def k0_off147 (v1283 : BitVec 32) : Fin 3 → Nat :=
  let c0_i32_839 : BitVec 32 := 0#32
  let c0_i32_840 : BitVec 32 := 0#32
  ![v1283.toNat, 0, 0]

def k0_chk49 (k0_t1 : Fin k0_t1_loop.trips) (v1283 : BitVec 32) : Prop :=
  (∀ (k0_h25 : k0_cond25 k0_t1 = 1#1), ∀ a, (k0_off147 v1283) a + S1x4x128.size a ≤ S16384x4x128.size a) ∧
  (∀ (k0_h25 : k0_cond25 k0_t1 = 1#1), ∀ (hinb : ∀ a, (k0_off147 v1283) a + S1x4x128.size a ≤ S16384x4x128.size a), (Rect.unit (s := S16384x4x128) (k0_off147 v1283) S1x4x128.size hinb).WholeWords (EltTy.packing .bf16))
theorem k0_off147_inb : ∀ (k0_t1 : Fin k0_t1_loop.trips) (v1283 : BitVec 32) (k0_hw49 : k0_chk49 k0_t1 v1283), ∀ (k0_h25 : k0_cond25 k0_t1 = 1#1), ∀ a, (k0_off147 v1283) a + S1x4x128.size a ≤ S16384x4x128.size a := fun k0_t1 v1283 k0_hw49 k0_h25 => k0_hw49.1 k0_h25
theorem k0_off147_wordsbf16 : ∀ (k0_t1 : Fin k0_t1_loop.trips) (v1283 : BitVec 32) (k0_hw49 : k0_chk49 k0_t1 v1283), ∀ (k0_h25 : k0_cond25 k0_t1 = 1#1), (Rect.unit (s := S16384x4x128) (k0_off147 v1283) S1x4x128.size (k0_off147_inb k0_t1 v1283 k0_hw49 k0_h25)).WholeWords (EltTy.packing .bf16) := fun k0_t1 v1283 k0_hw49 k0_h25 => k0_hw49.2 k0_h25 (k0_off147_inb k0_t1 v1283 k0_hw49 k0_h25)

def k0_off148 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let v766 : Index := Scalar.indexCast v762
  ![v766.toNat]
def k0_off149 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c0_i32_480 : BitVec 32 := 0#32
  let c0_i32_481 : BitVec 32 := 0#32
  ![v762.toNat, 0, 0]
def k0_off150 (v767 : BitVec 32) : Fin 3 → Nat :=
  let c0_i32_482 : BitVec 32 := 0#32
  let c0_i32_483 : BitVec 32 := 0#32
  ![v767.toNat, 0, 0]

def k0_chk50 (v767 : BitVec 32) : Prop :=
  (∀ a, (k0_off150 v767) a + S1x4x128.size a ≤ S16384x4x128.size a) ∧
  (∀ (hinb : ∀ a, (k0_off150 v767) a + S1x4x128.size a ≤ S16384x4x128.size a), (Rect.unit (s := S16384x4x128) (k0_off150 v767) S1x4x128.size hinb).WholeWords (EltTy.packing .bf16))
theorem k0_off150_inb : ∀ (v767 : BitVec 32) (k0_hw50 : k0_chk50 v767), ∀ a, (k0_off150 v767) a + S1x4x128.size a ≤ S16384x4x128.size a := fun v767 k0_hw50 => k0_hw50.1
theorem k0_off150_wordsbf16 : ∀ (v767 : BitVec 32) (k0_hw50 : k0_chk50 v767), (Rect.unit (s := S16384x4x128) (k0_off150 v767) S1x4x128.size (k0_off150_inb v767 k0_hw50)).WholeWords (EltTy.packing .bf16) := fun v767 k0_hw50 => k0_hw50.2 (k0_off150_inb v767 k0_hw50)

def k0_cond26 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_486 : BitVec 32 := 0#32
  let v776 : BitVec 1 := Scalar.cmpi .sgt arg4 c0_i32_486
  let v777 : BitVec 32 := Scalar.extui v776
  let c0_i32_487 : BitVec 32 := 0#32
  let v778 : BitVec 1 := Scalar.cmpi .ne v777 c0_i32_487
  v778

def k0_off151 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let v1282 : Index := Scalar.indexCast v1281
  ![v1282.toNat]
def k0_off152 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let c0_i32_837 : BitVec 32 := 0#32
  let c0_i32_838 : BitVec 32 := 0#32
  ![v1281.toNat, 0, 0]
def k0_off153 (v1283 : BitVec 32) : Fin 3 → Nat :=
  let c0_i32_839 : BitVec 32 := 0#32
  let c0_i32_840 : BitVec 32 := 0#32
  ![v1283.toNat, 0, 0]

def k0_chk51 (k0_t1 : Fin k0_t1_loop.trips) (v1283 : BitVec 32) : Prop :=
  (∀ (k0_h26 : k0_cond26 k0_t1 = 1#1), ∀ a, (k0_off153 v1283) a + S1x4x128.size a ≤ S16384x4x128.size a) ∧
  (∀ (k0_h26 : k0_cond26 k0_t1 = 1#1), ∀ (hinb : ∀ a, (k0_off153 v1283) a + S1x4x128.size a ≤ S16384x4x128.size a), (Rect.unit (s := S16384x4x128) (k0_off153 v1283) S1x4x128.size hinb).WholeWords (EltTy.packing .bf16))
theorem k0_off153_inb : ∀ (k0_t1 : Fin k0_t1_loop.trips) (v1283 : BitVec 32) (k0_hw51 : k0_chk51 k0_t1 v1283), ∀ (k0_h26 : k0_cond26 k0_t1 = 1#1), ∀ a, (k0_off153 v1283) a + S1x4x128.size a ≤ S16384x4x128.size a := fun k0_t1 v1283 k0_hw51 k0_h26 => k0_hw51.1 k0_h26
theorem k0_off153_wordsbf16 : ∀ (k0_t1 : Fin k0_t1_loop.trips) (v1283 : BitVec 32) (k0_hw51 : k0_chk51 k0_t1 v1283), ∀ (k0_h26 : k0_cond26 k0_t1 = 1#1), (Rect.unit (s := S16384x4x128) (k0_off153 v1283) S1x4x128.size (k0_off153_inb k0_t1 v1283 k0_hw51 k0_h26)).WholeWords (EltTy.packing .bf16) := fun k0_t1 v1283 k0_hw51 k0_h26 => k0_hw51.2 k0_h26 (k0_off153_inb k0_t1 v1283 k0_hw51 k0_h26)

def k0_off154 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let v779 : Index := Scalar.indexCast v775
  ![v779.toNat]
def k0_off155 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c0_i32_489 : BitVec 32 := 0#32
  let c0_i32_490 : BitVec 32 := 0#32
  ![v775.toNat, 0, 0]
def k0_off156 (v780 : BitVec 32) : Fin 3 → Nat :=
  let c0_i32_491 : BitVec 32 := 0#32
  let c0_i32_492 : BitVec 32 := 0#32
  ![v780.toNat, 0, 0]

def k0_chk52 (v780 : BitVec 32) : Prop :=
  (∀ a, (k0_off156 v780) a + S1x4x128.size a ≤ S16384x4x128.size a) ∧
  (∀ (hinb : ∀ a, (k0_off156 v780) a + S1x4x128.size a ≤ S16384x4x128.size a), (Rect.unit (s := S16384x4x128) (k0_off156 v780) S1x4x128.size hinb).WholeWords (EltTy.packing .bf16))
theorem k0_off156_inb : ∀ (v780 : BitVec 32) (k0_hw52 : k0_chk52 v780), ∀ a, (k0_off156 v780) a + S1x4x128.size a ≤ S16384x4x128.size a := fun v780 k0_hw52 => k0_hw52.1
theorem k0_off156_wordsbf16 : ∀ (v780 : BitVec 32) (k0_hw52 : k0_chk52 v780), (Rect.unit (s := S16384x4x128) (k0_off156 v780) S1x4x128.size (k0_off156_inb v780 k0_hw52)).WholeWords (EltTy.packing .bf16) := fun v780 k0_hw52 => k0_hw52.2 (k0_off156_inb v780 k0_hw52)

def k0_cond27 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_495 : BitVec 32 := 0#32
  let v789 : BitVec 1 := Scalar.cmpi .sgt arg4 c0_i32_495
  let v790 : BitVec 32 := Scalar.extui v789
  let c0_i32_496 : BitVec 32 := 0#32
  let v791 : BitVec 1 := Scalar.cmpi .ne v790 c0_i32_496
  v791

def k0_off157 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let v1282 : Index := Scalar.indexCast v1281
  ![v1282.toNat]
def k0_off158 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let c0_i32_837 : BitVec 32 := 0#32
  let c0_i32_838 : BitVec 32 := 0#32
  ![v1281.toNat, 0, 0]
def k0_off159 (v1283 : BitVec 32) : Fin 3 → Nat :=
  let c0_i32_839 : BitVec 32 := 0#32
  let c0_i32_840 : BitVec 32 := 0#32
  ![v1283.toNat, 0, 0]

def k0_chk53 (k0_t1 : Fin k0_t1_loop.trips) (v1283 : BitVec 32) : Prop :=
  (∀ (k0_h27 : k0_cond27 k0_t1 = 1#1), ∀ a, (k0_off159 v1283) a + S1x4x128.size a ≤ S16384x4x128.size a) ∧
  (∀ (k0_h27 : k0_cond27 k0_t1 = 1#1), ∀ (hinb : ∀ a, (k0_off159 v1283) a + S1x4x128.size a ≤ S16384x4x128.size a), (Rect.unit (s := S16384x4x128) (k0_off159 v1283) S1x4x128.size hinb).WholeWords (EltTy.packing .bf16))
theorem k0_off159_inb : ∀ (k0_t1 : Fin k0_t1_loop.trips) (v1283 : BitVec 32) (k0_hw53 : k0_chk53 k0_t1 v1283), ∀ (k0_h27 : k0_cond27 k0_t1 = 1#1), ∀ a, (k0_off159 v1283) a + S1x4x128.size a ≤ S16384x4x128.size a := fun k0_t1 v1283 k0_hw53 k0_h27 => k0_hw53.1 k0_h27
theorem k0_off159_wordsbf16 : ∀ (k0_t1 : Fin k0_t1_loop.trips) (v1283 : BitVec 32) (k0_hw53 : k0_chk53 k0_t1 v1283), ∀ (k0_h27 : k0_cond27 k0_t1 = 1#1), (Rect.unit (s := S16384x4x128) (k0_off159 v1283) S1x4x128.size (k0_off159_inb k0_t1 v1283 k0_hw53 k0_h27)).WholeWords (EltTy.packing .bf16) := fun k0_t1 v1283 k0_hw53 k0_h27 => k0_hw53.2 k0_h27 (k0_off159_inb k0_t1 v1283 k0_hw53 k0_h27)

def k0_off160 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let v792 : Index := Scalar.indexCast v788
  ![v792.toNat]
def k0_off161 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c0_i32_498 : BitVec 32 := 0#32
  let c0_i32_499 : BitVec 32 := 0#32
  ![v788.toNat, 0, 0]
def k0_off162 (v793 : BitVec 32) : Fin 3 → Nat :=
  let c0_i32_500 : BitVec 32 := 0#32
  let c0_i32_501 : BitVec 32 := 0#32
  ![v793.toNat, 0, 0]

def k0_chk54 (v793 : BitVec 32) : Prop :=
  (∀ a, (k0_off162 v793) a + S1x4x128.size a ≤ S16384x4x128.size a) ∧
  (∀ (hinb : ∀ a, (k0_off162 v793) a + S1x4x128.size a ≤ S16384x4x128.size a), (Rect.unit (s := S16384x4x128) (k0_off162 v793) S1x4x128.size hinb).WholeWords (EltTy.packing .bf16))
theorem k0_off162_inb : ∀ (v793 : BitVec 32) (k0_hw54 : k0_chk54 v793), ∀ a, (k0_off162 v793) a + S1x4x128.size a ≤ S16384x4x128.size a := fun v793 k0_hw54 => k0_hw54.1
theorem k0_off162_wordsbf16 : ∀ (v793 : BitVec 32) (k0_hw54 : k0_chk54 v793), (Rect.unit (s := S16384x4x128) (k0_off162 v793) S1x4x128.size (k0_off162_inb v793 k0_hw54)).WholeWords (EltTy.packing .bf16) := fun v793 k0_hw54 => k0_hw54.2 (k0_off162_inb v793 k0_hw54)

def k0_cond28 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_504 : BitVec 32 := 0#32
  let v802 : BitVec 1 := Scalar.cmpi .sgt arg4 c0_i32_504
  let v803 : BitVec 32 := Scalar.extui v802
  let c0_i32_505 : BitVec 32 := 0#32
  let v804 : BitVec 1 := Scalar.cmpi .ne v803 c0_i32_505
  v804

def k0_off163 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let v1282 : Index := Scalar.indexCast v1281
  ![v1282.toNat]
def k0_off164 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let c0_i32_837 : BitVec 32 := 0#32
  let c0_i32_838 : BitVec 32 := 0#32
  ![v1281.toNat, 0, 0]
def k0_off165 (v1283 : BitVec 32) : Fin 3 → Nat :=
  let c0_i32_839 : BitVec 32 := 0#32
  let c0_i32_840 : BitVec 32 := 0#32
  ![v1283.toNat, 0, 0]

def k0_chk55 (k0_t1 : Fin k0_t1_loop.trips) (v1283 : BitVec 32) : Prop :=
  (∀ (k0_h28 : k0_cond28 k0_t1 = 1#1), ∀ a, (k0_off165 v1283) a + S1x4x128.size a ≤ S16384x4x128.size a) ∧
  (∀ (k0_h28 : k0_cond28 k0_t1 = 1#1), ∀ (hinb : ∀ a, (k0_off165 v1283) a + S1x4x128.size a ≤ S16384x4x128.size a), (Rect.unit (s := S16384x4x128) (k0_off165 v1283) S1x4x128.size hinb).WholeWords (EltTy.packing .bf16))
theorem k0_off165_inb : ∀ (k0_t1 : Fin k0_t1_loop.trips) (v1283 : BitVec 32) (k0_hw55 : k0_chk55 k0_t1 v1283), ∀ (k0_h28 : k0_cond28 k0_t1 = 1#1), ∀ a, (k0_off165 v1283) a + S1x4x128.size a ≤ S16384x4x128.size a := fun k0_t1 v1283 k0_hw55 k0_h28 => k0_hw55.1 k0_h28
theorem k0_off165_wordsbf16 : ∀ (k0_t1 : Fin k0_t1_loop.trips) (v1283 : BitVec 32) (k0_hw55 : k0_chk55 k0_t1 v1283), ∀ (k0_h28 : k0_cond28 k0_t1 = 1#1), (Rect.unit (s := S16384x4x128) (k0_off165 v1283) S1x4x128.size (k0_off165_inb k0_t1 v1283 k0_hw55 k0_h28)).WholeWords (EltTy.packing .bf16) := fun k0_t1 v1283 k0_hw55 k0_h28 => k0_hw55.2 k0_h28 (k0_off165_inb k0_t1 v1283 k0_hw55 k0_h28)

def k0_off166 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let v805 : Index := Scalar.indexCast v801
  ![v805.toNat]
def k0_off167 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c0_i32_507 : BitVec 32 := 0#32
  let c0_i32_508 : BitVec 32 := 0#32
  ![v801.toNat, 0, 0]
def k0_off168 (v806 : BitVec 32) : Fin 3 → Nat :=
  let c0_i32_509 : BitVec 32 := 0#32
  let c0_i32_510 : BitVec 32 := 0#32
  ![v806.toNat, 0, 0]

def k0_chk56 (v806 : BitVec 32) : Prop :=
  (∀ a, (k0_off168 v806) a + S1x4x128.size a ≤ S16384x4x128.size a) ∧
  (∀ (hinb : ∀ a, (k0_off168 v806) a + S1x4x128.size a ≤ S16384x4x128.size a), (Rect.unit (s := S16384x4x128) (k0_off168 v806) S1x4x128.size hinb).WholeWords (EltTy.packing .bf16))
theorem k0_off168_inb : ∀ (v806 : BitVec 32) (k0_hw56 : k0_chk56 v806), ∀ a, (k0_off168 v806) a + S1x4x128.size a ≤ S16384x4x128.size a := fun v806 k0_hw56 => k0_hw56.1
theorem k0_off168_wordsbf16 : ∀ (v806 : BitVec 32) (k0_hw56 : k0_chk56 v806), (Rect.unit (s := S16384x4x128) (k0_off168 v806) S1x4x128.size (k0_off168_inb v806 k0_hw56)).WholeWords (EltTy.packing .bf16) := fun v806 k0_hw56 => k0_hw56.2 (k0_off168_inb v806 k0_hw56)

def k0_cond29 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_513 : BitVec 32 := 0#32
  let v815 : BitVec 1 := Scalar.cmpi .sgt arg4 c0_i32_513
  let v816 : BitVec 32 := Scalar.extui v815
  let c0_i32_514 : BitVec 32 := 0#32
  let v817 : BitVec 1 := Scalar.cmpi .ne v816 c0_i32_514
  v817

def k0_off169 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let v1282 : Index := Scalar.indexCast v1281
  ![v1282.toNat]
def k0_off170 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let c0_i32_837 : BitVec 32 := 0#32
  let c0_i32_838 : BitVec 32 := 0#32
  ![v1281.toNat, 0, 0]
def k0_off171 (v1283 : BitVec 32) : Fin 3 → Nat :=
  let c0_i32_839 : BitVec 32 := 0#32
  let c0_i32_840 : BitVec 32 := 0#32
  ![v1283.toNat, 0, 0]

def k0_chk57 (k0_t1 : Fin k0_t1_loop.trips) (v1283 : BitVec 32) : Prop :=
  (∀ (k0_h29 : k0_cond29 k0_t1 = 1#1), ∀ a, (k0_off171 v1283) a + S1x4x128.size a ≤ S16384x4x128.size a) ∧
  (∀ (k0_h29 : k0_cond29 k0_t1 = 1#1), ∀ (hinb : ∀ a, (k0_off171 v1283) a + S1x4x128.size a ≤ S16384x4x128.size a), (Rect.unit (s := S16384x4x128) (k0_off171 v1283) S1x4x128.size hinb).WholeWords (EltTy.packing .bf16))
theorem k0_off171_inb : ∀ (k0_t1 : Fin k0_t1_loop.trips) (v1283 : BitVec 32) (k0_hw57 : k0_chk57 k0_t1 v1283), ∀ (k0_h29 : k0_cond29 k0_t1 = 1#1), ∀ a, (k0_off171 v1283) a + S1x4x128.size a ≤ S16384x4x128.size a := fun k0_t1 v1283 k0_hw57 k0_h29 => k0_hw57.1 k0_h29
theorem k0_off171_wordsbf16 : ∀ (k0_t1 : Fin k0_t1_loop.trips) (v1283 : BitVec 32) (k0_hw57 : k0_chk57 k0_t1 v1283), ∀ (k0_h29 : k0_cond29 k0_t1 = 1#1), (Rect.unit (s := S16384x4x128) (k0_off171 v1283) S1x4x128.size (k0_off171_inb k0_t1 v1283 k0_hw57 k0_h29)).WholeWords (EltTy.packing .bf16) := fun k0_t1 v1283 k0_hw57 k0_h29 => k0_hw57.2 k0_h29 (k0_off171_inb k0_t1 v1283 k0_hw57 k0_h29)

def k0_off172 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let v818 : Index := Scalar.indexCast v814
  ![v818.toNat]
def k0_off173 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c0_i32_516 : BitVec 32 := 0#32
  let c0_i32_517 : BitVec 32 := 0#32
  ![v814.toNat, 0, 0]
def k0_off174 (v819 : BitVec 32) : Fin 3 → Nat :=
  let c0_i32_518 : BitVec 32 := 0#32
  let c0_i32_519 : BitVec 32 := 0#32
  ![v819.toNat, 0, 0]

def k0_chk58 (v819 : BitVec 32) : Prop :=
  (∀ a, (k0_off174 v819) a + S1x4x128.size a ≤ S16384x4x128.size a) ∧
  (∀ (hinb : ∀ a, (k0_off174 v819) a + S1x4x128.size a ≤ S16384x4x128.size a), (Rect.unit (s := S16384x4x128) (k0_off174 v819) S1x4x128.size hinb).WholeWords (EltTy.packing .bf16))
theorem k0_off174_inb : ∀ (v819 : BitVec 32) (k0_hw58 : k0_chk58 v819), ∀ a, (k0_off174 v819) a + S1x4x128.size a ≤ S16384x4x128.size a := fun v819 k0_hw58 => k0_hw58.1
theorem k0_off174_wordsbf16 : ∀ (v819 : BitVec 32) (k0_hw58 : k0_chk58 v819), (Rect.unit (s := S16384x4x128) (k0_off174 v819) S1x4x128.size (k0_off174_inb v819 k0_hw58)).WholeWords (EltTy.packing .bf16) := fun v819 k0_hw58 => k0_hw58.2 (k0_off174_inb v819 k0_hw58)

def k0_cond30 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_522 : BitVec 32 := 0#32
  let v828 : BitVec 1 := Scalar.cmpi .sgt arg4 c0_i32_522
  let v829 : BitVec 32 := Scalar.extui v828
  let c0_i32_523 : BitVec 32 := 0#32
  let v830 : BitVec 1 := Scalar.cmpi .ne v829 c0_i32_523
  v830

def k0_off175 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let v1282 : Index := Scalar.indexCast v1281
  ![v1282.toNat]
def k0_off176 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let c0_i32_837 : BitVec 32 := 0#32
  let c0_i32_838 : BitVec 32 := 0#32
  ![v1281.toNat, 0, 0]
def k0_off177 (v1283 : BitVec 32) : Fin 3 → Nat :=
  let c0_i32_839 : BitVec 32 := 0#32
  let c0_i32_840 : BitVec 32 := 0#32
  ![v1283.toNat, 0, 0]

def k0_chk59 (k0_t1 : Fin k0_t1_loop.trips) (v1283 : BitVec 32) : Prop :=
  (∀ (k0_h30 : k0_cond30 k0_t1 = 1#1), ∀ a, (k0_off177 v1283) a + S1x4x128.size a ≤ S16384x4x128.size a) ∧
  (∀ (k0_h30 : k0_cond30 k0_t1 = 1#1), ∀ (hinb : ∀ a, (k0_off177 v1283) a + S1x4x128.size a ≤ S16384x4x128.size a), (Rect.unit (s := S16384x4x128) (k0_off177 v1283) S1x4x128.size hinb).WholeWords (EltTy.packing .bf16))
theorem k0_off177_inb : ∀ (k0_t1 : Fin k0_t1_loop.trips) (v1283 : BitVec 32) (k0_hw59 : k0_chk59 k0_t1 v1283), ∀ (k0_h30 : k0_cond30 k0_t1 = 1#1), ∀ a, (k0_off177 v1283) a + S1x4x128.size a ≤ S16384x4x128.size a := fun k0_t1 v1283 k0_hw59 k0_h30 => k0_hw59.1 k0_h30
theorem k0_off177_wordsbf16 : ∀ (k0_t1 : Fin k0_t1_loop.trips) (v1283 : BitVec 32) (k0_hw59 : k0_chk59 k0_t1 v1283), ∀ (k0_h30 : k0_cond30 k0_t1 = 1#1), (Rect.unit (s := S16384x4x128) (k0_off177 v1283) S1x4x128.size (k0_off177_inb k0_t1 v1283 k0_hw59 k0_h30)).WholeWords (EltTy.packing .bf16) := fun k0_t1 v1283 k0_hw59 k0_h30 => k0_hw59.2 k0_h30 (k0_off177_inb k0_t1 v1283 k0_hw59 k0_h30)

def k0_off178 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let v831 : Index := Scalar.indexCast v827
  ![v831.toNat]
def k0_off179 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c0_i32_525 : BitVec 32 := 0#32
  let c0_i32_526 : BitVec 32 := 0#32
  ![v827.toNat, 0, 0]
def k0_off180 (v832 : BitVec 32) : Fin 3 → Nat :=
  let c0_i32_527 : BitVec 32 := 0#32
  let c0_i32_528 : BitVec 32 := 0#32
  ![v832.toNat, 0, 0]

def k0_chk60 (v832 : BitVec 32) : Prop :=
  (∀ a, (k0_off180 v832) a + S1x4x128.size a ≤ S16384x4x128.size a) ∧
  (∀ (hinb : ∀ a, (k0_off180 v832) a + S1x4x128.size a ≤ S16384x4x128.size a), (Rect.unit (s := S16384x4x128) (k0_off180 v832) S1x4x128.size hinb).WholeWords (EltTy.packing .bf16))
theorem k0_off180_inb : ∀ (v832 : BitVec 32) (k0_hw60 : k0_chk60 v832), ∀ a, (k0_off180 v832) a + S1x4x128.size a ≤ S16384x4x128.size a := fun v832 k0_hw60 => k0_hw60.1
theorem k0_off180_wordsbf16 : ∀ (v832 : BitVec 32) (k0_hw60 : k0_chk60 v832), (Rect.unit (s := S16384x4x128) (k0_off180 v832) S1x4x128.size (k0_off180_inb v832 k0_hw60)).WholeWords (EltTy.packing .bf16) := fun v832 k0_hw60 => k0_hw60.2 (k0_off180_inb v832 k0_hw60)

def k0_cond31 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_531 : BitVec 32 := 0#32
  let v841 : BitVec 1 := Scalar.cmpi .sgt arg4 c0_i32_531
  let v842 : BitVec 32 := Scalar.extui v841
  let c0_i32_532 : BitVec 32 := 0#32
  let v843 : BitVec 1 := Scalar.cmpi .ne v842 c0_i32_532
  v843

def k0_off181 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let v1282 : Index := Scalar.indexCast v1281
  ![v1282.toNat]
def k0_off182 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let c0_i32_837 : BitVec 32 := 0#32
  let c0_i32_838 : BitVec 32 := 0#32
  ![v1281.toNat, 0, 0]
def k0_off183 (v1283 : BitVec 32) : Fin 3 → Nat :=
  let c0_i32_839 : BitVec 32 := 0#32
  let c0_i32_840 : BitVec 32 := 0#32
  ![v1283.toNat, 0, 0]

def k0_chk61 (k0_t1 : Fin k0_t1_loop.trips) (v1283 : BitVec 32) : Prop :=
  (∀ (k0_h31 : k0_cond31 k0_t1 = 1#1), ∀ a, (k0_off183 v1283) a + S1x4x128.size a ≤ S16384x4x128.size a) ∧
  (∀ (k0_h31 : k0_cond31 k0_t1 = 1#1), ∀ (hinb : ∀ a, (k0_off183 v1283) a + S1x4x128.size a ≤ S16384x4x128.size a), (Rect.unit (s := S16384x4x128) (k0_off183 v1283) S1x4x128.size hinb).WholeWords (EltTy.packing .bf16))
theorem k0_off183_inb : ∀ (k0_t1 : Fin k0_t1_loop.trips) (v1283 : BitVec 32) (k0_hw61 : k0_chk61 k0_t1 v1283), ∀ (k0_h31 : k0_cond31 k0_t1 = 1#1), ∀ a, (k0_off183 v1283) a + S1x4x128.size a ≤ S16384x4x128.size a := fun k0_t1 v1283 k0_hw61 k0_h31 => k0_hw61.1 k0_h31
theorem k0_off183_wordsbf16 : ∀ (k0_t1 : Fin k0_t1_loop.trips) (v1283 : BitVec 32) (k0_hw61 : k0_chk61 k0_t1 v1283), ∀ (k0_h31 : k0_cond31 k0_t1 = 1#1), (Rect.unit (s := S16384x4x128) (k0_off183 v1283) S1x4x128.size (k0_off183_inb k0_t1 v1283 k0_hw61 k0_h31)).WholeWords (EltTy.packing .bf16) := fun k0_t1 v1283 k0_hw61 k0_h31 => k0_hw61.2 k0_h31 (k0_off183_inb k0_t1 v1283 k0_hw61 k0_h31)

def k0_off184 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let v844 : Index := Scalar.indexCast v840
  ![v844.toNat]
def k0_off185 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c0_i32_534 : BitVec 32 := 0#32
  let c0_i32_535 : BitVec 32 := 0#32
  ![v840.toNat, 0, 0]
def k0_off186 (v845 : BitVec 32) : Fin 3 → Nat :=
  let c0_i32_536 : BitVec 32 := 0#32
  let c0_i32_537 : BitVec 32 := 0#32
  ![v845.toNat, 0, 0]

def k0_chk62 (v845 : BitVec 32) : Prop :=
  (∀ a, (k0_off186 v845) a + S1x4x128.size a ≤ S16384x4x128.size a) ∧
  (∀ (hinb : ∀ a, (k0_off186 v845) a + S1x4x128.size a ≤ S16384x4x128.size a), (Rect.unit (s := S16384x4x128) (k0_off186 v845) S1x4x128.size hinb).WholeWords (EltTy.packing .bf16))
theorem k0_off186_inb : ∀ (v845 : BitVec 32) (k0_hw62 : k0_chk62 v845), ∀ a, (k0_off186 v845) a + S1x4x128.size a ≤ S16384x4x128.size a := fun v845 k0_hw62 => k0_hw62.1
theorem k0_off186_wordsbf16 : ∀ (v845 : BitVec 32) (k0_hw62 : k0_chk62 v845), (Rect.unit (s := S16384x4x128) (k0_off186 v845) S1x4x128.size (k0_off186_inb v845 k0_hw62)).WholeWords (EltTy.packing .bf16) := fun v845 k0_hw62 => k0_hw62.2 (k0_off186_inb v845 k0_hw62)

def k0_cond32 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_540 : BitVec 32 := 0#32
  let v854 : BitVec 1 := Scalar.cmpi .sgt arg4 c0_i32_540
  let v855 : BitVec 32 := Scalar.extui v854
  let c0_i32_541 : BitVec 32 := 0#32
  let v856 : BitVec 1 := Scalar.cmpi .ne v855 c0_i32_541
  v856

def k0_off187 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let v1282 : Index := Scalar.indexCast v1281
  ![v1282.toNat]
def k0_off188 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let c0_i32_837 : BitVec 32 := 0#32
  let c0_i32_838 : BitVec 32 := 0#32
  ![v1281.toNat, 0, 0]
def k0_off189 (v1283 : BitVec 32) : Fin 3 → Nat :=
  let c0_i32_839 : BitVec 32 := 0#32
  let c0_i32_840 : BitVec 32 := 0#32
  ![v1283.toNat, 0, 0]

def k0_chk63 (k0_t1 : Fin k0_t1_loop.trips) (v1283 : BitVec 32) : Prop :=
  (∀ (k0_h32 : k0_cond32 k0_t1 = 1#1), ∀ a, (k0_off189 v1283) a + S1x4x128.size a ≤ S16384x4x128.size a) ∧
  (∀ (k0_h32 : k0_cond32 k0_t1 = 1#1), ∀ (hinb : ∀ a, (k0_off189 v1283) a + S1x4x128.size a ≤ S16384x4x128.size a), (Rect.unit (s := S16384x4x128) (k0_off189 v1283) S1x4x128.size hinb).WholeWords (EltTy.packing .bf16))
theorem k0_off189_inb : ∀ (k0_t1 : Fin k0_t1_loop.trips) (v1283 : BitVec 32) (k0_hw63 : k0_chk63 k0_t1 v1283), ∀ (k0_h32 : k0_cond32 k0_t1 = 1#1), ∀ a, (k0_off189 v1283) a + S1x4x128.size a ≤ S16384x4x128.size a := fun k0_t1 v1283 k0_hw63 k0_h32 => k0_hw63.1 k0_h32
theorem k0_off189_wordsbf16 : ∀ (k0_t1 : Fin k0_t1_loop.trips) (v1283 : BitVec 32) (k0_hw63 : k0_chk63 k0_t1 v1283), ∀ (k0_h32 : k0_cond32 k0_t1 = 1#1), (Rect.unit (s := S16384x4x128) (k0_off189 v1283) S1x4x128.size (k0_off189_inb k0_t1 v1283 k0_hw63 k0_h32)).WholeWords (EltTy.packing .bf16) := fun k0_t1 v1283 k0_hw63 k0_h32 => k0_hw63.2 k0_h32 (k0_off189_inb k0_t1 v1283 k0_hw63 k0_h32)

def k0_off190 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let v857 : Index := Scalar.indexCast v853
  ![v857.toNat]
def k0_off191 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c0_i32_543 : BitVec 32 := 0#32
  let c0_i32_544 : BitVec 32 := 0#32
  ![v853.toNat, 0, 0]
def k0_off192 (v858 : BitVec 32) : Fin 3 → Nat :=
  let c0_i32_545 : BitVec 32 := 0#32
  let c0_i32_546 : BitVec 32 := 0#32
  ![v858.toNat, 0, 0]

def k0_chk64 (v858 : BitVec 32) : Prop :=
  (∀ a, (k0_off192 v858) a + S1x4x128.size a ≤ S16384x4x128.size a) ∧
  (∀ (hinb : ∀ a, (k0_off192 v858) a + S1x4x128.size a ≤ S16384x4x128.size a), (Rect.unit (s := S16384x4x128) (k0_off192 v858) S1x4x128.size hinb).WholeWords (EltTy.packing .bf16))
theorem k0_off192_inb : ∀ (v858 : BitVec 32) (k0_hw64 : k0_chk64 v858), ∀ a, (k0_off192 v858) a + S1x4x128.size a ≤ S16384x4x128.size a := fun v858 k0_hw64 => k0_hw64.1
theorem k0_off192_wordsbf16 : ∀ (v858 : BitVec 32) (k0_hw64 : k0_chk64 v858), (Rect.unit (s := S16384x4x128) (k0_off192 v858) S1x4x128.size (k0_off192_inb v858 k0_hw64)).WholeWords (EltTy.packing .bf16) := fun v858 k0_hw64 => k0_hw64.2 (k0_off192_inb v858 k0_hw64)

def k0_cond33 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_549 : BitVec 32 := 0#32
  let v867 : BitVec 1 := Scalar.cmpi .sgt arg4 c0_i32_549
  let v868 : BitVec 32 := Scalar.extui v867
  let c0_i32_550 : BitVec 32 := 0#32
  let v869 : BitVec 1 := Scalar.cmpi .ne v868 c0_i32_550
  v869

def k0_off193 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let v1282 : Index := Scalar.indexCast v1281
  ![v1282.toNat]
def k0_off194 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let c0_i32_837 : BitVec 32 := 0#32
  let c0_i32_838 : BitVec 32 := 0#32
  ![v1281.toNat, 0, 0]
def k0_off195 (v1283 : BitVec 32) : Fin 3 → Nat :=
  let c0_i32_839 : BitVec 32 := 0#32
  let c0_i32_840 : BitVec 32 := 0#32
  ![v1283.toNat, 0, 0]

def k0_chk65 (k0_t1 : Fin k0_t1_loop.trips) (v1283 : BitVec 32) : Prop :=
  (∀ (k0_h33 : k0_cond33 k0_t1 = 1#1), ∀ a, (k0_off195 v1283) a + S1x4x128.size a ≤ S16384x4x128.size a) ∧
  (∀ (k0_h33 : k0_cond33 k0_t1 = 1#1), ∀ (hinb : ∀ a, (k0_off195 v1283) a + S1x4x128.size a ≤ S16384x4x128.size a), (Rect.unit (s := S16384x4x128) (k0_off195 v1283) S1x4x128.size hinb).WholeWords (EltTy.packing .bf16))
theorem k0_off195_inb : ∀ (k0_t1 : Fin k0_t1_loop.trips) (v1283 : BitVec 32) (k0_hw65 : k0_chk65 k0_t1 v1283), ∀ (k0_h33 : k0_cond33 k0_t1 = 1#1), ∀ a, (k0_off195 v1283) a + S1x4x128.size a ≤ S16384x4x128.size a := fun k0_t1 v1283 k0_hw65 k0_h33 => k0_hw65.1 k0_h33
theorem k0_off195_wordsbf16 : ∀ (k0_t1 : Fin k0_t1_loop.trips) (v1283 : BitVec 32) (k0_hw65 : k0_chk65 k0_t1 v1283), ∀ (k0_h33 : k0_cond33 k0_t1 = 1#1), (Rect.unit (s := S16384x4x128) (k0_off195 v1283) S1x4x128.size (k0_off195_inb k0_t1 v1283 k0_hw65 k0_h33)).WholeWords (EltTy.packing .bf16) := fun k0_t1 v1283 k0_hw65 k0_h33 => k0_hw65.2 k0_h33 (k0_off195_inb k0_t1 v1283 k0_hw65 k0_h33)

def k0_off196 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let v870 : Index := Scalar.indexCast v866
  ![v870.toNat]
def k0_off197 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c0_i32_552 : BitVec 32 := 0#32
  let c0_i32_553 : BitVec 32 := 0#32
  ![v866.toNat, 0, 0]
def k0_off198 (v871 : BitVec 32) : Fin 3 → Nat :=
  let c0_i32_554 : BitVec 32 := 0#32
  let c0_i32_555 : BitVec 32 := 0#32
  ![v871.toNat, 0, 0]

def k0_chk66 (v871 : BitVec 32) : Prop :=
  (∀ a, (k0_off198 v871) a + S1x4x128.size a ≤ S16384x4x128.size a) ∧
  (∀ (hinb : ∀ a, (k0_off198 v871) a + S1x4x128.size a ≤ S16384x4x128.size a), (Rect.unit (s := S16384x4x128) (k0_off198 v871) S1x4x128.size hinb).WholeWords (EltTy.packing .bf16))
theorem k0_off198_inb : ∀ (v871 : BitVec 32) (k0_hw66 : k0_chk66 v871), ∀ a, (k0_off198 v871) a + S1x4x128.size a ≤ S16384x4x128.size a := fun v871 k0_hw66 => k0_hw66.1
theorem k0_off198_wordsbf16 : ∀ (v871 : BitVec 32) (k0_hw66 : k0_chk66 v871), (Rect.unit (s := S16384x4x128) (k0_off198 v871) S1x4x128.size (k0_off198_inb v871 k0_hw66)).WholeWords (EltTy.packing .bf16) := fun v871 k0_hw66 => k0_hw66.2 (k0_off198_inb v871 k0_hw66)

def k0_cond34 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_558 : BitVec 32 := 0#32
  let v880 : BitVec 1 := Scalar.cmpi .sgt arg4 c0_i32_558
  let v881 : BitVec 32 := Scalar.extui v880
  let c0_i32_559 : BitVec 32 := 0#32
  let v882 : BitVec 1 := Scalar.cmpi .ne v881 c0_i32_559
  v882

def k0_off199 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let v1282 : Index := Scalar.indexCast v1281
  ![v1282.toNat]
def k0_off200 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let c0_i32_837 : BitVec 32 := 0#32
  let c0_i32_838 : BitVec 32 := 0#32
  ![v1281.toNat, 0, 0]
def k0_off201 (v1283 : BitVec 32) : Fin 3 → Nat :=
  let c0_i32_839 : BitVec 32 := 0#32
  let c0_i32_840 : BitVec 32 := 0#32
  ![v1283.toNat, 0, 0]

def k0_chk67 (k0_t1 : Fin k0_t1_loop.trips) (v1283 : BitVec 32) : Prop :=
  (∀ (k0_h34 : k0_cond34 k0_t1 = 1#1), ∀ a, (k0_off201 v1283) a + S1x4x128.size a ≤ S16384x4x128.size a) ∧
  (∀ (k0_h34 : k0_cond34 k0_t1 = 1#1), ∀ (hinb : ∀ a, (k0_off201 v1283) a + S1x4x128.size a ≤ S16384x4x128.size a), (Rect.unit (s := S16384x4x128) (k0_off201 v1283) S1x4x128.size hinb).WholeWords (EltTy.packing .bf16))
theorem k0_off201_inb : ∀ (k0_t1 : Fin k0_t1_loop.trips) (v1283 : BitVec 32) (k0_hw67 : k0_chk67 k0_t1 v1283), ∀ (k0_h34 : k0_cond34 k0_t1 = 1#1), ∀ a, (k0_off201 v1283) a + S1x4x128.size a ≤ S16384x4x128.size a := fun k0_t1 v1283 k0_hw67 k0_h34 => k0_hw67.1 k0_h34
theorem k0_off201_wordsbf16 : ∀ (k0_t1 : Fin k0_t1_loop.trips) (v1283 : BitVec 32) (k0_hw67 : k0_chk67 k0_t1 v1283), ∀ (k0_h34 : k0_cond34 k0_t1 = 1#1), (Rect.unit (s := S16384x4x128) (k0_off201 v1283) S1x4x128.size (k0_off201_inb k0_t1 v1283 k0_hw67 k0_h34)).WholeWords (EltTy.packing .bf16) := fun k0_t1 v1283 k0_hw67 k0_h34 => k0_hw67.2 k0_h34 (k0_off201_inb k0_t1 v1283 k0_hw67 k0_h34)

def k0_off202 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let v883 : Index := Scalar.indexCast v879
  ![v883.toNat]
def k0_off203 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c0_i32_561 : BitVec 32 := 0#32
  let c0_i32_562 : BitVec 32 := 0#32
  ![v879.toNat, 0, 0]
def k0_off204 (v884 : BitVec 32) : Fin 3 → Nat :=
  let c0_i32_563 : BitVec 32 := 0#32
  let c0_i32_564 : BitVec 32 := 0#32
  ![v884.toNat, 0, 0]

def k0_chk68 (v884 : BitVec 32) : Prop :=
  (∀ a, (k0_off204 v884) a + S1x4x128.size a ≤ S16384x4x128.size a) ∧
  (∀ (hinb : ∀ a, (k0_off204 v884) a + S1x4x128.size a ≤ S16384x4x128.size a), (Rect.unit (s := S16384x4x128) (k0_off204 v884) S1x4x128.size hinb).WholeWords (EltTy.packing .bf16))
theorem k0_off204_inb : ∀ (v884 : BitVec 32) (k0_hw68 : k0_chk68 v884), ∀ a, (k0_off204 v884) a + S1x4x128.size a ≤ S16384x4x128.size a := fun v884 k0_hw68 => k0_hw68.1
theorem k0_off204_wordsbf16 : ∀ (v884 : BitVec 32) (k0_hw68 : k0_chk68 v884), (Rect.unit (s := S16384x4x128) (k0_off204 v884) S1x4x128.size (k0_off204_inb v884 k0_hw68)).WholeWords (EltTy.packing .bf16) := fun v884 k0_hw68 => k0_hw68.2 (k0_off204_inb v884 k0_hw68)

def k0_cond35 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_567 : BitVec 32 := 0#32
  let v893 : BitVec 1 := Scalar.cmpi .sgt arg4 c0_i32_567
  let v894 : BitVec 32 := Scalar.extui v893
  let c0_i32_568 : BitVec 32 := 0#32
  let v895 : BitVec 1 := Scalar.cmpi .ne v894 c0_i32_568
  v895

def k0_off205 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let v1282 : Index := Scalar.indexCast v1281
  ![v1282.toNat]
def k0_off206 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let c0_i32_837 : BitVec 32 := 0#32
  let c0_i32_838 : BitVec 32 := 0#32
  ![v1281.toNat, 0, 0]
def k0_off207 (v1283 : BitVec 32) : Fin 3 → Nat :=
  let c0_i32_839 : BitVec 32 := 0#32
  let c0_i32_840 : BitVec 32 := 0#32
  ![v1283.toNat, 0, 0]

def k0_chk69 (k0_t1 : Fin k0_t1_loop.trips) (v1283 : BitVec 32) : Prop :=
  (∀ (k0_h35 : k0_cond35 k0_t1 = 1#1), ∀ a, (k0_off207 v1283) a + S1x4x128.size a ≤ S16384x4x128.size a) ∧
  (∀ (k0_h35 : k0_cond35 k0_t1 = 1#1), ∀ (hinb : ∀ a, (k0_off207 v1283) a + S1x4x128.size a ≤ S16384x4x128.size a), (Rect.unit (s := S16384x4x128) (k0_off207 v1283) S1x4x128.size hinb).WholeWords (EltTy.packing .bf16))
theorem k0_off207_inb : ∀ (k0_t1 : Fin k0_t1_loop.trips) (v1283 : BitVec 32) (k0_hw69 : k0_chk69 k0_t1 v1283), ∀ (k0_h35 : k0_cond35 k0_t1 = 1#1), ∀ a, (k0_off207 v1283) a + S1x4x128.size a ≤ S16384x4x128.size a := fun k0_t1 v1283 k0_hw69 k0_h35 => k0_hw69.1 k0_h35
theorem k0_off207_wordsbf16 : ∀ (k0_t1 : Fin k0_t1_loop.trips) (v1283 : BitVec 32) (k0_hw69 : k0_chk69 k0_t1 v1283), ∀ (k0_h35 : k0_cond35 k0_t1 = 1#1), (Rect.unit (s := S16384x4x128) (k0_off207 v1283) S1x4x128.size (k0_off207_inb k0_t1 v1283 k0_hw69 k0_h35)).WholeWords (EltTy.packing .bf16) := fun k0_t1 v1283 k0_hw69 k0_h35 => k0_hw69.2 k0_h35 (k0_off207_inb k0_t1 v1283 k0_hw69 k0_h35)

def k0_off208 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let v896 : Index := Scalar.indexCast v892
  ![v896.toNat]
def k0_off209 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c0_i32_570 : BitVec 32 := 0#32
  let c0_i32_571 : BitVec 32 := 0#32
  ![v892.toNat, 0, 0]
def k0_off210 (v897 : BitVec 32) : Fin 3 → Nat :=
  let c0_i32_572 : BitVec 32 := 0#32
  let c0_i32_573 : BitVec 32 := 0#32
  ![v897.toNat, 0, 0]

def k0_chk70 (v897 : BitVec 32) : Prop :=
  (∀ a, (k0_off210 v897) a + S1x4x128.size a ≤ S16384x4x128.size a) ∧
  (∀ (hinb : ∀ a, (k0_off210 v897) a + S1x4x128.size a ≤ S16384x4x128.size a), (Rect.unit (s := S16384x4x128) (k0_off210 v897) S1x4x128.size hinb).WholeWords (EltTy.packing .bf16))
theorem k0_off210_inb : ∀ (v897 : BitVec 32) (k0_hw70 : k0_chk70 v897), ∀ a, (k0_off210 v897) a + S1x4x128.size a ≤ S16384x4x128.size a := fun v897 k0_hw70 => k0_hw70.1
theorem k0_off210_wordsbf16 : ∀ (v897 : BitVec 32) (k0_hw70 : k0_chk70 v897), (Rect.unit (s := S16384x4x128) (k0_off210 v897) S1x4x128.size (k0_off210_inb v897 k0_hw70)).WholeWords (EltTy.packing .bf16) := fun v897 k0_hw70 => k0_hw70.2 (k0_off210_inb v897 k0_hw70)

def k0_cond36 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_576 : BitVec 32 := 0#32
  let v906 : BitVec 1 := Scalar.cmpi .sgt arg4 c0_i32_576
  let v907 : BitVec 32 := Scalar.extui v906
  let c0_i32_577 : BitVec 32 := 0#32
  let v908 : BitVec 1 := Scalar.cmpi .ne v907 c0_i32_577
  v908

def k0_off211 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let v1282 : Index := Scalar.indexCast v1281
  ![v1282.toNat]
def k0_off212 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let c0_i32_837 : BitVec 32 := 0#32
  let c0_i32_838 : BitVec 32 := 0#32
  ![v1281.toNat, 0, 0]
def k0_off213 (v1283 : BitVec 32) : Fin 3 → Nat :=
  let c0_i32_839 : BitVec 32 := 0#32
  let c0_i32_840 : BitVec 32 := 0#32
  ![v1283.toNat, 0, 0]

def k0_chk71 (k0_t1 : Fin k0_t1_loop.trips) (v1283 : BitVec 32) : Prop :=
  (∀ (k0_h36 : k0_cond36 k0_t1 = 1#1), ∀ a, (k0_off213 v1283) a + S1x4x128.size a ≤ S16384x4x128.size a) ∧
  (∀ (k0_h36 : k0_cond36 k0_t1 = 1#1), ∀ (hinb : ∀ a, (k0_off213 v1283) a + S1x4x128.size a ≤ S16384x4x128.size a), (Rect.unit (s := S16384x4x128) (k0_off213 v1283) S1x4x128.size hinb).WholeWords (EltTy.packing .bf16))
theorem k0_off213_inb : ∀ (k0_t1 : Fin k0_t1_loop.trips) (v1283 : BitVec 32) (k0_hw71 : k0_chk71 k0_t1 v1283), ∀ (k0_h36 : k0_cond36 k0_t1 = 1#1), ∀ a, (k0_off213 v1283) a + S1x4x128.size a ≤ S16384x4x128.size a := fun k0_t1 v1283 k0_hw71 k0_h36 => k0_hw71.1 k0_h36
theorem k0_off213_wordsbf16 : ∀ (k0_t1 : Fin k0_t1_loop.trips) (v1283 : BitVec 32) (k0_hw71 : k0_chk71 k0_t1 v1283), ∀ (k0_h36 : k0_cond36 k0_t1 = 1#1), (Rect.unit (s := S16384x4x128) (k0_off213 v1283) S1x4x128.size (k0_off213_inb k0_t1 v1283 k0_hw71 k0_h36)).WholeWords (EltTy.packing .bf16) := fun k0_t1 v1283 k0_hw71 k0_h36 => k0_hw71.2 k0_h36 (k0_off213_inb k0_t1 v1283 k0_hw71 k0_h36)

def k0_off214 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let v909 : Index := Scalar.indexCast v905
  ![v909.toNat]
def k0_off215 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c0_i32_579 : BitVec 32 := 0#32
  let c0_i32_580 : BitVec 32 := 0#32
  ![v905.toNat, 0, 0]
def k0_off216 (v910 : BitVec 32) : Fin 3 → Nat :=
  let c0_i32_581 : BitVec 32 := 0#32
  let c0_i32_582 : BitVec 32 := 0#32
  ![v910.toNat, 0, 0]

def k0_chk72 (v910 : BitVec 32) : Prop :=
  (∀ a, (k0_off216 v910) a + S1x4x128.size a ≤ S16384x4x128.size a) ∧
  (∀ (hinb : ∀ a, (k0_off216 v910) a + S1x4x128.size a ≤ S16384x4x128.size a), (Rect.unit (s := S16384x4x128) (k0_off216 v910) S1x4x128.size hinb).WholeWords (EltTy.packing .bf16))
theorem k0_off216_inb : ∀ (v910 : BitVec 32) (k0_hw72 : k0_chk72 v910), ∀ a, (k0_off216 v910) a + S1x4x128.size a ≤ S16384x4x128.size a := fun v910 k0_hw72 => k0_hw72.1
theorem k0_off216_wordsbf16 : ∀ (v910 : BitVec 32) (k0_hw72 : k0_chk72 v910), (Rect.unit (s := S16384x4x128) (k0_off216 v910) S1x4x128.size (k0_off216_inb v910 k0_hw72)).WholeWords (EltTy.packing .bf16) := fun v910 k0_hw72 => k0_hw72.2 (k0_off216_inb v910 k0_hw72)

def k0_cond37 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_585 : BitVec 32 := 0#32
  let v919 : BitVec 1 := Scalar.cmpi .sgt arg4 c0_i32_585
  let v920 : BitVec 32 := Scalar.extui v919
  let c0_i32_586 : BitVec 32 := 0#32
  let v921 : BitVec 1 := Scalar.cmpi .ne v920 c0_i32_586
  v921

def k0_off217 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let v1282 : Index := Scalar.indexCast v1281
  ![v1282.toNat]
def k0_off218 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let c0_i32_837 : BitVec 32 := 0#32
  let c0_i32_838 : BitVec 32 := 0#32
  ![v1281.toNat, 0, 0]
def k0_off219 (v1283 : BitVec 32) : Fin 3 → Nat :=
  let c0_i32_839 : BitVec 32 := 0#32
  let c0_i32_840 : BitVec 32 := 0#32
  ![v1283.toNat, 0, 0]

def k0_chk73 (k0_t1 : Fin k0_t1_loop.trips) (v1283 : BitVec 32) : Prop :=
  (∀ (k0_h37 : k0_cond37 k0_t1 = 1#1), ∀ a, (k0_off219 v1283) a + S1x4x128.size a ≤ S16384x4x128.size a) ∧
  (∀ (k0_h37 : k0_cond37 k0_t1 = 1#1), ∀ (hinb : ∀ a, (k0_off219 v1283) a + S1x4x128.size a ≤ S16384x4x128.size a), (Rect.unit (s := S16384x4x128) (k0_off219 v1283) S1x4x128.size hinb).WholeWords (EltTy.packing .bf16))
theorem k0_off219_inb : ∀ (k0_t1 : Fin k0_t1_loop.trips) (v1283 : BitVec 32) (k0_hw73 : k0_chk73 k0_t1 v1283), ∀ (k0_h37 : k0_cond37 k0_t1 = 1#1), ∀ a, (k0_off219 v1283) a + S1x4x128.size a ≤ S16384x4x128.size a := fun k0_t1 v1283 k0_hw73 k0_h37 => k0_hw73.1 k0_h37
theorem k0_off219_wordsbf16 : ∀ (k0_t1 : Fin k0_t1_loop.trips) (v1283 : BitVec 32) (k0_hw73 : k0_chk73 k0_t1 v1283), ∀ (k0_h37 : k0_cond37 k0_t1 = 1#1), (Rect.unit (s := S16384x4x128) (k0_off219 v1283) S1x4x128.size (k0_off219_inb k0_t1 v1283 k0_hw73 k0_h37)).WholeWords (EltTy.packing .bf16) := fun k0_t1 v1283 k0_hw73 k0_h37 => k0_hw73.2 k0_h37 (k0_off219_inb k0_t1 v1283 k0_hw73 k0_h37)

def k0_off220 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let v922 : Index := Scalar.indexCast v918
  ![v922.toNat]
def k0_off221 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c0_i32_588 : BitVec 32 := 0#32
  let c0_i32_589 : BitVec 32 := 0#32
  ![v918.toNat, 0, 0]
def k0_off222 (v923 : BitVec 32) : Fin 3 → Nat :=
  let c0_i32_590 : BitVec 32 := 0#32
  let c0_i32_591 : BitVec 32 := 0#32
  ![v923.toNat, 0, 0]

def k0_chk74 (v923 : BitVec 32) : Prop :=
  (∀ a, (k0_off222 v923) a + S1x4x128.size a ≤ S16384x4x128.size a) ∧
  (∀ (hinb : ∀ a, (k0_off222 v923) a + S1x4x128.size a ≤ S16384x4x128.size a), (Rect.unit (s := S16384x4x128) (k0_off222 v923) S1x4x128.size hinb).WholeWords (EltTy.packing .bf16))
theorem k0_off222_inb : ∀ (v923 : BitVec 32) (k0_hw74 : k0_chk74 v923), ∀ a, (k0_off222 v923) a + S1x4x128.size a ≤ S16384x4x128.size a := fun v923 k0_hw74 => k0_hw74.1
theorem k0_off222_wordsbf16 : ∀ (v923 : BitVec 32) (k0_hw74 : k0_chk74 v923), (Rect.unit (s := S16384x4x128) (k0_off222 v923) S1x4x128.size (k0_off222_inb v923 k0_hw74)).WholeWords (EltTy.packing .bf16) := fun v923 k0_hw74 => k0_hw74.2 (k0_off222_inb v923 k0_hw74)

def k0_cond38 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_594 : BitVec 32 := 0#32
  let v932 : BitVec 1 := Scalar.cmpi .sgt arg4 c0_i32_594
  let v933 : BitVec 32 := Scalar.extui v932
  let c0_i32_595 : BitVec 32 := 0#32
  let v934 : BitVec 1 := Scalar.cmpi .ne v933 c0_i32_595
  v934

def k0_off223 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let v1282 : Index := Scalar.indexCast v1281
  ![v1282.toNat]
def k0_off224 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let c0_i32_837 : BitVec 32 := 0#32
  let c0_i32_838 : BitVec 32 := 0#32
  ![v1281.toNat, 0, 0]
def k0_off225 (v1283 : BitVec 32) : Fin 3 → Nat :=
  let c0_i32_839 : BitVec 32 := 0#32
  let c0_i32_840 : BitVec 32 := 0#32
  ![v1283.toNat, 0, 0]

def k0_chk75 (k0_t1 : Fin k0_t1_loop.trips) (v1283 : BitVec 32) : Prop :=
  (∀ (k0_h38 : k0_cond38 k0_t1 = 1#1), ∀ a, (k0_off225 v1283) a + S1x4x128.size a ≤ S16384x4x128.size a) ∧
  (∀ (k0_h38 : k0_cond38 k0_t1 = 1#1), ∀ (hinb : ∀ a, (k0_off225 v1283) a + S1x4x128.size a ≤ S16384x4x128.size a), (Rect.unit (s := S16384x4x128) (k0_off225 v1283) S1x4x128.size hinb).WholeWords (EltTy.packing .bf16))
theorem k0_off225_inb : ∀ (k0_t1 : Fin k0_t1_loop.trips) (v1283 : BitVec 32) (k0_hw75 : k0_chk75 k0_t1 v1283), ∀ (k0_h38 : k0_cond38 k0_t1 = 1#1), ∀ a, (k0_off225 v1283) a + S1x4x128.size a ≤ S16384x4x128.size a := fun k0_t1 v1283 k0_hw75 k0_h38 => k0_hw75.1 k0_h38
theorem k0_off225_wordsbf16 : ∀ (k0_t1 : Fin k0_t1_loop.trips) (v1283 : BitVec 32) (k0_hw75 : k0_chk75 k0_t1 v1283), ∀ (k0_h38 : k0_cond38 k0_t1 = 1#1), (Rect.unit (s := S16384x4x128) (k0_off225 v1283) S1x4x128.size (k0_off225_inb k0_t1 v1283 k0_hw75 k0_h38)).WholeWords (EltTy.packing .bf16) := fun k0_t1 v1283 k0_hw75 k0_h38 => k0_hw75.2 k0_h38 (k0_off225_inb k0_t1 v1283 k0_hw75 k0_h38)

def k0_off226 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let v935 : Index := Scalar.indexCast v931
  ![v935.toNat]
def k0_off227 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c0_i32_597 : BitVec 32 := 0#32
  let c0_i32_598 : BitVec 32 := 0#32
  ![v931.toNat, 0, 0]
def k0_off228 (v936 : BitVec 32) : Fin 3 → Nat :=
  let c0_i32_599 : BitVec 32 := 0#32
  let c0_i32_600 : BitVec 32 := 0#32
  ![v936.toNat, 0, 0]

def k0_chk76 (v936 : BitVec 32) : Prop :=
  (∀ a, (k0_off228 v936) a + S1x4x128.size a ≤ S16384x4x128.size a) ∧
  (∀ (hinb : ∀ a, (k0_off228 v936) a + S1x4x128.size a ≤ S16384x4x128.size a), (Rect.unit (s := S16384x4x128) (k0_off228 v936) S1x4x128.size hinb).WholeWords (EltTy.packing .bf16))
theorem k0_off228_inb : ∀ (v936 : BitVec 32) (k0_hw76 : k0_chk76 v936), ∀ a, (k0_off228 v936) a + S1x4x128.size a ≤ S16384x4x128.size a := fun v936 k0_hw76 => k0_hw76.1
theorem k0_off228_wordsbf16 : ∀ (v936 : BitVec 32) (k0_hw76 : k0_chk76 v936), (Rect.unit (s := S16384x4x128) (k0_off228 v936) S1x4x128.size (k0_off228_inb v936 k0_hw76)).WholeWords (EltTy.packing .bf16) := fun v936 k0_hw76 => k0_hw76.2 (k0_off228_inb v936 k0_hw76)

def k0_cond39 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_603 : BitVec 32 := 0#32
  let v945 : BitVec 1 := Scalar.cmpi .sgt arg4 c0_i32_603
  let v946 : BitVec 32 := Scalar.extui v945
  let c0_i32_604 : BitVec 32 := 0#32
  let v947 : BitVec 1 := Scalar.cmpi .ne v946 c0_i32_604
  v947

def k0_off229 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let v1282 : Index := Scalar.indexCast v1281
  ![v1282.toNat]
def k0_off230 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let c0_i32_837 : BitVec 32 := 0#32
  let c0_i32_838 : BitVec 32 := 0#32
  ![v1281.toNat, 0, 0]
def k0_off231 (v1283 : BitVec 32) : Fin 3 → Nat :=
  let c0_i32_839 : BitVec 32 := 0#32
  let c0_i32_840 : BitVec 32 := 0#32
  ![v1283.toNat, 0, 0]

def k0_chk77 (k0_t1 : Fin k0_t1_loop.trips) (v1283 : BitVec 32) : Prop :=
  (∀ (k0_h39 : k0_cond39 k0_t1 = 1#1), ∀ a, (k0_off231 v1283) a + S1x4x128.size a ≤ S16384x4x128.size a) ∧
  (∀ (k0_h39 : k0_cond39 k0_t1 = 1#1), ∀ (hinb : ∀ a, (k0_off231 v1283) a + S1x4x128.size a ≤ S16384x4x128.size a), (Rect.unit (s := S16384x4x128) (k0_off231 v1283) S1x4x128.size hinb).WholeWords (EltTy.packing .bf16))
theorem k0_off231_inb : ∀ (k0_t1 : Fin k0_t1_loop.trips) (v1283 : BitVec 32) (k0_hw77 : k0_chk77 k0_t1 v1283), ∀ (k0_h39 : k0_cond39 k0_t1 = 1#1), ∀ a, (k0_off231 v1283) a + S1x4x128.size a ≤ S16384x4x128.size a := fun k0_t1 v1283 k0_hw77 k0_h39 => k0_hw77.1 k0_h39
theorem k0_off231_wordsbf16 : ∀ (k0_t1 : Fin k0_t1_loop.trips) (v1283 : BitVec 32) (k0_hw77 : k0_chk77 k0_t1 v1283), ∀ (k0_h39 : k0_cond39 k0_t1 = 1#1), (Rect.unit (s := S16384x4x128) (k0_off231 v1283) S1x4x128.size (k0_off231_inb k0_t1 v1283 k0_hw77 k0_h39)).WholeWords (EltTy.packing .bf16) := fun k0_t1 v1283 k0_hw77 k0_h39 => k0_hw77.2 k0_h39 (k0_off231_inb k0_t1 v1283 k0_hw77 k0_h39)

def k0_off232 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let v948 : Index := Scalar.indexCast v944
  ![v948.toNat]
def k0_off233 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c0_i32_606 : BitVec 32 := 0#32
  let c0_i32_607 : BitVec 32 := 0#32
  ![v944.toNat, 0, 0]
def k0_off234 (v949 : BitVec 32) : Fin 3 → Nat :=
  let c0_i32_608 : BitVec 32 := 0#32
  let c0_i32_609 : BitVec 32 := 0#32
  ![v949.toNat, 0, 0]

def k0_chk78 (v949 : BitVec 32) : Prop :=
  (∀ a, (k0_off234 v949) a + S1x4x128.size a ≤ S16384x4x128.size a) ∧
  (∀ (hinb : ∀ a, (k0_off234 v949) a + S1x4x128.size a ≤ S16384x4x128.size a), (Rect.unit (s := S16384x4x128) (k0_off234 v949) S1x4x128.size hinb).WholeWords (EltTy.packing .bf16))
theorem k0_off234_inb : ∀ (v949 : BitVec 32) (k0_hw78 : k0_chk78 v949), ∀ a, (k0_off234 v949) a + S1x4x128.size a ≤ S16384x4x128.size a := fun v949 k0_hw78 => k0_hw78.1
theorem k0_off234_wordsbf16 : ∀ (v949 : BitVec 32) (k0_hw78 : k0_chk78 v949), (Rect.unit (s := S16384x4x128) (k0_off234 v949) S1x4x128.size (k0_off234_inb v949 k0_hw78)).WholeWords (EltTy.packing .bf16) := fun v949 k0_hw78 => k0_hw78.2 (k0_off234_inb v949 k0_hw78)

def k0_cond40 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_612 : BitVec 32 := 0#32
  let v958 : BitVec 1 := Scalar.cmpi .sgt arg4 c0_i32_612
  let v959 : BitVec 32 := Scalar.extui v958
  let c0_i32_613 : BitVec 32 := 0#32
  let v960 : BitVec 1 := Scalar.cmpi .ne v959 c0_i32_613
  v960

def k0_off235 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let v1282 : Index := Scalar.indexCast v1281
  ![v1282.toNat]
def k0_off236 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let c0_i32_837 : BitVec 32 := 0#32
  let c0_i32_838 : BitVec 32 := 0#32
  ![v1281.toNat, 0, 0]
def k0_off237 (v1283 : BitVec 32) : Fin 3 → Nat :=
  let c0_i32_839 : BitVec 32 := 0#32
  let c0_i32_840 : BitVec 32 := 0#32
  ![v1283.toNat, 0, 0]

def k0_chk79 (k0_t1 : Fin k0_t1_loop.trips) (v1283 : BitVec 32) : Prop :=
  (∀ (k0_h40 : k0_cond40 k0_t1 = 1#1), ∀ a, (k0_off237 v1283) a + S1x4x128.size a ≤ S16384x4x128.size a) ∧
  (∀ (k0_h40 : k0_cond40 k0_t1 = 1#1), ∀ (hinb : ∀ a, (k0_off237 v1283) a + S1x4x128.size a ≤ S16384x4x128.size a), (Rect.unit (s := S16384x4x128) (k0_off237 v1283) S1x4x128.size hinb).WholeWords (EltTy.packing .bf16))
theorem k0_off237_inb : ∀ (k0_t1 : Fin k0_t1_loop.trips) (v1283 : BitVec 32) (k0_hw79 : k0_chk79 k0_t1 v1283), ∀ (k0_h40 : k0_cond40 k0_t1 = 1#1), ∀ a, (k0_off237 v1283) a + S1x4x128.size a ≤ S16384x4x128.size a := fun k0_t1 v1283 k0_hw79 k0_h40 => k0_hw79.1 k0_h40
theorem k0_off237_wordsbf16 : ∀ (k0_t1 : Fin k0_t1_loop.trips) (v1283 : BitVec 32) (k0_hw79 : k0_chk79 k0_t1 v1283), ∀ (k0_h40 : k0_cond40 k0_t1 = 1#1), (Rect.unit (s := S16384x4x128) (k0_off237 v1283) S1x4x128.size (k0_off237_inb k0_t1 v1283 k0_hw79 k0_h40)).WholeWords (EltTy.packing .bf16) := fun k0_t1 v1283 k0_hw79 k0_h40 => k0_hw79.2 k0_h40 (k0_off237_inb k0_t1 v1283 k0_hw79 k0_h40)

def k0_off238 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let v961 : Index := Scalar.indexCast v957
  ![v961.toNat]
def k0_off239 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c0_i32_615 : BitVec 32 := 0#32
  let c0_i32_616 : BitVec 32 := 0#32
  ![v957.toNat, 0, 0]
def k0_off240 (v962 : BitVec 32) : Fin 3 → Nat :=
  let c0_i32_617 : BitVec 32 := 0#32
  let c0_i32_618 : BitVec 32 := 0#32
  ![v962.toNat, 0, 0]

def k0_chk80 (v962 : BitVec 32) : Prop :=
  (∀ a, (k0_off240 v962) a + S1x4x128.size a ≤ S16384x4x128.size a) ∧
  (∀ (hinb : ∀ a, (k0_off240 v962) a + S1x4x128.size a ≤ S16384x4x128.size a), (Rect.unit (s := S16384x4x128) (k0_off240 v962) S1x4x128.size hinb).WholeWords (EltTy.packing .bf16))
theorem k0_off240_inb : ∀ (v962 : BitVec 32) (k0_hw80 : k0_chk80 v962), ∀ a, (k0_off240 v962) a + S1x4x128.size a ≤ S16384x4x128.size a := fun v962 k0_hw80 => k0_hw80.1
theorem k0_off240_wordsbf16 : ∀ (v962 : BitVec 32) (k0_hw80 : k0_chk80 v962), (Rect.unit (s := S16384x4x128) (k0_off240 v962) S1x4x128.size (k0_off240_inb v962 k0_hw80)).WholeWords (EltTy.packing .bf16) := fun v962 k0_hw80 => k0_hw80.2 (k0_off240_inb v962 k0_hw80)

def k0_cond41 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_621 : BitVec 32 := 0#32
  let v971 : BitVec 1 := Scalar.cmpi .sgt arg4 c0_i32_621
  let v972 : BitVec 32 := Scalar.extui v971
  let c0_i32_622 : BitVec 32 := 0#32
  let v973 : BitVec 1 := Scalar.cmpi .ne v972 c0_i32_622
  v973

def k0_off241 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let v1282 : Index := Scalar.indexCast v1281
  ![v1282.toNat]
def k0_off242 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let c0_i32_837 : BitVec 32 := 0#32
  let c0_i32_838 : BitVec 32 := 0#32
  ![v1281.toNat, 0, 0]
def k0_off243 (v1283 : BitVec 32) : Fin 3 → Nat :=
  let c0_i32_839 : BitVec 32 := 0#32
  let c0_i32_840 : BitVec 32 := 0#32
  ![v1283.toNat, 0, 0]

def k0_chk81 (k0_t1 : Fin k0_t1_loop.trips) (v1283 : BitVec 32) : Prop :=
  (∀ (k0_h41 : k0_cond41 k0_t1 = 1#1), ∀ a, (k0_off243 v1283) a + S1x4x128.size a ≤ S16384x4x128.size a) ∧
  (∀ (k0_h41 : k0_cond41 k0_t1 = 1#1), ∀ (hinb : ∀ a, (k0_off243 v1283) a + S1x4x128.size a ≤ S16384x4x128.size a), (Rect.unit (s := S16384x4x128) (k0_off243 v1283) S1x4x128.size hinb).WholeWords (EltTy.packing .bf16))
theorem k0_off243_inb : ∀ (k0_t1 : Fin k0_t1_loop.trips) (v1283 : BitVec 32) (k0_hw81 : k0_chk81 k0_t1 v1283), ∀ (k0_h41 : k0_cond41 k0_t1 = 1#1), ∀ a, (k0_off243 v1283) a + S1x4x128.size a ≤ S16384x4x128.size a := fun k0_t1 v1283 k0_hw81 k0_h41 => k0_hw81.1 k0_h41
theorem k0_off243_wordsbf16 : ∀ (k0_t1 : Fin k0_t1_loop.trips) (v1283 : BitVec 32) (k0_hw81 : k0_chk81 k0_t1 v1283), ∀ (k0_h41 : k0_cond41 k0_t1 = 1#1), (Rect.unit (s := S16384x4x128) (k0_off243 v1283) S1x4x128.size (k0_off243_inb k0_t1 v1283 k0_hw81 k0_h41)).WholeWords (EltTy.packing .bf16) := fun k0_t1 v1283 k0_hw81 k0_h41 => k0_hw81.2 k0_h41 (k0_off243_inb k0_t1 v1283 k0_hw81 k0_h41)

def k0_off244 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let v974 : Index := Scalar.indexCast v970
  ![v974.toNat]
def k0_off245 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c0_i32_624 : BitVec 32 := 0#32
  let c0_i32_625 : BitVec 32 := 0#32
  ![v970.toNat, 0, 0]
def k0_off246 (v975 : BitVec 32) : Fin 3 → Nat :=
  let c0_i32_626 : BitVec 32 := 0#32
  let c0_i32_627 : BitVec 32 := 0#32
  ![v975.toNat, 0, 0]

def k0_chk82 (v975 : BitVec 32) : Prop :=
  (∀ a, (k0_off246 v975) a + S1x4x128.size a ≤ S16384x4x128.size a) ∧
  (∀ (hinb : ∀ a, (k0_off246 v975) a + S1x4x128.size a ≤ S16384x4x128.size a), (Rect.unit (s := S16384x4x128) (k0_off246 v975) S1x4x128.size hinb).WholeWords (EltTy.packing .bf16))
theorem k0_off246_inb : ∀ (v975 : BitVec 32) (k0_hw82 : k0_chk82 v975), ∀ a, (k0_off246 v975) a + S1x4x128.size a ≤ S16384x4x128.size a := fun v975 k0_hw82 => k0_hw82.1
theorem k0_off246_wordsbf16 : ∀ (v975 : BitVec 32) (k0_hw82 : k0_chk82 v975), (Rect.unit (s := S16384x4x128) (k0_off246 v975) S1x4x128.size (k0_off246_inb v975 k0_hw82)).WholeWords (EltTy.packing .bf16) := fun v975 k0_hw82 => k0_hw82.2 (k0_off246_inb v975 k0_hw82)

def k0_cond42 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_630 : BitVec 32 := 0#32
  let v984 : BitVec 1 := Scalar.cmpi .sgt arg4 c0_i32_630
  let v985 : BitVec 32 := Scalar.extui v984
  let c0_i32_631 : BitVec 32 := 0#32
  let v986 : BitVec 1 := Scalar.cmpi .ne v985 c0_i32_631
  v986

def k0_off247 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let v1282 : Index := Scalar.indexCast v1281
  ![v1282.toNat]
def k0_off248 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let c0_i32_837 : BitVec 32 := 0#32
  let c0_i32_838 : BitVec 32 := 0#32
  ![v1281.toNat, 0, 0]
def k0_off249 (v1283 : BitVec 32) : Fin 3 → Nat :=
  let c0_i32_839 : BitVec 32 := 0#32
  let c0_i32_840 : BitVec 32 := 0#32
  ![v1283.toNat, 0, 0]

def k0_chk83 (k0_t1 : Fin k0_t1_loop.trips) (v1283 : BitVec 32) : Prop :=
  (∀ (k0_h42 : k0_cond42 k0_t1 = 1#1), ∀ a, (k0_off249 v1283) a + S1x4x128.size a ≤ S16384x4x128.size a) ∧
  (∀ (k0_h42 : k0_cond42 k0_t1 = 1#1), ∀ (hinb : ∀ a, (k0_off249 v1283) a + S1x4x128.size a ≤ S16384x4x128.size a), (Rect.unit (s := S16384x4x128) (k0_off249 v1283) S1x4x128.size hinb).WholeWords (EltTy.packing .bf16))
theorem k0_off249_inb : ∀ (k0_t1 : Fin k0_t1_loop.trips) (v1283 : BitVec 32) (k0_hw83 : k0_chk83 k0_t1 v1283), ∀ (k0_h42 : k0_cond42 k0_t1 = 1#1), ∀ a, (k0_off249 v1283) a + S1x4x128.size a ≤ S16384x4x128.size a := fun k0_t1 v1283 k0_hw83 k0_h42 => k0_hw83.1 k0_h42
theorem k0_off249_wordsbf16 : ∀ (k0_t1 : Fin k0_t1_loop.trips) (v1283 : BitVec 32) (k0_hw83 : k0_chk83 k0_t1 v1283), ∀ (k0_h42 : k0_cond42 k0_t1 = 1#1), (Rect.unit (s := S16384x4x128) (k0_off249 v1283) S1x4x128.size (k0_off249_inb k0_t1 v1283 k0_hw83 k0_h42)).WholeWords (EltTy.packing .bf16) := fun k0_t1 v1283 k0_hw83 k0_h42 => k0_hw83.2 k0_h42 (k0_off249_inb k0_t1 v1283 k0_hw83 k0_h42)

def k0_off250 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let v987 : Index := Scalar.indexCast v983
  ![v987.toNat]
def k0_off251 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c0_i32_633 : BitVec 32 := 0#32
  let c0_i32_634 : BitVec 32 := 0#32
  ![v983.toNat, 0, 0]
def k0_off252 (v988 : BitVec 32) : Fin 3 → Nat :=
  let c0_i32_635 : BitVec 32 := 0#32
  let c0_i32_636 : BitVec 32 := 0#32
  ![v988.toNat, 0, 0]

def k0_chk84 (v988 : BitVec 32) : Prop :=
  (∀ a, (k0_off252 v988) a + S1x4x128.size a ≤ S16384x4x128.size a) ∧
  (∀ (hinb : ∀ a, (k0_off252 v988) a + S1x4x128.size a ≤ S16384x4x128.size a), (Rect.unit (s := S16384x4x128) (k0_off252 v988) S1x4x128.size hinb).WholeWords (EltTy.packing .bf16))
theorem k0_off252_inb : ∀ (v988 : BitVec 32) (k0_hw84 : k0_chk84 v988), ∀ a, (k0_off252 v988) a + S1x4x128.size a ≤ S16384x4x128.size a := fun v988 k0_hw84 => k0_hw84.1
theorem k0_off252_wordsbf16 : ∀ (v988 : BitVec 32) (k0_hw84 : k0_chk84 v988), (Rect.unit (s := S16384x4x128) (k0_off252 v988) S1x4x128.size (k0_off252_inb v988 k0_hw84)).WholeWords (EltTy.packing .bf16) := fun v988 k0_hw84 => k0_hw84.2 (k0_off252_inb v988 k0_hw84)

def k0_cond43 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_639 : BitVec 32 := 0#32
  let v997 : BitVec 1 := Scalar.cmpi .sgt arg4 c0_i32_639
  let v998 : BitVec 32 := Scalar.extui v997
  let c0_i32_640 : BitVec 32 := 0#32
  let v999 : BitVec 1 := Scalar.cmpi .ne v998 c0_i32_640
  v999

def k0_off253 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let v1282 : Index := Scalar.indexCast v1281
  ![v1282.toNat]
def k0_off254 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let c0_i32_837 : BitVec 32 := 0#32
  let c0_i32_838 : BitVec 32 := 0#32
  ![v1281.toNat, 0, 0]
def k0_off255 (v1283 : BitVec 32) : Fin 3 → Nat :=
  let c0_i32_839 : BitVec 32 := 0#32
  let c0_i32_840 : BitVec 32 := 0#32
  ![v1283.toNat, 0, 0]

def k0_chk85 (k0_t1 : Fin k0_t1_loop.trips) (v1283 : BitVec 32) : Prop :=
  (∀ (k0_h43 : k0_cond43 k0_t1 = 1#1), ∀ a, (k0_off255 v1283) a + S1x4x128.size a ≤ S16384x4x128.size a) ∧
  (∀ (k0_h43 : k0_cond43 k0_t1 = 1#1), ∀ (hinb : ∀ a, (k0_off255 v1283) a + S1x4x128.size a ≤ S16384x4x128.size a), (Rect.unit (s := S16384x4x128) (k0_off255 v1283) S1x4x128.size hinb).WholeWords (EltTy.packing .bf16))
theorem k0_off255_inb : ∀ (k0_t1 : Fin k0_t1_loop.trips) (v1283 : BitVec 32) (k0_hw85 : k0_chk85 k0_t1 v1283), ∀ (k0_h43 : k0_cond43 k0_t1 = 1#1), ∀ a, (k0_off255 v1283) a + S1x4x128.size a ≤ S16384x4x128.size a := fun k0_t1 v1283 k0_hw85 k0_h43 => k0_hw85.1 k0_h43
theorem k0_off255_wordsbf16 : ∀ (k0_t1 : Fin k0_t1_loop.trips) (v1283 : BitVec 32) (k0_hw85 : k0_chk85 k0_t1 v1283), ∀ (k0_h43 : k0_cond43 k0_t1 = 1#1), (Rect.unit (s := S16384x4x128) (k0_off255 v1283) S1x4x128.size (k0_off255_inb k0_t1 v1283 k0_hw85 k0_h43)).WholeWords (EltTy.packing .bf16) := fun k0_t1 v1283 k0_hw85 k0_h43 => k0_hw85.2 k0_h43 (k0_off255_inb k0_t1 v1283 k0_hw85 k0_h43)

def k0_off256 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let v1000 : Index := Scalar.indexCast v996
  ![v1000.toNat]
def k0_off257 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c0_i32_642 : BitVec 32 := 0#32
  let c0_i32_643 : BitVec 32 := 0#32
  ![v996.toNat, 0, 0]
def k0_off258 (v1001 : BitVec 32) : Fin 3 → Nat :=
  let c0_i32_644 : BitVec 32 := 0#32
  let c0_i32_645 : BitVec 32 := 0#32
  ![v1001.toNat, 0, 0]

def k0_chk86 (v1001 : BitVec 32) : Prop :=
  (∀ a, (k0_off258 v1001) a + S1x4x128.size a ≤ S16384x4x128.size a) ∧
  (∀ (hinb : ∀ a, (k0_off258 v1001) a + S1x4x128.size a ≤ S16384x4x128.size a), (Rect.unit (s := S16384x4x128) (k0_off258 v1001) S1x4x128.size hinb).WholeWords (EltTy.packing .bf16))
theorem k0_off258_inb : ∀ (v1001 : BitVec 32) (k0_hw86 : k0_chk86 v1001), ∀ a, (k0_off258 v1001) a + S1x4x128.size a ≤ S16384x4x128.size a := fun v1001 k0_hw86 => k0_hw86.1
theorem k0_off258_wordsbf16 : ∀ (v1001 : BitVec 32) (k0_hw86 : k0_chk86 v1001), (Rect.unit (s := S16384x4x128) (k0_off258 v1001) S1x4x128.size (k0_off258_inb v1001 k0_hw86)).WholeWords (EltTy.packing .bf16) := fun v1001 k0_hw86 => k0_hw86.2 (k0_off258_inb v1001 k0_hw86)

def k0_cond44 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_648 : BitVec 32 := 0#32
  let v1010 : BitVec 1 := Scalar.cmpi .sgt arg4 c0_i32_648
  let v1011 : BitVec 32 := Scalar.extui v1010
  let c0_i32_649 : BitVec 32 := 0#32
  let v1012 : BitVec 1 := Scalar.cmpi .ne v1011 c0_i32_649
  v1012

def k0_off259 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let v1282 : Index := Scalar.indexCast v1281
  ![v1282.toNat]
def k0_off260 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let c0_i32_837 : BitVec 32 := 0#32
  let c0_i32_838 : BitVec 32 := 0#32
  ![v1281.toNat, 0, 0]
def k0_off261 (v1283 : BitVec 32) : Fin 3 → Nat :=
  let c0_i32_839 : BitVec 32 := 0#32
  let c0_i32_840 : BitVec 32 := 0#32
  ![v1283.toNat, 0, 0]

def k0_chk87 (k0_t1 : Fin k0_t1_loop.trips) (v1283 : BitVec 32) : Prop :=
  (∀ (k0_h44 : k0_cond44 k0_t1 = 1#1), ∀ a, (k0_off261 v1283) a + S1x4x128.size a ≤ S16384x4x128.size a) ∧
  (∀ (k0_h44 : k0_cond44 k0_t1 = 1#1), ∀ (hinb : ∀ a, (k0_off261 v1283) a + S1x4x128.size a ≤ S16384x4x128.size a), (Rect.unit (s := S16384x4x128) (k0_off261 v1283) S1x4x128.size hinb).WholeWords (EltTy.packing .bf16))
theorem k0_off261_inb : ∀ (k0_t1 : Fin k0_t1_loop.trips) (v1283 : BitVec 32) (k0_hw87 : k0_chk87 k0_t1 v1283), ∀ (k0_h44 : k0_cond44 k0_t1 = 1#1), ∀ a, (k0_off261 v1283) a + S1x4x128.size a ≤ S16384x4x128.size a := fun k0_t1 v1283 k0_hw87 k0_h44 => k0_hw87.1 k0_h44
theorem k0_off261_wordsbf16 : ∀ (k0_t1 : Fin k0_t1_loop.trips) (v1283 : BitVec 32) (k0_hw87 : k0_chk87 k0_t1 v1283), ∀ (k0_h44 : k0_cond44 k0_t1 = 1#1), (Rect.unit (s := S16384x4x128) (k0_off261 v1283) S1x4x128.size (k0_off261_inb k0_t1 v1283 k0_hw87 k0_h44)).WholeWords (EltTy.packing .bf16) := fun k0_t1 v1283 k0_hw87 k0_h44 => k0_hw87.2 k0_h44 (k0_off261_inb k0_t1 v1283 k0_hw87 k0_h44)

def k0_off262 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let v1013 : Index := Scalar.indexCast v1009
  ![v1013.toNat]
def k0_off263 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c0_i32_651 : BitVec 32 := 0#32
  let c0_i32_652 : BitVec 32 := 0#32
  ![v1009.toNat, 0, 0]
def k0_off264 (v1014 : BitVec 32) : Fin 3 → Nat :=
  let c0_i32_653 : BitVec 32 := 0#32
  let c0_i32_654 : BitVec 32 := 0#32
  ![v1014.toNat, 0, 0]

def k0_chk88 (v1014 : BitVec 32) : Prop :=
  (∀ a, (k0_off264 v1014) a + S1x4x128.size a ≤ S16384x4x128.size a) ∧
  (∀ (hinb : ∀ a, (k0_off264 v1014) a + S1x4x128.size a ≤ S16384x4x128.size a), (Rect.unit (s := S16384x4x128) (k0_off264 v1014) S1x4x128.size hinb).WholeWords (EltTy.packing .bf16))
theorem k0_off264_inb : ∀ (v1014 : BitVec 32) (k0_hw88 : k0_chk88 v1014), ∀ a, (k0_off264 v1014) a + S1x4x128.size a ≤ S16384x4x128.size a := fun v1014 k0_hw88 => k0_hw88.1
theorem k0_off264_wordsbf16 : ∀ (v1014 : BitVec 32) (k0_hw88 : k0_chk88 v1014), (Rect.unit (s := S16384x4x128) (k0_off264 v1014) S1x4x128.size (k0_off264_inb v1014 k0_hw88)).WholeWords (EltTy.packing .bf16) := fun v1014 k0_hw88 => k0_hw88.2 (k0_off264_inb v1014 k0_hw88)

def k0_cond45 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_657 : BitVec 32 := 0#32
  let v1023 : BitVec 1 := Scalar.cmpi .sgt arg4 c0_i32_657
  let v1024 : BitVec 32 := Scalar.extui v1023
  let c0_i32_658 : BitVec 32 := 0#32
  let v1025 : BitVec 1 := Scalar.cmpi .ne v1024 c0_i32_658
  v1025

def k0_off265 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let v1282 : Index := Scalar.indexCast v1281
  ![v1282.toNat]
def k0_off266 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let c0_i32_837 : BitVec 32 := 0#32
  let c0_i32_838 : BitVec 32 := 0#32
  ![v1281.toNat, 0, 0]
def k0_off267 (v1283 : BitVec 32) : Fin 3 → Nat :=
  let c0_i32_839 : BitVec 32 := 0#32
  let c0_i32_840 : BitVec 32 := 0#32
  ![v1283.toNat, 0, 0]

def k0_chk89 (k0_t1 : Fin k0_t1_loop.trips) (v1283 : BitVec 32) : Prop :=
  (∀ (k0_h45 : k0_cond45 k0_t1 = 1#1), ∀ a, (k0_off267 v1283) a + S1x4x128.size a ≤ S16384x4x128.size a) ∧
  (∀ (k0_h45 : k0_cond45 k0_t1 = 1#1), ∀ (hinb : ∀ a, (k0_off267 v1283) a + S1x4x128.size a ≤ S16384x4x128.size a), (Rect.unit (s := S16384x4x128) (k0_off267 v1283) S1x4x128.size hinb).WholeWords (EltTy.packing .bf16))
theorem k0_off267_inb : ∀ (k0_t1 : Fin k0_t1_loop.trips) (v1283 : BitVec 32) (k0_hw89 : k0_chk89 k0_t1 v1283), ∀ (k0_h45 : k0_cond45 k0_t1 = 1#1), ∀ a, (k0_off267 v1283) a + S1x4x128.size a ≤ S16384x4x128.size a := fun k0_t1 v1283 k0_hw89 k0_h45 => k0_hw89.1 k0_h45
theorem k0_off267_wordsbf16 : ∀ (k0_t1 : Fin k0_t1_loop.trips) (v1283 : BitVec 32) (k0_hw89 : k0_chk89 k0_t1 v1283), ∀ (k0_h45 : k0_cond45 k0_t1 = 1#1), (Rect.unit (s := S16384x4x128) (k0_off267 v1283) S1x4x128.size (k0_off267_inb k0_t1 v1283 k0_hw89 k0_h45)).WholeWords (EltTy.packing .bf16) := fun k0_t1 v1283 k0_hw89 k0_h45 => k0_hw89.2 k0_h45 (k0_off267_inb k0_t1 v1283 k0_hw89 k0_h45)

def k0_off268 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let v1026 : Index := Scalar.indexCast v1022
  ![v1026.toNat]
def k0_off269 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c0_i32_660 : BitVec 32 := 0#32
  let c0_i32_661 : BitVec 32 := 0#32
  ![v1022.toNat, 0, 0]
def k0_off270 (v1027 : BitVec 32) : Fin 3 → Nat :=
  let c0_i32_662 : BitVec 32 := 0#32
  let c0_i32_663 : BitVec 32 := 0#32
  ![v1027.toNat, 0, 0]

def k0_chk90 (v1027 : BitVec 32) : Prop :=
  (∀ a, (k0_off270 v1027) a + S1x4x128.size a ≤ S16384x4x128.size a) ∧
  (∀ (hinb : ∀ a, (k0_off270 v1027) a + S1x4x128.size a ≤ S16384x4x128.size a), (Rect.unit (s := S16384x4x128) (k0_off270 v1027) S1x4x128.size hinb).WholeWords (EltTy.packing .bf16))
theorem k0_off270_inb : ∀ (v1027 : BitVec 32) (k0_hw90 : k0_chk90 v1027), ∀ a, (k0_off270 v1027) a + S1x4x128.size a ≤ S16384x4x128.size a := fun v1027 k0_hw90 => k0_hw90.1
theorem k0_off270_wordsbf16 : ∀ (v1027 : BitVec 32) (k0_hw90 : k0_chk90 v1027), (Rect.unit (s := S16384x4x128) (k0_off270 v1027) S1x4x128.size (k0_off270_inb v1027 k0_hw90)).WholeWords (EltTy.packing .bf16) := fun v1027 k0_hw90 => k0_hw90.2 (k0_off270_inb v1027 k0_hw90)

def k0_cond46 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_666 : BitVec 32 := 0#32
  let v1036 : BitVec 1 := Scalar.cmpi .sgt arg4 c0_i32_666
  let v1037 : BitVec 32 := Scalar.extui v1036
  let c0_i32_667 : BitVec 32 := 0#32
  let v1038 : BitVec 1 := Scalar.cmpi .ne v1037 c0_i32_667
  v1038

def k0_off271 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let v1282 : Index := Scalar.indexCast v1281
  ![v1282.toNat]
def k0_off272 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let c0_i32_837 : BitVec 32 := 0#32
  let c0_i32_838 : BitVec 32 := 0#32
  ![v1281.toNat, 0, 0]
def k0_off273 (v1283 : BitVec 32) : Fin 3 → Nat :=
  let c0_i32_839 : BitVec 32 := 0#32
  let c0_i32_840 : BitVec 32 := 0#32
  ![v1283.toNat, 0, 0]

def k0_chk91 (k0_t1 : Fin k0_t1_loop.trips) (v1283 : BitVec 32) : Prop :=
  (∀ (k0_h46 : k0_cond46 k0_t1 = 1#1), ∀ a, (k0_off273 v1283) a + S1x4x128.size a ≤ S16384x4x128.size a) ∧
  (∀ (k0_h46 : k0_cond46 k0_t1 = 1#1), ∀ (hinb : ∀ a, (k0_off273 v1283) a + S1x4x128.size a ≤ S16384x4x128.size a), (Rect.unit (s := S16384x4x128) (k0_off273 v1283) S1x4x128.size hinb).WholeWords (EltTy.packing .bf16))
theorem k0_off273_inb : ∀ (k0_t1 : Fin k0_t1_loop.trips) (v1283 : BitVec 32) (k0_hw91 : k0_chk91 k0_t1 v1283), ∀ (k0_h46 : k0_cond46 k0_t1 = 1#1), ∀ a, (k0_off273 v1283) a + S1x4x128.size a ≤ S16384x4x128.size a := fun k0_t1 v1283 k0_hw91 k0_h46 => k0_hw91.1 k0_h46
theorem k0_off273_wordsbf16 : ∀ (k0_t1 : Fin k0_t1_loop.trips) (v1283 : BitVec 32) (k0_hw91 : k0_chk91 k0_t1 v1283), ∀ (k0_h46 : k0_cond46 k0_t1 = 1#1), (Rect.unit (s := S16384x4x128) (k0_off273 v1283) S1x4x128.size (k0_off273_inb k0_t1 v1283 k0_hw91 k0_h46)).WholeWords (EltTy.packing .bf16) := fun k0_t1 v1283 k0_hw91 k0_h46 => k0_hw91.2 k0_h46 (k0_off273_inb k0_t1 v1283 k0_hw91 k0_h46)

def k0_off274 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let v1039 : Index := Scalar.indexCast v1035
  ![v1039.toNat]
def k0_off275 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c0_i32_669 : BitVec 32 := 0#32
  let c0_i32_670 : BitVec 32 := 0#32
  ![v1035.toNat, 0, 0]
def k0_off276 (v1040 : BitVec 32) : Fin 3 → Nat :=
  let c0_i32_671 : BitVec 32 := 0#32
  let c0_i32_672 : BitVec 32 := 0#32
  ![v1040.toNat, 0, 0]

def k0_chk92 (v1040 : BitVec 32) : Prop :=
  (∀ a, (k0_off276 v1040) a + S1x4x128.size a ≤ S16384x4x128.size a) ∧
  (∀ (hinb : ∀ a, (k0_off276 v1040) a + S1x4x128.size a ≤ S16384x4x128.size a), (Rect.unit (s := S16384x4x128) (k0_off276 v1040) S1x4x128.size hinb).WholeWords (EltTy.packing .bf16))
theorem k0_off276_inb : ∀ (v1040 : BitVec 32) (k0_hw92 : k0_chk92 v1040), ∀ a, (k0_off276 v1040) a + S1x4x128.size a ≤ S16384x4x128.size a := fun v1040 k0_hw92 => k0_hw92.1
theorem k0_off276_wordsbf16 : ∀ (v1040 : BitVec 32) (k0_hw92 : k0_chk92 v1040), (Rect.unit (s := S16384x4x128) (k0_off276 v1040) S1x4x128.size (k0_off276_inb v1040 k0_hw92)).WholeWords (EltTy.packing .bf16) := fun v1040 k0_hw92 => k0_hw92.2 (k0_off276_inb v1040 k0_hw92)

def k0_cond47 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_675 : BitVec 32 := 0#32
  let v1049 : BitVec 1 := Scalar.cmpi .sgt arg4 c0_i32_675
  let v1050 : BitVec 32 := Scalar.extui v1049
  let c0_i32_676 : BitVec 32 := 0#32
  let v1051 : BitVec 1 := Scalar.cmpi .ne v1050 c0_i32_676
  v1051

def k0_off277 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let v1282 : Index := Scalar.indexCast v1281
  ![v1282.toNat]
def k0_off278 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let c0_i32_837 : BitVec 32 := 0#32
  let c0_i32_838 : BitVec 32 := 0#32
  ![v1281.toNat, 0, 0]
def k0_off279 (v1283 : BitVec 32) : Fin 3 → Nat :=
  let c0_i32_839 : BitVec 32 := 0#32
  let c0_i32_840 : BitVec 32 := 0#32
  ![v1283.toNat, 0, 0]

def k0_chk93 (k0_t1 : Fin k0_t1_loop.trips) (v1283 : BitVec 32) : Prop :=
  (∀ (k0_h47 : k0_cond47 k0_t1 = 1#1), ∀ a, (k0_off279 v1283) a + S1x4x128.size a ≤ S16384x4x128.size a) ∧
  (∀ (k0_h47 : k0_cond47 k0_t1 = 1#1), ∀ (hinb : ∀ a, (k0_off279 v1283) a + S1x4x128.size a ≤ S16384x4x128.size a), (Rect.unit (s := S16384x4x128) (k0_off279 v1283) S1x4x128.size hinb).WholeWords (EltTy.packing .bf16))
theorem k0_off279_inb : ∀ (k0_t1 : Fin k0_t1_loop.trips) (v1283 : BitVec 32) (k0_hw93 : k0_chk93 k0_t1 v1283), ∀ (k0_h47 : k0_cond47 k0_t1 = 1#1), ∀ a, (k0_off279 v1283) a + S1x4x128.size a ≤ S16384x4x128.size a := fun k0_t1 v1283 k0_hw93 k0_h47 => k0_hw93.1 k0_h47
theorem k0_off279_wordsbf16 : ∀ (k0_t1 : Fin k0_t1_loop.trips) (v1283 : BitVec 32) (k0_hw93 : k0_chk93 k0_t1 v1283), ∀ (k0_h47 : k0_cond47 k0_t1 = 1#1), (Rect.unit (s := S16384x4x128) (k0_off279 v1283) S1x4x128.size (k0_off279_inb k0_t1 v1283 k0_hw93 k0_h47)).WholeWords (EltTy.packing .bf16) := fun k0_t1 v1283 k0_hw93 k0_h47 => k0_hw93.2 k0_h47 (k0_off279_inb k0_t1 v1283 k0_hw93 k0_h47)

def k0_off280 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let v1052 : Index := Scalar.indexCast v1048
  ![v1052.toNat]
def k0_off281 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c0_i32_678 : BitVec 32 := 0#32
  let c0_i32_679 : BitVec 32 := 0#32
  ![v1048.toNat, 0, 0]
def k0_off282 (v1053 : BitVec 32) : Fin 3 → Nat :=
  let c0_i32_680 : BitVec 32 := 0#32
  let c0_i32_681 : BitVec 32 := 0#32
  ![v1053.toNat, 0, 0]

def k0_chk94 (v1053 : BitVec 32) : Prop :=
  (∀ a, (k0_off282 v1053) a + S1x4x128.size a ≤ S16384x4x128.size a) ∧
  (∀ (hinb : ∀ a, (k0_off282 v1053) a + S1x4x128.size a ≤ S16384x4x128.size a), (Rect.unit (s := S16384x4x128) (k0_off282 v1053) S1x4x128.size hinb).WholeWords (EltTy.packing .bf16))
theorem k0_off282_inb : ∀ (v1053 : BitVec 32) (k0_hw94 : k0_chk94 v1053), ∀ a, (k0_off282 v1053) a + S1x4x128.size a ≤ S16384x4x128.size a := fun v1053 k0_hw94 => k0_hw94.1
theorem k0_off282_wordsbf16 : ∀ (v1053 : BitVec 32) (k0_hw94 : k0_chk94 v1053), (Rect.unit (s := S16384x4x128) (k0_off282 v1053) S1x4x128.size (k0_off282_inb v1053 k0_hw94)).WholeWords (EltTy.packing .bf16) := fun v1053 k0_hw94 => k0_hw94.2 (k0_off282_inb v1053 k0_hw94)

def k0_cond48 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_684 : BitVec 32 := 0#32
  let v1062 : BitVec 1 := Scalar.cmpi .sgt arg4 c0_i32_684
  let v1063 : BitVec 32 := Scalar.extui v1062
  let c0_i32_685 : BitVec 32 := 0#32
  let v1064 : BitVec 1 := Scalar.cmpi .ne v1063 c0_i32_685
  v1064

def k0_off283 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let v1282 : Index := Scalar.indexCast v1281
  ![v1282.toNat]
def k0_off284 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let c0_i32_837 : BitVec 32 := 0#32
  let c0_i32_838 : BitVec 32 := 0#32
  ![v1281.toNat, 0, 0]
def k0_off285 (v1283 : BitVec 32) : Fin 3 → Nat :=
  let c0_i32_839 : BitVec 32 := 0#32
  let c0_i32_840 : BitVec 32 := 0#32
  ![v1283.toNat, 0, 0]

def k0_chk95 (k0_t1 : Fin k0_t1_loop.trips) (v1283 : BitVec 32) : Prop :=
  (∀ (k0_h48 : k0_cond48 k0_t1 = 1#1), ∀ a, (k0_off285 v1283) a + S1x4x128.size a ≤ S16384x4x128.size a) ∧
  (∀ (k0_h48 : k0_cond48 k0_t1 = 1#1), ∀ (hinb : ∀ a, (k0_off285 v1283) a + S1x4x128.size a ≤ S16384x4x128.size a), (Rect.unit (s := S16384x4x128) (k0_off285 v1283) S1x4x128.size hinb).WholeWords (EltTy.packing .bf16))
theorem k0_off285_inb : ∀ (k0_t1 : Fin k0_t1_loop.trips) (v1283 : BitVec 32) (k0_hw95 : k0_chk95 k0_t1 v1283), ∀ (k0_h48 : k0_cond48 k0_t1 = 1#1), ∀ a, (k0_off285 v1283) a + S1x4x128.size a ≤ S16384x4x128.size a := fun k0_t1 v1283 k0_hw95 k0_h48 => k0_hw95.1 k0_h48
theorem k0_off285_wordsbf16 : ∀ (k0_t1 : Fin k0_t1_loop.trips) (v1283 : BitVec 32) (k0_hw95 : k0_chk95 k0_t1 v1283), ∀ (k0_h48 : k0_cond48 k0_t1 = 1#1), (Rect.unit (s := S16384x4x128) (k0_off285 v1283) S1x4x128.size (k0_off285_inb k0_t1 v1283 k0_hw95 k0_h48)).WholeWords (EltTy.packing .bf16) := fun k0_t1 v1283 k0_hw95 k0_h48 => k0_hw95.2 k0_h48 (k0_off285_inb k0_t1 v1283 k0_hw95 k0_h48)

def k0_off286 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let v1065 : Index := Scalar.indexCast v1061
  ![v1065.toNat]
def k0_off287 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c0_i32_687 : BitVec 32 := 0#32
  let c0_i32_688 : BitVec 32 := 0#32
  ![v1061.toNat, 0, 0]
def k0_off288 (v1066 : BitVec 32) : Fin 3 → Nat :=
  let c0_i32_689 : BitVec 32 := 0#32
  let c0_i32_690 : BitVec 32 := 0#32
  ![v1066.toNat, 0, 0]

def k0_chk96 (v1066 : BitVec 32) : Prop :=
  (∀ a, (k0_off288 v1066) a + S1x4x128.size a ≤ S16384x4x128.size a) ∧
  (∀ (hinb : ∀ a, (k0_off288 v1066) a + S1x4x128.size a ≤ S16384x4x128.size a), (Rect.unit (s := S16384x4x128) (k0_off288 v1066) S1x4x128.size hinb).WholeWords (EltTy.packing .bf16))
theorem k0_off288_inb : ∀ (v1066 : BitVec 32) (k0_hw96 : k0_chk96 v1066), ∀ a, (k0_off288 v1066) a + S1x4x128.size a ≤ S16384x4x128.size a := fun v1066 k0_hw96 => k0_hw96.1
theorem k0_off288_wordsbf16 : ∀ (v1066 : BitVec 32) (k0_hw96 : k0_chk96 v1066), (Rect.unit (s := S16384x4x128) (k0_off288 v1066) S1x4x128.size (k0_off288_inb v1066 k0_hw96)).WholeWords (EltTy.packing .bf16) := fun v1066 k0_hw96 => k0_hw96.2 (k0_off288_inb v1066 k0_hw96)

def k0_cond49 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_693 : BitVec 32 := 0#32
  let v1075 : BitVec 1 := Scalar.cmpi .sgt arg4 c0_i32_693
  let v1076 : BitVec 32 := Scalar.extui v1075
  let c0_i32_694 : BitVec 32 := 0#32
  let v1077 : BitVec 1 := Scalar.cmpi .ne v1076 c0_i32_694
  v1077

def k0_off289 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let v1282 : Index := Scalar.indexCast v1281
  ![v1282.toNat]
def k0_off290 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let c0_i32_837 : BitVec 32 := 0#32
  let c0_i32_838 : BitVec 32 := 0#32
  ![v1281.toNat, 0, 0]
def k0_off291 (v1283 : BitVec 32) : Fin 3 → Nat :=
  let c0_i32_839 : BitVec 32 := 0#32
  let c0_i32_840 : BitVec 32 := 0#32
  ![v1283.toNat, 0, 0]

def k0_chk97 (k0_t1 : Fin k0_t1_loop.trips) (v1283 : BitVec 32) : Prop :=
  (∀ (k0_h49 : k0_cond49 k0_t1 = 1#1), ∀ a, (k0_off291 v1283) a + S1x4x128.size a ≤ S16384x4x128.size a) ∧
  (∀ (k0_h49 : k0_cond49 k0_t1 = 1#1), ∀ (hinb : ∀ a, (k0_off291 v1283) a + S1x4x128.size a ≤ S16384x4x128.size a), (Rect.unit (s := S16384x4x128) (k0_off291 v1283) S1x4x128.size hinb).WholeWords (EltTy.packing .bf16))
theorem k0_off291_inb : ∀ (k0_t1 : Fin k0_t1_loop.trips) (v1283 : BitVec 32) (k0_hw97 : k0_chk97 k0_t1 v1283), ∀ (k0_h49 : k0_cond49 k0_t1 = 1#1), ∀ a, (k0_off291 v1283) a + S1x4x128.size a ≤ S16384x4x128.size a := fun k0_t1 v1283 k0_hw97 k0_h49 => k0_hw97.1 k0_h49
theorem k0_off291_wordsbf16 : ∀ (k0_t1 : Fin k0_t1_loop.trips) (v1283 : BitVec 32) (k0_hw97 : k0_chk97 k0_t1 v1283), ∀ (k0_h49 : k0_cond49 k0_t1 = 1#1), (Rect.unit (s := S16384x4x128) (k0_off291 v1283) S1x4x128.size (k0_off291_inb k0_t1 v1283 k0_hw97 k0_h49)).WholeWords (EltTy.packing .bf16) := fun k0_t1 v1283 k0_hw97 k0_h49 => k0_hw97.2 k0_h49 (k0_off291_inb k0_t1 v1283 k0_hw97 k0_h49)

def k0_off292 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let v1078 : Index := Scalar.indexCast v1074
  ![v1078.toNat]
def k0_off293 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c0_i32_696 : BitVec 32 := 0#32
  let c0_i32_697 : BitVec 32 := 0#32
  ![v1074.toNat, 0, 0]
def k0_off294 (v1079 : BitVec 32) : Fin 3 → Nat :=
  let c0_i32_698 : BitVec 32 := 0#32
  let c0_i32_699 : BitVec 32 := 0#32
  ![v1079.toNat, 0, 0]

def k0_chk98 (v1079 : BitVec 32) : Prop :=
  (∀ a, (k0_off294 v1079) a + S1x4x128.size a ≤ S16384x4x128.size a) ∧
  (∀ (hinb : ∀ a, (k0_off294 v1079) a + S1x4x128.size a ≤ S16384x4x128.size a), (Rect.unit (s := S16384x4x128) (k0_off294 v1079) S1x4x128.size hinb).WholeWords (EltTy.packing .bf16))
theorem k0_off294_inb : ∀ (v1079 : BitVec 32) (k0_hw98 : k0_chk98 v1079), ∀ a, (k0_off294 v1079) a + S1x4x128.size a ≤ S16384x4x128.size a := fun v1079 k0_hw98 => k0_hw98.1
theorem k0_off294_wordsbf16 : ∀ (v1079 : BitVec 32) (k0_hw98 : k0_chk98 v1079), (Rect.unit (s := S16384x4x128) (k0_off294 v1079) S1x4x128.size (k0_off294_inb v1079 k0_hw98)).WholeWords (EltTy.packing .bf16) := fun v1079 k0_hw98 => k0_hw98.2 (k0_off294_inb v1079 k0_hw98)

def k0_cond50 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_702 : BitVec 32 := 0#32
  let v1088 : BitVec 1 := Scalar.cmpi .sgt arg4 c0_i32_702
  let v1089 : BitVec 32 := Scalar.extui v1088
  let c0_i32_703 : BitVec 32 := 0#32
  let v1090 : BitVec 1 := Scalar.cmpi .ne v1089 c0_i32_703
  v1090

def k0_off295 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let v1282 : Index := Scalar.indexCast v1281
  ![v1282.toNat]
def k0_off296 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let c0_i32_837 : BitVec 32 := 0#32
  let c0_i32_838 : BitVec 32 := 0#32
  ![v1281.toNat, 0, 0]
def k0_off297 (v1283 : BitVec 32) : Fin 3 → Nat :=
  let c0_i32_839 : BitVec 32 := 0#32
  let c0_i32_840 : BitVec 32 := 0#32
  ![v1283.toNat, 0, 0]

def k0_chk99 (k0_t1 : Fin k0_t1_loop.trips) (v1283 : BitVec 32) : Prop :=
  (∀ (k0_h50 : k0_cond50 k0_t1 = 1#1), ∀ a, (k0_off297 v1283) a + S1x4x128.size a ≤ S16384x4x128.size a) ∧
  (∀ (k0_h50 : k0_cond50 k0_t1 = 1#1), ∀ (hinb : ∀ a, (k0_off297 v1283) a + S1x4x128.size a ≤ S16384x4x128.size a), (Rect.unit (s := S16384x4x128) (k0_off297 v1283) S1x4x128.size hinb).WholeWords (EltTy.packing .bf16))
theorem k0_off297_inb : ∀ (k0_t1 : Fin k0_t1_loop.trips) (v1283 : BitVec 32) (k0_hw99 : k0_chk99 k0_t1 v1283), ∀ (k0_h50 : k0_cond50 k0_t1 = 1#1), ∀ a, (k0_off297 v1283) a + S1x4x128.size a ≤ S16384x4x128.size a := fun k0_t1 v1283 k0_hw99 k0_h50 => k0_hw99.1 k0_h50
theorem k0_off297_wordsbf16 : ∀ (k0_t1 : Fin k0_t1_loop.trips) (v1283 : BitVec 32) (k0_hw99 : k0_chk99 k0_t1 v1283), ∀ (k0_h50 : k0_cond50 k0_t1 = 1#1), (Rect.unit (s := S16384x4x128) (k0_off297 v1283) S1x4x128.size (k0_off297_inb k0_t1 v1283 k0_hw99 k0_h50)).WholeWords (EltTy.packing .bf16) := fun k0_t1 v1283 k0_hw99 k0_h50 => k0_hw99.2 k0_h50 (k0_off297_inb k0_t1 v1283 k0_hw99 k0_h50)

def k0_off298 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let v1091 : Index := Scalar.indexCast v1087
  ![v1091.toNat]
def k0_off299 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c0_i32_705 : BitVec 32 := 0#32
  let c0_i32_706 : BitVec 32 := 0#32
  ![v1087.toNat, 0, 0]
def k0_off300 (v1092 : BitVec 32) : Fin 3 → Nat :=
  let c0_i32_707 : BitVec 32 := 0#32
  let c0_i32_708 : BitVec 32 := 0#32
  ![v1092.toNat, 0, 0]

def k0_chk100 (v1092 : BitVec 32) : Prop :=
  (∀ a, (k0_off300 v1092) a + S1x4x128.size a ≤ S16384x4x128.size a) ∧
  (∀ (hinb : ∀ a, (k0_off300 v1092) a + S1x4x128.size a ≤ S16384x4x128.size a), (Rect.unit (s := S16384x4x128) (k0_off300 v1092) S1x4x128.size hinb).WholeWords (EltTy.packing .bf16))
theorem k0_off300_inb : ∀ (v1092 : BitVec 32) (k0_hw100 : k0_chk100 v1092), ∀ a, (k0_off300 v1092) a + S1x4x128.size a ≤ S16384x4x128.size a := fun v1092 k0_hw100 => k0_hw100.1
theorem k0_off300_wordsbf16 : ∀ (v1092 : BitVec 32) (k0_hw100 : k0_chk100 v1092), (Rect.unit (s := S16384x4x128) (k0_off300 v1092) S1x4x128.size (k0_off300_inb v1092 k0_hw100)).WholeWords (EltTy.packing .bf16) := fun v1092 k0_hw100 => k0_hw100.2 (k0_off300_inb v1092 k0_hw100)

def k0_cond51 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_711 : BitVec 32 := 0#32
  let v1101 : BitVec 1 := Scalar.cmpi .sgt arg4 c0_i32_711
  let v1102 : BitVec 32 := Scalar.extui v1101
  let c0_i32_712 : BitVec 32 := 0#32
  let v1103 : BitVec 1 := Scalar.cmpi .ne v1102 c0_i32_712
  v1103

def k0_off301 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let v1282 : Index := Scalar.indexCast v1281
  ![v1282.toNat]
def k0_off302 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let c0_i32_837 : BitVec 32 := 0#32
  let c0_i32_838 : BitVec 32 := 0#32
  ![v1281.toNat, 0, 0]
def k0_off303 (v1283 : BitVec 32) : Fin 3 → Nat :=
  let c0_i32_839 : BitVec 32 := 0#32
  let c0_i32_840 : BitVec 32 := 0#32
  ![v1283.toNat, 0, 0]

def k0_chk101 (k0_t1 : Fin k0_t1_loop.trips) (v1283 : BitVec 32) : Prop :=
  (∀ (k0_h51 : k0_cond51 k0_t1 = 1#1), ∀ a, (k0_off303 v1283) a + S1x4x128.size a ≤ S16384x4x128.size a) ∧
  (∀ (k0_h51 : k0_cond51 k0_t1 = 1#1), ∀ (hinb : ∀ a, (k0_off303 v1283) a + S1x4x128.size a ≤ S16384x4x128.size a), (Rect.unit (s := S16384x4x128) (k0_off303 v1283) S1x4x128.size hinb).WholeWords (EltTy.packing .bf16))
theorem k0_off303_inb : ∀ (k0_t1 : Fin k0_t1_loop.trips) (v1283 : BitVec 32) (k0_hw101 : k0_chk101 k0_t1 v1283), ∀ (k0_h51 : k0_cond51 k0_t1 = 1#1), ∀ a, (k0_off303 v1283) a + S1x4x128.size a ≤ S16384x4x128.size a := fun k0_t1 v1283 k0_hw101 k0_h51 => k0_hw101.1 k0_h51
theorem k0_off303_wordsbf16 : ∀ (k0_t1 : Fin k0_t1_loop.trips) (v1283 : BitVec 32) (k0_hw101 : k0_chk101 k0_t1 v1283), ∀ (k0_h51 : k0_cond51 k0_t1 = 1#1), (Rect.unit (s := S16384x4x128) (k0_off303 v1283) S1x4x128.size (k0_off303_inb k0_t1 v1283 k0_hw101 k0_h51)).WholeWords (EltTy.packing .bf16) := fun k0_t1 v1283 k0_hw101 k0_h51 => k0_hw101.2 k0_h51 (k0_off303_inb k0_t1 v1283 k0_hw101 k0_h51)

def k0_off304 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let v1104 : Index := Scalar.indexCast v1100
  ![v1104.toNat]
def k0_off305 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c0_i32_714 : BitVec 32 := 0#32
  let c0_i32_715 : BitVec 32 := 0#32
  ![v1100.toNat, 0, 0]
def k0_off306 (v1105 : BitVec 32) : Fin 3 → Nat :=
  let c0_i32_716 : BitVec 32 := 0#32
  let c0_i32_717 : BitVec 32 := 0#32
  ![v1105.toNat, 0, 0]

def k0_chk102 (v1105 : BitVec 32) : Prop :=
  (∀ a, (k0_off306 v1105) a + S1x4x128.size a ≤ S16384x4x128.size a) ∧
  (∀ (hinb : ∀ a, (k0_off306 v1105) a + S1x4x128.size a ≤ S16384x4x128.size a), (Rect.unit (s := S16384x4x128) (k0_off306 v1105) S1x4x128.size hinb).WholeWords (EltTy.packing .bf16))
theorem k0_off306_inb : ∀ (v1105 : BitVec 32) (k0_hw102 : k0_chk102 v1105), ∀ a, (k0_off306 v1105) a + S1x4x128.size a ≤ S16384x4x128.size a := fun v1105 k0_hw102 => k0_hw102.1
theorem k0_off306_wordsbf16 : ∀ (v1105 : BitVec 32) (k0_hw102 : k0_chk102 v1105), (Rect.unit (s := S16384x4x128) (k0_off306 v1105) S1x4x128.size (k0_off306_inb v1105 k0_hw102)).WholeWords (EltTy.packing .bf16) := fun v1105 k0_hw102 => k0_hw102.2 (k0_off306_inb v1105 k0_hw102)

def k0_cond52 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_720 : BitVec 32 := 0#32
  let v1114 : BitVec 1 := Scalar.cmpi .sgt arg4 c0_i32_720
  let v1115 : BitVec 32 := Scalar.extui v1114
  let c0_i32_721 : BitVec 32 := 0#32
  let v1116 : BitVec 1 := Scalar.cmpi .ne v1115 c0_i32_721
  v1116

def k0_off307 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let v1282 : Index := Scalar.indexCast v1281
  ![v1282.toNat]
def k0_off308 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let c0_i32_837 : BitVec 32 := 0#32
  let c0_i32_838 : BitVec 32 := 0#32
  ![v1281.toNat, 0, 0]
def k0_off309 (v1283 : BitVec 32) : Fin 3 → Nat :=
  let c0_i32_839 : BitVec 32 := 0#32
  let c0_i32_840 : BitVec 32 := 0#32
  ![v1283.toNat, 0, 0]

def k0_chk103 (k0_t1 : Fin k0_t1_loop.trips) (v1283 : BitVec 32) : Prop :=
  (∀ (k0_h52 : k0_cond52 k0_t1 = 1#1), ∀ a, (k0_off309 v1283) a + S1x4x128.size a ≤ S16384x4x128.size a) ∧
  (∀ (k0_h52 : k0_cond52 k0_t1 = 1#1), ∀ (hinb : ∀ a, (k0_off309 v1283) a + S1x4x128.size a ≤ S16384x4x128.size a), (Rect.unit (s := S16384x4x128) (k0_off309 v1283) S1x4x128.size hinb).WholeWords (EltTy.packing .bf16))
theorem k0_off309_inb : ∀ (k0_t1 : Fin k0_t1_loop.trips) (v1283 : BitVec 32) (k0_hw103 : k0_chk103 k0_t1 v1283), ∀ (k0_h52 : k0_cond52 k0_t1 = 1#1), ∀ a, (k0_off309 v1283) a + S1x4x128.size a ≤ S16384x4x128.size a := fun k0_t1 v1283 k0_hw103 k0_h52 => k0_hw103.1 k0_h52
theorem k0_off309_wordsbf16 : ∀ (k0_t1 : Fin k0_t1_loop.trips) (v1283 : BitVec 32) (k0_hw103 : k0_chk103 k0_t1 v1283), ∀ (k0_h52 : k0_cond52 k0_t1 = 1#1), (Rect.unit (s := S16384x4x128) (k0_off309 v1283) S1x4x128.size (k0_off309_inb k0_t1 v1283 k0_hw103 k0_h52)).WholeWords (EltTy.packing .bf16) := fun k0_t1 v1283 k0_hw103 k0_h52 => k0_hw103.2 k0_h52 (k0_off309_inb k0_t1 v1283 k0_hw103 k0_h52)

def k0_off310 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let v1117 : Index := Scalar.indexCast v1113
  ![v1117.toNat]
def k0_off311 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c0_i32_723 : BitVec 32 := 0#32
  let c0_i32_724 : BitVec 32 := 0#32
  ![v1113.toNat, 0, 0]
def k0_off312 (v1118 : BitVec 32) : Fin 3 → Nat :=
  let c0_i32_725 : BitVec 32 := 0#32
  let c0_i32_726 : BitVec 32 := 0#32
  ![v1118.toNat, 0, 0]

def k0_chk104 (v1118 : BitVec 32) : Prop :=
  (∀ a, (k0_off312 v1118) a + S1x4x128.size a ≤ S16384x4x128.size a) ∧
  (∀ (hinb : ∀ a, (k0_off312 v1118) a + S1x4x128.size a ≤ S16384x4x128.size a), (Rect.unit (s := S16384x4x128) (k0_off312 v1118) S1x4x128.size hinb).WholeWords (EltTy.packing .bf16))
theorem k0_off312_inb : ∀ (v1118 : BitVec 32) (k0_hw104 : k0_chk104 v1118), ∀ a, (k0_off312 v1118) a + S1x4x128.size a ≤ S16384x4x128.size a := fun v1118 k0_hw104 => k0_hw104.1
theorem k0_off312_wordsbf16 : ∀ (v1118 : BitVec 32) (k0_hw104 : k0_chk104 v1118), (Rect.unit (s := S16384x4x128) (k0_off312 v1118) S1x4x128.size (k0_off312_inb v1118 k0_hw104)).WholeWords (EltTy.packing .bf16) := fun v1118 k0_hw104 => k0_hw104.2 (k0_off312_inb v1118 k0_hw104)

def k0_cond53 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_729 : BitVec 32 := 0#32
  let v1127 : BitVec 1 := Scalar.cmpi .sgt arg4 c0_i32_729
  let v1128 : BitVec 32 := Scalar.extui v1127
  let c0_i32_730 : BitVec 32 := 0#32
  let v1129 : BitVec 1 := Scalar.cmpi .ne v1128 c0_i32_730
  v1129

def k0_off313 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let v1282 : Index := Scalar.indexCast v1281
  ![v1282.toNat]
def k0_off314 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let c0_i32_837 : BitVec 32 := 0#32
  let c0_i32_838 : BitVec 32 := 0#32
  ![v1281.toNat, 0, 0]
def k0_off315 (v1283 : BitVec 32) : Fin 3 → Nat :=
  let c0_i32_839 : BitVec 32 := 0#32
  let c0_i32_840 : BitVec 32 := 0#32
  ![v1283.toNat, 0, 0]

def k0_chk105 (k0_t1 : Fin k0_t1_loop.trips) (v1283 : BitVec 32) : Prop :=
  (∀ (k0_h53 : k0_cond53 k0_t1 = 1#1), ∀ a, (k0_off315 v1283) a + S1x4x128.size a ≤ S16384x4x128.size a) ∧
  (∀ (k0_h53 : k0_cond53 k0_t1 = 1#1), ∀ (hinb : ∀ a, (k0_off315 v1283) a + S1x4x128.size a ≤ S16384x4x128.size a), (Rect.unit (s := S16384x4x128) (k0_off315 v1283) S1x4x128.size hinb).WholeWords (EltTy.packing .bf16))
theorem k0_off315_inb : ∀ (k0_t1 : Fin k0_t1_loop.trips) (v1283 : BitVec 32) (k0_hw105 : k0_chk105 k0_t1 v1283), ∀ (k0_h53 : k0_cond53 k0_t1 = 1#1), ∀ a, (k0_off315 v1283) a + S1x4x128.size a ≤ S16384x4x128.size a := fun k0_t1 v1283 k0_hw105 k0_h53 => k0_hw105.1 k0_h53
theorem k0_off315_wordsbf16 : ∀ (k0_t1 : Fin k0_t1_loop.trips) (v1283 : BitVec 32) (k0_hw105 : k0_chk105 k0_t1 v1283), ∀ (k0_h53 : k0_cond53 k0_t1 = 1#1), (Rect.unit (s := S16384x4x128) (k0_off315 v1283) S1x4x128.size (k0_off315_inb k0_t1 v1283 k0_hw105 k0_h53)).WholeWords (EltTy.packing .bf16) := fun k0_t1 v1283 k0_hw105 k0_h53 => k0_hw105.2 k0_h53 (k0_off315_inb k0_t1 v1283 k0_hw105 k0_h53)

def k0_off316 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let v1130 : Index := Scalar.indexCast v1126
  ![v1130.toNat]
def k0_off317 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c0_i32_732 : BitVec 32 := 0#32
  let c0_i32_733 : BitVec 32 := 0#32
  ![v1126.toNat, 0, 0]
def k0_off318 (v1131 : BitVec 32) : Fin 3 → Nat :=
  let c0_i32_734 : BitVec 32 := 0#32
  let c0_i32_735 : BitVec 32 := 0#32
  ![v1131.toNat, 0, 0]

def k0_chk106 (v1131 : BitVec 32) : Prop :=
  (∀ a, (k0_off318 v1131) a + S1x4x128.size a ≤ S16384x4x128.size a) ∧
  (∀ (hinb : ∀ a, (k0_off318 v1131) a + S1x4x128.size a ≤ S16384x4x128.size a), (Rect.unit (s := S16384x4x128) (k0_off318 v1131) S1x4x128.size hinb).WholeWords (EltTy.packing .bf16))
theorem k0_off318_inb : ∀ (v1131 : BitVec 32) (k0_hw106 : k0_chk106 v1131), ∀ a, (k0_off318 v1131) a + S1x4x128.size a ≤ S16384x4x128.size a := fun v1131 k0_hw106 => k0_hw106.1
theorem k0_off318_wordsbf16 : ∀ (v1131 : BitVec 32) (k0_hw106 : k0_chk106 v1131), (Rect.unit (s := S16384x4x128) (k0_off318 v1131) S1x4x128.size (k0_off318_inb v1131 k0_hw106)).WholeWords (EltTy.packing .bf16) := fun v1131 k0_hw106 => k0_hw106.2 (k0_off318_inb v1131 k0_hw106)

def k0_cond54 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_738 : BitVec 32 := 0#32
  let v1140 : BitVec 1 := Scalar.cmpi .sgt arg4 c0_i32_738
  let v1141 : BitVec 32 := Scalar.extui v1140
  let c0_i32_739 : BitVec 32 := 0#32
  let v1142 : BitVec 1 := Scalar.cmpi .ne v1141 c0_i32_739
  v1142

def k0_off319 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let v1282 : Index := Scalar.indexCast v1281
  ![v1282.toNat]
def k0_off320 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let c0_i32_837 : BitVec 32 := 0#32
  let c0_i32_838 : BitVec 32 := 0#32
  ![v1281.toNat, 0, 0]
def k0_off321 (v1283 : BitVec 32) : Fin 3 → Nat :=
  let c0_i32_839 : BitVec 32 := 0#32
  let c0_i32_840 : BitVec 32 := 0#32
  ![v1283.toNat, 0, 0]

def k0_chk107 (k0_t1 : Fin k0_t1_loop.trips) (v1283 : BitVec 32) : Prop :=
  (∀ (k0_h54 : k0_cond54 k0_t1 = 1#1), ∀ a, (k0_off321 v1283) a + S1x4x128.size a ≤ S16384x4x128.size a) ∧
  (∀ (k0_h54 : k0_cond54 k0_t1 = 1#1), ∀ (hinb : ∀ a, (k0_off321 v1283) a + S1x4x128.size a ≤ S16384x4x128.size a), (Rect.unit (s := S16384x4x128) (k0_off321 v1283) S1x4x128.size hinb).WholeWords (EltTy.packing .bf16))
theorem k0_off321_inb : ∀ (k0_t1 : Fin k0_t1_loop.trips) (v1283 : BitVec 32) (k0_hw107 : k0_chk107 k0_t1 v1283), ∀ (k0_h54 : k0_cond54 k0_t1 = 1#1), ∀ a, (k0_off321 v1283) a + S1x4x128.size a ≤ S16384x4x128.size a := fun k0_t1 v1283 k0_hw107 k0_h54 => k0_hw107.1 k0_h54
theorem k0_off321_wordsbf16 : ∀ (k0_t1 : Fin k0_t1_loop.trips) (v1283 : BitVec 32) (k0_hw107 : k0_chk107 k0_t1 v1283), ∀ (k0_h54 : k0_cond54 k0_t1 = 1#1), (Rect.unit (s := S16384x4x128) (k0_off321 v1283) S1x4x128.size (k0_off321_inb k0_t1 v1283 k0_hw107 k0_h54)).WholeWords (EltTy.packing .bf16) := fun k0_t1 v1283 k0_hw107 k0_h54 => k0_hw107.2 k0_h54 (k0_off321_inb k0_t1 v1283 k0_hw107 k0_h54)

def k0_off322 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let v1143 : Index := Scalar.indexCast v1139
  ![v1143.toNat]
def k0_off323 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c0_i32_741 : BitVec 32 := 0#32
  let c0_i32_742 : BitVec 32 := 0#32
  ![v1139.toNat, 0, 0]
def k0_off324 (v1144 : BitVec 32) : Fin 3 → Nat :=
  let c0_i32_743 : BitVec 32 := 0#32
  let c0_i32_744 : BitVec 32 := 0#32
  ![v1144.toNat, 0, 0]

def k0_chk108 (v1144 : BitVec 32) : Prop :=
  (∀ a, (k0_off324 v1144) a + S1x4x128.size a ≤ S16384x4x128.size a) ∧
  (∀ (hinb : ∀ a, (k0_off324 v1144) a + S1x4x128.size a ≤ S16384x4x128.size a), (Rect.unit (s := S16384x4x128) (k0_off324 v1144) S1x4x128.size hinb).WholeWords (EltTy.packing .bf16))
theorem k0_off324_inb : ∀ (v1144 : BitVec 32) (k0_hw108 : k0_chk108 v1144), ∀ a, (k0_off324 v1144) a + S1x4x128.size a ≤ S16384x4x128.size a := fun v1144 k0_hw108 => k0_hw108.1
theorem k0_off324_wordsbf16 : ∀ (v1144 : BitVec 32) (k0_hw108 : k0_chk108 v1144), (Rect.unit (s := S16384x4x128) (k0_off324 v1144) S1x4x128.size (k0_off324_inb v1144 k0_hw108)).WholeWords (EltTy.packing .bf16) := fun v1144 k0_hw108 => k0_hw108.2 (k0_off324_inb v1144 k0_hw108)

def k0_cond55 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_747 : BitVec 32 := 0#32
  let v1153 : BitVec 1 := Scalar.cmpi .sgt arg4 c0_i32_747
  let v1154 : BitVec 32 := Scalar.extui v1153
  let c0_i32_748 : BitVec 32 := 0#32
  let v1155 : BitVec 1 := Scalar.cmpi .ne v1154 c0_i32_748
  v1155

def k0_off325 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let v1282 : Index := Scalar.indexCast v1281
  ![v1282.toNat]
def k0_off326 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let c0_i32_837 : BitVec 32 := 0#32
  let c0_i32_838 : BitVec 32 := 0#32
  ![v1281.toNat, 0, 0]
def k0_off327 (v1283 : BitVec 32) : Fin 3 → Nat :=
  let c0_i32_839 : BitVec 32 := 0#32
  let c0_i32_840 : BitVec 32 := 0#32
  ![v1283.toNat, 0, 0]

def k0_chk109 (k0_t1 : Fin k0_t1_loop.trips) (v1283 : BitVec 32) : Prop :=
  (∀ (k0_h55 : k0_cond55 k0_t1 = 1#1), ∀ a, (k0_off327 v1283) a + S1x4x128.size a ≤ S16384x4x128.size a) ∧
  (∀ (k0_h55 : k0_cond55 k0_t1 = 1#1), ∀ (hinb : ∀ a, (k0_off327 v1283) a + S1x4x128.size a ≤ S16384x4x128.size a), (Rect.unit (s := S16384x4x128) (k0_off327 v1283) S1x4x128.size hinb).WholeWords (EltTy.packing .bf16))
theorem k0_off327_inb : ∀ (k0_t1 : Fin k0_t1_loop.trips) (v1283 : BitVec 32) (k0_hw109 : k0_chk109 k0_t1 v1283), ∀ (k0_h55 : k0_cond55 k0_t1 = 1#1), ∀ a, (k0_off327 v1283) a + S1x4x128.size a ≤ S16384x4x128.size a := fun k0_t1 v1283 k0_hw109 k0_h55 => k0_hw109.1 k0_h55
theorem k0_off327_wordsbf16 : ∀ (k0_t1 : Fin k0_t1_loop.trips) (v1283 : BitVec 32) (k0_hw109 : k0_chk109 k0_t1 v1283), ∀ (k0_h55 : k0_cond55 k0_t1 = 1#1), (Rect.unit (s := S16384x4x128) (k0_off327 v1283) S1x4x128.size (k0_off327_inb k0_t1 v1283 k0_hw109 k0_h55)).WholeWords (EltTy.packing .bf16) := fun k0_t1 v1283 k0_hw109 k0_h55 => k0_hw109.2 k0_h55 (k0_off327_inb k0_t1 v1283 k0_hw109 k0_h55)

def k0_off328 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let v1156 : Index := Scalar.indexCast v1152
  ![v1156.toNat]
def k0_off329 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c0_i32_750 : BitVec 32 := 0#32
  let c0_i32_751 : BitVec 32 := 0#32
  ![v1152.toNat, 0, 0]
def k0_off330 (v1157 : BitVec 32) : Fin 3 → Nat :=
  let c0_i32_752 : BitVec 32 := 0#32
  let c0_i32_753 : BitVec 32 := 0#32
  ![v1157.toNat, 0, 0]

def k0_chk110 (v1157 : BitVec 32) : Prop :=
  (∀ a, (k0_off330 v1157) a + S1x4x128.size a ≤ S16384x4x128.size a) ∧
  (∀ (hinb : ∀ a, (k0_off330 v1157) a + S1x4x128.size a ≤ S16384x4x128.size a), (Rect.unit (s := S16384x4x128) (k0_off330 v1157) S1x4x128.size hinb).WholeWords (EltTy.packing .bf16))
theorem k0_off330_inb : ∀ (v1157 : BitVec 32) (k0_hw110 : k0_chk110 v1157), ∀ a, (k0_off330 v1157) a + S1x4x128.size a ≤ S16384x4x128.size a := fun v1157 k0_hw110 => k0_hw110.1
theorem k0_off330_wordsbf16 : ∀ (v1157 : BitVec 32) (k0_hw110 : k0_chk110 v1157), (Rect.unit (s := S16384x4x128) (k0_off330 v1157) S1x4x128.size (k0_off330_inb v1157 k0_hw110)).WholeWords (EltTy.packing .bf16) := fun v1157 k0_hw110 => k0_hw110.2 (k0_off330_inb v1157 k0_hw110)

def k0_cond56 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_756 : BitVec 32 := 0#32
  let v1166 : BitVec 1 := Scalar.cmpi .sgt arg4 c0_i32_756
  let v1167 : BitVec 32 := Scalar.extui v1166
  let c0_i32_757 : BitVec 32 := 0#32
  let v1168 : BitVec 1 := Scalar.cmpi .ne v1167 c0_i32_757
  v1168

def k0_off331 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let v1282 : Index := Scalar.indexCast v1281
  ![v1282.toNat]
def k0_off332 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let c0_i32_837 : BitVec 32 := 0#32
  let c0_i32_838 : BitVec 32 := 0#32
  ![v1281.toNat, 0, 0]
def k0_off333 (v1283 : BitVec 32) : Fin 3 → Nat :=
  let c0_i32_839 : BitVec 32 := 0#32
  let c0_i32_840 : BitVec 32 := 0#32
  ![v1283.toNat, 0, 0]

def k0_chk111 (k0_t1 : Fin k0_t1_loop.trips) (v1283 : BitVec 32) : Prop :=
  (∀ (k0_h56 : k0_cond56 k0_t1 = 1#1), ∀ a, (k0_off333 v1283) a + S1x4x128.size a ≤ S16384x4x128.size a) ∧
  (∀ (k0_h56 : k0_cond56 k0_t1 = 1#1), ∀ (hinb : ∀ a, (k0_off333 v1283) a + S1x4x128.size a ≤ S16384x4x128.size a), (Rect.unit (s := S16384x4x128) (k0_off333 v1283) S1x4x128.size hinb).WholeWords (EltTy.packing .bf16))
theorem k0_off333_inb : ∀ (k0_t1 : Fin k0_t1_loop.trips) (v1283 : BitVec 32) (k0_hw111 : k0_chk111 k0_t1 v1283), ∀ (k0_h56 : k0_cond56 k0_t1 = 1#1), ∀ a, (k0_off333 v1283) a + S1x4x128.size a ≤ S16384x4x128.size a := fun k0_t1 v1283 k0_hw111 k0_h56 => k0_hw111.1 k0_h56
theorem k0_off333_wordsbf16 : ∀ (k0_t1 : Fin k0_t1_loop.trips) (v1283 : BitVec 32) (k0_hw111 : k0_chk111 k0_t1 v1283), ∀ (k0_h56 : k0_cond56 k0_t1 = 1#1), (Rect.unit (s := S16384x4x128) (k0_off333 v1283) S1x4x128.size (k0_off333_inb k0_t1 v1283 k0_hw111 k0_h56)).WholeWords (EltTy.packing .bf16) := fun k0_t1 v1283 k0_hw111 k0_h56 => k0_hw111.2 k0_h56 (k0_off333_inb k0_t1 v1283 k0_hw111 k0_h56)

def k0_off334 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let v1169 : Index := Scalar.indexCast v1165
  ![v1169.toNat]
def k0_off335 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c0_i32_759 : BitVec 32 := 0#32
  let c0_i32_760 : BitVec 32 := 0#32
  ![v1165.toNat, 0, 0]
def k0_off336 (v1170 : BitVec 32) : Fin 3 → Nat :=
  let c0_i32_761 : BitVec 32 := 0#32
  let c0_i32_762 : BitVec 32 := 0#32
  ![v1170.toNat, 0, 0]

def k0_chk112 (v1170 : BitVec 32) : Prop :=
  (∀ a, (k0_off336 v1170) a + S1x4x128.size a ≤ S16384x4x128.size a) ∧
  (∀ (hinb : ∀ a, (k0_off336 v1170) a + S1x4x128.size a ≤ S16384x4x128.size a), (Rect.unit (s := S16384x4x128) (k0_off336 v1170) S1x4x128.size hinb).WholeWords (EltTy.packing .bf16))
theorem k0_off336_inb : ∀ (v1170 : BitVec 32) (k0_hw112 : k0_chk112 v1170), ∀ a, (k0_off336 v1170) a + S1x4x128.size a ≤ S16384x4x128.size a := fun v1170 k0_hw112 => k0_hw112.1
theorem k0_off336_wordsbf16 : ∀ (v1170 : BitVec 32) (k0_hw112 : k0_chk112 v1170), (Rect.unit (s := S16384x4x128) (k0_off336 v1170) S1x4x128.size (k0_off336_inb v1170 k0_hw112)).WholeWords (EltTy.packing .bf16) := fun v1170 k0_hw112 => k0_hw112.2 (k0_off336_inb v1170 k0_hw112)

def k0_cond57 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_765 : BitVec 32 := 0#32
  let v1179 : BitVec 1 := Scalar.cmpi .sgt arg4 c0_i32_765
  let v1180 : BitVec 32 := Scalar.extui v1179
  let c0_i32_766 : BitVec 32 := 0#32
  let v1181 : BitVec 1 := Scalar.cmpi .ne v1180 c0_i32_766
  v1181

def k0_off337 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let v1282 : Index := Scalar.indexCast v1281
  ![v1282.toNat]
def k0_off338 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let c0_i32_837 : BitVec 32 := 0#32
  let c0_i32_838 : BitVec 32 := 0#32
  ![v1281.toNat, 0, 0]
def k0_off339 (v1283 : BitVec 32) : Fin 3 → Nat :=
  let c0_i32_839 : BitVec 32 := 0#32
  let c0_i32_840 : BitVec 32 := 0#32
  ![v1283.toNat, 0, 0]

def k0_chk113 (k0_t1 : Fin k0_t1_loop.trips) (v1283 : BitVec 32) : Prop :=
  (∀ (k0_h57 : k0_cond57 k0_t1 = 1#1), ∀ a, (k0_off339 v1283) a + S1x4x128.size a ≤ S16384x4x128.size a) ∧
  (∀ (k0_h57 : k0_cond57 k0_t1 = 1#1), ∀ (hinb : ∀ a, (k0_off339 v1283) a + S1x4x128.size a ≤ S16384x4x128.size a), (Rect.unit (s := S16384x4x128) (k0_off339 v1283) S1x4x128.size hinb).WholeWords (EltTy.packing .bf16))
theorem k0_off339_inb : ∀ (k0_t1 : Fin k0_t1_loop.trips) (v1283 : BitVec 32) (k0_hw113 : k0_chk113 k0_t1 v1283), ∀ (k0_h57 : k0_cond57 k0_t1 = 1#1), ∀ a, (k0_off339 v1283) a + S1x4x128.size a ≤ S16384x4x128.size a := fun k0_t1 v1283 k0_hw113 k0_h57 => k0_hw113.1 k0_h57
theorem k0_off339_wordsbf16 : ∀ (k0_t1 : Fin k0_t1_loop.trips) (v1283 : BitVec 32) (k0_hw113 : k0_chk113 k0_t1 v1283), ∀ (k0_h57 : k0_cond57 k0_t1 = 1#1), (Rect.unit (s := S16384x4x128) (k0_off339 v1283) S1x4x128.size (k0_off339_inb k0_t1 v1283 k0_hw113 k0_h57)).WholeWords (EltTy.packing .bf16) := fun k0_t1 v1283 k0_hw113 k0_h57 => k0_hw113.2 k0_h57 (k0_off339_inb k0_t1 v1283 k0_hw113 k0_h57)

def k0_off340 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let v1182 : Index := Scalar.indexCast v1178
  ![v1182.toNat]
def k0_off341 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c0_i32_768 : BitVec 32 := 0#32
  let c0_i32_769 : BitVec 32 := 0#32
  ![v1178.toNat, 0, 0]
def k0_off342 (v1183 : BitVec 32) : Fin 3 → Nat :=
  let c0_i32_770 : BitVec 32 := 0#32
  let c0_i32_771 : BitVec 32 := 0#32
  ![v1183.toNat, 0, 0]

def k0_chk114 (v1183 : BitVec 32) : Prop :=
  (∀ a, (k0_off342 v1183) a + S1x4x128.size a ≤ S16384x4x128.size a) ∧
  (∀ (hinb : ∀ a, (k0_off342 v1183) a + S1x4x128.size a ≤ S16384x4x128.size a), (Rect.unit (s := S16384x4x128) (k0_off342 v1183) S1x4x128.size hinb).WholeWords (EltTy.packing .bf16))
theorem k0_off342_inb : ∀ (v1183 : BitVec 32) (k0_hw114 : k0_chk114 v1183), ∀ a, (k0_off342 v1183) a + S1x4x128.size a ≤ S16384x4x128.size a := fun v1183 k0_hw114 => k0_hw114.1
theorem k0_off342_wordsbf16 : ∀ (v1183 : BitVec 32) (k0_hw114 : k0_chk114 v1183), (Rect.unit (s := S16384x4x128) (k0_off342 v1183) S1x4x128.size (k0_off342_inb v1183 k0_hw114)).WholeWords (EltTy.packing .bf16) := fun v1183 k0_hw114 => k0_hw114.2 (k0_off342_inb v1183 k0_hw114)

def k0_cond58 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_774 : BitVec 32 := 0#32
  let v1192 : BitVec 1 := Scalar.cmpi .sgt arg4 c0_i32_774
  let v1193 : BitVec 32 := Scalar.extui v1192
  let c0_i32_775 : BitVec 32 := 0#32
  let v1194 : BitVec 1 := Scalar.cmpi .ne v1193 c0_i32_775
  v1194

def k0_off343 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let v1282 : Index := Scalar.indexCast v1281
  ![v1282.toNat]
def k0_off344 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let c0_i32_837 : BitVec 32 := 0#32
  let c0_i32_838 : BitVec 32 := 0#32
  ![v1281.toNat, 0, 0]
def k0_off345 (v1283 : BitVec 32) : Fin 3 → Nat :=
  let c0_i32_839 : BitVec 32 := 0#32
  let c0_i32_840 : BitVec 32 := 0#32
  ![v1283.toNat, 0, 0]

def k0_chk115 (k0_t1 : Fin k0_t1_loop.trips) (v1283 : BitVec 32) : Prop :=
  (∀ (k0_h58 : k0_cond58 k0_t1 = 1#1), ∀ a, (k0_off345 v1283) a + S1x4x128.size a ≤ S16384x4x128.size a) ∧
  (∀ (k0_h58 : k0_cond58 k0_t1 = 1#1), ∀ (hinb : ∀ a, (k0_off345 v1283) a + S1x4x128.size a ≤ S16384x4x128.size a), (Rect.unit (s := S16384x4x128) (k0_off345 v1283) S1x4x128.size hinb).WholeWords (EltTy.packing .bf16))
theorem k0_off345_inb : ∀ (k0_t1 : Fin k0_t1_loop.trips) (v1283 : BitVec 32) (k0_hw115 : k0_chk115 k0_t1 v1283), ∀ (k0_h58 : k0_cond58 k0_t1 = 1#1), ∀ a, (k0_off345 v1283) a + S1x4x128.size a ≤ S16384x4x128.size a := fun k0_t1 v1283 k0_hw115 k0_h58 => k0_hw115.1 k0_h58
theorem k0_off345_wordsbf16 : ∀ (k0_t1 : Fin k0_t1_loop.trips) (v1283 : BitVec 32) (k0_hw115 : k0_chk115 k0_t1 v1283), ∀ (k0_h58 : k0_cond58 k0_t1 = 1#1), (Rect.unit (s := S16384x4x128) (k0_off345 v1283) S1x4x128.size (k0_off345_inb k0_t1 v1283 k0_hw115 k0_h58)).WholeWords (EltTy.packing .bf16) := fun k0_t1 v1283 k0_hw115 k0_h58 => k0_hw115.2 k0_h58 (k0_off345_inb k0_t1 v1283 k0_hw115 k0_h58)

def k0_off346 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let v1195 : Index := Scalar.indexCast v1191
  ![v1195.toNat]
def k0_off347 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c0_i32_777 : BitVec 32 := 0#32
  let c0_i32_778 : BitVec 32 := 0#32
  ![v1191.toNat, 0, 0]
def k0_off348 (v1196 : BitVec 32) : Fin 3 → Nat :=
  let c0_i32_779 : BitVec 32 := 0#32
  let c0_i32_780 : BitVec 32 := 0#32
  ![v1196.toNat, 0, 0]

def k0_chk116 (v1196 : BitVec 32) : Prop :=
  (∀ a, (k0_off348 v1196) a + S1x4x128.size a ≤ S16384x4x128.size a) ∧
  (∀ (hinb : ∀ a, (k0_off348 v1196) a + S1x4x128.size a ≤ S16384x4x128.size a), (Rect.unit (s := S16384x4x128) (k0_off348 v1196) S1x4x128.size hinb).WholeWords (EltTy.packing .bf16))
theorem k0_off348_inb : ∀ (v1196 : BitVec 32) (k0_hw116 : k0_chk116 v1196), ∀ a, (k0_off348 v1196) a + S1x4x128.size a ≤ S16384x4x128.size a := fun v1196 k0_hw116 => k0_hw116.1
theorem k0_off348_wordsbf16 : ∀ (v1196 : BitVec 32) (k0_hw116 : k0_chk116 v1196), (Rect.unit (s := S16384x4x128) (k0_off348 v1196) S1x4x128.size (k0_off348_inb v1196 k0_hw116)).WholeWords (EltTy.packing .bf16) := fun v1196 k0_hw116 => k0_hw116.2 (k0_off348_inb v1196 k0_hw116)

def k0_cond59 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_783 : BitVec 32 := 0#32
  let v1205 : BitVec 1 := Scalar.cmpi .sgt arg4 c0_i32_783
  let v1206 : BitVec 32 := Scalar.extui v1205
  let c0_i32_784 : BitVec 32 := 0#32
  let v1207 : BitVec 1 := Scalar.cmpi .ne v1206 c0_i32_784
  v1207

def k0_off349 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let v1282 : Index := Scalar.indexCast v1281
  ![v1282.toNat]
def k0_off350 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let c0_i32_837 : BitVec 32 := 0#32
  let c0_i32_838 : BitVec 32 := 0#32
  ![v1281.toNat, 0, 0]
def k0_off351 (v1283 : BitVec 32) : Fin 3 → Nat :=
  let c0_i32_839 : BitVec 32 := 0#32
  let c0_i32_840 : BitVec 32 := 0#32
  ![v1283.toNat, 0, 0]

def k0_chk117 (k0_t1 : Fin k0_t1_loop.trips) (v1283 : BitVec 32) : Prop :=
  (∀ (k0_h59 : k0_cond59 k0_t1 = 1#1), ∀ a, (k0_off351 v1283) a + S1x4x128.size a ≤ S16384x4x128.size a) ∧
  (∀ (k0_h59 : k0_cond59 k0_t1 = 1#1), ∀ (hinb : ∀ a, (k0_off351 v1283) a + S1x4x128.size a ≤ S16384x4x128.size a), (Rect.unit (s := S16384x4x128) (k0_off351 v1283) S1x4x128.size hinb).WholeWords (EltTy.packing .bf16))
theorem k0_off351_inb : ∀ (k0_t1 : Fin k0_t1_loop.trips) (v1283 : BitVec 32) (k0_hw117 : k0_chk117 k0_t1 v1283), ∀ (k0_h59 : k0_cond59 k0_t1 = 1#1), ∀ a, (k0_off351 v1283) a + S1x4x128.size a ≤ S16384x4x128.size a := fun k0_t1 v1283 k0_hw117 k0_h59 => k0_hw117.1 k0_h59
theorem k0_off351_wordsbf16 : ∀ (k0_t1 : Fin k0_t1_loop.trips) (v1283 : BitVec 32) (k0_hw117 : k0_chk117 k0_t1 v1283), ∀ (k0_h59 : k0_cond59 k0_t1 = 1#1), (Rect.unit (s := S16384x4x128) (k0_off351 v1283) S1x4x128.size (k0_off351_inb k0_t1 v1283 k0_hw117 k0_h59)).WholeWords (EltTy.packing .bf16) := fun k0_t1 v1283 k0_hw117 k0_h59 => k0_hw117.2 k0_h59 (k0_off351_inb k0_t1 v1283 k0_hw117 k0_h59)

def k0_off352 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let v1208 : Index := Scalar.indexCast v1204
  ![v1208.toNat]
def k0_off353 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c0_i32_786 : BitVec 32 := 0#32
  let c0_i32_787 : BitVec 32 := 0#32
  ![v1204.toNat, 0, 0]
def k0_off354 (v1209 : BitVec 32) : Fin 3 → Nat :=
  let c0_i32_788 : BitVec 32 := 0#32
  let c0_i32_789 : BitVec 32 := 0#32
  ![v1209.toNat, 0, 0]

def k0_chk118 (v1209 : BitVec 32) : Prop :=
  (∀ a, (k0_off354 v1209) a + S1x4x128.size a ≤ S16384x4x128.size a) ∧
  (∀ (hinb : ∀ a, (k0_off354 v1209) a + S1x4x128.size a ≤ S16384x4x128.size a), (Rect.unit (s := S16384x4x128) (k0_off354 v1209) S1x4x128.size hinb).WholeWords (EltTy.packing .bf16))
theorem k0_off354_inb : ∀ (v1209 : BitVec 32) (k0_hw118 : k0_chk118 v1209), ∀ a, (k0_off354 v1209) a + S1x4x128.size a ≤ S16384x4x128.size a := fun v1209 k0_hw118 => k0_hw118.1
theorem k0_off354_wordsbf16 : ∀ (v1209 : BitVec 32) (k0_hw118 : k0_chk118 v1209), (Rect.unit (s := S16384x4x128) (k0_off354 v1209) S1x4x128.size (k0_off354_inb v1209 k0_hw118)).WholeWords (EltTy.packing .bf16) := fun v1209 k0_hw118 => k0_hw118.2 (k0_off354_inb v1209 k0_hw118)

def k0_cond60 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_792 : BitVec 32 := 0#32
  let v1218 : BitVec 1 := Scalar.cmpi .sgt arg4 c0_i32_792
  let v1219 : BitVec 32 := Scalar.extui v1218
  let c0_i32_793 : BitVec 32 := 0#32
  let v1220 : BitVec 1 := Scalar.cmpi .ne v1219 c0_i32_793
  v1220

def k0_off355 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let v1282 : Index := Scalar.indexCast v1281
  ![v1282.toNat]
def k0_off356 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let c0_i32_837 : BitVec 32 := 0#32
  let c0_i32_838 : BitVec 32 := 0#32
  ![v1281.toNat, 0, 0]
def k0_off357 (v1283 : BitVec 32) : Fin 3 → Nat :=
  let c0_i32_839 : BitVec 32 := 0#32
  let c0_i32_840 : BitVec 32 := 0#32
  ![v1283.toNat, 0, 0]

def k0_chk119 (k0_t1 : Fin k0_t1_loop.trips) (v1283 : BitVec 32) : Prop :=
  (∀ (k0_h60 : k0_cond60 k0_t1 = 1#1), ∀ a, (k0_off357 v1283) a + S1x4x128.size a ≤ S16384x4x128.size a) ∧
  (∀ (k0_h60 : k0_cond60 k0_t1 = 1#1), ∀ (hinb : ∀ a, (k0_off357 v1283) a + S1x4x128.size a ≤ S16384x4x128.size a), (Rect.unit (s := S16384x4x128) (k0_off357 v1283) S1x4x128.size hinb).WholeWords (EltTy.packing .bf16))
theorem k0_off357_inb : ∀ (k0_t1 : Fin k0_t1_loop.trips) (v1283 : BitVec 32) (k0_hw119 : k0_chk119 k0_t1 v1283), ∀ (k0_h60 : k0_cond60 k0_t1 = 1#1), ∀ a, (k0_off357 v1283) a + S1x4x128.size a ≤ S16384x4x128.size a := fun k0_t1 v1283 k0_hw119 k0_h60 => k0_hw119.1 k0_h60
theorem k0_off357_wordsbf16 : ∀ (k0_t1 : Fin k0_t1_loop.trips) (v1283 : BitVec 32) (k0_hw119 : k0_chk119 k0_t1 v1283), ∀ (k0_h60 : k0_cond60 k0_t1 = 1#1), (Rect.unit (s := S16384x4x128) (k0_off357 v1283) S1x4x128.size (k0_off357_inb k0_t1 v1283 k0_hw119 k0_h60)).WholeWords (EltTy.packing .bf16) := fun k0_t1 v1283 k0_hw119 k0_h60 => k0_hw119.2 k0_h60 (k0_off357_inb k0_t1 v1283 k0_hw119 k0_h60)

def k0_off358 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let v1221 : Index := Scalar.indexCast v1217
  ![v1221.toNat]
def k0_off359 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c0_i32_795 : BitVec 32 := 0#32
  let c0_i32_796 : BitVec 32 := 0#32
  ![v1217.toNat, 0, 0]
def k0_off360 (v1222 : BitVec 32) : Fin 3 → Nat :=
  let c0_i32_797 : BitVec 32 := 0#32
  let c0_i32_798 : BitVec 32 := 0#32
  ![v1222.toNat, 0, 0]

def k0_chk120 (v1222 : BitVec 32) : Prop :=
  (∀ a, (k0_off360 v1222) a + S1x4x128.size a ≤ S16384x4x128.size a) ∧
  (∀ (hinb : ∀ a, (k0_off360 v1222) a + S1x4x128.size a ≤ S16384x4x128.size a), (Rect.unit (s := S16384x4x128) (k0_off360 v1222) S1x4x128.size hinb).WholeWords (EltTy.packing .bf16))
theorem k0_off360_inb : ∀ (v1222 : BitVec 32) (k0_hw120 : k0_chk120 v1222), ∀ a, (k0_off360 v1222) a + S1x4x128.size a ≤ S16384x4x128.size a := fun v1222 k0_hw120 => k0_hw120.1
theorem k0_off360_wordsbf16 : ∀ (v1222 : BitVec 32) (k0_hw120 : k0_chk120 v1222), (Rect.unit (s := S16384x4x128) (k0_off360 v1222) S1x4x128.size (k0_off360_inb v1222 k0_hw120)).WholeWords (EltTy.packing .bf16) := fun v1222 k0_hw120 => k0_hw120.2 (k0_off360_inb v1222 k0_hw120)

def k0_cond61 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_801 : BitVec 32 := 0#32
  let v1231 : BitVec 1 := Scalar.cmpi .sgt arg4 c0_i32_801
  let v1232 : BitVec 32 := Scalar.extui v1231
  let c0_i32_802 : BitVec 32 := 0#32
  let v1233 : BitVec 1 := Scalar.cmpi .ne v1232 c0_i32_802
  v1233

def k0_off361 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let v1282 : Index := Scalar.indexCast v1281
  ![v1282.toNat]
def k0_off362 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let c0_i32_837 : BitVec 32 := 0#32
  let c0_i32_838 : BitVec 32 := 0#32
  ![v1281.toNat, 0, 0]
def k0_off363 (v1283 : BitVec 32) : Fin 3 → Nat :=
  let c0_i32_839 : BitVec 32 := 0#32
  let c0_i32_840 : BitVec 32 := 0#32
  ![v1283.toNat, 0, 0]

def k0_chk121 (k0_t1 : Fin k0_t1_loop.trips) (v1283 : BitVec 32) : Prop :=
  (∀ (k0_h61 : k0_cond61 k0_t1 = 1#1), ∀ a, (k0_off363 v1283) a + S1x4x128.size a ≤ S16384x4x128.size a) ∧
  (∀ (k0_h61 : k0_cond61 k0_t1 = 1#1), ∀ (hinb : ∀ a, (k0_off363 v1283) a + S1x4x128.size a ≤ S16384x4x128.size a), (Rect.unit (s := S16384x4x128) (k0_off363 v1283) S1x4x128.size hinb).WholeWords (EltTy.packing .bf16))
theorem k0_off363_inb : ∀ (k0_t1 : Fin k0_t1_loop.trips) (v1283 : BitVec 32) (k0_hw121 : k0_chk121 k0_t1 v1283), ∀ (k0_h61 : k0_cond61 k0_t1 = 1#1), ∀ a, (k0_off363 v1283) a + S1x4x128.size a ≤ S16384x4x128.size a := fun k0_t1 v1283 k0_hw121 k0_h61 => k0_hw121.1 k0_h61
theorem k0_off363_wordsbf16 : ∀ (k0_t1 : Fin k0_t1_loop.trips) (v1283 : BitVec 32) (k0_hw121 : k0_chk121 k0_t1 v1283), ∀ (k0_h61 : k0_cond61 k0_t1 = 1#1), (Rect.unit (s := S16384x4x128) (k0_off363 v1283) S1x4x128.size (k0_off363_inb k0_t1 v1283 k0_hw121 k0_h61)).WholeWords (EltTy.packing .bf16) := fun k0_t1 v1283 k0_hw121 k0_h61 => k0_hw121.2 k0_h61 (k0_off363_inb k0_t1 v1283 k0_hw121 k0_h61)

def k0_off364 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let v1234 : Index := Scalar.indexCast v1230
  ![v1234.toNat]
def k0_off365 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c0_i32_804 : BitVec 32 := 0#32
  let c0_i32_805 : BitVec 32 := 0#32
  ![v1230.toNat, 0, 0]
def k0_off366 (v1235 : BitVec 32) : Fin 3 → Nat :=
  let c0_i32_806 : BitVec 32 := 0#32
  let c0_i32_807 : BitVec 32 := 0#32
  ![v1235.toNat, 0, 0]

def k0_chk122 (v1235 : BitVec 32) : Prop :=
  (∀ a, (k0_off366 v1235) a + S1x4x128.size a ≤ S16384x4x128.size a) ∧
  (∀ (hinb : ∀ a, (k0_off366 v1235) a + S1x4x128.size a ≤ S16384x4x128.size a), (Rect.unit (s := S16384x4x128) (k0_off366 v1235) S1x4x128.size hinb).WholeWords (EltTy.packing .bf16))
theorem k0_off366_inb : ∀ (v1235 : BitVec 32) (k0_hw122 : k0_chk122 v1235), ∀ a, (k0_off366 v1235) a + S1x4x128.size a ≤ S16384x4x128.size a := fun v1235 k0_hw122 => k0_hw122.1
theorem k0_off366_wordsbf16 : ∀ (v1235 : BitVec 32) (k0_hw122 : k0_chk122 v1235), (Rect.unit (s := S16384x4x128) (k0_off366 v1235) S1x4x128.size (k0_off366_inb v1235 k0_hw122)).WholeWords (EltTy.packing .bf16) := fun v1235 k0_hw122 => k0_hw122.2 (k0_off366_inb v1235 k0_hw122)

def k0_cond62 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_810 : BitVec 32 := 0#32
  let v1244 : BitVec 1 := Scalar.cmpi .sgt arg4 c0_i32_810
  let v1245 : BitVec 32 := Scalar.extui v1244
  let c0_i32_811 : BitVec 32 := 0#32
  let v1246 : BitVec 1 := Scalar.cmpi .ne v1245 c0_i32_811
  v1246

def k0_off367 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let v1282 : Index := Scalar.indexCast v1281
  ![v1282.toNat]
def k0_off368 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let c0_i32_837 : BitVec 32 := 0#32
  let c0_i32_838 : BitVec 32 := 0#32
  ![v1281.toNat, 0, 0]
def k0_off369 (v1283 : BitVec 32) : Fin 3 → Nat :=
  let c0_i32_839 : BitVec 32 := 0#32
  let c0_i32_840 : BitVec 32 := 0#32
  ![v1283.toNat, 0, 0]

def k0_chk123 (k0_t1 : Fin k0_t1_loop.trips) (v1283 : BitVec 32) : Prop :=
  (∀ (k0_h62 : k0_cond62 k0_t1 = 1#1), ∀ a, (k0_off369 v1283) a + S1x4x128.size a ≤ S16384x4x128.size a) ∧
  (∀ (k0_h62 : k0_cond62 k0_t1 = 1#1), ∀ (hinb : ∀ a, (k0_off369 v1283) a + S1x4x128.size a ≤ S16384x4x128.size a), (Rect.unit (s := S16384x4x128) (k0_off369 v1283) S1x4x128.size hinb).WholeWords (EltTy.packing .bf16))
theorem k0_off369_inb : ∀ (k0_t1 : Fin k0_t1_loop.trips) (v1283 : BitVec 32) (k0_hw123 : k0_chk123 k0_t1 v1283), ∀ (k0_h62 : k0_cond62 k0_t1 = 1#1), ∀ a, (k0_off369 v1283) a + S1x4x128.size a ≤ S16384x4x128.size a := fun k0_t1 v1283 k0_hw123 k0_h62 => k0_hw123.1 k0_h62
theorem k0_off369_wordsbf16 : ∀ (k0_t1 : Fin k0_t1_loop.trips) (v1283 : BitVec 32) (k0_hw123 : k0_chk123 k0_t1 v1283), ∀ (k0_h62 : k0_cond62 k0_t1 = 1#1), (Rect.unit (s := S16384x4x128) (k0_off369 v1283) S1x4x128.size (k0_off369_inb k0_t1 v1283 k0_hw123 k0_h62)).WholeWords (EltTy.packing .bf16) := fun k0_t1 v1283 k0_hw123 k0_h62 => k0_hw123.2 k0_h62 (k0_off369_inb k0_t1 v1283 k0_hw123 k0_h62)

def k0_off370 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let v1247 : Index := Scalar.indexCast v1243
  ![v1247.toNat]
def k0_off371 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c0_i32_813 : BitVec 32 := 0#32
  let c0_i32_814 : BitVec 32 := 0#32
  ![v1243.toNat, 0, 0]
def k0_off372 (v1248 : BitVec 32) : Fin 3 → Nat :=
  let c0_i32_815 : BitVec 32 := 0#32
  let c0_i32_816 : BitVec 32 := 0#32
  ![v1248.toNat, 0, 0]

def k0_chk124 (v1248 : BitVec 32) : Prop :=
  (∀ a, (k0_off372 v1248) a + S1x4x128.size a ≤ S16384x4x128.size a) ∧
  (∀ (hinb : ∀ a, (k0_off372 v1248) a + S1x4x128.size a ≤ S16384x4x128.size a), (Rect.unit (s := S16384x4x128) (k0_off372 v1248) S1x4x128.size hinb).WholeWords (EltTy.packing .bf16))
theorem k0_off372_inb : ∀ (v1248 : BitVec 32) (k0_hw124 : k0_chk124 v1248), ∀ a, (k0_off372 v1248) a + S1x4x128.size a ≤ S16384x4x128.size a := fun v1248 k0_hw124 => k0_hw124.1
theorem k0_off372_wordsbf16 : ∀ (v1248 : BitVec 32) (k0_hw124 : k0_chk124 v1248), (Rect.unit (s := S16384x4x128) (k0_off372 v1248) S1x4x128.size (k0_off372_inb v1248 k0_hw124)).WholeWords (EltTy.packing .bf16) := fun v1248 k0_hw124 => k0_hw124.2 (k0_off372_inb v1248 k0_hw124)

def k0_cond63 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_819 : BitVec 32 := 0#32
  let v1257 : BitVec 1 := Scalar.cmpi .sgt arg4 c0_i32_819
  let v1258 : BitVec 32 := Scalar.extui v1257
  let c0_i32_820 : BitVec 32 := 0#32
  let v1259 : BitVec 1 := Scalar.cmpi .ne v1258 c0_i32_820
  v1259

def k0_off373 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let v1282 : Index := Scalar.indexCast v1281
  ![v1282.toNat]
def k0_off374 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let c0_i32_837 : BitVec 32 := 0#32
  let c0_i32_838 : BitVec 32 := 0#32
  ![v1281.toNat, 0, 0]
def k0_off375 (v1283 : BitVec 32) : Fin 3 → Nat :=
  let c0_i32_839 : BitVec 32 := 0#32
  let c0_i32_840 : BitVec 32 := 0#32
  ![v1283.toNat, 0, 0]

def k0_chk125 (k0_t1 : Fin k0_t1_loop.trips) (v1283 : BitVec 32) : Prop :=
  (∀ (k0_h63 : k0_cond63 k0_t1 = 1#1), ∀ a, (k0_off375 v1283) a + S1x4x128.size a ≤ S16384x4x128.size a) ∧
  (∀ (k0_h63 : k0_cond63 k0_t1 = 1#1), ∀ (hinb : ∀ a, (k0_off375 v1283) a + S1x4x128.size a ≤ S16384x4x128.size a), (Rect.unit (s := S16384x4x128) (k0_off375 v1283) S1x4x128.size hinb).WholeWords (EltTy.packing .bf16))
theorem k0_off375_inb : ∀ (k0_t1 : Fin k0_t1_loop.trips) (v1283 : BitVec 32) (k0_hw125 : k0_chk125 k0_t1 v1283), ∀ (k0_h63 : k0_cond63 k0_t1 = 1#1), ∀ a, (k0_off375 v1283) a + S1x4x128.size a ≤ S16384x4x128.size a := fun k0_t1 v1283 k0_hw125 k0_h63 => k0_hw125.1 k0_h63
theorem k0_off375_wordsbf16 : ∀ (k0_t1 : Fin k0_t1_loop.trips) (v1283 : BitVec 32) (k0_hw125 : k0_chk125 k0_t1 v1283), ∀ (k0_h63 : k0_cond63 k0_t1 = 1#1), (Rect.unit (s := S16384x4x128) (k0_off375 v1283) S1x4x128.size (k0_off375_inb k0_t1 v1283 k0_hw125 k0_h63)).WholeWords (EltTy.packing .bf16) := fun k0_t1 v1283 k0_hw125 k0_h63 => k0_hw125.2 k0_h63 (k0_off375_inb k0_t1 v1283 k0_hw125 k0_h63)

def k0_off376 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let v1260 : Index := Scalar.indexCast v1256
  ![v1260.toNat]
def k0_off377 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c0_i32_822 : BitVec 32 := 0#32
  let c0_i32_823 : BitVec 32 := 0#32
  ![v1256.toNat, 0, 0]
def k0_off378 (v1261 : BitVec 32) : Fin 3 → Nat :=
  let c0_i32_824 : BitVec 32 := 0#32
  let c0_i32_825 : BitVec 32 := 0#32
  ![v1261.toNat, 0, 0]

def k0_chk126 (v1261 : BitVec 32) : Prop :=
  (∀ a, (k0_off378 v1261) a + S1x4x128.size a ≤ S16384x4x128.size a) ∧
  (∀ (hinb : ∀ a, (k0_off378 v1261) a + S1x4x128.size a ≤ S16384x4x128.size a), (Rect.unit (s := S16384x4x128) (k0_off378 v1261) S1x4x128.size hinb).WholeWords (EltTy.packing .bf16))
theorem k0_off378_inb : ∀ (v1261 : BitVec 32) (k0_hw126 : k0_chk126 v1261), ∀ a, (k0_off378 v1261) a + S1x4x128.size a ≤ S16384x4x128.size a := fun v1261 k0_hw126 => k0_hw126.1
theorem k0_off378_wordsbf16 : ∀ (v1261 : BitVec 32) (k0_hw126 : k0_chk126 v1261), (Rect.unit (s := S16384x4x128) (k0_off378 v1261) S1x4x128.size (k0_off378_inb v1261 k0_hw126)).WholeWords (EltTy.packing .bf16) := fun v1261 k0_hw126 => k0_hw126.2 (k0_off378_inb v1261 k0_hw126)

def k0_cond64 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_828 : BitVec 32 := 0#32
  let v1270 : BitVec 1 := Scalar.cmpi .sgt arg4 c0_i32_828
  let v1271 : BitVec 32 := Scalar.extui v1270
  let c0_i32_829 : BitVec 32 := 0#32
  let v1272 : BitVec 1 := Scalar.cmpi .ne v1271 c0_i32_829
  v1272

def k0_off379 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let v1282 : Index := Scalar.indexCast v1281
  ![v1282.toNat]
def k0_off380 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let c0_i32_837 : BitVec 32 := 0#32
  let c0_i32_838 : BitVec 32 := 0#32
  ![v1281.toNat, 0, 0]
def k0_off381 (v1283 : BitVec 32) : Fin 3 → Nat :=
  let c0_i32_839 : BitVec 32 := 0#32
  let c0_i32_840 : BitVec 32 := 0#32
  ![v1283.toNat, 0, 0]

def k0_chk127 (k0_t1 : Fin k0_t1_loop.trips) (v1283 : BitVec 32) : Prop :=
  (∀ (k0_h64 : k0_cond64 k0_t1 = 1#1), ∀ a, (k0_off381 v1283) a + S1x4x128.size a ≤ S16384x4x128.size a) ∧
  (∀ (k0_h64 : k0_cond64 k0_t1 = 1#1), ∀ (hinb : ∀ a, (k0_off381 v1283) a + S1x4x128.size a ≤ S16384x4x128.size a), (Rect.unit (s := S16384x4x128) (k0_off381 v1283) S1x4x128.size hinb).WholeWords (EltTy.packing .bf16))
theorem k0_off381_inb : ∀ (k0_t1 : Fin k0_t1_loop.trips) (v1283 : BitVec 32) (k0_hw127 : k0_chk127 k0_t1 v1283), ∀ (k0_h64 : k0_cond64 k0_t1 = 1#1), ∀ a, (k0_off381 v1283) a + S1x4x128.size a ≤ S16384x4x128.size a := fun k0_t1 v1283 k0_hw127 k0_h64 => k0_hw127.1 k0_h64
theorem k0_off381_wordsbf16 : ∀ (k0_t1 : Fin k0_t1_loop.trips) (v1283 : BitVec 32) (k0_hw127 : k0_chk127 k0_t1 v1283), ∀ (k0_h64 : k0_cond64 k0_t1 = 1#1), (Rect.unit (s := S16384x4x128) (k0_off381 v1283) S1x4x128.size (k0_off381_inb k0_t1 v1283 k0_hw127 k0_h64)).WholeWords (EltTy.packing .bf16) := fun k0_t1 v1283 k0_hw127 k0_h64 => k0_hw127.2 k0_h64 (k0_off381_inb k0_t1 v1283 k0_hw127 k0_h64)

def k0_off382 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let v1273 : Index := Scalar.indexCast v1269
  ![v1273.toNat]
def k0_off383 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c0_i32_831 : BitVec 32 := 0#32
  let c0_i32_832 : BitVec 32 := 0#32
  ![v1269.toNat, 0, 0]
def k0_off384 (v1274 : BitVec 32) : Fin 3 → Nat :=
  let c0_i32_833 : BitVec 32 := 0#32
  let c0_i32_834 : BitVec 32 := 0#32
  ![v1274.toNat, 0, 0]

def k0_chk128 (v1274 : BitVec 32) : Prop :=
  (∀ a, (k0_off384 v1274) a + S1x4x128.size a ≤ S16384x4x128.size a) ∧
  (∀ (hinb : ∀ a, (k0_off384 v1274) a + S1x4x128.size a ≤ S16384x4x128.size a), (Rect.unit (s := S16384x4x128) (k0_off384 v1274) S1x4x128.size hinb).WholeWords (EltTy.packing .bf16))
theorem k0_off384_inb : ∀ (v1274 : BitVec 32) (k0_hw128 : k0_chk128 v1274), ∀ a, (k0_off384 v1274) a + S1x4x128.size a ≤ S16384x4x128.size a := fun v1274 k0_hw128 => k0_hw128.1
theorem k0_off384_wordsbf16 : ∀ (v1274 : BitVec 32) (k0_hw128 : k0_chk128 v1274), (Rect.unit (s := S16384x4x128) (k0_off384 v1274) S1x4x128.size (k0_off384_inb v1274 k0_hw128)).WholeWords (EltTy.packing .bf16) := fun v1274 k0_hw128 => k0_hw128.2 (k0_off384_inb v1274 k0_hw128)

def k0_off385 (v1 : BitVec 32) : Fin 3 → Nat :=
  let c0_i32_4 : BitVec 32 := 0#32
  let c0_i32_5 : BitVec 32 := 0#32
  ![v1.toNat, 0, 0]

def k0_chk129 (v1 : BitVec 32) : Prop :=
  (∀ a, (k0_off385 v1) a + S1x4x128.size a ≤ S16384x4x128.size a) ∧
  (∀ (hinb : ∀ a, (k0_off385 v1) a + S1x4x128.size a ≤ S16384x4x128.size a), (Rect.unit (s := S16384x4x128) (k0_off385 v1) S1x4x128.size hinb).WholeWords (EltTy.packing .bf16))
theorem k0_off385_inb : ∀ (v1 : BitVec 32) (k0_hw129 : k0_chk129 v1), ∀ a, (k0_off385 v1) a + S1x4x128.size a ≤ S16384x4x128.size a := fun v1 k0_hw129 => k0_hw129.1
theorem k0_off385_wordsbf16 : ∀ (v1 : BitVec 32) (k0_hw129 : k0_chk129 v1), (Rect.unit (s := S16384x4x128) (k0_off385 v1) S1x4x128.size (k0_off385_inb v1 k0_hw129)).WholeWords (EltTy.packing .bf16) := fun v1 k0_hw129 => k0_hw129.2 (k0_off385_inb v1 k0_hw129)

def k0_off386 (v8 : BitVec 32) : Fin 3 → Nat :=
  let c0_i32_9 : BitVec 32 := 0#32
  let c0_i32_10 : BitVec 32 := 0#32
  ![v8.toNat, 0, 0]

def k0_chk130 (v8 : BitVec 32) : Prop :=
  (∀ a, (k0_off386 v8) a + S1x4x128.size a ≤ S16384x4x128.size a) ∧
  (∀ (hinb : ∀ a, (k0_off386 v8) a + S1x4x128.size a ≤ S16384x4x128.size a), (Rect.unit (s := S16384x4x128) (k0_off386 v8) S1x4x128.size hinb).WholeWords (EltTy.packing .bf16))
theorem k0_off386_inb : ∀ (v8 : BitVec 32) (k0_hw130 : k0_chk130 v8), ∀ a, (k0_off386 v8) a + S1x4x128.size a ≤ S16384x4x128.size a := fun v8 k0_hw130 => k0_hw130.1
theorem k0_off386_wordsbf16 : ∀ (v8 : BitVec 32) (k0_hw130 : k0_chk130 v8), (Rect.unit (s := S16384x4x128) (k0_off386 v8) S1x4x128.size (k0_off386_inb v8 k0_hw130)).WholeWords (EltTy.packing .bf16) := fun v8 k0_hw130 => k0_hw130.2 (k0_off386_inb v8 k0_hw130)

def k0_off387 (v15 : BitVec 32) : Fin 3 → Nat :=
  let c0_i32_13 : BitVec 32 := 0#32
  let c0_i32_14 : BitVec 32 := 0#32
  ![v15.toNat, 0, 0]

def k0_chk131 (v15 : BitVec 32) : Prop :=
  (∀ a, (k0_off387 v15) a + S1x4x128.size a ≤ S16384x4x128.size a) ∧
  (∀ (hinb : ∀ a, (k0_off387 v15) a + S1x4x128.size a ≤ S16384x4x128.size a), (Rect.unit (s := S16384x4x128) (k0_off387 v15) S1x4x128.size hinb).WholeWords (EltTy.packing .bf16))
theorem k0_off387_inb : ∀ (v15 : BitVec 32) (k0_hw131 : k0_chk131 v15), ∀ a, (k0_off387 v15) a + S1x4x128.size a ≤ S16384x4x128.size a := fun v15 k0_hw131 => k0_hw131.1
theorem k0_off387_wordsbf16 : ∀ (v15 : BitVec 32) (k0_hw131 : k0_chk131 v15), (Rect.unit (s := S16384x4x128) (k0_off387 v15) S1x4x128.size (k0_off387_inb v15 k0_hw131)).WholeWords (EltTy.packing .bf16) := fun v15 k0_hw131 => k0_hw131.2 (k0_off387_inb v15 k0_hw131)

def k0_off388 (v22 : BitVec 32) : Fin 3 → Nat :=
  let c0_i32_17 : BitVec 32 := 0#32
  let c0_i32_18 : BitVec 32 := 0#32
  ![v22.toNat, 0, 0]

def k0_chk132 (v22 : BitVec 32) : Prop :=
  (∀ a, (k0_off388 v22) a + S1x4x128.size a ≤ S16384x4x128.size a) ∧
  (∀ (hinb : ∀ a, (k0_off388 v22) a + S1x4x128.size a ≤ S16384x4x128.size a), (Rect.unit (s := S16384x4x128) (k0_off388 v22) S1x4x128.size hinb).WholeWords (EltTy.packing .bf16))
theorem k0_off388_inb : ∀ (v22 : BitVec 32) (k0_hw132 : k0_chk132 v22), ∀ a, (k0_off388 v22) a + S1x4x128.size a ≤ S16384x4x128.size a := fun v22 k0_hw132 => k0_hw132.1
theorem k0_off388_wordsbf16 : ∀ (v22 : BitVec 32) (k0_hw132 : k0_chk132 v22), (Rect.unit (s := S16384x4x128) (k0_off388 v22) S1x4x128.size (k0_off388_inb v22 k0_hw132)).WholeWords (EltTy.packing .bf16) := fun v22 k0_hw132 => k0_hw132.2 (k0_off388_inb v22 k0_hw132)

def k0_off389 (v29 : BitVec 32) : Fin 3 → Nat :=
  let c0_i32_21 : BitVec 32 := 0#32
  let c0_i32_22 : BitVec 32 := 0#32
  ![v29.toNat, 0, 0]

def k0_chk133 (v29 : BitVec 32) : Prop :=
  (∀ a, (k0_off389 v29) a + S1x4x128.size a ≤ S16384x4x128.size a) ∧
  (∀ (hinb : ∀ a, (k0_off389 v29) a + S1x4x128.size a ≤ S16384x4x128.size a), (Rect.unit (s := S16384x4x128) (k0_off389 v29) S1x4x128.size hinb).WholeWords (EltTy.packing .bf16))
theorem k0_off389_inb : ∀ (v29 : BitVec 32) (k0_hw133 : k0_chk133 v29), ∀ a, (k0_off389 v29) a + S1x4x128.size a ≤ S16384x4x128.size a := fun v29 k0_hw133 => k0_hw133.1
theorem k0_off389_wordsbf16 : ∀ (v29 : BitVec 32) (k0_hw133 : k0_chk133 v29), (Rect.unit (s := S16384x4x128) (k0_off389 v29) S1x4x128.size (k0_off389_inb v29 k0_hw133)).WholeWords (EltTy.packing .bf16) := fun v29 k0_hw133 => k0_hw133.2 (k0_off389_inb v29 k0_hw133)

def k0_off390 (v36 : BitVec 32) : Fin 3 → Nat :=
  let c0_i32_25 : BitVec 32 := 0#32
  let c0_i32_26 : BitVec 32 := 0#32
  ![v36.toNat, 0, 0]

def k0_chk134 (v36 : BitVec 32) : Prop :=
  (∀ a, (k0_off390 v36) a + S1x4x128.size a ≤ S16384x4x128.size a) ∧
  (∀ (hinb : ∀ a, (k0_off390 v36) a + S1x4x128.size a ≤ S16384x4x128.size a), (Rect.unit (s := S16384x4x128) (k0_off390 v36) S1x4x128.size hinb).WholeWords (EltTy.packing .bf16))
theorem k0_off390_inb : ∀ (v36 : BitVec 32) (k0_hw134 : k0_chk134 v36), ∀ a, (k0_off390 v36) a + S1x4x128.size a ≤ S16384x4x128.size a := fun v36 k0_hw134 => k0_hw134.1
theorem k0_off390_wordsbf16 : ∀ (v36 : BitVec 32) (k0_hw134 : k0_chk134 v36), (Rect.unit (s := S16384x4x128) (k0_off390 v36) S1x4x128.size (k0_off390_inb v36 k0_hw134)).WholeWords (EltTy.packing .bf16) := fun v36 k0_hw134 => k0_hw134.2 (k0_off390_inb v36 k0_hw134)

def k0_off391 (v43 : BitVec 32) : Fin 3 → Nat :=
  let c0_i32_29 : BitVec 32 := 0#32
  let c0_i32_30 : BitVec 32 := 0#32
  ![v43.toNat, 0, 0]

def k0_chk135 (v43 : BitVec 32) : Prop :=
  (∀ a, (k0_off391 v43) a + S1x4x128.size a ≤ S16384x4x128.size a) ∧
  (∀ (hinb : ∀ a, (k0_off391 v43) a + S1x4x128.size a ≤ S16384x4x128.size a), (Rect.unit (s := S16384x4x128) (k0_off391 v43) S1x4x128.size hinb).WholeWords (EltTy.packing .bf16))
theorem k0_off391_inb : ∀ (v43 : BitVec 32) (k0_hw135 : k0_chk135 v43), ∀ a, (k0_off391 v43) a + S1x4x128.size a ≤ S16384x4x128.size a := fun v43 k0_hw135 => k0_hw135.1
theorem k0_off391_wordsbf16 : ∀ (v43 : BitVec 32) (k0_hw135 : k0_chk135 v43), (Rect.unit (s := S16384x4x128) (k0_off391 v43) S1x4x128.size (k0_off391_inb v43 k0_hw135)).WholeWords (EltTy.packing .bf16) := fun v43 k0_hw135 => k0_hw135.2 (k0_off391_inb v43 k0_hw135)

def k0_off392 (v50 : BitVec 32) : Fin 3 → Nat :=
  let c0_i32_33 : BitVec 32 := 0#32
  let c0_i32_34 : BitVec 32 := 0#32
  ![v50.toNat, 0, 0]

def k0_chk136 (v50 : BitVec 32) : Prop :=
  (∀ a, (k0_off392 v50) a + S1x4x128.size a ≤ S16384x4x128.size a) ∧
  (∀ (hinb : ∀ a, (k0_off392 v50) a + S1x4x128.size a ≤ S16384x4x128.size a), (Rect.unit (s := S16384x4x128) (k0_off392 v50) S1x4x128.size hinb).WholeWords (EltTy.packing .bf16))
theorem k0_off392_inb : ∀ (v50 : BitVec 32) (k0_hw136 : k0_chk136 v50), ∀ a, (k0_off392 v50) a + S1x4x128.size a ≤ S16384x4x128.size a := fun v50 k0_hw136 => k0_hw136.1
theorem k0_off392_wordsbf16 : ∀ (v50 : BitVec 32) (k0_hw136 : k0_chk136 v50), (Rect.unit (s := S16384x4x128) (k0_off392 v50) S1x4x128.size (k0_off392_inb v50 k0_hw136)).WholeWords (EltTy.packing .bf16) := fun v50 k0_hw136 => k0_hw136.2 (k0_off392_inb v50 k0_hw136)

def k0_off393 (v57 : BitVec 32) : Fin 3 → Nat :=
  let c0_i32_37 : BitVec 32 := 0#32
  let c0_i32_38 : BitVec 32 := 0#32
  ![v57.toNat, 0, 0]

def k0_chk137 (v57 : BitVec 32) : Prop :=
  (∀ a, (k0_off393 v57) a + S1x4x128.size a ≤ S16384x4x128.size a) ∧
  (∀ (hinb : ∀ a, (k0_off393 v57) a + S1x4x128.size a ≤ S16384x4x128.size a), (Rect.unit (s := S16384x4x128) (k0_off393 v57) S1x4x128.size hinb).WholeWords (EltTy.packing .bf16))
theorem k0_off393_inb : ∀ (v57 : BitVec 32) (k0_hw137 : k0_chk137 v57), ∀ a, (k0_off393 v57) a + S1x4x128.size a ≤ S16384x4x128.size a := fun v57 k0_hw137 => k0_hw137.1
theorem k0_off393_wordsbf16 : ∀ (v57 : BitVec 32) (k0_hw137 : k0_chk137 v57), (Rect.unit (s := S16384x4x128) (k0_off393 v57) S1x4x128.size (k0_off393_inb v57 k0_hw137)).WholeWords (EltTy.packing .bf16) := fun v57 k0_hw137 => k0_hw137.2 (k0_off393_inb v57 k0_hw137)

def k0_off394 (v64 : BitVec 32) : Fin 3 → Nat :=
  let c0_i32_41 : BitVec 32 := 0#32
  let c0_i32_42 : BitVec 32 := 0#32
  ![v64.toNat, 0, 0]

def k0_chk138 (v64 : BitVec 32) : Prop :=
  (∀ a, (k0_off394 v64) a + S1x4x128.size a ≤ S16384x4x128.size a) ∧
  (∀ (hinb : ∀ a, (k0_off394 v64) a + S1x4x128.size a ≤ S16384x4x128.size a), (Rect.unit (s := S16384x4x128) (k0_off394 v64) S1x4x128.size hinb).WholeWords (EltTy.packing .bf16))
theorem k0_off394_inb : ∀ (v64 : BitVec 32) (k0_hw138 : k0_chk138 v64), ∀ a, (k0_off394 v64) a + S1x4x128.size a ≤ S16384x4x128.size a := fun v64 k0_hw138 => k0_hw138.1
theorem k0_off394_wordsbf16 : ∀ (v64 : BitVec 32) (k0_hw138 : k0_chk138 v64), (Rect.unit (s := S16384x4x128) (k0_off394 v64) S1x4x128.size (k0_off394_inb v64 k0_hw138)).WholeWords (EltTy.packing .bf16) := fun v64 k0_hw138 => k0_hw138.2 (k0_off394_inb v64 k0_hw138)

def k0_off395 (v71 : BitVec 32) : Fin 3 → Nat :=
  let c0_i32_45 : BitVec 32 := 0#32
  let c0_i32_46 : BitVec 32 := 0#32
  ![v71.toNat, 0, 0]

def k0_chk139 (v71 : BitVec 32) : Prop :=
  (∀ a, (k0_off395 v71) a + S1x4x128.size a ≤ S16384x4x128.size a) ∧
  (∀ (hinb : ∀ a, (k0_off395 v71) a + S1x4x128.size a ≤ S16384x4x128.size a), (Rect.unit (s := S16384x4x128) (k0_off395 v71) S1x4x128.size hinb).WholeWords (EltTy.packing .bf16))
theorem k0_off395_inb : ∀ (v71 : BitVec 32) (k0_hw139 : k0_chk139 v71), ∀ a, (k0_off395 v71) a + S1x4x128.size a ≤ S16384x4x128.size a := fun v71 k0_hw139 => k0_hw139.1
theorem k0_off395_wordsbf16 : ∀ (v71 : BitVec 32) (k0_hw139 : k0_chk139 v71), (Rect.unit (s := S16384x4x128) (k0_off395 v71) S1x4x128.size (k0_off395_inb v71 k0_hw139)).WholeWords (EltTy.packing .bf16) := fun v71 k0_hw139 => k0_hw139.2 (k0_off395_inb v71 k0_hw139)

def k0_off396 (v78 : BitVec 32) : Fin 3 → Nat :=
  let c0_i32_49 : BitVec 32 := 0#32
  let c0_i32_50 : BitVec 32 := 0#32
  ![v78.toNat, 0, 0]

def k0_chk140 (v78 : BitVec 32) : Prop :=
  (∀ a, (k0_off396 v78) a + S1x4x128.size a ≤ S16384x4x128.size a) ∧
  (∀ (hinb : ∀ a, (k0_off396 v78) a + S1x4x128.size a ≤ S16384x4x128.size a), (Rect.unit (s := S16384x4x128) (k0_off396 v78) S1x4x128.size hinb).WholeWords (EltTy.packing .bf16))
theorem k0_off396_inb : ∀ (v78 : BitVec 32) (k0_hw140 : k0_chk140 v78), ∀ a, (k0_off396 v78) a + S1x4x128.size a ≤ S16384x4x128.size a := fun v78 k0_hw140 => k0_hw140.1
theorem k0_off396_wordsbf16 : ∀ (v78 : BitVec 32) (k0_hw140 : k0_chk140 v78), (Rect.unit (s := S16384x4x128) (k0_off396 v78) S1x4x128.size (k0_off396_inb v78 k0_hw140)).WholeWords (EltTy.packing .bf16) := fun v78 k0_hw140 => k0_hw140.2 (k0_off396_inb v78 k0_hw140)

def k0_off397 (v85 : BitVec 32) : Fin 3 → Nat :=
  let c0_i32_53 : BitVec 32 := 0#32
  let c0_i32_54 : BitVec 32 := 0#32
  ![v85.toNat, 0, 0]

def k0_chk141 (v85 : BitVec 32) : Prop :=
  (∀ a, (k0_off397 v85) a + S1x4x128.size a ≤ S16384x4x128.size a) ∧
  (∀ (hinb : ∀ a, (k0_off397 v85) a + S1x4x128.size a ≤ S16384x4x128.size a), (Rect.unit (s := S16384x4x128) (k0_off397 v85) S1x4x128.size hinb).WholeWords (EltTy.packing .bf16))
theorem k0_off397_inb : ∀ (v85 : BitVec 32) (k0_hw141 : k0_chk141 v85), ∀ a, (k0_off397 v85) a + S1x4x128.size a ≤ S16384x4x128.size a := fun v85 k0_hw141 => k0_hw141.1
theorem k0_off397_wordsbf16 : ∀ (v85 : BitVec 32) (k0_hw141 : k0_chk141 v85), (Rect.unit (s := S16384x4x128) (k0_off397 v85) S1x4x128.size (k0_off397_inb v85 k0_hw141)).WholeWords (EltTy.packing .bf16) := fun v85 k0_hw141 => k0_hw141.2 (k0_off397_inb v85 k0_hw141)

def k0_off398 (v92 : BitVec 32) : Fin 3 → Nat :=
  let c0_i32_57 : BitVec 32 := 0#32
  let c0_i32_58 : BitVec 32 := 0#32
  ![v92.toNat, 0, 0]

def k0_chk142 (v92 : BitVec 32) : Prop :=
  (∀ a, (k0_off398 v92) a + S1x4x128.size a ≤ S16384x4x128.size a) ∧
  (∀ (hinb : ∀ a, (k0_off398 v92) a + S1x4x128.size a ≤ S16384x4x128.size a), (Rect.unit (s := S16384x4x128) (k0_off398 v92) S1x4x128.size hinb).WholeWords (EltTy.packing .bf16))
theorem k0_off398_inb : ∀ (v92 : BitVec 32) (k0_hw142 : k0_chk142 v92), ∀ a, (k0_off398 v92) a + S1x4x128.size a ≤ S16384x4x128.size a := fun v92 k0_hw142 => k0_hw142.1
theorem k0_off398_wordsbf16 : ∀ (v92 : BitVec 32) (k0_hw142 : k0_chk142 v92), (Rect.unit (s := S16384x4x128) (k0_off398 v92) S1x4x128.size (k0_off398_inb v92 k0_hw142)).WholeWords (EltTy.packing .bf16) := fun v92 k0_hw142 => k0_hw142.2 (k0_off398_inb v92 k0_hw142)

def k0_off399 (v99 : BitVec 32) : Fin 3 → Nat :=
  let c0_i32_61 : BitVec 32 := 0#32
  let c0_i32_62 : BitVec 32 := 0#32
  ![v99.toNat, 0, 0]

def k0_chk143 (v99 : BitVec 32) : Prop :=
  (∀ a, (k0_off399 v99) a + S1x4x128.size a ≤ S16384x4x128.size a) ∧
  (∀ (hinb : ∀ a, (k0_off399 v99) a + S1x4x128.size a ≤ S16384x4x128.size a), (Rect.unit (s := S16384x4x128) (k0_off399 v99) S1x4x128.size hinb).WholeWords (EltTy.packing .bf16))
theorem k0_off399_inb : ∀ (v99 : BitVec 32) (k0_hw143 : k0_chk143 v99), ∀ a, (k0_off399 v99) a + S1x4x128.size a ≤ S16384x4x128.size a := fun v99 k0_hw143 => k0_hw143.1
theorem k0_off399_wordsbf16 : ∀ (v99 : BitVec 32) (k0_hw143 : k0_chk143 v99), (Rect.unit (s := S16384x4x128) (k0_off399 v99) S1x4x128.size (k0_off399_inb v99 k0_hw143)).WholeWords (EltTy.packing .bf16) := fun v99 k0_hw143 => k0_hw143.2 (k0_off399_inb v99 k0_hw143)

def k0_off400 (v106 : BitVec 32) : Fin 3 → Nat :=
  let c0_i32_65 : BitVec 32 := 0#32
  let c0_i32_66 : BitVec 32 := 0#32
  ![v106.toNat, 0, 0]

def k0_chk144 (v106 : BitVec 32) : Prop :=
  (∀ a, (k0_off400 v106) a + S1x4x128.size a ≤ S16384x4x128.size a) ∧
  (∀ (hinb : ∀ a, (k0_off400 v106) a + S1x4x128.size a ≤ S16384x4x128.size a), (Rect.unit (s := S16384x4x128) (k0_off400 v106) S1x4x128.size hinb).WholeWords (EltTy.packing .bf16))
theorem k0_off400_inb : ∀ (v106 : BitVec 32) (k0_hw144 : k0_chk144 v106), ∀ a, (k0_off400 v106) a + S1x4x128.size a ≤ S16384x4x128.size a := fun v106 k0_hw144 => k0_hw144.1
theorem k0_off400_wordsbf16 : ∀ (v106 : BitVec 32) (k0_hw144 : k0_chk144 v106), (Rect.unit (s := S16384x4x128) (k0_off400 v106) S1x4x128.size (k0_off400_inb v106 k0_hw144)).WholeWords (EltTy.packing .bf16) := fun v106 k0_hw144 => k0_hw144.2 (k0_off400_inb v106 k0_hw144)

def k0_off401 (v113 : BitVec 32) : Fin 3 → Nat :=
  let c0_i32_69 : BitVec 32 := 0#32
  let c0_i32_70 : BitVec 32 := 0#32
  ![v113.toNat, 0, 0]

def k0_chk145 (v113 : BitVec 32) : Prop :=
  (∀ a, (k0_off401 v113) a + S1x4x128.size a ≤ S16384x4x128.size a) ∧
  (∀ (hinb : ∀ a, (k0_off401 v113) a + S1x4x128.size a ≤ S16384x4x128.size a), (Rect.unit (s := S16384x4x128) (k0_off401 v113) S1x4x128.size hinb).WholeWords (EltTy.packing .bf16))
theorem k0_off401_inb : ∀ (v113 : BitVec 32) (k0_hw145 : k0_chk145 v113), ∀ a, (k0_off401 v113) a + S1x4x128.size a ≤ S16384x4x128.size a := fun v113 k0_hw145 => k0_hw145.1
theorem k0_off401_wordsbf16 : ∀ (v113 : BitVec 32) (k0_hw145 : k0_chk145 v113), (Rect.unit (s := S16384x4x128) (k0_off401 v113) S1x4x128.size (k0_off401_inb v113 k0_hw145)).WholeWords (EltTy.packing .bf16) := fun v113 k0_hw145 => k0_hw145.2 (k0_off401_inb v113 k0_hw145)

def k0_off402 (v120 : BitVec 32) : Fin 3 → Nat :=
  let c0_i32_73 : BitVec 32 := 0#32
  let c0_i32_74 : BitVec 32 := 0#32
  ![v120.toNat, 0, 0]

def k0_chk146 (v120 : BitVec 32) : Prop :=
  (∀ a, (k0_off402 v120) a + S1x4x128.size a ≤ S16384x4x128.size a) ∧
  (∀ (hinb : ∀ a, (k0_off402 v120) a + S1x4x128.size a ≤ S16384x4x128.size a), (Rect.unit (s := S16384x4x128) (k0_off402 v120) S1x4x128.size hinb).WholeWords (EltTy.packing .bf16))
theorem k0_off402_inb : ∀ (v120 : BitVec 32) (k0_hw146 : k0_chk146 v120), ∀ a, (k0_off402 v120) a + S1x4x128.size a ≤ S16384x4x128.size a := fun v120 k0_hw146 => k0_hw146.1
theorem k0_off402_wordsbf16 : ∀ (v120 : BitVec 32) (k0_hw146 : k0_chk146 v120), (Rect.unit (s := S16384x4x128) (k0_off402 v120) S1x4x128.size (k0_off402_inb v120 k0_hw146)).WholeWords (EltTy.packing .bf16) := fun v120 k0_hw146 => k0_hw146.2 (k0_off402_inb v120 k0_hw146)

def k0_off403 (v127 : BitVec 32) : Fin 3 → Nat :=
  let c0_i32_77 : BitVec 32 := 0#32
  let c0_i32_78 : BitVec 32 := 0#32
  ![v127.toNat, 0, 0]

def k0_chk147 (v127 : BitVec 32) : Prop :=
  (∀ a, (k0_off403 v127) a + S1x4x128.size a ≤ S16384x4x128.size a) ∧
  (∀ (hinb : ∀ a, (k0_off403 v127) a + S1x4x128.size a ≤ S16384x4x128.size a), (Rect.unit (s := S16384x4x128) (k0_off403 v127) S1x4x128.size hinb).WholeWords (EltTy.packing .bf16))
theorem k0_off403_inb : ∀ (v127 : BitVec 32) (k0_hw147 : k0_chk147 v127), ∀ a, (k0_off403 v127) a + S1x4x128.size a ≤ S16384x4x128.size a := fun v127 k0_hw147 => k0_hw147.1
theorem k0_off403_wordsbf16 : ∀ (v127 : BitVec 32) (k0_hw147 : k0_chk147 v127), (Rect.unit (s := S16384x4x128) (k0_off403 v127) S1x4x128.size (k0_off403_inb v127 k0_hw147)).WholeWords (EltTy.packing .bf16) := fun v127 k0_hw147 => k0_hw147.2 (k0_off403_inb v127 k0_hw147)

def k0_off404 (v134 : BitVec 32) : Fin 3 → Nat :=
  let c0_i32_81 : BitVec 32 := 0#32
  let c0_i32_82 : BitVec 32 := 0#32
  ![v134.toNat, 0, 0]

def k0_chk148 (v134 : BitVec 32) : Prop :=
  (∀ a, (k0_off404 v134) a + S1x4x128.size a ≤ S16384x4x128.size a) ∧
  (∀ (hinb : ∀ a, (k0_off404 v134) a + S1x4x128.size a ≤ S16384x4x128.size a), (Rect.unit (s := S16384x4x128) (k0_off404 v134) S1x4x128.size hinb).WholeWords (EltTy.packing .bf16))
theorem k0_off404_inb : ∀ (v134 : BitVec 32) (k0_hw148 : k0_chk148 v134), ∀ a, (k0_off404 v134) a + S1x4x128.size a ≤ S16384x4x128.size a := fun v134 k0_hw148 => k0_hw148.1
theorem k0_off404_wordsbf16 : ∀ (v134 : BitVec 32) (k0_hw148 : k0_chk148 v134), (Rect.unit (s := S16384x4x128) (k0_off404 v134) S1x4x128.size (k0_off404_inb v134 k0_hw148)).WholeWords (EltTy.packing .bf16) := fun v134 k0_hw148 => k0_hw148.2 (k0_off404_inb v134 k0_hw148)

def k0_off405 (v141 : BitVec 32) : Fin 3 → Nat :=
  let c0_i32_85 : BitVec 32 := 0#32
  let c0_i32_86 : BitVec 32 := 0#32
  ![v141.toNat, 0, 0]

def k0_chk149 (v141 : BitVec 32) : Prop :=
  (∀ a, (k0_off405 v141) a + S1x4x128.size a ≤ S16384x4x128.size a) ∧
  (∀ (hinb : ∀ a, (k0_off405 v141) a + S1x4x128.size a ≤ S16384x4x128.size a), (Rect.unit (s := S16384x4x128) (k0_off405 v141) S1x4x128.size hinb).WholeWords (EltTy.packing .bf16))
theorem k0_off405_inb : ∀ (v141 : BitVec 32) (k0_hw149 : k0_chk149 v141), ∀ a, (k0_off405 v141) a + S1x4x128.size a ≤ S16384x4x128.size a := fun v141 k0_hw149 => k0_hw149.1
theorem k0_off405_wordsbf16 : ∀ (v141 : BitVec 32) (k0_hw149 : k0_chk149 v141), (Rect.unit (s := S16384x4x128) (k0_off405 v141) S1x4x128.size (k0_off405_inb v141 k0_hw149)).WholeWords (EltTy.packing .bf16) := fun v141 k0_hw149 => k0_hw149.2 (k0_off405_inb v141 k0_hw149)

def k0_off406 (v148 : BitVec 32) : Fin 3 → Nat :=
  let c0_i32_89 : BitVec 32 := 0#32
  let c0_i32_90 : BitVec 32 := 0#32
  ![v148.toNat, 0, 0]

def k0_chk150 (v148 : BitVec 32) : Prop :=
  (∀ a, (k0_off406 v148) a + S1x4x128.size a ≤ S16384x4x128.size a) ∧
  (∀ (hinb : ∀ a, (k0_off406 v148) a + S1x4x128.size a ≤ S16384x4x128.size a), (Rect.unit (s := S16384x4x128) (k0_off406 v148) S1x4x128.size hinb).WholeWords (EltTy.packing .bf16))
theorem k0_off406_inb : ∀ (v148 : BitVec 32) (k0_hw150 : k0_chk150 v148), ∀ a, (k0_off406 v148) a + S1x4x128.size a ≤ S16384x4x128.size a := fun v148 k0_hw150 => k0_hw150.1
theorem k0_off406_wordsbf16 : ∀ (v148 : BitVec 32) (k0_hw150 : k0_chk150 v148), (Rect.unit (s := S16384x4x128) (k0_off406 v148) S1x4x128.size (k0_off406_inb v148 k0_hw150)).WholeWords (EltTy.packing .bf16) := fun v148 k0_hw150 => k0_hw150.2 (k0_off406_inb v148 k0_hw150)

def k0_off407 (v155 : BitVec 32) : Fin 3 → Nat :=
  let c0_i32_93 : BitVec 32 := 0#32
  let c0_i32_94 : BitVec 32 := 0#32
  ![v155.toNat, 0, 0]

def k0_chk151 (v155 : BitVec 32) : Prop :=
  (∀ a, (k0_off407 v155) a + S1x4x128.size a ≤ S16384x4x128.size a) ∧
  (∀ (hinb : ∀ a, (k0_off407 v155) a + S1x4x128.size a ≤ S16384x4x128.size a), (Rect.unit (s := S16384x4x128) (k0_off407 v155) S1x4x128.size hinb).WholeWords (EltTy.packing .bf16))
theorem k0_off407_inb : ∀ (v155 : BitVec 32) (k0_hw151 : k0_chk151 v155), ∀ a, (k0_off407 v155) a + S1x4x128.size a ≤ S16384x4x128.size a := fun v155 k0_hw151 => k0_hw151.1
theorem k0_off407_wordsbf16 : ∀ (v155 : BitVec 32) (k0_hw151 : k0_chk151 v155), (Rect.unit (s := S16384x4x128) (k0_off407 v155) S1x4x128.size (k0_off407_inb v155 k0_hw151)).WholeWords (EltTy.packing .bf16) := fun v155 k0_hw151 => k0_hw151.2 (k0_off407_inb v155 k0_hw151)

def k0_off408 (v162 : BitVec 32) : Fin 3 → Nat :=
  let c0_i32_97 : BitVec 32 := 0#32
  let c0_i32_98 : BitVec 32 := 0#32
  ![v162.toNat, 0, 0]

def k0_chk152 (v162 : BitVec 32) : Prop :=
  (∀ a, (k0_off408 v162) a + S1x4x128.size a ≤ S16384x4x128.size a) ∧
  (∀ (hinb : ∀ a, (k0_off408 v162) a + S1x4x128.size a ≤ S16384x4x128.size a), (Rect.unit (s := S16384x4x128) (k0_off408 v162) S1x4x128.size hinb).WholeWords (EltTy.packing .bf16))
theorem k0_off408_inb : ∀ (v162 : BitVec 32) (k0_hw152 : k0_chk152 v162), ∀ a, (k0_off408 v162) a + S1x4x128.size a ≤ S16384x4x128.size a := fun v162 k0_hw152 => k0_hw152.1
theorem k0_off408_wordsbf16 : ∀ (v162 : BitVec 32) (k0_hw152 : k0_chk152 v162), (Rect.unit (s := S16384x4x128) (k0_off408 v162) S1x4x128.size (k0_off408_inb v162 k0_hw152)).WholeWords (EltTy.packing .bf16) := fun v162 k0_hw152 => k0_hw152.2 (k0_off408_inb v162 k0_hw152)

def k0_off409 (v169 : BitVec 32) : Fin 3 → Nat :=
  let c0_i32_101 : BitVec 32 := 0#32
  let c0_i32_102 : BitVec 32 := 0#32
  ![v169.toNat, 0, 0]

def k0_chk153 (v169 : BitVec 32) : Prop :=
  (∀ a, (k0_off409 v169) a + S1x4x128.size a ≤ S16384x4x128.size a) ∧
  (∀ (hinb : ∀ a, (k0_off409 v169) a + S1x4x128.size a ≤ S16384x4x128.size a), (Rect.unit (s := S16384x4x128) (k0_off409 v169) S1x4x128.size hinb).WholeWords (EltTy.packing .bf16))
theorem k0_off409_inb : ∀ (v169 : BitVec 32) (k0_hw153 : k0_chk153 v169), ∀ a, (k0_off409 v169) a + S1x4x128.size a ≤ S16384x4x128.size a := fun v169 k0_hw153 => k0_hw153.1
theorem k0_off409_wordsbf16 : ∀ (v169 : BitVec 32) (k0_hw153 : k0_chk153 v169), (Rect.unit (s := S16384x4x128) (k0_off409 v169) S1x4x128.size (k0_off409_inb v169 k0_hw153)).WholeWords (EltTy.packing .bf16) := fun v169 k0_hw153 => k0_hw153.2 (k0_off409_inb v169 k0_hw153)

def k0_off410 (v176 : BitVec 32) : Fin 3 → Nat :=
  let c0_i32_105 : BitVec 32 := 0#32
  let c0_i32_106 : BitVec 32 := 0#32
  ![v176.toNat, 0, 0]

def k0_chk154 (v176 : BitVec 32) : Prop :=
  (∀ a, (k0_off410 v176) a + S1x4x128.size a ≤ S16384x4x128.size a) ∧
  (∀ (hinb : ∀ a, (k0_off410 v176) a + S1x4x128.size a ≤ S16384x4x128.size a), (Rect.unit (s := S16384x4x128) (k0_off410 v176) S1x4x128.size hinb).WholeWords (EltTy.packing .bf16))
theorem k0_off410_inb : ∀ (v176 : BitVec 32) (k0_hw154 : k0_chk154 v176), ∀ a, (k0_off410 v176) a + S1x4x128.size a ≤ S16384x4x128.size a := fun v176 k0_hw154 => k0_hw154.1
theorem k0_off410_wordsbf16 : ∀ (v176 : BitVec 32) (k0_hw154 : k0_chk154 v176), (Rect.unit (s := S16384x4x128) (k0_off410 v176) S1x4x128.size (k0_off410_inb v176 k0_hw154)).WholeWords (EltTy.packing .bf16) := fun v176 k0_hw154 => k0_hw154.2 (k0_off410_inb v176 k0_hw154)

def k0_off411 (v183 : BitVec 32) : Fin 3 → Nat :=
  let c0_i32_110 : BitVec 32 := 0#32
  let c0_i32_111 : BitVec 32 := 0#32
  ![v183.toNat, 0, 0]

def k0_chk155 (v183 : BitVec 32) : Prop :=
  (∀ a, (k0_off411 v183) a + S1x4x128.size a ≤ S16384x4x128.size a) ∧
  (∀ (hinb : ∀ a, (k0_off411 v183) a + S1x4x128.size a ≤ S16384x4x128.size a), (Rect.unit (s := S16384x4x128) (k0_off411 v183) S1x4x128.size hinb).WholeWords (EltTy.packing .bf16))
theorem k0_off411_inb : ∀ (v183 : BitVec 32) (k0_hw155 : k0_chk155 v183), ∀ a, (k0_off411 v183) a + S1x4x128.size a ≤ S16384x4x128.size a := fun v183 k0_hw155 => k0_hw155.1
theorem k0_off411_wordsbf16 : ∀ (v183 : BitVec 32) (k0_hw155 : k0_chk155 v183), (Rect.unit (s := S16384x4x128) (k0_off411 v183) S1x4x128.size (k0_off411_inb v183 k0_hw155)).WholeWords (EltTy.packing .bf16) := fun v183 k0_hw155 => k0_hw155.2 (k0_off411_inb v183 k0_hw155)

def k0_off412 (v190 : BitVec 32) : Fin 3 → Nat :=
  let c0_i32_114 : BitVec 32 := 0#32
  let c0_i32_115 : BitVec 32 := 0#32
  ![v190.toNat, 0, 0]

def k0_chk156 (v190 : BitVec 32) : Prop :=
  (∀ a, (k0_off412 v190) a + S1x4x128.size a ≤ S16384x4x128.size a) ∧
  (∀ (hinb : ∀ a, (k0_off412 v190) a + S1x4x128.size a ≤ S16384x4x128.size a), (Rect.unit (s := S16384x4x128) (k0_off412 v190) S1x4x128.size hinb).WholeWords (EltTy.packing .bf16))
theorem k0_off412_inb : ∀ (v190 : BitVec 32) (k0_hw156 : k0_chk156 v190), ∀ a, (k0_off412 v190) a + S1x4x128.size a ≤ S16384x4x128.size a := fun v190 k0_hw156 => k0_hw156.1
theorem k0_off412_wordsbf16 : ∀ (v190 : BitVec 32) (k0_hw156 : k0_chk156 v190), (Rect.unit (s := S16384x4x128) (k0_off412 v190) S1x4x128.size (k0_off412_inb v190 k0_hw156)).WholeWords (EltTy.packing .bf16) := fun v190 k0_hw156 => k0_hw156.2 (k0_off412_inb v190 k0_hw156)

def k0_off413 (v197 : BitVec 32) : Fin 3 → Nat :=
  let c0_i32_118 : BitVec 32 := 0#32
  let c0_i32_119 : BitVec 32 := 0#32
  ![v197.toNat, 0, 0]

def k0_chk157 (v197 : BitVec 32) : Prop :=
  (∀ a, (k0_off413 v197) a + S1x4x128.size a ≤ S16384x4x128.size a) ∧
  (∀ (hinb : ∀ a, (k0_off413 v197) a + S1x4x128.size a ≤ S16384x4x128.size a), (Rect.unit (s := S16384x4x128) (k0_off413 v197) S1x4x128.size hinb).WholeWords (EltTy.packing .bf16))
theorem k0_off413_inb : ∀ (v197 : BitVec 32) (k0_hw157 : k0_chk157 v197), ∀ a, (k0_off413 v197) a + S1x4x128.size a ≤ S16384x4x128.size a := fun v197 k0_hw157 => k0_hw157.1
theorem k0_off413_wordsbf16 : ∀ (v197 : BitVec 32) (k0_hw157 : k0_chk157 v197), (Rect.unit (s := S16384x4x128) (k0_off413 v197) S1x4x128.size (k0_off413_inb v197 k0_hw157)).WholeWords (EltTy.packing .bf16) := fun v197 k0_hw157 => k0_hw157.2 (k0_off413_inb v197 k0_hw157)

def k0_off414 (v204 : BitVec 32) : Fin 3 → Nat :=
  let c0_i32_122 : BitVec 32 := 0#32
  let c0_i32_123 : BitVec 32 := 0#32
  ![v204.toNat, 0, 0]

def k0_chk158 (v204 : BitVec 32) : Prop :=
  (∀ a, (k0_off414 v204) a + S1x4x128.size a ≤ S16384x4x128.size a) ∧
  (∀ (hinb : ∀ a, (k0_off414 v204) a + S1x4x128.size a ≤ S16384x4x128.size a), (Rect.unit (s := S16384x4x128) (k0_off414 v204) S1x4x128.size hinb).WholeWords (EltTy.packing .bf16))
theorem k0_off414_inb : ∀ (v204 : BitVec 32) (k0_hw158 : k0_chk158 v204), ∀ a, (k0_off414 v204) a + S1x4x128.size a ≤ S16384x4x128.size a := fun v204 k0_hw158 => k0_hw158.1
theorem k0_off414_wordsbf16 : ∀ (v204 : BitVec 32) (k0_hw158 : k0_chk158 v204), (Rect.unit (s := S16384x4x128) (k0_off414 v204) S1x4x128.size (k0_off414_inb v204 k0_hw158)).WholeWords (EltTy.packing .bf16) := fun v204 k0_hw158 => k0_hw158.2 (k0_off414_inb v204 k0_hw158)

def k0_off415 (v211 : BitVec 32) : Fin 3 → Nat :=
  let c0_i32_126 : BitVec 32 := 0#32
  let c0_i32_127 : BitVec 32 := 0#32
  ![v211.toNat, 0, 0]

def k0_chk159 (v211 : BitVec 32) : Prop :=
  (∀ a, (k0_off415 v211) a + S1x4x128.size a ≤ S16384x4x128.size a) ∧
  (∀ (hinb : ∀ a, (k0_off415 v211) a + S1x4x128.size a ≤ S16384x4x128.size a), (Rect.unit (s := S16384x4x128) (k0_off415 v211) S1x4x128.size hinb).WholeWords (EltTy.packing .bf16))
theorem k0_off415_inb : ∀ (v211 : BitVec 32) (k0_hw159 : k0_chk159 v211), ∀ a, (k0_off415 v211) a + S1x4x128.size a ≤ S16384x4x128.size a := fun v211 k0_hw159 => k0_hw159.1
theorem k0_off415_wordsbf16 : ∀ (v211 : BitVec 32) (k0_hw159 : k0_chk159 v211), (Rect.unit (s := S16384x4x128) (k0_off415 v211) S1x4x128.size (k0_off415_inb v211 k0_hw159)).WholeWords (EltTy.packing .bf16) := fun v211 k0_hw159 => k0_hw159.2 (k0_off415_inb v211 k0_hw159)

def k0_off416 (v218 : BitVec 32) : Fin 3 → Nat :=
  let c0_i32_130 : BitVec 32 := 0#32
  let c0_i32_131 : BitVec 32 := 0#32
  ![v218.toNat, 0, 0]

def k0_chk160 (v218 : BitVec 32) : Prop :=
  (∀ a, (k0_off416 v218) a + S1x4x128.size a ≤ S16384x4x128.size a) ∧
  (∀ (hinb : ∀ a, (k0_off416 v218) a + S1x4x128.size a ≤ S16384x4x128.size a), (Rect.unit (s := S16384x4x128) (k0_off416 v218) S1x4x128.size hinb).WholeWords (EltTy.packing .bf16))
theorem k0_off416_inb : ∀ (v218 : BitVec 32) (k0_hw160 : k0_chk160 v218), ∀ a, (k0_off416 v218) a + S1x4x128.size a ≤ S16384x4x128.size a := fun v218 k0_hw160 => k0_hw160.1
theorem k0_off416_wordsbf16 : ∀ (v218 : BitVec 32) (k0_hw160 : k0_chk160 v218), (Rect.unit (s := S16384x4x128) (k0_off416 v218) S1x4x128.size (k0_off416_inb v218 k0_hw160)).WholeWords (EltTy.packing .bf16) := fun v218 k0_hw160 => k0_hw160.2 (k0_off416_inb v218 k0_hw160)

def k0_off417 (v225 : BitVec 32) : Fin 3 → Nat :=
  let c0_i32_134 : BitVec 32 := 0#32
  let c0_i32_135 : BitVec 32 := 0#32
  ![v225.toNat, 0, 0]

def k0_chk161 (v225 : BitVec 32) : Prop :=
  (∀ a, (k0_off417 v225) a + S1x4x128.size a ≤ S16384x4x128.size a) ∧
  (∀ (hinb : ∀ a, (k0_off417 v225) a + S1x4x128.size a ≤ S16384x4x128.size a), (Rect.unit (s := S16384x4x128) (k0_off417 v225) S1x4x128.size hinb).WholeWords (EltTy.packing .bf16))
theorem k0_off417_inb : ∀ (v225 : BitVec 32) (k0_hw161 : k0_chk161 v225), ∀ a, (k0_off417 v225) a + S1x4x128.size a ≤ S16384x4x128.size a := fun v225 k0_hw161 => k0_hw161.1
theorem k0_off417_wordsbf16 : ∀ (v225 : BitVec 32) (k0_hw161 : k0_chk161 v225), (Rect.unit (s := S16384x4x128) (k0_off417 v225) S1x4x128.size (k0_off417_inb v225 k0_hw161)).WholeWords (EltTy.packing .bf16) := fun v225 k0_hw161 => k0_hw161.2 (k0_off417_inb v225 k0_hw161)

def k0_off418 (v232 : BitVec 32) : Fin 3 → Nat :=
  let c0_i32_138 : BitVec 32 := 0#32
  let c0_i32_139 : BitVec 32 := 0#32
  ![v232.toNat, 0, 0]

def k0_chk162 (v232 : BitVec 32) : Prop :=
  (∀ a, (k0_off418 v232) a + S1x4x128.size a ≤ S16384x4x128.size a) ∧
  (∀ (hinb : ∀ a, (k0_off418 v232) a + S1x4x128.size a ≤ S16384x4x128.size a), (Rect.unit (s := S16384x4x128) (k0_off418 v232) S1x4x128.size hinb).WholeWords (EltTy.packing .bf16))
theorem k0_off418_inb : ∀ (v232 : BitVec 32) (k0_hw162 : k0_chk162 v232), ∀ a, (k0_off418 v232) a + S1x4x128.size a ≤ S16384x4x128.size a := fun v232 k0_hw162 => k0_hw162.1
theorem k0_off418_wordsbf16 : ∀ (v232 : BitVec 32) (k0_hw162 : k0_chk162 v232), (Rect.unit (s := S16384x4x128) (k0_off418 v232) S1x4x128.size (k0_off418_inb v232 k0_hw162)).WholeWords (EltTy.packing .bf16) := fun v232 k0_hw162 => k0_hw162.2 (k0_off418_inb v232 k0_hw162)

def k0_off419 (v239 : BitVec 32) : Fin 3 → Nat :=
  let c0_i32_142 : BitVec 32 := 0#32
  let c0_i32_143 : BitVec 32 := 0#32
  ![v239.toNat, 0, 0]

def k0_chk163 (v239 : BitVec 32) : Prop :=
  (∀ a, (k0_off419 v239) a + S1x4x128.size a ≤ S16384x4x128.size a) ∧
  (∀ (hinb : ∀ a, (k0_off419 v239) a + S1x4x128.size a ≤ S16384x4x128.size a), (Rect.unit (s := S16384x4x128) (k0_off419 v239) S1x4x128.size hinb).WholeWords (EltTy.packing .bf16))
theorem k0_off419_inb : ∀ (v239 : BitVec 32) (k0_hw163 : k0_chk163 v239), ∀ a, (k0_off419 v239) a + S1x4x128.size a ≤ S16384x4x128.size a := fun v239 k0_hw163 => k0_hw163.1
theorem k0_off419_wordsbf16 : ∀ (v239 : BitVec 32) (k0_hw163 : k0_chk163 v239), (Rect.unit (s := S16384x4x128) (k0_off419 v239) S1x4x128.size (k0_off419_inb v239 k0_hw163)).WholeWords (EltTy.packing .bf16) := fun v239 k0_hw163 => k0_hw163.2 (k0_off419_inb v239 k0_hw163)

def k0_off420 (v246 : BitVec 32) : Fin 3 → Nat :=
  let c0_i32_146 : BitVec 32 := 0#32
  let c0_i32_147 : BitVec 32 := 0#32
  ![v246.toNat, 0, 0]

def k0_chk164 (v246 : BitVec 32) : Prop :=
  (∀ a, (k0_off420 v246) a + S1x4x128.size a ≤ S16384x4x128.size a) ∧
  (∀ (hinb : ∀ a, (k0_off420 v246) a + S1x4x128.size a ≤ S16384x4x128.size a), (Rect.unit (s := S16384x4x128) (k0_off420 v246) S1x4x128.size hinb).WholeWords (EltTy.packing .bf16))
theorem k0_off420_inb : ∀ (v246 : BitVec 32) (k0_hw164 : k0_chk164 v246), ∀ a, (k0_off420 v246) a + S1x4x128.size a ≤ S16384x4x128.size a := fun v246 k0_hw164 => k0_hw164.1
theorem k0_off420_wordsbf16 : ∀ (v246 : BitVec 32) (k0_hw164 : k0_chk164 v246), (Rect.unit (s := S16384x4x128) (k0_off420 v246) S1x4x128.size (k0_off420_inb v246 k0_hw164)).WholeWords (EltTy.packing .bf16) := fun v246 k0_hw164 => k0_hw164.2 (k0_off420_inb v246 k0_hw164)

def k0_off421 (v253 : BitVec 32) : Fin 3 → Nat :=
  let c0_i32_150 : BitVec 32 := 0#32
  let c0_i32_151 : BitVec 32 := 0#32
  ![v253.toNat, 0, 0]

def k0_chk165 (v253 : BitVec 32) : Prop :=
  (∀ a, (k0_off421 v253) a + S1x4x128.size a ≤ S16384x4x128.size a) ∧
  (∀ (hinb : ∀ a, (k0_off421 v253) a + S1x4x128.size a ≤ S16384x4x128.size a), (Rect.unit (s := S16384x4x128) (k0_off421 v253) S1x4x128.size hinb).WholeWords (EltTy.packing .bf16))
theorem k0_off421_inb : ∀ (v253 : BitVec 32) (k0_hw165 : k0_chk165 v253), ∀ a, (k0_off421 v253) a + S1x4x128.size a ≤ S16384x4x128.size a := fun v253 k0_hw165 => k0_hw165.1
theorem k0_off421_wordsbf16 : ∀ (v253 : BitVec 32) (k0_hw165 : k0_chk165 v253), (Rect.unit (s := S16384x4x128) (k0_off421 v253) S1x4x128.size (k0_off421_inb v253 k0_hw165)).WholeWords (EltTy.packing .bf16) := fun v253 k0_hw165 => k0_hw165.2 (k0_off421_inb v253 k0_hw165)

def k0_off422 (v260 : BitVec 32) : Fin 3 → Nat :=
  let c0_i32_154 : BitVec 32 := 0#32
  let c0_i32_155 : BitVec 32 := 0#32
  ![v260.toNat, 0, 0]

def k0_chk166 (v260 : BitVec 32) : Prop :=
  (∀ a, (k0_off422 v260) a + S1x4x128.size a ≤ S16384x4x128.size a) ∧
  (∀ (hinb : ∀ a, (k0_off422 v260) a + S1x4x128.size a ≤ S16384x4x128.size a), (Rect.unit (s := S16384x4x128) (k0_off422 v260) S1x4x128.size hinb).WholeWords (EltTy.packing .bf16))
theorem k0_off422_inb : ∀ (v260 : BitVec 32) (k0_hw166 : k0_chk166 v260), ∀ a, (k0_off422 v260) a + S1x4x128.size a ≤ S16384x4x128.size a := fun v260 k0_hw166 => k0_hw166.1
theorem k0_off422_wordsbf16 : ∀ (v260 : BitVec 32) (k0_hw166 : k0_chk166 v260), (Rect.unit (s := S16384x4x128) (k0_off422 v260) S1x4x128.size (k0_off422_inb v260 k0_hw166)).WholeWords (EltTy.packing .bf16) := fun v260 k0_hw166 => k0_hw166.2 (k0_off422_inb v260 k0_hw166)

def k0_off423 (v267 : BitVec 32) : Fin 3 → Nat :=
  let c0_i32_158 : BitVec 32 := 0#32
  let c0_i32_159 : BitVec 32 := 0#32
  ![v267.toNat, 0, 0]

def k0_chk167 (v267 : BitVec 32) : Prop :=
  (∀ a, (k0_off423 v267) a + S1x4x128.size a ≤ S16384x4x128.size a) ∧
  (∀ (hinb : ∀ a, (k0_off423 v267) a + S1x4x128.size a ≤ S16384x4x128.size a), (Rect.unit (s := S16384x4x128) (k0_off423 v267) S1x4x128.size hinb).WholeWords (EltTy.packing .bf16))
theorem k0_off423_inb : ∀ (v267 : BitVec 32) (k0_hw167 : k0_chk167 v267), ∀ a, (k0_off423 v267) a + S1x4x128.size a ≤ S16384x4x128.size a := fun v267 k0_hw167 => k0_hw167.1
theorem k0_off423_wordsbf16 : ∀ (v267 : BitVec 32) (k0_hw167 : k0_chk167 v267), (Rect.unit (s := S16384x4x128) (k0_off423 v267) S1x4x128.size (k0_off423_inb v267 k0_hw167)).WholeWords (EltTy.packing .bf16) := fun v267 k0_hw167 => k0_hw167.2 (k0_off423_inb v267 k0_hw167)

def k0_off424 (v274 : BitVec 32) : Fin 3 → Nat :=
  let c0_i32_162 : BitVec 32 := 0#32
  let c0_i32_163 : BitVec 32 := 0#32
  ![v274.toNat, 0, 0]

def k0_chk168 (v274 : BitVec 32) : Prop :=
  (∀ a, (k0_off424 v274) a + S1x4x128.size a ≤ S16384x4x128.size a) ∧
  (∀ (hinb : ∀ a, (k0_off424 v274) a + S1x4x128.size a ≤ S16384x4x128.size a), (Rect.unit (s := S16384x4x128) (k0_off424 v274) S1x4x128.size hinb).WholeWords (EltTy.packing .bf16))
theorem k0_off424_inb : ∀ (v274 : BitVec 32) (k0_hw168 : k0_chk168 v274), ∀ a, (k0_off424 v274) a + S1x4x128.size a ≤ S16384x4x128.size a := fun v274 k0_hw168 => k0_hw168.1
theorem k0_off424_wordsbf16 : ∀ (v274 : BitVec 32) (k0_hw168 : k0_chk168 v274), (Rect.unit (s := S16384x4x128) (k0_off424 v274) S1x4x128.size (k0_off424_inb v274 k0_hw168)).WholeWords (EltTy.packing .bf16) := fun v274 k0_hw168 => k0_hw168.2 (k0_off424_inb v274 k0_hw168)

def k0_off425 (v281 : BitVec 32) : Fin 3 → Nat :=
  let c0_i32_166 : BitVec 32 := 0#32
  let c0_i32_167 : BitVec 32 := 0#32
  ![v281.toNat, 0, 0]

def k0_chk169 (v281 : BitVec 32) : Prop :=
  (∀ a, (k0_off425 v281) a + S1x4x128.size a ≤ S16384x4x128.size a) ∧
  (∀ (hinb : ∀ a, (k0_off425 v281) a + S1x4x128.size a ≤ S16384x4x128.size a), (Rect.unit (s := S16384x4x128) (k0_off425 v281) S1x4x128.size hinb).WholeWords (EltTy.packing .bf16))
theorem k0_off425_inb : ∀ (v281 : BitVec 32) (k0_hw169 : k0_chk169 v281), ∀ a, (k0_off425 v281) a + S1x4x128.size a ≤ S16384x4x128.size a := fun v281 k0_hw169 => k0_hw169.1
theorem k0_off425_wordsbf16 : ∀ (v281 : BitVec 32) (k0_hw169 : k0_chk169 v281), (Rect.unit (s := S16384x4x128) (k0_off425 v281) S1x4x128.size (k0_off425_inb v281 k0_hw169)).WholeWords (EltTy.packing .bf16) := fun v281 k0_hw169 => k0_hw169.2 (k0_off425_inb v281 k0_hw169)

def k0_off426 (v288 : BitVec 32) : Fin 3 → Nat :=
  let c0_i32_170 : BitVec 32 := 0#32
  let c0_i32_171 : BitVec 32 := 0#32
  ![v288.toNat, 0, 0]

def k0_chk170 (v288 : BitVec 32) : Prop :=
  (∀ a, (k0_off426 v288) a + S1x4x128.size a ≤ S16384x4x128.size a) ∧
  (∀ (hinb : ∀ a, (k0_off426 v288) a + S1x4x128.size a ≤ S16384x4x128.size a), (Rect.unit (s := S16384x4x128) (k0_off426 v288) S1x4x128.size hinb).WholeWords (EltTy.packing .bf16))
theorem k0_off426_inb : ∀ (v288 : BitVec 32) (k0_hw170 : k0_chk170 v288), ∀ a, (k0_off426 v288) a + S1x4x128.size a ≤ S16384x4x128.size a := fun v288 k0_hw170 => k0_hw170.1
theorem k0_off426_wordsbf16 : ∀ (v288 : BitVec 32) (k0_hw170 : k0_chk170 v288), (Rect.unit (s := S16384x4x128) (k0_off426 v288) S1x4x128.size (k0_off426_inb v288 k0_hw170)).WholeWords (EltTy.packing .bf16) := fun v288 k0_hw170 => k0_hw170.2 (k0_off426_inb v288 k0_hw170)

def k0_off427 (v295 : BitVec 32) : Fin 3 → Nat :=
  let c0_i32_174 : BitVec 32 := 0#32
  let c0_i32_175 : BitVec 32 := 0#32
  ![v295.toNat, 0, 0]

def k0_chk171 (v295 : BitVec 32) : Prop :=
  (∀ a, (k0_off427 v295) a + S1x4x128.size a ≤ S16384x4x128.size a) ∧
  (∀ (hinb : ∀ a, (k0_off427 v295) a + S1x4x128.size a ≤ S16384x4x128.size a), (Rect.unit (s := S16384x4x128) (k0_off427 v295) S1x4x128.size hinb).WholeWords (EltTy.packing .bf16))
theorem k0_off427_inb : ∀ (v295 : BitVec 32) (k0_hw171 : k0_chk171 v295), ∀ a, (k0_off427 v295) a + S1x4x128.size a ≤ S16384x4x128.size a := fun v295 k0_hw171 => k0_hw171.1
theorem k0_off427_wordsbf16 : ∀ (v295 : BitVec 32) (k0_hw171 : k0_chk171 v295), (Rect.unit (s := S16384x4x128) (k0_off427 v295) S1x4x128.size (k0_off427_inb v295 k0_hw171)).WholeWords (EltTy.packing .bf16) := fun v295 k0_hw171 => k0_hw171.2 (k0_off427_inb v295 k0_hw171)

def k0_off428 (v302 : BitVec 32) : Fin 3 → Nat :=
  let c0_i32_178 : BitVec 32 := 0#32
  let c0_i32_179 : BitVec 32 := 0#32
  ![v302.toNat, 0, 0]

def k0_chk172 (v302 : BitVec 32) : Prop :=
  (∀ a, (k0_off428 v302) a + S1x4x128.size a ≤ S16384x4x128.size a) ∧
  (∀ (hinb : ∀ a, (k0_off428 v302) a + S1x4x128.size a ≤ S16384x4x128.size a), (Rect.unit (s := S16384x4x128) (k0_off428 v302) S1x4x128.size hinb).WholeWords (EltTy.packing .bf16))
theorem k0_off428_inb : ∀ (v302 : BitVec 32) (k0_hw172 : k0_chk172 v302), ∀ a, (k0_off428 v302) a + S1x4x128.size a ≤ S16384x4x128.size a := fun v302 k0_hw172 => k0_hw172.1
theorem k0_off428_wordsbf16 : ∀ (v302 : BitVec 32) (k0_hw172 : k0_chk172 v302), (Rect.unit (s := S16384x4x128) (k0_off428 v302) S1x4x128.size (k0_off428_inb v302 k0_hw172)).WholeWords (EltTy.packing .bf16) := fun v302 k0_hw172 => k0_hw172.2 (k0_off428_inb v302 k0_hw172)

def k0_off429 (v309 : BitVec 32) : Fin 3 → Nat :=
  let c0_i32_182 : BitVec 32 := 0#32
  let c0_i32_183 : BitVec 32 := 0#32
  ![v309.toNat, 0, 0]

def k0_chk173 (v309 : BitVec 32) : Prop :=
  (∀ a, (k0_off429 v309) a + S1x4x128.size a ≤ S16384x4x128.size a) ∧
  (∀ (hinb : ∀ a, (k0_off429 v309) a + S1x4x128.size a ≤ S16384x4x128.size a), (Rect.unit (s := S16384x4x128) (k0_off429 v309) S1x4x128.size hinb).WholeWords (EltTy.packing .bf16))
theorem k0_off429_inb : ∀ (v309 : BitVec 32) (k0_hw173 : k0_chk173 v309), ∀ a, (k0_off429 v309) a + S1x4x128.size a ≤ S16384x4x128.size a := fun v309 k0_hw173 => k0_hw173.1
theorem k0_off429_wordsbf16 : ∀ (v309 : BitVec 32) (k0_hw173 : k0_chk173 v309), (Rect.unit (s := S16384x4x128) (k0_off429 v309) S1x4x128.size (k0_off429_inb v309 k0_hw173)).WholeWords (EltTy.packing .bf16) := fun v309 k0_hw173 => k0_hw173.2 (k0_off429_inb v309 k0_hw173)

def k0_off430 (v316 : BitVec 32) : Fin 3 → Nat :=
  let c0_i32_186 : BitVec 32 := 0#32
  let c0_i32_187 : BitVec 32 := 0#32
  ![v316.toNat, 0, 0]

def k0_chk174 (v316 : BitVec 32) : Prop :=
  (∀ a, (k0_off430 v316) a + S1x4x128.size a ≤ S16384x4x128.size a) ∧
  (∀ (hinb : ∀ a, (k0_off430 v316) a + S1x4x128.size a ≤ S16384x4x128.size a), (Rect.unit (s := S16384x4x128) (k0_off430 v316) S1x4x128.size hinb).WholeWords (EltTy.packing .bf16))
theorem k0_off430_inb : ∀ (v316 : BitVec 32) (k0_hw174 : k0_chk174 v316), ∀ a, (k0_off430 v316) a + S1x4x128.size a ≤ S16384x4x128.size a := fun v316 k0_hw174 => k0_hw174.1
theorem k0_off430_wordsbf16 : ∀ (v316 : BitVec 32) (k0_hw174 : k0_chk174 v316), (Rect.unit (s := S16384x4x128) (k0_off430 v316) S1x4x128.size (k0_off430_inb v316 k0_hw174)).WholeWords (EltTy.packing .bf16) := fun v316 k0_hw174 => k0_hw174.2 (k0_off430_inb v316 k0_hw174)

def k0_off431 (v323 : BitVec 32) : Fin 3 → Nat :=
  let c0_i32_190 : BitVec 32 := 0#32
  let c0_i32_191 : BitVec 32 := 0#32
  ![v323.toNat, 0, 0]

def k0_chk175 (v323 : BitVec 32) : Prop :=
  (∀ a, (k0_off431 v323) a + S1x4x128.size a ≤ S16384x4x128.size a) ∧
  (∀ (hinb : ∀ a, (k0_off431 v323) a + S1x4x128.size a ≤ S16384x4x128.size a), (Rect.unit (s := S16384x4x128) (k0_off431 v323) S1x4x128.size hinb).WholeWords (EltTy.packing .bf16))
theorem k0_off431_inb : ∀ (v323 : BitVec 32) (k0_hw175 : k0_chk175 v323), ∀ a, (k0_off431 v323) a + S1x4x128.size a ≤ S16384x4x128.size a := fun v323 k0_hw175 => k0_hw175.1
theorem k0_off431_wordsbf16 : ∀ (v323 : BitVec 32) (k0_hw175 : k0_chk175 v323), (Rect.unit (s := S16384x4x128) (k0_off431 v323) S1x4x128.size (k0_off431_inb v323 k0_hw175)).WholeWords (EltTy.packing .bf16) := fun v323 k0_hw175 => k0_hw175.2 (k0_off431_inb v323 k0_hw175)

def k0_off432 (v330 : BitVec 32) : Fin 3 → Nat :=
  let c0_i32_194 : BitVec 32 := 0#32
  let c0_i32_195 : BitVec 32 := 0#32
  ![v330.toNat, 0, 0]

def k0_chk176 (v330 : BitVec 32) : Prop :=
  (∀ a, (k0_off432 v330) a + S1x4x128.size a ≤ S16384x4x128.size a) ∧
  (∀ (hinb : ∀ a, (k0_off432 v330) a + S1x4x128.size a ≤ S16384x4x128.size a), (Rect.unit (s := S16384x4x128) (k0_off432 v330) S1x4x128.size hinb).WholeWords (EltTy.packing .bf16))
theorem k0_off432_inb : ∀ (v330 : BitVec 32) (k0_hw176 : k0_chk176 v330), ∀ a, (k0_off432 v330) a + S1x4x128.size a ≤ S16384x4x128.size a := fun v330 k0_hw176 => k0_hw176.1
theorem k0_off432_wordsbf16 : ∀ (v330 : BitVec 32) (k0_hw176 : k0_chk176 v330), (Rect.unit (s := S16384x4x128) (k0_off432 v330) S1x4x128.size (k0_off432_inb v330 k0_hw176)).WholeWords (EltTy.packing .bf16) := fun v330 k0_hw176 => k0_hw176.2 (k0_off432_inb v330 k0_hw176)

def k0_off433 (v337 : BitVec 32) : Fin 3 → Nat :=
  let c0_i32_198 : BitVec 32 := 0#32
  let c0_i32_199 : BitVec 32 := 0#32
  ![v337.toNat, 0, 0]

def k0_chk177 (v337 : BitVec 32) : Prop :=
  (∀ a, (k0_off433 v337) a + S1x4x128.size a ≤ S16384x4x128.size a) ∧
  (∀ (hinb : ∀ a, (k0_off433 v337) a + S1x4x128.size a ≤ S16384x4x128.size a), (Rect.unit (s := S16384x4x128) (k0_off433 v337) S1x4x128.size hinb).WholeWords (EltTy.packing .bf16))
theorem k0_off433_inb : ∀ (v337 : BitVec 32) (k0_hw177 : k0_chk177 v337), ∀ a, (k0_off433 v337) a + S1x4x128.size a ≤ S16384x4x128.size a := fun v337 k0_hw177 => k0_hw177.1
theorem k0_off433_wordsbf16 : ∀ (v337 : BitVec 32) (k0_hw177 : k0_chk177 v337), (Rect.unit (s := S16384x4x128) (k0_off433 v337) S1x4x128.size (k0_off433_inb v337 k0_hw177)).WholeWords (EltTy.packing .bf16) := fun v337 k0_hw177 => k0_hw177.2 (k0_off433_inb v337 k0_hw177)

def k0_off434 (v344 : BitVec 32) : Fin 3 → Nat :=
  let c0_i32_202 : BitVec 32 := 0#32
  let c0_i32_203 : BitVec 32 := 0#32
  ![v344.toNat, 0, 0]

def k0_chk178 (v344 : BitVec 32) : Prop :=
  (∀ a, (k0_off434 v344) a + S1x4x128.size a ≤ S16384x4x128.size a) ∧
  (∀ (hinb : ∀ a, (k0_off434 v344) a + S1x4x128.size a ≤ S16384x4x128.size a), (Rect.unit (s := S16384x4x128) (k0_off434 v344) S1x4x128.size hinb).WholeWords (EltTy.packing .bf16))
theorem k0_off434_inb : ∀ (v344 : BitVec 32) (k0_hw178 : k0_chk178 v344), ∀ a, (k0_off434 v344) a + S1x4x128.size a ≤ S16384x4x128.size a := fun v344 k0_hw178 => k0_hw178.1
theorem k0_off434_wordsbf16 : ∀ (v344 : BitVec 32) (k0_hw178 : k0_chk178 v344), (Rect.unit (s := S16384x4x128) (k0_off434 v344) S1x4x128.size (k0_off434_inb v344 k0_hw178)).WholeWords (EltTy.packing .bf16) := fun v344 k0_hw178 => k0_hw178.2 (k0_off434_inb v344 k0_hw178)

def k0_off435 (v351 : BitVec 32) : Fin 3 → Nat :=
  let c0_i32_206 : BitVec 32 := 0#32
  let c0_i32_207 : BitVec 32 := 0#32
  ![v351.toNat, 0, 0]

def k0_chk179 (v351 : BitVec 32) : Prop :=
  (∀ a, (k0_off435 v351) a + S1x4x128.size a ≤ S16384x4x128.size a) ∧
  (∀ (hinb : ∀ a, (k0_off435 v351) a + S1x4x128.size a ≤ S16384x4x128.size a), (Rect.unit (s := S16384x4x128) (k0_off435 v351) S1x4x128.size hinb).WholeWords (EltTy.packing .bf16))
theorem k0_off435_inb : ∀ (v351 : BitVec 32) (k0_hw179 : k0_chk179 v351), ∀ a, (k0_off435 v351) a + S1x4x128.size a ≤ S16384x4x128.size a := fun v351 k0_hw179 => k0_hw179.1
theorem k0_off435_wordsbf16 : ∀ (v351 : BitVec 32) (k0_hw179 : k0_chk179 v351), (Rect.unit (s := S16384x4x128) (k0_off435 v351) S1x4x128.size (k0_off435_inb v351 k0_hw179)).WholeWords (EltTy.packing .bf16) := fun v351 k0_hw179 => k0_hw179.2 (k0_off435_inb v351 k0_hw179)

def k0_off436 (v358 : BitVec 32) : Fin 3 → Nat :=
  let c0_i32_210 : BitVec 32 := 0#32
  let c0_i32_211 : BitVec 32 := 0#32
  ![v358.toNat, 0, 0]

def k0_chk180 (v358 : BitVec 32) : Prop :=
  (∀ a, (k0_off436 v358) a + S1x4x128.size a ≤ S16384x4x128.size a) ∧
  (∀ (hinb : ∀ a, (k0_off436 v358) a + S1x4x128.size a ≤ S16384x4x128.size a), (Rect.unit (s := S16384x4x128) (k0_off436 v358) S1x4x128.size hinb).WholeWords (EltTy.packing .bf16))
theorem k0_off436_inb : ∀ (v358 : BitVec 32) (k0_hw180 : k0_chk180 v358), ∀ a, (k0_off436 v358) a + S1x4x128.size a ≤ S16384x4x128.size a := fun v358 k0_hw180 => k0_hw180.1
theorem k0_off436_wordsbf16 : ∀ (v358 : BitVec 32) (k0_hw180 : k0_chk180 v358), (Rect.unit (s := S16384x4x128) (k0_off436 v358) S1x4x128.size (k0_off436_inb v358 k0_hw180)).WholeWords (EltTy.packing .bf16) := fun v358 k0_hw180 => k0_hw180.2 (k0_off436_inb v358 k0_hw180)

def k0_off437 (v365 : BitVec 32) : Fin 3 → Nat :=
  let c0_i32_214 : BitVec 32 := 0#32
  let c0_i32_215 : BitVec 32 := 0#32
  ![v365.toNat, 0, 0]

def k0_chk181 (v365 : BitVec 32) : Prop :=
  (∀ a, (k0_off437 v365) a + S1x4x128.size a ≤ S16384x4x128.size a) ∧
  (∀ (hinb : ∀ a, (k0_off437 v365) a + S1x4x128.size a ≤ S16384x4x128.size a), (Rect.unit (s := S16384x4x128) (k0_off437 v365) S1x4x128.size hinb).WholeWords (EltTy.packing .bf16))
theorem k0_off437_inb : ∀ (v365 : BitVec 32) (k0_hw181 : k0_chk181 v365), ∀ a, (k0_off437 v365) a + S1x4x128.size a ≤ S16384x4x128.size a := fun v365 k0_hw181 => k0_hw181.1
theorem k0_off437_wordsbf16 : ∀ (v365 : BitVec 32) (k0_hw181 : k0_chk181 v365), (Rect.unit (s := S16384x4x128) (k0_off437 v365) S1x4x128.size (k0_off437_inb v365 k0_hw181)).WholeWords (EltTy.packing .bf16) := fun v365 k0_hw181 => k0_hw181.2 (k0_off437_inb v365 k0_hw181)

def k0_off438 (v372 : BitVec 32) : Fin 3 → Nat :=
  let c0_i32_218 : BitVec 32 := 0#32
  let c0_i32_219 : BitVec 32 := 0#32
  ![v372.toNat, 0, 0]

def k0_chk182 (v372 : BitVec 32) : Prop :=
  (∀ a, (k0_off438 v372) a + S1x4x128.size a ≤ S16384x4x128.size a) ∧
  (∀ (hinb : ∀ a, (k0_off438 v372) a + S1x4x128.size a ≤ S16384x4x128.size a), (Rect.unit (s := S16384x4x128) (k0_off438 v372) S1x4x128.size hinb).WholeWords (EltTy.packing .bf16))
theorem k0_off438_inb : ∀ (v372 : BitVec 32) (k0_hw182 : k0_chk182 v372), ∀ a, (k0_off438 v372) a + S1x4x128.size a ≤ S16384x4x128.size a := fun v372 k0_hw182 => k0_hw182.1
theorem k0_off438_wordsbf16 : ∀ (v372 : BitVec 32) (k0_hw182 : k0_chk182 v372), (Rect.unit (s := S16384x4x128) (k0_off438 v372) S1x4x128.size (k0_off438_inb v372 k0_hw182)).WholeWords (EltTy.packing .bf16) := fun v372 k0_hw182 => k0_hw182.2 (k0_off438_inb v372 k0_hw182)

def k0_off439 (v379 : BitVec 32) : Fin 3 → Nat :=
  let c0_i32_222 : BitVec 32 := 0#32
  let c0_i32_223 : BitVec 32 := 0#32
  ![v379.toNat, 0, 0]

def k0_chk183 (v379 : BitVec 32) : Prop :=
  (∀ a, (k0_off439 v379) a + S1x4x128.size a ≤ S16384x4x128.size a) ∧
  (∀ (hinb : ∀ a, (k0_off439 v379) a + S1x4x128.size a ≤ S16384x4x128.size a), (Rect.unit (s := S16384x4x128) (k0_off439 v379) S1x4x128.size hinb).WholeWords (EltTy.packing .bf16))
theorem k0_off439_inb : ∀ (v379 : BitVec 32) (k0_hw183 : k0_chk183 v379), ∀ a, (k0_off439 v379) a + S1x4x128.size a ≤ S16384x4x128.size a := fun v379 k0_hw183 => k0_hw183.1
theorem k0_off439_wordsbf16 : ∀ (v379 : BitVec 32) (k0_hw183 : k0_chk183 v379), (Rect.unit (s := S16384x4x128) (k0_off439 v379) S1x4x128.size (k0_off439_inb v379 k0_hw183)).WholeWords (EltTy.packing .bf16) := fun v379 k0_hw183 => k0_hw183.2 (k0_off439_inb v379 k0_hw183)

def k0_off440 (v386 : BitVec 32) : Fin 3 → Nat :=
  let c0_i32_226 : BitVec 32 := 0#32
  let c0_i32_227 : BitVec 32 := 0#32
  ![v386.toNat, 0, 0]

def k0_chk184 (v386 : BitVec 32) : Prop :=
  (∀ a, (k0_off440 v386) a + S1x4x128.size a ≤ S16384x4x128.size a) ∧
  (∀ (hinb : ∀ a, (k0_off440 v386) a + S1x4x128.size a ≤ S16384x4x128.size a), (Rect.unit (s := S16384x4x128) (k0_off440 v386) S1x4x128.size hinb).WholeWords (EltTy.packing .bf16))
theorem k0_off440_inb : ∀ (v386 : BitVec 32) (k0_hw184 : k0_chk184 v386), ∀ a, (k0_off440 v386) a + S1x4x128.size a ≤ S16384x4x128.size a := fun v386 k0_hw184 => k0_hw184.1
theorem k0_off440_wordsbf16 : ∀ (v386 : BitVec 32) (k0_hw184 : k0_chk184 v386), (Rect.unit (s := S16384x4x128) (k0_off440 v386) S1x4x128.size (k0_off440_inb v386 k0_hw184)).WholeWords (EltTy.packing .bf16) := fun v386 k0_hw184 => k0_hw184.2 (k0_off440_inb v386 k0_hw184)

def k0_off441 (v393 : BitVec 32) : Fin 3 → Nat :=
  let c0_i32_230 : BitVec 32 := 0#32
  let c0_i32_231 : BitVec 32 := 0#32
  ![v393.toNat, 0, 0]

def k0_chk185 (v393 : BitVec 32) : Prop :=
  (∀ a, (k0_off441 v393) a + S1x4x128.size a ≤ S16384x4x128.size a) ∧
  (∀ (hinb : ∀ a, (k0_off441 v393) a + S1x4x128.size a ≤ S16384x4x128.size a), (Rect.unit (s := S16384x4x128) (k0_off441 v393) S1x4x128.size hinb).WholeWords (EltTy.packing .bf16))
theorem k0_off441_inb : ∀ (v393 : BitVec 32) (k0_hw185 : k0_chk185 v393), ∀ a, (k0_off441 v393) a + S1x4x128.size a ≤ S16384x4x128.size a := fun v393 k0_hw185 => k0_hw185.1
theorem k0_off441_wordsbf16 : ∀ (v393 : BitVec 32) (k0_hw185 : k0_chk185 v393), (Rect.unit (s := S16384x4x128) (k0_off441 v393) S1x4x128.size (k0_off441_inb v393 k0_hw185)).WholeWords (EltTy.packing .bf16) := fun v393 k0_hw185 => k0_hw185.2 (k0_off441_inb v393 k0_hw185)

def k0_off442 (v400 : BitVec 32) : Fin 3 → Nat :=
  let c0_i32_234 : BitVec 32 := 0#32
  let c0_i32_235 : BitVec 32 := 0#32
  ![v400.toNat, 0, 0]

def k0_chk186 (v400 : BitVec 32) : Prop :=
  (∀ a, (k0_off442 v400) a + S1x4x128.size a ≤ S16384x4x128.size a) ∧
  (∀ (hinb : ∀ a, (k0_off442 v400) a + S1x4x128.size a ≤ S16384x4x128.size a), (Rect.unit (s := S16384x4x128) (k0_off442 v400) S1x4x128.size hinb).WholeWords (EltTy.packing .bf16))
theorem k0_off442_inb : ∀ (v400 : BitVec 32) (k0_hw186 : k0_chk186 v400), ∀ a, (k0_off442 v400) a + S1x4x128.size a ≤ S16384x4x128.size a := fun v400 k0_hw186 => k0_hw186.1
theorem k0_off442_wordsbf16 : ∀ (v400 : BitVec 32) (k0_hw186 : k0_chk186 v400), (Rect.unit (s := S16384x4x128) (k0_off442 v400) S1x4x128.size (k0_off442_inb v400 k0_hw186)).WholeWords (EltTy.packing .bf16) := fun v400 k0_hw186 => k0_hw186.2 (k0_off442_inb v400 k0_hw186)

def k0_off443 (v407 : BitVec 32) : Fin 3 → Nat :=
  let c0_i32_238 : BitVec 32 := 0#32
  let c0_i32_239 : BitVec 32 := 0#32
  ![v407.toNat, 0, 0]

def k0_chk187 (v407 : BitVec 32) : Prop :=
  (∀ a, (k0_off443 v407) a + S1x4x128.size a ≤ S16384x4x128.size a) ∧
  (∀ (hinb : ∀ a, (k0_off443 v407) a + S1x4x128.size a ≤ S16384x4x128.size a), (Rect.unit (s := S16384x4x128) (k0_off443 v407) S1x4x128.size hinb).WholeWords (EltTy.packing .bf16))
theorem k0_off443_inb : ∀ (v407 : BitVec 32) (k0_hw187 : k0_chk187 v407), ∀ a, (k0_off443 v407) a + S1x4x128.size a ≤ S16384x4x128.size a := fun v407 k0_hw187 => k0_hw187.1
theorem k0_off443_wordsbf16 : ∀ (v407 : BitVec 32) (k0_hw187 : k0_chk187 v407), (Rect.unit (s := S16384x4x128) (k0_off443 v407) S1x4x128.size (k0_off443_inb v407 k0_hw187)).WholeWords (EltTy.packing .bf16) := fun v407 k0_hw187 => k0_hw187.2 (k0_off443_inb v407 k0_hw187)

def k0_off444 (v414 : BitVec 32) : Fin 3 → Nat :=
  let c0_i32_242 : BitVec 32 := 0#32
  let c0_i32_243 : BitVec 32 := 0#32
  ![v414.toNat, 0, 0]

def k0_chk188 (v414 : BitVec 32) : Prop :=
  (∀ a, (k0_off444 v414) a + S1x4x128.size a ≤ S16384x4x128.size a) ∧
  (∀ (hinb : ∀ a, (k0_off444 v414) a + S1x4x128.size a ≤ S16384x4x128.size a), (Rect.unit (s := S16384x4x128) (k0_off444 v414) S1x4x128.size hinb).WholeWords (EltTy.packing .bf16))
theorem k0_off444_inb : ∀ (v414 : BitVec 32) (k0_hw188 : k0_chk188 v414), ∀ a, (k0_off444 v414) a + S1x4x128.size a ≤ S16384x4x128.size a := fun v414 k0_hw188 => k0_hw188.1
theorem k0_off444_wordsbf16 : ∀ (v414 : BitVec 32) (k0_hw188 : k0_chk188 v414), (Rect.unit (s := S16384x4x128) (k0_off444 v414) S1x4x128.size (k0_off444_inb v414 k0_hw188)).WholeWords (EltTy.packing .bf16) := fun v414 k0_hw188 => k0_hw188.2 (k0_off444_inb v414 k0_hw188)

def k0_off445 (v421 : BitVec 32) : Fin 3 → Nat :=
  let c0_i32_246 : BitVec 32 := 0#32
  let c0_i32_247 : BitVec 32 := 0#32
  ![v421.toNat, 0, 0]

def k0_chk189 (v421 : BitVec 32) : Prop :=
  (∀ a, (k0_off445 v421) a + S1x4x128.size a ≤ S16384x4x128.size a) ∧
  (∀ (hinb : ∀ a, (k0_off445 v421) a + S1x4x128.size a ≤ S16384x4x128.size a), (Rect.unit (s := S16384x4x128) (k0_off445 v421) S1x4x128.size hinb).WholeWords (EltTy.packing .bf16))
theorem k0_off445_inb : ∀ (v421 : BitVec 32) (k0_hw189 : k0_chk189 v421), ∀ a, (k0_off445 v421) a + S1x4x128.size a ≤ S16384x4x128.size a := fun v421 k0_hw189 => k0_hw189.1
theorem k0_off445_wordsbf16 : ∀ (v421 : BitVec 32) (k0_hw189 : k0_chk189 v421), (Rect.unit (s := S16384x4x128) (k0_off445 v421) S1x4x128.size (k0_off445_inb v421 k0_hw189)).WholeWords (EltTy.packing .bf16) := fun v421 k0_hw189 => k0_hw189.2 (k0_off445_inb v421 k0_hw189)

def k0_off446 (v428 : BitVec 32) : Fin 3 → Nat :=
  let c0_i32_250 : BitVec 32 := 0#32
  let c0_i32_251 : BitVec 32 := 0#32
  ![v428.toNat, 0, 0]

def k0_chk190 (v428 : BitVec 32) : Prop :=
  (∀ a, (k0_off446 v428) a + S1x4x128.size a ≤ S16384x4x128.size a) ∧
  (∀ (hinb : ∀ a, (k0_off446 v428) a + S1x4x128.size a ≤ S16384x4x128.size a), (Rect.unit (s := S16384x4x128) (k0_off446 v428) S1x4x128.size hinb).WholeWords (EltTy.packing .bf16))
theorem k0_off446_inb : ∀ (v428 : BitVec 32) (k0_hw190 : k0_chk190 v428), ∀ a, (k0_off446 v428) a + S1x4x128.size a ≤ S16384x4x128.size a := fun v428 k0_hw190 => k0_hw190.1
theorem k0_off446_wordsbf16 : ∀ (v428 : BitVec 32) (k0_hw190 : k0_chk190 v428), (Rect.unit (s := S16384x4x128) (k0_off446 v428) S1x4x128.size (k0_off446_inb v428 k0_hw190)).WholeWords (EltTy.packing .bf16) := fun v428 k0_hw190 => k0_hw190.2 (k0_off446_inb v428 k0_hw190)

def k0_off447 (v435 : BitVec 32) : Fin 3 → Nat :=
  let c0_i32_254 : BitVec 32 := 0#32
  let c0_i32_255 : BitVec 32 := 0#32
  ![v435.toNat, 0, 0]

def k0_chk191 (v435 : BitVec 32) : Prop :=
  (∀ a, (k0_off447 v435) a + S1x4x128.size a ≤ S16384x4x128.size a) ∧
  (∀ (hinb : ∀ a, (k0_off447 v435) a + S1x4x128.size a ≤ S16384x4x128.size a), (Rect.unit (s := S16384x4x128) (k0_off447 v435) S1x4x128.size hinb).WholeWords (EltTy.packing .bf16))
theorem k0_off447_inb : ∀ (v435 : BitVec 32) (k0_hw191 : k0_chk191 v435), ∀ a, (k0_off447 v435) a + S1x4x128.size a ≤ S16384x4x128.size a := fun v435 k0_hw191 => k0_hw191.1
theorem k0_off447_wordsbf16 : ∀ (v435 : BitVec 32) (k0_hw191 : k0_chk191 v435), (Rect.unit (s := S16384x4x128) (k0_off447 v435) S1x4x128.size (k0_off447_inb v435 k0_hw191)).WholeWords (EltTy.packing .bf16) := fun v435 k0_hw191 => k0_hw191.2 (k0_off447_inb v435 k0_hw191)

def k0_off448 (v442 : BitVec 32) : Fin 3 → Nat :=
  let c0_i32_258 : BitVec 32 := 0#32
  let c0_i32_259 : BitVec 32 := 0#32
  ![v442.toNat, 0, 0]

def k0_chk192 (v442 : BitVec 32) : Prop :=
  (∀ a, (k0_off448 v442) a + S1x4x128.size a ≤ S16384x4x128.size a) ∧
  (∀ (hinb : ∀ a, (k0_off448 v442) a + S1x4x128.size a ≤ S16384x4x128.size a), (Rect.unit (s := S16384x4x128) (k0_off448 v442) S1x4x128.size hinb).WholeWords (EltTy.packing .bf16))
theorem k0_off448_inb : ∀ (v442 : BitVec 32) (k0_hw192 : k0_chk192 v442), ∀ a, (k0_off448 v442) a + S1x4x128.size a ≤ S16384x4x128.size a := fun v442 k0_hw192 => k0_hw192.1
theorem k0_off448_wordsbf16 : ∀ (v442 : BitVec 32) (k0_hw192 : k0_chk192 v442), (Rect.unit (s := S16384x4x128) (k0_off448 v442) S1x4x128.size (k0_off448_inb v442 k0_hw192)).WholeWords (EltTy.packing .bf16) := fun v442 k0_hw192 => k0_hw192.2 (k0_off448_inb v442 k0_hw192)

abbrev stage0_0 : Fin 1 → Memref sig .tc .smem S1664 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1664x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== PicksRefIdeal.lean ====
abbrev S16384x4x128 : Shape := ⟨3, ![16384, 4, 128]⟩
abbrev S1664 : Shape := ⟨1, ![1664]⟩
abbrev S_ : Shape := ⟨0, ![]⟩
abbrev S1664x1 : Shape := ⟨2, ![1664, 1]⟩
abbrev S1664x4x128 : Shape := ⟨3, ![1664, 4, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x4x128, .bf16⟩
  | .hbm, ⟨1, _⟩ => ⟨S1664, .i32⟩
  | .hbm, ⟨2, _⟩ => ⟨S_, .i32⟩
  | .hbm, ⟨3, _⟩ => ⟨S1664, .i32⟩
  | .hbm, ⟨4, _⟩ => ⟨S1664, .i1⟩
  | .hbm, ⟨5, _⟩ => ⟨S_, .i32⟩
  | .hbm, ⟨6, _⟩ => ⟨S1664, .i32⟩
  | .hbm, ⟨7, _⟩ => ⟨S1664, .i32⟩
  | .hbm, ⟨8, _⟩ => ⟨S1664, .i32⟩
  | .hbm, ⟨9, _⟩ => ⟨S1664x1, .i32⟩
  | .hbm, ⟨10, _⟩ => ⟨S1664x4x128, .bf16⟩
  | _, _ => ⟨S16384x4x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Returns.lean ====
abbrev S13312x8x128 : Shape := ⟨3, ![13312, 8, 128]⟩
abbrev S2048 : Shape := ⟨1, ![2048]⟩
abbrev S2048x8x128 : Shape := ⟨3, ![2048, 8, 128]⟩
abbrev S64 : Shape := ⟨1, ![64]⟩
abbrev S1 : Shape := ⟨1, ![1]⟩
abbrev S_ : Shape := ⟨0, ![]⟩
abbrev S1x8x128 : Shape := ⟨3, ![1, 8, 128]⟩
abbrev S8x128 : Shape := ⟨2, ![8, 128]⟩

abbrev nBuf : Space → Nat
  | .hbm => 3
  | .vmem => 1
  | .smem => 1
  | _ => 0

abbrev bufTy : (tb : Table) → Fin (tcTables nBuf tb) → BufTy
  | .hbm, ⟨0, _⟩ => ⟨S13312x8x128, .bf16⟩
  | .hbm, ⟨1, _⟩ => ⟨S2048, .i32⟩
  | .hbm, ⟨2, _⟩ => ⟨S2048x8x128, .bf16⟩
  | .local _ .vmem, ⟨0, _⟩ => ⟨S2048x8x128, .bf16⟩
  | .local _ .smem, ⟨0, _⟩ => ⟨S2048, .i32⟩
  | _, _ => ⟨S13312x8x128, .bf16⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_cond1 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_261 : BitVec 32 := 0#32
  let v451 : BitVec 1 := Scalar.cmpi .sgt arg4 c0_i32_261
  let v452 : BitVec 32 := Scalar.extui v451
  let c0_i32_262 : BitVec 32 := 0#32
  let v453 : BitVec 1 := Scalar.cmpi .ne v452 c0_i32_262
  v453

def k0_off1 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let v1282 : Index := Scalar.indexCast v1281
  ![v1282.toNat]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let c0_i32_837 : BitVec 32 := 0#32
  let c0_i32_838 : BitVec 32 := 0#32
  ![v1281.toNat, 0, 0]
def k0_off3 (v1283 : BitVec 32) : Fin 3 → Nat :=
  let c0_i32_839 : BitVec 32 := 0#32
  let c0_i32_840 : BitVec 32 := 0#32
  ![v1283.toNat, 0, 0]

def k0_chk1 (k0_t1 : Fin k0_t1_loop.trips) (v1283 : BitVec 32) : Prop :=
  (∀ (k0_h1 : k0_cond1 k0_t1 = 1#1), ∀ a, (k0_off3 v1283) a + S1x8x128.size a ≤ S13312x8x128.size a) ∧
  (∀ (k0_h1 : k0_cond1 k0_t1 = 1#1), ∀ (hinb : ∀ a, (k0_off3 v1283) a + S1x8x128.size a ≤ S13312x8x128.size a), (Rect.unit (s := S13312x8x128) (k0_off3 v1283) S1x8x128.size hinb).WholeWords (EltTy.packing .bf16))
theorem k0_off3_inb : ∀ (k0_t1 : Fin k0_t1_loop.trips) (v1283 : BitVec 32) (k0_hw1 : k0_chk1 k0_t1 v1283), ∀ (k0_h1 : k0_cond1 k0_t1 = 1#1), ∀ a, (k0_off3 v1283) a + S1x8x128.size a ≤ S13312x8x128.size a := fun k0_t1 v1283 k0_hw1 k0_h1 => k0_hw1.1 k0_h1
theorem k0_off3_wordsbf16 : ∀ (k0_t1 : Fin k0_t1_loop.trips) (v1283 : BitVec 32) (k0_hw1 : k0_chk1 k0_t1 v1283), ∀ (k0_h1 : k0_cond1 k0_t1 = 1#1), (Rect.unit (s := S13312x8x128) (k0_off3 v1283) S1x8x128.size (k0_off3_inb k0_t1 v1283 k0_hw1 k0_h1)).WholeWords (EltTy.packing .bf16) := fun k0_t1 v1283 k0_hw1 k0_h1 => k0_hw1.2 k0_h1 (k0_off3_inb k0_t1 v1283 k0_hw1 k0_h1)

def k0_off4 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let v454 : Index := Scalar.indexCast v450
  ![v454.toNat]
def k0_off5 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c0_i32_264 : BitVec 32 := 0#32
  let c0_i32_265 : BitVec 32 := 0#32
  ![v450.toNat, 0, 0]
def k0_off6 (v455 : BitVec 32) : Fin 3 → Nat :=
  let c0_i32_266 : BitVec 32 := 0#32
  let c0_i32_267 : BitVec 32 := 0#32
  ![v455.toNat, 0, 0]

def k0_chk2 (v455 : BitVec 32) : Prop :=
  (∀ a, (k0_off6 v455) a + S1x8x128.size a ≤ S13312x8x128.size a) ∧
  (∀ (hinb : ∀ a, (k0_off6 v455) a + S1x8x128.size a ≤ S13312x8x128.size a), (Rect.unit (s := S13312x8x128) (k0_off6 v455) S1x8x128.size hinb).WholeWords (EltTy.packing .bf16))
theorem k0_off6_inb : ∀ (v455 : BitVec 32) (k0_hw2 : k0_chk2 v455), ∀ a, (k0_off6 v455) a + S1x8x128.size a ≤ S13312x8x128.size a := fun v455 k0_hw2 => k0_hw2.1
theorem k0_off6_wordsbf16 : ∀ (v455 : BitVec 32) (k0_hw2 : k0_chk2 v455), (Rect.unit (s := S13312x8x128) (k0_off6 v455) S1x8x128.size (k0_off6_inb v455 k0_hw2)).WholeWords (EltTy.packing .bf16) := fun v455 k0_hw2 => k0_hw2.2 (k0_off6_inb v455 k0_hw2)

def k0_cond2 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_270 : BitVec 32 := 0#32
  let v464 : BitVec 1 := Scalar.cmpi .sgt arg4 c0_i32_270
  let v465 : BitVec 32 := Scalar.extui v464
  let c0_i32_271 : BitVec 32 := 0#32
  let v466 : BitVec 1 := Scalar.cmpi .ne v465 c0_i32_271
  v466

def k0_off7 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let v1282 : Index := Scalar.indexCast v1281
  ![v1282.toNat]
def k0_off8 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let c0_i32_837 : BitVec 32 := 0#32
  let c0_i32_838 : BitVec 32 := 0#32
  ![v1281.toNat, 0, 0]
def k0_off9 (v1283 : BitVec 32) : Fin 3 → Nat :=
  let c0_i32_839 : BitVec 32 := 0#32
  let c0_i32_840 : BitVec 32 := 0#32
  ![v1283.toNat, 0, 0]

def k0_chk3 (k0_t1 : Fin k0_t1_loop.trips) (v1283 : BitVec 32) : Prop :=
  (∀ (k0_h2 : k0_cond2 k0_t1 = 1#1), ∀ a, (k0_off9 v1283) a + S1x8x128.size a ≤ S13312x8x128.size a) ∧
  (∀ (k0_h2 : k0_cond2 k0_t1 = 1#1), ∀ (hinb : ∀ a, (k0_off9 v1283) a + S1x8x128.size a ≤ S13312x8x128.size a), (Rect.unit (s := S13312x8x128) (k0_off9 v1283) S1x8x128.size hinb).WholeWords (EltTy.packing .bf16))
theorem k0_off9_inb : ∀ (k0_t1 : Fin k0_t1_loop.trips) (v1283 : BitVec 32) (k0_hw3 : k0_chk3 k0_t1 v1283), ∀ (k0_h2 : k0_cond2 k0_t1 = 1#1), ∀ a, (k0_off9 v1283) a + S1x8x128.size a ≤ S13312x8x128.size a := fun k0_t1 v1283 k0_hw3 k0_h2 => k0_hw3.1 k0_h2
theorem k0_off9_wordsbf16 : ∀ (k0_t1 : Fin k0_t1_loop.trips) (v1283 : BitVec 32) (k0_hw3 : k0_chk3 k0_t1 v1283), ∀ (k0_h2 : k0_cond2 k0_t1 = 1#1), (Rect.unit (s := S13312x8x128) (k0_off9 v1283) S1x8x128.size (k0_off9_inb k0_t1 v1283 k0_hw3 k0_h2)).WholeWords (EltTy.packing .bf16) := fun k0_t1 v1283 k0_hw3 k0_h2 => k0_hw3.2 k0_h2 (k0_off9_inb k0_t1 v1283 k0_hw3 k0_h2)

def k0_off10 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let v467 : Index := Scalar.indexCast v463
  ![v467.toNat]
def k0_off11 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c0_i32_273 : BitVec 32 := 0#32
  let c0_i32_274 : BitVec 32 := 0#32
  ![v463.toNat, 0, 0]
def k0_off12 (v468 : BitVec 32) : Fin 3 → Nat :=
  let c0_i32_275 : BitVec 32 := 0#32
  let c0_i32_276 : BitVec 32 := 0#32
  ![v468.toNat, 0, 0]

def k0_chk4 (v468 : BitVec 32) : Prop :=
  (∀ a, (k0_off12 v468) a + S1x8x128.size a ≤ S13312x8x128.size a) ∧
  (∀ (hinb : ∀ a, (k0_off12 v468) a + S1x8x128.size a ≤ S13312x8x128.size a), (Rect.unit (s := S13312x8x128) (k0_off12 v468) S1x8x128.size hinb).WholeWords (EltTy.packing .bf16))
theorem k0_off12_inb : ∀ (v468 : BitVec 32) (k0_hw4 : k0_chk4 v468), ∀ a, (k0_off12 v468) a + S1x8x128.size a ≤ S13312x8x128.size a := fun v468 k0_hw4 => k0_hw4.1
theorem k0_off12_wordsbf16 : ∀ (v468 : BitVec 32) (k0_hw4 : k0_chk4 v468), (Rect.unit (s := S13312x8x128) (k0_off12 v468) S1x8x128.size (k0_off12_inb v468 k0_hw4)).WholeWords (EltTy.packing .bf16) := fun v468 k0_hw4 => k0_hw4.2 (k0_off12_inb v468 k0_hw4)

def k0_cond3 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_279 : BitVec 32 := 0#32
  let v477 : BitVec 1 := Scalar.cmpi .sgt arg4 c0_i32_279
  let v478 : BitVec 32 := Scalar.extui v477
  let c0_i32_280 : BitVec 32 := 0#32
  let v479 : BitVec 1 := Scalar.cmpi .ne v478 c0_i32_280
  v479

def k0_off13 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let v1282 : Index := Scalar.indexCast v1281
  ![v1282.toNat]
def k0_off14 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let c0_i32_837 : BitVec 32 := 0#32
  let c0_i32_838 : BitVec 32 := 0#32
  ![v1281.toNat, 0, 0]
def k0_off15 (v1283 : BitVec 32) : Fin 3 → Nat :=
  let c0_i32_839 : BitVec 32 := 0#32
  let c0_i32_840 : BitVec 32 := 0#32
  ![v1283.toNat, 0, 0]

def k0_chk5 (k0_t1 : Fin k0_t1_loop.trips) (v1283 : BitVec 32) : Prop :=
  (∀ (k0_h3 : k0_cond3 k0_t1 = 1#1), ∀ a, (k0_off15 v1283) a + S1x8x128.size a ≤ S13312x8x128.size a) ∧
  (∀ (k0_h3 : k0_cond3 k0_t1 = 1#1), ∀ (hinb : ∀ a, (k0_off15 v1283) a + S1x8x128.size a ≤ S13312x8x128.size a), (Rect.unit (s := S13312x8x128) (k0_off15 v1283) S1x8x128.size hinb).WholeWords (EltTy.packing .bf16))
theorem k0_off15_inb : ∀ (k0_t1 : Fin k0_t1_loop.trips) (v1283 : BitVec 32) (k0_hw5 : k0_chk5 k0_t1 v1283), ∀ (k0_h3 : k0_cond3 k0_t1 = 1#1), ∀ a, (k0_off15 v1283) a + S1x8x128.size a ≤ S13312x8x128.size a := fun k0_t1 v1283 k0_hw5 k0_h3 => k0_hw5.1 k0_h3
theorem k0_off15_wordsbf16 : ∀ (k0_t1 : Fin k0_t1_loop.trips) (v1283 : BitVec 32) (k0_hw5 : k0_chk5 k0_t1 v1283), ∀ (k0_h3 : k0_cond3 k0_t1 = 1#1), (Rect.unit (s := S13312x8x128) (k0_off15 v1283) S1x8x128.size (k0_off15_inb k0_t1 v1283 k0_hw5 k0_h3)).WholeWords (EltTy.packing .bf16) := fun k0_t1 v1283 k0_hw5 k0_h3 => k0_hw5.2 k0_h3 (k0_off15_inb k0_t1 v1283 k0_hw5 k0_h3)

def k0_off16 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let v480 : Index := Scalar.indexCast v476
  ![v480.toNat]
def k0_off17 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c0_i32_282 : BitVec 32 := 0#32
  let c0_i32_283 : BitVec 32 := 0#32
  ![v476.toNat, 0, 0]
def k0_off18 (v481 : BitVec 32) : Fin 3 → Nat :=
  let c0_i32_284 : BitVec 32 := 0#32
  let c0_i32_285 : BitVec 32 := 0#32
  ![v481.toNat, 0, 0]

def k0_chk6 (v481 : BitVec 32) : Prop :=
  (∀ a, (k0_off18 v481) a + S1x8x128.size a ≤ S13312x8x128.size a) ∧
  (∀ (hinb : ∀ a, (k0_off18 v481) a + S1x8x128.size a ≤ S13312x8x128.size a), (Rect.unit (s := S13312x8x128) (k0_off18 v481) S1x8x128.size hinb).WholeWords (EltTy.packing .bf16))
theorem k0_off18_inb : ∀ (v481 : BitVec 32) (k0_hw6 : k0_chk6 v481), ∀ a, (k0_off18 v481) a + S1x8x128.size a ≤ S13312x8x128.size a := fun v481 k0_hw6 => k0_hw6.1
theorem k0_off18_wordsbf16 : ∀ (v481 : BitVec 32) (k0_hw6 : k0_chk6 v481), (Rect.unit (s := S13312x8x128) (k0_off18 v481) S1x8x128.size (k0_off18_inb v481 k0_hw6)).WholeWords (EltTy.packing .bf16) := fun v481 k0_hw6 => k0_hw6.2 (k0_off18_inb v481 k0_hw6)

def k0_cond4 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_288 : BitVec 32 := 0#32
  let v490 : BitVec 1 := Scalar.cmpi .sgt arg4 c0_i32_288
  let v491 : BitVec 32 := Scalar.extui v490
  let c0_i32_289 : BitVec 32 := 0#32
  let v492 : BitVec 1 := Scalar.cmpi .ne v491 c0_i32_289
  v492

def k0_off19 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let v1282 : Index := Scalar.indexCast v1281
  ![v1282.toNat]
def k0_off20 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let c0_i32_837 : BitVec 32 := 0#32
  let c0_i32_838 : BitVec 32 := 0#32
  ![v1281.toNat, 0, 0]
def k0_off21 (v1283 : BitVec 32) : Fin 3 → Nat :=
  let c0_i32_839 : BitVec 32 := 0#32
  let c0_i32_840 : BitVec 32 := 0#32
  ![v1283.toNat, 0, 0]

def k0_chk7 (k0_t1 : Fin k0_t1_loop.trips) (v1283 : BitVec 32) : Prop :=
  (∀ (k0_h4 : k0_cond4 k0_t1 = 1#1), ∀ a, (k0_off21 v1283) a + S1x8x128.size a ≤ S13312x8x128.size a) ∧
  (∀ (k0_h4 : k0_cond4 k0_t1 = 1#1), ∀ (hinb : ∀ a, (k0_off21 v1283) a + S1x8x128.size a ≤ S13312x8x128.size a), (Rect.unit (s := S13312x8x128) (k0_off21 v1283) S1x8x128.size hinb).WholeWords (EltTy.packing .bf16))
theorem k0_off21_inb : ∀ (k0_t1 : Fin k0_t1_loop.trips) (v1283 : BitVec 32) (k0_hw7 : k0_chk7 k0_t1 v1283), ∀ (k0_h4 : k0_cond4 k0_t1 = 1#1), ∀ a, (k0_off21 v1283) a + S1x8x128.size a ≤ S13312x8x128.size a := fun k0_t1 v1283 k0_hw7 k0_h4 => k0_hw7.1 k0_h4
theorem k0_off21_wordsbf16 : ∀ (k0_t1 : Fin k0_t1_loop.trips) (v1283 : BitVec 32) (k0_hw7 : k0_chk7 k0_t1 v1283), ∀ (k0_h4 : k0_cond4 k0_t1 = 1#1), (Rect.unit (s := S13312x8x128) (k0_off21 v1283) S1x8x128.size (k0_off21_inb k0_t1 v1283 k0_hw7 k0_h4)).WholeWords (EltTy.packing .bf16) := fun k0_t1 v1283 k0_hw7 k0_h4 => k0_hw7.2 k0_h4 (k0_off21_inb k0_t1 v1283 k0_hw7 k0_h4)

def k0_off22 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let v493 : Index := Scalar.indexCast v489
  ![v493.toNat]
def k0_off23 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c0_i32_291 : BitVec 32 := 0#32
  let c0_i32_292 : BitVec 32 := 0#32
  ![v489.toNat, 0, 0]
def k0_off24 (v494 : BitVec 32) : Fin 3 → Nat :=
  let c0_i32_293 : BitVec 32 := 0#32
  let c0_i32_294 : BitVec 32 := 0#32
  ![v494.toNat, 0, 0]

def k0_chk8 (v494 : BitVec 32) : Prop :=
  (∀ a, (k0_off24 v494) a + S1x8x128.size a ≤ S13312x8x128.size a) ∧
  (∀ (hinb : ∀ a, (k0_off24 v494) a + S1x8x128.size a ≤ S13312x8x128.size a), (Rect.unit (s := S13312x8x128) (k0_off24 v494) S1x8x128.size hinb).WholeWords (EltTy.packing .bf16))
theorem k0_off24_inb : ∀ (v494 : BitVec 32) (k0_hw8 : k0_chk8 v494), ∀ a, (k0_off24 v494) a + S1x8x128.size a ≤ S13312x8x128.size a := fun v494 k0_hw8 => k0_hw8.1
theorem k0_off24_wordsbf16 : ∀ (v494 : BitVec 32) (k0_hw8 : k0_chk8 v494), (Rect.unit (s := S13312x8x128) (k0_off24 v494) S1x8x128.size (k0_off24_inb v494 k0_hw8)).WholeWords (EltTy.packing .bf16) := fun v494 k0_hw8 => k0_hw8.2 (k0_off24_inb v494 k0_hw8)

def k0_cond5 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_297 : BitVec 32 := 0#32
  let v503 : BitVec 1 := Scalar.cmpi .sgt arg4 c0_i32_297
  let v504 : BitVec 32 := Scalar.extui v503
  let c0_i32_298 : BitVec 32 := 0#32
  let v505 : BitVec 1 := Scalar.cmpi .ne v504 c0_i32_298
  v505

def k0_off25 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let v1282 : Index := Scalar.indexCast v1281
  ![v1282.toNat]
def k0_off26 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let c0_i32_837 : BitVec 32 := 0#32
  let c0_i32_838 : BitVec 32 := 0#32
  ![v1281.toNat, 0, 0]
def k0_off27 (v1283 : BitVec 32) : Fin 3 → Nat :=
  let c0_i32_839 : BitVec 32 := 0#32
  let c0_i32_840 : BitVec 32 := 0#32
  ![v1283.toNat, 0, 0]

def k0_chk9 (k0_t1 : Fin k0_t1_loop.trips) (v1283 : BitVec 32) : Prop :=
  (∀ (k0_h5 : k0_cond5 k0_t1 = 1#1), ∀ a, (k0_off27 v1283) a + S1x8x128.size a ≤ S13312x8x128.size a) ∧
  (∀ (k0_h5 : k0_cond5 k0_t1 = 1#1), ∀ (hinb : ∀ a, (k0_off27 v1283) a + S1x8x128.size a ≤ S13312x8x128.size a), (Rect.unit (s := S13312x8x128) (k0_off27 v1283) S1x8x128.size hinb).WholeWords (EltTy.packing .bf16))
theorem k0_off27_inb : ∀ (k0_t1 : Fin k0_t1_loop.trips) (v1283 : BitVec 32) (k0_hw9 : k0_chk9 k0_t1 v1283), ∀ (k0_h5 : k0_cond5 k0_t1 = 1#1), ∀ a, (k0_off27 v1283) a + S1x8x128.size a ≤ S13312x8x128.size a := fun k0_t1 v1283 k0_hw9 k0_h5 => k0_hw9.1 k0_h5
theorem k0_off27_wordsbf16 : ∀ (k0_t1 : Fin k0_t1_loop.trips) (v1283 : BitVec 32) (k0_hw9 : k0_chk9 k0_t1 v1283), ∀ (k0_h5 : k0_cond5 k0_t1 = 1#1), (Rect.unit (s := S13312x8x128) (k0_off27 v1283) S1x8x128.size (k0_off27_inb k0_t1 v1283 k0_hw9 k0_h5)).WholeWords (EltTy.packing .bf16) := fun k0_t1 v1283 k0_hw9 k0_h5 => k0_hw9.2 k0_h5 (k0_off27_inb k0_t1 v1283 k0_hw9 k0_h5)

def k0_off28 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let v506 : Index := Scalar.indexCast v502
  ![v506.toNat]
def k0_off29 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c0_i32_300 : BitVec 32 := 0#32
  let c0_i32_301 : BitVec 32 := 0#32
  ![v502.toNat, 0, 0]
def k0_off30 (v507 : BitVec 32) : Fin 3 → Nat :=
  let c0_i32_302 : BitVec 32 := 0#32
  let c0_i32_303 : BitVec 32 := 0#32
  ![v507.toNat, 0, 0]

def k0_chk10 (v507 : BitVec 32) : Prop :=
  (∀ a, (k0_off30 v507) a + S1x8x128.size a ≤ S13312x8x128.size a) ∧
  (∀ (hinb : ∀ a, (k0_off30 v507) a + S1x8x128.size a ≤ S13312x8x128.size a), (Rect.unit (s := S13312x8x128) (k0_off30 v507) S1x8x128.size hinb).WholeWords (EltTy.packing .bf16))
theorem k0_off30_inb : ∀ (v507 : BitVec 32) (k0_hw10 : k0_chk10 v507), ∀ a, (k0_off30 v507) a + S1x8x128.size a ≤ S13312x8x128.size a := fun v507 k0_hw10 => k0_hw10.1
theorem k0_off30_wordsbf16 : ∀ (v507 : BitVec 32) (k0_hw10 : k0_chk10 v507), (Rect.unit (s := S13312x8x128) (k0_off30 v507) S1x8x128.size (k0_off30_inb v507 k0_hw10)).WholeWords (EltTy.packing .bf16) := fun v507 k0_hw10 => k0_hw10.2 (k0_off30_inb v507 k0_hw10)

def k0_cond6 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_306 : BitVec 32 := 0#32
  let v516 : BitVec 1 := Scalar.cmpi .sgt arg4 c0_i32_306
  let v517 : BitVec 32 := Scalar.extui v516
  let c0_i32_307 : BitVec 32 := 0#32
  let v518 : BitVec 1 := Scalar.cmpi .ne v517 c0_i32_307
  v518

def k0_off31 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let v1282 : Index := Scalar.indexCast v1281
  ![v1282.toNat]
def k0_off32 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let c0_i32_837 : BitVec 32 := 0#32
  let c0_i32_838 : BitVec 32 := 0#32
  ![v1281.toNat, 0, 0]
def k0_off33 (v1283 : BitVec 32) : Fin 3 → Nat :=
  let c0_i32_839 : BitVec 32 := 0#32
  let c0_i32_840 : BitVec 32 := 0#32
  ![v1283.toNat, 0, 0]

def k0_chk11 (k0_t1 : Fin k0_t1_loop.trips) (v1283 : BitVec 32) : Prop :=
  (∀ (k0_h6 : k0_cond6 k0_t1 = 1#1), ∀ a, (k0_off33 v1283) a + S1x8x128.size a ≤ S13312x8x128.size a) ∧
  (∀ (k0_h6 : k0_cond6 k0_t1 = 1#1), ∀ (hinb : ∀ a, (k0_off33 v1283) a + S1x8x128.size a ≤ S13312x8x128.size a), (Rect.unit (s := S13312x8x128) (k0_off33 v1283) S1x8x128.size hinb).WholeWords (EltTy.packing .bf16))
theorem k0_off33_inb : ∀ (k0_t1 : Fin k0_t1_loop.trips) (v1283 : BitVec 32) (k0_hw11 : k0_chk11 k0_t1 v1283), ∀ (k0_h6 : k0_cond6 k0_t1 = 1#1), ∀ a, (k0_off33 v1283) a + S1x8x128.size a ≤ S13312x8x128.size a := fun k0_t1 v1283 k0_hw11 k0_h6 => k0_hw11.1 k0_h6
theorem k0_off33_wordsbf16 : ∀ (k0_t1 : Fin k0_t1_loop.trips) (v1283 : BitVec 32) (k0_hw11 : k0_chk11 k0_t1 v1283), ∀ (k0_h6 : k0_cond6 k0_t1 = 1#1), (Rect.unit (s := S13312x8x128) (k0_off33 v1283) S1x8x128.size (k0_off33_inb k0_t1 v1283 k0_hw11 k0_h6)).WholeWords (EltTy.packing .bf16) := fun k0_t1 v1283 k0_hw11 k0_h6 => k0_hw11.2 k0_h6 (k0_off33_inb k0_t1 v1283 k0_hw11 k0_h6)

def k0_off34 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let v519 : Index := Scalar.indexCast v515
  ![v519.toNat]
def k0_off35 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c0_i32_309 : BitVec 32 := 0#32
  let c0_i32_310 : BitVec 32 := 0#32
  ![v515.toNat, 0, 0]
def k0_off36 (v520 : BitVec 32) : Fin 3 → Nat :=
  let c0_i32_311 : BitVec 32 := 0#32
  let c0_i32_312 : BitVec 32 := 0#32
  ![v520.toNat, 0, 0]

def k0_chk12 (v520 : BitVec 32) : Prop :=
  (∀ a, (k0_off36 v520) a + S1x8x128.size a ≤ S13312x8x128.size a) ∧
  (∀ (hinb : ∀ a, (k0_off36 v520) a + S1x8x128.size a ≤ S13312x8x128.size a), (Rect.unit (s := S13312x8x128) (k0_off36 v520) S1x8x128.size hinb).WholeWords (EltTy.packing .bf16))
theorem k0_off36_inb : ∀ (v520 : BitVec 32) (k0_hw12 : k0_chk12 v520), ∀ a, (k0_off36 v520) a + S1x8x128.size a ≤ S13312x8x128.size a := fun v520 k0_hw12 => k0_hw12.1
theorem k0_off36_wordsbf16 : ∀ (v520 : BitVec 32) (k0_hw12 : k0_chk12 v520), (Rect.unit (s := S13312x8x128) (k0_off36 v520) S1x8x128.size (k0_off36_inb v520 k0_hw12)).WholeWords (EltTy.packing .bf16) := fun v520 k0_hw12 => k0_hw12.2 (k0_off36_inb v520 k0_hw12)

def k0_cond7 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_315 : BitVec 32 := 0#32
  let v529 : BitVec 1 := Scalar.cmpi .sgt arg4 c0_i32_315
  let v530 : BitVec 32 := Scalar.extui v529
  let c0_i32_316 : BitVec 32 := 0#32
  let v531 : BitVec 1 := Scalar.cmpi .ne v530 c0_i32_316
  v531

def k0_off37 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let v1282 : Index := Scalar.indexCast v1281
  ![v1282.toNat]
def k0_off38 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let c0_i32_837 : BitVec 32 := 0#32
  let c0_i32_838 : BitVec 32 := 0#32
  ![v1281.toNat, 0, 0]
def k0_off39 (v1283 : BitVec 32) : Fin 3 → Nat :=
  let c0_i32_839 : BitVec 32 := 0#32
  let c0_i32_840 : BitVec 32 := 0#32
  ![v1283.toNat, 0, 0]

def k0_chk13 (k0_t1 : Fin k0_t1_loop.trips) (v1283 : BitVec 32) : Prop :=
  (∀ (k0_h7 : k0_cond7 k0_t1 = 1#1), ∀ a, (k0_off39 v1283) a + S1x8x128.size a ≤ S13312x8x128.size a) ∧
  (∀ (k0_h7 : k0_cond7 k0_t1 = 1#1), ∀ (hinb : ∀ a, (k0_off39 v1283) a + S1x8x128.size a ≤ S13312x8x128.size a), (Rect.unit (s := S13312x8x128) (k0_off39 v1283) S1x8x128.size hinb).WholeWords (EltTy.packing .bf16))
theorem k0_off39_inb : ∀ (k0_t1 : Fin k0_t1_loop.trips) (v1283 : BitVec 32) (k0_hw13 : k0_chk13 k0_t1 v1283), ∀ (k0_h7 : k0_cond7 k0_t1 = 1#1), ∀ a, (k0_off39 v1283) a + S1x8x128.size a ≤ S13312x8x128.size a := fun k0_t1 v1283 k0_hw13 k0_h7 => k0_hw13.1 k0_h7
theorem k0_off39_wordsbf16 : ∀ (k0_t1 : Fin k0_t1_loop.trips) (v1283 : BitVec 32) (k0_hw13 : k0_chk13 k0_t1 v1283), ∀ (k0_h7 : k0_cond7 k0_t1 = 1#1), (Rect.unit (s := S13312x8x128) (k0_off39 v1283) S1x8x128.size (k0_off39_inb k0_t1 v1283 k0_hw13 k0_h7)).WholeWords (EltTy.packing .bf16) := fun k0_t1 v1283 k0_hw13 k0_h7 => k0_hw13.2 k0_h7 (k0_off39_inb k0_t1 v1283 k0_hw13 k0_h7)

def k0_off40 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let v532 : Index := Scalar.indexCast v528
  ![v532.toNat]
def k0_off41 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c0_i32_318 : BitVec 32 := 0#32
  let c0_i32_319 : BitVec 32 := 0#32
  ![v528.toNat, 0, 0]
def k0_off42 (v533 : BitVec 32) : Fin 3 → Nat :=
  let c0_i32_320 : BitVec 32 := 0#32
  let c0_i32_321 : BitVec 32 := 0#32
  ![v533.toNat, 0, 0]

def k0_chk14 (v533 : BitVec 32) : Prop :=
  (∀ a, (k0_off42 v533) a + S1x8x128.size a ≤ S13312x8x128.size a) ∧
  (∀ (hinb : ∀ a, (k0_off42 v533) a + S1x8x128.size a ≤ S13312x8x128.size a), (Rect.unit (s := S13312x8x128) (k0_off42 v533) S1x8x128.size hinb).WholeWords (EltTy.packing .bf16))
theorem k0_off42_inb : ∀ (v533 : BitVec 32) (k0_hw14 : k0_chk14 v533), ∀ a, (k0_off42 v533) a + S1x8x128.size a ≤ S13312x8x128.size a := fun v533 k0_hw14 => k0_hw14.1
theorem k0_off42_wordsbf16 : ∀ (v533 : BitVec 32) (k0_hw14 : k0_chk14 v533), (Rect.unit (s := S13312x8x128) (k0_off42 v533) S1x8x128.size (k0_off42_inb v533 k0_hw14)).WholeWords (EltTy.packing .bf16) := fun v533 k0_hw14 => k0_hw14.2 (k0_off42_inb v533 k0_hw14)

def k0_cond8 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_324 : BitVec 32 := 0#32
  let v542 : BitVec 1 := Scalar.cmpi .sgt arg4 c0_i32_324
  let v543 : BitVec 32 := Scalar.extui v542
  let c0_i32_325 : BitVec 32 := 0#32
  let v544 : BitVec 1 := Scalar.cmpi .ne v543 c0_i32_325
  v544

def k0_off43 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let v1282 : Index := Scalar.indexCast v1281
  ![v1282.toNat]
def k0_off44 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let c0_i32_837 : BitVec 32 := 0#32
  let c0_i32_838 : BitVec 32 := 0#32
  ![v1281.toNat, 0, 0]
def k0_off45 (v1283 : BitVec 32) : Fin 3 → Nat :=
  let c0_i32_839 : BitVec 32 := 0#32
  let c0_i32_840 : BitVec 32 := 0#32
  ![v1283.toNat, 0, 0]

def k0_chk15 (k0_t1 : Fin k0_t1_loop.trips) (v1283 : BitVec 32) : Prop :=
  (∀ (k0_h8 : k0_cond8 k0_t1 = 1#1), ∀ a, (k0_off45 v1283) a + S1x8x128.size a ≤ S13312x8x128.size a) ∧
  (∀ (k0_h8 : k0_cond8 k0_t1 = 1#1), ∀ (hinb : ∀ a, (k0_off45 v1283) a + S1x8x128.size a ≤ S13312x8x128.size a), (Rect.unit (s := S13312x8x128) (k0_off45 v1283) S1x8x128.size hinb).WholeWords (EltTy.packing .bf16))
theorem k0_off45_inb : ∀ (k0_t1 : Fin k0_t1_loop.trips) (v1283 : BitVec 32) (k0_hw15 : k0_chk15 k0_t1 v1283), ∀ (k0_h8 : k0_cond8 k0_t1 = 1#1), ∀ a, (k0_off45 v1283) a + S1x8x128.size a ≤ S13312x8x128.size a := fun k0_t1 v1283 k0_hw15 k0_h8 => k0_hw15.1 k0_h8
theorem k0_off45_wordsbf16 : ∀ (k0_t1 : Fin k0_t1_loop.trips) (v1283 : BitVec 32) (k0_hw15 : k0_chk15 k0_t1 v1283), ∀ (k0_h8 : k0_cond8 k0_t1 = 1#1), (Rect.unit (s := S13312x8x128) (k0_off45 v1283) S1x8x128.size (k0_off45_inb k0_t1 v1283 k0_hw15 k0_h8)).WholeWords (EltTy.packing .bf16) := fun k0_t1 v1283 k0_hw15 k0_h8 => k0_hw15.2 k0_h8 (k0_off45_inb k0_t1 v1283 k0_hw15 k0_h8)

def k0_off46 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let v545 : Index := Scalar.indexCast v541
  ![v545.toNat]
def k0_off47 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c0_i32_327 : BitVec 32 := 0#32
  let c0_i32_328 : BitVec 32 := 0#32
  ![v541.toNat, 0, 0]
def k0_off48 (v546 : BitVec 32) : Fin 3 → Nat :=
  let c0_i32_329 : BitVec 32 := 0#32
  let c0_i32_330 : BitVec 32 := 0#32
  ![v546.toNat, 0, 0]

def k0_chk16 (v546 : BitVec 32) : Prop :=
  (∀ a, (k0_off48 v546) a + S1x8x128.size a ≤ S13312x8x128.size a) ∧
  (∀ (hinb : ∀ a, (k0_off48 v546) a + S1x8x128.size a ≤ S13312x8x128.size a), (Rect.unit (s := S13312x8x128) (k0_off48 v546) S1x8x128.size hinb).WholeWords (EltTy.packing .bf16))
theorem k0_off48_inb : ∀ (v546 : BitVec 32) (k0_hw16 : k0_chk16 v546), ∀ a, (k0_off48 v546) a + S1x8x128.size a ≤ S13312x8x128.size a := fun v546 k0_hw16 => k0_hw16.1
theorem k0_off48_wordsbf16 : ∀ (v546 : BitVec 32) (k0_hw16 : k0_chk16 v546), (Rect.unit (s := S13312x8x128) (k0_off48 v546) S1x8x128.size (k0_off48_inb v546 k0_hw16)).WholeWords (EltTy.packing .bf16) := fun v546 k0_hw16 => k0_hw16.2 (k0_off48_inb v546 k0_hw16)

def k0_cond9 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_333 : BitVec 32 := 0#32
  let v555 : BitVec 1 := Scalar.cmpi .sgt arg4 c0_i32_333
  let v556 : BitVec 32 := Scalar.extui v555
  let c0_i32_334 : BitVec 32 := 0#32
  let v557 : BitVec 1 := Scalar.cmpi .ne v556 c0_i32_334
  v557

def k0_off49 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let v1282 : Index := Scalar.indexCast v1281
  ![v1282.toNat]
def k0_off50 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let c0_i32_837 : BitVec 32 := 0#32
  let c0_i32_838 : BitVec 32 := 0#32
  ![v1281.toNat, 0, 0]
def k0_off51 (v1283 : BitVec 32) : Fin 3 → Nat :=
  let c0_i32_839 : BitVec 32 := 0#32
  let c0_i32_840 : BitVec 32 := 0#32
  ![v1283.toNat, 0, 0]

def k0_chk17 (k0_t1 : Fin k0_t1_loop.trips) (v1283 : BitVec 32) : Prop :=
  (∀ (k0_h9 : k0_cond9 k0_t1 = 1#1), ∀ a, (k0_off51 v1283) a + S1x8x128.size a ≤ S13312x8x128.size a) ∧
  (∀ (k0_h9 : k0_cond9 k0_t1 = 1#1), ∀ (hinb : ∀ a, (k0_off51 v1283) a + S1x8x128.size a ≤ S13312x8x128.size a), (Rect.unit (s := S13312x8x128) (k0_off51 v1283) S1x8x128.size hinb).WholeWords (EltTy.packing .bf16))
theorem k0_off51_inb : ∀ (k0_t1 : Fin k0_t1_loop.trips) (v1283 : BitVec 32) (k0_hw17 : k0_chk17 k0_t1 v1283), ∀ (k0_h9 : k0_cond9 k0_t1 = 1#1), ∀ a, (k0_off51 v1283) a + S1x8x128.size a ≤ S13312x8x128.size a := fun k0_t1 v1283 k0_hw17 k0_h9 => k0_hw17.1 k0_h9
theorem k0_off51_wordsbf16 : ∀ (k0_t1 : Fin k0_t1_loop.trips) (v1283 : BitVec 32) (k0_hw17 : k0_chk17 k0_t1 v1283), ∀ (k0_h9 : k0_cond9 k0_t1 = 1#1), (Rect.unit (s := S13312x8x128) (k0_off51 v1283) S1x8x128.size (k0_off51_inb k0_t1 v1283 k0_hw17 k0_h9)).WholeWords (EltTy.packing .bf16) := fun k0_t1 v1283 k0_hw17 k0_h9 => k0_hw17.2 k0_h9 (k0_off51_inb k0_t1 v1283 k0_hw17 k0_h9)

def k0_off52 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let v558 : Index := Scalar.indexCast v554
  ![v558.toNat]
def k0_off53 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c0_i32_336 : BitVec 32 := 0#32
  let c0_i32_337 : BitVec 32 := 0#32
  ![v554.toNat, 0, 0]
def k0_off54 (v559 : BitVec 32) : Fin 3 → Nat :=
  let c0_i32_338 : BitVec 32 := 0#32
  let c0_i32_339 : BitVec 32 := 0#32
  ![v559.toNat, 0, 0]

def k0_chk18 (v559 : BitVec 32) : Prop :=
  (∀ a, (k0_off54 v559) a + S1x8x128.size a ≤ S13312x8x128.size a) ∧
  (∀ (hinb : ∀ a, (k0_off54 v559) a + S1x8x128.size a ≤ S13312x8x128.size a), (Rect.unit (s := S13312x8x128) (k0_off54 v559) S1x8x128.size hinb).WholeWords (EltTy.packing .bf16))
theorem k0_off54_inb : ∀ (v559 : BitVec 32) (k0_hw18 : k0_chk18 v559), ∀ a, (k0_off54 v559) a + S1x8x128.size a ≤ S13312x8x128.size a := fun v559 k0_hw18 => k0_hw18.1
theorem k0_off54_wordsbf16 : ∀ (v559 : BitVec 32) (k0_hw18 : k0_chk18 v559), (Rect.unit (s := S13312x8x128) (k0_off54 v559) S1x8x128.size (k0_off54_inb v559 k0_hw18)).WholeWords (EltTy.packing .bf16) := fun v559 k0_hw18 => k0_hw18.2 (k0_off54_inb v559 k0_hw18)

def k0_cond10 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_342 : BitVec 32 := 0#32
  let v568 : BitVec 1 := Scalar.cmpi .sgt arg4 c0_i32_342
  let v569 : BitVec 32 := Scalar.extui v568
  let c0_i32_343 : BitVec 32 := 0#32
  let v570 : BitVec 1 := Scalar.cmpi .ne v569 c0_i32_343
  v570

def k0_off55 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let v1282 : Index := Scalar.indexCast v1281
  ![v1282.toNat]
def k0_off56 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let c0_i32_837 : BitVec 32 := 0#32
  let c0_i32_838 : BitVec 32 := 0#32
  ![v1281.toNat, 0, 0]
def k0_off57 (v1283 : BitVec 32) : Fin 3 → Nat :=
  let c0_i32_839 : BitVec 32 := 0#32
  let c0_i32_840 : BitVec 32 := 0#32
  ![v1283.toNat, 0, 0]

def k0_chk19 (k0_t1 : Fin k0_t1_loop.trips) (v1283 : BitVec 32) : Prop :=
  (∀ (k0_h10 : k0_cond10 k0_t1 = 1#1), ∀ a, (k0_off57 v1283) a + S1x8x128.size a ≤ S13312x8x128.size a) ∧
  (∀ (k0_h10 : k0_cond10 k0_t1 = 1#1), ∀ (hinb : ∀ a, (k0_off57 v1283) a + S1x8x128.size a ≤ S13312x8x128.size a), (Rect.unit (s := S13312x8x128) (k0_off57 v1283) S1x8x128.size hinb).WholeWords (EltTy.packing .bf16))
theorem k0_off57_inb : ∀ (k0_t1 : Fin k0_t1_loop.trips) (v1283 : BitVec 32) (k0_hw19 : k0_chk19 k0_t1 v1283), ∀ (k0_h10 : k0_cond10 k0_t1 = 1#1), ∀ a, (k0_off57 v1283) a + S1x8x128.size a ≤ S13312x8x128.size a := fun k0_t1 v1283 k0_hw19 k0_h10 => k0_hw19.1 k0_h10
theorem k0_off57_wordsbf16 : ∀ (k0_t1 : Fin k0_t1_loop.trips) (v1283 : BitVec 32) (k0_hw19 : k0_chk19 k0_t1 v1283), ∀ (k0_h10 : k0_cond10 k0_t1 = 1#1), (Rect.unit (s := S13312x8x128) (k0_off57 v1283) S1x8x128.size (k0_off57_inb k0_t1 v1283 k0_hw19 k0_h10)).WholeWords (EltTy.packing .bf16) := fun k0_t1 v1283 k0_hw19 k0_h10 => k0_hw19.2 k0_h10 (k0_off57_inb k0_t1 v1283 k0_hw19 k0_h10)

def k0_off58 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let v571 : Index := Scalar.indexCast v567
  ![v571.toNat]
def k0_off59 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c0_i32_345 : BitVec 32 := 0#32
  let c0_i32_346 : BitVec 32 := 0#32
  ![v567.toNat, 0, 0]
def k0_off60 (v572 : BitVec 32) : Fin 3 → Nat :=
  let c0_i32_347 : BitVec 32 := 0#32
  let c0_i32_348 : BitVec 32 := 0#32
  ![v572.toNat, 0, 0]

def k0_chk20 (v572 : BitVec 32) : Prop :=
  (∀ a, (k0_off60 v572) a + S1x8x128.size a ≤ S13312x8x128.size a) ∧
  (∀ (hinb : ∀ a, (k0_off60 v572) a + S1x8x128.size a ≤ S13312x8x128.size a), (Rect.unit (s := S13312x8x128) (k0_off60 v572) S1x8x128.size hinb).WholeWords (EltTy.packing .bf16))
theorem k0_off60_inb : ∀ (v572 : BitVec 32) (k0_hw20 : k0_chk20 v572), ∀ a, (k0_off60 v572) a + S1x8x128.size a ≤ S13312x8x128.size a := fun v572 k0_hw20 => k0_hw20.1
theorem k0_off60_wordsbf16 : ∀ (v572 : BitVec 32) (k0_hw20 : k0_chk20 v572), (Rect.unit (s := S13312x8x128) (k0_off60 v572) S1x8x128.size (k0_off60_inb v572 k0_hw20)).WholeWords (EltTy.packing .bf16) := fun v572 k0_hw20 => k0_hw20.2 (k0_off60_inb v572 k0_hw20)

def k0_cond11 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_351 : BitVec 32 := 0#32
  let v581 : BitVec 1 := Scalar.cmpi .sgt arg4 c0_i32_351
  let v582 : BitVec 32 := Scalar.extui v581
  let c0_i32_352 : BitVec 32 := 0#32
  let v583 : BitVec 1 := Scalar.cmpi .ne v582 c0_i32_352
  v583

def k0_off61 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let v1282 : Index := Scalar.indexCast v1281
  ![v1282.toNat]
def k0_off62 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let c0_i32_837 : BitVec 32 := 0#32
  let c0_i32_838 : BitVec 32 := 0#32
  ![v1281.toNat, 0, 0]
def k0_off63 (v1283 : BitVec 32) : Fin 3 → Nat :=
  let c0_i32_839 : BitVec 32 := 0#32
  let c0_i32_840 : BitVec 32 := 0#32
  ![v1283.toNat, 0, 0]

def k0_chk21 (k0_t1 : Fin k0_t1_loop.trips) (v1283 : BitVec 32) : Prop :=
  (∀ (k0_h11 : k0_cond11 k0_t1 = 1#1), ∀ a, (k0_off63 v1283) a + S1x8x128.size a ≤ S13312x8x128.size a) ∧
  (∀ (k0_h11 : k0_cond11 k0_t1 = 1#1), ∀ (hinb : ∀ a, (k0_off63 v1283) a + S1x8x128.size a ≤ S13312x8x128.size a), (Rect.unit (s := S13312x8x128) (k0_off63 v1283) S1x8x128.size hinb).WholeWords (EltTy.packing .bf16))
theorem k0_off63_inb : ∀ (k0_t1 : Fin k0_t1_loop.trips) (v1283 : BitVec 32) (k0_hw21 : k0_chk21 k0_t1 v1283), ∀ (k0_h11 : k0_cond11 k0_t1 = 1#1), ∀ a, (k0_off63 v1283) a + S1x8x128.size a ≤ S13312x8x128.size a := fun k0_t1 v1283 k0_hw21 k0_h11 => k0_hw21.1 k0_h11
theorem k0_off63_wordsbf16 : ∀ (k0_t1 : Fin k0_t1_loop.trips) (v1283 : BitVec 32) (k0_hw21 : k0_chk21 k0_t1 v1283), ∀ (k0_h11 : k0_cond11 k0_t1 = 1#1), (Rect.unit (s := S13312x8x128) (k0_off63 v1283) S1x8x128.size (k0_off63_inb k0_t1 v1283 k0_hw21 k0_h11)).WholeWords (EltTy.packing .bf16) := fun k0_t1 v1283 k0_hw21 k0_h11 => k0_hw21.2 k0_h11 (k0_off63_inb k0_t1 v1283 k0_hw21 k0_h11)

def k0_off64 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let v584 : Index := Scalar.indexCast v580
  ![v584.toNat]
def k0_off65 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c0_i32_354 : BitVec 32 := 0#32
  let c0_i32_355 : BitVec 32 := 0#32
  ![v580.toNat, 0, 0]
def k0_off66 (v585 : BitVec 32) : Fin 3 → Nat :=
  let c0_i32_356 : BitVec 32 := 0#32
  let c0_i32_357 : BitVec 32 := 0#32
  ![v585.toNat, 0, 0]

def k0_chk22 (v585 : BitVec 32) : Prop :=
  (∀ a, (k0_off66 v585) a + S1x8x128.size a ≤ S13312x8x128.size a) ∧
  (∀ (hinb : ∀ a, (k0_off66 v585) a + S1x8x128.size a ≤ S13312x8x128.size a), (Rect.unit (s := S13312x8x128) (k0_off66 v585) S1x8x128.size hinb).WholeWords (EltTy.packing .bf16))
theorem k0_off66_inb : ∀ (v585 : BitVec 32) (k0_hw22 : k0_chk22 v585), ∀ a, (k0_off66 v585) a + S1x8x128.size a ≤ S13312x8x128.size a := fun v585 k0_hw22 => k0_hw22.1
theorem k0_off66_wordsbf16 : ∀ (v585 : BitVec 32) (k0_hw22 : k0_chk22 v585), (Rect.unit (s := S13312x8x128) (k0_off66 v585) S1x8x128.size (k0_off66_inb v585 k0_hw22)).WholeWords (EltTy.packing .bf16) := fun v585 k0_hw22 => k0_hw22.2 (k0_off66_inb v585 k0_hw22)

def k0_cond12 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_360 : BitVec 32 := 0#32
  let v594 : BitVec 1 := Scalar.cmpi .sgt arg4 c0_i32_360
  let v595 : BitVec 32 := Scalar.extui v594
  let c0_i32_361 : BitVec 32 := 0#32
  let v596 : BitVec 1 := Scalar.cmpi .ne v595 c0_i32_361
  v596

def k0_off67 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let v1282 : Index := Scalar.indexCast v1281
  ![v1282.toNat]
def k0_off68 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let c0_i32_837 : BitVec 32 := 0#32
  let c0_i32_838 : BitVec 32 := 0#32
  ![v1281.toNat, 0, 0]
def k0_off69 (v1283 : BitVec 32) : Fin 3 → Nat :=
  let c0_i32_839 : BitVec 32 := 0#32
  let c0_i32_840 : BitVec 32 := 0#32
  ![v1283.toNat, 0, 0]

def k0_chk23 (k0_t1 : Fin k0_t1_loop.trips) (v1283 : BitVec 32) : Prop :=
  (∀ (k0_h12 : k0_cond12 k0_t1 = 1#1), ∀ a, (k0_off69 v1283) a + S1x8x128.size a ≤ S13312x8x128.size a) ∧
  (∀ (k0_h12 : k0_cond12 k0_t1 = 1#1), ∀ (hinb : ∀ a, (k0_off69 v1283) a + S1x8x128.size a ≤ S13312x8x128.size a), (Rect.unit (s := S13312x8x128) (k0_off69 v1283) S1x8x128.size hinb).WholeWords (EltTy.packing .bf16))
theorem k0_off69_inb : ∀ (k0_t1 : Fin k0_t1_loop.trips) (v1283 : BitVec 32) (k0_hw23 : k0_chk23 k0_t1 v1283), ∀ (k0_h12 : k0_cond12 k0_t1 = 1#1), ∀ a, (k0_off69 v1283) a + S1x8x128.size a ≤ S13312x8x128.size a := fun k0_t1 v1283 k0_hw23 k0_h12 => k0_hw23.1 k0_h12
theorem k0_off69_wordsbf16 : ∀ (k0_t1 : Fin k0_t1_loop.trips) (v1283 : BitVec 32) (k0_hw23 : k0_chk23 k0_t1 v1283), ∀ (k0_h12 : k0_cond12 k0_t1 = 1#1), (Rect.unit (s := S13312x8x128) (k0_off69 v1283) S1x8x128.size (k0_off69_inb k0_t1 v1283 k0_hw23 k0_h12)).WholeWords (EltTy.packing .bf16) := fun k0_t1 v1283 k0_hw23 k0_h12 => k0_hw23.2 k0_h12 (k0_off69_inb k0_t1 v1283 k0_hw23 k0_h12)

def k0_off70 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let v597 : Index := Scalar.indexCast v593
  ![v597.toNat]
def k0_off71 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c0_i32_363 : BitVec 32 := 0#32
  let c0_i32_364 : BitVec 32 := 0#32
  ![v593.toNat, 0, 0]
def k0_off72 (v598 : BitVec 32) : Fin 3 → Nat :=
  let c0_i32_365 : BitVec 32 := 0#32
  let c0_i32_366 : BitVec 32 := 0#32
  ![v598.toNat, 0, 0]

def k0_chk24 (v598 : BitVec 32) : Prop :=
  (∀ a, (k0_off72 v598) a + S1x8x128.size a ≤ S13312x8x128.size a) ∧
  (∀ (hinb : ∀ a, (k0_off72 v598) a + S1x8x128.size a ≤ S13312x8x128.size a), (Rect.unit (s := S13312x8x128) (k0_off72 v598) S1x8x128.size hinb).WholeWords (EltTy.packing .bf16))
theorem k0_off72_inb : ∀ (v598 : BitVec 32) (k0_hw24 : k0_chk24 v598), ∀ a, (k0_off72 v598) a + S1x8x128.size a ≤ S13312x8x128.size a := fun v598 k0_hw24 => k0_hw24.1
theorem k0_off72_wordsbf16 : ∀ (v598 : BitVec 32) (k0_hw24 : k0_chk24 v598), (Rect.unit (s := S13312x8x128) (k0_off72 v598) S1x8x128.size (k0_off72_inb v598 k0_hw24)).WholeWords (EltTy.packing .bf16) := fun v598 k0_hw24 => k0_hw24.2 (k0_off72_inb v598 k0_hw24)

def k0_cond13 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_369 : BitVec 32 := 0#32
  let v607 : BitVec 1 := Scalar.cmpi .sgt arg4 c0_i32_369
  let v608 : BitVec 32 := Scalar.extui v607
  let c0_i32_370 : BitVec 32 := 0#32
  let v609 : BitVec 1 := Scalar.cmpi .ne v608 c0_i32_370
  v609

def k0_off73 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let v1282 : Index := Scalar.indexCast v1281
  ![v1282.toNat]
def k0_off74 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let c0_i32_837 : BitVec 32 := 0#32
  let c0_i32_838 : BitVec 32 := 0#32
  ![v1281.toNat, 0, 0]
def k0_off75 (v1283 : BitVec 32) : Fin 3 → Nat :=
  let c0_i32_839 : BitVec 32 := 0#32
  let c0_i32_840 : BitVec 32 := 0#32
  ![v1283.toNat, 0, 0]

def k0_chk25 (k0_t1 : Fin k0_t1_loop.trips) (v1283 : BitVec 32) : Prop :=
  (∀ (k0_h13 : k0_cond13 k0_t1 = 1#1), ∀ a, (k0_off75 v1283) a + S1x8x128.size a ≤ S13312x8x128.size a) ∧
  (∀ (k0_h13 : k0_cond13 k0_t1 = 1#1), ∀ (hinb : ∀ a, (k0_off75 v1283) a + S1x8x128.size a ≤ S13312x8x128.size a), (Rect.unit (s := S13312x8x128) (k0_off75 v1283) S1x8x128.size hinb).WholeWords (EltTy.packing .bf16))
theorem k0_off75_inb : ∀ (k0_t1 : Fin k0_t1_loop.trips) (v1283 : BitVec 32) (k0_hw25 : k0_chk25 k0_t1 v1283), ∀ (k0_h13 : k0_cond13 k0_t1 = 1#1), ∀ a, (k0_off75 v1283) a + S1x8x128.size a ≤ S13312x8x128.size a := fun k0_t1 v1283 k0_hw25 k0_h13 => k0_hw25.1 k0_h13
theorem k0_off75_wordsbf16 : ∀ (k0_t1 : Fin k0_t1_loop.trips) (v1283 : BitVec 32) (k0_hw25 : k0_chk25 k0_t1 v1283), ∀ (k0_h13 : k0_cond13 k0_t1 = 1#1), (Rect.unit (s := S13312x8x128) (k0_off75 v1283) S1x8x128.size (k0_off75_inb k0_t1 v1283 k0_hw25 k0_h13)).WholeWords (EltTy.packing .bf16) := fun k0_t1 v1283 k0_hw25 k0_h13 => k0_hw25.2 k0_h13 (k0_off75_inb k0_t1 v1283 k0_hw25 k0_h13)

def k0_off76 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let v610 : Index := Scalar.indexCast v606
  ![v610.toNat]
def k0_off77 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c0_i32_372 : BitVec 32 := 0#32
  let c0_i32_373 : BitVec 32 := 0#32
  ![v606.toNat, 0, 0]
def k0_off78 (v611 : BitVec 32) : Fin 3 → Nat :=
  let c0_i32_374 : BitVec 32 := 0#32
  let c0_i32_375 : BitVec 32 := 0#32
  ![v611.toNat, 0, 0]

def k0_chk26 (v611 : BitVec 32) : Prop :=
  (∀ a, (k0_off78 v611) a + S1x8x128.size a ≤ S13312x8x128.size a) ∧
  (∀ (hinb : ∀ a, (k0_off78 v611) a + S1x8x128.size a ≤ S13312x8x128.size a), (Rect.unit (s := S13312x8x128) (k0_off78 v611) S1x8x128.size hinb).WholeWords (EltTy.packing .bf16))
theorem k0_off78_inb : ∀ (v611 : BitVec 32) (k0_hw26 : k0_chk26 v611), ∀ a, (k0_off78 v611) a + S1x8x128.size a ≤ S13312x8x128.size a := fun v611 k0_hw26 => k0_hw26.1
theorem k0_off78_wordsbf16 : ∀ (v611 : BitVec 32) (k0_hw26 : k0_chk26 v611), (Rect.unit (s := S13312x8x128) (k0_off78 v611) S1x8x128.size (k0_off78_inb v611 k0_hw26)).WholeWords (EltTy.packing .bf16) := fun v611 k0_hw26 => k0_hw26.2 (k0_off78_inb v611 k0_hw26)

def k0_cond14 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_378 : BitVec 32 := 0#32
  let v620 : BitVec 1 := Scalar.cmpi .sgt arg4 c0_i32_378
  let v621 : BitVec 32 := Scalar.extui v620
  let c0_i32_379 : BitVec 32 := 0#32
  let v622 : BitVec 1 := Scalar.cmpi .ne v621 c0_i32_379
  v622

def k0_off79 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let v1282 : Index := Scalar.indexCast v1281
  ![v1282.toNat]
def k0_off80 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let c0_i32_837 : BitVec 32 := 0#32
  let c0_i32_838 : BitVec 32 := 0#32
  ![v1281.toNat, 0, 0]
def k0_off81 (v1283 : BitVec 32) : Fin 3 → Nat :=
  let c0_i32_839 : BitVec 32 := 0#32
  let c0_i32_840 : BitVec 32 := 0#32
  ![v1283.toNat, 0, 0]

def k0_chk27 (k0_t1 : Fin k0_t1_loop.trips) (v1283 : BitVec 32) : Prop :=
  (∀ (k0_h14 : k0_cond14 k0_t1 = 1#1), ∀ a, (k0_off81 v1283) a + S1x8x128.size a ≤ S13312x8x128.size a) ∧
  (∀ (k0_h14 : k0_cond14 k0_t1 = 1#1), ∀ (hinb : ∀ a, (k0_off81 v1283) a + S1x8x128.size a ≤ S13312x8x128.size a), (Rect.unit (s := S13312x8x128) (k0_off81 v1283) S1x8x128.size hinb).WholeWords (EltTy.packing .bf16))
theorem k0_off81_inb : ∀ (k0_t1 : Fin k0_t1_loop.trips) (v1283 : BitVec 32) (k0_hw27 : k0_chk27 k0_t1 v1283), ∀ (k0_h14 : k0_cond14 k0_t1 = 1#1), ∀ a, (k0_off81 v1283) a + S1x8x128.size a ≤ S13312x8x128.size a := fun k0_t1 v1283 k0_hw27 k0_h14 => k0_hw27.1 k0_h14
theorem k0_off81_wordsbf16 : ∀ (k0_t1 : Fin k0_t1_loop.trips) (v1283 : BitVec 32) (k0_hw27 : k0_chk27 k0_t1 v1283), ∀ (k0_h14 : k0_cond14 k0_t1 = 1#1), (Rect.unit (s := S13312x8x128) (k0_off81 v1283) S1x8x128.size (k0_off81_inb k0_t1 v1283 k0_hw27 k0_h14)).WholeWords (EltTy.packing .bf16) := fun k0_t1 v1283 k0_hw27 k0_h14 => k0_hw27.2 k0_h14 (k0_off81_inb k0_t1 v1283 k0_hw27 k0_h14)

def k0_off82 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let v623 : Index := Scalar.indexCast v619
  ![v623.toNat]
def k0_off83 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c0_i32_381 : BitVec 32 := 0#32
  let c0_i32_382 : BitVec 32 := 0#32
  ![v619.toNat, 0, 0]
def k0_off84 (v624 : BitVec 32) : Fin 3 → Nat :=
  let c0_i32_383 : BitVec 32 := 0#32
  let c0_i32_384 : BitVec 32 := 0#32
  ![v624.toNat, 0, 0]

def k0_chk28 (v624 : BitVec 32) : Prop :=
  (∀ a, (k0_off84 v624) a + S1x8x128.size a ≤ S13312x8x128.size a) ∧
  (∀ (hinb : ∀ a, (k0_off84 v624) a + S1x8x128.size a ≤ S13312x8x128.size a), (Rect.unit (s := S13312x8x128) (k0_off84 v624) S1x8x128.size hinb).WholeWords (EltTy.packing .bf16))
theorem k0_off84_inb : ∀ (v624 : BitVec 32) (k0_hw28 : k0_chk28 v624), ∀ a, (k0_off84 v624) a + S1x8x128.size a ≤ S13312x8x128.size a := fun v624 k0_hw28 => k0_hw28.1
theorem k0_off84_wordsbf16 : ∀ (v624 : BitVec 32) (k0_hw28 : k0_chk28 v624), (Rect.unit (s := S13312x8x128) (k0_off84 v624) S1x8x128.size (k0_off84_inb v624 k0_hw28)).WholeWords (EltTy.packing .bf16) := fun v624 k0_hw28 => k0_hw28.2 (k0_off84_inb v624 k0_hw28)

def k0_cond15 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_387 : BitVec 32 := 0#32
  let v633 : BitVec 1 := Scalar.cmpi .sgt arg4 c0_i32_387
  let v634 : BitVec 32 := Scalar.extui v633
  let c0_i32_388 : BitVec 32 := 0#32
  let v635 : BitVec 1 := Scalar.cmpi .ne v634 c0_i32_388
  v635

def k0_off85 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let v1282 : Index := Scalar.indexCast v1281
  ![v1282.toNat]
def k0_off86 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let c0_i32_837 : BitVec 32 := 0#32
  let c0_i32_838 : BitVec 32 := 0#32
  ![v1281.toNat, 0, 0]
def k0_off87 (v1283 : BitVec 32) : Fin 3 → Nat :=
  let c0_i32_839 : BitVec 32 := 0#32
  let c0_i32_840 : BitVec 32 := 0#32
  ![v1283.toNat, 0, 0]

def k0_chk29 (k0_t1 : Fin k0_t1_loop.trips) (v1283 : BitVec 32) : Prop :=
  (∀ (k0_h15 : k0_cond15 k0_t1 = 1#1), ∀ a, (k0_off87 v1283) a + S1x8x128.size a ≤ S13312x8x128.size a) ∧
  (∀ (k0_h15 : k0_cond15 k0_t1 = 1#1), ∀ (hinb : ∀ a, (k0_off87 v1283) a + S1x8x128.size a ≤ S13312x8x128.size a), (Rect.unit (s := S13312x8x128) (k0_off87 v1283) S1x8x128.size hinb).WholeWords (EltTy.packing .bf16))
theorem k0_off87_inb : ∀ (k0_t1 : Fin k0_t1_loop.trips) (v1283 : BitVec 32) (k0_hw29 : k0_chk29 k0_t1 v1283), ∀ (k0_h15 : k0_cond15 k0_t1 = 1#1), ∀ a, (k0_off87 v1283) a + S1x8x128.size a ≤ S13312x8x128.size a := fun k0_t1 v1283 k0_hw29 k0_h15 => k0_hw29.1 k0_h15
theorem k0_off87_wordsbf16 : ∀ (k0_t1 : Fin k0_t1_loop.trips) (v1283 : BitVec 32) (k0_hw29 : k0_chk29 k0_t1 v1283), ∀ (k0_h15 : k0_cond15 k0_t1 = 1#1), (Rect.unit (s := S13312x8x128) (k0_off87 v1283) S1x8x128.size (k0_off87_inb k0_t1 v1283 k0_hw29 k0_h15)).WholeWords (EltTy.packing .bf16) := fun k0_t1 v1283 k0_hw29 k0_h15 => k0_hw29.2 k0_h15 (k0_off87_inb k0_t1 v1283 k0_hw29 k0_h15)

def k0_off88 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let v636 : Index := Scalar.indexCast v632
  ![v636.toNat]
def k0_off89 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c0_i32_390 : BitVec 32 := 0#32
  let c0_i32_391 : BitVec 32 := 0#32
  ![v632.toNat, 0, 0]
def k0_off90 (v637 : BitVec 32) : Fin 3 → Nat :=
  let c0_i32_392 : BitVec 32 := 0#32
  let c0_i32_393 : BitVec 32 := 0#32
  ![v637.toNat, 0, 0]

def k0_chk30 (v637 : BitVec 32) : Prop :=
  (∀ a, (k0_off90 v637) a + S1x8x128.size a ≤ S13312x8x128.size a) ∧
  (∀ (hinb : ∀ a, (k0_off90 v637) a + S1x8x128.size a ≤ S13312x8x128.size a), (Rect.unit (s := S13312x8x128) (k0_off90 v637) S1x8x128.size hinb).WholeWords (EltTy.packing .bf16))
theorem k0_off90_inb : ∀ (v637 : BitVec 32) (k0_hw30 : k0_chk30 v637), ∀ a, (k0_off90 v637) a + S1x8x128.size a ≤ S13312x8x128.size a := fun v637 k0_hw30 => k0_hw30.1
theorem k0_off90_wordsbf16 : ∀ (v637 : BitVec 32) (k0_hw30 : k0_chk30 v637), (Rect.unit (s := S13312x8x128) (k0_off90 v637) S1x8x128.size (k0_off90_inb v637 k0_hw30)).WholeWords (EltTy.packing .bf16) := fun v637 k0_hw30 => k0_hw30.2 (k0_off90_inb v637 k0_hw30)

def k0_cond16 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_396 : BitVec 32 := 0#32
  let v646 : BitVec 1 := Scalar.cmpi .sgt arg4 c0_i32_396
  let v647 : BitVec 32 := Scalar.extui v646
  let c0_i32_397 : BitVec 32 := 0#32
  let v648 : BitVec 1 := Scalar.cmpi .ne v647 c0_i32_397
  v648

def k0_off91 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let v1282 : Index := Scalar.indexCast v1281
  ![v1282.toNat]
def k0_off92 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let c0_i32_837 : BitVec 32 := 0#32
  let c0_i32_838 : BitVec 32 := 0#32
  ![v1281.toNat, 0, 0]
def k0_off93 (v1283 : BitVec 32) : Fin 3 → Nat :=
  let c0_i32_839 : BitVec 32 := 0#32
  let c0_i32_840 : BitVec 32 := 0#32
  ![v1283.toNat, 0, 0]

def k0_chk31 (k0_t1 : Fin k0_t1_loop.trips) (v1283 : BitVec 32) : Prop :=
  (∀ (k0_h16 : k0_cond16 k0_t1 = 1#1), ∀ a, (k0_off93 v1283) a + S1x8x128.size a ≤ S13312x8x128.size a) ∧
  (∀ (k0_h16 : k0_cond16 k0_t1 = 1#1), ∀ (hinb : ∀ a, (k0_off93 v1283) a + S1x8x128.size a ≤ S13312x8x128.size a), (Rect.unit (s := S13312x8x128) (k0_off93 v1283) S1x8x128.size hinb).WholeWords (EltTy.packing .bf16))
theorem k0_off93_inb : ∀ (k0_t1 : Fin k0_t1_loop.trips) (v1283 : BitVec 32) (k0_hw31 : k0_chk31 k0_t1 v1283), ∀ (k0_h16 : k0_cond16 k0_t1 = 1#1), ∀ a, (k0_off93 v1283) a + S1x8x128.size a ≤ S13312x8x128.size a := fun k0_t1 v1283 k0_hw31 k0_h16 => k0_hw31.1 k0_h16
theorem k0_off93_wordsbf16 : ∀ (k0_t1 : Fin k0_t1_loop.trips) (v1283 : BitVec 32) (k0_hw31 : k0_chk31 k0_t1 v1283), ∀ (k0_h16 : k0_cond16 k0_t1 = 1#1), (Rect.unit (s := S13312x8x128) (k0_off93 v1283) S1x8x128.size (k0_off93_inb k0_t1 v1283 k0_hw31 k0_h16)).WholeWords (EltTy.packing .bf16) := fun k0_t1 v1283 k0_hw31 k0_h16 => k0_hw31.2 k0_h16 (k0_off93_inb k0_t1 v1283 k0_hw31 k0_h16)

def k0_off94 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let v649 : Index := Scalar.indexCast v645
  ![v649.toNat]
def k0_off95 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c0_i32_399 : BitVec 32 := 0#32
  let c0_i32_400 : BitVec 32 := 0#32
  ![v645.toNat, 0, 0]
def k0_off96 (v650 : BitVec 32) : Fin 3 → Nat :=
  let c0_i32_401 : BitVec 32 := 0#32
  let c0_i32_402 : BitVec 32 := 0#32
  ![v650.toNat, 0, 0]

def k0_chk32 (v650 : BitVec 32) : Prop :=
  (∀ a, (k0_off96 v650) a + S1x8x128.size a ≤ S13312x8x128.size a) ∧
  (∀ (hinb : ∀ a, (k0_off96 v650) a + S1x8x128.size a ≤ S13312x8x128.size a), (Rect.unit (s := S13312x8x128) (k0_off96 v650) S1x8x128.size hinb).WholeWords (EltTy.packing .bf16))
theorem k0_off96_inb : ∀ (v650 : BitVec 32) (k0_hw32 : k0_chk32 v650), ∀ a, (k0_off96 v650) a + S1x8x128.size a ≤ S13312x8x128.size a := fun v650 k0_hw32 => k0_hw32.1
theorem k0_off96_wordsbf16 : ∀ (v650 : BitVec 32) (k0_hw32 : k0_chk32 v650), (Rect.unit (s := S13312x8x128) (k0_off96 v650) S1x8x128.size (k0_off96_inb v650 k0_hw32)).WholeWords (EltTy.packing .bf16) := fun v650 k0_hw32 => k0_hw32.2 (k0_off96_inb v650 k0_hw32)

def k0_cond17 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_405 : BitVec 32 := 0#32
  let v659 : BitVec 1 := Scalar.cmpi .sgt arg4 c0_i32_405
  let v660 : BitVec 32 := Scalar.extui v659
  let c0_i32_406 : BitVec 32 := 0#32
  let v661 : BitVec 1 := Scalar.cmpi .ne v660 c0_i32_406
  v661

def k0_off97 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let v1282 : Index := Scalar.indexCast v1281
  ![v1282.toNat]
def k0_off98 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let c0_i32_837 : BitVec 32 := 0#32
  let c0_i32_838 : BitVec 32 := 0#32
  ![v1281.toNat, 0, 0]
def k0_off99 (v1283 : BitVec 32) : Fin 3 → Nat :=
  let c0_i32_839 : BitVec 32 := 0#32
  let c0_i32_840 : BitVec 32 := 0#32
  ![v1283.toNat, 0, 0]

def k0_chk33 (k0_t1 : Fin k0_t1_loop.trips) (v1283 : BitVec 32) : Prop :=
  (∀ (k0_h17 : k0_cond17 k0_t1 = 1#1), ∀ a, (k0_off99 v1283) a + S1x8x128.size a ≤ S13312x8x128.size a) ∧
  (∀ (k0_h17 : k0_cond17 k0_t1 = 1#1), ∀ (hinb : ∀ a, (k0_off99 v1283) a + S1x8x128.size a ≤ S13312x8x128.size a), (Rect.unit (s := S13312x8x128) (k0_off99 v1283) S1x8x128.size hinb).WholeWords (EltTy.packing .bf16))
theorem k0_off99_inb : ∀ (k0_t1 : Fin k0_t1_loop.trips) (v1283 : BitVec 32) (k0_hw33 : k0_chk33 k0_t1 v1283), ∀ (k0_h17 : k0_cond17 k0_t1 = 1#1), ∀ a, (k0_off99 v1283) a + S1x8x128.size a ≤ S13312x8x128.size a := fun k0_t1 v1283 k0_hw33 k0_h17 => k0_hw33.1 k0_h17
theorem k0_off99_wordsbf16 : ∀ (k0_t1 : Fin k0_t1_loop.trips) (v1283 : BitVec 32) (k0_hw33 : k0_chk33 k0_t1 v1283), ∀ (k0_h17 : k0_cond17 k0_t1 = 1#1), (Rect.unit (s := S13312x8x128) (k0_off99 v1283) S1x8x128.size (k0_off99_inb k0_t1 v1283 k0_hw33 k0_h17)).WholeWords (EltTy.packing .bf16) := fun k0_t1 v1283 k0_hw33 k0_h17 => k0_hw33.2 k0_h17 (k0_off99_inb k0_t1 v1283 k0_hw33 k0_h17)

def k0_off100 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let v662 : Index := Scalar.indexCast v658
  ![v662.toNat]
def k0_off101 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c0_i32_408 : BitVec 32 := 0#32
  let c0_i32_409 : BitVec 32 := 0#32
  ![v658.toNat, 0, 0]
def k0_off102 (v663 : BitVec 32) : Fin 3 → Nat :=
  let c0_i32_410 : BitVec 32 := 0#32
  let c0_i32_411 : BitVec 32 := 0#32
  ![v663.toNat, 0, 0]

def k0_chk34 (v663 : BitVec 32) : Prop :=
  (∀ a, (k0_off102 v663) a + S1x8x128.size a ≤ S13312x8x128.size a) ∧
  (∀ (hinb : ∀ a, (k0_off102 v663) a + S1x8x128.size a ≤ S13312x8x128.size a), (Rect.unit (s := S13312x8x128) (k0_off102 v663) S1x8x128.size hinb).WholeWords (EltTy.packing .bf16))
theorem k0_off102_inb : ∀ (v663 : BitVec 32) (k0_hw34 : k0_chk34 v663), ∀ a, (k0_off102 v663) a + S1x8x128.size a ≤ S13312x8x128.size a := fun v663 k0_hw34 => k0_hw34.1
theorem k0_off102_wordsbf16 : ∀ (v663 : BitVec 32) (k0_hw34 : k0_chk34 v663), (Rect.unit (s := S13312x8x128) (k0_off102 v663) S1x8x128.size (k0_off102_inb v663 k0_hw34)).WholeWords (EltTy.packing .bf16) := fun v663 k0_hw34 => k0_hw34.2 (k0_off102_inb v663 k0_hw34)

def k0_cond18 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_414 : BitVec 32 := 0#32
  let v672 : BitVec 1 := Scalar.cmpi .sgt arg4 c0_i32_414
  let v673 : BitVec 32 := Scalar.extui v672
  let c0_i32_415 : BitVec 32 := 0#32
  let v674 : BitVec 1 := Scalar.cmpi .ne v673 c0_i32_415
  v674

def k0_off103 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let v1282 : Index := Scalar.indexCast v1281
  ![v1282.toNat]
def k0_off104 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let c0_i32_837 : BitVec 32 := 0#32
  let c0_i32_838 : BitVec 32 := 0#32
  ![v1281.toNat, 0, 0]
def k0_off105 (v1283 : BitVec 32) : Fin 3 → Nat :=
  let c0_i32_839 : BitVec 32 := 0#32
  let c0_i32_840 : BitVec 32 := 0#32
  ![v1283.toNat, 0, 0]

def k0_chk35 (k0_t1 : Fin k0_t1_loop.trips) (v1283 : BitVec 32) : Prop :=
  (∀ (k0_h18 : k0_cond18 k0_t1 = 1#1), ∀ a, (k0_off105 v1283) a + S1x8x128.size a ≤ S13312x8x128.size a) ∧
  (∀ (k0_h18 : k0_cond18 k0_t1 = 1#1), ∀ (hinb : ∀ a, (k0_off105 v1283) a + S1x8x128.size a ≤ S13312x8x128.size a), (Rect.unit (s := S13312x8x128) (k0_off105 v1283) S1x8x128.size hinb).WholeWords (EltTy.packing .bf16))
theorem k0_off105_inb : ∀ (k0_t1 : Fin k0_t1_loop.trips) (v1283 : BitVec 32) (k0_hw35 : k0_chk35 k0_t1 v1283), ∀ (k0_h18 : k0_cond18 k0_t1 = 1#1), ∀ a, (k0_off105 v1283) a + S1x8x128.size a ≤ S13312x8x128.size a := fun k0_t1 v1283 k0_hw35 k0_h18 => k0_hw35.1 k0_h18
theorem k0_off105_wordsbf16 : ∀ (k0_t1 : Fin k0_t1_loop.trips) (v1283 : BitVec 32) (k0_hw35 : k0_chk35 k0_t1 v1283), ∀ (k0_h18 : k0_cond18 k0_t1 = 1#1), (Rect.unit (s := S13312x8x128) (k0_off105 v1283) S1x8x128.size (k0_off105_inb k0_t1 v1283 k0_hw35 k0_h18)).WholeWords (EltTy.packing .bf16) := fun k0_t1 v1283 k0_hw35 k0_h18 => k0_hw35.2 k0_h18 (k0_off105_inb k0_t1 v1283 k0_hw35 k0_h18)

def k0_off106 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let v675 : Index := Scalar.indexCast v671
  ![v675.toNat]
def k0_off107 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c0_i32_417 : BitVec 32 := 0#32
  let c0_i32_418 : BitVec 32 := 0#32
  ![v671.toNat, 0, 0]
def k0_off108 (v676 : BitVec 32) : Fin 3 → Nat :=
  let c0_i32_419 : BitVec 32 := 0#32
  let c0_i32_420 : BitVec 32 := 0#32
  ![v676.toNat, 0, 0]

def k0_chk36 (v676 : BitVec 32) : Prop :=
  (∀ a, (k0_off108 v676) a + S1x8x128.size a ≤ S13312x8x128.size a) ∧
  (∀ (hinb : ∀ a, (k0_off108 v676) a + S1x8x128.size a ≤ S13312x8x128.size a), (Rect.unit (s := S13312x8x128) (k0_off108 v676) S1x8x128.size hinb).WholeWords (EltTy.packing .bf16))
theorem k0_off108_inb : ∀ (v676 : BitVec 32) (k0_hw36 : k0_chk36 v676), ∀ a, (k0_off108 v676) a + S1x8x128.size a ≤ S13312x8x128.size a := fun v676 k0_hw36 => k0_hw36.1
theorem k0_off108_wordsbf16 : ∀ (v676 : BitVec 32) (k0_hw36 : k0_chk36 v676), (Rect.unit (s := S13312x8x128) (k0_off108 v676) S1x8x128.size (k0_off108_inb v676 k0_hw36)).WholeWords (EltTy.packing .bf16) := fun v676 k0_hw36 => k0_hw36.2 (k0_off108_inb v676 k0_hw36)

def k0_cond19 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_423 : BitVec 32 := 0#32
  let v685 : BitVec 1 := Scalar.cmpi .sgt arg4 c0_i32_423
  let v686 : BitVec 32 := Scalar.extui v685
  let c0_i32_424 : BitVec 32 := 0#32
  let v687 : BitVec 1 := Scalar.cmpi .ne v686 c0_i32_424
  v687

def k0_off109 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let v1282 : Index := Scalar.indexCast v1281
  ![v1282.toNat]
def k0_off110 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let c0_i32_837 : BitVec 32 := 0#32
  let c0_i32_838 : BitVec 32 := 0#32
  ![v1281.toNat, 0, 0]
def k0_off111 (v1283 : BitVec 32) : Fin 3 → Nat :=
  let c0_i32_839 : BitVec 32 := 0#32
  let c0_i32_840 : BitVec 32 := 0#32
  ![v1283.toNat, 0, 0]

def k0_chk37 (k0_t1 : Fin k0_t1_loop.trips) (v1283 : BitVec 32) : Prop :=
  (∀ (k0_h19 : k0_cond19 k0_t1 = 1#1), ∀ a, (k0_off111 v1283) a + S1x8x128.size a ≤ S13312x8x128.size a) ∧
  (∀ (k0_h19 : k0_cond19 k0_t1 = 1#1), ∀ (hinb : ∀ a, (k0_off111 v1283) a + S1x8x128.size a ≤ S13312x8x128.size a), (Rect.unit (s := S13312x8x128) (k0_off111 v1283) S1x8x128.size hinb).WholeWords (EltTy.packing .bf16))
theorem k0_off111_inb : ∀ (k0_t1 : Fin k0_t1_loop.trips) (v1283 : BitVec 32) (k0_hw37 : k0_chk37 k0_t1 v1283), ∀ (k0_h19 : k0_cond19 k0_t1 = 1#1), ∀ a, (k0_off111 v1283) a + S1x8x128.size a ≤ S13312x8x128.size a := fun k0_t1 v1283 k0_hw37 k0_h19 => k0_hw37.1 k0_h19
theorem k0_off111_wordsbf16 : ∀ (k0_t1 : Fin k0_t1_loop.trips) (v1283 : BitVec 32) (k0_hw37 : k0_chk37 k0_t1 v1283), ∀ (k0_h19 : k0_cond19 k0_t1 = 1#1), (Rect.unit (s := S13312x8x128) (k0_off111 v1283) S1x8x128.size (k0_off111_inb k0_t1 v1283 k0_hw37 k0_h19)).WholeWords (EltTy.packing .bf16) := fun k0_t1 v1283 k0_hw37 k0_h19 => k0_hw37.2 k0_h19 (k0_off111_inb k0_t1 v1283 k0_hw37 k0_h19)

def k0_off112 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let v688 : Index := Scalar.indexCast v684
  ![v688.toNat]
def k0_off113 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c0_i32_426 : BitVec 32 := 0#32
  let c0_i32_427 : BitVec 32 := 0#32
  ![v684.toNat, 0, 0]
def k0_off114 (v689 : BitVec 32) : Fin 3 → Nat :=
  let c0_i32_428 : BitVec 32 := 0#32
  let c0_i32_429 : BitVec 32 := 0#32
  ![v689.toNat, 0, 0]

def k0_chk38 (v689 : BitVec 32) : Prop :=
  (∀ a, (k0_off114 v689) a + S1x8x128.size a ≤ S13312x8x128.size a) ∧
  (∀ (hinb : ∀ a, (k0_off114 v689) a + S1x8x128.size a ≤ S13312x8x128.size a), (Rect.unit (s := S13312x8x128) (k0_off114 v689) S1x8x128.size hinb).WholeWords (EltTy.packing .bf16))
theorem k0_off114_inb : ∀ (v689 : BitVec 32) (k0_hw38 : k0_chk38 v689), ∀ a, (k0_off114 v689) a + S1x8x128.size a ≤ S13312x8x128.size a := fun v689 k0_hw38 => k0_hw38.1
theorem k0_off114_wordsbf16 : ∀ (v689 : BitVec 32) (k0_hw38 : k0_chk38 v689), (Rect.unit (s := S13312x8x128) (k0_off114 v689) S1x8x128.size (k0_off114_inb v689 k0_hw38)).WholeWords (EltTy.packing .bf16) := fun v689 k0_hw38 => k0_hw38.2 (k0_off114_inb v689 k0_hw38)

def k0_cond20 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_432 : BitVec 32 := 0#32
  let v698 : BitVec 1 := Scalar.cmpi .sgt arg4 c0_i32_432
  let v699 : BitVec 32 := Scalar.extui v698
  let c0_i32_433 : BitVec 32 := 0#32
  let v700 : BitVec 1 := Scalar.cmpi .ne v699 c0_i32_433
  v700

def k0_off115 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let v1282 : Index := Scalar.indexCast v1281
  ![v1282.toNat]
def k0_off116 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let c0_i32_837 : BitVec 32 := 0#32
  let c0_i32_838 : BitVec 32 := 0#32
  ![v1281.toNat, 0, 0]
def k0_off117 (v1283 : BitVec 32) : Fin 3 → Nat :=
  let c0_i32_839 : BitVec 32 := 0#32
  let c0_i32_840 : BitVec 32 := 0#32
  ![v1283.toNat, 0, 0]

def k0_chk39 (k0_t1 : Fin k0_t1_loop.trips) (v1283 : BitVec 32) : Prop :=
  (∀ (k0_h20 : k0_cond20 k0_t1 = 1#1), ∀ a, (k0_off117 v1283) a + S1x8x128.size a ≤ S13312x8x128.size a) ∧
  (∀ (k0_h20 : k0_cond20 k0_t1 = 1#1), ∀ (hinb : ∀ a, (k0_off117 v1283) a + S1x8x128.size a ≤ S13312x8x128.size a), (Rect.unit (s := S13312x8x128) (k0_off117 v1283) S1x8x128.size hinb).WholeWords (EltTy.packing .bf16))
theorem k0_off117_inb : ∀ (k0_t1 : Fin k0_t1_loop.trips) (v1283 : BitVec 32) (k0_hw39 : k0_chk39 k0_t1 v1283), ∀ (k0_h20 : k0_cond20 k0_t1 = 1#1), ∀ a, (k0_off117 v1283) a + S1x8x128.size a ≤ S13312x8x128.size a := fun k0_t1 v1283 k0_hw39 k0_h20 => k0_hw39.1 k0_h20
theorem k0_off117_wordsbf16 : ∀ (k0_t1 : Fin k0_t1_loop.trips) (v1283 : BitVec 32) (k0_hw39 : k0_chk39 k0_t1 v1283), ∀ (k0_h20 : k0_cond20 k0_t1 = 1#1), (Rect.unit (s := S13312x8x128) (k0_off117 v1283) S1x8x128.size (k0_off117_inb k0_t1 v1283 k0_hw39 k0_h20)).WholeWords (EltTy.packing .bf16) := fun k0_t1 v1283 k0_hw39 k0_h20 => k0_hw39.2 k0_h20 (k0_off117_inb k0_t1 v1283 k0_hw39 k0_h20)

def k0_off118 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let v701 : Index := Scalar.indexCast v697
  ![v701.toNat]
def k0_off119 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c0_i32_435 : BitVec 32 := 0#32
  let c0_i32_436 : BitVec 32 := 0#32
  ![v697.toNat, 0, 0]
def k0_off120 (v702 : BitVec 32) : Fin 3 → Nat :=
  let c0_i32_437 : BitVec 32 := 0#32
  let c0_i32_438 : BitVec 32 := 0#32
  ![v702.toNat, 0, 0]

def k0_chk40 (v702 : BitVec 32) : Prop :=
  (∀ a, (k0_off120 v702) a + S1x8x128.size a ≤ S13312x8x128.size a) ∧
  (∀ (hinb : ∀ a, (k0_off120 v702) a + S1x8x128.size a ≤ S13312x8x128.size a), (Rect.unit (s := S13312x8x128) (k0_off120 v702) S1x8x128.size hinb).WholeWords (EltTy.packing .bf16))
theorem k0_off120_inb : ∀ (v702 : BitVec 32) (k0_hw40 : k0_chk40 v702), ∀ a, (k0_off120 v702) a + S1x8x128.size a ≤ S13312x8x128.size a := fun v702 k0_hw40 => k0_hw40.1
theorem k0_off120_wordsbf16 : ∀ (v702 : BitVec 32) (k0_hw40 : k0_chk40 v702), (Rect.unit (s := S13312x8x128) (k0_off120 v702) S1x8x128.size (k0_off120_inb v702 k0_hw40)).WholeWords (EltTy.packing .bf16) := fun v702 k0_hw40 => k0_hw40.2 (k0_off120_inb v702 k0_hw40)

def k0_cond21 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_441 : BitVec 32 := 0#32
  let v711 : BitVec 1 := Scalar.cmpi .sgt arg4 c0_i32_441
  let v712 : BitVec 32 := Scalar.extui v711
  let c0_i32_442 : BitVec 32 := 0#32
  let v713 : BitVec 1 := Scalar.cmpi .ne v712 c0_i32_442
  v713

def k0_off121 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let v1282 : Index := Scalar.indexCast v1281
  ![v1282.toNat]
def k0_off122 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let c0_i32_837 : BitVec 32 := 0#32
  let c0_i32_838 : BitVec 32 := 0#32
  ![v1281.toNat, 0, 0]
def k0_off123 (v1283 : BitVec 32) : Fin 3 → Nat :=
  let c0_i32_839 : BitVec 32 := 0#32
  let c0_i32_840 : BitVec 32 := 0#32
  ![v1283.toNat, 0, 0]

def k0_chk41 (k0_t1 : Fin k0_t1_loop.trips) (v1283 : BitVec 32) : Prop :=
  (∀ (k0_h21 : k0_cond21 k0_t1 = 1#1), ∀ a, (k0_off123 v1283) a + S1x8x128.size a ≤ S13312x8x128.size a) ∧
  (∀ (k0_h21 : k0_cond21 k0_t1 = 1#1), ∀ (hinb : ∀ a, (k0_off123 v1283) a + S1x8x128.size a ≤ S13312x8x128.size a), (Rect.unit (s := S13312x8x128) (k0_off123 v1283) S1x8x128.size hinb).WholeWords (EltTy.packing .bf16))
theorem k0_off123_inb : ∀ (k0_t1 : Fin k0_t1_loop.trips) (v1283 : BitVec 32) (k0_hw41 : k0_chk41 k0_t1 v1283), ∀ (k0_h21 : k0_cond21 k0_t1 = 1#1), ∀ a, (k0_off123 v1283) a + S1x8x128.size a ≤ S13312x8x128.size a := fun k0_t1 v1283 k0_hw41 k0_h21 => k0_hw41.1 k0_h21
theorem k0_off123_wordsbf16 : ∀ (k0_t1 : Fin k0_t1_loop.trips) (v1283 : BitVec 32) (k0_hw41 : k0_chk41 k0_t1 v1283), ∀ (k0_h21 : k0_cond21 k0_t1 = 1#1), (Rect.unit (s := S13312x8x128) (k0_off123 v1283) S1x8x128.size (k0_off123_inb k0_t1 v1283 k0_hw41 k0_h21)).WholeWords (EltTy.packing .bf16) := fun k0_t1 v1283 k0_hw41 k0_h21 => k0_hw41.2 k0_h21 (k0_off123_inb k0_t1 v1283 k0_hw41 k0_h21)

def k0_off124 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let v714 : Index := Scalar.indexCast v710
  ![v714.toNat]
def k0_off125 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c0_i32_444 : BitVec 32 := 0#32
  let c0_i32_445 : BitVec 32 := 0#32
  ![v710.toNat, 0, 0]
def k0_off126 (v715 : BitVec 32) : Fin 3 → Nat :=
  let c0_i32_446 : BitVec 32 := 0#32
  let c0_i32_447 : BitVec 32 := 0#32
  ![v715.toNat, 0, 0]

def k0_chk42 (v715 : BitVec 32) : Prop :=
  (∀ a, (k0_off126 v715) a + S1x8x128.size a ≤ S13312x8x128.size a) ∧
  (∀ (hinb : ∀ a, (k0_off126 v715) a + S1x8x128.size a ≤ S13312x8x128.size a), (Rect.unit (s := S13312x8x128) (k0_off126 v715) S1x8x128.size hinb).WholeWords (EltTy.packing .bf16))
theorem k0_off126_inb : ∀ (v715 : BitVec 32) (k0_hw42 : k0_chk42 v715), ∀ a, (k0_off126 v715) a + S1x8x128.size a ≤ S13312x8x128.size a := fun v715 k0_hw42 => k0_hw42.1
theorem k0_off126_wordsbf16 : ∀ (v715 : BitVec 32) (k0_hw42 : k0_chk42 v715), (Rect.unit (s := S13312x8x128) (k0_off126 v715) S1x8x128.size (k0_off126_inb v715 k0_hw42)).WholeWords (EltTy.packing .bf16) := fun v715 k0_hw42 => k0_hw42.2 (k0_off126_inb v715 k0_hw42)

def k0_cond22 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_450 : BitVec 32 := 0#32
  let v724 : BitVec 1 := Scalar.cmpi .sgt arg4 c0_i32_450
  let v725 : BitVec 32 := Scalar.extui v724
  let c0_i32_451 : BitVec 32 := 0#32
  let v726 : BitVec 1 := Scalar.cmpi .ne v725 c0_i32_451
  v726

def k0_off127 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let v1282 : Index := Scalar.indexCast v1281
  ![v1282.toNat]
def k0_off128 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let c0_i32_837 : BitVec 32 := 0#32
  let c0_i32_838 : BitVec 32 := 0#32
  ![v1281.toNat, 0, 0]
def k0_off129 (v1283 : BitVec 32) : Fin 3 → Nat :=
  let c0_i32_839 : BitVec 32 := 0#32
  let c0_i32_840 : BitVec 32 := 0#32
  ![v1283.toNat, 0, 0]

def k0_chk43 (k0_t1 : Fin k0_t1_loop.trips) (v1283 : BitVec 32) : Prop :=
  (∀ (k0_h22 : k0_cond22 k0_t1 = 1#1), ∀ a, (k0_off129 v1283) a + S1x8x128.size a ≤ S13312x8x128.size a) ∧
  (∀ (k0_h22 : k0_cond22 k0_t1 = 1#1), ∀ (hinb : ∀ a, (k0_off129 v1283) a + S1x8x128.size a ≤ S13312x8x128.size a), (Rect.unit (s := S13312x8x128) (k0_off129 v1283) S1x8x128.size hinb).WholeWords (EltTy.packing .bf16))
theorem k0_off129_inb : ∀ (k0_t1 : Fin k0_t1_loop.trips) (v1283 : BitVec 32) (k0_hw43 : k0_chk43 k0_t1 v1283), ∀ (k0_h22 : k0_cond22 k0_t1 = 1#1), ∀ a, (k0_off129 v1283) a + S1x8x128.size a ≤ S13312x8x128.size a := fun k0_t1 v1283 k0_hw43 k0_h22 => k0_hw43.1 k0_h22
theorem k0_off129_wordsbf16 : ∀ (k0_t1 : Fin k0_t1_loop.trips) (v1283 : BitVec 32) (k0_hw43 : k0_chk43 k0_t1 v1283), ∀ (k0_h22 : k0_cond22 k0_t1 = 1#1), (Rect.unit (s := S13312x8x128) (k0_off129 v1283) S1x8x128.size (k0_off129_inb k0_t1 v1283 k0_hw43 k0_h22)).WholeWords (EltTy.packing .bf16) := fun k0_t1 v1283 k0_hw43 k0_h22 => k0_hw43.2 k0_h22 (k0_off129_inb k0_t1 v1283 k0_hw43 k0_h22)

def k0_off130 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let v727 : Index := Scalar.indexCast v723
  ![v727.toNat]
def k0_off131 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c0_i32_453 : BitVec 32 := 0#32
  let c0_i32_454 : BitVec 32 := 0#32
  ![v723.toNat, 0, 0]
def k0_off132 (v728 : BitVec 32) : Fin 3 → Nat :=
  let c0_i32_455 : BitVec 32 := 0#32
  let c0_i32_456 : BitVec 32 := 0#32
  ![v728.toNat, 0, 0]

def k0_chk44 (v728 : BitVec 32) : Prop :=
  (∀ a, (k0_off132 v728) a + S1x8x128.size a ≤ S13312x8x128.size a) ∧
  (∀ (hinb : ∀ a, (k0_off132 v728) a + S1x8x128.size a ≤ S13312x8x128.size a), (Rect.unit (s := S13312x8x128) (k0_off132 v728) S1x8x128.size hinb).WholeWords (EltTy.packing .bf16))
theorem k0_off132_inb : ∀ (v728 : BitVec 32) (k0_hw44 : k0_chk44 v728), ∀ a, (k0_off132 v728) a + S1x8x128.size a ≤ S13312x8x128.size a := fun v728 k0_hw44 => k0_hw44.1
theorem k0_off132_wordsbf16 : ∀ (v728 : BitVec 32) (k0_hw44 : k0_chk44 v728), (Rect.unit (s := S13312x8x128) (k0_off132 v728) S1x8x128.size (k0_off132_inb v728 k0_hw44)).WholeWords (EltTy.packing .bf16) := fun v728 k0_hw44 => k0_hw44.2 (k0_off132_inb v728 k0_hw44)

def k0_cond23 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_459 : BitVec 32 := 0#32
  let v737 : BitVec 1 := Scalar.cmpi .sgt arg4 c0_i32_459
  let v738 : BitVec 32 := Scalar.extui v737
  let c0_i32_460 : BitVec 32 := 0#32
  let v739 : BitVec 1 := Scalar.cmpi .ne v738 c0_i32_460
  v739

def k0_off133 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let v1282 : Index := Scalar.indexCast v1281
  ![v1282.toNat]
def k0_off134 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let c0_i32_837 : BitVec 32 := 0#32
  let c0_i32_838 : BitVec 32 := 0#32
  ![v1281.toNat, 0, 0]
def k0_off135 (v1283 : BitVec 32) : Fin 3 → Nat :=
  let c0_i32_839 : BitVec 32 := 0#32
  let c0_i32_840 : BitVec 32 := 0#32
  ![v1283.toNat, 0, 0]

def k0_chk45 (k0_t1 : Fin k0_t1_loop.trips) (v1283 : BitVec 32) : Prop :=
  (∀ (k0_h23 : k0_cond23 k0_t1 = 1#1), ∀ a, (k0_off135 v1283) a + S1x8x128.size a ≤ S13312x8x128.size a) ∧
  (∀ (k0_h23 : k0_cond23 k0_t1 = 1#1), ∀ (hinb : ∀ a, (k0_off135 v1283) a + S1x8x128.size a ≤ S13312x8x128.size a), (Rect.unit (s := S13312x8x128) (k0_off135 v1283) S1x8x128.size hinb).WholeWords (EltTy.packing .bf16))
theorem k0_off135_inb : ∀ (k0_t1 : Fin k0_t1_loop.trips) (v1283 : BitVec 32) (k0_hw45 : k0_chk45 k0_t1 v1283), ∀ (k0_h23 : k0_cond23 k0_t1 = 1#1), ∀ a, (k0_off135 v1283) a + S1x8x128.size a ≤ S13312x8x128.size a := fun k0_t1 v1283 k0_hw45 k0_h23 => k0_hw45.1 k0_h23
theorem k0_off135_wordsbf16 : ∀ (k0_t1 : Fin k0_t1_loop.trips) (v1283 : BitVec 32) (k0_hw45 : k0_chk45 k0_t1 v1283), ∀ (k0_h23 : k0_cond23 k0_t1 = 1#1), (Rect.unit (s := S13312x8x128) (k0_off135 v1283) S1x8x128.size (k0_off135_inb k0_t1 v1283 k0_hw45 k0_h23)).WholeWords (EltTy.packing .bf16) := fun k0_t1 v1283 k0_hw45 k0_h23 => k0_hw45.2 k0_h23 (k0_off135_inb k0_t1 v1283 k0_hw45 k0_h23)

def k0_off136 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let v740 : Index := Scalar.indexCast v736
  ![v740.toNat]
def k0_off137 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c0_i32_462 : BitVec 32 := 0#32
  let c0_i32_463 : BitVec 32 := 0#32
  ![v736.toNat, 0, 0]
def k0_off138 (v741 : BitVec 32) : Fin 3 → Nat :=
  let c0_i32_464 : BitVec 32 := 0#32
  let c0_i32_465 : BitVec 32 := 0#32
  ![v741.toNat, 0, 0]

def k0_chk46 (v741 : BitVec 32) : Prop :=
  (∀ a, (k0_off138 v741) a + S1x8x128.size a ≤ S13312x8x128.size a) ∧
  (∀ (hinb : ∀ a, (k0_off138 v741) a + S1x8x128.size a ≤ S13312x8x128.size a), (Rect.unit (s := S13312x8x128) (k0_off138 v741) S1x8x128.size hinb).WholeWords (EltTy.packing .bf16))
theorem k0_off138_inb : ∀ (v741 : BitVec 32) (k0_hw46 : k0_chk46 v741), ∀ a, (k0_off138 v741) a + S1x8x128.size a ≤ S13312x8x128.size a := fun v741 k0_hw46 => k0_hw46.1
theorem k0_off138_wordsbf16 : ∀ (v741 : BitVec 32) (k0_hw46 : k0_chk46 v741), (Rect.unit (s := S13312x8x128) (k0_off138 v741) S1x8x128.size (k0_off138_inb v741 k0_hw46)).WholeWords (EltTy.packing .bf16) := fun v741 k0_hw46 => k0_hw46.2 (k0_off138_inb v741 k0_hw46)

def k0_cond24 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_468 : BitVec 32 := 0#32
  let v750 : BitVec 1 := Scalar.cmpi .sgt arg4 c0_i32_468
  let v751 : BitVec 32 := Scalar.extui v750
  let c0_i32_469 : BitVec 32 := 0#32
  let v752 : BitVec 1 := Scalar.cmpi .ne v751 c0_i32_469
  v752

def k0_off139 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let v1282 : Index := Scalar.indexCast v1281
  ![v1282.toNat]
def k0_off140 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let c0_i32_837 : BitVec 32 := 0#32
  let c0_i32_838 : BitVec 32 := 0#32
  ![v1281.toNat, 0, 0]
def k0_off141 (v1283 : BitVec 32) : Fin 3 → Nat :=
  let c0_i32_839 : BitVec 32 := 0#32
  let c0_i32_840 : BitVec 32 := 0#32
  ![v1283.toNat, 0, 0]

def k0_chk47 (k0_t1 : Fin k0_t1_loop.trips) (v1283 : BitVec 32) : Prop :=
  (∀ (k0_h24 : k0_cond24 k0_t1 = 1#1), ∀ a, (k0_off141 v1283) a + S1x8x128.size a ≤ S13312x8x128.size a) ∧
  (∀ (k0_h24 : k0_cond24 k0_t1 = 1#1), ∀ (hinb : ∀ a, (k0_off141 v1283) a + S1x8x128.size a ≤ S13312x8x128.size a), (Rect.unit (s := S13312x8x128) (k0_off141 v1283) S1x8x128.size hinb).WholeWords (EltTy.packing .bf16))
theorem k0_off141_inb : ∀ (k0_t1 : Fin k0_t1_loop.trips) (v1283 : BitVec 32) (k0_hw47 : k0_chk47 k0_t1 v1283), ∀ (k0_h24 : k0_cond24 k0_t1 = 1#1), ∀ a, (k0_off141 v1283) a + S1x8x128.size a ≤ S13312x8x128.size a := fun k0_t1 v1283 k0_hw47 k0_h24 => k0_hw47.1 k0_h24
theorem k0_off141_wordsbf16 : ∀ (k0_t1 : Fin k0_t1_loop.trips) (v1283 : BitVec 32) (k0_hw47 : k0_chk47 k0_t1 v1283), ∀ (k0_h24 : k0_cond24 k0_t1 = 1#1), (Rect.unit (s := S13312x8x128) (k0_off141 v1283) S1x8x128.size (k0_off141_inb k0_t1 v1283 k0_hw47 k0_h24)).WholeWords (EltTy.packing .bf16) := fun k0_t1 v1283 k0_hw47 k0_h24 => k0_hw47.2 k0_h24 (k0_off141_inb k0_t1 v1283 k0_hw47 k0_h24)

def k0_off142 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let v753 : Index := Scalar.indexCast v749
  ![v753.toNat]
def k0_off143 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c0_i32_471 : BitVec 32 := 0#32
  let c0_i32_472 : BitVec 32 := 0#32
  ![v749.toNat, 0, 0]
def k0_off144 (v754 : BitVec 32) : Fin 3 → Nat :=
  let c0_i32_473 : BitVec 32 := 0#32
  let c0_i32_474 : BitVec 32 := 0#32
  ![v754.toNat, 0, 0]

def k0_chk48 (v754 : BitVec 32) : Prop :=
  (∀ a, (k0_off144 v754) a + S1x8x128.size a ≤ S13312x8x128.size a) ∧
  (∀ (hinb : ∀ a, (k0_off144 v754) a + S1x8x128.size a ≤ S13312x8x128.size a), (Rect.unit (s := S13312x8x128) (k0_off144 v754) S1x8x128.size hinb).WholeWords (EltTy.packing .bf16))
theorem k0_off144_inb : ∀ (v754 : BitVec 32) (k0_hw48 : k0_chk48 v754), ∀ a, (k0_off144 v754) a + S1x8x128.size a ≤ S13312x8x128.size a := fun v754 k0_hw48 => k0_hw48.1
theorem k0_off144_wordsbf16 : ∀ (v754 : BitVec 32) (k0_hw48 : k0_chk48 v754), (Rect.unit (s := S13312x8x128) (k0_off144 v754) S1x8x128.size (k0_off144_inb v754 k0_hw48)).WholeWords (EltTy.packing .bf16) := fun v754 k0_hw48 => k0_hw48.2 (k0_off144_inb v754 k0_hw48)

def k0_cond25 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_477 : BitVec 32 := 0#32
  let v763 : BitVec 1 := Scalar.cmpi .sgt arg4 c0_i32_477
  let v764 : BitVec 32 := Scalar.extui v763
  let c0_i32_478 : BitVec 32 := 0#32
  let v765 : BitVec 1 := Scalar.cmpi .ne v764 c0_i32_478
  v765

def k0_off145 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let v1282 : Index := Scalar.indexCast v1281
  ![v1282.toNat]
def k0_off146 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let c0_i32_837 : BitVec 32 := 0#32
  let c0_i32_838 : BitVec 32 := 0#32
  ![v1281.toNat, 0, 0]
def k0_off147 (v1283 : BitVec 32) : Fin 3 → Nat :=
  let c0_i32_839 : BitVec 32 := 0#32
  let c0_i32_840 : BitVec 32 := 0#32
  ![v1283.toNat, 0, 0]

def k0_chk49 (k0_t1 : Fin k0_t1_loop.trips) (v1283 : BitVec 32) : Prop :=
  (∀ (k0_h25 : k0_cond25 k0_t1 = 1#1), ∀ a, (k0_off147 v1283) a + S1x8x128.size a ≤ S13312x8x128.size a) ∧
  (∀ (k0_h25 : k0_cond25 k0_t1 = 1#1), ∀ (hinb : ∀ a, (k0_off147 v1283) a + S1x8x128.size a ≤ S13312x8x128.size a), (Rect.unit (s := S13312x8x128) (k0_off147 v1283) S1x8x128.size hinb).WholeWords (EltTy.packing .bf16))
theorem k0_off147_inb : ∀ (k0_t1 : Fin k0_t1_loop.trips) (v1283 : BitVec 32) (k0_hw49 : k0_chk49 k0_t1 v1283), ∀ (k0_h25 : k0_cond25 k0_t1 = 1#1), ∀ a, (k0_off147 v1283) a + S1x8x128.size a ≤ S13312x8x128.size a := fun k0_t1 v1283 k0_hw49 k0_h25 => k0_hw49.1 k0_h25
theorem k0_off147_wordsbf16 : ∀ (k0_t1 : Fin k0_t1_loop.trips) (v1283 : BitVec 32) (k0_hw49 : k0_chk49 k0_t1 v1283), ∀ (k0_h25 : k0_cond25 k0_t1 = 1#1), (Rect.unit (s := S13312x8x128) (k0_off147 v1283) S1x8x128.size (k0_off147_inb k0_t1 v1283 k0_hw49 k0_h25)).WholeWords (EltTy.packing .bf16) := fun k0_t1 v1283 k0_hw49 k0_h25 => k0_hw49.2 k0_h25 (k0_off147_inb k0_t1 v1283 k0_hw49 k0_h25)

def k0_off148 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let v766 : Index := Scalar.indexCast v762
  ![v766.toNat]
def k0_off149 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c0_i32_480 : BitVec 32 := 0#32
  let c0_i32_481 : BitVec 32 := 0#32
  ![v762.toNat, 0, 0]
def k0_off150 (v767 : BitVec 32) : Fin 3 → Nat :=
  let c0_i32_482 : BitVec 32 := 0#32
  let c0_i32_483 : BitVec 32 := 0#32
  ![v767.toNat, 0, 0]

def k0_chk50 (v767 : BitVec 32) : Prop :=
  (∀ a, (k0_off150 v767) a + S1x8x128.size a ≤ S13312x8x128.size a) ∧
  (∀ (hinb : ∀ a, (k0_off150 v767) a + S1x8x128.size a ≤ S13312x8x128.size a), (Rect.unit (s := S13312x8x128) (k0_off150 v767) S1x8x128.size hinb).WholeWords (EltTy.packing .bf16))
theorem k0_off150_inb : ∀ (v767 : BitVec 32) (k0_hw50 : k0_chk50 v767), ∀ a, (k0_off150 v767) a + S1x8x128.size a ≤ S13312x8x128.size a := fun v767 k0_hw50 => k0_hw50.1
theorem k0_off150_wordsbf16 : ∀ (v767 : BitVec 32) (k0_hw50 : k0_chk50 v767), (Rect.unit (s := S13312x8x128) (k0_off150 v767) S1x8x128.size (k0_off150_inb v767 k0_hw50)).WholeWords (EltTy.packing .bf16) := fun v767 k0_hw50 => k0_hw50.2 (k0_off150_inb v767 k0_hw50)

def k0_cond26 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_486 : BitVec 32 := 0#32
  let v776 : BitVec 1 := Scalar.cmpi .sgt arg4 c0_i32_486
  let v777 : BitVec 32 := Scalar.extui v776
  let c0_i32_487 : BitVec 32 := 0#32
  let v778 : BitVec 1 := Scalar.cmpi .ne v777 c0_i32_487
  v778

def k0_off151 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let v1282 : Index := Scalar.indexCast v1281
  ![v1282.toNat]
def k0_off152 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let c0_i32_837 : BitVec 32 := 0#32
  let c0_i32_838 : BitVec 32 := 0#32
  ![v1281.toNat, 0, 0]
def k0_off153 (v1283 : BitVec 32) : Fin 3 → Nat :=
  let c0_i32_839 : BitVec 32 := 0#32
  let c0_i32_840 : BitVec 32 := 0#32
  ![v1283.toNat, 0, 0]

def k0_chk51 (k0_t1 : Fin k0_t1_loop.trips) (v1283 : BitVec 32) : Prop :=
  (∀ (k0_h26 : k0_cond26 k0_t1 = 1#1), ∀ a, (k0_off153 v1283) a + S1x8x128.size a ≤ S13312x8x128.size a) ∧
  (∀ (k0_h26 : k0_cond26 k0_t1 = 1#1), ∀ (hinb : ∀ a, (k0_off153 v1283) a + S1x8x128.size a ≤ S13312x8x128.size a), (Rect.unit (s := S13312x8x128) (k0_off153 v1283) S1x8x128.size hinb).WholeWords (EltTy.packing .bf16))
theorem k0_off153_inb : ∀ (k0_t1 : Fin k0_t1_loop.trips) (v1283 : BitVec 32) (k0_hw51 : k0_chk51 k0_t1 v1283), ∀ (k0_h26 : k0_cond26 k0_t1 = 1#1), ∀ a, (k0_off153 v1283) a + S1x8x128.size a ≤ S13312x8x128.size a := fun k0_t1 v1283 k0_hw51 k0_h26 => k0_hw51.1 k0_h26
theorem k0_off153_wordsbf16 : ∀ (k0_t1 : Fin k0_t1_loop.trips) (v1283 : BitVec 32) (k0_hw51 : k0_chk51 k0_t1 v1283), ∀ (k0_h26 : k0_cond26 k0_t1 = 1#1), (Rect.unit (s := S13312x8x128) (k0_off153 v1283) S1x8x128.size (k0_off153_inb k0_t1 v1283 k0_hw51 k0_h26)).WholeWords (EltTy.packing .bf16) := fun k0_t1 v1283 k0_hw51 k0_h26 => k0_hw51.2 k0_h26 (k0_off153_inb k0_t1 v1283 k0_hw51 k0_h26)

def k0_off154 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let v779 : Index := Scalar.indexCast v775
  ![v779.toNat]
def k0_off155 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c0_i32_489 : BitVec 32 := 0#32
  let c0_i32_490 : BitVec 32 := 0#32
  ![v775.toNat, 0, 0]
def k0_off156 (v780 : BitVec 32) : Fin 3 → Nat :=
  let c0_i32_491 : BitVec 32 := 0#32
  let c0_i32_492 : BitVec 32 := 0#32
  ![v780.toNat, 0, 0]

def k0_chk52 (v780 : BitVec 32) : Prop :=
  (∀ a, (k0_off156 v780) a + S1x8x128.size a ≤ S13312x8x128.size a) ∧
  (∀ (hinb : ∀ a, (k0_off156 v780) a + S1x8x128.size a ≤ S13312x8x128.size a), (Rect.unit (s := S13312x8x128) (k0_off156 v780) S1x8x128.size hinb).WholeWords (EltTy.packing .bf16))
theorem k0_off156_inb : ∀ (v780 : BitVec 32) (k0_hw52 : k0_chk52 v780), ∀ a, (k0_off156 v780) a + S1x8x128.size a ≤ S13312x8x128.size a := fun v780 k0_hw52 => k0_hw52.1
theorem k0_off156_wordsbf16 : ∀ (v780 : BitVec 32) (k0_hw52 : k0_chk52 v780), (Rect.unit (s := S13312x8x128) (k0_off156 v780) S1x8x128.size (k0_off156_inb v780 k0_hw52)).WholeWords (EltTy.packing .bf16) := fun v780 k0_hw52 => k0_hw52.2 (k0_off156_inb v780 k0_hw52)

def k0_cond27 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_495 : BitVec 32 := 0#32
  let v789 : BitVec 1 := Scalar.cmpi .sgt arg4 c0_i32_495
  let v790 : BitVec 32 := Scalar.extui v789
  let c0_i32_496 : BitVec 32 := 0#32
  let v791 : BitVec 1 := Scalar.cmpi .ne v790 c0_i32_496
  v791

def k0_off157 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let v1282 : Index := Scalar.indexCast v1281
  ![v1282.toNat]
def k0_off158 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let c0_i32_837 : BitVec 32 := 0#32
  let c0_i32_838 : BitVec 32 := 0#32
  ![v1281.toNat, 0, 0]
def k0_off159 (v1283 : BitVec 32) : Fin 3 → Nat :=
  let c0_i32_839 : BitVec 32 := 0#32
  let c0_i32_840 : BitVec 32 := 0#32
  ![v1283.toNat, 0, 0]

def k0_chk53 (k0_t1 : Fin k0_t1_loop.trips) (v1283 : BitVec 32) : Prop :=
  (∀ (k0_h27 : k0_cond27 k0_t1 = 1#1), ∀ a, (k0_off159 v1283) a + S1x8x128.size a ≤ S13312x8x128.size a) ∧
  (∀ (k0_h27 : k0_cond27 k0_t1 = 1#1), ∀ (hinb : ∀ a, (k0_off159 v1283) a + S1x8x128.size a ≤ S13312x8x128.size a), (Rect.unit (s := S13312x8x128) (k0_off159 v1283) S1x8x128.size hinb).WholeWords (EltTy.packing .bf16))
theorem k0_off159_inb : ∀ (k0_t1 : Fin k0_t1_loop.trips) (v1283 : BitVec 32) (k0_hw53 : k0_chk53 k0_t1 v1283), ∀ (k0_h27 : k0_cond27 k0_t1 = 1#1), ∀ a, (k0_off159 v1283) a + S1x8x128.size a ≤ S13312x8x128.size a := fun k0_t1 v1283 k0_hw53 k0_h27 => k0_hw53.1 k0_h27
theorem k0_off159_wordsbf16 : ∀ (k0_t1 : Fin k0_t1_loop.trips) (v1283 : BitVec 32) (k0_hw53 : k0_chk53 k0_t1 v1283), ∀ (k0_h27 : k0_cond27 k0_t1 = 1#1), (Rect.unit (s := S13312x8x128) (k0_off159 v1283) S1x8x128.size (k0_off159_inb k0_t1 v1283 k0_hw53 k0_h27)).WholeWords (EltTy.packing .bf16) := fun k0_t1 v1283 k0_hw53 k0_h27 => k0_hw53.2 k0_h27 (k0_off159_inb k0_t1 v1283 k0_hw53 k0_h27)

def k0_off160 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let v792 : Index := Scalar.indexCast v788
  ![v792.toNat]
def k0_off161 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c0_i32_498 : BitVec 32 := 0#32
  let c0_i32_499 : BitVec 32 := 0#32
  ![v788.toNat, 0, 0]
def k0_off162 (v793 : BitVec 32) : Fin 3 → Nat :=
  let c0_i32_500 : BitVec 32 := 0#32
  let c0_i32_501 : BitVec 32 := 0#32
  ![v793.toNat, 0, 0]

def k0_chk54 (v793 : BitVec 32) : Prop :=
  (∀ a, (k0_off162 v793) a + S1x8x128.size a ≤ S13312x8x128.size a) ∧
  (∀ (hinb : ∀ a, (k0_off162 v793) a + S1x8x128.size a ≤ S13312x8x128.size a), (Rect.unit (s := S13312x8x128) (k0_off162 v793) S1x8x128.size hinb).WholeWords (EltTy.packing .bf16))
theorem k0_off162_inb : ∀ (v793 : BitVec 32) (k0_hw54 : k0_chk54 v793), ∀ a, (k0_off162 v793) a + S1x8x128.size a ≤ S13312x8x128.size a := fun v793 k0_hw54 => k0_hw54.1
theorem k0_off162_wordsbf16 : ∀ (v793 : BitVec 32) (k0_hw54 : k0_chk54 v793), (Rect.unit (s := S13312x8x128) (k0_off162 v793) S1x8x128.size (k0_off162_inb v793 k0_hw54)).WholeWords (EltTy.packing .bf16) := fun v793 k0_hw54 => k0_hw54.2 (k0_off162_inb v793 k0_hw54)

def k0_cond28 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_504 : BitVec 32 := 0#32
  let v802 : BitVec 1 := Scalar.cmpi .sgt arg4 c0_i32_504
  let v803 : BitVec 32 := Scalar.extui v802
  let c0_i32_505 : BitVec 32 := 0#32
  let v804 : BitVec 1 := Scalar.cmpi .ne v803 c0_i32_505
  v804

def k0_off163 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let v1282 : Index := Scalar.indexCast v1281
  ![v1282.toNat]
def k0_off164 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let c0_i32_837 : BitVec 32 := 0#32
  let c0_i32_838 : BitVec 32 := 0#32
  ![v1281.toNat, 0, 0]
def k0_off165 (v1283 : BitVec 32) : Fin 3 → Nat :=
  let c0_i32_839 : BitVec 32 := 0#32
  let c0_i32_840 : BitVec 32 := 0#32
  ![v1283.toNat, 0, 0]

def k0_chk55 (k0_t1 : Fin k0_t1_loop.trips) (v1283 : BitVec 32) : Prop :=
  (∀ (k0_h28 : k0_cond28 k0_t1 = 1#1), ∀ a, (k0_off165 v1283) a + S1x8x128.size a ≤ S13312x8x128.size a) ∧
  (∀ (k0_h28 : k0_cond28 k0_t1 = 1#1), ∀ (hinb : ∀ a, (k0_off165 v1283) a + S1x8x128.size a ≤ S13312x8x128.size a), (Rect.unit (s := S13312x8x128) (k0_off165 v1283) S1x8x128.size hinb).WholeWords (EltTy.packing .bf16))
theorem k0_off165_inb : ∀ (k0_t1 : Fin k0_t1_loop.trips) (v1283 : BitVec 32) (k0_hw55 : k0_chk55 k0_t1 v1283), ∀ (k0_h28 : k0_cond28 k0_t1 = 1#1), ∀ a, (k0_off165 v1283) a + S1x8x128.size a ≤ S13312x8x128.size a := fun k0_t1 v1283 k0_hw55 k0_h28 => k0_hw55.1 k0_h28
theorem k0_off165_wordsbf16 : ∀ (k0_t1 : Fin k0_t1_loop.trips) (v1283 : BitVec 32) (k0_hw55 : k0_chk55 k0_t1 v1283), ∀ (k0_h28 : k0_cond28 k0_t1 = 1#1), (Rect.unit (s := S13312x8x128) (k0_off165 v1283) S1x8x128.size (k0_off165_inb k0_t1 v1283 k0_hw55 k0_h28)).WholeWords (EltTy.packing .bf16) := fun k0_t1 v1283 k0_hw55 k0_h28 => k0_hw55.2 k0_h28 (k0_off165_inb k0_t1 v1283 k0_hw55 k0_h28)

def k0_off166 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let v805 : Index := Scalar.indexCast v801
  ![v805.toNat]
def k0_off167 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c0_i32_507 : BitVec 32 := 0#32
  let c0_i32_508 : BitVec 32 := 0#32
  ![v801.toNat, 0, 0]
def k0_off168 (v806 : BitVec 32) : Fin 3 → Nat :=
  let c0_i32_509 : BitVec 32 := 0#32
  let c0_i32_510 : BitVec 32 := 0#32
  ![v806.toNat, 0, 0]

def k0_chk56 (v806 : BitVec 32) : Prop :=
  (∀ a, (k0_off168 v806) a + S1x8x128.size a ≤ S13312x8x128.size a) ∧
  (∀ (hinb : ∀ a, (k0_off168 v806) a + S1x8x128.size a ≤ S13312x8x128.size a), (Rect.unit (s := S13312x8x128) (k0_off168 v806) S1x8x128.size hinb).WholeWords (EltTy.packing .bf16))
theorem k0_off168_inb : ∀ (v806 : BitVec 32) (k0_hw56 : k0_chk56 v806), ∀ a, (k0_off168 v806) a + S1x8x128.size a ≤ S13312x8x128.size a := fun v806 k0_hw56 => k0_hw56.1
theorem k0_off168_wordsbf16 : ∀ (v806 : BitVec 32) (k0_hw56 : k0_chk56 v806), (Rect.unit (s := S13312x8x128) (k0_off168 v806) S1x8x128.size (k0_off168_inb v806 k0_hw56)).WholeWords (EltTy.packing .bf16) := fun v806 k0_hw56 => k0_hw56.2 (k0_off168_inb v806 k0_hw56)

def k0_cond29 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_513 : BitVec 32 := 0#32
  let v815 : BitVec 1 := Scalar.cmpi .sgt arg4 c0_i32_513
  let v816 : BitVec 32 := Scalar.extui v815
  let c0_i32_514 : BitVec 32 := 0#32
  let v817 : BitVec 1 := Scalar.cmpi .ne v816 c0_i32_514
  v817

def k0_off169 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let v1282 : Index := Scalar.indexCast v1281
  ![v1282.toNat]
def k0_off170 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let c0_i32_837 : BitVec 32 := 0#32
  let c0_i32_838 : BitVec 32 := 0#32
  ![v1281.toNat, 0, 0]
def k0_off171 (v1283 : BitVec 32) : Fin 3 → Nat :=
  let c0_i32_839 : BitVec 32 := 0#32
  let c0_i32_840 : BitVec 32 := 0#32
  ![v1283.toNat, 0, 0]

def k0_chk57 (k0_t1 : Fin k0_t1_loop.trips) (v1283 : BitVec 32) : Prop :=
  (∀ (k0_h29 : k0_cond29 k0_t1 = 1#1), ∀ a, (k0_off171 v1283) a + S1x8x128.size a ≤ S13312x8x128.size a) ∧
  (∀ (k0_h29 : k0_cond29 k0_t1 = 1#1), ∀ (hinb : ∀ a, (k0_off171 v1283) a + S1x8x128.size a ≤ S13312x8x128.size a), (Rect.unit (s := S13312x8x128) (k0_off171 v1283) S1x8x128.size hinb).WholeWords (EltTy.packing .bf16))
theorem k0_off171_inb : ∀ (k0_t1 : Fin k0_t1_loop.trips) (v1283 : BitVec 32) (k0_hw57 : k0_chk57 k0_t1 v1283), ∀ (k0_h29 : k0_cond29 k0_t1 = 1#1), ∀ a, (k0_off171 v1283) a + S1x8x128.size a ≤ S13312x8x128.size a := fun k0_t1 v1283 k0_hw57 k0_h29 => k0_hw57.1 k0_h29
theorem k0_off171_wordsbf16 : ∀ (k0_t1 : Fin k0_t1_loop.trips) (v1283 : BitVec 32) (k0_hw57 : k0_chk57 k0_t1 v1283), ∀ (k0_h29 : k0_cond29 k0_t1 = 1#1), (Rect.unit (s := S13312x8x128) (k0_off171 v1283) S1x8x128.size (k0_off171_inb k0_t1 v1283 k0_hw57 k0_h29)).WholeWords (EltTy.packing .bf16) := fun k0_t1 v1283 k0_hw57 k0_h29 => k0_hw57.2 k0_h29 (k0_off171_inb k0_t1 v1283 k0_hw57 k0_h29)

def k0_off172 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let v818 : Index := Scalar.indexCast v814
  ![v818.toNat]
def k0_off173 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c0_i32_516 : BitVec 32 := 0#32
  let c0_i32_517 : BitVec 32 := 0#32
  ![v814.toNat, 0, 0]
def k0_off174 (v819 : BitVec 32) : Fin 3 → Nat :=
  let c0_i32_518 : BitVec 32 := 0#32
  let c0_i32_519 : BitVec 32 := 0#32
  ![v819.toNat, 0, 0]

def k0_chk58 (v819 : BitVec 32) : Prop :=
  (∀ a, (k0_off174 v819) a + S1x8x128.size a ≤ S13312x8x128.size a) ∧
  (∀ (hinb : ∀ a, (k0_off174 v819) a + S1x8x128.size a ≤ S13312x8x128.size a), (Rect.unit (s := S13312x8x128) (k0_off174 v819) S1x8x128.size hinb).WholeWords (EltTy.packing .bf16))
theorem k0_off174_inb : ∀ (v819 : BitVec 32) (k0_hw58 : k0_chk58 v819), ∀ a, (k0_off174 v819) a + S1x8x128.size a ≤ S13312x8x128.size a := fun v819 k0_hw58 => k0_hw58.1
theorem k0_off174_wordsbf16 : ∀ (v819 : BitVec 32) (k0_hw58 : k0_chk58 v819), (Rect.unit (s := S13312x8x128) (k0_off174 v819) S1x8x128.size (k0_off174_inb v819 k0_hw58)).WholeWords (EltTy.packing .bf16) := fun v819 k0_hw58 => k0_hw58.2 (k0_off174_inb v819 k0_hw58)

def k0_cond30 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_522 : BitVec 32 := 0#32
  let v828 : BitVec 1 := Scalar.cmpi .sgt arg4 c0_i32_522
  let v829 : BitVec 32 := Scalar.extui v828
  let c0_i32_523 : BitVec 32 := 0#32
  let v830 : BitVec 1 := Scalar.cmpi .ne v829 c0_i32_523
  v830

def k0_off175 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let v1282 : Index := Scalar.indexCast v1281
  ![v1282.toNat]
def k0_off176 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let c0_i32_837 : BitVec 32 := 0#32
  let c0_i32_838 : BitVec 32 := 0#32
  ![v1281.toNat, 0, 0]
def k0_off177 (v1283 : BitVec 32) : Fin 3 → Nat :=
  let c0_i32_839 : BitVec 32 := 0#32
  let c0_i32_840 : BitVec 32 := 0#32
  ![v1283.toNat, 0, 0]

def k0_chk59 (k0_t1 : Fin k0_t1_loop.trips) (v1283 : BitVec 32) : Prop :=
  (∀ (k0_h30 : k0_cond30 k0_t1 = 1#1), ∀ a, (k0_off177 v1283) a + S1x8x128.size a ≤ S13312x8x128.size a) ∧
  (∀ (k0_h30 : k0_cond30 k0_t1 = 1#1), ∀ (hinb : ∀ a, (k0_off177 v1283) a + S1x8x128.size a ≤ S13312x8x128.size a), (Rect.unit (s := S13312x8x128) (k0_off177 v1283) S1x8x128.size hinb).WholeWords (EltTy.packing .bf16))
theorem k0_off177_inb : ∀ (k0_t1 : Fin k0_t1_loop.trips) (v1283 : BitVec 32) (k0_hw59 : k0_chk59 k0_t1 v1283), ∀ (k0_h30 : k0_cond30 k0_t1 = 1#1), ∀ a, (k0_off177 v1283) a + S1x8x128.size a ≤ S13312x8x128.size a := fun k0_t1 v1283 k0_hw59 k0_h30 => k0_hw59.1 k0_h30
theorem k0_off177_wordsbf16 : ∀ (k0_t1 : Fin k0_t1_loop.trips) (v1283 : BitVec 32) (k0_hw59 : k0_chk59 k0_t1 v1283), ∀ (k0_h30 : k0_cond30 k0_t1 = 1#1), (Rect.unit (s := S13312x8x128) (k0_off177 v1283) S1x8x128.size (k0_off177_inb k0_t1 v1283 k0_hw59 k0_h30)).WholeWords (EltTy.packing .bf16) := fun k0_t1 v1283 k0_hw59 k0_h30 => k0_hw59.2 k0_h30 (k0_off177_inb k0_t1 v1283 k0_hw59 k0_h30)

def k0_off178 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let v831 : Index := Scalar.indexCast v827
  ![v831.toNat]
def k0_off179 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c0_i32_525 : BitVec 32 := 0#32
  let c0_i32_526 : BitVec 32 := 0#32
  ![v827.toNat, 0, 0]
def k0_off180 (v832 : BitVec 32) : Fin 3 → Nat :=
  let c0_i32_527 : BitVec 32 := 0#32
  let c0_i32_528 : BitVec 32 := 0#32
  ![v832.toNat, 0, 0]

def k0_chk60 (v832 : BitVec 32) : Prop :=
  (∀ a, (k0_off180 v832) a + S1x8x128.size a ≤ S13312x8x128.size a) ∧
  (∀ (hinb : ∀ a, (k0_off180 v832) a + S1x8x128.size a ≤ S13312x8x128.size a), (Rect.unit (s := S13312x8x128) (k0_off180 v832) S1x8x128.size hinb).WholeWords (EltTy.packing .bf16))
theorem k0_off180_inb : ∀ (v832 : BitVec 32) (k0_hw60 : k0_chk60 v832), ∀ a, (k0_off180 v832) a + S1x8x128.size a ≤ S13312x8x128.size a := fun v832 k0_hw60 => k0_hw60.1
theorem k0_off180_wordsbf16 : ∀ (v832 : BitVec 32) (k0_hw60 : k0_chk60 v832), (Rect.unit (s := S13312x8x128) (k0_off180 v832) S1x8x128.size (k0_off180_inb v832 k0_hw60)).WholeWords (EltTy.packing .bf16) := fun v832 k0_hw60 => k0_hw60.2 (k0_off180_inb v832 k0_hw60)

def k0_cond31 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_531 : BitVec 32 := 0#32
  let v841 : BitVec 1 := Scalar.cmpi .sgt arg4 c0_i32_531
  let v842 : BitVec 32 := Scalar.extui v841
  let c0_i32_532 : BitVec 32 := 0#32
  let v843 : BitVec 1 := Scalar.cmpi .ne v842 c0_i32_532
  v843

def k0_off181 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let v1282 : Index := Scalar.indexCast v1281
  ![v1282.toNat]
def k0_off182 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let c0_i32_837 : BitVec 32 := 0#32
  let c0_i32_838 : BitVec 32 := 0#32
  ![v1281.toNat, 0, 0]
def k0_off183 (v1283 : BitVec 32) : Fin 3 → Nat :=
  let c0_i32_839 : BitVec 32 := 0#32
  let c0_i32_840 : BitVec 32 := 0#32
  ![v1283.toNat, 0, 0]

def k0_chk61 (k0_t1 : Fin k0_t1_loop.trips) (v1283 : BitVec 32) : Prop :=
  (∀ (k0_h31 : k0_cond31 k0_t1 = 1#1), ∀ a, (k0_off183 v1283) a + S1x8x128.size a ≤ S13312x8x128.size a) ∧
  (∀ (k0_h31 : k0_cond31 k0_t1 = 1#1), ∀ (hinb : ∀ a, (k0_off183 v1283) a + S1x8x128.size a ≤ S13312x8x128.size a), (Rect.unit (s := S13312x8x128) (k0_off183 v1283) S1x8x128.size hinb).WholeWords (EltTy.packing .bf16))
theorem k0_off183_inb : ∀ (k0_t1 : Fin k0_t1_loop.trips) (v1283 : BitVec 32) (k0_hw61 : k0_chk61 k0_t1 v1283), ∀ (k0_h31 : k0_cond31 k0_t1 = 1#1), ∀ a, (k0_off183 v1283) a + S1x8x128.size a ≤ S13312x8x128.size a := fun k0_t1 v1283 k0_hw61 k0_h31 => k0_hw61.1 k0_h31
theorem k0_off183_wordsbf16 : ∀ (k0_t1 : Fin k0_t1_loop.trips) (v1283 : BitVec 32) (k0_hw61 : k0_chk61 k0_t1 v1283), ∀ (k0_h31 : k0_cond31 k0_t1 = 1#1), (Rect.unit (s := S13312x8x128) (k0_off183 v1283) S1x8x128.size (k0_off183_inb k0_t1 v1283 k0_hw61 k0_h31)).WholeWords (EltTy.packing .bf16) := fun k0_t1 v1283 k0_hw61 k0_h31 => k0_hw61.2 k0_h31 (k0_off183_inb k0_t1 v1283 k0_hw61 k0_h31)

def k0_off184 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let v844 : Index := Scalar.indexCast v840
  ![v844.toNat]
def k0_off185 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c0_i32_534 : BitVec 32 := 0#32
  let c0_i32_535 : BitVec 32 := 0#32
  ![v840.toNat, 0, 0]
def k0_off186 (v845 : BitVec 32) : Fin 3 → Nat :=
  let c0_i32_536 : BitVec 32 := 0#32
  let c0_i32_537 : BitVec 32 := 0#32
  ![v845.toNat, 0, 0]

def k0_chk62 (v845 : BitVec 32) : Prop :=
  (∀ a, (k0_off186 v845) a + S1x8x128.size a ≤ S13312x8x128.size a) ∧
  (∀ (hinb : ∀ a, (k0_off186 v845) a + S1x8x128.size a ≤ S13312x8x128.size a), (Rect.unit (s := S13312x8x128) (k0_off186 v845) S1x8x128.size hinb).WholeWords (EltTy.packing .bf16))
theorem k0_off186_inb : ∀ (v845 : BitVec 32) (k0_hw62 : k0_chk62 v845), ∀ a, (k0_off186 v845) a + S1x8x128.size a ≤ S13312x8x128.size a := fun v845 k0_hw62 => k0_hw62.1
theorem k0_off186_wordsbf16 : ∀ (v845 : BitVec 32) (k0_hw62 : k0_chk62 v845), (Rect.unit (s := S13312x8x128) (k0_off186 v845) S1x8x128.size (k0_off186_inb v845 k0_hw62)).WholeWords (EltTy.packing .bf16) := fun v845 k0_hw62 => k0_hw62.2 (k0_off186_inb v845 k0_hw62)

def k0_cond32 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_540 : BitVec 32 := 0#32
  let v854 : BitVec 1 := Scalar.cmpi .sgt arg4 c0_i32_540
  let v855 : BitVec 32 := Scalar.extui v854
  let c0_i32_541 : BitVec 32 := 0#32
  let v856 : BitVec 1 := Scalar.cmpi .ne v855 c0_i32_541
  v856

def k0_off187 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let v1282 : Index := Scalar.indexCast v1281
  ![v1282.toNat]
def k0_off188 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let c0_i32_837 : BitVec 32 := 0#32
  let c0_i32_838 : BitVec 32 := 0#32
  ![v1281.toNat, 0, 0]
def k0_off189 (v1283 : BitVec 32) : Fin 3 → Nat :=
  let c0_i32_839 : BitVec 32 := 0#32
  let c0_i32_840 : BitVec 32 := 0#32
  ![v1283.toNat, 0, 0]

def k0_chk63 (k0_t1 : Fin k0_t1_loop.trips) (v1283 : BitVec 32) : Prop :=
  (∀ (k0_h32 : k0_cond32 k0_t1 = 1#1), ∀ a, (k0_off189 v1283) a + S1x8x128.size a ≤ S13312x8x128.size a) ∧
  (∀ (k0_h32 : k0_cond32 k0_t1 = 1#1), ∀ (hinb : ∀ a, (k0_off189 v1283) a + S1x8x128.size a ≤ S13312x8x128.size a), (Rect.unit (s := S13312x8x128) (k0_off189 v1283) S1x8x128.size hinb).WholeWords (EltTy.packing .bf16))
theorem k0_off189_inb : ∀ (k0_t1 : Fin k0_t1_loop.trips) (v1283 : BitVec 32) (k0_hw63 : k0_chk63 k0_t1 v1283), ∀ (k0_h32 : k0_cond32 k0_t1 = 1#1), ∀ a, (k0_off189 v1283) a + S1x8x128.size a ≤ S13312x8x128.size a := fun k0_t1 v1283 k0_hw63 k0_h32 => k0_hw63.1 k0_h32
theorem k0_off189_wordsbf16 : ∀ (k0_t1 : Fin k0_t1_loop.trips) (v1283 : BitVec 32) (k0_hw63 : k0_chk63 k0_t1 v1283), ∀ (k0_h32 : k0_cond32 k0_t1 = 1#1), (Rect.unit (s := S13312x8x128) (k0_off189 v1283) S1x8x128.size (k0_off189_inb k0_t1 v1283 k0_hw63 k0_h32)).WholeWords (EltTy.packing .bf16) := fun k0_t1 v1283 k0_hw63 k0_h32 => k0_hw63.2 k0_h32 (k0_off189_inb k0_t1 v1283 k0_hw63 k0_h32)

def k0_off190 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let v857 : Index := Scalar.indexCast v853
  ![v857.toNat]
def k0_off191 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c0_i32_543 : BitVec 32 := 0#32
  let c0_i32_544 : BitVec 32 := 0#32
  ![v853.toNat, 0, 0]
def k0_off192 (v858 : BitVec 32) : Fin 3 → Nat :=
  let c0_i32_545 : BitVec 32 := 0#32
  let c0_i32_546 : BitVec 32 := 0#32
  ![v858.toNat, 0, 0]

def k0_chk64 (v858 : BitVec 32) : Prop :=
  (∀ a, (k0_off192 v858) a + S1x8x128.size a ≤ S13312x8x128.size a) ∧
  (∀ (hinb : ∀ a, (k0_off192 v858) a + S1x8x128.size a ≤ S13312x8x128.size a), (Rect.unit (s := S13312x8x128) (k0_off192 v858) S1x8x128.size hinb).WholeWords (EltTy.packing .bf16))
theorem k0_off192_inb : ∀ (v858 : BitVec 32) (k0_hw64 : k0_chk64 v858), ∀ a, (k0_off192 v858) a + S1x8x128.size a ≤ S13312x8x128.size a := fun v858 k0_hw64 => k0_hw64.1
theorem k0_off192_wordsbf16 : ∀ (v858 : BitVec 32) (k0_hw64 : k0_chk64 v858), (Rect.unit (s := S13312x8x128) (k0_off192 v858) S1x8x128.size (k0_off192_inb v858 k0_hw64)).WholeWords (EltTy.packing .bf16) := fun v858 k0_hw64 => k0_hw64.2 (k0_off192_inb v858 k0_hw64)

def k0_cond33 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_549 : BitVec 32 := 0#32
  let v867 : BitVec 1 := Scalar.cmpi .sgt arg4 c0_i32_549
  let v868 : BitVec 32 := Scalar.extui v867
  let c0_i32_550 : BitVec 32 := 0#32
  let v869 : BitVec 1 := Scalar.cmpi .ne v868 c0_i32_550
  v869

def k0_off193 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let v1282 : Index := Scalar.indexCast v1281
  ![v1282.toNat]
def k0_off194 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let c0_i32_837 : BitVec 32 := 0#32
  let c0_i32_838 : BitVec 32 := 0#32
  ![v1281.toNat, 0, 0]
def k0_off195 (v1283 : BitVec 32) : Fin 3 → Nat :=
  let c0_i32_839 : BitVec 32 := 0#32
  let c0_i32_840 : BitVec 32 := 0#32
  ![v1283.toNat, 0, 0]

def k0_chk65 (k0_t1 : Fin k0_t1_loop.trips) (v1283 : BitVec 32) : Prop :=
  (∀ (k0_h33 : k0_cond33 k0_t1 = 1#1), ∀ a, (k0_off195 v1283) a + S1x8x128.size a ≤ S13312x8x128.size a) ∧
  (∀ (k0_h33 : k0_cond33 k0_t1 = 1#1), ∀ (hinb : ∀ a, (k0_off195 v1283) a + S1x8x128.size a ≤ S13312x8x128.size a), (Rect.unit (s := S13312x8x128) (k0_off195 v1283) S1x8x128.size hinb).WholeWords (EltTy.packing .bf16))
theorem k0_off195_inb : ∀ (k0_t1 : Fin k0_t1_loop.trips) (v1283 : BitVec 32) (k0_hw65 : k0_chk65 k0_t1 v1283), ∀ (k0_h33 : k0_cond33 k0_t1 = 1#1), ∀ a, (k0_off195 v1283) a + S1x8x128.size a ≤ S13312x8x128.size a := fun k0_t1 v1283 k0_hw65 k0_h33 => k0_hw65.1 k0_h33
theorem k0_off195_wordsbf16 : ∀ (k0_t1 : Fin k0_t1_loop.trips) (v1283 : BitVec 32) (k0_hw65 : k0_chk65 k0_t1 v1283), ∀ (k0_h33 : k0_cond33 k0_t1 = 1#1), (Rect.unit (s := S13312x8x128) (k0_off195 v1283) S1x8x128.size (k0_off195_inb k0_t1 v1283 k0_hw65 k0_h33)).WholeWords (EltTy.packing .bf16) := fun k0_t1 v1283 k0_hw65 k0_h33 => k0_hw65.2 k0_h33 (k0_off195_inb k0_t1 v1283 k0_hw65 k0_h33)

def k0_off196 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let v870 : Index := Scalar.indexCast v866
  ![v870.toNat]
def k0_off197 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c0_i32_552 : BitVec 32 := 0#32
  let c0_i32_553 : BitVec 32 := 0#32
  ![v866.toNat, 0, 0]
def k0_off198 (v871 : BitVec 32) : Fin 3 → Nat :=
  let c0_i32_554 : BitVec 32 := 0#32
  let c0_i32_555 : BitVec 32 := 0#32
  ![v871.toNat, 0, 0]

def k0_chk66 (v871 : BitVec 32) : Prop :=
  (∀ a, (k0_off198 v871) a + S1x8x128.size a ≤ S13312x8x128.size a) ∧
  (∀ (hinb : ∀ a, (k0_off198 v871) a + S1x8x128.size a ≤ S13312x8x128.size a), (Rect.unit (s := S13312x8x128) (k0_off198 v871) S1x8x128.size hinb).WholeWords (EltTy.packing .bf16))
theorem k0_off198_inb : ∀ (v871 : BitVec 32) (k0_hw66 : k0_chk66 v871), ∀ a, (k0_off198 v871) a + S1x8x128.size a ≤ S13312x8x128.size a := fun v871 k0_hw66 => k0_hw66.1
theorem k0_off198_wordsbf16 : ∀ (v871 : BitVec 32) (k0_hw66 : k0_chk66 v871), (Rect.unit (s := S13312x8x128) (k0_off198 v871) S1x8x128.size (k0_off198_inb v871 k0_hw66)).WholeWords (EltTy.packing .bf16) := fun v871 k0_hw66 => k0_hw66.2 (k0_off198_inb v871 k0_hw66)

def k0_cond34 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_558 : BitVec 32 := 0#32
  let v880 : BitVec 1 := Scalar.cmpi .sgt arg4 c0_i32_558
  let v881 : BitVec 32 := Scalar.extui v880
  let c0_i32_559 : BitVec 32 := 0#32
  let v882 : BitVec 1 := Scalar.cmpi .ne v881 c0_i32_559
  v882

def k0_off199 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let v1282 : Index := Scalar.indexCast v1281
  ![v1282.toNat]
def k0_off200 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let c0_i32_837 : BitVec 32 := 0#32
  let c0_i32_838 : BitVec 32 := 0#32
  ![v1281.toNat, 0, 0]
def k0_off201 (v1283 : BitVec 32) : Fin 3 → Nat :=
  let c0_i32_839 : BitVec 32 := 0#32
  let c0_i32_840 : BitVec 32 := 0#32
  ![v1283.toNat, 0, 0]

def k0_chk67 (k0_t1 : Fin k0_t1_loop.trips) (v1283 : BitVec 32) : Prop :=
  (∀ (k0_h34 : k0_cond34 k0_t1 = 1#1), ∀ a, (k0_off201 v1283) a + S1x8x128.size a ≤ S13312x8x128.size a) ∧
  (∀ (k0_h34 : k0_cond34 k0_t1 = 1#1), ∀ (hinb : ∀ a, (k0_off201 v1283) a + S1x8x128.size a ≤ S13312x8x128.size a), (Rect.unit (s := S13312x8x128) (k0_off201 v1283) S1x8x128.size hinb).WholeWords (EltTy.packing .bf16))
theorem k0_off201_inb : ∀ (k0_t1 : Fin k0_t1_loop.trips) (v1283 : BitVec 32) (k0_hw67 : k0_chk67 k0_t1 v1283), ∀ (k0_h34 : k0_cond34 k0_t1 = 1#1), ∀ a, (k0_off201 v1283) a + S1x8x128.size a ≤ S13312x8x128.size a := fun k0_t1 v1283 k0_hw67 k0_h34 => k0_hw67.1 k0_h34
theorem k0_off201_wordsbf16 : ∀ (k0_t1 : Fin k0_t1_loop.trips) (v1283 : BitVec 32) (k0_hw67 : k0_chk67 k0_t1 v1283), ∀ (k0_h34 : k0_cond34 k0_t1 = 1#1), (Rect.unit (s := S13312x8x128) (k0_off201 v1283) S1x8x128.size (k0_off201_inb k0_t1 v1283 k0_hw67 k0_h34)).WholeWords (EltTy.packing .bf16) := fun k0_t1 v1283 k0_hw67 k0_h34 => k0_hw67.2 k0_h34 (k0_off201_inb k0_t1 v1283 k0_hw67 k0_h34)

def k0_off202 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let v883 : Index := Scalar.indexCast v879
  ![v883.toNat]
def k0_off203 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c0_i32_561 : BitVec 32 := 0#32
  let c0_i32_562 : BitVec 32 := 0#32
  ![v879.toNat, 0, 0]
def k0_off204 (v884 : BitVec 32) : Fin 3 → Nat :=
  let c0_i32_563 : BitVec 32 := 0#32
  let c0_i32_564 : BitVec 32 := 0#32
  ![v884.toNat, 0, 0]

def k0_chk68 (v884 : BitVec 32) : Prop :=
  (∀ a, (k0_off204 v884) a + S1x8x128.size a ≤ S13312x8x128.size a) ∧
  (∀ (hinb : ∀ a, (k0_off204 v884) a + S1x8x128.size a ≤ S13312x8x128.size a), (Rect.unit (s := S13312x8x128) (k0_off204 v884) S1x8x128.size hinb).WholeWords (EltTy.packing .bf16))
theorem k0_off204_inb : ∀ (v884 : BitVec 32) (k0_hw68 : k0_chk68 v884), ∀ a, (k0_off204 v884) a + S1x8x128.size a ≤ S13312x8x128.size a := fun v884 k0_hw68 => k0_hw68.1
theorem k0_off204_wordsbf16 : ∀ (v884 : BitVec 32) (k0_hw68 : k0_chk68 v884), (Rect.unit (s := S13312x8x128) (k0_off204 v884) S1x8x128.size (k0_off204_inb v884 k0_hw68)).WholeWords (EltTy.packing .bf16) := fun v884 k0_hw68 => k0_hw68.2 (k0_off204_inb v884 k0_hw68)

def k0_cond35 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_567 : BitVec 32 := 0#32
  let v893 : BitVec 1 := Scalar.cmpi .sgt arg4 c0_i32_567
  let v894 : BitVec 32 := Scalar.extui v893
  let c0_i32_568 : BitVec 32 := 0#32
  let v895 : BitVec 1 := Scalar.cmpi .ne v894 c0_i32_568
  v895

def k0_off205 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let v1282 : Index := Scalar.indexCast v1281
  ![v1282.toNat]
def k0_off206 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let c0_i32_837 : BitVec 32 := 0#32
  let c0_i32_838 : BitVec 32 := 0#32
  ![v1281.toNat, 0, 0]
def k0_off207 (v1283 : BitVec 32) : Fin 3 → Nat :=
  let c0_i32_839 : BitVec 32 := 0#32
  let c0_i32_840 : BitVec 32 := 0#32
  ![v1283.toNat, 0, 0]

def k0_chk69 (k0_t1 : Fin k0_t1_loop.trips) (v1283 : BitVec 32) : Prop :=
  (∀ (k0_h35 : k0_cond35 k0_t1 = 1#1), ∀ a, (k0_off207 v1283) a + S1x8x128.size a ≤ S13312x8x128.size a) ∧
  (∀ (k0_h35 : k0_cond35 k0_t1 = 1#1), ∀ (hinb : ∀ a, (k0_off207 v1283) a + S1x8x128.size a ≤ S13312x8x128.size a), (Rect.unit (s := S13312x8x128) (k0_off207 v1283) S1x8x128.size hinb).WholeWords (EltTy.packing .bf16))
theorem k0_off207_inb : ∀ (k0_t1 : Fin k0_t1_loop.trips) (v1283 : BitVec 32) (k0_hw69 : k0_chk69 k0_t1 v1283), ∀ (k0_h35 : k0_cond35 k0_t1 = 1#1), ∀ a, (k0_off207 v1283) a + S1x8x128.size a ≤ S13312x8x128.size a := fun k0_t1 v1283 k0_hw69 k0_h35 => k0_hw69.1 k0_h35
theorem k0_off207_wordsbf16 : ∀ (k0_t1 : Fin k0_t1_loop.trips) (v1283 : BitVec 32) (k0_hw69 : k0_chk69 k0_t1 v1283), ∀ (k0_h35 : k0_cond35 k0_t1 = 1#1), (Rect.unit (s := S13312x8x128) (k0_off207 v1283) S1x8x128.size (k0_off207_inb k0_t1 v1283 k0_hw69 k0_h35)).WholeWords (EltTy.packing .bf16) := fun k0_t1 v1283 k0_hw69 k0_h35 => k0_hw69.2 k0_h35 (k0_off207_inb k0_t1 v1283 k0_hw69 k0_h35)

def k0_off208 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let v896 : Index := Scalar.indexCast v892
  ![v896.toNat]
def k0_off209 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c0_i32_570 : BitVec 32 := 0#32
  let c0_i32_571 : BitVec 32 := 0#32
  ![v892.toNat, 0, 0]
def k0_off210 (v897 : BitVec 32) : Fin 3 → Nat :=
  let c0_i32_572 : BitVec 32 := 0#32
  let c0_i32_573 : BitVec 32 := 0#32
  ![v897.toNat, 0, 0]

def k0_chk70 (v897 : BitVec 32) : Prop :=
  (∀ a, (k0_off210 v897) a + S1x8x128.size a ≤ S13312x8x128.size a) ∧
  (∀ (hinb : ∀ a, (k0_off210 v897) a + S1x8x128.size a ≤ S13312x8x128.size a), (Rect.unit (s := S13312x8x128) (k0_off210 v897) S1x8x128.size hinb).WholeWords (EltTy.packing .bf16))
theorem k0_off210_inb : ∀ (v897 : BitVec 32) (k0_hw70 : k0_chk70 v897), ∀ a, (k0_off210 v897) a + S1x8x128.size a ≤ S13312x8x128.size a := fun v897 k0_hw70 => k0_hw70.1
theorem k0_off210_wordsbf16 : ∀ (v897 : BitVec 32) (k0_hw70 : k0_chk70 v897), (Rect.unit (s := S13312x8x128) (k0_off210 v897) S1x8x128.size (k0_off210_inb v897 k0_hw70)).WholeWords (EltTy.packing .bf16) := fun v897 k0_hw70 => k0_hw70.2 (k0_off210_inb v897 k0_hw70)

def k0_cond36 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_576 : BitVec 32 := 0#32
  let v906 : BitVec 1 := Scalar.cmpi .sgt arg4 c0_i32_576
  let v907 : BitVec 32 := Scalar.extui v906
  let c0_i32_577 : BitVec 32 := 0#32
  let v908 : BitVec 1 := Scalar.cmpi .ne v907 c0_i32_577
  v908

def k0_off211 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let v1282 : Index := Scalar.indexCast v1281
  ![v1282.toNat]
def k0_off212 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let c0_i32_837 : BitVec 32 := 0#32
  let c0_i32_838 : BitVec 32 := 0#32
  ![v1281.toNat, 0, 0]
def k0_off213 (v1283 : BitVec 32) : Fin 3 → Nat :=
  let c0_i32_839 : BitVec 32 := 0#32
  let c0_i32_840 : BitVec 32 := 0#32
  ![v1283.toNat, 0, 0]

def k0_chk71 (k0_t1 : Fin k0_t1_loop.trips) (v1283 : BitVec 32) : Prop :=
  (∀ (k0_h36 : k0_cond36 k0_t1 = 1#1), ∀ a, (k0_off213 v1283) a + S1x8x128.size a ≤ S13312x8x128.size a) ∧
  (∀ (k0_h36 : k0_cond36 k0_t1 = 1#1), ∀ (hinb : ∀ a, (k0_off213 v1283) a + S1x8x128.size a ≤ S13312x8x128.size a), (Rect.unit (s := S13312x8x128) (k0_off213 v1283) S1x8x128.size hinb).WholeWords (EltTy.packing .bf16))
theorem k0_off213_inb : ∀ (k0_t1 : Fin k0_t1_loop.trips) (v1283 : BitVec 32) (k0_hw71 : k0_chk71 k0_t1 v1283), ∀ (k0_h36 : k0_cond36 k0_t1 = 1#1), ∀ a, (k0_off213 v1283) a + S1x8x128.size a ≤ S13312x8x128.size a := fun k0_t1 v1283 k0_hw71 k0_h36 => k0_hw71.1 k0_h36
theorem k0_off213_wordsbf16 : ∀ (k0_t1 : Fin k0_t1_loop.trips) (v1283 : BitVec 32) (k0_hw71 : k0_chk71 k0_t1 v1283), ∀ (k0_h36 : k0_cond36 k0_t1 = 1#1), (Rect.unit (s := S13312x8x128) (k0_off213 v1283) S1x8x128.size (k0_off213_inb k0_t1 v1283 k0_hw71 k0_h36)).WholeWords (EltTy.packing .bf16) := fun k0_t1 v1283 k0_hw71 k0_h36 => k0_hw71.2 k0_h36 (k0_off213_inb k0_t1 v1283 k0_hw71 k0_h36)

def k0_off214 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let v909 : Index := Scalar.indexCast v905
  ![v909.toNat]
def k0_off215 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c0_i32_579 : BitVec 32 := 0#32
  let c0_i32_580 : BitVec 32 := 0#32
  ![v905.toNat, 0, 0]
def k0_off216 (v910 : BitVec 32) : Fin 3 → Nat :=
  let c0_i32_581 : BitVec 32 := 0#32
  let c0_i32_582 : BitVec 32 := 0#32
  ![v910.toNat, 0, 0]

def k0_chk72 (v910 : BitVec 32) : Prop :=
  (∀ a, (k0_off216 v910) a + S1x8x128.size a ≤ S13312x8x128.size a) ∧
  (∀ (hinb : ∀ a, (k0_off216 v910) a + S1x8x128.size a ≤ S13312x8x128.size a), (Rect.unit (s := S13312x8x128) (k0_off216 v910) S1x8x128.size hinb).WholeWords (EltTy.packing .bf16))
theorem k0_off216_inb : ∀ (v910 : BitVec 32) (k0_hw72 : k0_chk72 v910), ∀ a, (k0_off216 v910) a + S1x8x128.size a ≤ S13312x8x128.size a := fun v910 k0_hw72 => k0_hw72.1
theorem k0_off216_wordsbf16 : ∀ (v910 : BitVec 32) (k0_hw72 : k0_chk72 v910), (Rect.unit (s := S13312x8x128) (k0_off216 v910) S1x8x128.size (k0_off216_inb v910 k0_hw72)).WholeWords (EltTy.packing .bf16) := fun v910 k0_hw72 => k0_hw72.2 (k0_off216_inb v910 k0_hw72)

def k0_cond37 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_585 : BitVec 32 := 0#32
  let v919 : BitVec 1 := Scalar.cmpi .sgt arg4 c0_i32_585
  let v920 : BitVec 32 := Scalar.extui v919
  let c0_i32_586 : BitVec 32 := 0#32
  let v921 : BitVec 1 := Scalar.cmpi .ne v920 c0_i32_586
  v921

def k0_off217 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let v1282 : Index := Scalar.indexCast v1281
  ![v1282.toNat]
def k0_off218 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let c0_i32_837 : BitVec 32 := 0#32
  let c0_i32_838 : BitVec 32 := 0#32
  ![v1281.toNat, 0, 0]
def k0_off219 (v1283 : BitVec 32) : Fin 3 → Nat :=
  let c0_i32_839 : BitVec 32 := 0#32
  let c0_i32_840 : BitVec 32 := 0#32
  ![v1283.toNat, 0, 0]

def k0_chk73 (k0_t1 : Fin k0_t1_loop.trips) (v1283 : BitVec 32) : Prop :=
  (∀ (k0_h37 : k0_cond37 k0_t1 = 1#1), ∀ a, (k0_off219 v1283) a + S1x8x128.size a ≤ S13312x8x128.size a) ∧
  (∀ (k0_h37 : k0_cond37 k0_t1 = 1#1), ∀ (hinb : ∀ a, (k0_off219 v1283) a + S1x8x128.size a ≤ S13312x8x128.size a), (Rect.unit (s := S13312x8x128) (k0_off219 v1283) S1x8x128.size hinb).WholeWords (EltTy.packing .bf16))
theorem k0_off219_inb : ∀ (k0_t1 : Fin k0_t1_loop.trips) (v1283 : BitVec 32) (k0_hw73 : k0_chk73 k0_t1 v1283), ∀ (k0_h37 : k0_cond37 k0_t1 = 1#1), ∀ a, (k0_off219 v1283) a + S1x8x128.size a ≤ S13312x8x128.size a := fun k0_t1 v1283 k0_hw73 k0_h37 => k0_hw73.1 k0_h37
theorem k0_off219_wordsbf16 : ∀ (k0_t1 : Fin k0_t1_loop.trips) (v1283 : BitVec 32) (k0_hw73 : k0_chk73 k0_t1 v1283), ∀ (k0_h37 : k0_cond37 k0_t1 = 1#1), (Rect.unit (s := S13312x8x128) (k0_off219 v1283) S1x8x128.size (k0_off219_inb k0_t1 v1283 k0_hw73 k0_h37)).WholeWords (EltTy.packing .bf16) := fun k0_t1 v1283 k0_hw73 k0_h37 => k0_hw73.2 k0_h37 (k0_off219_inb k0_t1 v1283 k0_hw73 k0_h37)

def k0_off220 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let v922 : Index := Scalar.indexCast v918
  ![v922.toNat]
def k0_off221 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c0_i32_588 : BitVec 32 := 0#32
  let c0_i32_589 : BitVec 32 := 0#32
  ![v918.toNat, 0, 0]
def k0_off222 (v923 : BitVec 32) : Fin 3 → Nat :=
  let c0_i32_590 : BitVec 32 := 0#32
  let c0_i32_591 : BitVec 32 := 0#32
  ![v923.toNat, 0, 0]

def k0_chk74 (v923 : BitVec 32) : Prop :=
  (∀ a, (k0_off222 v923) a + S1x8x128.size a ≤ S13312x8x128.size a) ∧
  (∀ (hinb : ∀ a, (k0_off222 v923) a + S1x8x128.size a ≤ S13312x8x128.size a), (Rect.unit (s := S13312x8x128) (k0_off222 v923) S1x8x128.size hinb).WholeWords (EltTy.packing .bf16))
theorem k0_off222_inb : ∀ (v923 : BitVec 32) (k0_hw74 : k0_chk74 v923), ∀ a, (k0_off222 v923) a + S1x8x128.size a ≤ S13312x8x128.size a := fun v923 k0_hw74 => k0_hw74.1
theorem k0_off222_wordsbf16 : ∀ (v923 : BitVec 32) (k0_hw74 : k0_chk74 v923), (Rect.unit (s := S13312x8x128) (k0_off222 v923) S1x8x128.size (k0_off222_inb v923 k0_hw74)).WholeWords (EltTy.packing .bf16) := fun v923 k0_hw74 => k0_hw74.2 (k0_off222_inb v923 k0_hw74)

def k0_cond38 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_594 : BitVec 32 := 0#32
  let v932 : BitVec 1 := Scalar.cmpi .sgt arg4 c0_i32_594
  let v933 : BitVec 32 := Scalar.extui v932
  let c0_i32_595 : BitVec 32 := 0#32
  let v934 : BitVec 1 := Scalar.cmpi .ne v933 c0_i32_595
  v934

def k0_off223 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let v1282 : Index := Scalar.indexCast v1281
  ![v1282.toNat]
def k0_off224 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let c0_i32_837 : BitVec 32 := 0#32
  let c0_i32_838 : BitVec 32 := 0#32
  ![v1281.toNat, 0, 0]
def k0_off225 (v1283 : BitVec 32) : Fin 3 → Nat :=
  let c0_i32_839 : BitVec 32 := 0#32
  let c0_i32_840 : BitVec 32 := 0#32
  ![v1283.toNat, 0, 0]

def k0_chk75 (k0_t1 : Fin k0_t1_loop.trips) (v1283 : BitVec 32) : Prop :=
  (∀ (k0_h38 : k0_cond38 k0_t1 = 1#1), ∀ a, (k0_off225 v1283) a + S1x8x128.size a ≤ S13312x8x128.size a) ∧
  (∀ (k0_h38 : k0_cond38 k0_t1 = 1#1), ∀ (hinb : ∀ a, (k0_off225 v1283) a + S1x8x128.size a ≤ S13312x8x128.size a), (Rect.unit (s := S13312x8x128) (k0_off225 v1283) S1x8x128.size hinb).WholeWords (EltTy.packing .bf16))
theorem k0_off225_inb : ∀ (k0_t1 : Fin k0_t1_loop.trips) (v1283 : BitVec 32) (k0_hw75 : k0_chk75 k0_t1 v1283), ∀ (k0_h38 : k0_cond38 k0_t1 = 1#1), ∀ a, (k0_off225 v1283) a + S1x8x128.size a ≤ S13312x8x128.size a := fun k0_t1 v1283 k0_hw75 k0_h38 => k0_hw75.1 k0_h38
theorem k0_off225_wordsbf16 : ∀ (k0_t1 : Fin k0_t1_loop.trips) (v1283 : BitVec 32) (k0_hw75 : k0_chk75 k0_t1 v1283), ∀ (k0_h38 : k0_cond38 k0_t1 = 1#1), (Rect.unit (s := S13312x8x128) (k0_off225 v1283) S1x8x128.size (k0_off225_inb k0_t1 v1283 k0_hw75 k0_h38)).WholeWords (EltTy.packing .bf16) := fun k0_t1 v1283 k0_hw75 k0_h38 => k0_hw75.2 k0_h38 (k0_off225_inb k0_t1 v1283 k0_hw75 k0_h38)

def k0_off226 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let v935 : Index := Scalar.indexCast v931
  ![v935.toNat]
def k0_off227 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c0_i32_597 : BitVec 32 := 0#32
  let c0_i32_598 : BitVec 32 := 0#32
  ![v931.toNat, 0, 0]
def k0_off228 (v936 : BitVec 32) : Fin 3 → Nat :=
  let c0_i32_599 : BitVec 32 := 0#32
  let c0_i32_600 : BitVec 32 := 0#32
  ![v936.toNat, 0, 0]

def k0_chk76 (v936 : BitVec 32) : Prop :=
  (∀ a, (k0_off228 v936) a + S1x8x128.size a ≤ S13312x8x128.size a) ∧
  (∀ (hinb : ∀ a, (k0_off228 v936) a + S1x8x128.size a ≤ S13312x8x128.size a), (Rect.unit (s := S13312x8x128) (k0_off228 v936) S1x8x128.size hinb).WholeWords (EltTy.packing .bf16))
theorem k0_off228_inb : ∀ (v936 : BitVec 32) (k0_hw76 : k0_chk76 v936), ∀ a, (k0_off228 v936) a + S1x8x128.size a ≤ S13312x8x128.size a := fun v936 k0_hw76 => k0_hw76.1
theorem k0_off228_wordsbf16 : ∀ (v936 : BitVec 32) (k0_hw76 : k0_chk76 v936), (Rect.unit (s := S13312x8x128) (k0_off228 v936) S1x8x128.size (k0_off228_inb v936 k0_hw76)).WholeWords (EltTy.packing .bf16) := fun v936 k0_hw76 => k0_hw76.2 (k0_off228_inb v936 k0_hw76)

def k0_cond39 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_603 : BitVec 32 := 0#32
  let v945 : BitVec 1 := Scalar.cmpi .sgt arg4 c0_i32_603
  let v946 : BitVec 32 := Scalar.extui v945
  let c0_i32_604 : BitVec 32 := 0#32
  let v947 : BitVec 1 := Scalar.cmpi .ne v946 c0_i32_604
  v947

def k0_off229 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let v1282 : Index := Scalar.indexCast v1281
  ![v1282.toNat]
def k0_off230 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let c0_i32_837 : BitVec 32 := 0#32
  let c0_i32_838 : BitVec 32 := 0#32
  ![v1281.toNat, 0, 0]
def k0_off231 (v1283 : BitVec 32) : Fin 3 → Nat :=
  let c0_i32_839 : BitVec 32 := 0#32
  let c0_i32_840 : BitVec 32 := 0#32
  ![v1283.toNat, 0, 0]

def k0_chk77 (k0_t1 : Fin k0_t1_loop.trips) (v1283 : BitVec 32) : Prop :=
  (∀ (k0_h39 : k0_cond39 k0_t1 = 1#1), ∀ a, (k0_off231 v1283) a + S1x8x128.size a ≤ S13312x8x128.size a) ∧
  (∀ (k0_h39 : k0_cond39 k0_t1 = 1#1), ∀ (hinb : ∀ a, (k0_off231 v1283) a + S1x8x128.size a ≤ S13312x8x128.size a), (Rect.unit (s := S13312x8x128) (k0_off231 v1283) S1x8x128.size hinb).WholeWords (EltTy.packing .bf16))
theorem k0_off231_inb : ∀ (k0_t1 : Fin k0_t1_loop.trips) (v1283 : BitVec 32) (k0_hw77 : k0_chk77 k0_t1 v1283), ∀ (k0_h39 : k0_cond39 k0_t1 = 1#1), ∀ a, (k0_off231 v1283) a + S1x8x128.size a ≤ S13312x8x128.size a := fun k0_t1 v1283 k0_hw77 k0_h39 => k0_hw77.1 k0_h39
theorem k0_off231_wordsbf16 : ∀ (k0_t1 : Fin k0_t1_loop.trips) (v1283 : BitVec 32) (k0_hw77 : k0_chk77 k0_t1 v1283), ∀ (k0_h39 : k0_cond39 k0_t1 = 1#1), (Rect.unit (s := S13312x8x128) (k0_off231 v1283) S1x8x128.size (k0_off231_inb k0_t1 v1283 k0_hw77 k0_h39)).WholeWords (EltTy.packing .bf16) := fun k0_t1 v1283 k0_hw77 k0_h39 => k0_hw77.2 k0_h39 (k0_off231_inb k0_t1 v1283 k0_hw77 k0_h39)

def k0_off232 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let v948 : Index := Scalar.indexCast v944
  ![v948.toNat]
def k0_off233 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c0_i32_606 : BitVec 32 := 0#32
  let c0_i32_607 : BitVec 32 := 0#32
  ![v944.toNat, 0, 0]
def k0_off234 (v949 : BitVec 32) : Fin 3 → Nat :=
  let c0_i32_608 : BitVec 32 := 0#32
  let c0_i32_609 : BitVec 32 := 0#32
  ![v949.toNat, 0, 0]

def k0_chk78 (v949 : BitVec 32) : Prop :=
  (∀ a, (k0_off234 v949) a + S1x8x128.size a ≤ S13312x8x128.size a) ∧
  (∀ (hinb : ∀ a, (k0_off234 v949) a + S1x8x128.size a ≤ S13312x8x128.size a), (Rect.unit (s := S13312x8x128) (k0_off234 v949) S1x8x128.size hinb).WholeWords (EltTy.packing .bf16))
theorem k0_off234_inb : ∀ (v949 : BitVec 32) (k0_hw78 : k0_chk78 v949), ∀ a, (k0_off234 v949) a + S1x8x128.size a ≤ S13312x8x128.size a := fun v949 k0_hw78 => k0_hw78.1
theorem k0_off234_wordsbf16 : ∀ (v949 : BitVec 32) (k0_hw78 : k0_chk78 v949), (Rect.unit (s := S13312x8x128) (k0_off234 v949) S1x8x128.size (k0_off234_inb v949 k0_hw78)).WholeWords (EltTy.packing .bf16) := fun v949 k0_hw78 => k0_hw78.2 (k0_off234_inb v949 k0_hw78)

def k0_cond40 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_612 : BitVec 32 := 0#32
  let v958 : BitVec 1 := Scalar.cmpi .sgt arg4 c0_i32_612
  let v959 : BitVec 32 := Scalar.extui v958
  let c0_i32_613 : BitVec 32 := 0#32
  let v960 : BitVec 1 := Scalar.cmpi .ne v959 c0_i32_613
  v960

def k0_off235 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let v1282 : Index := Scalar.indexCast v1281
  ![v1282.toNat]
def k0_off236 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let c0_i32_837 : BitVec 32 := 0#32
  let c0_i32_838 : BitVec 32 := 0#32
  ![v1281.toNat, 0, 0]
def k0_off237 (v1283 : BitVec 32) : Fin 3 → Nat :=
  let c0_i32_839 : BitVec 32 := 0#32
  let c0_i32_840 : BitVec 32 := 0#32
  ![v1283.toNat, 0, 0]

def k0_chk79 (k0_t1 : Fin k0_t1_loop.trips) (v1283 : BitVec 32) : Prop :=
  (∀ (k0_h40 : k0_cond40 k0_t1 = 1#1), ∀ a, (k0_off237 v1283) a + S1x8x128.size a ≤ S13312x8x128.size a) ∧
  (∀ (k0_h40 : k0_cond40 k0_t1 = 1#1), ∀ (hinb : ∀ a, (k0_off237 v1283) a + S1x8x128.size a ≤ S13312x8x128.size a), (Rect.unit (s := S13312x8x128) (k0_off237 v1283) S1x8x128.size hinb).WholeWords (EltTy.packing .bf16))
theorem k0_off237_inb : ∀ (k0_t1 : Fin k0_t1_loop.trips) (v1283 : BitVec 32) (k0_hw79 : k0_chk79 k0_t1 v1283), ∀ (k0_h40 : k0_cond40 k0_t1 = 1#1), ∀ a, (k0_off237 v1283) a + S1x8x128.size a ≤ S13312x8x128.size a := fun k0_t1 v1283 k0_hw79 k0_h40 => k0_hw79.1 k0_h40
theorem k0_off237_wordsbf16 : ∀ (k0_t1 : Fin k0_t1_loop.trips) (v1283 : BitVec 32) (k0_hw79 : k0_chk79 k0_t1 v1283), ∀ (k0_h40 : k0_cond40 k0_t1 = 1#1), (Rect.unit (s := S13312x8x128) (k0_off237 v1283) S1x8x128.size (k0_off237_inb k0_t1 v1283 k0_hw79 k0_h40)).WholeWords (EltTy.packing .bf16) := fun k0_t1 v1283 k0_hw79 k0_h40 => k0_hw79.2 k0_h40 (k0_off237_inb k0_t1 v1283 k0_hw79 k0_h40)

def k0_off238 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let v961 : Index := Scalar.indexCast v957
  ![v961.toNat]
def k0_off239 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c0_i32_615 : BitVec 32 := 0#32
  let c0_i32_616 : BitVec 32 := 0#32
  ![v957.toNat, 0, 0]
def k0_off240 (v962 : BitVec 32) : Fin 3 → Nat :=
  let c0_i32_617 : BitVec 32 := 0#32
  let c0_i32_618 : BitVec 32 := 0#32
  ![v962.toNat, 0, 0]

def k0_chk80 (v962 : BitVec 32) : Prop :=
  (∀ a, (k0_off240 v962) a + S1x8x128.size a ≤ S13312x8x128.size a) ∧
  (∀ (hinb : ∀ a, (k0_off240 v962) a + S1x8x128.size a ≤ S13312x8x128.size a), (Rect.unit (s := S13312x8x128) (k0_off240 v962) S1x8x128.size hinb).WholeWords (EltTy.packing .bf16))
theorem k0_off240_inb : ∀ (v962 : BitVec 32) (k0_hw80 : k0_chk80 v962), ∀ a, (k0_off240 v962) a + S1x8x128.size a ≤ S13312x8x128.size a := fun v962 k0_hw80 => k0_hw80.1
theorem k0_off240_wordsbf16 : ∀ (v962 : BitVec 32) (k0_hw80 : k0_chk80 v962), (Rect.unit (s := S13312x8x128) (k0_off240 v962) S1x8x128.size (k0_off240_inb v962 k0_hw80)).WholeWords (EltTy.packing .bf16) := fun v962 k0_hw80 => k0_hw80.2 (k0_off240_inb v962 k0_hw80)

def k0_cond41 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_621 : BitVec 32 := 0#32
  let v971 : BitVec 1 := Scalar.cmpi .sgt arg4 c0_i32_621
  let v972 : BitVec 32 := Scalar.extui v971
  let c0_i32_622 : BitVec 32 := 0#32
  let v973 : BitVec 1 := Scalar.cmpi .ne v972 c0_i32_622
  v973

def k0_off241 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let v1282 : Index := Scalar.indexCast v1281
  ![v1282.toNat]
def k0_off242 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let c0_i32_837 : BitVec 32 := 0#32
  let c0_i32_838 : BitVec 32 := 0#32
  ![v1281.toNat, 0, 0]
def k0_off243 (v1283 : BitVec 32) : Fin 3 → Nat :=
  let c0_i32_839 : BitVec 32 := 0#32
  let c0_i32_840 : BitVec 32 := 0#32
  ![v1283.toNat, 0, 0]

def k0_chk81 (k0_t1 : Fin k0_t1_loop.trips) (v1283 : BitVec 32) : Prop :=
  (∀ (k0_h41 : k0_cond41 k0_t1 = 1#1), ∀ a, (k0_off243 v1283) a + S1x8x128.size a ≤ S13312x8x128.size a) ∧
  (∀ (k0_h41 : k0_cond41 k0_t1 = 1#1), ∀ (hinb : ∀ a, (k0_off243 v1283) a + S1x8x128.size a ≤ S13312x8x128.size a), (Rect.unit (s := S13312x8x128) (k0_off243 v1283) S1x8x128.size hinb).WholeWords (EltTy.packing .bf16))
theorem k0_off243_inb : ∀ (k0_t1 : Fin k0_t1_loop.trips) (v1283 : BitVec 32) (k0_hw81 : k0_chk81 k0_t1 v1283), ∀ (k0_h41 : k0_cond41 k0_t1 = 1#1), ∀ a, (k0_off243 v1283) a + S1x8x128.size a ≤ S13312x8x128.size a := fun k0_t1 v1283 k0_hw81 k0_h41 => k0_hw81.1 k0_h41
theorem k0_off243_wordsbf16 : ∀ (k0_t1 : Fin k0_t1_loop.trips) (v1283 : BitVec 32) (k0_hw81 : k0_chk81 k0_t1 v1283), ∀ (k0_h41 : k0_cond41 k0_t1 = 1#1), (Rect.unit (s := S13312x8x128) (k0_off243 v1283) S1x8x128.size (k0_off243_inb k0_t1 v1283 k0_hw81 k0_h41)).WholeWords (EltTy.packing .bf16) := fun k0_t1 v1283 k0_hw81 k0_h41 => k0_hw81.2 k0_h41 (k0_off243_inb k0_t1 v1283 k0_hw81 k0_h41)

def k0_off244 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let v974 : Index := Scalar.indexCast v970
  ![v974.toNat]
def k0_off245 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c0_i32_624 : BitVec 32 := 0#32
  let c0_i32_625 : BitVec 32 := 0#32
  ![v970.toNat, 0, 0]
def k0_off246 (v975 : BitVec 32) : Fin 3 → Nat :=
  let c0_i32_626 : BitVec 32 := 0#32
  let c0_i32_627 : BitVec 32 := 0#32
  ![v975.toNat, 0, 0]

def k0_chk82 (v975 : BitVec 32) : Prop :=
  (∀ a, (k0_off246 v975) a + S1x8x128.size a ≤ S13312x8x128.size a) ∧
  (∀ (hinb : ∀ a, (k0_off246 v975) a + S1x8x128.size a ≤ S13312x8x128.size a), (Rect.unit (s := S13312x8x128) (k0_off246 v975) S1x8x128.size hinb).WholeWords (EltTy.packing .bf16))
theorem k0_off246_inb : ∀ (v975 : BitVec 32) (k0_hw82 : k0_chk82 v975), ∀ a, (k0_off246 v975) a + S1x8x128.size a ≤ S13312x8x128.size a := fun v975 k0_hw82 => k0_hw82.1
theorem k0_off246_wordsbf16 : ∀ (v975 : BitVec 32) (k0_hw82 : k0_chk82 v975), (Rect.unit (s := S13312x8x128) (k0_off246 v975) S1x8x128.size (k0_off246_inb v975 k0_hw82)).WholeWords (EltTy.packing .bf16) := fun v975 k0_hw82 => k0_hw82.2 (k0_off246_inb v975 k0_hw82)

def k0_cond42 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_630 : BitVec 32 := 0#32
  let v984 : BitVec 1 := Scalar.cmpi .sgt arg4 c0_i32_630
  let v985 : BitVec 32 := Scalar.extui v984
  let c0_i32_631 : BitVec 32 := 0#32
  let v986 : BitVec 1 := Scalar.cmpi .ne v985 c0_i32_631
  v986

def k0_off247 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let v1282 : Index := Scalar.indexCast v1281
  ![v1282.toNat]
def k0_off248 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let c0_i32_837 : BitVec 32 := 0#32
  let c0_i32_838 : BitVec 32 := 0#32
  ![v1281.toNat, 0, 0]
def k0_off249 (v1283 : BitVec 32) : Fin 3 → Nat :=
  let c0_i32_839 : BitVec 32 := 0#32
  let c0_i32_840 : BitVec 32 := 0#32
  ![v1283.toNat, 0, 0]

def k0_chk83 (k0_t1 : Fin k0_t1_loop.trips) (v1283 : BitVec 32) : Prop :=
  (∀ (k0_h42 : k0_cond42 k0_t1 = 1#1), ∀ a, (k0_off249 v1283) a + S1x8x128.size a ≤ S13312x8x128.size a) ∧
  (∀ (k0_h42 : k0_cond42 k0_t1 = 1#1), ∀ (hinb : ∀ a, (k0_off249 v1283) a + S1x8x128.size a ≤ S13312x8x128.size a), (Rect.unit (s := S13312x8x128) (k0_off249 v1283) S1x8x128.size hinb).WholeWords (EltTy.packing .bf16))
theorem k0_off249_inb : ∀ (k0_t1 : Fin k0_t1_loop.trips) (v1283 : BitVec 32) (k0_hw83 : k0_chk83 k0_t1 v1283), ∀ (k0_h42 : k0_cond42 k0_t1 = 1#1), ∀ a, (k0_off249 v1283) a + S1x8x128.size a ≤ S13312x8x128.size a := fun k0_t1 v1283 k0_hw83 k0_h42 => k0_hw83.1 k0_h42
theorem k0_off249_wordsbf16 : ∀ (k0_t1 : Fin k0_t1_loop.trips) (v1283 : BitVec 32) (k0_hw83 : k0_chk83 k0_t1 v1283), ∀ (k0_h42 : k0_cond42 k0_t1 = 1#1), (Rect.unit (s := S13312x8x128) (k0_off249 v1283) S1x8x128.size (k0_off249_inb k0_t1 v1283 k0_hw83 k0_h42)).WholeWords (EltTy.packing .bf16) := fun k0_t1 v1283 k0_hw83 k0_h42 => k0_hw83.2 k0_h42 (k0_off249_inb k0_t1 v1283 k0_hw83 k0_h42)

def k0_off250 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let v987 : Index := Scalar.indexCast v983
  ![v987.toNat]
def k0_off251 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c0_i32_633 : BitVec 32 := 0#32
  let c0_i32_634 : BitVec 32 := 0#32
  ![v983.toNat, 0, 0]
def k0_off252 (v988 : BitVec 32) : Fin 3 → Nat :=
  let c0_i32_635 : BitVec 32 := 0#32
  let c0_i32_636 : BitVec 32 := 0#32
  ![v988.toNat, 0, 0]

def k0_chk84 (v988 : BitVec 32) : Prop :=
  (∀ a, (k0_off252 v988) a + S1x8x128.size a ≤ S13312x8x128.size a) ∧
  (∀ (hinb : ∀ a, (k0_off252 v988) a + S1x8x128.size a ≤ S13312x8x128.size a), (Rect.unit (s := S13312x8x128) (k0_off252 v988) S1x8x128.size hinb).WholeWords (EltTy.packing .bf16))
theorem k0_off252_inb : ∀ (v988 : BitVec 32) (k0_hw84 : k0_chk84 v988), ∀ a, (k0_off252 v988) a + S1x8x128.size a ≤ S13312x8x128.size a := fun v988 k0_hw84 => k0_hw84.1
theorem k0_off252_wordsbf16 : ∀ (v988 : BitVec 32) (k0_hw84 : k0_chk84 v988), (Rect.unit (s := S13312x8x128) (k0_off252 v988) S1x8x128.size (k0_off252_inb v988 k0_hw84)).WholeWords (EltTy.packing .bf16) := fun v988 k0_hw84 => k0_hw84.2 (k0_off252_inb v988 k0_hw84)

def k0_cond43 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_639 : BitVec 32 := 0#32
  let v997 : BitVec 1 := Scalar.cmpi .sgt arg4 c0_i32_639
  let v998 : BitVec 32 := Scalar.extui v997
  let c0_i32_640 : BitVec 32 := 0#32
  let v999 : BitVec 1 := Scalar.cmpi .ne v998 c0_i32_640
  v999

def k0_off253 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let v1282 : Index := Scalar.indexCast v1281
  ![v1282.toNat]
def k0_off254 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let c0_i32_837 : BitVec 32 := 0#32
  let c0_i32_838 : BitVec 32 := 0#32
  ![v1281.toNat, 0, 0]
def k0_off255 (v1283 : BitVec 32) : Fin 3 → Nat :=
  let c0_i32_839 : BitVec 32 := 0#32
  let c0_i32_840 : BitVec 32 := 0#32
  ![v1283.toNat, 0, 0]

def k0_chk85 (k0_t1 : Fin k0_t1_loop.trips) (v1283 : BitVec 32) : Prop :=
  (∀ (k0_h43 : k0_cond43 k0_t1 = 1#1), ∀ a, (k0_off255 v1283) a + S1x8x128.size a ≤ S13312x8x128.size a) ∧
  (∀ (k0_h43 : k0_cond43 k0_t1 = 1#1), ∀ (hinb : ∀ a, (k0_off255 v1283) a + S1x8x128.size a ≤ S13312x8x128.size a), (Rect.unit (s := S13312x8x128) (k0_off255 v1283) S1x8x128.size hinb).WholeWords (EltTy.packing .bf16))
theorem k0_off255_inb : ∀ (k0_t1 : Fin k0_t1_loop.trips) (v1283 : BitVec 32) (k0_hw85 : k0_chk85 k0_t1 v1283), ∀ (k0_h43 : k0_cond43 k0_t1 = 1#1), ∀ a, (k0_off255 v1283) a + S1x8x128.size a ≤ S13312x8x128.size a := fun k0_t1 v1283 k0_hw85 k0_h43 => k0_hw85.1 k0_h43
theorem k0_off255_wordsbf16 : ∀ (k0_t1 : Fin k0_t1_loop.trips) (v1283 : BitVec 32) (k0_hw85 : k0_chk85 k0_t1 v1283), ∀ (k0_h43 : k0_cond43 k0_t1 = 1#1), (Rect.unit (s := S13312x8x128) (k0_off255 v1283) S1x8x128.size (k0_off255_inb k0_t1 v1283 k0_hw85 k0_h43)).WholeWords (EltTy.packing .bf16) := fun k0_t1 v1283 k0_hw85 k0_h43 => k0_hw85.2 k0_h43 (k0_off255_inb k0_t1 v1283 k0_hw85 k0_h43)

def k0_off256 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let v1000 : Index := Scalar.indexCast v996
  ![v1000.toNat]
def k0_off257 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c0_i32_642 : BitVec 32 := 0#32
  let c0_i32_643 : BitVec 32 := 0#32
  ![v996.toNat, 0, 0]
def k0_off258 (v1001 : BitVec 32) : Fin 3 → Nat :=
  let c0_i32_644 : BitVec 32 := 0#32
  let c0_i32_645 : BitVec 32 := 0#32
  ![v1001.toNat, 0, 0]

def k0_chk86 (v1001 : BitVec 32) : Prop :=
  (∀ a, (k0_off258 v1001) a + S1x8x128.size a ≤ S13312x8x128.size a) ∧
  (∀ (hinb : ∀ a, (k0_off258 v1001) a + S1x8x128.size a ≤ S13312x8x128.size a), (Rect.unit (s := S13312x8x128) (k0_off258 v1001) S1x8x128.size hinb).WholeWords (EltTy.packing .bf16))
theorem k0_off258_inb : ∀ (v1001 : BitVec 32) (k0_hw86 : k0_chk86 v1001), ∀ a, (k0_off258 v1001) a + S1x8x128.size a ≤ S13312x8x128.size a := fun v1001 k0_hw86 => k0_hw86.1
theorem k0_off258_wordsbf16 : ∀ (v1001 : BitVec 32) (k0_hw86 : k0_chk86 v1001), (Rect.unit (s := S13312x8x128) (k0_off258 v1001) S1x8x128.size (k0_off258_inb v1001 k0_hw86)).WholeWords (EltTy.packing .bf16) := fun v1001 k0_hw86 => k0_hw86.2 (k0_off258_inb v1001 k0_hw86)

def k0_cond44 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_648 : BitVec 32 := 0#32
  let v1010 : BitVec 1 := Scalar.cmpi .sgt arg4 c0_i32_648
  let v1011 : BitVec 32 := Scalar.extui v1010
  let c0_i32_649 : BitVec 32 := 0#32
  let v1012 : BitVec 1 := Scalar.cmpi .ne v1011 c0_i32_649
  v1012

def k0_off259 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let v1282 : Index := Scalar.indexCast v1281
  ![v1282.toNat]
def k0_off260 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let c0_i32_837 : BitVec 32 := 0#32
  let c0_i32_838 : BitVec 32 := 0#32
  ![v1281.toNat, 0, 0]
def k0_off261 (v1283 : BitVec 32) : Fin 3 → Nat :=
  let c0_i32_839 : BitVec 32 := 0#32
  let c0_i32_840 : BitVec 32 := 0#32
  ![v1283.toNat, 0, 0]

def k0_chk87 (k0_t1 : Fin k0_t1_loop.trips) (v1283 : BitVec 32) : Prop :=
  (∀ (k0_h44 : k0_cond44 k0_t1 = 1#1), ∀ a, (k0_off261 v1283) a + S1x8x128.size a ≤ S13312x8x128.size a) ∧
  (∀ (k0_h44 : k0_cond44 k0_t1 = 1#1), ∀ (hinb : ∀ a, (k0_off261 v1283) a + S1x8x128.size a ≤ S13312x8x128.size a), (Rect.unit (s := S13312x8x128) (k0_off261 v1283) S1x8x128.size hinb).WholeWords (EltTy.packing .bf16))
theorem k0_off261_inb : ∀ (k0_t1 : Fin k0_t1_loop.trips) (v1283 : BitVec 32) (k0_hw87 : k0_chk87 k0_t1 v1283), ∀ (k0_h44 : k0_cond44 k0_t1 = 1#1), ∀ a, (k0_off261 v1283) a + S1x8x128.size a ≤ S13312x8x128.size a := fun k0_t1 v1283 k0_hw87 k0_h44 => k0_hw87.1 k0_h44
theorem k0_off261_wordsbf16 : ∀ (k0_t1 : Fin k0_t1_loop.trips) (v1283 : BitVec 32) (k0_hw87 : k0_chk87 k0_t1 v1283), ∀ (k0_h44 : k0_cond44 k0_t1 = 1#1), (Rect.unit (s := S13312x8x128) (k0_off261 v1283) S1x8x128.size (k0_off261_inb k0_t1 v1283 k0_hw87 k0_h44)).WholeWords (EltTy.packing .bf16) := fun k0_t1 v1283 k0_hw87 k0_h44 => k0_hw87.2 k0_h44 (k0_off261_inb k0_t1 v1283 k0_hw87 k0_h44)

def k0_off262 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let v1013 : Index := Scalar.indexCast v1009
  ![v1013.toNat]
def k0_off263 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c0_i32_651 : BitVec 32 := 0#32
  let c0_i32_652 : BitVec 32 := 0#32
  ![v1009.toNat, 0, 0]
def k0_off264 (v1014 : BitVec 32) : Fin 3 → Nat :=
  let c0_i32_653 : BitVec 32 := 0#32
  let c0_i32_654 : BitVec 32 := 0#32
  ![v1014.toNat, 0, 0]

def k0_chk88 (v1014 : BitVec 32) : Prop :=
  (∀ a, (k0_off264 v1014) a + S1x8x128.size a ≤ S13312x8x128.size a) ∧
  (∀ (hinb : ∀ a, (k0_off264 v1014) a + S1x8x128.size a ≤ S13312x8x128.size a), (Rect.unit (s := S13312x8x128) (k0_off264 v1014) S1x8x128.size hinb).WholeWords (EltTy.packing .bf16))
theorem k0_off264_inb : ∀ (v1014 : BitVec 32) (k0_hw88 : k0_chk88 v1014), ∀ a, (k0_off264 v1014) a + S1x8x128.size a ≤ S13312x8x128.size a := fun v1014 k0_hw88 => k0_hw88.1
theorem k0_off264_wordsbf16 : ∀ (v1014 : BitVec 32) (k0_hw88 : k0_chk88 v1014), (Rect.unit (s := S13312x8x128) (k0_off264 v1014) S1x8x128.size (k0_off264_inb v1014 k0_hw88)).WholeWords (EltTy.packing .bf16) := fun v1014 k0_hw88 => k0_hw88.2 (k0_off264_inb v1014 k0_hw88)

def k0_cond45 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_657 : BitVec 32 := 0#32
  let v1023 : BitVec 1 := Scalar.cmpi .sgt arg4 c0_i32_657
  let v1024 : BitVec 32 := Scalar.extui v1023
  let c0_i32_658 : BitVec 32 := 0#32
  let v1025 : BitVec 1 := Scalar.cmpi .ne v1024 c0_i32_658
  v1025

def k0_off265 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let v1282 : Index := Scalar.indexCast v1281
  ![v1282.toNat]
def k0_off266 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let c0_i32_837 : BitVec 32 := 0#32
  let c0_i32_838 : BitVec 32 := 0#32
  ![v1281.toNat, 0, 0]
def k0_off267 (v1283 : BitVec 32) : Fin 3 → Nat :=
  let c0_i32_839 : BitVec 32 := 0#32
  let c0_i32_840 : BitVec 32 := 0#32
  ![v1283.toNat, 0, 0]

def k0_chk89 (k0_t1 : Fin k0_t1_loop.trips) (v1283 : BitVec 32) : Prop :=
  (∀ (k0_h45 : k0_cond45 k0_t1 = 1#1), ∀ a, (k0_off267 v1283) a + S1x8x128.size a ≤ S13312x8x128.size a) ∧
  (∀ (k0_h45 : k0_cond45 k0_t1 = 1#1), ∀ (hinb : ∀ a, (k0_off267 v1283) a + S1x8x128.size a ≤ S13312x8x128.size a), (Rect.unit (s := S13312x8x128) (k0_off267 v1283) S1x8x128.size hinb).WholeWords (EltTy.packing .bf16))
theorem k0_off267_inb : ∀ (k0_t1 : Fin k0_t1_loop.trips) (v1283 : BitVec 32) (k0_hw89 : k0_chk89 k0_t1 v1283), ∀ (k0_h45 : k0_cond45 k0_t1 = 1#1), ∀ a, (k0_off267 v1283) a + S1x8x128.size a ≤ S13312x8x128.size a := fun k0_t1 v1283 k0_hw89 k0_h45 => k0_hw89.1 k0_h45
theorem k0_off267_wordsbf16 : ∀ (k0_t1 : Fin k0_t1_loop.trips) (v1283 : BitVec 32) (k0_hw89 : k0_chk89 k0_t1 v1283), ∀ (k0_h45 : k0_cond45 k0_t1 = 1#1), (Rect.unit (s := S13312x8x128) (k0_off267 v1283) S1x8x128.size (k0_off267_inb k0_t1 v1283 k0_hw89 k0_h45)).WholeWords (EltTy.packing .bf16) := fun k0_t1 v1283 k0_hw89 k0_h45 => k0_hw89.2 k0_h45 (k0_off267_inb k0_t1 v1283 k0_hw89 k0_h45)

def k0_off268 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let v1026 : Index := Scalar.indexCast v1022
  ![v1026.toNat]
def k0_off269 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c0_i32_660 : BitVec 32 := 0#32
  let c0_i32_661 : BitVec 32 := 0#32
  ![v1022.toNat, 0, 0]
def k0_off270 (v1027 : BitVec 32) : Fin 3 → Nat :=
  let c0_i32_662 : BitVec 32 := 0#32
  let c0_i32_663 : BitVec 32 := 0#32
  ![v1027.toNat, 0, 0]

def k0_chk90 (v1027 : BitVec 32) : Prop :=
  (∀ a, (k0_off270 v1027) a + S1x8x128.size a ≤ S13312x8x128.size a) ∧
  (∀ (hinb : ∀ a, (k0_off270 v1027) a + S1x8x128.size a ≤ S13312x8x128.size a), (Rect.unit (s := S13312x8x128) (k0_off270 v1027) S1x8x128.size hinb).WholeWords (EltTy.packing .bf16))
theorem k0_off270_inb : ∀ (v1027 : BitVec 32) (k0_hw90 : k0_chk90 v1027), ∀ a, (k0_off270 v1027) a + S1x8x128.size a ≤ S13312x8x128.size a := fun v1027 k0_hw90 => k0_hw90.1
theorem k0_off270_wordsbf16 : ∀ (v1027 : BitVec 32) (k0_hw90 : k0_chk90 v1027), (Rect.unit (s := S13312x8x128) (k0_off270 v1027) S1x8x128.size (k0_off270_inb v1027 k0_hw90)).WholeWords (EltTy.packing .bf16) := fun v1027 k0_hw90 => k0_hw90.2 (k0_off270_inb v1027 k0_hw90)

def k0_cond46 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_666 : BitVec 32 := 0#32
  let v1036 : BitVec 1 := Scalar.cmpi .sgt arg4 c0_i32_666
  let v1037 : BitVec 32 := Scalar.extui v1036
  let c0_i32_667 : BitVec 32 := 0#32
  let v1038 : BitVec 1 := Scalar.cmpi .ne v1037 c0_i32_667
  v1038

def k0_off271 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let v1282 : Index := Scalar.indexCast v1281
  ![v1282.toNat]
def k0_off272 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let c0_i32_837 : BitVec 32 := 0#32
  let c0_i32_838 : BitVec 32 := 0#32
  ![v1281.toNat, 0, 0]
def k0_off273 (v1283 : BitVec 32) : Fin 3 → Nat :=
  let c0_i32_839 : BitVec 32 := 0#32
  let c0_i32_840 : BitVec 32 := 0#32
  ![v1283.toNat, 0, 0]

def k0_chk91 (k0_t1 : Fin k0_t1_loop.trips) (v1283 : BitVec 32) : Prop :=
  (∀ (k0_h46 : k0_cond46 k0_t1 = 1#1), ∀ a, (k0_off273 v1283) a + S1x8x128.size a ≤ S13312x8x128.size a) ∧
  (∀ (k0_h46 : k0_cond46 k0_t1 = 1#1), ∀ (hinb : ∀ a, (k0_off273 v1283) a + S1x8x128.size a ≤ S13312x8x128.size a), (Rect.unit (s := S13312x8x128) (k0_off273 v1283) S1x8x128.size hinb).WholeWords (EltTy.packing .bf16))
theorem k0_off273_inb : ∀ (k0_t1 : Fin k0_t1_loop.trips) (v1283 : BitVec 32) (k0_hw91 : k0_chk91 k0_t1 v1283), ∀ (k0_h46 : k0_cond46 k0_t1 = 1#1), ∀ a, (k0_off273 v1283) a + S1x8x128.size a ≤ S13312x8x128.size a := fun k0_t1 v1283 k0_hw91 k0_h46 => k0_hw91.1 k0_h46
theorem k0_off273_wordsbf16 : ∀ (k0_t1 : Fin k0_t1_loop.trips) (v1283 : BitVec 32) (k0_hw91 : k0_chk91 k0_t1 v1283), ∀ (k0_h46 : k0_cond46 k0_t1 = 1#1), (Rect.unit (s := S13312x8x128) (k0_off273 v1283) S1x8x128.size (k0_off273_inb k0_t1 v1283 k0_hw91 k0_h46)).WholeWords (EltTy.packing .bf16) := fun k0_t1 v1283 k0_hw91 k0_h46 => k0_hw91.2 k0_h46 (k0_off273_inb k0_t1 v1283 k0_hw91 k0_h46)

def k0_off274 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let v1039 : Index := Scalar.indexCast v1035
  ![v1039.toNat]
def k0_off275 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c0_i32_669 : BitVec 32 := 0#32
  let c0_i32_670 : BitVec 32 := 0#32
  ![v1035.toNat, 0, 0]
def k0_off276 (v1040 : BitVec 32) : Fin 3 → Nat :=
  let c0_i32_671 : BitVec 32 := 0#32
  let c0_i32_672 : BitVec 32 := 0#32
  ![v1040.toNat, 0, 0]

def k0_chk92 (v1040 : BitVec 32) : Prop :=
  (∀ a, (k0_off276 v1040) a + S1x8x128.size a ≤ S13312x8x128.size a) ∧
  (∀ (hinb : ∀ a, (k0_off276 v1040) a + S1x8x128.size a ≤ S13312x8x128.size a), (Rect.unit (s := S13312x8x128) (k0_off276 v1040) S1x8x128.size hinb).WholeWords (EltTy.packing .bf16))
theorem k0_off276_inb : ∀ (v1040 : BitVec 32) (k0_hw92 : k0_chk92 v1040), ∀ a, (k0_off276 v1040) a + S1x8x128.size a ≤ S13312x8x128.size a := fun v1040 k0_hw92 => k0_hw92.1
theorem k0_off276_wordsbf16 : ∀ (v1040 : BitVec 32) (k0_hw92 : k0_chk92 v1040), (Rect.unit (s := S13312x8x128) (k0_off276 v1040) S1x8x128.size (k0_off276_inb v1040 k0_hw92)).WholeWords (EltTy.packing .bf16) := fun v1040 k0_hw92 => k0_hw92.2 (k0_off276_inb v1040 k0_hw92)

def k0_cond47 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_675 : BitVec 32 := 0#32
  let v1049 : BitVec 1 := Scalar.cmpi .sgt arg4 c0_i32_675
  let v1050 : BitVec 32 := Scalar.extui v1049
  let c0_i32_676 : BitVec 32 := 0#32
  let v1051 : BitVec 1 := Scalar.cmpi .ne v1050 c0_i32_676
  v1051

def k0_off277 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let v1282 : Index := Scalar.indexCast v1281
  ![v1282.toNat]
def k0_off278 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let c0_i32_837 : BitVec 32 := 0#32
  let c0_i32_838 : BitVec 32 := 0#32
  ![v1281.toNat, 0, 0]
def k0_off279 (v1283 : BitVec 32) : Fin 3 → Nat :=
  let c0_i32_839 : BitVec 32 := 0#32
  let c0_i32_840 : BitVec 32 := 0#32
  ![v1283.toNat, 0, 0]

def k0_chk93 (k0_t1 : Fin k0_t1_loop.trips) (v1283 : BitVec 32) : Prop :=
  (∀ (k0_h47 : k0_cond47 k0_t1 = 1#1), ∀ a, (k0_off279 v1283) a + S1x8x128.size a ≤ S13312x8x128.size a) ∧
  (∀ (k0_h47 : k0_cond47 k0_t1 = 1#1), ∀ (hinb : ∀ a, (k0_off279 v1283) a + S1x8x128.size a ≤ S13312x8x128.size a), (Rect.unit (s := S13312x8x128) (k0_off279 v1283) S1x8x128.size hinb).WholeWords (EltTy.packing .bf16))
theorem k0_off279_inb : ∀ (k0_t1 : Fin k0_t1_loop.trips) (v1283 : BitVec 32) (k0_hw93 : k0_chk93 k0_t1 v1283), ∀ (k0_h47 : k0_cond47 k0_t1 = 1#1), ∀ a, (k0_off279 v1283) a + S1x8x128.size a ≤ S13312x8x128.size a := fun k0_t1 v1283 k0_hw93 k0_h47 => k0_hw93.1 k0_h47
theorem k0_off279_wordsbf16 : ∀ (k0_t1 : Fin k0_t1_loop.trips) (v1283 : BitVec 32) (k0_hw93 : k0_chk93 k0_t1 v1283), ∀ (k0_h47 : k0_cond47 k0_t1 = 1#1), (Rect.unit (s := S13312x8x128) (k0_off279 v1283) S1x8x128.size (k0_off279_inb k0_t1 v1283 k0_hw93 k0_h47)).WholeWords (EltTy.packing .bf16) := fun k0_t1 v1283 k0_hw93 k0_h47 => k0_hw93.2 k0_h47 (k0_off279_inb k0_t1 v1283 k0_hw93 k0_h47)

def k0_off280 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let v1052 : Index := Scalar.indexCast v1048
  ![v1052.toNat]
def k0_off281 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c0_i32_678 : BitVec 32 := 0#32
  let c0_i32_679 : BitVec 32 := 0#32
  ![v1048.toNat, 0, 0]
def k0_off282 (v1053 : BitVec 32) : Fin 3 → Nat :=
  let c0_i32_680 : BitVec 32 := 0#32
  let c0_i32_681 : BitVec 32 := 0#32
  ![v1053.toNat, 0, 0]

def k0_chk94 (v1053 : BitVec 32) : Prop :=
  (∀ a, (k0_off282 v1053) a + S1x8x128.size a ≤ S13312x8x128.size a) ∧
  (∀ (hinb : ∀ a, (k0_off282 v1053) a + S1x8x128.size a ≤ S13312x8x128.size a), (Rect.unit (s := S13312x8x128) (k0_off282 v1053) S1x8x128.size hinb).WholeWords (EltTy.packing .bf16))
theorem k0_off282_inb : ∀ (v1053 : BitVec 32) (k0_hw94 : k0_chk94 v1053), ∀ a, (k0_off282 v1053) a + S1x8x128.size a ≤ S13312x8x128.size a := fun v1053 k0_hw94 => k0_hw94.1
theorem k0_off282_wordsbf16 : ∀ (v1053 : BitVec 32) (k0_hw94 : k0_chk94 v1053), (Rect.unit (s := S13312x8x128) (k0_off282 v1053) S1x8x128.size (k0_off282_inb v1053 k0_hw94)).WholeWords (EltTy.packing .bf16) := fun v1053 k0_hw94 => k0_hw94.2 (k0_off282_inb v1053 k0_hw94)

def k0_cond48 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_684 : BitVec 32 := 0#32
  let v1062 : BitVec 1 := Scalar.cmpi .sgt arg4 c0_i32_684
  let v1063 : BitVec 32 := Scalar.extui v1062
  let c0_i32_685 : BitVec 32 := 0#32
  let v1064 : BitVec 1 := Scalar.cmpi .ne v1063 c0_i32_685
  v1064

def k0_off283 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let v1282 : Index := Scalar.indexCast v1281
  ![v1282.toNat]
def k0_off284 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let c0_i32_837 : BitVec 32 := 0#32
  let c0_i32_838 : BitVec 32 := 0#32
  ![v1281.toNat, 0, 0]
def k0_off285 (v1283 : BitVec 32) : Fin 3 → Nat :=
  let c0_i32_839 : BitVec 32 := 0#32
  let c0_i32_840 : BitVec 32 := 0#32
  ![v1283.toNat, 0, 0]

def k0_chk95 (k0_t1 : Fin k0_t1_loop.trips) (v1283 : BitVec 32) : Prop :=
  (∀ (k0_h48 : k0_cond48 k0_t1 = 1#1), ∀ a, (k0_off285 v1283) a + S1x8x128.size a ≤ S13312x8x128.size a) ∧
  (∀ (k0_h48 : k0_cond48 k0_t1 = 1#1), ∀ (hinb : ∀ a, (k0_off285 v1283) a + S1x8x128.size a ≤ S13312x8x128.size a), (Rect.unit (s := S13312x8x128) (k0_off285 v1283) S1x8x128.size hinb).WholeWords (EltTy.packing .bf16))
theorem k0_off285_inb : ∀ (k0_t1 : Fin k0_t1_loop.trips) (v1283 : BitVec 32) (k0_hw95 : k0_chk95 k0_t1 v1283), ∀ (k0_h48 : k0_cond48 k0_t1 = 1#1), ∀ a, (k0_off285 v1283) a + S1x8x128.size a ≤ S13312x8x128.size a := fun k0_t1 v1283 k0_hw95 k0_h48 => k0_hw95.1 k0_h48
theorem k0_off285_wordsbf16 : ∀ (k0_t1 : Fin k0_t1_loop.trips) (v1283 : BitVec 32) (k0_hw95 : k0_chk95 k0_t1 v1283), ∀ (k0_h48 : k0_cond48 k0_t1 = 1#1), (Rect.unit (s := S13312x8x128) (k0_off285 v1283) S1x8x128.size (k0_off285_inb k0_t1 v1283 k0_hw95 k0_h48)).WholeWords (EltTy.packing .bf16) := fun k0_t1 v1283 k0_hw95 k0_h48 => k0_hw95.2 k0_h48 (k0_off285_inb k0_t1 v1283 k0_hw95 k0_h48)

def k0_off286 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let v1065 : Index := Scalar.indexCast v1061
  ![v1065.toNat]
def k0_off287 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c0_i32_687 : BitVec 32 := 0#32
  let c0_i32_688 : BitVec 32 := 0#32
  ![v1061.toNat, 0, 0]
def k0_off288 (v1066 : BitVec 32) : Fin 3 → Nat :=
  let c0_i32_689 : BitVec 32 := 0#32
  let c0_i32_690 : BitVec 32 := 0#32
  ![v1066.toNat, 0, 0]

def k0_chk96 (v1066 : BitVec 32) : Prop :=
  (∀ a, (k0_off288 v1066) a + S1x8x128.size a ≤ S13312x8x128.size a) ∧
  (∀ (hinb : ∀ a, (k0_off288 v1066) a + S1x8x128.size a ≤ S13312x8x128.size a), (Rect.unit (s := S13312x8x128) (k0_off288 v1066) S1x8x128.size hinb).WholeWords (EltTy.packing .bf16))
theorem k0_off288_inb : ∀ (v1066 : BitVec 32) (k0_hw96 : k0_chk96 v1066), ∀ a, (k0_off288 v1066) a + S1x8x128.size a ≤ S13312x8x128.size a := fun v1066 k0_hw96 => k0_hw96.1
theorem k0_off288_wordsbf16 : ∀ (v1066 : BitVec 32) (k0_hw96 : k0_chk96 v1066), (Rect.unit (s := S13312x8x128) (k0_off288 v1066) S1x8x128.size (k0_off288_inb v1066 k0_hw96)).WholeWords (EltTy.packing .bf16) := fun v1066 k0_hw96 => k0_hw96.2 (k0_off288_inb v1066 k0_hw96)

def k0_cond49 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_693 : BitVec 32 := 0#32
  let v1075 : BitVec 1 := Scalar.cmpi .sgt arg4 c0_i32_693
  let v1076 : BitVec 32 := Scalar.extui v1075
  let c0_i32_694 : BitVec 32 := 0#32
  let v1077 : BitVec 1 := Scalar.cmpi .ne v1076 c0_i32_694
  v1077

def k0_off289 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let v1282 : Index := Scalar.indexCast v1281
  ![v1282.toNat]
def k0_off290 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let c0_i32_837 : BitVec 32 := 0#32
  let c0_i32_838 : BitVec 32 := 0#32
  ![v1281.toNat, 0, 0]
def k0_off291 (v1283 : BitVec 32) : Fin 3 → Nat :=
  let c0_i32_839 : BitVec 32 := 0#32
  let c0_i32_840 : BitVec 32 := 0#32
  ![v1283.toNat, 0, 0]

def k0_chk97 (k0_t1 : Fin k0_t1_loop.trips) (v1283 : BitVec 32) : Prop :=
  (∀ (k0_h49 : k0_cond49 k0_t1 = 1#1), ∀ a, (k0_off291 v1283) a + S1x8x128.size a ≤ S13312x8x128.size a) ∧
  (∀ (k0_h49 : k0_cond49 k0_t1 = 1#1), ∀ (hinb : ∀ a, (k0_off291 v1283) a + S1x8x128.size a ≤ S13312x8x128.size a), (Rect.unit (s := S13312x8x128) (k0_off291 v1283) S1x8x128.size hinb).WholeWords (EltTy.packing .bf16))
theorem k0_off291_inb : ∀ (k0_t1 : Fin k0_t1_loop.trips) (v1283 : BitVec 32) (k0_hw97 : k0_chk97 k0_t1 v1283), ∀ (k0_h49 : k0_cond49 k0_t1 = 1#1), ∀ a, (k0_off291 v1283) a + S1x8x128.size a ≤ S13312x8x128.size a := fun k0_t1 v1283 k0_hw97 k0_h49 => k0_hw97.1 k0_h49
theorem k0_off291_wordsbf16 : ∀ (k0_t1 : Fin k0_t1_loop.trips) (v1283 : BitVec 32) (k0_hw97 : k0_chk97 k0_t1 v1283), ∀ (k0_h49 : k0_cond49 k0_t1 = 1#1), (Rect.unit (s := S13312x8x128) (k0_off291 v1283) S1x8x128.size (k0_off291_inb k0_t1 v1283 k0_hw97 k0_h49)).WholeWords (EltTy.packing .bf16) := fun k0_t1 v1283 k0_hw97 k0_h49 => k0_hw97.2 k0_h49 (k0_off291_inb k0_t1 v1283 k0_hw97 k0_h49)

def k0_off292 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let v1078 : Index := Scalar.indexCast v1074
  ![v1078.toNat]
def k0_off293 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c0_i32_696 : BitVec 32 := 0#32
  let c0_i32_697 : BitVec 32 := 0#32
  ![v1074.toNat, 0, 0]
def k0_off294 (v1079 : BitVec 32) : Fin 3 → Nat :=
  let c0_i32_698 : BitVec 32 := 0#32
  let c0_i32_699 : BitVec 32 := 0#32
  ![v1079.toNat, 0, 0]

def k0_chk98 (v1079 : BitVec 32) : Prop :=
  (∀ a, (k0_off294 v1079) a + S1x8x128.size a ≤ S13312x8x128.size a) ∧
  (∀ (hinb : ∀ a, (k0_off294 v1079) a + S1x8x128.size a ≤ S13312x8x128.size a), (Rect.unit (s := S13312x8x128) (k0_off294 v1079) S1x8x128.size hinb).WholeWords (EltTy.packing .bf16))
theorem k0_off294_inb : ∀ (v1079 : BitVec 32) (k0_hw98 : k0_chk98 v1079), ∀ a, (k0_off294 v1079) a + S1x8x128.size a ≤ S13312x8x128.size a := fun v1079 k0_hw98 => k0_hw98.1
theorem k0_off294_wordsbf16 : ∀ (v1079 : BitVec 32) (k0_hw98 : k0_chk98 v1079), (Rect.unit (s := S13312x8x128) (k0_off294 v1079) S1x8x128.size (k0_off294_inb v1079 k0_hw98)).WholeWords (EltTy.packing .bf16) := fun v1079 k0_hw98 => k0_hw98.2 (k0_off294_inb v1079 k0_hw98)

def k0_cond50 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_702 : BitVec 32 := 0#32
  let v1088 : BitVec 1 := Scalar.cmpi .sgt arg4 c0_i32_702
  let v1089 : BitVec 32 := Scalar.extui v1088
  let c0_i32_703 : BitVec 32 := 0#32
  let v1090 : BitVec 1 := Scalar.cmpi .ne v1089 c0_i32_703
  v1090

def k0_off295 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let v1282 : Index := Scalar.indexCast v1281
  ![v1282.toNat]
def k0_off296 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let c0_i32_837 : BitVec 32 := 0#32
  let c0_i32_838 : BitVec 32 := 0#32
  ![v1281.toNat, 0, 0]
def k0_off297 (v1283 : BitVec 32) : Fin 3 → Nat :=
  let c0_i32_839 : BitVec 32 := 0#32
  let c0_i32_840 : BitVec 32 := 0#32
  ![v1283.toNat, 0, 0]

def k0_chk99 (k0_t1 : Fin k0_t1_loop.trips) (v1283 : BitVec 32) : Prop :=
  (∀ (k0_h50 : k0_cond50 k0_t1 = 1#1), ∀ a, (k0_off297 v1283) a + S1x8x128.size a ≤ S13312x8x128.size a) ∧
  (∀ (k0_h50 : k0_cond50 k0_t1 = 1#1), ∀ (hinb : ∀ a, (k0_off297 v1283) a + S1x8x128.size a ≤ S13312x8x128.size a), (Rect.unit (s := S13312x8x128) (k0_off297 v1283) S1x8x128.size hinb).WholeWords (EltTy.packing .bf16))
theorem k0_off297_inb : ∀ (k0_t1 : Fin k0_t1_loop.trips) (v1283 : BitVec 32) (k0_hw99 : k0_chk99 k0_t1 v1283), ∀ (k0_h50 : k0_cond50 k0_t1 = 1#1), ∀ a, (k0_off297 v1283) a + S1x8x128.size a ≤ S13312x8x128.size a := fun k0_t1 v1283 k0_hw99 k0_h50 => k0_hw99.1 k0_h50
theorem k0_off297_wordsbf16 : ∀ (k0_t1 : Fin k0_t1_loop.trips) (v1283 : BitVec 32) (k0_hw99 : k0_chk99 k0_t1 v1283), ∀ (k0_h50 : k0_cond50 k0_t1 = 1#1), (Rect.unit (s := S13312x8x128) (k0_off297 v1283) S1x8x128.size (k0_off297_inb k0_t1 v1283 k0_hw99 k0_h50)).WholeWords (EltTy.packing .bf16) := fun k0_t1 v1283 k0_hw99 k0_h50 => k0_hw99.2 k0_h50 (k0_off297_inb k0_t1 v1283 k0_hw99 k0_h50)

def k0_off298 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let v1091 : Index := Scalar.indexCast v1087
  ![v1091.toNat]
def k0_off299 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c0_i32_705 : BitVec 32 := 0#32
  let c0_i32_706 : BitVec 32 := 0#32
  ![v1087.toNat, 0, 0]
def k0_off300 (v1092 : BitVec 32) : Fin 3 → Nat :=
  let c0_i32_707 : BitVec 32 := 0#32
  let c0_i32_708 : BitVec 32 := 0#32
  ![v1092.toNat, 0, 0]

def k0_chk100 (v1092 : BitVec 32) : Prop :=
  (∀ a, (k0_off300 v1092) a + S1x8x128.size a ≤ S13312x8x128.size a) ∧
  (∀ (hinb : ∀ a, (k0_off300 v1092) a + S1x8x128.size a ≤ S13312x8x128.size a), (Rect.unit (s := S13312x8x128) (k0_off300 v1092) S1x8x128.size hinb).WholeWords (EltTy.packing .bf16))
theorem k0_off300_inb : ∀ (v1092 : BitVec 32) (k0_hw100 : k0_chk100 v1092), ∀ a, (k0_off300 v1092) a + S1x8x128.size a ≤ S13312x8x128.size a := fun v1092 k0_hw100 => k0_hw100.1
theorem k0_off300_wordsbf16 : ∀ (v1092 : BitVec 32) (k0_hw100 : k0_chk100 v1092), (Rect.unit (s := S13312x8x128) (k0_off300 v1092) S1x8x128.size (k0_off300_inb v1092 k0_hw100)).WholeWords (EltTy.packing .bf16) := fun v1092 k0_hw100 => k0_hw100.2 (k0_off300_inb v1092 k0_hw100)

def k0_cond51 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_711 : BitVec 32 := 0#32
  let v1101 : BitVec 1 := Scalar.cmpi .sgt arg4 c0_i32_711
  let v1102 : BitVec 32 := Scalar.extui v1101
  let c0_i32_712 : BitVec 32 := 0#32
  let v1103 : BitVec 1 := Scalar.cmpi .ne v1102 c0_i32_712
  v1103

def k0_off301 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let v1282 : Index := Scalar.indexCast v1281
  ![v1282.toNat]
def k0_off302 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let c0_i32_837 : BitVec 32 := 0#32
  let c0_i32_838 : BitVec 32 := 0#32
  ![v1281.toNat, 0, 0]
def k0_off303 (v1283 : BitVec 32) : Fin 3 → Nat :=
  let c0_i32_839 : BitVec 32 := 0#32
  let c0_i32_840 : BitVec 32 := 0#32
  ![v1283.toNat, 0, 0]

def k0_chk101 (k0_t1 : Fin k0_t1_loop.trips) (v1283 : BitVec 32) : Prop :=
  (∀ (k0_h51 : k0_cond51 k0_t1 = 1#1), ∀ a, (k0_off303 v1283) a + S1x8x128.size a ≤ S13312x8x128.size a) ∧
  (∀ (k0_h51 : k0_cond51 k0_t1 = 1#1), ∀ (hinb : ∀ a, (k0_off303 v1283) a + S1x8x128.size a ≤ S13312x8x128.size a), (Rect.unit (s := S13312x8x128) (k0_off303 v1283) S1x8x128.size hinb).WholeWords (EltTy.packing .bf16))
theorem k0_off303_inb : ∀ (k0_t1 : Fin k0_t1_loop.trips) (v1283 : BitVec 32) (k0_hw101 : k0_chk101 k0_t1 v1283), ∀ (k0_h51 : k0_cond51 k0_t1 = 1#1), ∀ a, (k0_off303 v1283) a + S1x8x128.size a ≤ S13312x8x128.size a := fun k0_t1 v1283 k0_hw101 k0_h51 => k0_hw101.1 k0_h51
theorem k0_off303_wordsbf16 : ∀ (k0_t1 : Fin k0_t1_loop.trips) (v1283 : BitVec 32) (k0_hw101 : k0_chk101 k0_t1 v1283), ∀ (k0_h51 : k0_cond51 k0_t1 = 1#1), (Rect.unit (s := S13312x8x128) (k0_off303 v1283) S1x8x128.size (k0_off303_inb k0_t1 v1283 k0_hw101 k0_h51)).WholeWords (EltTy.packing .bf16) := fun k0_t1 v1283 k0_hw101 k0_h51 => k0_hw101.2 k0_h51 (k0_off303_inb k0_t1 v1283 k0_hw101 k0_h51)

def k0_off304 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let v1104 : Index := Scalar.indexCast v1100
  ![v1104.toNat]
def k0_off305 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c0_i32_714 : BitVec 32 := 0#32
  let c0_i32_715 : BitVec 32 := 0#32
  ![v1100.toNat, 0, 0]
def k0_off306 (v1105 : BitVec 32) : Fin 3 → Nat :=
  let c0_i32_716 : BitVec 32 := 0#32
  let c0_i32_717 : BitVec 32 := 0#32
  ![v1105.toNat, 0, 0]

def k0_chk102 (v1105 : BitVec 32) : Prop :=
  (∀ a, (k0_off306 v1105) a + S1x8x128.size a ≤ S13312x8x128.size a) ∧
  (∀ (hinb : ∀ a, (k0_off306 v1105) a + S1x8x128.size a ≤ S13312x8x128.size a), (Rect.unit (s := S13312x8x128) (k0_off306 v1105) S1x8x128.size hinb).WholeWords (EltTy.packing .bf16))
theorem k0_off306_inb : ∀ (v1105 : BitVec 32) (k0_hw102 : k0_chk102 v1105), ∀ a, (k0_off306 v1105) a + S1x8x128.size a ≤ S13312x8x128.size a := fun v1105 k0_hw102 => k0_hw102.1
theorem k0_off306_wordsbf16 : ∀ (v1105 : BitVec 32) (k0_hw102 : k0_chk102 v1105), (Rect.unit (s := S13312x8x128) (k0_off306 v1105) S1x8x128.size (k0_off306_inb v1105 k0_hw102)).WholeWords (EltTy.packing .bf16) := fun v1105 k0_hw102 => k0_hw102.2 (k0_off306_inb v1105 k0_hw102)

def k0_cond52 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_720 : BitVec 32 := 0#32
  let v1114 : BitVec 1 := Scalar.cmpi .sgt arg4 c0_i32_720
  let v1115 : BitVec 32 := Scalar.extui v1114
  let c0_i32_721 : BitVec 32 := 0#32
  let v1116 : BitVec 1 := Scalar.cmpi .ne v1115 c0_i32_721
  v1116

def k0_off307 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let v1282 : Index := Scalar.indexCast v1281
  ![v1282.toNat]
def k0_off308 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let c0_i32_837 : BitVec 32 := 0#32
  let c0_i32_838 : BitVec 32 := 0#32
  ![v1281.toNat, 0, 0]
def k0_off309 (v1283 : BitVec 32) : Fin 3 → Nat :=
  let c0_i32_839 : BitVec 32 := 0#32
  let c0_i32_840 : BitVec 32 := 0#32
  ![v1283.toNat, 0, 0]

def k0_chk103 (k0_t1 : Fin k0_t1_loop.trips) (v1283 : BitVec 32) : Prop :=
  (∀ (k0_h52 : k0_cond52 k0_t1 = 1#1), ∀ a, (k0_off309 v1283) a + S1x8x128.size a ≤ S13312x8x128.size a) ∧
  (∀ (k0_h52 : k0_cond52 k0_t1 = 1#1), ∀ (hinb : ∀ a, (k0_off309 v1283) a + S1x8x128.size a ≤ S13312x8x128.size a), (Rect.unit (s := S13312x8x128) (k0_off309 v1283) S1x8x128.size hinb).WholeWords (EltTy.packing .bf16))
theorem k0_off309_inb : ∀ (k0_t1 : Fin k0_t1_loop.trips) (v1283 : BitVec 32) (k0_hw103 : k0_chk103 k0_t1 v1283), ∀ (k0_h52 : k0_cond52 k0_t1 = 1#1), ∀ a, (k0_off309 v1283) a + S1x8x128.size a ≤ S13312x8x128.size a := fun k0_t1 v1283 k0_hw103 k0_h52 => k0_hw103.1 k0_h52
theorem k0_off309_wordsbf16 : ∀ (k0_t1 : Fin k0_t1_loop.trips) (v1283 : BitVec 32) (k0_hw103 : k0_chk103 k0_t1 v1283), ∀ (k0_h52 : k0_cond52 k0_t1 = 1#1), (Rect.unit (s := S13312x8x128) (k0_off309 v1283) S1x8x128.size (k0_off309_inb k0_t1 v1283 k0_hw103 k0_h52)).WholeWords (EltTy.packing .bf16) := fun k0_t1 v1283 k0_hw103 k0_h52 => k0_hw103.2 k0_h52 (k0_off309_inb k0_t1 v1283 k0_hw103 k0_h52)

def k0_off310 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let v1117 : Index := Scalar.indexCast v1113
  ![v1117.toNat]
def k0_off311 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c0_i32_723 : BitVec 32 := 0#32
  let c0_i32_724 : BitVec 32 := 0#32
  ![v1113.toNat, 0, 0]
def k0_off312 (v1118 : BitVec 32) : Fin 3 → Nat :=
  let c0_i32_725 : BitVec 32 := 0#32
  let c0_i32_726 : BitVec 32 := 0#32
  ![v1118.toNat, 0, 0]

def k0_chk104 (v1118 : BitVec 32) : Prop :=
  (∀ a, (k0_off312 v1118) a + S1x8x128.size a ≤ S13312x8x128.size a) ∧
  (∀ (hinb : ∀ a, (k0_off312 v1118) a + S1x8x128.size a ≤ S13312x8x128.size a), (Rect.unit (s := S13312x8x128) (k0_off312 v1118) S1x8x128.size hinb).WholeWords (EltTy.packing .bf16))
theorem k0_off312_inb : ∀ (v1118 : BitVec 32) (k0_hw104 : k0_chk104 v1118), ∀ a, (k0_off312 v1118) a + S1x8x128.size a ≤ S13312x8x128.size a := fun v1118 k0_hw104 => k0_hw104.1
theorem k0_off312_wordsbf16 : ∀ (v1118 : BitVec 32) (k0_hw104 : k0_chk104 v1118), (Rect.unit (s := S13312x8x128) (k0_off312 v1118) S1x8x128.size (k0_off312_inb v1118 k0_hw104)).WholeWords (EltTy.packing .bf16) := fun v1118 k0_hw104 => k0_hw104.2 (k0_off312_inb v1118 k0_hw104)

def k0_cond53 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_729 : BitVec 32 := 0#32
  let v1127 : BitVec 1 := Scalar.cmpi .sgt arg4 c0_i32_729
  let v1128 : BitVec 32 := Scalar.extui v1127
  let c0_i32_730 : BitVec 32 := 0#32
  let v1129 : BitVec 1 := Scalar.cmpi .ne v1128 c0_i32_730
  v1129

def k0_off313 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let v1282 : Index := Scalar.indexCast v1281
  ![v1282.toNat]
def k0_off314 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let c0_i32_837 : BitVec 32 := 0#32
  let c0_i32_838 : BitVec 32 := 0#32
  ![v1281.toNat, 0, 0]
def k0_off315 (v1283 : BitVec 32) : Fin 3 → Nat :=
  let c0_i32_839 : BitVec 32 := 0#32
  let c0_i32_840 : BitVec 32 := 0#32
  ![v1283.toNat, 0, 0]

def k0_chk105 (k0_t1 : Fin k0_t1_loop.trips) (v1283 : BitVec 32) : Prop :=
  (∀ (k0_h53 : k0_cond53 k0_t1 = 1#1), ∀ a, (k0_off315 v1283) a + S1x8x128.size a ≤ S13312x8x128.size a) ∧
  (∀ (k0_h53 : k0_cond53 k0_t1 = 1#1), ∀ (hinb : ∀ a, (k0_off315 v1283) a + S1x8x128.size a ≤ S13312x8x128.size a), (Rect.unit (s := S13312x8x128) (k0_off315 v1283) S1x8x128.size hinb).WholeWords (EltTy.packing .bf16))
theorem k0_off315_inb : ∀ (k0_t1 : Fin k0_t1_loop.trips) (v1283 : BitVec 32) (k0_hw105 : k0_chk105 k0_t1 v1283), ∀ (k0_h53 : k0_cond53 k0_t1 = 1#1), ∀ a, (k0_off315 v1283) a + S1x8x128.size a ≤ S13312x8x128.size a := fun k0_t1 v1283 k0_hw105 k0_h53 => k0_hw105.1 k0_h53
theorem k0_off315_wordsbf16 : ∀ (k0_t1 : Fin k0_t1_loop.trips) (v1283 : BitVec 32) (k0_hw105 : k0_chk105 k0_t1 v1283), ∀ (k0_h53 : k0_cond53 k0_t1 = 1#1), (Rect.unit (s := S13312x8x128) (k0_off315 v1283) S1x8x128.size (k0_off315_inb k0_t1 v1283 k0_hw105 k0_h53)).WholeWords (EltTy.packing .bf16) := fun k0_t1 v1283 k0_hw105 k0_h53 => k0_hw105.2 k0_h53 (k0_off315_inb k0_t1 v1283 k0_hw105 k0_h53)

def k0_off316 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let v1130 : Index := Scalar.indexCast v1126
  ![v1130.toNat]
def k0_off317 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c0_i32_732 : BitVec 32 := 0#32
  let c0_i32_733 : BitVec 32 := 0#32
  ![v1126.toNat, 0, 0]
def k0_off318 (v1131 : BitVec 32) : Fin 3 → Nat :=
  let c0_i32_734 : BitVec 32 := 0#32
  let c0_i32_735 : BitVec 32 := 0#32
  ![v1131.toNat, 0, 0]

def k0_chk106 (v1131 : BitVec 32) : Prop :=
  (∀ a, (k0_off318 v1131) a + S1x8x128.size a ≤ S13312x8x128.size a) ∧
  (∀ (hinb : ∀ a, (k0_off318 v1131) a + S1x8x128.size a ≤ S13312x8x128.size a), (Rect.unit (s := S13312x8x128) (k0_off318 v1131) S1x8x128.size hinb).WholeWords (EltTy.packing .bf16))
theorem k0_off318_inb : ∀ (v1131 : BitVec 32) (k0_hw106 : k0_chk106 v1131), ∀ a, (k0_off318 v1131) a + S1x8x128.size a ≤ S13312x8x128.size a := fun v1131 k0_hw106 => k0_hw106.1
theorem k0_off318_wordsbf16 : ∀ (v1131 : BitVec 32) (k0_hw106 : k0_chk106 v1131), (Rect.unit (s := S13312x8x128) (k0_off318 v1131) S1x8x128.size (k0_off318_inb v1131 k0_hw106)).WholeWords (EltTy.packing .bf16) := fun v1131 k0_hw106 => k0_hw106.2 (k0_off318_inb v1131 k0_hw106)

def k0_cond54 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_738 : BitVec 32 := 0#32
  let v1140 : BitVec 1 := Scalar.cmpi .sgt arg4 c0_i32_738
  let v1141 : BitVec 32 := Scalar.extui v1140
  let c0_i32_739 : BitVec 32 := 0#32
  let v1142 : BitVec 1 := Scalar.cmpi .ne v1141 c0_i32_739
  v1142

def k0_off319 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let v1282 : Index := Scalar.indexCast v1281
  ![v1282.toNat]
def k0_off320 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let c0_i32_837 : BitVec 32 := 0#32
  let c0_i32_838 : BitVec 32 := 0#32
  ![v1281.toNat, 0, 0]
def k0_off321 (v1283 : BitVec 32) : Fin 3 → Nat :=
  let c0_i32_839 : BitVec 32 := 0#32
  let c0_i32_840 : BitVec 32 := 0#32
  ![v1283.toNat, 0, 0]

def k0_chk107 (k0_t1 : Fin k0_t1_loop.trips) (v1283 : BitVec 32) : Prop :=
  (∀ (k0_h54 : k0_cond54 k0_t1 = 1#1), ∀ a, (k0_off321 v1283) a + S1x8x128.size a ≤ S13312x8x128.size a) ∧
  (∀ (k0_h54 : k0_cond54 k0_t1 = 1#1), ∀ (hinb : ∀ a, (k0_off321 v1283) a + S1x8x128.size a ≤ S13312x8x128.size a), (Rect.unit (s := S13312x8x128) (k0_off321 v1283) S1x8x128.size hinb).WholeWords (EltTy.packing .bf16))
theorem k0_off321_inb : ∀ (k0_t1 : Fin k0_t1_loop.trips) (v1283 : BitVec 32) (k0_hw107 : k0_chk107 k0_t1 v1283), ∀ (k0_h54 : k0_cond54 k0_t1 = 1#1), ∀ a, (k0_off321 v1283) a + S1x8x128.size a ≤ S13312x8x128.size a := fun k0_t1 v1283 k0_hw107 k0_h54 => k0_hw107.1 k0_h54
theorem k0_off321_wordsbf16 : ∀ (k0_t1 : Fin k0_t1_loop.trips) (v1283 : BitVec 32) (k0_hw107 : k0_chk107 k0_t1 v1283), ∀ (k0_h54 : k0_cond54 k0_t1 = 1#1), (Rect.unit (s := S13312x8x128) (k0_off321 v1283) S1x8x128.size (k0_off321_inb k0_t1 v1283 k0_hw107 k0_h54)).WholeWords (EltTy.packing .bf16) := fun k0_t1 v1283 k0_hw107 k0_h54 => k0_hw107.2 k0_h54 (k0_off321_inb k0_t1 v1283 k0_hw107 k0_h54)

def k0_off322 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let v1143 : Index := Scalar.indexCast v1139
  ![v1143.toNat]
def k0_off323 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c0_i32_741 : BitVec 32 := 0#32
  let c0_i32_742 : BitVec 32 := 0#32
  ![v1139.toNat, 0, 0]
def k0_off324 (v1144 : BitVec 32) : Fin 3 → Nat :=
  let c0_i32_743 : BitVec 32 := 0#32
  let c0_i32_744 : BitVec 32 := 0#32
  ![v1144.toNat, 0, 0]

def k0_chk108 (v1144 : BitVec 32) : Prop :=
  (∀ a, (k0_off324 v1144) a + S1x8x128.size a ≤ S13312x8x128.size a) ∧
  (∀ (hinb : ∀ a, (k0_off324 v1144) a + S1x8x128.size a ≤ S13312x8x128.size a), (Rect.unit (s := S13312x8x128) (k0_off324 v1144) S1x8x128.size hinb).WholeWords (EltTy.packing .bf16))
theorem k0_off324_inb : ∀ (v1144 : BitVec 32) (k0_hw108 : k0_chk108 v1144), ∀ a, (k0_off324 v1144) a + S1x8x128.size a ≤ S13312x8x128.size a := fun v1144 k0_hw108 => k0_hw108.1
theorem k0_off324_wordsbf16 : ∀ (v1144 : BitVec 32) (k0_hw108 : k0_chk108 v1144), (Rect.unit (s := S13312x8x128) (k0_off324 v1144) S1x8x128.size (k0_off324_inb v1144 k0_hw108)).WholeWords (EltTy.packing .bf16) := fun v1144 k0_hw108 => k0_hw108.2 (k0_off324_inb v1144 k0_hw108)

def k0_cond55 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_747 : BitVec 32 := 0#32
  let v1153 : BitVec 1 := Scalar.cmpi .sgt arg4 c0_i32_747
  let v1154 : BitVec 32 := Scalar.extui v1153
  let c0_i32_748 : BitVec 32 := 0#32
  let v1155 : BitVec 1 := Scalar.cmpi .ne v1154 c0_i32_748
  v1155

def k0_off325 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let v1282 : Index := Scalar.indexCast v1281
  ![v1282.toNat]
def k0_off326 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let c0_i32_837 : BitVec 32 := 0#32
  let c0_i32_838 : BitVec 32 := 0#32
  ![v1281.toNat, 0, 0]
def k0_off327 (v1283 : BitVec 32) : Fin 3 → Nat :=
  let c0_i32_839 : BitVec 32 := 0#32
  let c0_i32_840 : BitVec 32 := 0#32
  ![v1283.toNat, 0, 0]

def k0_chk109 (k0_t1 : Fin k0_t1_loop.trips) (v1283 : BitVec 32) : Prop :=
  (∀ (k0_h55 : k0_cond55 k0_t1 = 1#1), ∀ a, (k0_off327 v1283) a + S1x8x128.size a ≤ S13312x8x128.size a) ∧
  (∀ (k0_h55 : k0_cond55 k0_t1 = 1#1), ∀ (hinb : ∀ a, (k0_off327 v1283) a + S1x8x128.size a ≤ S13312x8x128.size a), (Rect.unit (s := S13312x8x128) (k0_off327 v1283) S1x8x128.size hinb).WholeWords (EltTy.packing .bf16))
theorem k0_off327_inb : ∀ (k0_t1 : Fin k0_t1_loop.trips) (v1283 : BitVec 32) (k0_hw109 : k0_chk109 k0_t1 v1283), ∀ (k0_h55 : k0_cond55 k0_t1 = 1#1), ∀ a, (k0_off327 v1283) a + S1x8x128.size a ≤ S13312x8x128.size a := fun k0_t1 v1283 k0_hw109 k0_h55 => k0_hw109.1 k0_h55
theorem k0_off327_wordsbf16 : ∀ (k0_t1 : Fin k0_t1_loop.trips) (v1283 : BitVec 32) (k0_hw109 : k0_chk109 k0_t1 v1283), ∀ (k0_h55 : k0_cond55 k0_t1 = 1#1), (Rect.unit (s := S13312x8x128) (k0_off327 v1283) S1x8x128.size (k0_off327_inb k0_t1 v1283 k0_hw109 k0_h55)).WholeWords (EltTy.packing .bf16) := fun k0_t1 v1283 k0_hw109 k0_h55 => k0_hw109.2 k0_h55 (k0_off327_inb k0_t1 v1283 k0_hw109 k0_h55)

def k0_off328 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let v1156 : Index := Scalar.indexCast v1152
  ![v1156.toNat]
def k0_off329 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c0_i32_750 : BitVec 32 := 0#32
  let c0_i32_751 : BitVec 32 := 0#32
  ![v1152.toNat, 0, 0]
def k0_off330 (v1157 : BitVec 32) : Fin 3 → Nat :=
  let c0_i32_752 : BitVec 32 := 0#32
  let c0_i32_753 : BitVec 32 := 0#32
  ![v1157.toNat, 0, 0]

def k0_chk110 (v1157 : BitVec 32) : Prop :=
  (∀ a, (k0_off330 v1157) a + S1x8x128.size a ≤ S13312x8x128.size a) ∧
  (∀ (hinb : ∀ a, (k0_off330 v1157) a + S1x8x128.size a ≤ S13312x8x128.size a), (Rect.unit (s := S13312x8x128) (k0_off330 v1157) S1x8x128.size hinb).WholeWords (EltTy.packing .bf16))
theorem k0_off330_inb : ∀ (v1157 : BitVec 32) (k0_hw110 : k0_chk110 v1157), ∀ a, (k0_off330 v1157) a + S1x8x128.size a ≤ S13312x8x128.size a := fun v1157 k0_hw110 => k0_hw110.1
theorem k0_off330_wordsbf16 : ∀ (v1157 : BitVec 32) (k0_hw110 : k0_chk110 v1157), (Rect.unit (s := S13312x8x128) (k0_off330 v1157) S1x8x128.size (k0_off330_inb v1157 k0_hw110)).WholeWords (EltTy.packing .bf16) := fun v1157 k0_hw110 => k0_hw110.2 (k0_off330_inb v1157 k0_hw110)

def k0_cond56 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_756 : BitVec 32 := 0#32
  let v1166 : BitVec 1 := Scalar.cmpi .sgt arg4 c0_i32_756
  let v1167 : BitVec 32 := Scalar.extui v1166
  let c0_i32_757 : BitVec 32 := 0#32
  let v1168 : BitVec 1 := Scalar.cmpi .ne v1167 c0_i32_757
  v1168

def k0_off331 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let v1282 : Index := Scalar.indexCast v1281
  ![v1282.toNat]
def k0_off332 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let c0_i32_837 : BitVec 32 := 0#32
  let c0_i32_838 : BitVec 32 := 0#32
  ![v1281.toNat, 0, 0]
def k0_off333 (v1283 : BitVec 32) : Fin 3 → Nat :=
  let c0_i32_839 : BitVec 32 := 0#32
  let c0_i32_840 : BitVec 32 := 0#32
  ![v1283.toNat, 0, 0]

def k0_chk111 (k0_t1 : Fin k0_t1_loop.trips) (v1283 : BitVec 32) : Prop :=
  (∀ (k0_h56 : k0_cond56 k0_t1 = 1#1), ∀ a, (k0_off333 v1283) a + S1x8x128.size a ≤ S13312x8x128.size a) ∧
  (∀ (k0_h56 : k0_cond56 k0_t1 = 1#1), ∀ (hinb : ∀ a, (k0_off333 v1283) a + S1x8x128.size a ≤ S13312x8x128.size a), (Rect.unit (s := S13312x8x128) (k0_off333 v1283) S1x8x128.size hinb).WholeWords (EltTy.packing .bf16))
theorem k0_off333_inb : ∀ (k0_t1 : Fin k0_t1_loop.trips) (v1283 : BitVec 32) (k0_hw111 : k0_chk111 k0_t1 v1283), ∀ (k0_h56 : k0_cond56 k0_t1 = 1#1), ∀ a, (k0_off333 v1283) a + S1x8x128.size a ≤ S13312x8x128.size a := fun k0_t1 v1283 k0_hw111 k0_h56 => k0_hw111.1 k0_h56
theorem k0_off333_wordsbf16 : ∀ (k0_t1 : Fin k0_t1_loop.trips) (v1283 : BitVec 32) (k0_hw111 : k0_chk111 k0_t1 v1283), ∀ (k0_h56 : k0_cond56 k0_t1 = 1#1), (Rect.unit (s := S13312x8x128) (k0_off333 v1283) S1x8x128.size (k0_off333_inb k0_t1 v1283 k0_hw111 k0_h56)).WholeWords (EltTy.packing .bf16) := fun k0_t1 v1283 k0_hw111 k0_h56 => k0_hw111.2 k0_h56 (k0_off333_inb k0_t1 v1283 k0_hw111 k0_h56)

def k0_off334 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let v1169 : Index := Scalar.indexCast v1165
  ![v1169.toNat]
def k0_off335 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c0_i32_759 : BitVec 32 := 0#32
  let c0_i32_760 : BitVec 32 := 0#32
  ![v1165.toNat, 0, 0]
def k0_off336 (v1170 : BitVec 32) : Fin 3 → Nat :=
  let c0_i32_761 : BitVec 32 := 0#32
  let c0_i32_762 : BitVec 32 := 0#32
  ![v1170.toNat, 0, 0]

def k0_chk112 (v1170 : BitVec 32) : Prop :=
  (∀ a, (k0_off336 v1170) a + S1x8x128.size a ≤ S13312x8x128.size a) ∧
  (∀ (hinb : ∀ a, (k0_off336 v1170) a + S1x8x128.size a ≤ S13312x8x128.size a), (Rect.unit (s := S13312x8x128) (k0_off336 v1170) S1x8x128.size hinb).WholeWords (EltTy.packing .bf16))
theorem k0_off336_inb : ∀ (v1170 : BitVec 32) (k0_hw112 : k0_chk112 v1170), ∀ a, (k0_off336 v1170) a + S1x8x128.size a ≤ S13312x8x128.size a := fun v1170 k0_hw112 => k0_hw112.1
theorem k0_off336_wordsbf16 : ∀ (v1170 : BitVec 32) (k0_hw112 : k0_chk112 v1170), (Rect.unit (s := S13312x8x128) (k0_off336 v1170) S1x8x128.size (k0_off336_inb v1170 k0_hw112)).WholeWords (EltTy.packing .bf16) := fun v1170 k0_hw112 => k0_hw112.2 (k0_off336_inb v1170 k0_hw112)

def k0_cond57 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_765 : BitVec 32 := 0#32
  let v1179 : BitVec 1 := Scalar.cmpi .sgt arg4 c0_i32_765
  let v1180 : BitVec 32 := Scalar.extui v1179
  let c0_i32_766 : BitVec 32 := 0#32
  let v1181 : BitVec 1 := Scalar.cmpi .ne v1180 c0_i32_766
  v1181

def k0_off337 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let v1282 : Index := Scalar.indexCast v1281
  ![v1282.toNat]
def k0_off338 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let c0_i32_837 : BitVec 32 := 0#32
  let c0_i32_838 : BitVec 32 := 0#32
  ![v1281.toNat, 0, 0]
def k0_off339 (v1283 : BitVec 32) : Fin 3 → Nat :=
  let c0_i32_839 : BitVec 32 := 0#32
  let c0_i32_840 : BitVec 32 := 0#32
  ![v1283.toNat, 0, 0]

def k0_chk113 (k0_t1 : Fin k0_t1_loop.trips) (v1283 : BitVec 32) : Prop :=
  (∀ (k0_h57 : k0_cond57 k0_t1 = 1#1), ∀ a, (k0_off339 v1283) a + S1x8x128.size a ≤ S13312x8x128.size a) ∧
  (∀ (k0_h57 : k0_cond57 k0_t1 = 1#1), ∀ (hinb : ∀ a, (k0_off339 v1283) a + S1x8x128.size a ≤ S13312x8x128.size a), (Rect.unit (s := S13312x8x128) (k0_off339 v1283) S1x8x128.size hinb).WholeWords (EltTy.packing .bf16))
theorem k0_off339_inb : ∀ (k0_t1 : Fin k0_t1_loop.trips) (v1283 : BitVec 32) (k0_hw113 : k0_chk113 k0_t1 v1283), ∀ (k0_h57 : k0_cond57 k0_t1 = 1#1), ∀ a, (k0_off339 v1283) a + S1x8x128.size a ≤ S13312x8x128.size a := fun k0_t1 v1283 k0_hw113 k0_h57 => k0_hw113.1 k0_h57
theorem k0_off339_wordsbf16 : ∀ (k0_t1 : Fin k0_t1_loop.trips) (v1283 : BitVec 32) (k0_hw113 : k0_chk113 k0_t1 v1283), ∀ (k0_h57 : k0_cond57 k0_t1 = 1#1), (Rect.unit (s := S13312x8x128) (k0_off339 v1283) S1x8x128.size (k0_off339_inb k0_t1 v1283 k0_hw113 k0_h57)).WholeWords (EltTy.packing .bf16) := fun k0_t1 v1283 k0_hw113 k0_h57 => k0_hw113.2 k0_h57 (k0_off339_inb k0_t1 v1283 k0_hw113 k0_h57)

def k0_off340 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let v1182 : Index := Scalar.indexCast v1178
  ![v1182.toNat]
def k0_off341 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c0_i32_768 : BitVec 32 := 0#32
  let c0_i32_769 : BitVec 32 := 0#32
  ![v1178.toNat, 0, 0]
def k0_off342 (v1183 : BitVec 32) : Fin 3 → Nat :=
  let c0_i32_770 : BitVec 32 := 0#32
  let c0_i32_771 : BitVec 32 := 0#32
  ![v1183.toNat, 0, 0]

def k0_chk114 (v1183 : BitVec 32) : Prop :=
  (∀ a, (k0_off342 v1183) a + S1x8x128.size a ≤ S13312x8x128.size a) ∧
  (∀ (hinb : ∀ a, (k0_off342 v1183) a + S1x8x128.size a ≤ S13312x8x128.size a), (Rect.unit (s := S13312x8x128) (k0_off342 v1183) S1x8x128.size hinb).WholeWords (EltTy.packing .bf16))
theorem k0_off342_inb : ∀ (v1183 : BitVec 32) (k0_hw114 : k0_chk114 v1183), ∀ a, (k0_off342 v1183) a + S1x8x128.size a ≤ S13312x8x128.size a := fun v1183 k0_hw114 => k0_hw114.1
theorem k0_off342_wordsbf16 : ∀ (v1183 : BitVec 32) (k0_hw114 : k0_chk114 v1183), (Rect.unit (s := S13312x8x128) (k0_off342 v1183) S1x8x128.size (k0_off342_inb v1183 k0_hw114)).WholeWords (EltTy.packing .bf16) := fun v1183 k0_hw114 => k0_hw114.2 (k0_off342_inb v1183 k0_hw114)

def k0_cond58 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_774 : BitVec 32 := 0#32
  let v1192 : BitVec 1 := Scalar.cmpi .sgt arg4 c0_i32_774
  let v1193 : BitVec 32 := Scalar.extui v1192
  let c0_i32_775 : BitVec 32 := 0#32
  let v1194 : BitVec 1 := Scalar.cmpi .ne v1193 c0_i32_775
  v1194

def k0_off343 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let v1282 : Index := Scalar.indexCast v1281
  ![v1282.toNat]
def k0_off344 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let c0_i32_837 : BitVec 32 := 0#32
  let c0_i32_838 : BitVec 32 := 0#32
  ![v1281.toNat, 0, 0]
def k0_off345 (v1283 : BitVec 32) : Fin 3 → Nat :=
  let c0_i32_839 : BitVec 32 := 0#32
  let c0_i32_840 : BitVec 32 := 0#32
  ![v1283.toNat, 0, 0]

def k0_chk115 (k0_t1 : Fin k0_t1_loop.trips) (v1283 : BitVec 32) : Prop :=
  (∀ (k0_h58 : k0_cond58 k0_t1 = 1#1), ∀ a, (k0_off345 v1283) a + S1x8x128.size a ≤ S13312x8x128.size a) ∧
  (∀ (k0_h58 : k0_cond58 k0_t1 = 1#1), ∀ (hinb : ∀ a, (k0_off345 v1283) a + S1x8x128.size a ≤ S13312x8x128.size a), (Rect.unit (s := S13312x8x128) (k0_off345 v1283) S1x8x128.size hinb).WholeWords (EltTy.packing .bf16))
theorem k0_off345_inb : ∀ (k0_t1 : Fin k0_t1_loop.trips) (v1283 : BitVec 32) (k0_hw115 : k0_chk115 k0_t1 v1283), ∀ (k0_h58 : k0_cond58 k0_t1 = 1#1), ∀ a, (k0_off345 v1283) a + S1x8x128.size a ≤ S13312x8x128.size a := fun k0_t1 v1283 k0_hw115 k0_h58 => k0_hw115.1 k0_h58
theorem k0_off345_wordsbf16 : ∀ (k0_t1 : Fin k0_t1_loop.trips) (v1283 : BitVec 32) (k0_hw115 : k0_chk115 k0_t1 v1283), ∀ (k0_h58 : k0_cond58 k0_t1 = 1#1), (Rect.unit (s := S13312x8x128) (k0_off345 v1283) S1x8x128.size (k0_off345_inb k0_t1 v1283 k0_hw115 k0_h58)).WholeWords (EltTy.packing .bf16) := fun k0_t1 v1283 k0_hw115 k0_h58 => k0_hw115.2 k0_h58 (k0_off345_inb k0_t1 v1283 k0_hw115 k0_h58)

def k0_off346 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let v1195 : Index := Scalar.indexCast v1191
  ![v1195.toNat]
def k0_off347 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c0_i32_777 : BitVec 32 := 0#32
  let c0_i32_778 : BitVec 32 := 0#32
  ![v1191.toNat, 0, 0]
def k0_off348 (v1196 : BitVec 32) : Fin 3 → Nat :=
  let c0_i32_779 : BitVec 32 := 0#32
  let c0_i32_780 : BitVec 32 := 0#32
  ![v1196.toNat, 0, 0]

def k0_chk116 (v1196 : BitVec 32) : Prop :=
  (∀ a, (k0_off348 v1196) a + S1x8x128.size a ≤ S13312x8x128.size a) ∧
  (∀ (hinb : ∀ a, (k0_off348 v1196) a + S1x8x128.size a ≤ S13312x8x128.size a), (Rect.unit (s := S13312x8x128) (k0_off348 v1196) S1x8x128.size hinb).WholeWords (EltTy.packing .bf16))
theorem k0_off348_inb : ∀ (v1196 : BitVec 32) (k0_hw116 : k0_chk116 v1196), ∀ a, (k0_off348 v1196) a + S1x8x128.size a ≤ S13312x8x128.size a := fun v1196 k0_hw116 => k0_hw116.1
theorem k0_off348_wordsbf16 : ∀ (v1196 : BitVec 32) (k0_hw116 : k0_chk116 v1196), (Rect.unit (s := S13312x8x128) (k0_off348 v1196) S1x8x128.size (k0_off348_inb v1196 k0_hw116)).WholeWords (EltTy.packing .bf16) := fun v1196 k0_hw116 => k0_hw116.2 (k0_off348_inb v1196 k0_hw116)

def k0_cond59 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_783 : BitVec 32 := 0#32
  let v1205 : BitVec 1 := Scalar.cmpi .sgt arg4 c0_i32_783
  let v1206 : BitVec 32 := Scalar.extui v1205
  let c0_i32_784 : BitVec 32 := 0#32
  let v1207 : BitVec 1 := Scalar.cmpi .ne v1206 c0_i32_784
  v1207

def k0_off349 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let v1282 : Index := Scalar.indexCast v1281
  ![v1282.toNat]
def k0_off350 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let c0_i32_837 : BitVec 32 := 0#32
  let c0_i32_838 : BitVec 32 := 0#32
  ![v1281.toNat, 0, 0]
def k0_off351 (v1283 : BitVec 32) : Fin 3 → Nat :=
  let c0_i32_839 : BitVec 32 := 0#32
  let c0_i32_840 : BitVec 32 := 0#32
  ![v1283.toNat, 0, 0]

def k0_chk117 (k0_t1 : Fin k0_t1_loop.trips) (v1283 : BitVec 32) : Prop :=
  (∀ (k0_h59 : k0_cond59 k0_t1 = 1#1), ∀ a, (k0_off351 v1283) a + S1x8x128.size a ≤ S13312x8x128.size a) ∧
  (∀ (k0_h59 : k0_cond59 k0_t1 = 1#1), ∀ (hinb : ∀ a, (k0_off351 v1283) a + S1x8x128.size a ≤ S13312x8x128.size a), (Rect.unit (s := S13312x8x128) (k0_off351 v1283) S1x8x128.size hinb).WholeWords (EltTy.packing .bf16))
theorem k0_off351_inb : ∀ (k0_t1 : Fin k0_t1_loop.trips) (v1283 : BitVec 32) (k0_hw117 : k0_chk117 k0_t1 v1283), ∀ (k0_h59 : k0_cond59 k0_t1 = 1#1), ∀ a, (k0_off351 v1283) a + S1x8x128.size a ≤ S13312x8x128.size a := fun k0_t1 v1283 k0_hw117 k0_h59 => k0_hw117.1 k0_h59
theorem k0_off351_wordsbf16 : ∀ (k0_t1 : Fin k0_t1_loop.trips) (v1283 : BitVec 32) (k0_hw117 : k0_chk117 k0_t1 v1283), ∀ (k0_h59 : k0_cond59 k0_t1 = 1#1), (Rect.unit (s := S13312x8x128) (k0_off351 v1283) S1x8x128.size (k0_off351_inb k0_t1 v1283 k0_hw117 k0_h59)).WholeWords (EltTy.packing .bf16) := fun k0_t1 v1283 k0_hw117 k0_h59 => k0_hw117.2 k0_h59 (k0_off351_inb k0_t1 v1283 k0_hw117 k0_h59)

def k0_off352 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let v1208 : Index := Scalar.indexCast v1204
  ![v1208.toNat]
def k0_off353 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c0_i32_786 : BitVec 32 := 0#32
  let c0_i32_787 : BitVec 32 := 0#32
  ![v1204.toNat, 0, 0]
def k0_off354 (v1209 : BitVec 32) : Fin 3 → Nat :=
  let c0_i32_788 : BitVec 32 := 0#32
  let c0_i32_789 : BitVec 32 := 0#32
  ![v1209.toNat, 0, 0]

def k0_chk118 (v1209 : BitVec 32) : Prop :=
  (∀ a, (k0_off354 v1209) a + S1x8x128.size a ≤ S13312x8x128.size a) ∧
  (∀ (hinb : ∀ a, (k0_off354 v1209) a + S1x8x128.size a ≤ S13312x8x128.size a), (Rect.unit (s := S13312x8x128) (k0_off354 v1209) S1x8x128.size hinb).WholeWords (EltTy.packing .bf16))
theorem k0_off354_inb : ∀ (v1209 : BitVec 32) (k0_hw118 : k0_chk118 v1209), ∀ a, (k0_off354 v1209) a + S1x8x128.size a ≤ S13312x8x128.size a := fun v1209 k0_hw118 => k0_hw118.1
theorem k0_off354_wordsbf16 : ∀ (v1209 : BitVec 32) (k0_hw118 : k0_chk118 v1209), (Rect.unit (s := S13312x8x128) (k0_off354 v1209) S1x8x128.size (k0_off354_inb v1209 k0_hw118)).WholeWords (EltTy.packing .bf16) := fun v1209 k0_hw118 => k0_hw118.2 (k0_off354_inb v1209 k0_hw118)

def k0_cond60 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_792 : BitVec 32 := 0#32
  let v1218 : BitVec 1 := Scalar.cmpi .sgt arg4 c0_i32_792
  let v1219 : BitVec 32 := Scalar.extui v1218
  let c0_i32_793 : BitVec 32 := 0#32
  let v1220 : BitVec 1 := Scalar.cmpi .ne v1219 c0_i32_793
  v1220

def k0_off355 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let v1282 : Index := Scalar.indexCast v1281
  ![v1282.toNat]
def k0_off356 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let c0_i32_837 : BitVec 32 := 0#32
  let c0_i32_838 : BitVec 32 := 0#32
  ![v1281.toNat, 0, 0]
def k0_off357 (v1283 : BitVec 32) : Fin 3 → Nat :=
  let c0_i32_839 : BitVec 32 := 0#32
  let c0_i32_840 : BitVec 32 := 0#32
  ![v1283.toNat, 0, 0]

def k0_chk119 (k0_t1 : Fin k0_t1_loop.trips) (v1283 : BitVec 32) : Prop :=
  (∀ (k0_h60 : k0_cond60 k0_t1 = 1#1), ∀ a, (k0_off357 v1283) a + S1x8x128.size a ≤ S13312x8x128.size a) ∧
  (∀ (k0_h60 : k0_cond60 k0_t1 = 1#1), ∀ (hinb : ∀ a, (k0_off357 v1283) a + S1x8x128.size a ≤ S13312x8x128.size a), (Rect.unit (s := S13312x8x128) (k0_off357 v1283) S1x8x128.size hinb).WholeWords (EltTy.packing .bf16))
theorem k0_off357_inb : ∀ (k0_t1 : Fin k0_t1_loop.trips) (v1283 : BitVec 32) (k0_hw119 : k0_chk119 k0_t1 v1283), ∀ (k0_h60 : k0_cond60 k0_t1 = 1#1), ∀ a, (k0_off357 v1283) a + S1x8x128.size a ≤ S13312x8x128.size a := fun k0_t1 v1283 k0_hw119 k0_h60 => k0_hw119.1 k0_h60
theorem k0_off357_wordsbf16 : ∀ (k0_t1 : Fin k0_t1_loop.trips) (v1283 : BitVec 32) (k0_hw119 : k0_chk119 k0_t1 v1283), ∀ (k0_h60 : k0_cond60 k0_t1 = 1#1), (Rect.unit (s := S13312x8x128) (k0_off357 v1283) S1x8x128.size (k0_off357_inb k0_t1 v1283 k0_hw119 k0_h60)).WholeWords (EltTy.packing .bf16) := fun k0_t1 v1283 k0_hw119 k0_h60 => k0_hw119.2 k0_h60 (k0_off357_inb k0_t1 v1283 k0_hw119 k0_h60)

def k0_off358 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let v1221 : Index := Scalar.indexCast v1217
  ![v1221.toNat]
def k0_off359 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c0_i32_795 : BitVec 32 := 0#32
  let c0_i32_796 : BitVec 32 := 0#32
  ![v1217.toNat, 0, 0]
def k0_off360 (v1222 : BitVec 32) : Fin 3 → Nat :=
  let c0_i32_797 : BitVec 32 := 0#32
  let c0_i32_798 : BitVec 32 := 0#32
  ![v1222.toNat, 0, 0]

def k0_chk120 (v1222 : BitVec 32) : Prop :=
  (∀ a, (k0_off360 v1222) a + S1x8x128.size a ≤ S13312x8x128.size a) ∧
  (∀ (hinb : ∀ a, (k0_off360 v1222) a + S1x8x128.size a ≤ S13312x8x128.size a), (Rect.unit (s := S13312x8x128) (k0_off360 v1222) S1x8x128.size hinb).WholeWords (EltTy.packing .bf16))
theorem k0_off360_inb : ∀ (v1222 : BitVec 32) (k0_hw120 : k0_chk120 v1222), ∀ a, (k0_off360 v1222) a + S1x8x128.size a ≤ S13312x8x128.size a := fun v1222 k0_hw120 => k0_hw120.1
theorem k0_off360_wordsbf16 : ∀ (v1222 : BitVec 32) (k0_hw120 : k0_chk120 v1222), (Rect.unit (s := S13312x8x128) (k0_off360 v1222) S1x8x128.size (k0_off360_inb v1222 k0_hw120)).WholeWords (EltTy.packing .bf16) := fun v1222 k0_hw120 => k0_hw120.2 (k0_off360_inb v1222 k0_hw120)

def k0_cond61 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_801 : BitVec 32 := 0#32
  let v1231 : BitVec 1 := Scalar.cmpi .sgt arg4 c0_i32_801
  let v1232 : BitVec 32 := Scalar.extui v1231
  let c0_i32_802 : BitVec 32 := 0#32
  let v1233 : BitVec 1 := Scalar.cmpi .ne v1232 c0_i32_802
  v1233

def k0_off361 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let v1282 : Index := Scalar.indexCast v1281
  ![v1282.toNat]
def k0_off362 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let c0_i32_837 : BitVec 32 := 0#32
  let c0_i32_838 : BitVec 32 := 0#32
  ![v1281.toNat, 0, 0]
def k0_off363 (v1283 : BitVec 32) : Fin 3 → Nat :=
  let c0_i32_839 : BitVec 32 := 0#32
  let c0_i32_840 : BitVec 32 := 0#32
  ![v1283.toNat, 0, 0]

def k0_chk121 (k0_t1 : Fin k0_t1_loop.trips) (v1283 : BitVec 32) : Prop :=
  (∀ (k0_h61 : k0_cond61 k0_t1 = 1#1), ∀ a, (k0_off363 v1283) a + S1x8x128.size a ≤ S13312x8x128.size a) ∧
  (∀ (k0_h61 : k0_cond61 k0_t1 = 1#1), ∀ (hinb : ∀ a, (k0_off363 v1283) a + S1x8x128.size a ≤ S13312x8x128.size a), (Rect.unit (s := S13312x8x128) (k0_off363 v1283) S1x8x128.size hinb).WholeWords (EltTy.packing .bf16))
theorem k0_off363_inb : ∀ (k0_t1 : Fin k0_t1_loop.trips) (v1283 : BitVec 32) (k0_hw121 : k0_chk121 k0_t1 v1283), ∀ (k0_h61 : k0_cond61 k0_t1 = 1#1), ∀ a, (k0_off363 v1283) a + S1x8x128.size a ≤ S13312x8x128.size a := fun k0_t1 v1283 k0_hw121 k0_h61 => k0_hw121.1 k0_h61
theorem k0_off363_wordsbf16 : ∀ (k0_t1 : Fin k0_t1_loop.trips) (v1283 : BitVec 32) (k0_hw121 : k0_chk121 k0_t1 v1283), ∀ (k0_h61 : k0_cond61 k0_t1 = 1#1), (Rect.unit (s := S13312x8x128) (k0_off363 v1283) S1x8x128.size (k0_off363_inb k0_t1 v1283 k0_hw121 k0_h61)).WholeWords (EltTy.packing .bf16) := fun k0_t1 v1283 k0_hw121 k0_h61 => k0_hw121.2 k0_h61 (k0_off363_inb k0_t1 v1283 k0_hw121 k0_h61)

def k0_off364 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let v1234 : Index := Scalar.indexCast v1230
  ![v1234.toNat]
def k0_off365 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c0_i32_804 : BitVec 32 := 0#32
  let c0_i32_805 : BitVec 32 := 0#32
  ![v1230.toNat, 0, 0]
def k0_off366 (v1235 : BitVec 32) : Fin 3 → Nat :=
  let c0_i32_806 : BitVec 32 := 0#32
  let c0_i32_807 : BitVec 32 := 0#32
  ![v1235.toNat, 0, 0]

def k0_chk122 (v1235 : BitVec 32) : Prop :=
  (∀ a, (k0_off366 v1235) a + S1x8x128.size a ≤ S13312x8x128.size a) ∧
  (∀ (hinb : ∀ a, (k0_off366 v1235) a + S1x8x128.size a ≤ S13312x8x128.size a), (Rect.unit (s := S13312x8x128) (k0_off366 v1235) S1x8x128.size hinb).WholeWords (EltTy.packing .bf16))
theorem k0_off366_inb : ∀ (v1235 : BitVec 32) (k0_hw122 : k0_chk122 v1235), ∀ a, (k0_off366 v1235) a + S1x8x128.size a ≤ S13312x8x128.size a := fun v1235 k0_hw122 => k0_hw122.1
theorem k0_off366_wordsbf16 : ∀ (v1235 : BitVec 32) (k0_hw122 : k0_chk122 v1235), (Rect.unit (s := S13312x8x128) (k0_off366 v1235) S1x8x128.size (k0_off366_inb v1235 k0_hw122)).WholeWords (EltTy.packing .bf16) := fun v1235 k0_hw122 => k0_hw122.2 (k0_off366_inb v1235 k0_hw122)

def k0_cond62 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_810 : BitVec 32 := 0#32
  let v1244 : BitVec 1 := Scalar.cmpi .sgt arg4 c0_i32_810
  let v1245 : BitVec 32 := Scalar.extui v1244
  let c0_i32_811 : BitVec 32 := 0#32
  let v1246 : BitVec 1 := Scalar.cmpi .ne v1245 c0_i32_811
  v1246

def k0_off367 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let v1282 : Index := Scalar.indexCast v1281
  ![v1282.toNat]
def k0_off368 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let c0_i32_837 : BitVec 32 := 0#32
  let c0_i32_838 : BitVec 32 := 0#32
  ![v1281.toNat, 0, 0]
def k0_off369 (v1283 : BitVec 32) : Fin 3 → Nat :=
  let c0_i32_839 : BitVec 32 := 0#32
  let c0_i32_840 : BitVec 32 := 0#32
  ![v1283.toNat, 0, 0]

def k0_chk123 (k0_t1 : Fin k0_t1_loop.trips) (v1283 : BitVec 32) : Prop :=
  (∀ (k0_h62 : k0_cond62 k0_t1 = 1#1), ∀ a, (k0_off369 v1283) a + S1x8x128.size a ≤ S13312x8x128.size a) ∧
  (∀ (k0_h62 : k0_cond62 k0_t1 = 1#1), ∀ (hinb : ∀ a, (k0_off369 v1283) a + S1x8x128.size a ≤ S13312x8x128.size a), (Rect.unit (s := S13312x8x128) (k0_off369 v1283) S1x8x128.size hinb).WholeWords (EltTy.packing .bf16))
theorem k0_off369_inb : ∀ (k0_t1 : Fin k0_t1_loop.trips) (v1283 : BitVec 32) (k0_hw123 : k0_chk123 k0_t1 v1283), ∀ (k0_h62 : k0_cond62 k0_t1 = 1#1), ∀ a, (k0_off369 v1283) a + S1x8x128.size a ≤ S13312x8x128.size a := fun k0_t1 v1283 k0_hw123 k0_h62 => k0_hw123.1 k0_h62
theorem k0_off369_wordsbf16 : ∀ (k0_t1 : Fin k0_t1_loop.trips) (v1283 : BitVec 32) (k0_hw123 : k0_chk123 k0_t1 v1283), ∀ (k0_h62 : k0_cond62 k0_t1 = 1#1), (Rect.unit (s := S13312x8x128) (k0_off369 v1283) S1x8x128.size (k0_off369_inb k0_t1 v1283 k0_hw123 k0_h62)).WholeWords (EltTy.packing .bf16) := fun k0_t1 v1283 k0_hw123 k0_h62 => k0_hw123.2 k0_h62 (k0_off369_inb k0_t1 v1283 k0_hw123 k0_h62)

def k0_off370 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let v1247 : Index := Scalar.indexCast v1243
  ![v1247.toNat]
def k0_off371 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c0_i32_813 : BitVec 32 := 0#32
  let c0_i32_814 : BitVec 32 := 0#32
  ![v1243.toNat, 0, 0]
def k0_off372 (v1248 : BitVec 32) : Fin 3 → Nat :=
  let c0_i32_815 : BitVec 32 := 0#32
  let c0_i32_816 : BitVec 32 := 0#32
  ![v1248.toNat, 0, 0]

def k0_chk124 (v1248 : BitVec 32) : Prop :=
  (∀ a, (k0_off372 v1248) a + S1x8x128.size a ≤ S13312x8x128.size a) ∧
  (∀ (hinb : ∀ a, (k0_off372 v1248) a + S1x8x128.size a ≤ S13312x8x128.size a), (Rect.unit (s := S13312x8x128) (k0_off372 v1248) S1x8x128.size hinb).WholeWords (EltTy.packing .bf16))
theorem k0_off372_inb : ∀ (v1248 : BitVec 32) (k0_hw124 : k0_chk124 v1248), ∀ a, (k0_off372 v1248) a + S1x8x128.size a ≤ S13312x8x128.size a := fun v1248 k0_hw124 => k0_hw124.1
theorem k0_off372_wordsbf16 : ∀ (v1248 : BitVec 32) (k0_hw124 : k0_chk124 v1248), (Rect.unit (s := S13312x8x128) (k0_off372 v1248) S1x8x128.size (k0_off372_inb v1248 k0_hw124)).WholeWords (EltTy.packing .bf16) := fun v1248 k0_hw124 => k0_hw124.2 (k0_off372_inb v1248 k0_hw124)

def k0_cond63 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_819 : BitVec 32 := 0#32
  let v1257 : BitVec 1 := Scalar.cmpi .sgt arg4 c0_i32_819
  let v1258 : BitVec 32 := Scalar.extui v1257
  let c0_i32_820 : BitVec 32 := 0#32
  let v1259 : BitVec 1 := Scalar.cmpi .ne v1258 c0_i32_820
  v1259

def k0_off373 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let v1282 : Index := Scalar.indexCast v1281
  ![v1282.toNat]
def k0_off374 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let c0_i32_837 : BitVec 32 := 0#32
  let c0_i32_838 : BitVec 32 := 0#32
  ![v1281.toNat, 0, 0]
def k0_off375 (v1283 : BitVec 32) : Fin 3 → Nat :=
  let c0_i32_839 : BitVec 32 := 0#32
  let c0_i32_840 : BitVec 32 := 0#32
  ![v1283.toNat, 0, 0]

def k0_chk125 (k0_t1 : Fin k0_t1_loop.trips) (v1283 : BitVec 32) : Prop :=
  (∀ (k0_h63 : k0_cond63 k0_t1 = 1#1), ∀ a, (k0_off375 v1283) a + S1x8x128.size a ≤ S13312x8x128.size a) ∧
  (∀ (k0_h63 : k0_cond63 k0_t1 = 1#1), ∀ (hinb : ∀ a, (k0_off375 v1283) a + S1x8x128.size a ≤ S13312x8x128.size a), (Rect.unit (s := S13312x8x128) (k0_off375 v1283) S1x8x128.size hinb).WholeWords (EltTy.packing .bf16))
theorem k0_off375_inb : ∀ (k0_t1 : Fin k0_t1_loop.trips) (v1283 : BitVec 32) (k0_hw125 : k0_chk125 k0_t1 v1283), ∀ (k0_h63 : k0_cond63 k0_t1 = 1#1), ∀ a, (k0_off375 v1283) a + S1x8x128.size a ≤ S13312x8x128.size a := fun k0_t1 v1283 k0_hw125 k0_h63 => k0_hw125.1 k0_h63
theorem k0_off375_wordsbf16 : ∀ (k0_t1 : Fin k0_t1_loop.trips) (v1283 : BitVec 32) (k0_hw125 : k0_chk125 k0_t1 v1283), ∀ (k0_h63 : k0_cond63 k0_t1 = 1#1), (Rect.unit (s := S13312x8x128) (k0_off375 v1283) S1x8x128.size (k0_off375_inb k0_t1 v1283 k0_hw125 k0_h63)).WholeWords (EltTy.packing .bf16) := fun k0_t1 v1283 k0_hw125 k0_h63 => k0_hw125.2 k0_h63 (k0_off375_inb k0_t1 v1283 k0_hw125 k0_h63)

def k0_off376 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let v1260 : Index := Scalar.indexCast v1256
  ![v1260.toNat]
def k0_off377 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c0_i32_822 : BitVec 32 := 0#32
  let c0_i32_823 : BitVec 32 := 0#32
  ![v1256.toNat, 0, 0]
def k0_off378 (v1261 : BitVec 32) : Fin 3 → Nat :=
  let c0_i32_824 : BitVec 32 := 0#32
  let c0_i32_825 : BitVec 32 := 0#32
  ![v1261.toNat, 0, 0]

def k0_chk126 (v1261 : BitVec 32) : Prop :=
  (∀ a, (k0_off378 v1261) a + S1x8x128.size a ≤ S13312x8x128.size a) ∧
  (∀ (hinb : ∀ a, (k0_off378 v1261) a + S1x8x128.size a ≤ S13312x8x128.size a), (Rect.unit (s := S13312x8x128) (k0_off378 v1261) S1x8x128.size hinb).WholeWords (EltTy.packing .bf16))
theorem k0_off378_inb : ∀ (v1261 : BitVec 32) (k0_hw126 : k0_chk126 v1261), ∀ a, (k0_off378 v1261) a + S1x8x128.size a ≤ S13312x8x128.size a := fun v1261 k0_hw126 => k0_hw126.1
theorem k0_off378_wordsbf16 : ∀ (v1261 : BitVec 32) (k0_hw126 : k0_chk126 v1261), (Rect.unit (s := S13312x8x128) (k0_off378 v1261) S1x8x128.size (k0_off378_inb v1261 k0_hw126)).WholeWords (EltTy.packing .bf16) := fun v1261 k0_hw126 => k0_hw126.2 (k0_off378_inb v1261 k0_hw126)

def k0_cond64 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_828 : BitVec 32 := 0#32
  let v1270 : BitVec 1 := Scalar.cmpi .sgt arg4 c0_i32_828
  let v1271 : BitVec 32 := Scalar.extui v1270
  let c0_i32_829 : BitVec 32 := 0#32
  let v1272 : BitVec 1 := Scalar.cmpi .ne v1271 c0_i32_829
  v1272

def k0_off379 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let v1282 : Index := Scalar.indexCast v1281
  ![v1282.toNat]
def k0_off380 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let c0_i32_837 : BitVec 32 := 0#32
  let c0_i32_838 : BitVec 32 := 0#32
  ![v1281.toNat, 0, 0]
def k0_off381 (v1283 : BitVec 32) : Fin 3 → Nat :=
  let c0_i32_839 : BitVec 32 := 0#32
  let c0_i32_840 : BitVec 32 := 0#32
  ![v1283.toNat, 0, 0]

def k0_chk127 (k0_t1 : Fin k0_t1_loop.trips) (v1283 : BitVec 32) : Prop :=
  (∀ (k0_h64 : k0_cond64 k0_t1 = 1#1), ∀ a, (k0_off381 v1283) a + S1x8x128.size a ≤ S13312x8x128.size a) ∧
  (∀ (k0_h64 : k0_cond64 k0_t1 = 1#1), ∀ (hinb : ∀ a, (k0_off381 v1283) a + S1x8x128.size a ≤ S13312x8x128.size a), (Rect.unit (s := S13312x8x128) (k0_off381 v1283) S1x8x128.size hinb).WholeWords (EltTy.packing .bf16))
theorem k0_off381_inb : ∀ (k0_t1 : Fin k0_t1_loop.trips) (v1283 : BitVec 32) (k0_hw127 : k0_chk127 k0_t1 v1283), ∀ (k0_h64 : k0_cond64 k0_t1 = 1#1), ∀ a, (k0_off381 v1283) a + S1x8x128.size a ≤ S13312x8x128.size a := fun k0_t1 v1283 k0_hw127 k0_h64 => k0_hw127.1 k0_h64
theorem k0_off381_wordsbf16 : ∀ (k0_t1 : Fin k0_t1_loop.trips) (v1283 : BitVec 32) (k0_hw127 : k0_chk127 k0_t1 v1283), ∀ (k0_h64 : k0_cond64 k0_t1 = 1#1), (Rect.unit (s := S13312x8x128) (k0_off381 v1283) S1x8x128.size (k0_off381_inb k0_t1 v1283 k0_hw127 k0_h64)).WholeWords (EltTy.packing .bf16) := fun k0_t1 v1283 k0_hw127 k0_h64 => k0_hw127.2 k0_h64 (k0_off381_inb k0_t1 v1283 k0_hw127 k0_h64)

def k0_off382 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let v1273 : Index := Scalar.indexCast v1269
  ![v1273.toNat]
def k0_off383 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c0_i32_831 : BitVec 32 := 0#32
  let c0_i32_832 : BitVec 32 := 0#32
  ![v1269.toNat, 0, 0]
def k0_off384 (v1274 : BitVec 32) : Fin 3 → Nat :=
  let c0_i32_833 : BitVec 32 := 0#32
  let c0_i32_834 : BitVec 32 := 0#32
  ![v1274.toNat, 0, 0]

def k0_chk128 (v1274 : BitVec 32) : Prop :=
  (∀ a, (k0_off384 v1274) a + S1x8x128.size a ≤ S13312x8x128.size a) ∧
  (∀ (hinb : ∀ a, (k0_off384 v1274) a + S1x8x128.size a ≤ S13312x8x128.size a), (Rect.unit (s := S13312x8x128) (k0_off384 v1274) S1x8x128.size hinb).WholeWords (EltTy.packing .bf16))
theorem k0_off384_inb : ∀ (v1274 : BitVec 32) (k0_hw128 : k0_chk128 v1274), ∀ a, (k0_off384 v1274) a + S1x8x128.size a ≤ S13312x8x128.size a := fun v1274 k0_hw128 => k0_hw128.1
theorem k0_off384_wordsbf16 : ∀ (v1274 : BitVec 32) (k0_hw128 : k0_chk128 v1274), (Rect.unit (s := S13312x8x128) (k0_off384 v1274) S1x8x128.size (k0_off384_inb v1274 k0_hw128)).WholeWords (EltTy.packing .bf16) := fun v1274 k0_hw128 => k0_hw128.2 (k0_off384_inb v1274 k0_hw128)

def k0_off385 (v1 : BitVec 32) : Fin 3 → Nat :=
  let c0_i32_4 : BitVec 32 := 0#32
  let c0_i32_5 : BitVec 32 := 0#32
  ![v1.toNat, 0, 0]

def k0_chk129 (v1 : BitVec 32) : Prop :=
  (∀ a, (k0_off385 v1) a + S1x8x128.size a ≤ S13312x8x128.size a) ∧
  (∀ (hinb : ∀ a, (k0_off385 v1) a + S1x8x128.size a ≤ S13312x8x128.size a), (Rect.unit (s := S13312x8x128) (k0_off385 v1) S1x8x128.size hinb).WholeWords (EltTy.packing .bf16))
theorem k0_off385_inb : ∀ (v1 : BitVec 32) (k0_hw129 : k0_chk129 v1), ∀ a, (k0_off385 v1) a + S1x8x128.size a ≤ S13312x8x128.size a := fun v1 k0_hw129 => k0_hw129.1
theorem k0_off385_wordsbf16 : ∀ (v1 : BitVec 32) (k0_hw129 : k0_chk129 v1), (Rect.unit (s := S13312x8x128) (k0_off385 v1) S1x8x128.size (k0_off385_inb v1 k0_hw129)).WholeWords (EltTy.packing .bf16) := fun v1 k0_hw129 => k0_hw129.2 (k0_off385_inb v1 k0_hw129)

def k0_off386 (v8 : BitVec 32) : Fin 3 → Nat :=
  let c0_i32_9 : BitVec 32 := 0#32
  let c0_i32_10 : BitVec 32 := 0#32
  ![v8.toNat, 0, 0]

def k0_chk130 (v8 : BitVec 32) : Prop :=
  (∀ a, (k0_off386 v8) a + S1x8x128.size a ≤ S13312x8x128.size a) ∧
  (∀ (hinb : ∀ a, (k0_off386 v8) a + S1x8x128.size a ≤ S13312x8x128.size a), (Rect.unit (s := S13312x8x128) (k0_off386 v8) S1x8x128.size hinb).WholeWords (EltTy.packing .bf16))
theorem k0_off386_inb : ∀ (v8 : BitVec 32) (k0_hw130 : k0_chk130 v8), ∀ a, (k0_off386 v8) a + S1x8x128.size a ≤ S13312x8x128.size a := fun v8 k0_hw130 => k0_hw130.1
theorem k0_off386_wordsbf16 : ∀ (v8 : BitVec 32) (k0_hw130 : k0_chk130 v8), (Rect.unit (s := S13312x8x128) (k0_off386 v8) S1x8x128.size (k0_off386_inb v8 k0_hw130)).WholeWords (EltTy.packing .bf16) := fun v8 k0_hw130 => k0_hw130.2 (k0_off386_inb v8 k0_hw130)

def k0_off387 (v15 : BitVec 32) : Fin 3 → Nat :=
  let c0_i32_13 : BitVec 32 := 0#32
  let c0_i32_14 : BitVec 32 := 0#32
  ![v15.toNat, 0, 0]

def k0_chk131 (v15 : BitVec 32) : Prop :=
  (∀ a, (k0_off387 v15) a + S1x8x128.size a ≤ S13312x8x128.size a) ∧
  (∀ (hinb : ∀ a, (k0_off387 v15) a + S1x8x128.size a ≤ S13312x8x128.size a), (Rect.unit (s := S13312x8x128) (k0_off387 v15) S1x8x128.size hinb).WholeWords (EltTy.packing .bf16))
theorem k0_off387_inb : ∀ (v15 : BitVec 32) (k0_hw131 : k0_chk131 v15), ∀ a, (k0_off387 v15) a + S1x8x128.size a ≤ S13312x8x128.size a := fun v15 k0_hw131 => k0_hw131.1
theorem k0_off387_wordsbf16 : ∀ (v15 : BitVec 32) (k0_hw131 : k0_chk131 v15), (Rect.unit (s := S13312x8x128) (k0_off387 v15) S1x8x128.size (k0_off387_inb v15 k0_hw131)).WholeWords (EltTy.packing .bf16) := fun v15 k0_hw131 => k0_hw131.2 (k0_off387_inb v15 k0_hw131)

def k0_off388 (v22 : BitVec 32) : Fin 3 → Nat :=
  let c0_i32_17 : BitVec 32 := 0#32
  let c0_i32_18 : BitVec 32 := 0#32
  ![v22.toNat, 0, 0]

def k0_chk132 (v22 : BitVec 32) : Prop :=
  (∀ a, (k0_off388 v22) a + S1x8x128.size a ≤ S13312x8x128.size a) ∧
  (∀ (hinb : ∀ a, (k0_off388 v22) a + S1x8x128.size a ≤ S13312x8x128.size a), (Rect.unit (s := S13312x8x128) (k0_off388 v22) S1x8x128.size hinb).WholeWords (EltTy.packing .bf16))
theorem k0_off388_inb : ∀ (v22 : BitVec 32) (k0_hw132 : k0_chk132 v22), ∀ a, (k0_off388 v22) a + S1x8x128.size a ≤ S13312x8x128.size a := fun v22 k0_hw132 => k0_hw132.1
theorem k0_off388_wordsbf16 : ∀ (v22 : BitVec 32) (k0_hw132 : k0_chk132 v22), (Rect.unit (s := S13312x8x128) (k0_off388 v22) S1x8x128.size (k0_off388_inb v22 k0_hw132)).WholeWords (EltTy.packing .bf16) := fun v22 k0_hw132 => k0_hw132.2 (k0_off388_inb v22 k0_hw132)

def k0_off389 (v29 : BitVec 32) : Fin 3 → Nat :=
  let c0_i32_21 : BitVec 32 := 0#32
  let c0_i32_22 : BitVec 32 := 0#32
  ![v29.toNat, 0, 0]

def k0_chk133 (v29 : BitVec 32) : Prop :=
  (∀ a, (k0_off389 v29) a + S1x8x128.size a ≤ S13312x8x128.size a) ∧
  (∀ (hinb : ∀ a, (k0_off389 v29) a + S1x8x128.size a ≤ S13312x8x128.size a), (Rect.unit (s := S13312x8x128) (k0_off389 v29) S1x8x128.size hinb).WholeWords (EltTy.packing .bf16))
theorem k0_off389_inb : ∀ (v29 : BitVec 32) (k0_hw133 : k0_chk133 v29), ∀ a, (k0_off389 v29) a + S1x8x128.size a ≤ S13312x8x128.size a := fun v29 k0_hw133 => k0_hw133.1
theorem k0_off389_wordsbf16 : ∀ (v29 : BitVec 32) (k0_hw133 : k0_chk133 v29), (Rect.unit (s := S13312x8x128) (k0_off389 v29) S1x8x128.size (k0_off389_inb v29 k0_hw133)).WholeWords (EltTy.packing .bf16) := fun v29 k0_hw133 => k0_hw133.2 (k0_off389_inb v29 k0_hw133)

def k0_off390 (v36 : BitVec 32) : Fin 3 → Nat :=
  let c0_i32_25 : BitVec 32 := 0#32
  let c0_i32_26 : BitVec 32 := 0#32
  ![v36.toNat, 0, 0]

def k0_chk134 (v36 : BitVec 32) : Prop :=
  (∀ a, (k0_off390 v36) a + S1x8x128.size a ≤ S13312x8x128.size a) ∧
  (∀ (hinb : ∀ a, (k0_off390 v36) a + S1x8x128.size a ≤ S13312x8x128.size a), (Rect.unit (s := S13312x8x128) (k0_off390 v36) S1x8x128.size hinb).WholeWords (EltTy.packing .bf16))
theorem k0_off390_inb : ∀ (v36 : BitVec 32) (k0_hw134 : k0_chk134 v36), ∀ a, (k0_off390 v36) a + S1x8x128.size a ≤ S13312x8x128.size a := fun v36 k0_hw134 => k0_hw134.1
theorem k0_off390_wordsbf16 : ∀ (v36 : BitVec 32) (k0_hw134 : k0_chk134 v36), (Rect.unit (s := S13312x8x128) (k0_off390 v36) S1x8x128.size (k0_off390_inb v36 k0_hw134)).WholeWords (EltTy.packing .bf16) := fun v36 k0_hw134 => k0_hw134.2 (k0_off390_inb v36 k0_hw134)

def k0_off391 (v43 : BitVec 32) : Fin 3 → Nat :=
  let c0_i32_29 : BitVec 32 := 0#32
  let c0_i32_30 : BitVec 32 := 0#32
  ![v43.toNat, 0, 0]

def k0_chk135 (v43 : BitVec 32) : Prop :=
  (∀ a, (k0_off391 v43) a + S1x8x128.size a ≤ S13312x8x128.size a) ∧
  (∀ (hinb : ∀ a, (k0_off391 v43) a + S1x8x128.size a ≤ S13312x8x128.size a), (Rect.unit (s := S13312x8x128) (k0_off391 v43) S1x8x128.size hinb).WholeWords (EltTy.packing .bf16))
theorem k0_off391_inb : ∀ (v43 : BitVec 32) (k0_hw135 : k0_chk135 v43), ∀ a, (k0_off391 v43) a + S1x8x128.size a ≤ S13312x8x128.size a := fun v43 k0_hw135 => k0_hw135.1
theorem k0_off391_wordsbf16 : ∀ (v43 : BitVec 32) (k0_hw135 : k0_chk135 v43), (Rect.unit (s := S13312x8x128) (k0_off391 v43) S1x8x128.size (k0_off391_inb v43 k0_hw135)).WholeWords (EltTy.packing .bf16) := fun v43 k0_hw135 => k0_hw135.2 (k0_off391_inb v43 k0_hw135)

def k0_off392 (v50 : BitVec 32) : Fin 3 → Nat :=
  let c0_i32_33 : BitVec 32 := 0#32
  let c0_i32_34 : BitVec 32 := 0#32
  ![v50.toNat, 0, 0]

def k0_chk136 (v50 : BitVec 32) : Prop :=
  (∀ a, (k0_off392 v50) a + S1x8x128.size a ≤ S13312x8x128.size a) ∧
  (∀ (hinb : ∀ a, (k0_off392 v50) a + S1x8x128.size a ≤ S13312x8x128.size a), (Rect.unit (s := S13312x8x128) (k0_off392 v50) S1x8x128.size hinb).WholeWords (EltTy.packing .bf16))
theorem k0_off392_inb : ∀ (v50 : BitVec 32) (k0_hw136 : k0_chk136 v50), ∀ a, (k0_off392 v50) a + S1x8x128.size a ≤ S13312x8x128.size a := fun v50 k0_hw136 => k0_hw136.1
theorem k0_off392_wordsbf16 : ∀ (v50 : BitVec 32) (k0_hw136 : k0_chk136 v50), (Rect.unit (s := S13312x8x128) (k0_off392 v50) S1x8x128.size (k0_off392_inb v50 k0_hw136)).WholeWords (EltTy.packing .bf16) := fun v50 k0_hw136 => k0_hw136.2 (k0_off392_inb v50 k0_hw136)

def k0_off393 (v57 : BitVec 32) : Fin 3 → Nat :=
  let c0_i32_37 : BitVec 32 := 0#32
  let c0_i32_38 : BitVec 32 := 0#32
  ![v57.toNat, 0, 0]

def k0_chk137 (v57 : BitVec 32) : Prop :=
  (∀ a, (k0_off393 v57) a + S1x8x128.size a ≤ S13312x8x128.size a) ∧
  (∀ (hinb : ∀ a, (k0_off393 v57) a + S1x8x128.size a ≤ S13312x8x128.size a), (Rect.unit (s := S13312x8x128) (k0_off393 v57) S1x8x128.size hinb).WholeWords (EltTy.packing .bf16))
theorem k0_off393_inb : ∀ (v57 : BitVec 32) (k0_hw137 : k0_chk137 v57), ∀ a, (k0_off393 v57) a + S1x8x128.size a ≤ S13312x8x128.size a := fun v57 k0_hw137 => k0_hw137.1
theorem k0_off393_wordsbf16 : ∀ (v57 : BitVec 32) (k0_hw137 : k0_chk137 v57), (Rect.unit (s := S13312x8x128) (k0_off393 v57) S1x8x128.size (k0_off393_inb v57 k0_hw137)).WholeWords (EltTy.packing .bf16) := fun v57 k0_hw137 => k0_hw137.2 (k0_off393_inb v57 k0_hw137)

def k0_off394 (v64 : BitVec 32) : Fin 3 → Nat :=
  let c0_i32_41 : BitVec 32 := 0#32
  let c0_i32_42 : BitVec 32 := 0#32
  ![v64.toNat, 0, 0]

def k0_chk138 (v64 : BitVec 32) : Prop :=
  (∀ a, (k0_off394 v64) a + S1x8x128.size a ≤ S13312x8x128.size a) ∧
  (∀ (hinb : ∀ a, (k0_off394 v64) a + S1x8x128.size a ≤ S13312x8x128.size a), (Rect.unit (s := S13312x8x128) (k0_off394 v64) S1x8x128.size hinb).WholeWords (EltTy.packing .bf16))
theorem k0_off394_inb : ∀ (v64 : BitVec 32) (k0_hw138 : k0_chk138 v64), ∀ a, (k0_off394 v64) a + S1x8x128.size a ≤ S13312x8x128.size a := fun v64 k0_hw138 => k0_hw138.1
theorem k0_off394_wordsbf16 : ∀ (v64 : BitVec 32) (k0_hw138 : k0_chk138 v64), (Rect.unit (s := S13312x8x128) (k0_off394 v64) S1x8x128.size (k0_off394_inb v64 k0_hw138)).WholeWords (EltTy.packing .bf16) := fun v64 k0_hw138 => k0_hw138.2 (k0_off394_inb v64 k0_hw138)

def k0_off395 (v71 : BitVec 32) : Fin 3 → Nat :=
  let c0_i32_45 : BitVec 32 := 0#32
  let c0_i32_46 : BitVec 32 := 0#32
  ![v71.toNat, 0, 0]

def k0_chk139 (v71 : BitVec 32) : Prop :=
  (∀ a, (k0_off395 v71) a + S1x8x128.size a ≤ S13312x8x128.size a) ∧
  (∀ (hinb : ∀ a, (k0_off395 v71) a + S1x8x128.size a ≤ S13312x8x128.size a), (Rect.unit (s := S13312x8x128) (k0_off395 v71) S1x8x128.size hinb).WholeWords (EltTy.packing .bf16))
theorem k0_off395_inb : ∀ (v71 : BitVec 32) (k0_hw139 : k0_chk139 v71), ∀ a, (k0_off395 v71) a + S1x8x128.size a ≤ S13312x8x128.size a := fun v71 k0_hw139 => k0_hw139.1
theorem k0_off395_wordsbf16 : ∀ (v71 : BitVec 32) (k0_hw139 : k0_chk139 v71), (Rect.unit (s := S13312x8x128) (k0_off395 v71) S1x8x128.size (k0_off395_inb v71 k0_hw139)).WholeWords (EltTy.packing .bf16) := fun v71 k0_hw139 => k0_hw139.2 (k0_off395_inb v71 k0_hw139)

def k0_off396 (v78 : BitVec 32) : Fin 3 → Nat :=
  let c0_i32_49 : BitVec 32 := 0#32
  let c0_i32_50 : BitVec 32 := 0#32
  ![v78.toNat, 0, 0]

def k0_chk140 (v78 : BitVec 32) : Prop :=
  (∀ a, (k0_off396 v78) a + S1x8x128.size a ≤ S13312x8x128.size a) ∧
  (∀ (hinb : ∀ a, (k0_off396 v78) a + S1x8x128.size a ≤ S13312x8x128.size a), (Rect.unit (s := S13312x8x128) (k0_off396 v78) S1x8x128.size hinb).WholeWords (EltTy.packing .bf16))
theorem k0_off396_inb : ∀ (v78 : BitVec 32) (k0_hw140 : k0_chk140 v78), ∀ a, (k0_off396 v78) a + S1x8x128.size a ≤ S13312x8x128.size a := fun v78 k0_hw140 => k0_hw140.1
theorem k0_off396_wordsbf16 : ∀ (v78 : BitVec 32) (k0_hw140 : k0_chk140 v78), (Rect.unit (s := S13312x8x128) (k0_off396 v78) S1x8x128.size (k0_off396_inb v78 k0_hw140)).WholeWords (EltTy.packing .bf16) := fun v78 k0_hw140 => k0_hw140.2 (k0_off396_inb v78 k0_hw140)

def k0_off397 (v85 : BitVec 32) : Fin 3 → Nat :=
  let c0_i32_53 : BitVec 32 := 0#32
  let c0_i32_54 : BitVec 32 := 0#32
  ![v85.toNat, 0, 0]

def k0_chk141 (v85 : BitVec 32) : Prop :=
  (∀ a, (k0_off397 v85) a + S1x8x128.size a ≤ S13312x8x128.size a) ∧
  (∀ (hinb : ∀ a, (k0_off397 v85) a + S1x8x128.size a ≤ S13312x8x128.size a), (Rect.unit (s := S13312x8x128) (k0_off397 v85) S1x8x128.size hinb).WholeWords (EltTy.packing .bf16))
theorem k0_off397_inb : ∀ (v85 : BitVec 32) (k0_hw141 : k0_chk141 v85), ∀ a, (k0_off397 v85) a + S1x8x128.size a ≤ S13312x8x128.size a := fun v85 k0_hw141 => k0_hw141.1
theorem k0_off397_wordsbf16 : ∀ (v85 : BitVec 32) (k0_hw141 : k0_chk141 v85), (Rect.unit (s := S13312x8x128) (k0_off397 v85) S1x8x128.size (k0_off397_inb v85 k0_hw141)).WholeWords (EltTy.packing .bf16) := fun v85 k0_hw141 => k0_hw141.2 (k0_off397_inb v85 k0_hw141)

def k0_off398 (v92 : BitVec 32) : Fin 3 → Nat :=
  let c0_i32_57 : BitVec 32 := 0#32
  let c0_i32_58 : BitVec 32 := 0#32
  ![v92.toNat, 0, 0]

def k0_chk142 (v92 : BitVec 32) : Prop :=
  (∀ a, (k0_off398 v92) a + S1x8x128.size a ≤ S13312x8x128.size a) ∧
  (∀ (hinb : ∀ a, (k0_off398 v92) a + S1x8x128.size a ≤ S13312x8x128.size a), (Rect.unit (s := S13312x8x128) (k0_off398 v92) S1x8x128.size hinb).WholeWords (EltTy.packing .bf16))
theorem k0_off398_inb : ∀ (v92 : BitVec 32) (k0_hw142 : k0_chk142 v92), ∀ a, (k0_off398 v92) a + S1x8x128.size a ≤ S13312x8x128.size a := fun v92 k0_hw142 => k0_hw142.1
theorem k0_off398_wordsbf16 : ∀ (v92 : BitVec 32) (k0_hw142 : k0_chk142 v92), (Rect.unit (s := S13312x8x128) (k0_off398 v92) S1x8x128.size (k0_off398_inb v92 k0_hw142)).WholeWords (EltTy.packing .bf16) := fun v92 k0_hw142 => k0_hw142.2 (k0_off398_inb v92 k0_hw142)

def k0_off399 (v99 : BitVec 32) : Fin 3 → Nat :=
  let c0_i32_61 : BitVec 32 := 0#32
  let c0_i32_62 : BitVec 32 := 0#32
  ![v99.toNat, 0, 0]

def k0_chk143 (v99 : BitVec 32) : Prop :=
  (∀ a, (k0_off399 v99) a + S1x8x128.size a ≤ S13312x8x128.size a) ∧
  (∀ (hinb : ∀ a, (k0_off399 v99) a + S1x8x128.size a ≤ S13312x8x128.size a), (Rect.unit (s := S13312x8x128) (k0_off399 v99) S1x8x128.size hinb).WholeWords (EltTy.packing .bf16))
theorem k0_off399_inb : ∀ (v99 : BitVec 32) (k0_hw143 : k0_chk143 v99), ∀ a, (k0_off399 v99) a + S1x8x128.size a ≤ S13312x8x128.size a := fun v99 k0_hw143 => k0_hw143.1
theorem k0_off399_wordsbf16 : ∀ (v99 : BitVec 32) (k0_hw143 : k0_chk143 v99), (Rect.unit (s := S13312x8x128) (k0_off399 v99) S1x8x128.size (k0_off399_inb v99 k0_hw143)).WholeWords (EltTy.packing .bf16) := fun v99 k0_hw143 => k0_hw143.2 (k0_off399_inb v99 k0_hw143)

def k0_off400 (v106 : BitVec 32) : Fin 3 → Nat :=
  let c0_i32_65 : BitVec 32 := 0#32
  let c0_i32_66 : BitVec 32 := 0#32
  ![v106.toNat, 0, 0]

def k0_chk144 (v106 : BitVec 32) : Prop :=
  (∀ a, (k0_off400 v106) a + S1x8x128.size a ≤ S13312x8x128.size a) ∧
  (∀ (hinb : ∀ a, (k0_off400 v106) a + S1x8x128.size a ≤ S13312x8x128.size a), (Rect.unit (s := S13312x8x128) (k0_off400 v106) S1x8x128.size hinb).WholeWords (EltTy.packing .bf16))
theorem k0_off400_inb : ∀ (v106 : BitVec 32) (k0_hw144 : k0_chk144 v106), ∀ a, (k0_off400 v106) a + S1x8x128.size a ≤ S13312x8x128.size a := fun v106 k0_hw144 => k0_hw144.1
theorem k0_off400_wordsbf16 : ∀ (v106 : BitVec 32) (k0_hw144 : k0_chk144 v106), (Rect.unit (s := S13312x8x128) (k0_off400 v106) S1x8x128.size (k0_off400_inb v106 k0_hw144)).WholeWords (EltTy.packing .bf16) := fun v106 k0_hw144 => k0_hw144.2 (k0_off400_inb v106 k0_hw144)

def k0_off401 (v113 : BitVec 32) : Fin 3 → Nat :=
  let c0_i32_69 : BitVec 32 := 0#32
  let c0_i32_70 : BitVec 32 := 0#32
  ![v113.toNat, 0, 0]

def k0_chk145 (v113 : BitVec 32) : Prop :=
  (∀ a, (k0_off401 v113) a + S1x8x128.size a ≤ S13312x8x128.size a) ∧
  (∀ (hinb : ∀ a, (k0_off401 v113) a + S1x8x128.size a ≤ S13312x8x128.size a), (Rect.unit (s := S13312x8x128) (k0_off401 v113) S1x8x128.size hinb).WholeWords (EltTy.packing .bf16))
theorem k0_off401_inb : ∀ (v113 : BitVec 32) (k0_hw145 : k0_chk145 v113), ∀ a, (k0_off401 v113) a + S1x8x128.size a ≤ S13312x8x128.size a := fun v113 k0_hw145 => k0_hw145.1
theorem k0_off401_wordsbf16 : ∀ (v113 : BitVec 32) (k0_hw145 : k0_chk145 v113), (Rect.unit (s := S13312x8x128) (k0_off401 v113) S1x8x128.size (k0_off401_inb v113 k0_hw145)).WholeWords (EltTy.packing .bf16) := fun v113 k0_hw145 => k0_hw145.2 (k0_off401_inb v113 k0_hw145)

def k0_off402 (v120 : BitVec 32) : Fin 3 → Nat :=
  let c0_i32_73 : BitVec 32 := 0#32
  let c0_i32_74 : BitVec 32 := 0#32
  ![v120.toNat, 0, 0]

def k0_chk146 (v120 : BitVec 32) : Prop :=
  (∀ a, (k0_off402 v120) a + S1x8x128.size a ≤ S13312x8x128.size a) ∧
  (∀ (hinb : ∀ a, (k0_off402 v120) a + S1x8x128.size a ≤ S13312x8x128.size a), (Rect.unit (s := S13312x8x128) (k0_off402 v120) S1x8x128.size hinb).WholeWords (EltTy.packing .bf16))
theorem k0_off402_inb : ∀ (v120 : BitVec 32) (k0_hw146 : k0_chk146 v120), ∀ a, (k0_off402 v120) a + S1x8x128.size a ≤ S13312x8x128.size a := fun v120 k0_hw146 => k0_hw146.1
theorem k0_off402_wordsbf16 : ∀ (v120 : BitVec 32) (k0_hw146 : k0_chk146 v120), (Rect.unit (s := S13312x8x128) (k0_off402 v120) S1x8x128.size (k0_off402_inb v120 k0_hw146)).WholeWords (EltTy.packing .bf16) := fun v120 k0_hw146 => k0_hw146.2 (k0_off402_inb v120 k0_hw146)

def k0_off403 (v127 : BitVec 32) : Fin 3 → Nat :=
  let c0_i32_77 : BitVec 32 := 0#32
  let c0_i32_78 : BitVec 32 := 0#32
  ![v127.toNat, 0, 0]

def k0_chk147 (v127 : BitVec 32) : Prop :=
  (∀ a, (k0_off403 v127) a + S1x8x128.size a ≤ S13312x8x128.size a) ∧
  (∀ (hinb : ∀ a, (k0_off403 v127) a + S1x8x128.size a ≤ S13312x8x128.size a), (Rect.unit (s := S13312x8x128) (k0_off403 v127) S1x8x128.size hinb).WholeWords (EltTy.packing .bf16))
theorem k0_off403_inb : ∀ (v127 : BitVec 32) (k0_hw147 : k0_chk147 v127), ∀ a, (k0_off403 v127) a + S1x8x128.size a ≤ S13312x8x128.size a := fun v127 k0_hw147 => k0_hw147.1
theorem k0_off403_wordsbf16 : ∀ (v127 : BitVec 32) (k0_hw147 : k0_chk147 v127), (Rect.unit (s := S13312x8x128) (k0_off403 v127) S1x8x128.size (k0_off403_inb v127 k0_hw147)).WholeWords (EltTy.packing .bf16) := fun v127 k0_hw147 => k0_hw147.2 (k0_off403_inb v127 k0_hw147)

def k0_off404 (v134 : BitVec 32) : Fin 3 → Nat :=
  let c0_i32_81 : BitVec 32 := 0#32
  let c0_i32_82 : BitVec 32 := 0#32
  ![v134.toNat, 0, 0]

def k0_chk148 (v134 : BitVec 32) : Prop :=
  (∀ a, (k0_off404 v134) a + S1x8x128.size a ≤ S13312x8x128.size a) ∧
  (∀ (hinb : ∀ a, (k0_off404 v134) a + S1x8x128.size a ≤ S13312x8x128.size a), (Rect.unit (s := S13312x8x128) (k0_off404 v134) S1x8x128.size hinb).WholeWords (EltTy.packing .bf16))
theorem k0_off404_inb : ∀ (v134 : BitVec 32) (k0_hw148 : k0_chk148 v134), ∀ a, (k0_off404 v134) a + S1x8x128.size a ≤ S13312x8x128.size a := fun v134 k0_hw148 => k0_hw148.1
theorem k0_off404_wordsbf16 : ∀ (v134 : BitVec 32) (k0_hw148 : k0_chk148 v134), (Rect.unit (s := S13312x8x128) (k0_off404 v134) S1x8x128.size (k0_off404_inb v134 k0_hw148)).WholeWords (EltTy.packing .bf16) := fun v134 k0_hw148 => k0_hw148.2 (k0_off404_inb v134 k0_hw148)

def k0_off405 (v141 : BitVec 32) : Fin 3 → Nat :=
  let c0_i32_85 : BitVec 32 := 0#32
  let c0_i32_86 : BitVec 32 := 0#32
  ![v141.toNat, 0, 0]

def k0_chk149 (v141 : BitVec 32) : Prop :=
  (∀ a, (k0_off405 v141) a + S1x8x128.size a ≤ S13312x8x128.size a) ∧
  (∀ (hinb : ∀ a, (k0_off405 v141) a + S1x8x128.size a ≤ S13312x8x128.size a), (Rect.unit (s := S13312x8x128) (k0_off405 v141) S1x8x128.size hinb).WholeWords (EltTy.packing .bf16))
theorem k0_off405_inb : ∀ (v141 : BitVec 32) (k0_hw149 : k0_chk149 v141), ∀ a, (k0_off405 v141) a + S1x8x128.size a ≤ S13312x8x128.size a := fun v141 k0_hw149 => k0_hw149.1
theorem k0_off405_wordsbf16 : ∀ (v141 : BitVec 32) (k0_hw149 : k0_chk149 v141), (Rect.unit (s := S13312x8x128) (k0_off405 v141) S1x8x128.size (k0_off405_inb v141 k0_hw149)).WholeWords (EltTy.packing .bf16) := fun v141 k0_hw149 => k0_hw149.2 (k0_off405_inb v141 k0_hw149)

def k0_off406 (v148 : BitVec 32) : Fin 3 → Nat :=
  let c0_i32_89 : BitVec 32 := 0#32
  let c0_i32_90 : BitVec 32 := 0#32
  ![v148.toNat, 0, 0]

def k0_chk150 (v148 : BitVec 32) : Prop :=
  (∀ a, (k0_off406 v148) a + S1x8x128.size a ≤ S13312x8x128.size a) ∧
  (∀ (hinb : ∀ a, (k0_off406 v148) a + S1x8x128.size a ≤ S13312x8x128.size a), (Rect.unit (s := S13312x8x128) (k0_off406 v148) S1x8x128.size hinb).WholeWords (EltTy.packing .bf16))
theorem k0_off406_inb : ∀ (v148 : BitVec 32) (k0_hw150 : k0_chk150 v148), ∀ a, (k0_off406 v148) a + S1x8x128.size a ≤ S13312x8x128.size a := fun v148 k0_hw150 => k0_hw150.1
theorem k0_off406_wordsbf16 : ∀ (v148 : BitVec 32) (k0_hw150 : k0_chk150 v148), (Rect.unit (s := S13312x8x128) (k0_off406 v148) S1x8x128.size (k0_off406_inb v148 k0_hw150)).WholeWords (EltTy.packing .bf16) := fun v148 k0_hw150 => k0_hw150.2 (k0_off406_inb v148 k0_hw150)

def k0_off407 (v155 : BitVec 32) : Fin 3 → Nat :=
  let c0_i32_93 : BitVec 32 := 0#32
  let c0_i32_94 : BitVec 32 := 0#32
  ![v155.toNat, 0, 0]

def k0_chk151 (v155 : BitVec 32) : Prop :=
  (∀ a, (k0_off407 v155) a + S1x8x128.size a ≤ S13312x8x128.size a) ∧
  (∀ (hinb : ∀ a, (k0_off407 v155) a + S1x8x128.size a ≤ S13312x8x128.size a), (Rect.unit (s := S13312x8x128) (k0_off407 v155) S1x8x128.size hinb).WholeWords (EltTy.packing .bf16))
theorem k0_off407_inb : ∀ (v155 : BitVec 32) (k0_hw151 : k0_chk151 v155), ∀ a, (k0_off407 v155) a + S1x8x128.size a ≤ S13312x8x128.size a := fun v155 k0_hw151 => k0_hw151.1
theorem k0_off407_wordsbf16 : ∀ (v155 : BitVec 32) (k0_hw151 : k0_chk151 v155), (Rect.unit (s := S13312x8x128) (k0_off407 v155) S1x8x128.size (k0_off407_inb v155 k0_hw151)).WholeWords (EltTy.packing .bf16) := fun v155 k0_hw151 => k0_hw151.2 (k0_off407_inb v155 k0_hw151)

def k0_off408 (v162 : BitVec 32) : Fin 3 → Nat :=
  let c0_i32_97 : BitVec 32 := 0#32
  let c0_i32_98 : BitVec 32 := 0#32
  ![v162.toNat, 0, 0]

def k0_chk152 (v162 : BitVec 32) : Prop :=
  (∀ a, (k0_off408 v162) a + S1x8x128.size a ≤ S13312x8x128.size a) ∧
  (∀ (hinb : ∀ a, (k0_off408 v162) a + S1x8x128.size a ≤ S13312x8x128.size a), (Rect.unit (s := S13312x8x128) (k0_off408 v162) S1x8x128.size hinb).WholeWords (EltTy.packing .bf16))
theorem k0_off408_inb : ∀ (v162 : BitVec 32) (k0_hw152 : k0_chk152 v162), ∀ a, (k0_off408 v162) a + S1x8x128.size a ≤ S13312x8x128.size a := fun v162 k0_hw152 => k0_hw152.1
theorem k0_off408_wordsbf16 : ∀ (v162 : BitVec 32) (k0_hw152 : k0_chk152 v162), (Rect.unit (s := S13312x8x128) (k0_off408 v162) S1x8x128.size (k0_off408_inb v162 k0_hw152)).WholeWords (EltTy.packing .bf16) := fun v162 k0_hw152 => k0_hw152.2 (k0_off408_inb v162 k0_hw152)

def k0_off409 (v169 : BitVec 32) : Fin 3 → Nat :=
  let c0_i32_101 : BitVec 32 := 0#32
  let c0_i32_102 : BitVec 32 := 0#32
  ![v169.toNat, 0, 0]

def k0_chk153 (v169 : BitVec 32) : Prop :=
  (∀ a, (k0_off409 v169) a + S1x8x128.size a ≤ S13312x8x128.size a) ∧
  (∀ (hinb : ∀ a, (k0_off409 v169) a + S1x8x128.size a ≤ S13312x8x128.size a), (Rect.unit (s := S13312x8x128) (k0_off409 v169) S1x8x128.size hinb).WholeWords (EltTy.packing .bf16))
theorem k0_off409_inb : ∀ (v169 : BitVec 32) (k0_hw153 : k0_chk153 v169), ∀ a, (k0_off409 v169) a + S1x8x128.size a ≤ S13312x8x128.size a := fun v169 k0_hw153 => k0_hw153.1
theorem k0_off409_wordsbf16 : ∀ (v169 : BitVec 32) (k0_hw153 : k0_chk153 v169), (Rect.unit (s := S13312x8x128) (k0_off409 v169) S1x8x128.size (k0_off409_inb v169 k0_hw153)).WholeWords (EltTy.packing .bf16) := fun v169 k0_hw153 => k0_hw153.2 (k0_off409_inb v169 k0_hw153)

def k0_off410 (v176 : BitVec 32) : Fin 3 → Nat :=
  let c0_i32_105 : BitVec 32 := 0#32
  let c0_i32_106 : BitVec 32 := 0#32
  ![v176.toNat, 0, 0]

def k0_chk154 (v176 : BitVec 32) : Prop :=
  (∀ a, (k0_off410 v176) a + S1x8x128.size a ≤ S13312x8x128.size a) ∧
  (∀ (hinb : ∀ a, (k0_off410 v176) a + S1x8x128.size a ≤ S13312x8x128.size a), (Rect.unit (s := S13312x8x128) (k0_off410 v176) S1x8x128.size hinb).WholeWords (EltTy.packing .bf16))
theorem k0_off410_inb : ∀ (v176 : BitVec 32) (k0_hw154 : k0_chk154 v176), ∀ a, (k0_off410 v176) a + S1x8x128.size a ≤ S13312x8x128.size a := fun v176 k0_hw154 => k0_hw154.1
theorem k0_off410_wordsbf16 : ∀ (v176 : BitVec 32) (k0_hw154 : k0_chk154 v176), (Rect.unit (s := S13312x8x128) (k0_off410 v176) S1x8x128.size (k0_off410_inb v176 k0_hw154)).WholeWords (EltTy.packing .bf16) := fun v176 k0_hw154 => k0_hw154.2 (k0_off410_inb v176 k0_hw154)

def k0_off411 (v183 : BitVec 32) : Fin 3 → Nat :=
  let c0_i32_109 : BitVec 32 := 0#32
  let c0_i32_110 : BitVec 32 := 0#32
  ![v183.toNat, 0, 0]

def k0_chk155 (v183 : BitVec 32) : Prop :=
  (∀ a, (k0_off411 v183) a + S1x8x128.size a ≤ S13312x8x128.size a) ∧
  (∀ (hinb : ∀ a, (k0_off411 v183) a + S1x8x128.size a ≤ S13312x8x128.size a), (Rect.unit (s := S13312x8x128) (k0_off411 v183) S1x8x128.size hinb).WholeWords (EltTy.packing .bf16))
theorem k0_off411_inb : ∀ (v183 : BitVec 32) (k0_hw155 : k0_chk155 v183), ∀ a, (k0_off411 v183) a + S1x8x128.size a ≤ S13312x8x128.size a := fun v183 k0_hw155 => k0_hw155.1
theorem k0_off411_wordsbf16 : ∀ (v183 : BitVec 32) (k0_hw155 : k0_chk155 v183), (Rect.unit (s := S13312x8x128) (k0_off411 v183) S1x8x128.size (k0_off411_inb v183 k0_hw155)).WholeWords (EltTy.packing .bf16) := fun v183 k0_hw155 => k0_hw155.2 (k0_off411_inb v183 k0_hw155)

def k0_off412 (v190 : BitVec 32) : Fin 3 → Nat :=
  let c0_i32_113 : BitVec 32 := 0#32
  let c0_i32_114 : BitVec 32 := 0#32
  ![v190.toNat, 0, 0]

def k0_chk156 (v190 : BitVec 32) : Prop :=
  (∀ a, (k0_off412 v190) a + S1x8x128.size a ≤ S13312x8x128.size a) ∧
  (∀ (hinb : ∀ a, (k0_off412 v190) a + S1x8x128.size a ≤ S13312x8x128.size a), (Rect.unit (s := S13312x8x128) (k0_off412 v190) S1x8x128.size hinb).WholeWords (EltTy.packing .bf16))
theorem k0_off412_inb : ∀ (v190 : BitVec 32) (k0_hw156 : k0_chk156 v190), ∀ a, (k0_off412 v190) a + S1x8x128.size a ≤ S13312x8x128.size a := fun v190 k0_hw156 => k0_hw156.1
theorem k0_off412_wordsbf16 : ∀ (v190 : BitVec 32) (k0_hw156 : k0_chk156 v190), (Rect.unit (s := S13312x8x128) (k0_off412 v190) S1x8x128.size (k0_off412_inb v190 k0_hw156)).WholeWords (EltTy.packing .bf16) := fun v190 k0_hw156 => k0_hw156.2 (k0_off412_inb v190 k0_hw156)

def k0_off413 (v197 : BitVec 32) : Fin 3 → Nat :=
  let c0_i32_117 : BitVec 32 := 0#32
  let c0_i32_118 : BitVec 32 := 0#32
  ![v197.toNat, 0, 0]

def k0_chk157 (v197 : BitVec 32) : Prop :=
  (∀ a, (k0_off413 v197) a + S1x8x128.size a ≤ S13312x8x128.size a) ∧
  (∀ (hinb : ∀ a, (k0_off413 v197) a + S1x8x128.size a ≤ S13312x8x128.size a), (Rect.unit (s := S13312x8x128) (k0_off413 v197) S1x8x128.size hinb).WholeWords (EltTy.packing .bf16))
theorem k0_off413_inb : ∀ (v197 : BitVec 32) (k0_hw157 : k0_chk157 v197), ∀ a, (k0_off413 v197) a + S1x8x128.size a ≤ S13312x8x128.size a := fun v197 k0_hw157 => k0_hw157.1
theorem k0_off413_wordsbf16 : ∀ (v197 : BitVec 32) (k0_hw157 : k0_chk157 v197), (Rect.unit (s := S13312x8x128) (k0_off413 v197) S1x8x128.size (k0_off413_inb v197 k0_hw157)).WholeWords (EltTy.packing .bf16) := fun v197 k0_hw157 => k0_hw157.2 (k0_off413_inb v197 k0_hw157)

def k0_off414 (v204 : BitVec 32) : Fin 3 → Nat :=
  let c0_i32_121 : BitVec 32 := 0#32
  let c0_i32_122 : BitVec 32 := 0#32
  ![v204.toNat, 0, 0]

def k0_chk158 (v204 : BitVec 32) : Prop :=
  (∀ a, (k0_off414 v204) a + S1x8x128.size a ≤ S13312x8x128.size a) ∧
  (∀ (hinb : ∀ a, (k0_off414 v204) a + S1x8x128.size a ≤ S13312x8x128.size a), (Rect.unit (s := S13312x8x128) (k0_off414 v204) S1x8x128.size hinb).WholeWords (EltTy.packing .bf16))
theorem k0_off414_inb : ∀ (v204 : BitVec 32) (k0_hw158 : k0_chk158 v204), ∀ a, (k0_off414 v204) a + S1x8x128.size a ≤ S13312x8x128.size a := fun v204 k0_hw158 => k0_hw158.1
theorem k0_off414_wordsbf16 : ∀ (v204 : BitVec 32) (k0_hw158 : k0_chk158 v204), (Rect.unit (s := S13312x8x128) (k0_off414 v204) S1x8x128.size (k0_off414_inb v204 k0_hw158)).WholeWords (EltTy.packing .bf16) := fun v204 k0_hw158 => k0_hw158.2 (k0_off414_inb v204 k0_hw158)

def k0_off415 (v211 : BitVec 32) : Fin 3 → Nat :=
  let c0_i32_125 : BitVec 32 := 0#32
  let c0_i32_126 : BitVec 32 := 0#32
  ![v211.toNat, 0, 0]

def k0_chk159 (v211 : BitVec 32) : Prop :=
  (∀ a, (k0_off415 v211) a + S1x8x128.size a ≤ S13312x8x128.size a) ∧
  (∀ (hinb : ∀ a, (k0_off415 v211) a + S1x8x128.size a ≤ S13312x8x128.size a), (Rect.unit (s := S13312x8x128) (k0_off415 v211) S1x8x128.size hinb).WholeWords (EltTy.packing .bf16))
theorem k0_off415_inb : ∀ (v211 : BitVec 32) (k0_hw159 : k0_chk159 v211), ∀ a, (k0_off415 v211) a + S1x8x128.size a ≤ S13312x8x128.size a := fun v211 k0_hw159 => k0_hw159.1
theorem k0_off415_wordsbf16 : ∀ (v211 : BitVec 32) (k0_hw159 : k0_chk159 v211), (Rect.unit (s := S13312x8x128) (k0_off415 v211) S1x8x128.size (k0_off415_inb v211 k0_hw159)).WholeWords (EltTy.packing .bf16) := fun v211 k0_hw159 => k0_hw159.2 (k0_off415_inb v211 k0_hw159)

def k0_off416 (v218 : BitVec 32) : Fin 3 → Nat :=
  let c0_i32_129 : BitVec 32 := 0#32
  let c0_i32_130 : BitVec 32 := 0#32
  ![v218.toNat, 0, 0]

def k0_chk160 (v218 : BitVec 32) : Prop :=
  (∀ a, (k0_off416 v218) a + S1x8x128.size a ≤ S13312x8x128.size a) ∧
  (∀ (hinb : ∀ a, (k0_off416 v218) a + S1x8x128.size a ≤ S13312x8x128.size a), (Rect.unit (s := S13312x8x128) (k0_off416 v218) S1x8x128.size hinb).WholeWords (EltTy.packing .bf16))
theorem k0_off416_inb : ∀ (v218 : BitVec 32) (k0_hw160 : k0_chk160 v218), ∀ a, (k0_off416 v218) a + S1x8x128.size a ≤ S13312x8x128.size a := fun v218 k0_hw160 => k0_hw160.1
theorem k0_off416_wordsbf16 : ∀ (v218 : BitVec 32) (k0_hw160 : k0_chk160 v218), (Rect.unit (s := S13312x8x128) (k0_off416 v218) S1x8x128.size (k0_off416_inb v218 k0_hw160)).WholeWords (EltTy.packing .bf16) := fun v218 k0_hw160 => k0_hw160.2 (k0_off416_inb v218 k0_hw160)

def k0_off417 (v225 : BitVec 32) : Fin 3 → Nat :=
  let c0_i32_134 : BitVec 32 := 0#32
  let c0_i32_135 : BitVec 32 := 0#32
  ![v225.toNat, 0, 0]

def k0_chk161 (v225 : BitVec 32) : Prop :=
  (∀ a, (k0_off417 v225) a + S1x8x128.size a ≤ S13312x8x128.size a) ∧
  (∀ (hinb : ∀ a, (k0_off417 v225) a + S1x8x128.size a ≤ S13312x8x128.size a), (Rect.unit (s := S13312x8x128) (k0_off417 v225) S1x8x128.size hinb).WholeWords (EltTy.packing .bf16))
theorem k0_off417_inb : ∀ (v225 : BitVec 32) (k0_hw161 : k0_chk161 v225), ∀ a, (k0_off417 v225) a + S1x8x128.size a ≤ S13312x8x128.size a := fun v225 k0_hw161 => k0_hw161.1
theorem k0_off417_wordsbf16 : ∀ (v225 : BitVec 32) (k0_hw161 : k0_chk161 v225), (Rect.unit (s := S13312x8x128) (k0_off417 v225) S1x8x128.size (k0_off417_inb v225 k0_hw161)).WholeWords (EltTy.packing .bf16) := fun v225 k0_hw161 => k0_hw161.2 (k0_off417_inb v225 k0_hw161)

def k0_off418 (v232 : BitVec 32) : Fin 3 → Nat :=
  let c0_i32_138 : BitVec 32 := 0#32
  let c0_i32_139 : BitVec 32 := 0#32
  ![v232.toNat, 0, 0]

def k0_chk162 (v232 : BitVec 32) : Prop :=
  (∀ a, (k0_off418 v232) a + S1x8x128.size a ≤ S13312x8x128.size a) ∧
  (∀ (hinb : ∀ a, (k0_off418 v232) a + S1x8x128.size a ≤ S13312x8x128.size a), (Rect.unit (s := S13312x8x128) (k0_off418 v232) S1x8x128.size hinb).WholeWords (EltTy.packing .bf16))
theorem k0_off418_inb : ∀ (v232 : BitVec 32) (k0_hw162 : k0_chk162 v232), ∀ a, (k0_off418 v232) a + S1x8x128.size a ≤ S13312x8x128.size a := fun v232 k0_hw162 => k0_hw162.1
theorem k0_off418_wordsbf16 : ∀ (v232 : BitVec 32) (k0_hw162 : k0_chk162 v232), (Rect.unit (s := S13312x8x128) (k0_off418 v232) S1x8x128.size (k0_off418_inb v232 k0_hw162)).WholeWords (EltTy.packing .bf16) := fun v232 k0_hw162 => k0_hw162.2 (k0_off418_inb v232 k0_hw162)

def k0_off419 (v239 : BitVec 32) : Fin 3 → Nat :=
  let c0_i32_142 : BitVec 32 := 0#32
  let c0_i32_143 : BitVec 32 := 0#32
  ![v239.toNat, 0, 0]

def k0_chk163 (v239 : BitVec 32) : Prop :=
  (∀ a, (k0_off419 v239) a + S1x8x128.size a ≤ S13312x8x128.size a) ∧
  (∀ (hinb : ∀ a, (k0_off419 v239) a + S1x8x128.size a ≤ S13312x8x128.size a), (Rect.unit (s := S13312x8x128) (k0_off419 v239) S1x8x128.size hinb).WholeWords (EltTy.packing .bf16))
theorem k0_off419_inb : ∀ (v239 : BitVec 32) (k0_hw163 : k0_chk163 v239), ∀ a, (k0_off419 v239) a + S1x8x128.size a ≤ S13312x8x128.size a := fun v239 k0_hw163 => k0_hw163.1
theorem k0_off419_wordsbf16 : ∀ (v239 : BitVec 32) (k0_hw163 : k0_chk163 v239), (Rect.unit (s := S13312x8x128) (k0_off419 v239) S1x8x128.size (k0_off419_inb v239 k0_hw163)).WholeWords (EltTy.packing .bf16) := fun v239 k0_hw163 => k0_hw163.2 (k0_off419_inb v239 k0_hw163)

def k0_off420 (v246 : BitVec 32) : Fin 3 → Nat :=
  let c0_i32_146 : BitVec 32 := 0#32
  let c0_i32_147 : BitVec 32 := 0#32
  ![v246.toNat, 0, 0]

def k0_chk164 (v246 : BitVec 32) : Prop :=
  (∀ a, (k0_off420 v246) a + S1x8x128.size a ≤ S13312x8x128.size a) ∧
  (∀ (hinb : ∀ a, (k0_off420 v246) a + S1x8x128.size a ≤ S13312x8x128.size a), (Rect.unit (s := S13312x8x128) (k0_off420 v246) S1x8x128.size hinb).WholeWords (EltTy.packing .bf16))
theorem k0_off420_inb : ∀ (v246 : BitVec 32) (k0_hw164 : k0_chk164 v246), ∀ a, (k0_off420 v246) a + S1x8x128.size a ≤ S13312x8x128.size a := fun v246 k0_hw164 => k0_hw164.1
theorem k0_off420_wordsbf16 : ∀ (v246 : BitVec 32) (k0_hw164 : k0_chk164 v246), (Rect.unit (s := S13312x8x128) (k0_off420 v246) S1x8x128.size (k0_off420_inb v246 k0_hw164)).WholeWords (EltTy.packing .bf16) := fun v246 k0_hw164 => k0_hw164.2 (k0_off420_inb v246 k0_hw164)

def k0_off421 (v253 : BitVec 32) : Fin 3 → Nat :=
  let c0_i32_150 : BitVec 32 := 0#32
  let c0_i32_151 : BitVec 32 := 0#32
  ![v253.toNat, 0, 0]

def k0_chk165 (v253 : BitVec 32) : Prop :=
  (∀ a, (k0_off421 v253) a + S1x8x128.size a ≤ S13312x8x128.size a) ∧
  (∀ (hinb : ∀ a, (k0_off421 v253) a + S1x8x128.size a ≤ S13312x8x128.size a), (Rect.unit (s := S13312x8x128) (k0_off421 v253) S1x8x128.size hinb).WholeWords (EltTy.packing .bf16))
theorem k0_off421_inb : ∀ (v253 : BitVec 32) (k0_hw165 : k0_chk165 v253), ∀ a, (k0_off421 v253) a + S1x8x128.size a ≤ S13312x8x128.size a := fun v253 k0_hw165 => k0_hw165.1
theorem k0_off421_wordsbf16 : ∀ (v253 : BitVec 32) (k0_hw165 : k0_chk165 v253), (Rect.unit (s := S13312x8x128) (k0_off421 v253) S1x8x128.size (k0_off421_inb v253 k0_hw165)).WholeWords (EltTy.packing .bf16) := fun v253 k0_hw165 => k0_hw165.2 (k0_off421_inb v253 k0_hw165)

def k0_off422 (v260 : BitVec 32) : Fin 3 → Nat :=
  let c0_i32_154 : BitVec 32 := 0#32
  let c0_i32_155 : BitVec 32 := 0#32
  ![v260.toNat, 0, 0]

def k0_chk166 (v260 : BitVec 32) : Prop :=
  (∀ a, (k0_off422 v260) a + S1x8x128.size a ≤ S13312x8x128.size a) ∧
  (∀ (hinb : ∀ a, (k0_off422 v260) a + S1x8x128.size a ≤ S13312x8x128.size a), (Rect.unit (s := S13312x8x128) (k0_off422 v260) S1x8x128.size hinb).WholeWords (EltTy.packing .bf16))
theorem k0_off422_inb : ∀ (v260 : BitVec 32) (k0_hw166 : k0_chk166 v260), ∀ a, (k0_off422 v260) a + S1x8x128.size a ≤ S13312x8x128.size a := fun v260 k0_hw166 => k0_hw166.1
theorem k0_off422_wordsbf16 : ∀ (v260 : BitVec 32) (k0_hw166 : k0_chk166 v260), (Rect.unit (s := S13312x8x128) (k0_off422 v260) S1x8x128.size (k0_off422_inb v260 k0_hw166)).WholeWords (EltTy.packing .bf16) := fun v260 k0_hw166 => k0_hw166.2 (k0_off422_inb v260 k0_hw166)

def k0_off423 (v267 : BitVec 32) : Fin 3 → Nat :=
  let c0_i32_158 : BitVec 32 := 0#32
  let c0_i32_159 : BitVec 32 := 0#32
  ![v267.toNat, 0, 0]

def k0_chk167 (v267 : BitVec 32) : Prop :=
  (∀ a, (k0_off423 v267) a + S1x8x128.size a ≤ S13312x8x128.size a) ∧
  (∀ (hinb : ∀ a, (k0_off423 v267) a + S1x8x128.size a ≤ S13312x8x128.size a), (Rect.unit (s := S13312x8x128) (k0_off423 v267) S1x8x128.size hinb).WholeWords (EltTy.packing .bf16))
theorem k0_off423_inb : ∀ (v267 : BitVec 32) (k0_hw167 : k0_chk167 v267), ∀ a, (k0_off423 v267) a + S1x8x128.size a ≤ S13312x8x128.size a := fun v267 k0_hw167 => k0_hw167.1
theorem k0_off423_wordsbf16 : ∀ (v267 : BitVec 32) (k0_hw167 : k0_chk167 v267), (Rect.unit (s := S13312x8x128) (k0_off423 v267) S1x8x128.size (k0_off423_inb v267 k0_hw167)).WholeWords (EltTy.packing .bf16) := fun v267 k0_hw167 => k0_hw167.2 (k0_off423_inb v267 k0_hw167)

def k0_off424 (v274 : BitVec 32) : Fin 3 → Nat :=
  let c0_i32_162 : BitVec 32 := 0#32
  let c0_i32_163 : BitVec 32 := 0#32
  ![v274.toNat, 0, 0]

def k0_chk168 (v274 : BitVec 32) : Prop :=
  (∀ a, (k0_off424 v274) a + S1x8x128.size a ≤ S13312x8x128.size a) ∧
  (∀ (hinb : ∀ a, (k0_off424 v274) a + S1x8x128.size a ≤ S13312x8x128.size a), (Rect.unit (s := S13312x8x128) (k0_off424 v274) S1x8x128.size hinb).WholeWords (EltTy.packing .bf16))
theorem k0_off424_inb : ∀ (v274 : BitVec 32) (k0_hw168 : k0_chk168 v274), ∀ a, (k0_off424 v274) a + S1x8x128.size a ≤ S13312x8x128.size a := fun v274 k0_hw168 => k0_hw168.1
theorem k0_off424_wordsbf16 : ∀ (v274 : BitVec 32) (k0_hw168 : k0_chk168 v274), (Rect.unit (s := S13312x8x128) (k0_off424 v274) S1x8x128.size (k0_off424_inb v274 k0_hw168)).WholeWords (EltTy.packing .bf16) := fun v274 k0_hw168 => k0_hw168.2 (k0_off424_inb v274 k0_hw168)

def k0_off425 (v281 : BitVec 32) : Fin 3 → Nat :=
  let c0_i32_166 : BitVec 32 := 0#32
  let c0_i32_167 : BitVec 32 := 0#32
  ![v281.toNat, 0, 0]

def k0_chk169 (v281 : BitVec 32) : Prop :=
  (∀ a, (k0_off425 v281) a + S1x8x128.size a ≤ S13312x8x128.size a) ∧
  (∀ (hinb : ∀ a, (k0_off425 v281) a + S1x8x128.size a ≤ S13312x8x128.size a), (Rect.unit (s := S13312x8x128) (k0_off425 v281) S1x8x128.size hinb).WholeWords (EltTy.packing .bf16))
theorem k0_off425_inb : ∀ (v281 : BitVec 32) (k0_hw169 : k0_chk169 v281), ∀ a, (k0_off425 v281) a + S1x8x128.size a ≤ S13312x8x128.size a := fun v281 k0_hw169 => k0_hw169.1
theorem k0_off425_wordsbf16 : ∀ (v281 : BitVec 32) (k0_hw169 : k0_chk169 v281), (Rect.unit (s := S13312x8x128) (k0_off425 v281) S1x8x128.size (k0_off425_inb v281 k0_hw169)).WholeWords (EltTy.packing .bf16) := fun v281 k0_hw169 => k0_hw169.2 (k0_off425_inb v281 k0_hw169)

def k0_off426 (v288 : BitVec 32) : Fin 3 → Nat :=
  let c0_i32_170 : BitVec 32 := 0#32
  let c0_i32_171 : BitVec 32 := 0#32
  ![v288.toNat, 0, 0]

def k0_chk170 (v288 : BitVec 32) : Prop :=
  (∀ a, (k0_off426 v288) a + S1x8x128.size a ≤ S13312x8x128.size a) ∧
  (∀ (hinb : ∀ a, (k0_off426 v288) a + S1x8x128.size a ≤ S13312x8x128.size a), (Rect.unit (s := S13312x8x128) (k0_off426 v288) S1x8x128.size hinb).WholeWords (EltTy.packing .bf16))
theorem k0_off426_inb : ∀ (v288 : BitVec 32) (k0_hw170 : k0_chk170 v288), ∀ a, (k0_off426 v288) a + S1x8x128.size a ≤ S13312x8x128.size a := fun v288 k0_hw170 => k0_hw170.1
theorem k0_off426_wordsbf16 : ∀ (v288 : BitVec 32) (k0_hw170 : k0_chk170 v288), (Rect.unit (s := S13312x8x128) (k0_off426 v288) S1x8x128.size (k0_off426_inb v288 k0_hw170)).WholeWords (EltTy.packing .bf16) := fun v288 k0_hw170 => k0_hw170.2 (k0_off426_inb v288 k0_hw170)

def k0_off427 (v295 : BitVec 32) : Fin 3 → Nat :=
  let c0_i32_174 : BitVec 32 := 0#32
  let c0_i32_175 : BitVec 32 := 0#32
  ![v295.toNat, 0, 0]

def k0_chk171 (v295 : BitVec 32) : Prop :=
  (∀ a, (k0_off427 v295) a + S1x8x128.size a ≤ S13312x8x128.size a) ∧
  (∀ (hinb : ∀ a, (k0_off427 v295) a + S1x8x128.size a ≤ S13312x8x128.size a), (Rect.unit (s := S13312x8x128) (k0_off427 v295) S1x8x128.size hinb).WholeWords (EltTy.packing .bf16))
theorem k0_off427_inb : ∀ (v295 : BitVec 32) (k0_hw171 : k0_chk171 v295), ∀ a, (k0_off427 v295) a + S1x8x128.size a ≤ S13312x8x128.size a := fun v295 k0_hw171 => k0_hw171.1
theorem k0_off427_wordsbf16 : ∀ (v295 : BitVec 32) (k0_hw171 : k0_chk171 v295), (Rect.unit (s := S13312x8x128) (k0_off427 v295) S1x8x128.size (k0_off427_inb v295 k0_hw171)).WholeWords (EltTy.packing .bf16) := fun v295 k0_hw171 => k0_hw171.2 (k0_off427_inb v295 k0_hw171)

def k0_off428 (v302 : BitVec 32) : Fin 3 → Nat :=
  let c0_i32_178 : BitVec 32 := 0#32
  let c0_i32_179 : BitVec 32 := 0#32
  ![v302.toNat, 0, 0]

def k0_chk172 (v302 : BitVec 32) : Prop :=
  (∀ a, (k0_off428 v302) a + S1x8x128.size a ≤ S13312x8x128.size a) ∧
  (∀ (hinb : ∀ a, (k0_off428 v302) a + S1x8x128.size a ≤ S13312x8x128.size a), (Rect.unit (s := S13312x8x128) (k0_off428 v302) S1x8x128.size hinb).WholeWords (EltTy.packing .bf16))
theorem k0_off428_inb : ∀ (v302 : BitVec 32) (k0_hw172 : k0_chk172 v302), ∀ a, (k0_off428 v302) a + S1x8x128.size a ≤ S13312x8x128.size a := fun v302 k0_hw172 => k0_hw172.1
theorem k0_off428_wordsbf16 : ∀ (v302 : BitVec 32) (k0_hw172 : k0_chk172 v302), (Rect.unit (s := S13312x8x128) (k0_off428 v302) S1x8x128.size (k0_off428_inb v302 k0_hw172)).WholeWords (EltTy.packing .bf16) := fun v302 k0_hw172 => k0_hw172.2 (k0_off428_inb v302 k0_hw172)

def k0_off429 (v309 : BitVec 32) : Fin 3 → Nat :=
  let c0_i32_182 : BitVec 32 := 0#32
  let c0_i32_183 : BitVec 32 := 0#32
  ![v309.toNat, 0, 0]

def k0_chk173 (v309 : BitVec 32) : Prop :=
  (∀ a, (k0_off429 v309) a + S1x8x128.size a ≤ S13312x8x128.size a) ∧
  (∀ (hinb : ∀ a, (k0_off429 v309) a + S1x8x128.size a ≤ S13312x8x128.size a), (Rect.unit (s := S13312x8x128) (k0_off429 v309) S1x8x128.size hinb).WholeWords (EltTy.packing .bf16))
theorem k0_off429_inb : ∀ (v309 : BitVec 32) (k0_hw173 : k0_chk173 v309), ∀ a, (k0_off429 v309) a + S1x8x128.size a ≤ S13312x8x128.size a := fun v309 k0_hw173 => k0_hw173.1
theorem k0_off429_wordsbf16 : ∀ (v309 : BitVec 32) (k0_hw173 : k0_chk173 v309), (Rect.unit (s := S13312x8x128) (k0_off429 v309) S1x8x128.size (k0_off429_inb v309 k0_hw173)).WholeWords (EltTy.packing .bf16) := fun v309 k0_hw173 => k0_hw173.2 (k0_off429_inb v309 k0_hw173)

def k0_off430 (v316 : BitVec 32) : Fin 3 → Nat :=
  let c0_i32_186 : BitVec 32 := 0#32
  let c0_i32_187 : BitVec 32 := 0#32
  ![v316.toNat, 0, 0]

def k0_chk174 (v316 : BitVec 32) : Prop :=
  (∀ a, (k0_off430 v316) a + S1x8x128.size a ≤ S13312x8x128.size a) ∧
  (∀ (hinb : ∀ a, (k0_off430 v316) a + S1x8x128.size a ≤ S13312x8x128.size a), (Rect.unit (s := S13312x8x128) (k0_off430 v316) S1x8x128.size hinb).WholeWords (EltTy.packing .bf16))
theorem k0_off430_inb : ∀ (v316 : BitVec 32) (k0_hw174 : k0_chk174 v316), ∀ a, (k0_off430 v316) a + S1x8x128.size a ≤ S13312x8x128.size a := fun v316 k0_hw174 => k0_hw174.1
theorem k0_off430_wordsbf16 : ∀ (v316 : BitVec 32) (k0_hw174 : k0_chk174 v316), (Rect.unit (s := S13312x8x128) (k0_off430 v316) S1x8x128.size (k0_off430_inb v316 k0_hw174)).WholeWords (EltTy.packing .bf16) := fun v316 k0_hw174 => k0_hw174.2 (k0_off430_inb v316 k0_hw174)

def k0_off431 (v323 : BitVec 32) : Fin 3 → Nat :=
  let c0_i32_190 : BitVec 32 := 0#32
  let c0_i32_191 : BitVec 32 := 0#32
  ![v323.toNat, 0, 0]

def k0_chk175 (v323 : BitVec 32) : Prop :=
  (∀ a, (k0_off431 v323) a + S1x8x128.size a ≤ S13312x8x128.size a) ∧
  (∀ (hinb : ∀ a, (k0_off431 v323) a + S1x8x128.size a ≤ S13312x8x128.size a), (Rect.unit (s := S13312x8x128) (k0_off431 v323) S1x8x128.size hinb).WholeWords (EltTy.packing .bf16))
theorem k0_off431_inb : ∀ (v323 : BitVec 32) (k0_hw175 : k0_chk175 v323), ∀ a, (k0_off431 v323) a + S1x8x128.size a ≤ S13312x8x128.size a := fun v323 k0_hw175 => k0_hw175.1
theorem k0_off431_wordsbf16 : ∀ (v323 : BitVec 32) (k0_hw175 : k0_chk175 v323), (Rect.unit (s := S13312x8x128) (k0_off431 v323) S1x8x128.size (k0_off431_inb v323 k0_hw175)).WholeWords (EltTy.packing .bf16) := fun v323 k0_hw175 => k0_hw175.2 (k0_off431_inb v323 k0_hw175)

def k0_off432 (v330 : BitVec 32) : Fin 3 → Nat :=
  let c0_i32_194 : BitVec 32 := 0#32
  let c0_i32_195 : BitVec 32 := 0#32
  ![v330.toNat, 0, 0]

def k0_chk176 (v330 : BitVec 32) : Prop :=
  (∀ a, (k0_off432 v330) a + S1x8x128.size a ≤ S13312x8x128.size a) ∧
  (∀ (hinb : ∀ a, (k0_off432 v330) a + S1x8x128.size a ≤ S13312x8x128.size a), (Rect.unit (s := S13312x8x128) (k0_off432 v330) S1x8x128.size hinb).WholeWords (EltTy.packing .bf16))
theorem k0_off432_inb : ∀ (v330 : BitVec 32) (k0_hw176 : k0_chk176 v330), ∀ a, (k0_off432 v330) a + S1x8x128.size a ≤ S13312x8x128.size a := fun v330 k0_hw176 => k0_hw176.1
theorem k0_off432_wordsbf16 : ∀ (v330 : BitVec 32) (k0_hw176 : k0_chk176 v330), (Rect.unit (s := S13312x8x128) (k0_off432 v330) S1x8x128.size (k0_off432_inb v330 k0_hw176)).WholeWords (EltTy.packing .bf16) := fun v330 k0_hw176 => k0_hw176.2 (k0_off432_inb v330 k0_hw176)

def k0_off433 (v337 : BitVec 32) : Fin 3 → Nat :=
  let c0_i32_198 : BitVec 32 := 0#32
  let c0_i32_199 : BitVec 32 := 0#32
  ![v337.toNat, 0, 0]

def k0_chk177 (v337 : BitVec 32) : Prop :=
  (∀ a, (k0_off433 v337) a + S1x8x128.size a ≤ S13312x8x128.size a) ∧
  (∀ (hinb : ∀ a, (k0_off433 v337) a + S1x8x128.size a ≤ S13312x8x128.size a), (Rect.unit (s := S13312x8x128) (k0_off433 v337) S1x8x128.size hinb).WholeWords (EltTy.packing .bf16))
theorem k0_off433_inb : ∀ (v337 : BitVec 32) (k0_hw177 : k0_chk177 v337), ∀ a, (k0_off433 v337) a + S1x8x128.size a ≤ S13312x8x128.size a := fun v337 k0_hw177 => k0_hw177.1
theorem k0_off433_wordsbf16 : ∀ (v337 : BitVec 32) (k0_hw177 : k0_chk177 v337), (Rect.unit (s := S13312x8x128) (k0_off433 v337) S1x8x128.size (k0_off433_inb v337 k0_hw177)).WholeWords (EltTy.packing .bf16) := fun v337 k0_hw177 => k0_hw177.2 (k0_off433_inb v337 k0_hw177)

def k0_off434 (v344 : BitVec 32) : Fin 3 → Nat :=
  let c0_i32_202 : BitVec 32 := 0#32
  let c0_i32_203 : BitVec 32 := 0#32
  ![v344.toNat, 0, 0]

def k0_chk178 (v344 : BitVec 32) : Prop :=
  (∀ a, (k0_off434 v344) a + S1x8x128.size a ≤ S13312x8x128.size a) ∧
  (∀ (hinb : ∀ a, (k0_off434 v344) a + S1x8x128.size a ≤ S13312x8x128.size a), (Rect.unit (s := S13312x8x128) (k0_off434 v344) S1x8x128.size hinb).WholeWords (EltTy.packing .bf16))
theorem k0_off434_inb : ∀ (v344 : BitVec 32) (k0_hw178 : k0_chk178 v344), ∀ a, (k0_off434 v344) a + S1x8x128.size a ≤ S13312x8x128.size a := fun v344 k0_hw178 => k0_hw178.1
theorem k0_off434_wordsbf16 : ∀ (v344 : BitVec 32) (k0_hw178 : k0_chk178 v344), (Rect.unit (s := S13312x8x128) (k0_off434 v344) S1x8x128.size (k0_off434_inb v344 k0_hw178)).WholeWords (EltTy.packing .bf16) := fun v344 k0_hw178 => k0_hw178.2 (k0_off434_inb v344 k0_hw178)

def k0_off435 (v351 : BitVec 32) : Fin 3 → Nat :=
  let c0_i32_206 : BitVec 32 := 0#32
  let c0_i32_207 : BitVec 32 := 0#32
  ![v351.toNat, 0, 0]

def k0_chk179 (v351 : BitVec 32) : Prop :=
  (∀ a, (k0_off435 v351) a + S1x8x128.size a ≤ S13312x8x128.size a) ∧
  (∀ (hinb : ∀ a, (k0_off435 v351) a + S1x8x128.size a ≤ S13312x8x128.size a), (Rect.unit (s := S13312x8x128) (k0_off435 v351) S1x8x128.size hinb).WholeWords (EltTy.packing .bf16))
theorem k0_off435_inb : ∀ (v351 : BitVec 32) (k0_hw179 : k0_chk179 v351), ∀ a, (k0_off435 v351) a + S1x8x128.size a ≤ S13312x8x128.size a := fun v351 k0_hw179 => k0_hw179.1
theorem k0_off435_wordsbf16 : ∀ (v351 : BitVec 32) (k0_hw179 : k0_chk179 v351), (Rect.unit (s := S13312x8x128) (k0_off435 v351) S1x8x128.size (k0_off435_inb v351 k0_hw179)).WholeWords (EltTy.packing .bf16) := fun v351 k0_hw179 => k0_hw179.2 (k0_off435_inb v351 k0_hw179)

def k0_off436 (v358 : BitVec 32) : Fin 3 → Nat :=
  let c0_i32_210 : BitVec 32 := 0#32
  let c0_i32_211 : BitVec 32 := 0#32
  ![v358.toNat, 0, 0]

def k0_chk180 (v358 : BitVec 32) : Prop :=
  (∀ a, (k0_off436 v358) a + S1x8x128.size a ≤ S13312x8x128.size a) ∧
  (∀ (hinb : ∀ a, (k0_off436 v358) a + S1x8x128.size a ≤ S13312x8x128.size a), (Rect.unit (s := S13312x8x128) (k0_off436 v358) S1x8x128.size hinb).WholeWords (EltTy.packing .bf16))
theorem k0_off436_inb : ∀ (v358 : BitVec 32) (k0_hw180 : k0_chk180 v358), ∀ a, (k0_off436 v358) a + S1x8x128.size a ≤ S13312x8x128.size a := fun v358 k0_hw180 => k0_hw180.1
theorem k0_off436_wordsbf16 : ∀ (v358 : BitVec 32) (k0_hw180 : k0_chk180 v358), (Rect.unit (s := S13312x8x128) (k0_off436 v358) S1x8x128.size (k0_off436_inb v358 k0_hw180)).WholeWords (EltTy.packing .bf16) := fun v358 k0_hw180 => k0_hw180.2 (k0_off436_inb v358 k0_hw180)

def k0_off437 (v365 : BitVec 32) : Fin 3 → Nat :=
  let c0_i32_214 : BitVec 32 := 0#32
  let c0_i32_215 : BitVec 32 := 0#32
  ![v365.toNat, 0, 0]

def k0_chk181 (v365 : BitVec 32) : Prop :=
  (∀ a, (k0_off437 v365) a + S1x8x128.size a ≤ S13312x8x128.size a) ∧
  (∀ (hinb : ∀ a, (k0_off437 v365) a + S1x8x128.size a ≤ S13312x8x128.size a), (Rect.unit (s := S13312x8x128) (k0_off437 v365) S1x8x128.size hinb).WholeWords (EltTy.packing .bf16))
theorem k0_off437_inb : ∀ (v365 : BitVec 32) (k0_hw181 : k0_chk181 v365), ∀ a, (k0_off437 v365) a + S1x8x128.size a ≤ S13312x8x128.size a := fun v365 k0_hw181 => k0_hw181.1
theorem k0_off437_wordsbf16 : ∀ (v365 : BitVec 32) (k0_hw181 : k0_chk181 v365), (Rect.unit (s := S13312x8x128) (k0_off437 v365) S1x8x128.size (k0_off437_inb v365 k0_hw181)).WholeWords (EltTy.packing .bf16) := fun v365 k0_hw181 => k0_hw181.2 (k0_off437_inb v365 k0_hw181)

def k0_off438 (v372 : BitVec 32) : Fin 3 → Nat :=
  let c0_i32_218 : BitVec 32 := 0#32
  let c0_i32_219 : BitVec 32 := 0#32
  ![v372.toNat, 0, 0]

def k0_chk182 (v372 : BitVec 32) : Prop :=
  (∀ a, (k0_off438 v372) a + S1x8x128.size a ≤ S13312x8x128.size a) ∧
  (∀ (hinb : ∀ a, (k0_off438 v372) a + S1x8x128.size a ≤ S13312x8x128.size a), (Rect.unit (s := S13312x8x128) (k0_off438 v372) S1x8x128.size hinb).WholeWords (EltTy.packing .bf16))
theorem k0_off438_inb : ∀ (v372 : BitVec 32) (k0_hw182 : k0_chk182 v372), ∀ a, (k0_off438 v372) a + S1x8x128.size a ≤ S13312x8x128.size a := fun v372 k0_hw182 => k0_hw182.1
theorem k0_off438_wordsbf16 : ∀ (v372 : BitVec 32) (k0_hw182 : k0_chk182 v372), (Rect.unit (s := S13312x8x128) (k0_off438 v372) S1x8x128.size (k0_off438_inb v372 k0_hw182)).WholeWords (EltTy.packing .bf16) := fun v372 k0_hw182 => k0_hw182.2 (k0_off438_inb v372 k0_hw182)

def k0_off439 (v379 : BitVec 32) : Fin 3 → Nat :=
  let c0_i32_222 : BitVec 32 := 0#32
  let c0_i32_223 : BitVec 32 := 0#32
  ![v379.toNat, 0, 0]

def k0_chk183 (v379 : BitVec 32) : Prop :=
  (∀ a, (k0_off439 v379) a + S1x8x128.size a ≤ S13312x8x128.size a) ∧
  (∀ (hinb : ∀ a, (k0_off439 v379) a + S1x8x128.size a ≤ S13312x8x128.size a), (Rect.unit (s := S13312x8x128) (k0_off439 v379) S1x8x128.size hinb).WholeWords (EltTy.packing .bf16))
theorem k0_off439_inb : ∀ (v379 : BitVec 32) (k0_hw183 : k0_chk183 v379), ∀ a, (k0_off439 v379) a + S1x8x128.size a ≤ S13312x8x128.size a := fun v379 k0_hw183 => k0_hw183.1
theorem k0_off439_wordsbf16 : ∀ (v379 : BitVec 32) (k0_hw183 : k0_chk183 v379), (Rect.unit (s := S13312x8x128) (k0_off439 v379) S1x8x128.size (k0_off439_inb v379 k0_hw183)).WholeWords (EltTy.packing .bf16) := fun v379 k0_hw183 => k0_hw183.2 (k0_off439_inb v379 k0_hw183)

def k0_off440 (v386 : BitVec 32) : Fin 3 → Nat :=
  let c0_i32_226 : BitVec 32 := 0#32
  let c0_i32_227 : BitVec 32 := 0#32
  ![v386.toNat, 0, 0]

def k0_chk184 (v386 : BitVec 32) : Prop :=
  (∀ a, (k0_off440 v386) a + S1x8x128.size a ≤ S13312x8x128.size a) ∧
  (∀ (hinb : ∀ a, (k0_off440 v386) a + S1x8x128.size a ≤ S13312x8x128.size a), (Rect.unit (s := S13312x8x128) (k0_off440 v386) S1x8x128.size hinb).WholeWords (EltTy.packing .bf16))
theorem k0_off440_inb : ∀ (v386 : BitVec 32) (k0_hw184 : k0_chk184 v386), ∀ a, (k0_off440 v386) a + S1x8x128.size a ≤ S13312x8x128.size a := fun v386 k0_hw184 => k0_hw184.1
theorem k0_off440_wordsbf16 : ∀ (v386 : BitVec 32) (k0_hw184 : k0_chk184 v386), (Rect.unit (s := S13312x8x128) (k0_off440 v386) S1x8x128.size (k0_off440_inb v386 k0_hw184)).WholeWords (EltTy.packing .bf16) := fun v386 k0_hw184 => k0_hw184.2 (k0_off440_inb v386 k0_hw184)

def k0_off441 (v393 : BitVec 32) : Fin 3 → Nat :=
  let c0_i32_230 : BitVec 32 := 0#32
  let c0_i32_231 : BitVec 32 := 0#32
  ![v393.toNat, 0, 0]

def k0_chk185 (v393 : BitVec 32) : Prop :=
  (∀ a, (k0_off441 v393) a + S1x8x128.size a ≤ S13312x8x128.size a) ∧
  (∀ (hinb : ∀ a, (k0_off441 v393) a + S1x8x128.size a ≤ S13312x8x128.size a), (Rect.unit (s := S13312x8x128) (k0_off441 v393) S1x8x128.size hinb).WholeWords (EltTy.packing .bf16))
theorem k0_off441_inb : ∀ (v393 : BitVec 32) (k0_hw185 : k0_chk185 v393), ∀ a, (k0_off441 v393) a + S1x8x128.size a ≤ S13312x8x128.size a := fun v393 k0_hw185 => k0_hw185.1
theorem k0_off441_wordsbf16 : ∀ (v393 : BitVec 32) (k0_hw185 : k0_chk185 v393), (Rect.unit (s := S13312x8x128) (k0_off441 v393) S1x8x128.size (k0_off441_inb v393 k0_hw185)).WholeWords (EltTy.packing .bf16) := fun v393 k0_hw185 => k0_hw185.2 (k0_off441_inb v393 k0_hw185)

def k0_off442 (v400 : BitVec 32) : Fin 3 → Nat :=
  let c0_i32_234 : BitVec 32 := 0#32
  let c0_i32_235 : BitVec 32 := 0#32
  ![v400.toNat, 0, 0]

def k0_chk186 (v400 : BitVec 32) : Prop :=
  (∀ a, (k0_off442 v400) a + S1x8x128.size a ≤ S13312x8x128.size a) ∧
  (∀ (hinb : ∀ a, (k0_off442 v400) a + S1x8x128.size a ≤ S13312x8x128.size a), (Rect.unit (s := S13312x8x128) (k0_off442 v400) S1x8x128.size hinb).WholeWords (EltTy.packing .bf16))
theorem k0_off442_inb : ∀ (v400 : BitVec 32) (k0_hw186 : k0_chk186 v400), ∀ a, (k0_off442 v400) a + S1x8x128.size a ≤ S13312x8x128.size a := fun v400 k0_hw186 => k0_hw186.1
theorem k0_off442_wordsbf16 : ∀ (v400 : BitVec 32) (k0_hw186 : k0_chk186 v400), (Rect.unit (s := S13312x8x128) (k0_off442 v400) S1x8x128.size (k0_off442_inb v400 k0_hw186)).WholeWords (EltTy.packing .bf16) := fun v400 k0_hw186 => k0_hw186.2 (k0_off442_inb v400 k0_hw186)

def k0_off443 (v407 : BitVec 32) : Fin 3 → Nat :=
  let c0_i32_238 : BitVec 32 := 0#32
  let c0_i32_239 : BitVec 32 := 0#32
  ![v407.toNat, 0, 0]

def k0_chk187 (v407 : BitVec 32) : Prop :=
  (∀ a, (k0_off443 v407) a + S1x8x128.size a ≤ S13312x8x128.size a) ∧
  (∀ (hinb : ∀ a, (k0_off443 v407) a + S1x8x128.size a ≤ S13312x8x128.size a), (Rect.unit (s := S13312x8x128) (k0_off443 v407) S1x8x128.size hinb).WholeWords (EltTy.packing .bf16))
theorem k0_off443_inb : ∀ (v407 : BitVec 32) (k0_hw187 : k0_chk187 v407), ∀ a, (k0_off443 v407) a + S1x8x128.size a ≤ S13312x8x128.size a := fun v407 k0_hw187 => k0_hw187.1
theorem k0_off443_wordsbf16 : ∀ (v407 : BitVec 32) (k0_hw187 : k0_chk187 v407), (Rect.unit (s := S13312x8x128) (k0_off443 v407) S1x8x128.size (k0_off443_inb v407 k0_hw187)).WholeWords (EltTy.packing .bf16) := fun v407 k0_hw187 => k0_hw187.2 (k0_off443_inb v407 k0_hw187)

def k0_off444 (v414 : BitVec 32) : Fin 3 → Nat :=
  let c0_i32_242 : BitVec 32 := 0#32
  let c0_i32_243 : BitVec 32 := 0#32
  ![v414.toNat, 0, 0]

def k0_chk188 (v414 : BitVec 32) : Prop :=
  (∀ a, (k0_off444 v414) a + S1x8x128.size a ≤ S13312x8x128.size a) ∧
  (∀ (hinb : ∀ a, (k0_off444 v414) a + S1x8x128.size a ≤ S13312x8x128.size a), (Rect.unit (s := S13312x8x128) (k0_off444 v414) S1x8x128.size hinb).WholeWords (EltTy.packing .bf16))
theorem k0_off444_inb : ∀ (v414 : BitVec 32) (k0_hw188 : k0_chk188 v414), ∀ a, (k0_off444 v414) a + S1x8x128.size a ≤ S13312x8x128.size a := fun v414 k0_hw188 => k0_hw188.1
theorem k0_off444_wordsbf16 : ∀ (v414 : BitVec 32) (k0_hw188 : k0_chk188 v414), (Rect.unit (s := S13312x8x128) (k0_off444 v414) S1x8x128.size (k0_off444_inb v414 k0_hw188)).WholeWords (EltTy.packing .bf16) := fun v414 k0_hw188 => k0_hw188.2 (k0_off444_inb v414 k0_hw188)

def k0_off445 (v421 : BitVec 32) : Fin 3 → Nat :=
  let c0_i32_246 : BitVec 32 := 0#32
  let c0_i32_247 : BitVec 32 := 0#32
  ![v421.toNat, 0, 0]

def k0_chk189 (v421 : BitVec 32) : Prop :=
  (∀ a, (k0_off445 v421) a + S1x8x128.size a ≤ S13312x8x128.size a) ∧
  (∀ (hinb : ∀ a, (k0_off445 v421) a + S1x8x128.size a ≤ S13312x8x128.size a), (Rect.unit (s := S13312x8x128) (k0_off445 v421) S1x8x128.size hinb).WholeWords (EltTy.packing .bf16))
theorem k0_off445_inb : ∀ (v421 : BitVec 32) (k0_hw189 : k0_chk189 v421), ∀ a, (k0_off445 v421) a + S1x8x128.size a ≤ S13312x8x128.size a := fun v421 k0_hw189 => k0_hw189.1
theorem k0_off445_wordsbf16 : ∀ (v421 : BitVec 32) (k0_hw189 : k0_chk189 v421), (Rect.unit (s := S13312x8x128) (k0_off445 v421) S1x8x128.size (k0_off445_inb v421 k0_hw189)).WholeWords (EltTy.packing .bf16) := fun v421 k0_hw189 => k0_hw189.2 (k0_off445_inb v421 k0_hw189)

def k0_off446 (v428 : BitVec 32) : Fin 3 → Nat :=
  let c0_i32_250 : BitVec 32 := 0#32
  let c0_i32_251 : BitVec 32 := 0#32
  ![v428.toNat, 0, 0]

def k0_chk190 (v428 : BitVec 32) : Prop :=
  (∀ a, (k0_off446 v428) a + S1x8x128.size a ≤ S13312x8x128.size a) ∧
  (∀ (hinb : ∀ a, (k0_off446 v428) a + S1x8x128.size a ≤ S13312x8x128.size a), (Rect.unit (s := S13312x8x128) (k0_off446 v428) S1x8x128.size hinb).WholeWords (EltTy.packing .bf16))
theorem k0_off446_inb : ∀ (v428 : BitVec 32) (k0_hw190 : k0_chk190 v428), ∀ a, (k0_off446 v428) a + S1x8x128.size a ≤ S13312x8x128.size a := fun v428 k0_hw190 => k0_hw190.1
theorem k0_off446_wordsbf16 : ∀ (v428 : BitVec 32) (k0_hw190 : k0_chk190 v428), (Rect.unit (s := S13312x8x128) (k0_off446 v428) S1x8x128.size (k0_off446_inb v428 k0_hw190)).WholeWords (EltTy.packing .bf16) := fun v428 k0_hw190 => k0_hw190.2 (k0_off446_inb v428 k0_hw190)

def k0_off447 (v435 : BitVec 32) : Fin 3 → Nat :=
  let c0_i32_254 : BitVec 32 := 0#32
  let c0_i32_255 : BitVec 32 := 0#32
  ![v435.toNat, 0, 0]

def k0_chk191 (v435 : BitVec 32) : Prop :=
  (∀ a, (k0_off447 v435) a + S1x8x128.size a ≤ S13312x8x128.size a) ∧
  (∀ (hinb : ∀ a, (k0_off447 v435) a + S1x8x128.size a ≤ S13312x8x128.size a), (Rect.unit (s := S13312x8x128) (k0_off447 v435) S1x8x128.size hinb).WholeWords (EltTy.packing .bf16))
theorem k0_off447_inb : ∀ (v435 : BitVec 32) (k0_hw191 : k0_chk191 v435), ∀ a, (k0_off447 v435) a + S1x8x128.size a ≤ S13312x8x128.size a := fun v435 k0_hw191 => k0_hw191.1
theorem k0_off447_wordsbf16 : ∀ (v435 : BitVec 32) (k0_hw191 : k0_chk191 v435), (Rect.unit (s := S13312x8x128) (k0_off447 v435) S1x8x128.size (k0_off447_inb v435 k0_hw191)).WholeWords (EltTy.packing .bf16) := fun v435 k0_hw191 => k0_hw191.2 (k0_off447_inb v435 k0_hw191)

def k0_off448 (v442 : BitVec 32) : Fin 3 → Nat :=
  let c0_i32_258 : BitVec 32 := 0#32
  let c0_i32_259 : BitVec 32 := 0#32
  ![v442.toNat, 0, 0]

def k0_chk192 (v442 : BitVec 32) : Prop :=
  (∀ a, (k0_off448 v442) a + S1x8x128.size a ≤ S13312x8x128.size a) ∧
  (∀ (hinb : ∀ a, (k0_off448 v442) a + S1x8x128.size a ≤ S13312x8x128.size a), (Rect.unit (s := S13312x8x128) (k0_off448 v442) S1x8x128.size hinb).WholeWords (EltTy.packing .bf16))
theorem k0_off448_inb : ∀ (v442 : BitVec 32) (k0_hw192 : k0_chk192 v442), ∀ a, (k0_off448 v442) a + S1x8x128.size a ≤ S13312x8x128.size a := fun v442 k0_hw192 => k0_hw192.1
theorem k0_off448_wordsbf16 : ∀ (v442 : BitVec 32) (k0_hw192 : k0_chk192 v442), (Rect.unit (s := S13312x8x128) (k0_off448 v442) S1x8x128.size (k0_off448_inb v442 k0_hw192)).WholeWords (EltTy.packing .bf16) := fun v442 k0_hw192 => k0_hw192.2 (k0_off448_inb v442 k0_hw192)

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReturnsRefIdeal.lean ====
abbrev S13312x8x128 : Shape := ⟨3, ![13312, 8, 128]⟩
abbrev S2048 : Shape := ⟨1, ![2048]⟩
abbrev S_ : Shape := ⟨0, ![]⟩
abbrev S2048x1 : Shape := ⟨2, ![2048, 1]⟩
abbrev S2048x8x128 : Shape := ⟨3, ![2048, 8, 128]⟩

abbrev nBuf : Space → Nat
  | .hbm => 11
  | .vmem => 0
  | .smem => 0
  | _ => 0

abbrev bufTy : (tb : Table) → Fin (tcTables nBuf tb) → BufTy
  | .hbm, ⟨0, _⟩ => ⟨S13312x8x128, .bf16⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x8x128, .bf16⟩
  | _, _ => ⟨S13312x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Result.lean ====
abbrev S13312x1024 : Shape := ⟨2, ![13312, 1024]⟩
abbrev S16384 : Shape := ⟨1, ![16384]⟩
abbrev S_ : Shape := ⟨0, ![]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S2048 : Shape := ⟨1, ![2048]⟩
abbrev S13312x8x128 : Shape := ⟨3, ![13312, 8, 128]⟩
abbrev S2048x8x128 : Shape := ⟨3, ![2048, 8, 128]⟩
abbrev S1 : Shape := ⟨1, ![1]⟩
abbrev S1x8x128 : Shape := ⟨3, ![1, 8, 128]⟩
abbrev S8x128 : Shape := ⟨2, ![8, 128]⟩
abbrev S2048x1024 : Shape := ⟨2, ![2048, 1024]⟩
abbrev S2048x1 : Shape := ⟨2, ![2048, 1]⟩

abbrev nBuf : Space → Nat
  | .hbm => 59
  | .vmem => 1
  | .smem => 1
  | _ => 0

abbrev bufTy : (tb : Table) → Fin (tcTables nBuf tb) → BufTy
  | .hbm, ⟨0, _⟩ => ⟨S13312x1024, .bf16⟩
  | .hbm, ⟨1, _⟩ => ⟨S16384, .i32⟩
  | .hbm, ⟨2, _⟩ => ⟨S_, .i32⟩
  | .hbm, ⟨3, _⟩ => ⟨S16384x1, .i32⟩
  | .hbm, ⟨4, _⟩ => ⟨S64, .i32⟩
  | .hbm, ⟨5, _⟩ => ⟨S1x64, .i32⟩
  | .hbm, ⟨6, _⟩ => ⟨S16384x64, .i32⟩
  | .hbm, ⟨7, _⟩ => ⟨S16384x64, .i32⟩
  | .hbm, ⟨8, _⟩ => ⟨S16384x64, .i1⟩
  | .hbm, ⟨9, _⟩ => ⟨S16384x64, .i32⟩
  | .hbm, ⟨10, _⟩ => ⟨S_, .i32⟩
  | .hbm, ⟨11, _⟩ => ⟨S_, .i32⟩
  | .hbm, ⟨12, _⟩ => ⟨S16384x64, .i32⟩
  | .hbm, ⟨13, _⟩ => ⟨S16384x64, .i32⟩
  | .hbm, ⟨14, _⟩ => ⟨S_, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S13312x8x128, .bf16⟩
  | .hbm, ⟨51, _⟩ => ⟨S2048x8x128, .bf16⟩
  | .hbm, ⟨52, _⟩ => ⟨S2048x1024, .bf16⟩
  | .hbm, ⟨53, _⟩ => ⟨S2048x1024, .f32⟩
  | .hbm, ⟨54, _⟩ => ⟨S2048x1, .i1⟩
  | .hbm, ⟨55, _⟩ => ⟨S_, .f32⟩
  | .hbm, ⟨56, _⟩ => ⟨S2048x1024, .i1⟩
  | .hbm, ⟨57, _⟩ => ⟨S2048x1024, .f32⟩
  | .hbm, ⟨58, _⟩ => ⟨S2048x1024, .f32⟩
  | .local _ .vmem, ⟨0, _⟩ => ⟨S2048x8x128, .bf16⟩
  | .local _ .smem, ⟨0, _⟩ => ⟨S2048, .i32⟩
  | _, _ => ⟨S13312x1024, .bf16⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_10 : Ref sig .tc := ⟨.hbm, 46, rfl⟩
abbrev main_call1_v0 : Ref sig .tc := ⟨.hbm, 47, rfl⟩
abbrev main_call1_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_v36 : Ref sig .tc := ⟨.hbm, 58, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_cond1 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_261 : BitVec 32 := 0#32
  let v451 : BitVec 1 := Scalar.cmpi .sgt arg4 c0_i32_261
  let v452 : BitVec 32 := Scalar.extui v451
  let c0_i32_262 : BitVec 32 := 0#32
  let v453 : BitVec 1 := Scalar.cmpi .ne v452 c0_i32_262
  v453

def k0_off1 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let v1282 : Index := Scalar.indexCast v1281
  ![v1282.toNat]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c64_i32_835 : BitVec 32 := 64#32
  let v1281 : BitVec 32 := Scalar.subi v450 c64_i32_835
  let c0_i32_837 : BitVec 32 := 0#32
  let c0_i32_838 : BitVec 32 := 0#32
  ![v1281.toNat, 0, 0]
def k0_off3 (v1283 : BitVec 32) : Fin 3 → Nat :=
  let c0_i32_839 : BitVec 32 := 0#32
  let c0_i32_840 : BitVec 32 := 0#32
  ![v1283.toNat, 0, 0]

def k0_chk1 (k0_t1 : Fin k0_t1_loop.trips) (v1283 : BitVec 32) : Prop :=
  (∀ (k0_h1 : k0_cond1 k0_t1 = 1#1), ∀ a, (k0_off3 v1283) a + S1x8x128.size a ≤ S13312x8x128.size a) ∧
  (∀ (k0_h1 : k0_cond1 k0_t1 = 1#1), ∀ (hinb : ∀ a, (k0_off3 v1283) a + S1x8x128.size a ≤ S13312x8x128.size a), (Rect.unit (s := S13312x8x128) (k0_off3 v1283) S1x8x128.size hinb).WholeWords (EltTy.packing .bf16))
theorem k0_off3_inb : ∀ (k0_t1 : Fin k0_t1_loop.trips) (v1283 : BitVec 32) (k0_hw1 : k0_chk1 k0_t1 v1283), ∀ (k0_h1 : k0_cond1 k0_t1 = 1#1), ∀ a, (k0_off3 v1283) a + S1x8x128.size a ≤ S13312x8x128.size a := fun k0_t1 v1283 k0_hw1 k0_h1 => k0_hw1.1 k0_h1
theorem k0_off3_wordsbf16 : ∀ (k0_t1 : Fin k0_t1_loop.trips) (v1283 : BitVec 32) (k0_hw1 : k0_chk1 k0_t1 v1283), ∀ (k0_h1 : k0_cond1 k0_t1 = 1#1), (Rect.unit (s := S13312x8x128) (k0_off3 v1283) S1x8x128.size (k0_off3_inb k0_t1 v1283 k0_hw1 k0_h1)).WholeWords (EltTy.packing .bf16) := fun k0_t1 v1283 k0_hw1 k0_h1 => k0_hw1.2 k0_h1 (k0_off3_inb k0_t1 v1283 k0_hw1 k0_h1)

def k0_off4 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let v454 : Index := Scalar.indexCast v450
  ![v454.toNat]
def k0_off5 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32 : BitVec 32 := 64#32
  let v449 : BitVec 32 := Scalar.muli arg4 c64_i32
  let c0_i32_260 : BitVec 32 := 0#32
  let v450 : BitVec 32 := Scalar.addi v449 c0_i32_260
  let c0_i32_264 : BitVec 32 := 0#32
  let c0_i32_265 : BitVec 32 := 0#32
  ![v450.toNat, 0, 0]
def k0_off6 (v455 : BitVec 32) : Fin 3 → Nat :=
  let c0_i32_266 : BitVec 32 := 0#32
  let c0_i32_267 : BitVec 32 := 0#32
  ![v455.toNat, 0, 0]

def k0_chk2 (v455 : BitVec 32) : Prop :=
  (∀ a, (k0_off6 v455) a + S1x8x128.size a ≤ S13312x8x128.size a) ∧
  (∀ (hinb : ∀ a, (k0_off6 v455) a + S1x8x128.size a ≤ S13312x8x128.size a), (Rect.unit (s := S13312x8x128) (k0_off6 v455) S1x8x128.size hinb).WholeWords (EltTy.packing .bf16))
theorem k0_off6_inb : ∀ (v455 : BitVec 32) (k0_hw2 : k0_chk2 v455), ∀ a, (k0_off6 v455) a + S1x8x128.size a ≤ S13312x8x128.size a := fun v455 k0_hw2 => k0_hw2.1
theorem k0_off6_wordsbf16 : ∀ (v455 : BitVec 32) (k0_hw2 : k0_chk2 v455), (Rect.unit (s := S13312x8x128) (k0_off6 v455) S1x8x128.size (k0_off6_inb v455 k0_hw2)).WholeWords (EltTy.packing .bf16) := fun v455 k0_hw2 => k0_hw2.2 (k0_off6_inb v455 k0_hw2)

def k0_cond2 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_270 : BitVec 32 := 0#32
  let v464 : BitVec 1 := Scalar.cmpi .sgt arg4 c0_i32_270
  let v465 : BitVec 32 := Scalar.extui v464
  let c0_i32_271 : BitVec 32 := 0#32
  let v466 : BitVec 1 := Scalar.cmpi .ne v465 c0_i32_271
  v466

def k0_off7 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let v1282 : Index := Scalar.indexCast v1281
  ![v1282.toNat]
def k0_off8 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c64_i32_835 : BitVec 32 := 64#32
  let v1281 : BitVec 32 := Scalar.subi v463 c64_i32_835
  let c0_i32_837 : BitVec 32 := 0#32
  let c0_i32_838 : BitVec 32 := 0#32
  ![v1281.toNat, 0, 0]
def k0_off9 (v1283 : BitVec 32) : Fin 3 → Nat :=
  let c0_i32_839 : BitVec 32 := 0#32
  let c0_i32_840 : BitVec 32 := 0#32
  ![v1283.toNat, 0, 0]

def k0_chk3 (k0_t1 : Fin k0_t1_loop.trips) (v1283 : BitVec 32) : Prop :=
  (∀ (k0_h2 : k0_cond2 k0_t1 = 1#1), ∀ a, (k0_off9 v1283) a + S1x8x128.size a ≤ S13312x8x128.size a) ∧
  (∀ (k0_h2 : k0_cond2 k0_t1 = 1#1), ∀ (hinb : ∀ a, (k0_off9 v1283) a + S1x8x128.size a ≤ S13312x8x128.size a), (Rect.unit (s := S13312x8x128) (k0_off9 v1283) S1x8x128.size hinb).WholeWords (EltTy.packing .bf16))
theorem k0_off9_inb : ∀ (k0_t1 : Fin k0_t1_loop.trips) (v1283 : BitVec 32) (k0_hw3 : k0_chk3 k0_t1 v1283), ∀ (k0_h2 : k0_cond2 k0_t1 = 1#1), ∀ a, (k0_off9 v1283) a + S1x8x128.size a ≤ S13312x8x128.size a := fun k0_t1 v1283 k0_hw3 k0_h2 => k0_hw3.1 k0_h2
theorem k0_off9_wordsbf16 : ∀ (k0_t1 : Fin k0_t1_loop.trips) (v1283 : BitVec 32) (k0_hw3 : k0_chk3 k0_t1 v1283), ∀ (k0_h2 : k0_cond2 k0_t1 = 1#1), (Rect.unit (s := S13312x8x128) (k0_off9 v1283) S1x8x128.size (k0_off9_inb k0_t1 v1283 k0_hw3 k0_h2)).WholeWords (EltTy.packing .bf16) := fun k0_t1 v1283 k0_hw3 k0_h2 => k0_hw3.2 k0_h2 (k0_off9_inb k0_t1 v1283 k0_hw3 k0_h2)

def k0_off10 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let v467 : Index := Scalar.indexCast v463
  ![v467.toNat]
def k0_off11 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_268 : BitVec 32 := 64#32
  let v462 : BitVec 32 := Scalar.muli arg4 c64_i32_268
  let c1_i32_269 : BitVec 32 := 1#32
  let v463 : BitVec 32 := Scalar.addi v462 c1_i32_269
  let c0_i32_273 : BitVec 32 := 0#32
  let c0_i32_274 : BitVec 32 := 0#32
  ![v463.toNat, 0, 0]
def k0_off12 (v468 : BitVec 32) : Fin 3 → Nat :=
  let c0_i32_275 : BitVec 32 := 0#32
  let c0_i32_276 : BitVec 32 := 0#32
  ![v468.toNat, 0, 0]

def k0_chk4 (v468 : BitVec 32) : Prop :=
  (∀ a, (k0_off12 v468) a + S1x8x128.size a ≤ S13312x8x128.size a) ∧
  (∀ (hinb : ∀ a, (k0_off12 v468) a + S1x8x128.size a ≤ S13312x8x128.size a), (Rect.unit (s := S13312x8x128) (k0_off12 v468) S1x8x128.size hinb).WholeWords (EltTy.packing .bf16))
theorem k0_off12_inb : ∀ (v468 : BitVec 32) (k0_hw4 : k0_chk4 v468), ∀ a, (k0_off12 v468) a + S1x8x128.size a ≤ S13312x8x128.size a := fun v468 k0_hw4 => k0_hw4.1
theorem k0_off12_wordsbf16 : ∀ (v468 : BitVec 32) (k0_hw4 : k0_chk4 v468), (Rect.unit (s := S13312x8x128) (k0_off12 v468) S1x8x128.size (k0_off12_inb v468 k0_hw4)).WholeWords (EltTy.packing .bf16) := fun v468 k0_hw4 => k0_hw4.2 (k0_off12_inb v468 k0_hw4)

def k0_cond3 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_279 : BitVec 32 := 0#32
  let v477 : BitVec 1 := Scalar.cmpi .sgt arg4 c0_i32_279
  let v478 : BitVec 32 := Scalar.extui v477
  let c0_i32_280 : BitVec 32 := 0#32
  let v479 : BitVec 1 := Scalar.cmpi .ne v478 c0_i32_280
  v479

def k0_off13 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let v1282 : Index := Scalar.indexCast v1281
  ![v1282.toNat]
def k0_off14 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c64_i32_835 : BitVec 32 := 64#32
  let v1281 : BitVec 32 := Scalar.subi v476 c64_i32_835
  let c0_i32_837 : BitVec 32 := 0#32
  let c0_i32_838 : BitVec 32 := 0#32
  ![v1281.toNat, 0, 0]
def k0_off15 (v1283 : BitVec 32) : Fin 3 → Nat :=
  let c0_i32_839 : BitVec 32 := 0#32
  let c0_i32_840 : BitVec 32 := 0#32
  ![v1283.toNat, 0, 0]

def k0_chk5 (k0_t1 : Fin k0_t1_loop.trips) (v1283 : BitVec 32) : Prop :=
  (∀ (k0_h3 : k0_cond3 k0_t1 = 1#1), ∀ a, (k0_off15 v1283) a + S1x8x128.size a ≤ S13312x8x128.size a) ∧
  (∀ (k0_h3 : k0_cond3 k0_t1 = 1#1), ∀ (hinb : ∀ a, (k0_off15 v1283) a + S1x8x128.size a ≤ S13312x8x128.size a), (Rect.unit (s := S13312x8x128) (k0_off15 v1283) S1x8x128.size hinb).WholeWords (EltTy.packing .bf16))
theorem k0_off15_inb : ∀ (k0_t1 : Fin k0_t1_loop.trips) (v1283 : BitVec 32) (k0_hw5 : k0_chk5 k0_t1 v1283), ∀ (k0_h3 : k0_cond3 k0_t1 = 1#1), ∀ a, (k0_off15 v1283) a + S1x8x128.size a ≤ S13312x8x128.size a := fun k0_t1 v1283 k0_hw5 k0_h3 => k0_hw5.1 k0_h3
theorem k0_off15_wordsbf16 : ∀ (k0_t1 : Fin k0_t1_loop.trips) (v1283 : BitVec 32) (k0_hw5 : k0_chk5 k0_t1 v1283), ∀ (k0_h3 : k0_cond3 k0_t1 = 1#1), (Rect.unit (s := S13312x8x128) (k0_off15 v1283) S1x8x128.size (k0_off15_inb k0_t1 v1283 k0_hw5 k0_h3)).WholeWords (EltTy.packing .bf16) := fun k0_t1 v1283 k0_hw5 k0_h3 => k0_hw5.2 k0_h3 (k0_off15_inb k0_t1 v1283 k0_hw5 k0_h3)

def k0_off16 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let v480 : Index := Scalar.indexCast v476
  ![v480.toNat]
def k0_off17 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_277 : BitVec 32 := 64#32
  let v475 : BitVec 32 := Scalar.muli arg4 c64_i32_277
  let c2_i32_278 : BitVec 32 := 2#32
  let v476 : BitVec 32 := Scalar.addi v475 c2_i32_278
  let c0_i32_282 : BitVec 32 := 0#32
  let c0_i32_283 : BitVec 32 := 0#32
  ![v476.toNat, 0, 0]
def k0_off18 (v481 : BitVec 32) : Fin 3 → Nat :=
  let c0_i32_284 : BitVec 32 := 0#32
  let c0_i32_285 : BitVec 32 := 0#32
  ![v481.toNat, 0, 0]

def k0_chk6 (v481 : BitVec 32) : Prop :=
  (∀ a, (k0_off18 v481) a + S1x8x128.size a ≤ S13312x8x128.size a) ∧
  (∀ (hinb : ∀ a, (k0_off18 v481) a + S1x8x128.size a ≤ S13312x8x128.size a), (Rect.unit (s := S13312x8x128) (k0_off18 v481) S1x8x128.size hinb).WholeWords (EltTy.packing .bf16))
theorem k0_off18_inb : ∀ (v481 : BitVec 32) (k0_hw6 : k0_chk6 v481), ∀ a, (k0_off18 v481) a + S1x8x128.size a ≤ S13312x8x128.size a := fun v481 k0_hw6 => k0_hw6.1
theorem k0_off18_wordsbf16 : ∀ (v481 : BitVec 32) (k0_hw6 : k0_chk6 v481), (Rect.unit (s := S13312x8x128) (k0_off18 v481) S1x8x128.size (k0_off18_inb v481 k0_hw6)).WholeWords (EltTy.packing .bf16) := fun v481 k0_hw6 => k0_hw6.2 (k0_off18_inb v481 k0_hw6)

def k0_cond4 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_288 : BitVec 32 := 0#32
  let v490 : BitVec 1 := Scalar.cmpi .sgt arg4 c0_i32_288
  let v491 : BitVec 32 := Scalar.extui v490
  let c0_i32_289 : BitVec 32 := 0#32
  let v492 : BitVec 1 := Scalar.cmpi .ne v491 c0_i32_289
  v492

def k0_off19 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let v1282 : Index := Scalar.indexCast v1281
  ![v1282.toNat]
def k0_off20 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c64_i32_835 : BitVec 32 := 64#32
  let v1281 : BitVec 32 := Scalar.subi v489 c64_i32_835
  let c0_i32_837 : BitVec 32 := 0#32
  let c0_i32_838 : BitVec 32 := 0#32
  ![v1281.toNat, 0, 0]
def k0_off21 (v1283 : BitVec 32) : Fin 3 → Nat :=
  let c0_i32_839 : BitVec 32 := 0#32
  let c0_i32_840 : BitVec 32 := 0#32
  ![v1283.toNat, 0, 0]

def k0_chk7 (k0_t1 : Fin k0_t1_loop.trips) (v1283 : BitVec 32) : Prop :=
  (∀ (k0_h4 : k0_cond4 k0_t1 = 1#1), ∀ a, (k0_off21 v1283) a + S1x8x128.size a ≤ S13312x8x128.size a) ∧
  (∀ (k0_h4 : k0_cond4 k0_t1 = 1#1), ∀ (hinb : ∀ a, (k0_off21 v1283) a + S1x8x128.size a ≤ S13312x8x128.size a), (Rect.unit (s := S13312x8x128) (k0_off21 v1283) S1x8x128.size hinb).WholeWords (EltTy.packing .bf16))
theorem k0_off21_inb : ∀ (k0_t1 : Fin k0_t1_loop.trips) (v1283 : BitVec 32) (k0_hw7 : k0_chk7 k0_t1 v1283), ∀ (k0_h4 : k0_cond4 k0_t1 = 1#1), ∀ a, (k0_off21 v1283) a + S1x8x128.size a ≤ S13312x8x128.size a := fun k0_t1 v1283 k0_hw7 k0_h4 => k0_hw7.1 k0_h4
theorem k0_off21_wordsbf16 : ∀ (k0_t1 : Fin k0_t1_loop.trips) (v1283 : BitVec 32) (k0_hw7 : k0_chk7 k0_t1 v1283), ∀ (k0_h4 : k0_cond4 k0_t1 = 1#1), (Rect.unit (s := S13312x8x128) (k0_off21 v1283) S1x8x128.size (k0_off21_inb k0_t1 v1283 k0_hw7 k0_h4)).WholeWords (EltTy.packing .bf16) := fun k0_t1 v1283 k0_hw7 k0_h4 => k0_hw7.2 k0_h4 (k0_off21_inb k0_t1 v1283 k0_hw7 k0_h4)

def k0_off22 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let v493 : Index := Scalar.indexCast v489
  ![v493.toNat]
def k0_off23 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_286 : BitVec 32 := 64#32
  let v488 : BitVec 32 := Scalar.muli arg4 c64_i32_286
  let c3_i32_287 : BitVec 32 := 3#32
  let v489 : BitVec 32 := Scalar.addi v488 c3_i32_287
  let c0_i32_291 : BitVec 32 := 0#32
  let c0_i32_292 : BitVec 32 := 0#32
  ![v489.toNat, 0, 0]
def k0_off24 (v494 : BitVec 32) : Fin 3 → Nat :=
  let c0_i32_293 : BitVec 32 := 0#32
  let c0_i32_294 : BitVec 32 := 0#32
  ![v494.toNat, 0, 0]

def k0_chk8 (v494 : BitVec 32) : Prop :=
  (∀ a, (k0_off24 v494) a + S1x8x128.size a ≤ S13312x8x128.size a) ∧
  (∀ (hinb : ∀ a, (k0_off24 v494) a + S1x8x128.size a ≤ S13312x8x128.size a), (Rect.unit (s := S13312x8x128) (k0_off24 v494) S1x8x128.size hinb).WholeWords (EltTy.packing .bf16))
theorem k0_off24_inb : ∀ (v494 : BitVec 32) (k0_hw8 : k0_chk8 v494), ∀ a, (k0_off24 v494) a + S1x8x128.size a ≤ S13312x8x128.size a := fun v494 k0_hw8 => k0_hw8.1
theorem k0_off24_wordsbf16 : ∀ (v494 : BitVec 32) (k0_hw8 : k0_chk8 v494), (Rect.unit (s := S13312x8x128) (k0_off24 v494) S1x8x128.size (k0_off24_inb v494 k0_hw8)).WholeWords (EltTy.packing .bf16) := fun v494 k0_hw8 => k0_hw8.2 (k0_off24_inb v494 k0_hw8)

def k0_cond5 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_297 : BitVec 32 := 0#32
  let v503 : BitVec 1 := Scalar.cmpi .sgt arg4 c0_i32_297
  let v504 : BitVec 32 := Scalar.extui v503
  let c0_i32_298 : BitVec 32 := 0#32
  let v505 : BitVec 1 := Scalar.cmpi .ne v504 c0_i32_298
  v505

def k0_off25 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let v1282 : Index := Scalar.indexCast v1281
  ![v1282.toNat]
def k0_off26 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c64_i32_835 : BitVec 32 := 64#32
  let v1281 : BitVec 32 := Scalar.subi v502 c64_i32_835
  let c0_i32_837 : BitVec 32 := 0#32
  let c0_i32_838 : BitVec 32 := 0#32
  ![v1281.toNat, 0, 0]
def k0_off27 (v1283 : BitVec 32) : Fin 3 → Nat :=
  let c0_i32_839 : BitVec 32 := 0#32
  let c0_i32_840 : BitVec 32 := 0#32
  ![v1283.toNat, 0, 0]

def k0_chk9 (k0_t1 : Fin k0_t1_loop.trips) (v1283 : BitVec 32) : Prop :=
  (∀ (k0_h5 : k0_cond5 k0_t1 = 1#1), ∀ a, (k0_off27 v1283) a + S1x8x128.size a ≤ S13312x8x128.size a) ∧
  (∀ (k0_h5 : k0_cond5 k0_t1 = 1#1), ∀ (hinb : ∀ a, (k0_off27 v1283) a + S1x8x128.size a ≤ S13312x8x128.size a), (Rect.unit (s := S13312x8x128) (k0_off27 v1283) S1x8x128.size hinb).WholeWords (EltTy.packing .bf16))
theorem k0_off27_inb : ∀ (k0_t1 : Fin k0_t1_loop.trips) (v1283 : BitVec 32) (k0_hw9 : k0_chk9 k0_t1 v1283), ∀ (k0_h5 : k0_cond5 k0_t1 = 1#1), ∀ a, (k0_off27 v1283) a + S1x8x128.size a ≤ S13312x8x128.size a := fun k0_t1 v1283 k0_hw9 k0_h5 => k0_hw9.1 k0_h5
theorem k0_off27_wordsbf16 : ∀ (k0_t1 : Fin k0_t1_loop.trips) (v1283 : BitVec 32) (k0_hw9 : k0_chk9 k0_t1 v1283), ∀ (k0_h5 : k0_cond5 k0_t1 = 1#1), (Rect.unit (s := S13312x8x128) (k0_off27 v1283) S1x8x128.size (k0_off27_inb k0_t1 v1283 k0_hw9 k0_h5)).WholeWords (EltTy.packing .bf16) := fun k0_t1 v1283 k0_hw9 k0_h5 => k0_hw9.2 k0_h5 (k0_off27_inb k0_t1 v1283 k0_hw9 k0_h5)

def k0_off28 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let v506 : Index := Scalar.indexCast v502
  ![v506.toNat]
def k0_off29 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_295 : BitVec 32 := 64#32
  let v501 : BitVec 32 := Scalar.muli arg4 c64_i32_295
  let c4_i32_296 : BitVec 32 := 4#32
  let v502 : BitVec 32 := Scalar.addi v501 c4_i32_296
  let c0_i32_300 : BitVec 32 := 0#32
  let c0_i32_301 : BitVec 32 := 0#32
  ![v502.toNat, 0, 0]
def k0_off30 (v507 : BitVec 32) : Fin 3 → Nat :=
  let c0_i32_302 : BitVec 32 := 0#32
  let c0_i32_303 : BitVec 32 := 0#32
  ![v507.toNat, 0, 0]

def k0_chk10 (v507 : BitVec 32) : Prop :=
  (∀ a, (k0_off30 v507) a + S1x8x128.size a ≤ S13312x8x128.size a) ∧
  (∀ (hinb : ∀ a, (k0_off30 v507) a + S1x8x128.size a ≤ S13312x8x128.size a), (Rect.unit (s := S13312x8x128) (k0_off30 v507) S1x8x128.size hinb).WholeWords (EltTy.packing .bf16))
theorem k0_off30_inb : ∀ (v507 : BitVec 32) (k0_hw10 : k0_chk10 v507), ∀ a, (k0_off30 v507) a + S1x8x128.size a ≤ S13312x8x128.size a := fun v507 k0_hw10 => k0_hw10.1
theorem k0_off30_wordsbf16 : ∀ (v507 : BitVec 32) (k0_hw10 : k0_chk10 v507), (Rect.unit (s := S13312x8x128) (k0_off30 v507) S1x8x128.size (k0_off30_inb v507 k0_hw10)).WholeWords (EltTy.packing .bf16) := fun v507 k0_hw10 => k0_hw10.2 (k0_off30_inb v507 k0_hw10)

def k0_cond6 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_306 : BitVec 32 := 0#32
  let v516 : BitVec 1 := Scalar.cmpi .sgt arg4 c0_i32_306
  let v517 : BitVec 32 := Scalar.extui v516
  let c0_i32_307 : BitVec 32 := 0#32
  let v518 : BitVec 1 := Scalar.cmpi .ne v517 c0_i32_307
  v518

def k0_off31 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let v1282 : Index := Scalar.indexCast v1281
  ![v1282.toNat]
def k0_off32 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c64_i32_835 : BitVec 32 := 64#32
  let v1281 : BitVec 32 := Scalar.subi v515 c64_i32_835
  let c0_i32_837 : BitVec 32 := 0#32
  let c0_i32_838 : BitVec 32 := 0#32
  ![v1281.toNat, 0, 0]
def k0_off33 (v1283 : BitVec 32) : Fin 3 → Nat :=
  let c0_i32_839 : BitVec 32 := 0#32
  let c0_i32_840 : BitVec 32 := 0#32
  ![v1283.toNat, 0, 0]

def k0_chk11 (k0_t1 : Fin k0_t1_loop.trips) (v1283 : BitVec 32) : Prop :=
  (∀ (k0_h6 : k0_cond6 k0_t1 = 1#1), ∀ a, (k0_off33 v1283) a + S1x8x128.size a ≤ S13312x8x128.size a) ∧
  (∀ (k0_h6 : k0_cond6 k0_t1 = 1#1), ∀ (hinb : ∀ a, (k0_off33 v1283) a + S1x8x128.size a ≤ S13312x8x128.size a), (Rect.unit (s := S13312x8x128) (k0_off33 v1283) S1x8x128.size hinb).WholeWords (EltTy.packing .bf16))
theorem k0_off33_inb : ∀ (k0_t1 : Fin k0_t1_loop.trips) (v1283 : BitVec 32) (k0_hw11 : k0_chk11 k0_t1 v1283), ∀ (k0_h6 : k0_cond6 k0_t1 = 1#1), ∀ a, (k0_off33 v1283) a + S1x8x128.size a ≤ S13312x8x128.size a := fun k0_t1 v1283 k0_hw11 k0_h6 => k0_hw11.1 k0_h6
theorem k0_off33_wordsbf16 : ∀ (k0_t1 : Fin k0_t1_loop.trips) (v1283 : BitVec 32) (k0_hw11 : k0_chk11 k0_t1 v1283), ∀ (k0_h6 : k0_cond6 k0_t1 = 1#1), (Rect.unit (s := S13312x8x128) (k0_off33 v1283) S1x8x128.size (k0_off33_inb k0_t1 v1283 k0_hw11 k0_h6)).WholeWords (EltTy.packing .bf16) := fun k0_t1 v1283 k0_hw11 k0_h6 => k0_hw11.2 k0_h6 (k0_off33_inb k0_t1 v1283 k0_hw11 k0_h6)

def k0_off34 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let v519 : Index := Scalar.indexCast v515
  ![v519.toNat]
def k0_off35 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_304 : BitVec 32 := 64#32
  let v514 : BitVec 32 := Scalar.muli arg4 c64_i32_304
  let c5_i32_305 : BitVec 32 := 5#32
  let v515 : BitVec 32 := Scalar.addi v514 c5_i32_305
  let c0_i32_309 : BitVec 32 := 0#32
  let c0_i32_310 : BitVec 32 := 0#32
  ![v515.toNat, 0, 0]
def k0_off36 (v520 : BitVec 32) : Fin 3 → Nat :=
  let c0_i32_311 : BitVec 32 := 0#32
  let c0_i32_312 : BitVec 32 := 0#32
  ![v520.toNat, 0, 0]

def k0_chk12 (v520 : BitVec 32) : Prop :=
  (∀ a, (k0_off36 v520) a + S1x8x128.size a ≤ S13312x8x128.size a) ∧
  (∀ (hinb : ∀ a, (k0_off36 v520) a + S1x8x128.size a ≤ S13312x8x128.size a), (Rect.unit (s := S13312x8x128) (k0_off36 v520) S1x8x128.size hinb).WholeWords (EltTy.packing .bf16))
theorem k0_off36_inb : ∀ (v520 : BitVec 32) (k0_hw12 : k0_chk12 v520), ∀ a, (k0_off36 v520) a + S1x8x128.size a ≤ S13312x8x128.size a := fun v520 k0_hw12 => k0_hw12.1
theorem k0_off36_wordsbf16 : ∀ (v520 : BitVec 32) (k0_hw12 : k0_chk12 v520), (Rect.unit (s := S13312x8x128) (k0_off36 v520) S1x8x128.size (k0_off36_inb v520 k0_hw12)).WholeWords (EltTy.packing .bf16) := fun v520 k0_hw12 => k0_hw12.2 (k0_off36_inb v520 k0_hw12)

def k0_cond7 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_315 : BitVec 32 := 0#32
  let v529 : BitVec 1 := Scalar.cmpi .sgt arg4 c0_i32_315
  let v530 : BitVec 32 := Scalar.extui v529
  let c0_i32_316 : BitVec 32 := 0#32
  let v531 : BitVec 1 := Scalar.cmpi .ne v530 c0_i32_316
  v531

def k0_off37 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let v1282 : Index := Scalar.indexCast v1281
  ![v1282.toNat]
def k0_off38 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c64_i32_835 : BitVec 32 := 64#32
  let v1281 : BitVec 32 := Scalar.subi v528 c64_i32_835
  let c0_i32_837 : BitVec 32 := 0#32
  let c0_i32_838 : BitVec 32 := 0#32
  ![v1281.toNat, 0, 0]
def k0_off39 (v1283 : BitVec 32) : Fin 3 → Nat :=
  let c0_i32_839 : BitVec 32 := 0#32
  let c0_i32_840 : BitVec 32 := 0#32
  ![v1283.toNat, 0, 0]

def k0_chk13 (k0_t1 : Fin k0_t1_loop.trips) (v1283 : BitVec 32) : Prop :=
  (∀ (k0_h7 : k0_cond7 k0_t1 = 1#1), ∀ a, (k0_off39 v1283) a + S1x8x128.size a ≤ S13312x8x128.size a) ∧
  (∀ (k0_h7 : k0_cond7 k0_t1 = 1#1), ∀ (hinb : ∀ a, (k0_off39 v1283) a + S1x8x128.size a ≤ S13312x8x128.size a), (Rect.unit (s := S13312x8x128) (k0_off39 v1283) S1x8x128.size hinb).WholeWords (EltTy.packing .bf16))
theorem k0_off39_inb : ∀ (k0_t1 : Fin k0_t1_loop.trips) (v1283 : BitVec 32) (k0_hw13 : k0_chk13 k0_t1 v1283), ∀ (k0_h7 : k0_cond7 k0_t1 = 1#1), ∀ a, (k0_off39 v1283) a + S1x8x128.size a ≤ S13312x8x128.size a := fun k0_t1 v1283 k0_hw13 k0_h7 => k0_hw13.1 k0_h7
theorem k0_off39_wordsbf16 : ∀ (k0_t1 : Fin k0_t1_loop.trips) (v1283 : BitVec 32) (k0_hw13 : k0_chk13 k0_t1 v1283), ∀ (k0_h7 : k0_cond7 k0_t1 = 1#1), (Rect.unit (s := S13312x8x128) (k0_off39 v1283) S1x8x128.size (k0_off39_inb k0_t1 v1283 k0_hw13 k0_h7)).WholeWords (EltTy.packing .bf16) := fun k0_t1 v1283 k0_hw13 k0_h7 => k0_hw13.2 k0_h7 (k0_off39_inb k0_t1 v1283 k0_hw13 k0_h7)

def k0_off40 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let v532 : Index := Scalar.indexCast v528
  ![v532.toNat]
def k0_off41 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_313 : BitVec 32 := 64#32
  let v527 : BitVec 32 := Scalar.muli arg4 c64_i32_313
  let c6_i32_314 : BitVec 32 := 6#32
  let v528 : BitVec 32 := Scalar.addi v527 c6_i32_314
  let c0_i32_318 : BitVec 32 := 0#32
  let c0_i32_319 : BitVec 32 := 0#32
  ![v528.toNat, 0, 0]
def k0_off42 (v533 : BitVec 32) : Fin 3 → Nat :=
  let c0_i32_320 : BitVec 32 := 0#32
  let c0_i32_321 : BitVec 32 := 0#32
  ![v533.toNat, 0, 0]

def k0_chk14 (v533 : BitVec 32) : Prop :=
  (∀ a, (k0_off42 v533) a + S1x8x128.size a ≤ S13312x8x128.size a) ∧
  (∀ (hinb : ∀ a, (k0_off42 v533) a + S1x8x128.size a ≤ S13312x8x128.size a), (Rect.unit (s := S13312x8x128) (k0_off42 v533) S1x8x128.size hinb).WholeWords (EltTy.packing .bf16))
theorem k0_off42_inb : ∀ (v533 : BitVec 32) (k0_hw14 : k0_chk14 v533), ∀ a, (k0_off42 v533) a + S1x8x128.size a ≤ S13312x8x128.size a := fun v533 k0_hw14 => k0_hw14.1
theorem k0_off42_wordsbf16 : ∀ (v533 : BitVec 32) (k0_hw14 : k0_chk14 v533), (Rect.unit (s := S13312x8x128) (k0_off42 v533) S1x8x128.size (k0_off42_inb v533 k0_hw14)).WholeWords (EltTy.packing .bf16) := fun v533 k0_hw14 => k0_hw14.2 (k0_off42_inb v533 k0_hw14)

def k0_cond8 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_324 : BitVec 32 := 0#32
  let v542 : BitVec 1 := Scalar.cmpi .sgt arg4 c0_i32_324
  let v543 : BitVec 32 := Scalar.extui v542
  let c0_i32_325 : BitVec 32 := 0#32
  let v544 : BitVec 1 := Scalar.cmpi .ne v543 c0_i32_325
  v544

def k0_off43 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let v1282 : Index := Scalar.indexCast v1281
  ![v1282.toNat]
def k0_off44 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c64_i32_835 : BitVec 32 := 64#32
  let v1281 : BitVec 32 := Scalar.subi v541 c64_i32_835
  let c0_i32_837 : BitVec 32 := 0#32
  let c0_i32_838 : BitVec 32 := 0#32
  ![v1281.toNat, 0, 0]
def k0_off45 (v1283 : BitVec 32) : Fin 3 → Nat :=
  let c0_i32_839 : BitVec 32 := 0#32
  let c0_i32_840 : BitVec 32 := 0#32
  ![v1283.toNat, 0, 0]

def k0_chk15 (k0_t1 : Fin k0_t1_loop.trips) (v1283 : BitVec 32) : Prop :=
  (∀ (k0_h8 : k0_cond8 k0_t1 = 1#1), ∀ a, (k0_off45 v1283) a + S1x8x128.size a ≤ S13312x8x128.size a) ∧
  (∀ (k0_h8 : k0_cond8 k0_t1 = 1#1), ∀ (hinb : ∀ a, (k0_off45 v1283) a + S1x8x128.size a ≤ S13312x8x128.size a), (Rect.unit (s := S13312x8x128) (k0_off45 v1283) S1x8x128.size hinb).WholeWords (EltTy.packing .bf16))
theorem k0_off45_inb : ∀ (k0_t1 : Fin k0_t1_loop.trips) (v1283 : BitVec 32) (k0_hw15 : k0_chk15 k0_t1 v1283), ∀ (k0_h8 : k0_cond8 k0_t1 = 1#1), ∀ a, (k0_off45 v1283) a + S1x8x128.size a ≤ S13312x8x128.size a := fun k0_t1 v1283 k0_hw15 k0_h8 => k0_hw15.1 k0_h8
theorem k0_off45_wordsbf16 : ∀ (k0_t1 : Fin k0_t1_loop.trips) (v1283 : BitVec 32) (k0_hw15 : k0_chk15 k0_t1 v1283), ∀ (k0_h8 : k0_cond8 k0_t1 = 1#1), (Rect.unit (s := S13312x8x128) (k0_off45 v1283) S1x8x128.size (k0_off45_inb k0_t1 v1283 k0_hw15 k0_h8)).WholeWords (EltTy.packing .bf16) := fun k0_t1 v1283 k0_hw15 k0_h8 => k0_hw15.2 k0_h8 (k0_off45_inb k0_t1 v1283 k0_hw15 k0_h8)

def k0_off46 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let v545 : Index := Scalar.indexCast v541
  ![v545.toNat]
def k0_off47 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_322 : BitVec 32 := 64#32
  let v540 : BitVec 32 := Scalar.muli arg4 c64_i32_322
  let c7_i32_323 : BitVec 32 := 7#32
  let v541 : BitVec 32 := Scalar.addi v540 c7_i32_323
  let c0_i32_327 : BitVec 32 := 0#32
  let c0_i32_328 : BitVec 32 := 0#32
  ![v541.toNat, 0, 0]
def k0_off48 (v546 : BitVec 32) : Fin 3 → Nat :=
  let c0_i32_329 : BitVec 32 := 0#32
  let c0_i32_330 : BitVec 32 := 0#32
  ![v546.toNat, 0, 0]

def k0_chk16 (v546 : BitVec 32) : Prop :=
  (∀ a, (k0_off48 v546) a + S1x8x128.size a ≤ S13312x8x128.size a) ∧
  (∀ (hinb : ∀ a, (k0_off48 v546) a + S1x8x128.size a ≤ S13312x8x128.size a), (Rect.unit (s := S13312x8x128) (k0_off48 v546) S1x8x128.size hinb).WholeWords (EltTy.packing .bf16))
theorem k0_off48_inb : ∀ (v546 : BitVec 32) (k0_hw16 : k0_chk16 v546), ∀ a, (k0_off48 v546) a + S1x8x128.size a ≤ S13312x8x128.size a := fun v546 k0_hw16 => k0_hw16.1
theorem k0_off48_wordsbf16 : ∀ (v546 : BitVec 32) (k0_hw16 : k0_chk16 v546), (Rect.unit (s := S13312x8x128) (k0_off48 v546) S1x8x128.size (k0_off48_inb v546 k0_hw16)).WholeWords (EltTy.packing .bf16) := fun v546 k0_hw16 => k0_hw16.2 (k0_off48_inb v546 k0_hw16)

def k0_cond9 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_333 : BitVec 32 := 0#32
  let v555 : BitVec 1 := Scalar.cmpi .sgt arg4 c0_i32_333
  let v556 : BitVec 32 := Scalar.extui v555
  let c0_i32_334 : BitVec 32 := 0#32
  let v557 : BitVec 1 := Scalar.cmpi .ne v556 c0_i32_334
  v557

def k0_off49 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let v1282 : Index := Scalar.indexCast v1281
  ![v1282.toNat]
def k0_off50 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c64_i32_835 : BitVec 32 := 64#32
  let v1281 : BitVec 32 := Scalar.subi v554 c64_i32_835
  let c0_i32_837 : BitVec 32 := 0#32
  let c0_i32_838 : BitVec 32 := 0#32
  ![v1281.toNat, 0, 0]
def k0_off51 (v1283 : BitVec 32) : Fin 3 → Nat :=
  let c0_i32_839 : BitVec 32 := 0#32
  let c0_i32_840 : BitVec 32 := 0#32
  ![v1283.toNat, 0, 0]

def k0_chk17 (k0_t1 : Fin k0_t1_loop.trips) (v1283 : BitVec 32) : Prop :=
  (∀ (k0_h9 : k0_cond9 k0_t1 = 1#1), ∀ a, (k0_off51 v1283) a + S1x8x128.size a ≤ S13312x8x128.size a) ∧
  (∀ (k0_h9 : k0_cond9 k0_t1 = 1#1), ∀ (hinb : ∀ a, (k0_off51 v1283) a + S1x8x128.size a ≤ S13312x8x128.size a), (Rect.unit (s := S13312x8x128) (k0_off51 v1283) S1x8x128.size hinb).WholeWords (EltTy.packing .bf16))
theorem k0_off51_inb : ∀ (k0_t1 : Fin k0_t1_loop.trips) (v1283 : BitVec 32) (k0_hw17 : k0_chk17 k0_t1 v1283), ∀ (k0_h9 : k0_cond9 k0_t1 = 1#1), ∀ a, (k0_off51 v1283) a + S1x8x128.size a ≤ S13312x8x128.size a := fun k0_t1 v1283 k0_hw17 k0_h9 => k0_hw17.1 k0_h9
theorem k0_off51_wordsbf16 : ∀ (k0_t1 : Fin k0_t1_loop.trips) (v1283 : BitVec 32) (k0_hw17 : k0_chk17 k0_t1 v1283), ∀ (k0_h9 : k0_cond9 k0_t1 = 1#1), (Rect.unit (s := S13312x8x128) (k0_off51 v1283) S1x8x128.size (k0_off51_inb k0_t1 v1283 k0_hw17 k0_h9)).WholeWords (EltTy.packing .bf16) := fun k0_t1 v1283 k0_hw17 k0_h9 => k0_hw17.2 k0_h9 (k0_off51_inb k0_t1 v1283 k0_hw17 k0_h9)

def k0_off52 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let v558 : Index := Scalar.indexCast v554
  ![v558.toNat]
def k0_off53 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_331 : BitVec 32 := 64#32
  let v553 : BitVec 32 := Scalar.muli arg4 c64_i32_331
  let c8_i32_332 : BitVec 32 := 8#32
  let v554 : BitVec 32 := Scalar.addi v553 c8_i32_332
  let c0_i32_336 : BitVec 32 := 0#32
  let c0_i32_337 : BitVec 32 := 0#32
  ![v554.toNat, 0, 0]
def k0_off54 (v559 : BitVec 32) : Fin 3 → Nat :=
  let c0_i32_338 : BitVec 32 := 0#32
  let c0_i32_339 : BitVec 32 := 0#32
  ![v559.toNat, 0, 0]

def k0_chk18 (v559 : BitVec 32) : Prop :=
  (∀ a, (k0_off54 v559) a + S1x8x128.size a ≤ S13312x8x128.size a) ∧
  (∀ (hinb : ∀ a, (k0_off54 v559) a + S1x8x128.size a ≤ S13312x8x128.size a), (Rect.unit (s := S13312x8x128) (k0_off54 v559) S1x8x128.size hinb).WholeWords (EltTy.packing .bf16))
theorem k0_off54_inb : ∀ (v559 : BitVec 32) (k0_hw18 : k0_chk18 v559), ∀ a, (k0_off54 v559) a + S1x8x128.size a ≤ S13312x8x128.size a := fun v559 k0_hw18 => k0_hw18.1
theorem k0_off54_wordsbf16 : ∀ (v559 : BitVec 32) (k0_hw18 : k0_chk18 v559), (Rect.unit (s := S13312x8x128) (k0_off54 v559) S1x8x128.size (k0_off54_inb v559 k0_hw18)).WholeWords (EltTy.packing .bf16) := fun v559 k0_hw18 => k0_hw18.2 (k0_off54_inb v559 k0_hw18)

def k0_cond10 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_342 : BitVec 32 := 0#32
  let v568 : BitVec 1 := Scalar.cmpi .sgt arg4 c0_i32_342
  let v569 : BitVec 32 := Scalar.extui v568
  let c0_i32_343 : BitVec 32 := 0#32
  let v570 : BitVec 1 := Scalar.cmpi .ne v569 c0_i32_343
  v570

def k0_off55 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let v1282 : Index := Scalar.indexCast v1281
  ![v1282.toNat]
def k0_off56 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c64_i32_835 : BitVec 32 := 64#32
  let v1281 : BitVec 32 := Scalar.subi v567 c64_i32_835
  let c0_i32_837 : BitVec 32 := 0#32
  let c0_i32_838 : BitVec 32 := 0#32
  ![v1281.toNat, 0, 0]
def k0_off57 (v1283 : BitVec 32) : Fin 3 → Nat :=
  let c0_i32_839 : BitVec 32 := 0#32
  let c0_i32_840 : BitVec 32 := 0#32
  ![v1283.toNat, 0, 0]

def k0_chk19 (k0_t1 : Fin k0_t1_loop.trips) (v1283 : BitVec 32) : Prop :=
  (∀ (k0_h10 : k0_cond10 k0_t1 = 1#1), ∀ a, (k0_off57 v1283) a + S1x8x128.size a ≤ S13312x8x128.size a) ∧
  (∀ (k0_h10 : k0_cond10 k0_t1 = 1#1), ∀ (hinb : ∀ a, (k0_off57 v1283) a + S1x8x128.size a ≤ S13312x8x128.size a), (Rect.unit (s := S13312x8x128) (k0_off57 v1283) S1x8x128.size hinb).WholeWords (EltTy.packing .bf16))
theorem k0_off57_inb : ∀ (k0_t1 : Fin k0_t1_loop.trips) (v1283 : BitVec 32) (k0_hw19 : k0_chk19 k0_t1 v1283), ∀ (k0_h10 : k0_cond10 k0_t1 = 1#1), ∀ a, (k0_off57 v1283) a + S1x8x128.size a ≤ S13312x8x128.size a := fun k0_t1 v1283 k0_hw19 k0_h10 => k0_hw19.1 k0_h10
theorem k0_off57_wordsbf16 : ∀ (k0_t1 : Fin k0_t1_loop.trips) (v1283 : BitVec 32) (k0_hw19 : k0_chk19 k0_t1 v1283), ∀ (k0_h10 : k0_cond10 k0_t1 = 1#1), (Rect.unit (s := S13312x8x128) (k0_off57 v1283) S1x8x128.size (k0_off57_inb k0_t1 v1283 k0_hw19 k0_h10)).WholeWords (EltTy.packing .bf16) := fun k0_t1 v1283 k0_hw19 k0_h10 => k0_hw19.2 k0_h10 (k0_off57_inb k0_t1 v1283 k0_hw19 k0_h10)

def k0_off58 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let v571 : Index := Scalar.indexCast v567
  ![v571.toNat]
def k0_off59 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_340 : BitVec 32 := 64#32
  let v566 : BitVec 32 := Scalar.muli arg4 c64_i32_340
  let c9_i32_341 : BitVec 32 := 9#32
  let v567 : BitVec 32 := Scalar.addi v566 c9_i32_341
  let c0_i32_345 : BitVec 32 := 0#32
  let c0_i32_346 : BitVec 32 := 0#32
  ![v567.toNat, 0, 0]
def k0_off60 (v572 : BitVec 32) : Fin 3 → Nat :=
  let c0_i32_347 : BitVec 32 := 0#32
  let c0_i32_348 : BitVec 32 := 0#32
  ![v572.toNat, 0, 0]

def k0_chk20 (v572 : BitVec 32) : Prop :=
  (∀ a, (k0_off60 v572) a + S1x8x128.size a ≤ S13312x8x128.size a) ∧
  (∀ (hinb : ∀ a, (k0_off60 v572) a + S1x8x128.size a ≤ S13312x8x128.size a), (Rect.unit (s := S13312x8x128) (k0_off60 v572) S1x8x128.size hinb).WholeWords (EltTy.packing .bf16))
theorem k0_off60_inb : ∀ (v572 : BitVec 32) (k0_hw20 : k0_chk20 v572), ∀ a, (k0_off60 v572) a + S1x8x128.size a ≤ S13312x8x128.size a := fun v572 k0_hw20 => k0_hw20.1
theorem k0_off60_wordsbf16 : ∀ (v572 : BitVec 32) (k0_hw20 : k0_chk20 v572), (Rect.unit (s := S13312x8x128) (k0_off60 v572) S1x8x128.size (k0_off60_inb v572 k0_hw20)).WholeWords (EltTy.packing .bf16) := fun v572 k0_hw20 => k0_hw20.2 (k0_off60_inb v572 k0_hw20)

def k0_cond11 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_351 : BitVec 32 := 0#32
  let v581 : BitVec 1 := Scalar.cmpi .sgt arg4 c0_i32_351
  let v582 : BitVec 32 := Scalar.extui v581
  let c0_i32_352 : BitVec 32 := 0#32
  let v583 : BitVec 1 := Scalar.cmpi .ne v582 c0_i32_352
  v583

def k0_off61 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let v1282 : Index := Scalar.indexCast v1281
  ![v1282.toNat]
def k0_off62 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c64_i32_835 : BitVec 32 := 64#32
  let v1281 : BitVec 32 := Scalar.subi v580 c64_i32_835
  let c0_i32_837 : BitVec 32 := 0#32
  let c0_i32_838 : BitVec 32 := 0#32
  ![v1281.toNat, 0, 0]
def k0_off63 (v1283 : BitVec 32) : Fin 3 → Nat :=
  let c0_i32_839 : BitVec 32 := 0#32
  let c0_i32_840 : BitVec 32 := 0#32
  ![v1283.toNat, 0, 0]

def k0_chk21 (k0_t1 : Fin k0_t1_loop.trips) (v1283 : BitVec 32) : Prop :=
  (∀ (k0_h11 : k0_cond11 k0_t1 = 1#1), ∀ a, (k0_off63 v1283) a + S1x8x128.size a ≤ S13312x8x128.size a) ∧
  (∀ (k0_h11 : k0_cond11 k0_t1 = 1#1), ∀ (hinb : ∀ a, (k0_off63 v1283) a + S1x8x128.size a ≤ S13312x8x128.size a), (Rect.unit (s := S13312x8x128) (k0_off63 v1283) S1x8x128.size hinb).WholeWords (EltTy.packing .bf16))
theorem k0_off63_inb : ∀ (k0_t1 : Fin k0_t1_loop.trips) (v1283 : BitVec 32) (k0_hw21 : k0_chk21 k0_t1 v1283), ∀ (k0_h11 : k0_cond11 k0_t1 = 1#1), ∀ a, (k0_off63 v1283) a + S1x8x128.size a ≤ S13312x8x128.size a := fun k0_t1 v1283 k0_hw21 k0_h11 => k0_hw21.1 k0_h11
theorem k0_off63_wordsbf16 : ∀ (k0_t1 : Fin k0_t1_loop.trips) (v1283 : BitVec 32) (k0_hw21 : k0_chk21 k0_t1 v1283), ∀ (k0_h11 : k0_cond11 k0_t1 = 1#1), (Rect.unit (s := S13312x8x128) (k0_off63 v1283) S1x8x128.size (k0_off63_inb k0_t1 v1283 k0_hw21 k0_h11)).WholeWords (EltTy.packing .bf16) := fun k0_t1 v1283 k0_hw21 k0_h11 => k0_hw21.2 k0_h11 (k0_off63_inb k0_t1 v1283 k0_hw21 k0_h11)

def k0_off64 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let v584 : Index := Scalar.indexCast v580
  ![v584.toNat]
def k0_off65 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_349 : BitVec 32 := 64#32
  let v579 : BitVec 32 := Scalar.muli arg4 c64_i32_349
  let c10_i32_350 : BitVec 32 := 10#32
  let v580 : BitVec 32 := Scalar.addi v579 c10_i32_350
  let c0_i32_354 : BitVec 32 := 0#32
  let c0_i32_355 : BitVec 32 := 0#32
  ![v580.toNat, 0, 0]
def k0_off66 (v585 : BitVec 32) : Fin 3 → Nat :=
  let c0_i32_356 : BitVec 32 := 0#32
  let c0_i32_357 : BitVec 32 := 0#32
  ![v585.toNat, 0, 0]

def k0_chk22 (v585 : BitVec 32) : Prop :=
  (∀ a, (k0_off66 v585) a + S1x8x128.size a ≤ S13312x8x128.size a) ∧
  (∀ (hinb : ∀ a, (k0_off66 v585) a + S1x8x128.size a ≤ S13312x8x128.size a), (Rect.unit (s := S13312x8x128) (k0_off66 v585) S1x8x128.size hinb).WholeWords (EltTy.packing .bf16))
theorem k0_off66_inb : ∀ (v585 : BitVec 32) (k0_hw22 : k0_chk22 v585), ∀ a, (k0_off66 v585) a + S1x8x128.size a ≤ S13312x8x128.size a := fun v585 k0_hw22 => k0_hw22.1
theorem k0_off66_wordsbf16 : ∀ (v585 : BitVec 32) (k0_hw22 : k0_chk22 v585), (Rect.unit (s := S13312x8x128) (k0_off66 v585) S1x8x128.size (k0_off66_inb v585 k0_hw22)).WholeWords (EltTy.packing .bf16) := fun v585 k0_hw22 => k0_hw22.2 (k0_off66_inb v585 k0_hw22)

def k0_cond12 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_360 : BitVec 32 := 0#32
  let v594 : BitVec 1 := Scalar.cmpi .sgt arg4 c0_i32_360
  let v595 : BitVec 32 := Scalar.extui v594
  let c0_i32_361 : BitVec 32 := 0#32
  let v596 : BitVec 1 := Scalar.cmpi .ne v595 c0_i32_361
  v596

def k0_off67 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let v1282 : Index := Scalar.indexCast v1281
  ![v1282.toNat]
def k0_off68 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c64_i32_835 : BitVec 32 := 64#32
  let v1281 : BitVec 32 := Scalar.subi v593 c64_i32_835
  let c0_i32_837 : BitVec 32 := 0#32
  let c0_i32_838 : BitVec 32 := 0#32
  ![v1281.toNat, 0, 0]
def k0_off69 (v1283 : BitVec 32) : Fin 3 → Nat :=
  let c0_i32_839 : BitVec 32 := 0#32
  let c0_i32_840 : BitVec 32 := 0#32
  ![v1283.toNat, 0, 0]

def k0_chk23 (k0_t1 : Fin k0_t1_loop.trips) (v1283 : BitVec 32) : Prop :=
  (∀ (k0_h12 : k0_cond12 k0_t1 = 1#1), ∀ a, (k0_off69 v1283) a + S1x8x128.size a ≤ S13312x8x128.size a) ∧
  (∀ (k0_h12 : k0_cond12 k0_t1 = 1#1), ∀ (hinb : ∀ a, (k0_off69 v1283) a + S1x8x128.size a ≤ S13312x8x128.size a), (Rect.unit (s := S13312x8x128) (k0_off69 v1283) S1x8x128.size hinb).WholeWords (EltTy.packing .bf16))
theorem k0_off69_inb : ∀ (k0_t1 : Fin k0_t1_loop.trips) (v1283 : BitVec 32) (k0_hw23 : k0_chk23 k0_t1 v1283), ∀ (k0_h12 : k0_cond12 k0_t1 = 1#1), ∀ a, (k0_off69 v1283) a + S1x8x128.size a ≤ S13312x8x128.size a := fun k0_t1 v1283 k0_hw23 k0_h12 => k0_hw23.1 k0_h12
theorem k0_off69_wordsbf16 : ∀ (k0_t1 : Fin k0_t1_loop.trips) (v1283 : BitVec 32) (k0_hw23 : k0_chk23 k0_t1 v1283), ∀ (k0_h12 : k0_cond12 k0_t1 = 1#1), (Rect.unit (s := S13312x8x128) (k0_off69 v1283) S1x8x128.size (k0_off69_inb k0_t1 v1283 k0_hw23 k0_h12)).WholeWords (EltTy.packing .bf16) := fun k0_t1 v1283 k0_hw23 k0_h12 => k0_hw23.2 k0_h12 (k0_off69_inb k0_t1 v1283 k0_hw23 k0_h12)

def k0_off70 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let v597 : Index := Scalar.indexCast v593
  ![v597.toNat]
def k0_off71 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_358 : BitVec 32 := 64#32
  let v592 : BitVec 32 := Scalar.muli arg4 c64_i32_358
  let c11_i32_359 : BitVec 32 := 11#32
  let v593 : BitVec 32 := Scalar.addi v592 c11_i32_359
  let c0_i32_363 : BitVec 32 := 0#32
  let c0_i32_364 : BitVec 32 := 0#32
  ![v593.toNat, 0, 0]
def k0_off72 (v598 : BitVec 32) : Fin 3 → Nat :=
  let c0_i32_365 : BitVec 32 := 0#32
  let c0_i32_366 : BitVec 32 := 0#32
  ![v598.toNat, 0, 0]

def k0_chk24 (v598 : BitVec 32) : Prop :=
  (∀ a, (k0_off72 v598) a + S1x8x128.size a ≤ S13312x8x128.size a) ∧
  (∀ (hinb : ∀ a, (k0_off72 v598) a + S1x8x128.size a ≤ S13312x8x128.size a), (Rect.unit (s := S13312x8x128) (k0_off72 v598) S1x8x128.size hinb).WholeWords (EltTy.packing .bf16))
theorem k0_off72_inb : ∀ (v598 : BitVec 32) (k0_hw24 : k0_chk24 v598), ∀ a, (k0_off72 v598) a + S1x8x128.size a ≤ S13312x8x128.size a := fun v598 k0_hw24 => k0_hw24.1
theorem k0_off72_wordsbf16 : ∀ (v598 : BitVec 32) (k0_hw24 : k0_chk24 v598), (Rect.unit (s := S13312x8x128) (k0_off72 v598) S1x8x128.size (k0_off72_inb v598 k0_hw24)).WholeWords (EltTy.packing .bf16) := fun v598 k0_hw24 => k0_hw24.2 (k0_off72_inb v598 k0_hw24)

def k0_cond13 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_369 : BitVec 32 := 0#32
  let v607 : BitVec 1 := Scalar.cmpi .sgt arg4 c0_i32_369
  let v608 : BitVec 32 := Scalar.extui v607
  let c0_i32_370 : BitVec 32 := 0#32
  let v609 : BitVec 1 := Scalar.cmpi .ne v608 c0_i32_370
  v609

def k0_off73 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let v1282 : Index := Scalar.indexCast v1281
  ![v1282.toNat]
def k0_off74 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c64_i32_835 : BitVec 32 := 64#32
  let v1281 : BitVec 32 := Scalar.subi v606 c64_i32_835
  let c0_i32_837 : BitVec 32 := 0#32
  let c0_i32_838 : BitVec 32 := 0#32
  ![v1281.toNat, 0, 0]
def k0_off75 (v1283 : BitVec 32) : Fin 3 → Nat :=
  let c0_i32_839 : BitVec 32 := 0#32
  let c0_i32_840 : BitVec 32 := 0#32
  ![v1283.toNat, 0, 0]

def k0_chk25 (k0_t1 : Fin k0_t1_loop.trips) (v1283 : BitVec 32) : Prop :=
  (∀ (k0_h13 : k0_cond13 k0_t1 = 1#1), ∀ a, (k0_off75 v1283) a + S1x8x128.size a ≤ S13312x8x128.size a) ∧
  (∀ (k0_h13 : k0_cond13 k0_t1 = 1#1), ∀ (hinb : ∀ a, (k0_off75 v1283) a + S1x8x128.size a ≤ S13312x8x128.size a), (Rect.unit (s := S13312x8x128) (k0_off75 v1283) S1x8x128.size hinb).WholeWords (EltTy.packing .bf16))
theorem k0_off75_inb : ∀ (k0_t1 : Fin k0_t1_loop.trips) (v1283 : BitVec 32) (k0_hw25 : k0_chk25 k0_t1 v1283), ∀ (k0_h13 : k0_cond13 k0_t1 = 1#1), ∀ a, (k0_off75 v1283) a + S1x8x128.size a ≤ S13312x8x128.size a := fun k0_t1 v1283 k0_hw25 k0_h13 => k0_hw25.1 k0_h13
theorem k0_off75_wordsbf16 : ∀ (k0_t1 : Fin k0_t1_loop.trips) (v1283 : BitVec 32) (k0_hw25 : k0_chk25 k0_t1 v1283), ∀ (k0_h13 : k0_cond13 k0_t1 = 1#1), (Rect.unit (s := S13312x8x128) (k0_off75 v1283) S1x8x128.size (k0_off75_inb k0_t1 v1283 k0_hw25 k0_h13)).WholeWords (EltTy.packing .bf16) := fun k0_t1 v1283 k0_hw25 k0_h13 => k0_hw25.2 k0_h13 (k0_off75_inb k0_t1 v1283 k0_hw25 k0_h13)

def k0_off76 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let v610 : Index := Scalar.indexCast v606
  ![v610.toNat]
def k0_off77 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_367 : BitVec 32 := 64#32
  let v605 : BitVec 32 := Scalar.muli arg4 c64_i32_367
  let c12_i32_368 : BitVec 32 := 12#32
  let v606 : BitVec 32 := Scalar.addi v605 c12_i32_368
  let c0_i32_372 : BitVec 32 := 0#32
  let c0_i32_373 : BitVec 32 := 0#32
  ![v606.toNat, 0, 0]
def k0_off78 (v611 : BitVec 32) : Fin 3 → Nat :=
  let c0_i32_374 : BitVec 32 := 0#32
  let c0_i32_375 : BitVec 32 := 0#32
  ![v611.toNat, 0, 0]

def k0_chk26 (v611 : BitVec 32) : Prop :=
  (∀ a, (k0_off78 v611) a + S1x8x128.size a ≤ S13312x8x128.size a) ∧
  (∀ (hinb : ∀ a, (k0_off78 v611) a + S1x8x128.size a ≤ S13312x8x128.size a), (Rect.unit (s := S13312x8x128) (k0_off78 v611) S1x8x128.size hinb).WholeWords (EltTy.packing .bf16))
theorem k0_off78_inb : ∀ (v611 : BitVec 32) (k0_hw26 : k0_chk26 v611), ∀ a, (k0_off78 v611) a + S1x8x128.size a ≤ S13312x8x128.size a := fun v611 k0_hw26 => k0_hw26.1
theorem k0_off78_wordsbf16 : ∀ (v611 : BitVec 32) (k0_hw26 : k0_chk26 v611), (Rect.unit (s := S13312x8x128) (k0_off78 v611) S1x8x128.size (k0_off78_inb v611 k0_hw26)).WholeWords (EltTy.packing .bf16) := fun v611 k0_hw26 => k0_hw26.2 (k0_off78_inb v611 k0_hw26)

def k0_cond14 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_378 : BitVec 32 := 0#32
  let v620 : BitVec 1 := Scalar.cmpi .sgt arg4 c0_i32_378
  let v621 : BitVec 32 := Scalar.extui v620
  let c0_i32_379 : BitVec 32 := 0#32
  let v622 : BitVec 1 := Scalar.cmpi .ne v621 c0_i32_379
  v622

def k0_off79 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let v1282 : Index := Scalar.indexCast v1281
  ![v1282.toNat]
def k0_off80 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c64_i32_835 : BitVec 32 := 64#32
  let v1281 : BitVec 32 := Scalar.subi v619 c64_i32_835
  let c0_i32_837 : BitVec 32 := 0#32
  let c0_i32_838 : BitVec 32 := 0#32
  ![v1281.toNat, 0, 0]
def k0_off81 (v1283 : BitVec 32) : Fin 3 → Nat :=
  let c0_i32_839 : BitVec 32 := 0#32
  let c0_i32_840 : BitVec 32 := 0#32
  ![v1283.toNat, 0, 0]

def k0_chk27 (k0_t1 : Fin k0_t1_loop.trips) (v1283 : BitVec 32) : Prop :=
  (∀ (k0_h14 : k0_cond14 k0_t1 = 1#1), ∀ a, (k0_off81 v1283) a + S1x8x128.size a ≤ S13312x8x128.size a) ∧
  (∀ (k0_h14 : k0_cond14 k0_t1 = 1#1), ∀ (hinb : ∀ a, (k0_off81 v1283) a + S1x8x128.size a ≤ S13312x8x128.size a), (Rect.unit (s := S13312x8x128) (k0_off81 v1283) S1x8x128.size hinb).WholeWords (EltTy.packing .bf16))
theorem k0_off81_inb : ∀ (k0_t1 : Fin k0_t1_loop.trips) (v1283 : BitVec 32) (k0_hw27 : k0_chk27 k0_t1 v1283), ∀ (k0_h14 : k0_cond14 k0_t1 = 1#1), ∀ a, (k0_off81 v1283) a + S1x8x128.size a ≤ S13312x8x128.size a := fun k0_t1 v1283 k0_hw27 k0_h14 => k0_hw27.1 k0_h14
theorem k0_off81_wordsbf16 : ∀ (k0_t1 : Fin k0_t1_loop.trips) (v1283 : BitVec 32) (k0_hw27 : k0_chk27 k0_t1 v1283), ∀ (k0_h14 : k0_cond14 k0_t1 = 1#1), (Rect.unit (s := S13312x8x128) (k0_off81 v1283) S1x8x128.size (k0_off81_inb k0_t1 v1283 k0_hw27 k0_h14)).WholeWords (EltTy.packing .bf16) := fun k0_t1 v1283 k0_hw27 k0_h14 => k0_hw27.2 k0_h14 (k0_off81_inb k0_t1 v1283 k0_hw27 k0_h14)

def k0_off82 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let v623 : Index := Scalar.indexCast v619
  ![v623.toNat]
def k0_off83 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_376 : BitVec 32 := 64#32
  let v618 : BitVec 32 := Scalar.muli arg4 c64_i32_376
  let c13_i32_377 : BitVec 32 := 13#32
  let v619 : BitVec 32 := Scalar.addi v618 c13_i32_377
  let c0_i32_381 : BitVec 32 := 0#32
  let c0_i32_382 : BitVec 32 := 0#32
  ![v619.toNat, 0, 0]
def k0_off84 (v624 : BitVec 32) : Fin 3 → Nat :=
  let c0_i32_383 : BitVec 32 := 0#32
  let c0_i32_384 : BitVec 32 := 0#32
  ![v624.toNat, 0, 0]

def k0_chk28 (v624 : BitVec 32) : Prop :=
  (∀ a, (k0_off84 v624) a + S1x8x128.size a ≤ S13312x8x128.size a) ∧
  (∀ (hinb : ∀ a, (k0_off84 v624) a + S1x8x128.size a ≤ S13312x8x128.size a), (Rect.unit (s := S13312x8x128) (k0_off84 v624) S1x8x128.size hinb).WholeWords (EltTy.packing .bf16))
theorem k0_off84_inb : ∀ (v624 : BitVec 32) (k0_hw28 : k0_chk28 v624), ∀ a, (k0_off84 v624) a + S1x8x128.size a ≤ S13312x8x128.size a := fun v624 k0_hw28 => k0_hw28.1
theorem k0_off84_wordsbf16 : ∀ (v624 : BitVec 32) (k0_hw28 : k0_chk28 v624), (Rect.unit (s := S13312x8x128) (k0_off84 v624) S1x8x128.size (k0_off84_inb v624 k0_hw28)).WholeWords (EltTy.packing .bf16) := fun v624 k0_hw28 => k0_hw28.2 (k0_off84_inb v624 k0_hw28)

def k0_cond15 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_387 : BitVec 32 := 0#32
  let v633 : BitVec 1 := Scalar.cmpi .sgt arg4 c0_i32_387
  let v634 : BitVec 32 := Scalar.extui v633
  let c0_i32_388 : BitVec 32 := 0#32
  let v635 : BitVec 1 := Scalar.cmpi .ne v634 c0_i32_388
  v635

def k0_off85 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let v1282 : Index := Scalar.indexCast v1281
  ![v1282.toNat]
def k0_off86 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c64_i32_835 : BitVec 32 := 64#32
  let v1281 : BitVec 32 := Scalar.subi v632 c64_i32_835
  let c0_i32_837 : BitVec 32 := 0#32
  let c0_i32_838 : BitVec 32 := 0#32
  ![v1281.toNat, 0, 0]
def k0_off87 (v1283 : BitVec 32) : Fin 3 → Nat :=
  let c0_i32_839 : BitVec 32 := 0#32
  let c0_i32_840 : BitVec 32 := 0#32
  ![v1283.toNat, 0, 0]

def k0_chk29 (k0_t1 : Fin k0_t1_loop.trips) (v1283 : BitVec 32) : Prop :=
  (∀ (k0_h15 : k0_cond15 k0_t1 = 1#1), ∀ a, (k0_off87 v1283) a + S1x8x128.size a ≤ S13312x8x128.size a) ∧
  (∀ (k0_h15 : k0_cond15 k0_t1 = 1#1), ∀ (hinb : ∀ a, (k0_off87 v1283) a + S1x8x128.size a ≤ S13312x8x128.size a), (Rect.unit (s := S13312x8x128) (k0_off87 v1283) S1x8x128.size hinb).WholeWords (EltTy.packing .bf16))
theorem k0_off87_inb : ∀ (k0_t1 : Fin k0_t1_loop.trips) (v1283 : BitVec 32) (k0_hw29 : k0_chk29 k0_t1 v1283), ∀ (k0_h15 : k0_cond15 k0_t1 = 1#1), ∀ a, (k0_off87 v1283) a + S1x8x128.size a ≤ S13312x8x128.size a := fun k0_t1 v1283 k0_hw29 k0_h15 => k0_hw29.1 k0_h15
theorem k0_off87_wordsbf16 : ∀ (k0_t1 : Fin k0_t1_loop.trips) (v1283 : BitVec 32) (k0_hw29 : k0_chk29 k0_t1 v1283), ∀ (k0_h15 : k0_cond15 k0_t1 = 1#1), (Rect.unit (s := S13312x8x128) (k0_off87 v1283) S1x8x128.size (k0_off87_inb k0_t1 v1283 k0_hw29 k0_h15)).WholeWords (EltTy.packing .bf16) := fun k0_t1 v1283 k0_hw29 k0_h15 => k0_hw29.2 k0_h15 (k0_off87_inb k0_t1 v1283 k0_hw29 k0_h15)

def k0_off88 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let v636 : Index := Scalar.indexCast v632
  ![v636.toNat]
def k0_off89 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_385 : BitVec 32 := 64#32
  let v631 : BitVec 32 := Scalar.muli arg4 c64_i32_385
  let c14_i32_386 : BitVec 32 := 14#32
  let v632 : BitVec 32 := Scalar.addi v631 c14_i32_386
  let c0_i32_390 : BitVec 32 := 0#32
  let c0_i32_391 : BitVec 32 := 0#32
  ![v632.toNat, 0, 0]
def k0_off90 (v637 : BitVec 32) : Fin 3 → Nat :=
  let c0_i32_392 : BitVec 32 := 0#32
  let c0_i32_393 : BitVec 32 := 0#32
  ![v637.toNat, 0, 0]

def k0_chk30 (v637 : BitVec 32) : Prop :=
  (∀ a, (k0_off90 v637) a + S1x8x128.size a ≤ S13312x8x128.size a) ∧
  (∀ (hinb : ∀ a, (k0_off90 v637) a + S1x8x128.size a ≤ S13312x8x128.size a), (Rect.unit (s := S13312x8x128) (k0_off90 v637) S1x8x128.size hinb).WholeWords (EltTy.packing .bf16))
theorem k0_off90_inb : ∀ (v637 : BitVec 32) (k0_hw30 : k0_chk30 v637), ∀ a, (k0_off90 v637) a + S1x8x128.size a ≤ S13312x8x128.size a := fun v637 k0_hw30 => k0_hw30.1
theorem k0_off90_wordsbf16 : ∀ (v637 : BitVec 32) (k0_hw30 : k0_chk30 v637), (Rect.unit (s := S13312x8x128) (k0_off90 v637) S1x8x128.size (k0_off90_inb v637 k0_hw30)).WholeWords (EltTy.packing .bf16) := fun v637 k0_hw30 => k0_hw30.2 (k0_off90_inb v637 k0_hw30)

def k0_cond16 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_396 : BitVec 32 := 0#32
  let v646 : BitVec 1 := Scalar.cmpi .sgt arg4 c0_i32_396
  let v647 : BitVec 32 := Scalar.extui v646
  let c0_i32_397 : BitVec 32 := 0#32
  let v648 : BitVec 1 := Scalar.cmpi .ne v647 c0_i32_397
  v648

def k0_off91 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let v1282 : Index := Scalar.indexCast v1281
  ![v1282.toNat]
def k0_off92 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c64_i32_835 : BitVec 32 := 64#32
  let v1281 : BitVec 32 := Scalar.subi v645 c64_i32_835
  let c0_i32_837 : BitVec 32 := 0#32
  let c0_i32_838 : BitVec 32 := 0#32
  ![v1281.toNat, 0, 0]
def k0_off93 (v1283 : BitVec 32) : Fin 3 → Nat :=
  let c0_i32_839 : BitVec 32 := 0#32
  let c0_i32_840 : BitVec 32 := 0#32
  ![v1283.toNat, 0, 0]

def k0_chk31 (k0_t1 : Fin k0_t1_loop.trips) (v1283 : BitVec 32) : Prop :=
  (∀ (k0_h16 : k0_cond16 k0_t1 = 1#1), ∀ a, (k0_off93 v1283) a + S1x8x128.size a ≤ S13312x8x128.size a) ∧
  (∀ (k0_h16 : k0_cond16 k0_t1 = 1#1), ∀ (hinb : ∀ a, (k0_off93 v1283) a + S1x8x128.size a ≤ S13312x8x128.size a), (Rect.unit (s := S13312x8x128) (k0_off93 v1283) S1x8x128.size hinb).WholeWords (EltTy.packing .bf16))
theorem k0_off93_inb : ∀ (k0_t1 : Fin k0_t1_loop.trips) (v1283 : BitVec 32) (k0_hw31 : k0_chk31 k0_t1 v1283), ∀ (k0_h16 : k0_cond16 k0_t1 = 1#1), ∀ a, (k0_off93 v1283) a + S1x8x128.size a ≤ S13312x8x128.size a := fun k0_t1 v1283 k0_hw31 k0_h16 => k0_hw31.1 k0_h16
theorem k0_off93_wordsbf16 : ∀ (k0_t1 : Fin k0_t1_loop.trips) (v1283 : BitVec 32) (k0_hw31 : k0_chk31 k0_t1 v1283), ∀ (k0_h16 : k0_cond16 k0_t1 = 1#1), (Rect.unit (s := S13312x8x128) (k0_off93 v1283) S1x8x128.size (k0_off93_inb k0_t1 v1283 k0_hw31 k0_h16)).WholeWords (EltTy.packing .bf16) := fun k0_t1 v1283 k0_hw31 k0_h16 => k0_hw31.2 k0_h16 (k0_off93_inb k0_t1 v1283 k0_hw31 k0_h16)

def k0_off94 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let v649 : Index := Scalar.indexCast v645
  ![v649.toNat]
def k0_off95 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_394 : BitVec 32 := 64#32
  let v644 : BitVec 32 := Scalar.muli arg4 c64_i32_394
  let c15_i32_395 : BitVec 32 := 15#32
  let v645 : BitVec 32 := Scalar.addi v644 c15_i32_395
  let c0_i32_399 : BitVec 32 := 0#32
  let c0_i32_400 : BitVec 32 := 0#32
  ![v645.toNat, 0, 0]
def k0_off96 (v650 : BitVec 32) : Fin 3 → Nat :=
  let c0_i32_401 : BitVec 32 := 0#32
  let c0_i32_402 : BitVec 32 := 0#32
  ![v650.toNat, 0, 0]

def k0_chk32 (v650 : BitVec 32) : Prop :=
  (∀ a, (k0_off96 v650) a + S1x8x128.size a ≤ S13312x8x128.size a) ∧
  (∀ (hinb : ∀ a, (k0_off96 v650) a + S1x8x128.size a ≤ S13312x8x128.size a), (Rect.unit (s := S13312x8x128) (k0_off96 v650) S1x8x128.size hinb).WholeWords (EltTy.packing .bf16))
theorem k0_off96_inb : ∀ (v650 : BitVec 32) (k0_hw32 : k0_chk32 v650), ∀ a, (k0_off96 v650) a + S1x8x128.size a ≤ S13312x8x128.size a := fun v650 k0_hw32 => k0_hw32.1
theorem k0_off96_wordsbf16 : ∀ (v650 : BitVec 32) (k0_hw32 : k0_chk32 v650), (Rect.unit (s := S13312x8x128) (k0_off96 v650) S1x8x128.size (k0_off96_inb v650 k0_hw32)).WholeWords (EltTy.packing .bf16) := fun v650 k0_hw32 => k0_hw32.2 (k0_off96_inb v650 k0_hw32)

def k0_cond17 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_405 : BitVec 32 := 0#32
  let v659 : BitVec 1 := Scalar.cmpi .sgt arg4 c0_i32_405
  let v660 : BitVec 32 := Scalar.extui v659
  let c0_i32_406 : BitVec 32 := 0#32
  let v661 : BitVec 1 := Scalar.cmpi .ne v660 c0_i32_406
  v661

def k0_off97 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let v1282 : Index := Scalar.indexCast v1281
  ![v1282.toNat]
def k0_off98 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c64_i32_835 : BitVec 32 := 64#32
  let v1281 : BitVec 32 := Scalar.subi v658 c64_i32_835
  let c0_i32_837 : BitVec 32 := 0#32
  let c0_i32_838 : BitVec 32 := 0#32
  ![v1281.toNat, 0, 0]
def k0_off99 (v1283 : BitVec 32) : Fin 3 → Nat :=
  let c0_i32_839 : BitVec 32 := 0#32
  let c0_i32_840 : BitVec 32 := 0#32
  ![v1283.toNat, 0, 0]

def k0_chk33 (k0_t1 : Fin k0_t1_loop.trips) (v1283 : BitVec 32) : Prop :=
  (∀ (k0_h17 : k0_cond17 k0_t1 = 1#1), ∀ a, (k0_off99 v1283) a + S1x8x128.size a ≤ S13312x8x128.size a) ∧
  (∀ (k0_h17 : k0_cond17 k0_t1 = 1#1), ∀ (hinb : ∀ a, (k0_off99 v1283) a + S1x8x128.size a ≤ S13312x8x128.size a), (Rect.unit (s := S13312x8x128) (k0_off99 v1283) S1x8x128.size hinb).WholeWords (EltTy.packing .bf16))
theorem k0_off99_inb : ∀ (k0_t1 : Fin k0_t1_loop.trips) (v1283 : BitVec 32) (k0_hw33 : k0_chk33 k0_t1 v1283), ∀ (k0_h17 : k0_cond17 k0_t1 = 1#1), ∀ a, (k0_off99 v1283) a + S1x8x128.size a ≤ S13312x8x128.size a := fun k0_t1 v1283 k0_hw33 k0_h17 => k0_hw33.1 k0_h17
theorem k0_off99_wordsbf16 : ∀ (k0_t1 : Fin k0_t1_loop.trips) (v1283 : BitVec 32) (k0_hw33 : k0_chk33 k0_t1 v1283), ∀ (k0_h17 : k0_cond17 k0_t1 = 1#1), (Rect.unit (s := S13312x8x128) (k0_off99 v1283) S1x8x128.size (k0_off99_inb k0_t1 v1283 k0_hw33 k0_h17)).WholeWords (EltTy.packing .bf16) := fun k0_t1 v1283 k0_hw33 k0_h17 => k0_hw33.2 k0_h17 (k0_off99_inb k0_t1 v1283 k0_hw33 k0_h17)

def k0_off100 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let v662 : Index := Scalar.indexCast v658
  ![v662.toNat]
def k0_off101 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_403 : BitVec 32 := 64#32
  let v657 : BitVec 32 := Scalar.muli arg4 c64_i32_403
  let c16_i32_404 : BitVec 32 := 16#32
  let v658 : BitVec 32 := Scalar.addi v657 c16_i32_404
  let c0_i32_408 : BitVec 32 := 0#32
  let c0_i32_409 : BitVec 32 := 0#32
  ![v658.toNat, 0, 0]
def k0_off102 (v663 : BitVec 32) : Fin 3 → Nat :=
  let c0_i32_410 : BitVec 32 := 0#32
  let c0_i32_411 : BitVec 32 := 0#32
  ![v663.toNat, 0, 0]

def k0_chk34 (v663 : BitVec 32) : Prop :=
  (∀ a, (k0_off102 v663) a + S1x8x128.size a ≤ S13312x8x128.size a) ∧
  (∀ (hinb : ∀ a, (k0_off102 v663) a + S1x8x128.size a ≤ S13312x8x128.size a), (Rect.unit (s := S13312x8x128) (k0_off102 v663) S1x8x128.size hinb).WholeWords (EltTy.packing .bf16))
theorem k0_off102_inb : ∀ (v663 : BitVec 32) (k0_hw34 : k0_chk34 v663), ∀ a, (k0_off102 v663) a + S1x8x128.size a ≤ S13312x8x128.size a := fun v663 k0_hw34 => k0_hw34.1
theorem k0_off102_wordsbf16 : ∀ (v663 : BitVec 32) (k0_hw34 : k0_chk34 v663), (Rect.unit (s := S13312x8x128) (k0_off102 v663) S1x8x128.size (k0_off102_inb v663 k0_hw34)).WholeWords (EltTy.packing .bf16) := fun v663 k0_hw34 => k0_hw34.2 (k0_off102_inb v663 k0_hw34)

def k0_cond18 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_414 : BitVec 32 := 0#32
  let v672 : BitVec 1 := Scalar.cmpi .sgt arg4 c0_i32_414
  let v673 : BitVec 32 := Scalar.extui v672
  let c0_i32_415 : BitVec 32 := 0#32
  let v674 : BitVec 1 := Scalar.cmpi .ne v673 c0_i32_415
  v674

def k0_off103 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let v1282 : Index := Scalar.indexCast v1281
  ![v1282.toNat]
def k0_off104 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c64_i32_835 : BitVec 32 := 64#32
  let v1281 : BitVec 32 := Scalar.subi v671 c64_i32_835
  let c0_i32_837 : BitVec 32 := 0#32
  let c0_i32_838 : BitVec 32 := 0#32
  ![v1281.toNat, 0, 0]
def k0_off105 (v1283 : BitVec 32) : Fin 3 → Nat :=
  let c0_i32_839 : BitVec 32 := 0#32
  let c0_i32_840 : BitVec 32 := 0#32
  ![v1283.toNat, 0, 0]

def k0_chk35 (k0_t1 : Fin k0_t1_loop.trips) (v1283 : BitVec 32) : Prop :=
  (∀ (k0_h18 : k0_cond18 k0_t1 = 1#1), ∀ a, (k0_off105 v1283) a + S1x8x128.size a ≤ S13312x8x128.size a) ∧
  (∀ (k0_h18 : k0_cond18 k0_t1 = 1#1), ∀ (hinb : ∀ a, (k0_off105 v1283) a + S1x8x128.size a ≤ S13312x8x128.size a), (Rect.unit (s := S13312x8x128) (k0_off105 v1283) S1x8x128.size hinb).WholeWords (EltTy.packing .bf16))
theorem k0_off105_inb : ∀ (k0_t1 : Fin k0_t1_loop.trips) (v1283 : BitVec 32) (k0_hw35 : k0_chk35 k0_t1 v1283), ∀ (k0_h18 : k0_cond18 k0_t1 = 1#1), ∀ a, (k0_off105 v1283) a + S1x8x128.size a ≤ S13312x8x128.size a := fun k0_t1 v1283 k0_hw35 k0_h18 => k0_hw35.1 k0_h18
theorem k0_off105_wordsbf16 : ∀ (k0_t1 : Fin k0_t1_loop.trips) (v1283 : BitVec 32) (k0_hw35 : k0_chk35 k0_t1 v1283), ∀ (k0_h18 : k0_cond18 k0_t1 = 1#1), (Rect.unit (s := S13312x8x128) (k0_off105 v1283) S1x8x128.size (k0_off105_inb k0_t1 v1283 k0_hw35 k0_h18)).WholeWords (EltTy.packing .bf16) := fun k0_t1 v1283 k0_hw35 k0_h18 => k0_hw35.2 k0_h18 (k0_off105_inb k0_t1 v1283 k0_hw35 k0_h18)

def k0_off106 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let v675 : Index := Scalar.indexCast v671
  ![v675.toNat]
def k0_off107 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_412 : BitVec 32 := 64#32
  let v670 : BitVec 32 := Scalar.muli arg4 c64_i32_412
  let c17_i32_413 : BitVec 32 := 17#32
  let v671 : BitVec 32 := Scalar.addi v670 c17_i32_413
  let c0_i32_417 : BitVec 32 := 0#32
  let c0_i32_418 : BitVec 32 := 0#32
  ![v671.toNat, 0, 0]
def k0_off108 (v676 : BitVec 32) : Fin 3 → Nat :=
  let c0_i32_419 : BitVec 32 := 0#32
  let c0_i32_420 : BitVec 32 := 0#32
  ![v676.toNat, 0, 0]

def k0_chk36 (v676 : BitVec 32) : Prop :=
  (∀ a, (k0_off108 v676) a + S1x8x128.size a ≤ S13312x8x128.size a) ∧
  (∀ (hinb : ∀ a, (k0_off108 v676) a + S1x8x128.size a ≤ S13312x8x128.size a), (Rect.unit (s := S13312x8x128) (k0_off108 v676) S1x8x128.size hinb).WholeWords (EltTy.packing .bf16))
theorem k0_off108_inb : ∀ (v676 : BitVec 32) (k0_hw36 : k0_chk36 v676), ∀ a, (k0_off108 v676) a + S1x8x128.size a ≤ S13312x8x128.size a := fun v676 k0_hw36 => k0_hw36.1
theorem k0_off108_wordsbf16 : ∀ (v676 : BitVec 32) (k0_hw36 : k0_chk36 v676), (Rect.unit (s := S13312x8x128) (k0_off108 v676) S1x8x128.size (k0_off108_inb v676 k0_hw36)).WholeWords (EltTy.packing .bf16) := fun v676 k0_hw36 => k0_hw36.2 (k0_off108_inb v676 k0_hw36)

def k0_cond19 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_423 : BitVec 32 := 0#32
  let v685 : BitVec 1 := Scalar.cmpi .sgt arg4 c0_i32_423
  let v686 : BitVec 32 := Scalar.extui v685
  let c0_i32_424 : BitVec 32 := 0#32
  let v687 : BitVec 1 := Scalar.cmpi .ne v686 c0_i32_424
  v687

def k0_off109 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let v1282 : Index := Scalar.indexCast v1281
  ![v1282.toNat]
def k0_off110 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c64_i32_835 : BitVec 32 := 64#32
  let v1281 : BitVec 32 := Scalar.subi v684 c64_i32_835
  let c0_i32_837 : BitVec 32 := 0#32
  let c0_i32_838 : BitVec 32 := 0#32
  ![v1281.toNat, 0, 0]
def k0_off111 (v1283 : BitVec 32) : Fin 3 → Nat :=
  let c0_i32_839 : BitVec 32 := 0#32
  let c0_i32_840 : BitVec 32 := 0#32
  ![v1283.toNat, 0, 0]

def k0_chk37 (k0_t1 : Fin k0_t1_loop.trips) (v1283 : BitVec 32) : Prop :=
  (∀ (k0_h19 : k0_cond19 k0_t1 = 1#1), ∀ a, (k0_off111 v1283) a + S1x8x128.size a ≤ S13312x8x128.size a) ∧
  (∀ (k0_h19 : k0_cond19 k0_t1 = 1#1), ∀ (hinb : ∀ a, (k0_off111 v1283) a + S1x8x128.size a ≤ S13312x8x128.size a), (Rect.unit (s := S13312x8x128) (k0_off111 v1283) S1x8x128.size hinb).WholeWords (EltTy.packing .bf16))
theorem k0_off111_inb : ∀ (k0_t1 : Fin k0_t1_loop.trips) (v1283 : BitVec 32) (k0_hw37 : k0_chk37 k0_t1 v1283), ∀ (k0_h19 : k0_cond19 k0_t1 = 1#1), ∀ a, (k0_off111 v1283) a + S1x8x128.size a ≤ S13312x8x128.size a := fun k0_t1 v1283 k0_hw37 k0_h19 => k0_hw37.1 k0_h19
theorem k0_off111_wordsbf16 : ∀ (k0_t1 : Fin k0_t1_loop.trips) (v1283 : BitVec 32) (k0_hw37 : k0_chk37 k0_t1 v1283), ∀ (k0_h19 : k0_cond19 k0_t1 = 1#1), (Rect.unit (s := S13312x8x128) (k0_off111 v1283) S1x8x128.size (k0_off111_inb k0_t1 v1283 k0_hw37 k0_h19)).WholeWords (EltTy.packing .bf16) := fun k0_t1 v1283 k0_hw37 k0_h19 => k0_hw37.2 k0_h19 (k0_off111_inb k0_t1 v1283 k0_hw37 k0_h19)

def k0_off112 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let v688 : Index := Scalar.indexCast v684
  ![v688.toNat]
def k0_off113 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_421 : BitVec 32 := 64#32
  let v683 : BitVec 32 := Scalar.muli arg4 c64_i32_421
  let c18_i32_422 : BitVec 32 := 18#32
  let v684 : BitVec 32 := Scalar.addi v683 c18_i32_422
  let c0_i32_426 : BitVec 32 := 0#32
  let c0_i32_427 : BitVec 32 := 0#32
  ![v684.toNat, 0, 0]
def k0_off114 (v689 : BitVec 32) : Fin 3 → Nat :=
  let c0_i32_428 : BitVec 32 := 0#32
  let c0_i32_429 : BitVec 32 := 0#32
  ![v689.toNat, 0, 0]

def k0_chk38 (v689 : BitVec 32) : Prop :=
  (∀ a, (k0_off114 v689) a + S1x8x128.size a ≤ S13312x8x128.size a) ∧
  (∀ (hinb : ∀ a, (k0_off114 v689) a + S1x8x128.size a ≤ S13312x8x128.size a), (Rect.unit (s := S13312x8x128) (k0_off114 v689) S1x8x128.size hinb).WholeWords (EltTy.packing .bf16))
theorem k0_off114_inb : ∀ (v689 : BitVec 32) (k0_hw38 : k0_chk38 v689), ∀ a, (k0_off114 v689) a + S1x8x128.size a ≤ S13312x8x128.size a := fun v689 k0_hw38 => k0_hw38.1
theorem k0_off114_wordsbf16 : ∀ (v689 : BitVec 32) (k0_hw38 : k0_chk38 v689), (Rect.unit (s := S13312x8x128) (k0_off114 v689) S1x8x128.size (k0_off114_inb v689 k0_hw38)).WholeWords (EltTy.packing .bf16) := fun v689 k0_hw38 => k0_hw38.2 (k0_off114_inb v689 k0_hw38)

def k0_cond20 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_432 : BitVec 32 := 0#32
  let v698 : BitVec 1 := Scalar.cmpi .sgt arg4 c0_i32_432
  let v699 : BitVec 32 := Scalar.extui v698
  let c0_i32_433 : BitVec 32 := 0#32
  let v700 : BitVec 1 := Scalar.cmpi .ne v699 c0_i32_433
  v700

def k0_off115 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let v1282 : Index := Scalar.indexCast v1281
  ![v1282.toNat]
def k0_off116 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c64_i32_835 : BitVec 32 := 64#32
  let v1281 : BitVec 32 := Scalar.subi v697 c64_i32_835
  let c0_i32_837 : BitVec 32 := 0#32
  let c0_i32_838 : BitVec 32 := 0#32
  ![v1281.toNat, 0, 0]
def k0_off117 (v1283 : BitVec 32) : Fin 3 → Nat :=
  let c0_i32_839 : BitVec 32 := 0#32
  let c0_i32_840 : BitVec 32 := 0#32
  ![v1283.toNat, 0, 0]

def k0_chk39 (k0_t1 : Fin k0_t1_loop.trips) (v1283 : BitVec 32) : Prop :=
  (∀ (k0_h20 : k0_cond20 k0_t1 = 1#1), ∀ a, (k0_off117 v1283) a + S1x8x128.size a ≤ S13312x8x128.size a) ∧
  (∀ (k0_h20 : k0_cond20 k0_t1 = 1#1), ∀ (hinb : ∀ a, (k0_off117 v1283) a + S1x8x128.size a ≤ S13312x8x128.size a), (Rect.unit (s := S13312x8x128) (k0_off117 v1283) S1x8x128.size hinb).WholeWords (EltTy.packing .bf16))
theorem k0_off117_inb : ∀ (k0_t1 : Fin k0_t1_loop.trips) (v1283 : BitVec 32) (k0_hw39 : k0_chk39 k0_t1 v1283), ∀ (k0_h20 : k0_cond20 k0_t1 = 1#1), ∀ a, (k0_off117 v1283) a + S1x8x128.size a ≤ S13312x8x128.size a := fun k0_t1 v1283 k0_hw39 k0_h20 => k0_hw39.1 k0_h20
theorem k0_off117_wordsbf16 : ∀ (k0_t1 : Fin k0_t1_loop.trips) (v1283 : BitVec 32) (k0_hw39 : k0_chk39 k0_t1 v1283), ∀ (k0_h20 : k0_cond20 k0_t1 = 1#1), (Rect.unit (s := S13312x8x128) (k0_off117 v1283) S1x8x128.size (k0_off117_inb k0_t1 v1283 k0_hw39 k0_h20)).WholeWords (EltTy.packing .bf16) := fun k0_t1 v1283 k0_hw39 k0_h20 => k0_hw39.2 k0_h20 (k0_off117_inb k0_t1 v1283 k0_hw39 k0_h20)

def k0_off118 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let v701 : Index := Scalar.indexCast v697
  ![v701.toNat]
def k0_off119 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_430 : BitVec 32 := 64#32
  let v696 : BitVec 32 := Scalar.muli arg4 c64_i32_430
  let c19_i32_431 : BitVec 32 := 19#32
  let v697 : BitVec 32 := Scalar.addi v696 c19_i32_431
  let c0_i32_435 : BitVec 32 := 0#32
  let c0_i32_436 : BitVec 32 := 0#32
  ![v697.toNat, 0, 0]
def k0_off120 (v702 : BitVec 32) : Fin 3 → Nat :=
  let c0_i32_437 : BitVec 32 := 0#32
  let c0_i32_438 : BitVec 32 := 0#32
  ![v702.toNat, 0, 0]

def k0_chk40 (v702 : BitVec 32) : Prop :=
  (∀ a, (k0_off120 v702) a + S1x8x128.size a ≤ S13312x8x128.size a) ∧
  (∀ (hinb : ∀ a, (k0_off120 v702) a + S1x8x128.size a ≤ S13312x8x128.size a), (Rect.unit (s := S13312x8x128) (k0_off120 v702) S1x8x128.size hinb).WholeWords (EltTy.packing .bf16))
theorem k0_off120_inb : ∀ (v702 : BitVec 32) (k0_hw40 : k0_chk40 v702), ∀ a, (k0_off120 v702) a + S1x8x128.size a ≤ S13312x8x128.size a := fun v702 k0_hw40 => k0_hw40.1
theorem k0_off120_wordsbf16 : ∀ (v702 : BitVec 32) (k0_hw40 : k0_chk40 v702), (Rect.unit (s := S13312x8x128) (k0_off120 v702) S1x8x128.size (k0_off120_inb v702 k0_hw40)).WholeWords (EltTy.packing .bf16) := fun v702 k0_hw40 => k0_hw40.2 (k0_off120_inb v702 k0_hw40)

def k0_cond21 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_441 : BitVec 32 := 0#32
  let v711 : BitVec 1 := Scalar.cmpi .sgt arg4 c0_i32_441
  let v712 : BitVec 32 := Scalar.extui v711
  let c0_i32_442 : BitVec 32 := 0#32
  let v713 : BitVec 1 := Scalar.cmpi .ne v712 c0_i32_442
  v713

def k0_off121 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let v1282 : Index := Scalar.indexCast v1281
  ![v1282.toNat]
def k0_off122 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c64_i32_835 : BitVec 32 := 64#32
  let v1281 : BitVec 32 := Scalar.subi v710 c64_i32_835
  let c0_i32_837 : BitVec 32 := 0#32
  let c0_i32_838 : BitVec 32 := 0#32
  ![v1281.toNat, 0, 0]
def k0_off123 (v1283 : BitVec 32) : Fin 3 → Nat :=
  let c0_i32_839 : BitVec 32 := 0#32
  let c0_i32_840 : BitVec 32 := 0#32
  ![v1283.toNat, 0, 0]

def k0_chk41 (k0_t1 : Fin k0_t1_loop.trips) (v1283 : BitVec 32) : Prop :=
  (∀ (k0_h21 : k0_cond21 k0_t1 = 1#1), ∀ a, (k0_off123 v1283) a + S1x8x128.size a ≤ S13312x8x128.size a) ∧
  (∀ (k0_h21 : k0_cond21 k0_t1 = 1#1), ∀ (hinb : ∀ a, (k0_off123 v1283) a + S1x8x128.size a ≤ S13312x8x128.size a), (Rect.unit (s := S13312x8x128) (k0_off123 v1283) S1x8x128.size hinb).WholeWords (EltTy.packing .bf16))
theorem k0_off123_inb : ∀ (k0_t1 : Fin k0_t1_loop.trips) (v1283 : BitVec 32) (k0_hw41 : k0_chk41 k0_t1 v1283), ∀ (k0_h21 : k0_cond21 k0_t1 = 1#1), ∀ a, (k0_off123 v1283) a + S1x8x128.size a ≤ S13312x8x128.size a := fun k0_t1 v1283 k0_hw41 k0_h21 => k0_hw41.1 k0_h21
theorem k0_off123_wordsbf16 : ∀ (k0_t1 : Fin k0_t1_loop.trips) (v1283 : BitVec 32) (k0_hw41 : k0_chk41 k0_t1 v1283), ∀ (k0_h21 : k0_cond21 k0_t1 = 1#1), (Rect.unit (s := S13312x8x128) (k0_off123 v1283) S1x8x128.size (k0_off123_inb k0_t1 v1283 k0_hw41 k0_h21)).WholeWords (EltTy.packing .bf16) := fun k0_t1 v1283 k0_hw41 k0_h21 => k0_hw41.2 k0_h21 (k0_off123_inb k0_t1 v1283 k0_hw41 k0_h21)

def k0_off124 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let v714 : Index := Scalar.indexCast v710
  ![v714.toNat]
def k0_off125 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_439 : BitVec 32 := 64#32
  let v709 : BitVec 32 := Scalar.muli arg4 c64_i32_439
  let c20_i32_440 : BitVec 32 := 20#32
  let v710 : BitVec 32 := Scalar.addi v709 c20_i32_440
  let c0_i32_444 : BitVec 32 := 0#32
  let c0_i32_445 : BitVec 32 := 0#32
  ![v710.toNat, 0, 0]
def k0_off126 (v715 : BitVec 32) : Fin 3 → Nat :=
  let c0_i32_446 : BitVec 32 := 0#32
  let c0_i32_447 : BitVec 32 := 0#32
  ![v715.toNat, 0, 0]

def k0_chk42 (v715 : BitVec 32) : Prop :=
  (∀ a, (k0_off126 v715) a + S1x8x128.size a ≤ S13312x8x128.size a) ∧
  (∀ (hinb : ∀ a, (k0_off126 v715) a + S1x8x128.size a ≤ S13312x8x128.size a), (Rect.unit (s := S13312x8x128) (k0_off126 v715) S1x8x128.size hinb).WholeWords (EltTy.packing .bf16))
theorem k0_off126_inb : ∀ (v715 : BitVec 32) (k0_hw42 : k0_chk42 v715), ∀ a, (k0_off126 v715) a + S1x8x128.size a ≤ S13312x8x128.size a := fun v715 k0_hw42 => k0_hw42.1
theorem k0_off126_wordsbf16 : ∀ (v715 : BitVec 32) (k0_hw42 : k0_chk42 v715), (Rect.unit (s := S13312x8x128) (k0_off126 v715) S1x8x128.size (k0_off126_inb v715 k0_hw42)).WholeWords (EltTy.packing .bf16) := fun v715 k0_hw42 => k0_hw42.2 (k0_off126_inb v715 k0_hw42)

def k0_cond22 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_450 : BitVec 32 := 0#32
  let v724 : BitVec 1 := Scalar.cmpi .sgt arg4 c0_i32_450
  let v725 : BitVec 32 := Scalar.extui v724
  let c0_i32_451 : BitVec 32 := 0#32
  let v726 : BitVec 1 := Scalar.cmpi .ne v725 c0_i32_451
  v726

def k0_off127 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let v1282 : Index := Scalar.indexCast v1281
  ![v1282.toNat]
def k0_off128 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c64_i32_835 : BitVec 32 := 64#32
  let v1281 : BitVec 32 := Scalar.subi v723 c64_i32_835
  let c0_i32_837 : BitVec 32 := 0#32
  let c0_i32_838 : BitVec 32 := 0#32
  ![v1281.toNat, 0, 0]
def k0_off129 (v1283 : BitVec 32) : Fin 3 → Nat :=
  let c0_i32_839 : BitVec 32 := 0#32
  let c0_i32_840 : BitVec 32 := 0#32
  ![v1283.toNat, 0, 0]

def k0_chk43 (k0_t1 : Fin k0_t1_loop.trips) (v1283 : BitVec 32) : Prop :=
  (∀ (k0_h22 : k0_cond22 k0_t1 = 1#1), ∀ a, (k0_off129 v1283) a + S1x8x128.size a ≤ S13312x8x128.size a) ∧
  (∀ (k0_h22 : k0_cond22 k0_t1 = 1#1), ∀ (hinb : ∀ a, (k0_off129 v1283) a + S1x8x128.size a ≤ S13312x8x128.size a), (Rect.unit (s := S13312x8x128) (k0_off129 v1283) S1x8x128.size hinb).WholeWords (EltTy.packing .bf16))
theorem k0_off129_inb : ∀ (k0_t1 : Fin k0_t1_loop.trips) (v1283 : BitVec 32) (k0_hw43 : k0_chk43 k0_t1 v1283), ∀ (k0_h22 : k0_cond22 k0_t1 = 1#1), ∀ a, (k0_off129 v1283) a + S1x8x128.size a ≤ S13312x8x128.size a := fun k0_t1 v1283 k0_hw43 k0_h22 => k0_hw43.1 k0_h22
theorem k0_off129_wordsbf16 : ∀ (k0_t1 : Fin k0_t1_loop.trips) (v1283 : BitVec 32) (k0_hw43 : k0_chk43 k0_t1 v1283), ∀ (k0_h22 : k0_cond22 k0_t1 = 1#1), (Rect.unit (s := S13312x8x128) (k0_off129 v1283) S1x8x128.size (k0_off129_inb k0_t1 v1283 k0_hw43 k0_h22)).WholeWords (EltTy.packing .bf16) := fun k0_t1 v1283 k0_hw43 k0_h22 => k0_hw43.2 k0_h22 (k0_off129_inb k0_t1 v1283 k0_hw43 k0_h22)

def k0_off130 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let v727 : Index := Scalar.indexCast v723
  ![v727.toNat]
def k0_off131 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_448 : BitVec 32 := 64#32
  let v722 : BitVec 32 := Scalar.muli arg4 c64_i32_448
  let c21_i32_449 : BitVec 32 := 21#32
  let v723 : BitVec 32 := Scalar.addi v722 c21_i32_449
  let c0_i32_453 : BitVec 32 := 0#32
  let c0_i32_454 : BitVec 32 := 0#32
  ![v723.toNat, 0, 0]
def k0_off132 (v728 : BitVec 32) : Fin 3 → Nat :=
  let c0_i32_455 : BitVec 32 := 0#32
  let c0_i32_456 : BitVec 32 := 0#32
  ![v728.toNat, 0, 0]

def k0_chk44 (v728 : BitVec 32) : Prop :=
  (∀ a, (k0_off132 v728) a + S1x8x128.size a ≤ S13312x8x128.size a) ∧
  (∀ (hinb : ∀ a, (k0_off132 v728) a + S1x8x128.size a ≤ S13312x8x128.size a), (Rect.unit (s := S13312x8x128) (k0_off132 v728) S1x8x128.size hinb).WholeWords (EltTy.packing .bf16))
theorem k0_off132_inb : ∀ (v728 : BitVec 32) (k0_hw44 : k0_chk44 v728), ∀ a, (k0_off132 v728) a + S1x8x128.size a ≤ S13312x8x128.size a := fun v728 k0_hw44 => k0_hw44.1
theorem k0_off132_wordsbf16 : ∀ (v728 : BitVec 32) (k0_hw44 : k0_chk44 v728), (Rect.unit (s := S13312x8x128) (k0_off132 v728) S1x8x128.size (k0_off132_inb v728 k0_hw44)).WholeWords (EltTy.packing .bf16) := fun v728 k0_hw44 => k0_hw44.2 (k0_off132_inb v728 k0_hw44)

def k0_cond23 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_459 : BitVec 32 := 0#32
  let v737 : BitVec 1 := Scalar.cmpi .sgt arg4 c0_i32_459
  let v738 : BitVec 32 := Scalar.extui v737
  let c0_i32_460 : BitVec 32 := 0#32
  let v739 : BitVec 1 := Scalar.cmpi .ne v738 c0_i32_460
  v739

def k0_off133 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let v1282 : Index := Scalar.indexCast v1281
  ![v1282.toNat]
def k0_off134 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c64_i32_835 : BitVec 32 := 64#32
  let v1281 : BitVec 32 := Scalar.subi v736 c64_i32_835
  let c0_i32_837 : BitVec 32 := 0#32
  let c0_i32_838 : BitVec 32 := 0#32
  ![v1281.toNat, 0, 0]
def k0_off135 (v1283 : BitVec 32) : Fin 3 → Nat :=
  let c0_i32_839 : BitVec 32 := 0#32
  let c0_i32_840 : BitVec 32 := 0#32
  ![v1283.toNat, 0, 0]

def k0_chk45 (k0_t1 : Fin k0_t1_loop.trips) (v1283 : BitVec 32) : Prop :=
  (∀ (k0_h23 : k0_cond23 k0_t1 = 1#1), ∀ a, (k0_off135 v1283) a + S1x8x128.size a ≤ S13312x8x128.size a) ∧
  (∀ (k0_h23 : k0_cond23 k0_t1 = 1#1), ∀ (hinb : ∀ a, (k0_off135 v1283) a + S1x8x128.size a ≤ S13312x8x128.size a), (Rect.unit (s := S13312x8x128) (k0_off135 v1283) S1x8x128.size hinb).WholeWords (EltTy.packing .bf16))
theorem k0_off135_inb : ∀ (k0_t1 : Fin k0_t1_loop.trips) (v1283 : BitVec 32) (k0_hw45 : k0_chk45 k0_t1 v1283), ∀ (k0_h23 : k0_cond23 k0_t1 = 1#1), ∀ a, (k0_off135 v1283) a + S1x8x128.size a ≤ S13312x8x128.size a := fun k0_t1 v1283 k0_hw45 k0_h23 => k0_hw45.1 k0_h23
theorem k0_off135_wordsbf16 : ∀ (k0_t1 : Fin k0_t1_loop.trips) (v1283 : BitVec 32) (k0_hw45 : k0_chk45 k0_t1 v1283), ∀ (k0_h23 : k0_cond23 k0_t1 = 1#1), (Rect.unit (s := S13312x8x128) (k0_off135 v1283) S1x8x128.size (k0_off135_inb k0_t1 v1283 k0_hw45 k0_h23)).WholeWords (EltTy.packing .bf16) := fun k0_t1 v1283 k0_hw45 k0_h23 => k0_hw45.2 k0_h23 (k0_off135_inb k0_t1 v1283 k0_hw45 k0_h23)

def k0_off136 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let v740 : Index := Scalar.indexCast v736
  ![v740.toNat]
def k0_off137 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_457 : BitVec 32 := 64#32
  let v735 : BitVec 32 := Scalar.muli arg4 c64_i32_457
  let c22_i32_458 : BitVec 32 := 22#32
  let v736 : BitVec 32 := Scalar.addi v735 c22_i32_458
  let c0_i32_462 : BitVec 32 := 0#32
  let c0_i32_463 : BitVec 32 := 0#32
  ![v736.toNat, 0, 0]
def k0_off138 (v741 : BitVec 32) : Fin 3 → Nat :=
  let c0_i32_464 : BitVec 32 := 0#32
  let c0_i32_465 : BitVec 32 := 0#32
  ![v741.toNat, 0, 0]

def k0_chk46 (v741 : BitVec 32) : Prop :=
  (∀ a, (k0_off138 v741) a + S1x8x128.size a ≤ S13312x8x128.size a) ∧
  (∀ (hinb : ∀ a, (k0_off138 v741) a + S1x8x128.size a ≤ S13312x8x128.size a), (Rect.unit (s := S13312x8x128) (k0_off138 v741) S1x8x128.size hinb).WholeWords (EltTy.packing .bf16))
theorem k0_off138_inb : ∀ (v741 : BitVec 32) (k0_hw46 : k0_chk46 v741), ∀ a, (k0_off138 v741) a + S1x8x128.size a ≤ S13312x8x128.size a := fun v741 k0_hw46 => k0_hw46.1
theorem k0_off138_wordsbf16 : ∀ (v741 : BitVec 32) (k0_hw46 : k0_chk46 v741), (Rect.unit (s := S13312x8x128) (k0_off138 v741) S1x8x128.size (k0_off138_inb v741 k0_hw46)).WholeWords (EltTy.packing .bf16) := fun v741 k0_hw46 => k0_hw46.2 (k0_off138_inb v741 k0_hw46)

def k0_cond24 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_468 : BitVec 32 := 0#32
  let v750 : BitVec 1 := Scalar.cmpi .sgt arg4 c0_i32_468
  let v751 : BitVec 32 := Scalar.extui v750
  let c0_i32_469 : BitVec 32 := 0#32
  let v752 : BitVec 1 := Scalar.cmpi .ne v751 c0_i32_469
  v752

def k0_off139 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let v1282 : Index := Scalar.indexCast v1281
  ![v1282.toNat]
def k0_off140 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c64_i32_835 : BitVec 32 := 64#32
  let v1281 : BitVec 32 := Scalar.subi v749 c64_i32_835
  let c0_i32_837 : BitVec 32 := 0#32
  let c0_i32_838 : BitVec 32 := 0#32
  ![v1281.toNat, 0, 0]
def k0_off141 (v1283 : BitVec 32) : Fin 3 → Nat :=
  let c0_i32_839 : BitVec 32 := 0#32
  let c0_i32_840 : BitVec 32 := 0#32
  ![v1283.toNat, 0, 0]

def k0_chk47 (k0_t1 : Fin k0_t1_loop.trips) (v1283 : BitVec 32) : Prop :=
  (∀ (k0_h24 : k0_cond24 k0_t1 = 1#1), ∀ a, (k0_off141 v1283) a + S1x8x128.size a ≤ S13312x8x128.size a) ∧
  (∀ (k0_h24 : k0_cond24 k0_t1 = 1#1), ∀ (hinb : ∀ a, (k0_off141 v1283) a + S1x8x128.size a ≤ S13312x8x128.size a), (Rect.unit (s := S13312x8x128) (k0_off141 v1283) S1x8x128.size hinb).WholeWords (EltTy.packing .bf16))
theorem k0_off141_inb : ∀ (k0_t1 : Fin k0_t1_loop.trips) (v1283 : BitVec 32) (k0_hw47 : k0_chk47 k0_t1 v1283), ∀ (k0_h24 : k0_cond24 k0_t1 = 1#1), ∀ a, (k0_off141 v1283) a + S1x8x128.size a ≤ S13312x8x128.size a := fun k0_t1 v1283 k0_hw47 k0_h24 => k0_hw47.1 k0_h24
theorem k0_off141_wordsbf16 : ∀ (k0_t1 : Fin k0_t1_loop.trips) (v1283 : BitVec 32) (k0_hw47 : k0_chk47 k0_t1 v1283), ∀ (k0_h24 : k0_cond24 k0_t1 = 1#1), (Rect.unit (s := S13312x8x128) (k0_off141 v1283) S1x8x128.size (k0_off141_inb k0_t1 v1283 k0_hw47 k0_h24)).WholeWords (EltTy.packing .bf16) := fun k0_t1 v1283 k0_hw47 k0_h24 => k0_hw47.2 k0_h24 (k0_off141_inb k0_t1 v1283 k0_hw47 k0_h24)

def k0_off142 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let v753 : Index := Scalar.indexCast v749
  ![v753.toNat]
def k0_off143 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_466 : BitVec 32 := 64#32
  let v748 : BitVec 32 := Scalar.muli arg4 c64_i32_466
  let c23_i32_467 : BitVec 32 := 23#32
  let v749 : BitVec 32 := Scalar.addi v748 c23_i32_467
  let c0_i32_471 : BitVec 32 := 0#32
  let c0_i32_472 : BitVec 32 := 0#32
  ![v749.toNat, 0, 0]
def k0_off144 (v754 : BitVec 32) : Fin 3 → Nat :=
  let c0_i32_473 : BitVec 32 := 0#32
  let c0_i32_474 : BitVec 32 := 0#32
  ![v754.toNat, 0, 0]

def k0_chk48 (v754 : BitVec 32) : Prop :=
  (∀ a, (k0_off144 v754) a + S1x8x128.size a ≤ S13312x8x128.size a) ∧
  (∀ (hinb : ∀ a, (k0_off144 v754) a + S1x8x128.size a ≤ S13312x8x128.size a), (Rect.unit (s := S13312x8x128) (k0_off144 v754) S1x8x128.size hinb).WholeWords (EltTy.packing .bf16))
theorem k0_off144_inb : ∀ (v754 : BitVec 32) (k0_hw48 : k0_chk48 v754), ∀ a, (k0_off144 v754) a + S1x8x128.size a ≤ S13312x8x128.size a := fun v754 k0_hw48 => k0_hw48.1
theorem k0_off144_wordsbf16 : ∀ (v754 : BitVec 32) (k0_hw48 : k0_chk48 v754), (Rect.unit (s := S13312x8x128) (k0_off144 v754) S1x8x128.size (k0_off144_inb v754 k0_hw48)).WholeWords (EltTy.packing .bf16) := fun v754 k0_hw48 => k0_hw48.2 (k0_off144_inb v754 k0_hw48)

def k0_cond25 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_477 : BitVec 32 := 0#32
  let v763 : BitVec 1 := Scalar.cmpi .sgt arg4 c0_i32_477
  let v764 : BitVec 32 := Scalar.extui v763
  let c0_i32_478 : BitVec 32 := 0#32
  let v765 : BitVec 1 := Scalar.cmpi .ne v764 c0_i32_478
  v765

def k0_off145 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let v1282 : Index := Scalar.indexCast v1281
  ![v1282.toNat]
def k0_off146 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c64_i32_835 : BitVec 32 := 64#32
  let v1281 : BitVec 32 := Scalar.subi v762 c64_i32_835
  let c0_i32_837 : BitVec 32 := 0#32
  let c0_i32_838 : BitVec 32 := 0#32
  ![v1281.toNat, 0, 0]
def k0_off147 (v1283 : BitVec 32) : Fin 3 → Nat :=
  let c0_i32_839 : BitVec 32 := 0#32
  let c0_i32_840 : BitVec 32 := 0#32
  ![v1283.toNat, 0, 0]

def k0_chk49 (k0_t1 : Fin k0_t1_loop.trips) (v1283 : BitVec 32) : Prop :=
  (∀ (k0_h25 : k0_cond25 k0_t1 = 1#1), ∀ a, (k0_off147 v1283) a + S1x8x128.size a ≤ S13312x8x128.size a) ∧
  (∀ (k0_h25 : k0_cond25 k0_t1 = 1#1), ∀ (hinb : ∀ a, (k0_off147 v1283) a + S1x8x128.size a ≤ S13312x8x128.size a), (Rect.unit (s := S13312x8x128) (k0_off147 v1283) S1x8x128.size hinb).WholeWords (EltTy.packing .bf16))
theorem k0_off147_inb : ∀ (k0_t1 : Fin k0_t1_loop.trips) (v1283 : BitVec 32) (k0_hw49 : k0_chk49 k0_t1 v1283), ∀ (k0_h25 : k0_cond25 k0_t1 = 1#1), ∀ a, (k0_off147 v1283) a + S1x8x128.size a ≤ S13312x8x128.size a := fun k0_t1 v1283 k0_hw49 k0_h25 => k0_hw49.1 k0_h25
theorem k0_off147_wordsbf16 : ∀ (k0_t1 : Fin k0_t1_loop.trips) (v1283 : BitVec 32) (k0_hw49 : k0_chk49 k0_t1 v1283), ∀ (k0_h25 : k0_cond25 k0_t1 = 1#1), (Rect.unit (s := S13312x8x128) (k0_off147 v1283) S1x8x128.size (k0_off147_inb k0_t1 v1283 k0_hw49 k0_h25)).WholeWords (EltTy.packing .bf16) := fun k0_t1 v1283 k0_hw49 k0_h25 => k0_hw49.2 k0_h25 (k0_off147_inb k0_t1 v1283 k0_hw49 k0_h25)

def k0_off148 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let v766 : Index := Scalar.indexCast v762
  ![v766.toNat]
def k0_off149 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_475 : BitVec 32 := 64#32
  let v761 : BitVec 32 := Scalar.muli arg4 c64_i32_475
  let c24_i32_476 : BitVec 32 := 24#32
  let v762 : BitVec 32 := Scalar.addi v761 c24_i32_476
  let c0_i32_480 : BitVec 32 := 0#32
  let c0_i32_481 : BitVec 32 := 0#32
  ![v762.toNat, 0, 0]
def k0_off150 (v767 : BitVec 32) : Fin 3 → Nat :=
  let c0_i32_482 : BitVec 32 := 0#32
  let c0_i32_483 : BitVec 32 := 0#32
  ![v767.toNat, 0, 0]

def k0_chk50 (v767 : BitVec 32) : Prop :=
  (∀ a, (k0_off150 v767) a + S1x8x128.size a ≤ S13312x8x128.size a) ∧
  (∀ (hinb : ∀ a, (k0_off150 v767) a + S1x8x128.size a ≤ S13312x8x128.size a), (Rect.unit (s := S13312x8x128) (k0_off150 v767) S1x8x128.size hinb).WholeWords (EltTy.packing .bf16))
theorem k0_off150_inb : ∀ (v767 : BitVec 32) (k0_hw50 : k0_chk50 v767), ∀ a, (k0_off150 v767) a + S1x8x128.size a ≤ S13312x8x128.size a := fun v767 k0_hw50 => k0_hw50.1
theorem k0_off150_wordsbf16 : ∀ (v767 : BitVec 32) (k0_hw50 : k0_chk50 v767), (Rect.unit (s := S13312x8x128) (k0_off150 v767) S1x8x128.size (k0_off150_inb v767 k0_hw50)).WholeWords (EltTy.packing .bf16) := fun v767 k0_hw50 => k0_hw50.2 (k0_off150_inb v767 k0_hw50)

def k0_cond26 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_486 : BitVec 32 := 0#32
  let v776 : BitVec 1 := Scalar.cmpi .sgt arg4 c0_i32_486
  let v777 : BitVec 32 := Scalar.extui v776
  let c0_i32_487 : BitVec 32 := 0#32
  let v778 : BitVec 1 := Scalar.cmpi .ne v777 c0_i32_487
  v778

def k0_off151 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let v1282 : Index := Scalar.indexCast v1281
  ![v1282.toNat]
def k0_off152 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c64_i32_835 : BitVec 32 := 64#32
  let v1281 : BitVec 32 := Scalar.subi v775 c64_i32_835
  let c0_i32_837 : BitVec 32 := 0#32
  let c0_i32_838 : BitVec 32 := 0#32
  ![v1281.toNat, 0, 0]
def k0_off153 (v1283 : BitVec 32) : Fin 3 → Nat :=
  let c0_i32_839 : BitVec 32 := 0#32
  let c0_i32_840 : BitVec 32 := 0#32
  ![v1283.toNat, 0, 0]

def k0_chk51 (k0_t1 : Fin k0_t1_loop.trips) (v1283 : BitVec 32) : Prop :=
  (∀ (k0_h26 : k0_cond26 k0_t1 = 1#1), ∀ a, (k0_off153 v1283) a + S1x8x128.size a ≤ S13312x8x128.size a) ∧
  (∀ (k0_h26 : k0_cond26 k0_t1 = 1#1), ∀ (hinb : ∀ a, (k0_off153 v1283) a + S1x8x128.size a ≤ S13312x8x128.size a), (Rect.unit (s := S13312x8x128) (k0_off153 v1283) S1x8x128.size hinb).WholeWords (EltTy.packing .bf16))
theorem k0_off153_inb : ∀ (k0_t1 : Fin k0_t1_loop.trips) (v1283 : BitVec 32) (k0_hw51 : k0_chk51 k0_t1 v1283), ∀ (k0_h26 : k0_cond26 k0_t1 = 1#1), ∀ a, (k0_off153 v1283) a + S1x8x128.size a ≤ S13312x8x128.size a := fun k0_t1 v1283 k0_hw51 k0_h26 => k0_hw51.1 k0_h26
theorem k0_off153_wordsbf16 : ∀ (k0_t1 : Fin k0_t1_loop.trips) (v1283 : BitVec 32) (k0_hw51 : k0_chk51 k0_t1 v1283), ∀ (k0_h26 : k0_cond26 k0_t1 = 1#1), (Rect.unit (s := S13312x8x128) (k0_off153 v1283) S1x8x128.size (k0_off153_inb k0_t1 v1283 k0_hw51 k0_h26)).WholeWords (EltTy.packing .bf16) := fun k0_t1 v1283 k0_hw51 k0_h26 => k0_hw51.2 k0_h26 (k0_off153_inb k0_t1 v1283 k0_hw51 k0_h26)

def k0_off154 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let v779 : Index := Scalar.indexCast v775
  ![v779.toNat]
def k0_off155 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_484 : BitVec 32 := 64#32
  let v774 : BitVec 32 := Scalar.muli arg4 c64_i32_484
  let c25_i32_485 : BitVec 32 := 25#32
  let v775 : BitVec 32 := Scalar.addi v774 c25_i32_485
  let c0_i32_489 : BitVec 32 := 0#32
  let c0_i32_490 : BitVec 32 := 0#32
  ![v775.toNat, 0, 0]
def k0_off156 (v780 : BitVec 32) : Fin 3 → Nat :=
  let c0_i32_491 : BitVec 32 := 0#32
  let c0_i32_492 : BitVec 32 := 0#32
  ![v780.toNat, 0, 0]

def k0_chk52 (v780 : BitVec 32) : Prop :=
  (∀ a, (k0_off156 v780) a + S1x8x128.size a ≤ S13312x8x128.size a) ∧
  (∀ (hinb : ∀ a, (k0_off156 v780) a + S1x8x128.size a ≤ S13312x8x128.size a), (Rect.unit (s := S13312x8x128) (k0_off156 v780) S1x8x128.size hinb).WholeWords (EltTy.packing .bf16))
theorem k0_off156_inb : ∀ (v780 : BitVec 32) (k0_hw52 : k0_chk52 v780), ∀ a, (k0_off156 v780) a + S1x8x128.size a ≤ S13312x8x128.size a := fun v780 k0_hw52 => k0_hw52.1
theorem k0_off156_wordsbf16 : ∀ (v780 : BitVec 32) (k0_hw52 : k0_chk52 v780), (Rect.unit (s := S13312x8x128) (k0_off156 v780) S1x8x128.size (k0_off156_inb v780 k0_hw52)).WholeWords (EltTy.packing .bf16) := fun v780 k0_hw52 => k0_hw52.2 (k0_off156_inb v780 k0_hw52)

def k0_cond27 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_495 : BitVec 32 := 0#32
  let v789 : BitVec 1 := Scalar.cmpi .sgt arg4 c0_i32_495
  let v790 : BitVec 32 := Scalar.extui v789
  let c0_i32_496 : BitVec 32 := 0#32
  let v791 : BitVec 1 := Scalar.cmpi .ne v790 c0_i32_496
  v791

def k0_off157 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let v1282 : Index := Scalar.indexCast v1281
  ![v1282.toNat]
def k0_off158 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c64_i32_835 : BitVec 32 := 64#32
  let v1281 : BitVec 32 := Scalar.subi v788 c64_i32_835
  let c0_i32_837 : BitVec 32 := 0#32
  let c0_i32_838 : BitVec 32 := 0#32
  ![v1281.toNat, 0, 0]
def k0_off159 (v1283 : BitVec 32) : Fin 3 → Nat :=
  let c0_i32_839 : BitVec 32 := 0#32
  let c0_i32_840 : BitVec 32 := 0#32
  ![v1283.toNat, 0, 0]

def k0_chk53 (k0_t1 : Fin k0_t1_loop.trips) (v1283 : BitVec 32) : Prop :=
  (∀ (k0_h27 : k0_cond27 k0_t1 = 1#1), ∀ a, (k0_off159 v1283) a + S1x8x128.size a ≤ S13312x8x128.size a) ∧
  (∀ (k0_h27 : k0_cond27 k0_t1 = 1#1), ∀ (hinb : ∀ a, (k0_off159 v1283) a + S1x8x128.size a ≤ S13312x8x128.size a), (Rect.unit (s := S13312x8x128) (k0_off159 v1283) S1x8x128.size hinb).WholeWords (EltTy.packing .bf16))
theorem k0_off159_inb : ∀ (k0_t1 : Fin k0_t1_loop.trips) (v1283 : BitVec 32) (k0_hw53 : k0_chk53 k0_t1 v1283), ∀ (k0_h27 : k0_cond27 k0_t1 = 1#1), ∀ a, (k0_off159 v1283) a + S1x8x128.size a ≤ S13312x8x128.size a := fun k0_t1 v1283 k0_hw53 k0_h27 => k0_hw53.1 k0_h27
theorem k0_off159_wordsbf16 : ∀ (k0_t1 : Fin k0_t1_loop.trips) (v1283 : BitVec 32) (k0_hw53 : k0_chk53 k0_t1 v1283), ∀ (k0_h27 : k0_cond27 k0_t1 = 1#1), (Rect.unit (s := S13312x8x128) (k0_off159 v1283) S1x8x128.size (k0_off159_inb k0_t1 v1283 k0_hw53 k0_h27)).WholeWords (EltTy.packing .bf16) := fun k0_t1 v1283 k0_hw53 k0_h27 => k0_hw53.2 k0_h27 (k0_off159_inb k0_t1 v1283 k0_hw53 k0_h27)

def k0_off160 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let v792 : Index := Scalar.indexCast v788
  ![v792.toNat]
def k0_off161 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_493 : BitVec 32 := 64#32
  let v787 : BitVec 32 := Scalar.muli arg4 c64_i32_493
  let c26_i32_494 : BitVec 32 := 26#32
  let v788 : BitVec 32 := Scalar.addi v787 c26_i32_494
  let c0_i32_498 : BitVec 32 := 0#32
  let c0_i32_499 : BitVec 32 := 0#32
  ![v788.toNat, 0, 0]
def k0_off162 (v793 : BitVec 32) : Fin 3 → Nat :=
  let c0_i32_500 : BitVec 32 := 0#32
  let c0_i32_501 : BitVec 32 := 0#32
  ![v793.toNat, 0, 0]

def k0_chk54 (v793 : BitVec 32) : Prop :=
  (∀ a, (k0_off162 v793) a + S1x8x128.size a ≤ S13312x8x128.size a) ∧
  (∀ (hinb : ∀ a, (k0_off162 v793) a + S1x8x128.size a ≤ S13312x8x128.size a), (Rect.unit (s := S13312x8x128) (k0_off162 v793) S1x8x128.size hinb).WholeWords (EltTy.packing .bf16))
theorem k0_off162_inb : ∀ (v793 : BitVec 32) (k0_hw54 : k0_chk54 v793), ∀ a, (k0_off162 v793) a + S1x8x128.size a ≤ S13312x8x128.size a := fun v793 k0_hw54 => k0_hw54.1
theorem k0_off162_wordsbf16 : ∀ (v793 : BitVec 32) (k0_hw54 : k0_chk54 v793), (Rect.unit (s := S13312x8x128) (k0_off162 v793) S1x8x128.size (k0_off162_inb v793 k0_hw54)).WholeWords (EltTy.packing .bf16) := fun v793 k0_hw54 => k0_hw54.2 (k0_off162_inb v793 k0_hw54)

def k0_cond28 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_504 : BitVec 32 := 0#32
  let v802 : BitVec 1 := Scalar.cmpi .sgt arg4 c0_i32_504
  let v803 : BitVec 32 := Scalar.extui v802
  let c0_i32_505 : BitVec 32 := 0#32
  let v804 : BitVec 1 := Scalar.cmpi .ne v803 c0_i32_505
  v804

def k0_off163 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let v1282 : Index := Scalar.indexCast v1281
  ![v1282.toNat]
def k0_off164 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c64_i32_835 : BitVec 32 := 64#32
  let v1281 : BitVec 32 := Scalar.subi v801 c64_i32_835
  let c0_i32_837 : BitVec 32 := 0#32
  let c0_i32_838 : BitVec 32 := 0#32
  ![v1281.toNat, 0, 0]
def k0_off165 (v1283 : BitVec 32) : Fin 3 → Nat :=
  let c0_i32_839 : BitVec 32 := 0#32
  let c0_i32_840 : BitVec 32 := 0#32
  ![v1283.toNat, 0, 0]

def k0_chk55 (k0_t1 : Fin k0_t1_loop.trips) (v1283 : BitVec 32) : Prop :=
  (∀ (k0_h28 : k0_cond28 k0_t1 = 1#1), ∀ a, (k0_off165 v1283) a + S1x8x128.size a ≤ S13312x8x128.size a) ∧
  (∀ (k0_h28 : k0_cond28 k0_t1 = 1#1), ∀ (hinb : ∀ a, (k0_off165 v1283) a + S1x8x128.size a ≤ S13312x8x128.size a), (Rect.unit (s := S13312x8x128) (k0_off165 v1283) S1x8x128.size hinb).WholeWords (EltTy.packing .bf16))
theorem k0_off165_inb : ∀ (k0_t1 : Fin k0_t1_loop.trips) (v1283 : BitVec 32) (k0_hw55 : k0_chk55 k0_t1 v1283), ∀ (k0_h28 : k0_cond28 k0_t1 = 1#1), ∀ a, (k0_off165 v1283) a + S1x8x128.size a ≤ S13312x8x128.size a := fun k0_t1 v1283 k0_hw55 k0_h28 => k0_hw55.1 k0_h28
theorem k0_off165_wordsbf16 : ∀ (k0_t1 : Fin k0_t1_loop.trips) (v1283 : BitVec 32) (k0_hw55 : k0_chk55 k0_t1 v1283), ∀ (k0_h28 : k0_cond28 k0_t1 = 1#1), (Rect.unit (s := S13312x8x128) (k0_off165 v1283) S1x8x128.size (k0_off165_inb k0_t1 v1283 k0_hw55 k0_h28)).WholeWords (EltTy.packing .bf16) := fun k0_t1 v1283 k0_hw55 k0_h28 => k0_hw55.2 k0_h28 (k0_off165_inb k0_t1 v1283 k0_hw55 k0_h28)

def k0_off166 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let v805 : Index := Scalar.indexCast v801
  ![v805.toNat]
def k0_off167 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_502 : BitVec 32 := 64#32
  let v800 : BitVec 32 := Scalar.muli arg4 c64_i32_502
  let c27_i32_503 : BitVec 32 := 27#32
  let v801 : BitVec 32 := Scalar.addi v800 c27_i32_503
  let c0_i32_507 : BitVec 32 := 0#32
  let c0_i32_508 : BitVec 32 := 0#32
  ![v801.toNat, 0, 0]
def k0_off168 (v806 : BitVec 32) : Fin 3 → Nat :=
  let c0_i32_509 : BitVec 32 := 0#32
  let c0_i32_510 : BitVec 32 := 0#32
  ![v806.toNat, 0, 0]

def k0_chk56 (v806 : BitVec 32) : Prop :=
  (∀ a, (k0_off168 v806) a + S1x8x128.size a ≤ S13312x8x128.size a) ∧
  (∀ (hinb : ∀ a, (k0_off168 v806) a + S1x8x128.size a ≤ S13312x8x128.size a), (Rect.unit (s := S13312x8x128) (k0_off168 v806) S1x8x128.size hinb).WholeWords (EltTy.packing .bf16))
theorem k0_off168_inb : ∀ (v806 : BitVec 32) (k0_hw56 : k0_chk56 v806), ∀ a, (k0_off168 v806) a + S1x8x128.size a ≤ S13312x8x128.size a := fun v806 k0_hw56 => k0_hw56.1
theorem k0_off168_wordsbf16 : ∀ (v806 : BitVec 32) (k0_hw56 : k0_chk56 v806), (Rect.unit (s := S13312x8x128) (k0_off168 v806) S1x8x128.size (k0_off168_inb v806 k0_hw56)).WholeWords (EltTy.packing .bf16) := fun v806 k0_hw56 => k0_hw56.2 (k0_off168_inb v806 k0_hw56)

def k0_cond29 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_513 : BitVec 32 := 0#32
  let v815 : BitVec 1 := Scalar.cmpi .sgt arg4 c0_i32_513
  let v816 : BitVec 32 := Scalar.extui v815
  let c0_i32_514 : BitVec 32 := 0#32
  let v817 : BitVec 1 := Scalar.cmpi .ne v816 c0_i32_514
  v817

def k0_off169 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let v1282 : Index := Scalar.indexCast v1281
  ![v1282.toNat]
def k0_off170 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c64_i32_835 : BitVec 32 := 64#32
  let v1281 : BitVec 32 := Scalar.subi v814 c64_i32_835
  let c0_i32_837 : BitVec 32 := 0#32
  let c0_i32_838 : BitVec 32 := 0#32
  ![v1281.toNat, 0, 0]
def k0_off171 (v1283 : BitVec 32) : Fin 3 → Nat :=
  let c0_i32_839 : BitVec 32 := 0#32
  let c0_i32_840 : BitVec 32 := 0#32
  ![v1283.toNat, 0, 0]

def k0_chk57 (k0_t1 : Fin k0_t1_loop.trips) (v1283 : BitVec 32) : Prop :=
  (∀ (k0_h29 : k0_cond29 k0_t1 = 1#1), ∀ a, (k0_off171 v1283) a + S1x8x128.size a ≤ S13312x8x128.size a) ∧
  (∀ (k0_h29 : k0_cond29 k0_t1 = 1#1), ∀ (hinb : ∀ a, (k0_off171 v1283) a + S1x8x128.size a ≤ S13312x8x128.size a), (Rect.unit (s := S13312x8x128) (k0_off171 v1283) S1x8x128.size hinb).WholeWords (EltTy.packing .bf16))
theorem k0_off171_inb : ∀ (k0_t1 : Fin k0_t1_loop.trips) (v1283 : BitVec 32) (k0_hw57 : k0_chk57 k0_t1 v1283), ∀ (k0_h29 : k0_cond29 k0_t1 = 1#1), ∀ a, (k0_off171 v1283) a + S1x8x128.size a ≤ S13312x8x128.size a := fun k0_t1 v1283 k0_hw57 k0_h29 => k0_hw57.1 k0_h29
theorem k0_off171_wordsbf16 : ∀ (k0_t1 : Fin k0_t1_loop.trips) (v1283 : BitVec 32) (k0_hw57 : k0_chk57 k0_t1 v1283), ∀ (k0_h29 : k0_cond29 k0_t1 = 1#1), (Rect.unit (s := S13312x8x128) (k0_off171 v1283) S1x8x128.size (k0_off171_inb k0_t1 v1283 k0_hw57 k0_h29)).WholeWords (EltTy.packing .bf16) := fun k0_t1 v1283 k0_hw57 k0_h29 => k0_hw57.2 k0_h29 (k0_off171_inb k0_t1 v1283 k0_hw57 k0_h29)

def k0_off172 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let v818 : Index := Scalar.indexCast v814
  ![v818.toNat]
def k0_off173 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_511 : BitVec 32 := 64#32
  let v813 : BitVec 32 := Scalar.muli arg4 c64_i32_511
  let c28_i32_512 : BitVec 32 := 28#32
  let v814 : BitVec 32 := Scalar.addi v813 c28_i32_512
  let c0_i32_516 : BitVec 32 := 0#32
  let c0_i32_517 : BitVec 32 := 0#32
  ![v814.toNat, 0, 0]
def k0_off174 (v819 : BitVec 32) : Fin 3 → Nat :=
  let c0_i32_518 : BitVec 32 := 0#32
  let c0_i32_519 : BitVec 32 := 0#32
  ![v819.toNat, 0, 0]

def k0_chk58 (v819 : BitVec 32) : Prop :=
  (∀ a, (k0_off174 v819) a + S1x8x128.size a ≤ S13312x8x128.size a) ∧
  (∀ (hinb : ∀ a, (k0_off174 v819) a + S1x8x128.size a ≤ S13312x8x128.size a), (Rect.unit (s := S13312x8x128) (k0_off174 v819) S1x8x128.size hinb).WholeWords (EltTy.packing .bf16))
theorem k0_off174_inb : ∀ (v819 : BitVec 32) (k0_hw58 : k0_chk58 v819), ∀ a, (k0_off174 v819) a + S1x8x128.size a ≤ S13312x8x128.size a := fun v819 k0_hw58 => k0_hw58.1
theorem k0_off174_wordsbf16 : ∀ (v819 : BitVec 32) (k0_hw58 : k0_chk58 v819), (Rect.unit (s := S13312x8x128) (k0_off174 v819) S1x8x128.size (k0_off174_inb v819 k0_hw58)).WholeWords (EltTy.packing .bf16) := fun v819 k0_hw58 => k0_hw58.2 (k0_off174_inb v819 k0_hw58)

def k0_cond30 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_522 : BitVec 32 := 0#32
  let v828 : BitVec 1 := Scalar.cmpi .sgt arg4 c0_i32_522
  let v829 : BitVec 32 := Scalar.extui v828
  let c0_i32_523 : BitVec 32 := 0#32
  let v830 : BitVec 1 := Scalar.cmpi .ne v829 c0_i32_523
  v830

def k0_off175 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let v1282 : Index := Scalar.indexCast v1281
  ![v1282.toNat]
def k0_off176 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c64_i32_835 : BitVec 32 := 64#32
  let v1281 : BitVec 32 := Scalar.subi v827 c64_i32_835
  let c0_i32_837 : BitVec 32 := 0#32
  let c0_i32_838 : BitVec 32 := 0#32
  ![v1281.toNat, 0, 0]
def k0_off177 (v1283 : BitVec 32) : Fin 3 → Nat :=
  let c0_i32_839 : BitVec 32 := 0#32
  let c0_i32_840 : BitVec 32 := 0#32
  ![v1283.toNat, 0, 0]

def k0_chk59 (k0_t1 : Fin k0_t1_loop.trips) (v1283 : BitVec 32) : Prop :=
  (∀ (k0_h30 : k0_cond30 k0_t1 = 1#1), ∀ a, (k0_off177 v1283) a + S1x8x128.size a ≤ S13312x8x128.size a) ∧
  (∀ (k0_h30 : k0_cond30 k0_t1 = 1#1), ∀ (hinb : ∀ a, (k0_off177 v1283) a + S1x8x128.size a ≤ S13312x8x128.size a), (Rect.unit (s := S13312x8x128) (k0_off177 v1283) S1x8x128.size hinb).WholeWords (EltTy.packing .bf16))
theorem k0_off177_inb : ∀ (k0_t1 : Fin k0_t1_loop.trips) (v1283 : BitVec 32) (k0_hw59 : k0_chk59 k0_t1 v1283), ∀ (k0_h30 : k0_cond30 k0_t1 = 1#1), ∀ a, (k0_off177 v1283) a + S1x8x128.size a ≤ S13312x8x128.size a := fun k0_t1 v1283 k0_hw59 k0_h30 => k0_hw59.1 k0_h30
theorem k0_off177_wordsbf16 : ∀ (k0_t1 : Fin k0_t1_loop.trips) (v1283 : BitVec 32) (k0_hw59 : k0_chk59 k0_t1 v1283), ∀ (k0_h30 : k0_cond30 k0_t1 = 1#1), (Rect.unit (s := S13312x8x128) (k0_off177 v1283) S1x8x128.size (k0_off177_inb k0_t1 v1283 k0_hw59 k0_h30)).WholeWords (EltTy.packing .bf16) := fun k0_t1 v1283 k0_hw59 k0_h30 => k0_hw59.2 k0_h30 (k0_off177_inb k0_t1 v1283 k0_hw59 k0_h30)

def k0_off178 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let v831 : Index := Scalar.indexCast v827
  ![v831.toNat]
def k0_off179 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_520 : BitVec 32 := 64#32
  let v826 : BitVec 32 := Scalar.muli arg4 c64_i32_520
  let c29_i32_521 : BitVec 32 := 29#32
  let v827 : BitVec 32 := Scalar.addi v826 c29_i32_521
  let c0_i32_525 : BitVec 32 := 0#32
  let c0_i32_526 : BitVec 32 := 0#32
  ![v827.toNat, 0, 0]
def k0_off180 (v832 : BitVec 32) : Fin 3 → Nat :=
  let c0_i32_527 : BitVec 32 := 0#32
  let c0_i32_528 : BitVec 32 := 0#32
  ![v832.toNat, 0, 0]

def k0_chk60 (v832 : BitVec 32) : Prop :=
  (∀ a, (k0_off180 v832) a + S1x8x128.size a ≤ S13312x8x128.size a) ∧
  (∀ (hinb : ∀ a, (k0_off180 v832) a + S1x8x128.size a ≤ S13312x8x128.size a), (Rect.unit (s := S13312x8x128) (k0_off180 v832) S1x8x128.size hinb).WholeWords (EltTy.packing .bf16))
theorem k0_off180_inb : ∀ (v832 : BitVec 32) (k0_hw60 : k0_chk60 v832), ∀ a, (k0_off180 v832) a + S1x8x128.size a ≤ S13312x8x128.size a := fun v832 k0_hw60 => k0_hw60.1
theorem k0_off180_wordsbf16 : ∀ (v832 : BitVec 32) (k0_hw60 : k0_chk60 v832), (Rect.unit (s := S13312x8x128) (k0_off180 v832) S1x8x128.size (k0_off180_inb v832 k0_hw60)).WholeWords (EltTy.packing .bf16) := fun v832 k0_hw60 => k0_hw60.2 (k0_off180_inb v832 k0_hw60)

def k0_cond31 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_531 : BitVec 32 := 0#32
  let v841 : BitVec 1 := Scalar.cmpi .sgt arg4 c0_i32_531
  let v842 : BitVec 32 := Scalar.extui v841
  let c0_i32_532 : BitVec 32 := 0#32
  let v843 : BitVec 1 := Scalar.cmpi .ne v842 c0_i32_532
  v843

def k0_off181 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let v1282 : Index := Scalar.indexCast v1281
  ![v1282.toNat]
def k0_off182 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c64_i32_835 : BitVec 32 := 64#32
  let v1281 : BitVec 32 := Scalar.subi v840 c64_i32_835
  let c0_i32_837 : BitVec 32 := 0#32
  let c0_i32_838 : BitVec 32 := 0#32
  ![v1281.toNat, 0, 0]
def k0_off183 (v1283 : BitVec 32) : Fin 3 → Nat :=
  let c0_i32_839 : BitVec 32 := 0#32
  let c0_i32_840 : BitVec 32 := 0#32
  ![v1283.toNat, 0, 0]

def k0_chk61 (k0_t1 : Fin k0_t1_loop.trips) (v1283 : BitVec 32) : Prop :=
  (∀ (k0_h31 : k0_cond31 k0_t1 = 1#1), ∀ a, (k0_off183 v1283) a + S1x8x128.size a ≤ S13312x8x128.size a) ∧
  (∀ (k0_h31 : k0_cond31 k0_t1 = 1#1), ∀ (hinb : ∀ a, (k0_off183 v1283) a + S1x8x128.size a ≤ S13312x8x128.size a), (Rect.unit (s := S13312x8x128) (k0_off183 v1283) S1x8x128.size hinb).WholeWords (EltTy.packing .bf16))
theorem k0_off183_inb : ∀ (k0_t1 : Fin k0_t1_loop.trips) (v1283 : BitVec 32) (k0_hw61 : k0_chk61 k0_t1 v1283), ∀ (k0_h31 : k0_cond31 k0_t1 = 1#1), ∀ a, (k0_off183 v1283) a + S1x8x128.size a ≤ S13312x8x128.size a := fun k0_t1 v1283 k0_hw61 k0_h31 => k0_hw61.1 k0_h31
theorem k0_off183_wordsbf16 : ∀ (k0_t1 : Fin k0_t1_loop.trips) (v1283 : BitVec 32) (k0_hw61 : k0_chk61 k0_t1 v1283), ∀ (k0_h31 : k0_cond31 k0_t1 = 1#1), (Rect.unit (s := S13312x8x128) (k0_off183 v1283) S1x8x128.size (k0_off183_inb k0_t1 v1283 k0_hw61 k0_h31)).WholeWords (EltTy.packing .bf16) := fun k0_t1 v1283 k0_hw61 k0_h31 => k0_hw61.2 k0_h31 (k0_off183_inb k0_t1 v1283 k0_hw61 k0_h31)

def k0_off184 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let v844 : Index := Scalar.indexCast v840
  ![v844.toNat]
def k0_off185 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_529 : BitVec 32 := 64#32
  let v839 : BitVec 32 := Scalar.muli arg4 c64_i32_529
  let c30_i32_530 : BitVec 32 := 30#32
  let v840 : BitVec 32 := Scalar.addi v839 c30_i32_530
  let c0_i32_534 : BitVec 32 := 0#32
  let c0_i32_535 : BitVec 32 := 0#32
  ![v840.toNat, 0, 0]
def k0_off186 (v845 : BitVec 32) : Fin 3 → Nat :=
  let c0_i32_536 : BitVec 32 := 0#32
  let c0_i32_537 : BitVec 32 := 0#32
  ![v845.toNat, 0, 0]

def k0_chk62 (v845 : BitVec 32) : Prop :=
  (∀ a, (k0_off186 v845) a + S1x8x128.size a ≤ S13312x8x128.size a) ∧
  (∀ (hinb : ∀ a, (k0_off186 v845) a + S1x8x128.size a ≤ S13312x8x128.size a), (Rect.unit (s := S13312x8x128) (k0_off186 v845) S1x8x128.size hinb).WholeWords (EltTy.packing .bf16))
theorem k0_off186_inb : ∀ (v845 : BitVec 32) (k0_hw62 : k0_chk62 v845), ∀ a, (k0_off186 v845) a + S1x8x128.size a ≤ S13312x8x128.size a := fun v845 k0_hw62 => k0_hw62.1
theorem k0_off186_wordsbf16 : ∀ (v845 : BitVec 32) (k0_hw62 : k0_chk62 v845), (Rect.unit (s := S13312x8x128) (k0_off186 v845) S1x8x128.size (k0_off186_inb v845 k0_hw62)).WholeWords (EltTy.packing .bf16) := fun v845 k0_hw62 => k0_hw62.2 (k0_off186_inb v845 k0_hw62)

def k0_cond32 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_540 : BitVec 32 := 0#32
  let v854 : BitVec 1 := Scalar.cmpi .sgt arg4 c0_i32_540
  let v855 : BitVec 32 := Scalar.extui v854
  let c0_i32_541 : BitVec 32 := 0#32
  let v856 : BitVec 1 := Scalar.cmpi .ne v855 c0_i32_541
  v856

def k0_off187 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let v1282 : Index := Scalar.indexCast v1281
  ![v1282.toNat]
def k0_off188 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c64_i32_835 : BitVec 32 := 64#32
  let v1281 : BitVec 32 := Scalar.subi v853 c64_i32_835
  let c0_i32_837 : BitVec 32 := 0#32
  let c0_i32_838 : BitVec 32 := 0#32
  ![v1281.toNat, 0, 0]
def k0_off189 (v1283 : BitVec 32) : Fin 3 → Nat :=
  let c0_i32_839 : BitVec 32 := 0#32
  let c0_i32_840 : BitVec 32 := 0#32
  ![v1283.toNat, 0, 0]

def k0_chk63 (k0_t1 : Fin k0_t1_loop.trips) (v1283 : BitVec 32) : Prop :=
  (∀ (k0_h32 : k0_cond32 k0_t1 = 1#1), ∀ a, (k0_off189 v1283) a + S1x8x128.size a ≤ S13312x8x128.size a) ∧
  (∀ (k0_h32 : k0_cond32 k0_t1 = 1#1), ∀ (hinb : ∀ a, (k0_off189 v1283) a + S1x8x128.size a ≤ S13312x8x128.size a), (Rect.unit (s := S13312x8x128) (k0_off189 v1283) S1x8x128.size hinb).WholeWords (EltTy.packing .bf16))
theorem k0_off189_inb : ∀ (k0_t1 : Fin k0_t1_loop.trips) (v1283 : BitVec 32) (k0_hw63 : k0_chk63 k0_t1 v1283), ∀ (k0_h32 : k0_cond32 k0_t1 = 1#1), ∀ a, (k0_off189 v1283) a + S1x8x128.size a ≤ S13312x8x128.size a := fun k0_t1 v1283 k0_hw63 k0_h32 => k0_hw63.1 k0_h32
theorem k0_off189_wordsbf16 : ∀ (k0_t1 : Fin k0_t1_loop.trips) (v1283 : BitVec 32) (k0_hw63 : k0_chk63 k0_t1 v1283), ∀ (k0_h32 : k0_cond32 k0_t1 = 1#1), (Rect.unit (s := S13312x8x128) (k0_off189 v1283) S1x8x128.size (k0_off189_inb k0_t1 v1283 k0_hw63 k0_h32)).WholeWords (EltTy.packing .bf16) := fun k0_t1 v1283 k0_hw63 k0_h32 => k0_hw63.2 k0_h32 (k0_off189_inb k0_t1 v1283 k0_hw63 k0_h32)

def k0_off190 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let v857 : Index := Scalar.indexCast v853
  ![v857.toNat]
def k0_off191 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_538 : BitVec 32 := 64#32
  let v852 : BitVec 32 := Scalar.muli arg4 c64_i32_538
  let c31_i32_539 : BitVec 32 := 31#32
  let v853 : BitVec 32 := Scalar.addi v852 c31_i32_539
  let c0_i32_543 : BitVec 32 := 0#32
  let c0_i32_544 : BitVec 32 := 0#32
  ![v853.toNat, 0, 0]
def k0_off192 (v858 : BitVec 32) : Fin 3 → Nat :=
  let c0_i32_545 : BitVec 32 := 0#32
  let c0_i32_546 : BitVec 32 := 0#32
  ![v858.toNat, 0, 0]

def k0_chk64 (v858 : BitVec 32) : Prop :=
  (∀ a, (k0_off192 v858) a + S1x8x128.size a ≤ S13312x8x128.size a) ∧
  (∀ (hinb : ∀ a, (k0_off192 v858) a + S1x8x128.size a ≤ S13312x8x128.size a), (Rect.unit (s := S13312x8x128) (k0_off192 v858) S1x8x128.size hinb).WholeWords (EltTy.packing .bf16))
theorem k0_off192_inb : ∀ (v858 : BitVec 32) (k0_hw64 : k0_chk64 v858), ∀ a, (k0_off192 v858) a + S1x8x128.size a ≤ S13312x8x128.size a := fun v858 k0_hw64 => k0_hw64.1
theorem k0_off192_wordsbf16 : ∀ (v858 : BitVec 32) (k0_hw64 : k0_chk64 v858), (Rect.unit (s := S13312x8x128) (k0_off192 v858) S1x8x128.size (k0_off192_inb v858 k0_hw64)).WholeWords (EltTy.packing .bf16) := fun v858 k0_hw64 => k0_hw64.2 (k0_off192_inb v858 k0_hw64)

def k0_cond33 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_549 : BitVec 32 := 0#32
  let v867 : BitVec 1 := Scalar.cmpi .sgt arg4 c0_i32_549
  let v868 : BitVec 32 := Scalar.extui v867
  let c0_i32_550 : BitVec 32 := 0#32
  let v869 : BitVec 1 := Scalar.cmpi .ne v868 c0_i32_550
  v869

def k0_off193 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let v1282 : Index := Scalar.indexCast v1281
  ![v1282.toNat]
def k0_off194 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c64_i32_835 : BitVec 32 := 64#32
  let v1281 : BitVec 32 := Scalar.subi v866 c64_i32_835
  let c0_i32_837 : BitVec 32 := 0#32
  let c0_i32_838 : BitVec 32 := 0#32
  ![v1281.toNat, 0, 0]
def k0_off195 (v1283 : BitVec 32) : Fin 3 → Nat :=
  let c0_i32_839 : BitVec 32 := 0#32
  let c0_i32_840 : BitVec 32 := 0#32
  ![v1283.toNat, 0, 0]

def k0_chk65 (k0_t1 : Fin k0_t1_loop.trips) (v1283 : BitVec 32) : Prop :=
  (∀ (k0_h33 : k0_cond33 k0_t1 = 1#1), ∀ a, (k0_off195 v1283) a + S1x8x128.size a ≤ S13312x8x128.size a) ∧
  (∀ (k0_h33 : k0_cond33 k0_t1 = 1#1), ∀ (hinb : ∀ a, (k0_off195 v1283) a + S1x8x128.size a ≤ S13312x8x128.size a), (Rect.unit (s := S13312x8x128) (k0_off195 v1283) S1x8x128.size hinb).WholeWords (EltTy.packing .bf16))
theorem k0_off195_inb : ∀ (k0_t1 : Fin k0_t1_loop.trips) (v1283 : BitVec 32) (k0_hw65 : k0_chk65 k0_t1 v1283), ∀ (k0_h33 : k0_cond33 k0_t1 = 1#1), ∀ a, (k0_off195 v1283) a + S1x8x128.size a ≤ S13312x8x128.size a := fun k0_t1 v1283 k0_hw65 k0_h33 => k0_hw65.1 k0_h33
theorem k0_off195_wordsbf16 : ∀ (k0_t1 : Fin k0_t1_loop.trips) (v1283 : BitVec 32) (k0_hw65 : k0_chk65 k0_t1 v1283), ∀ (k0_h33 : k0_cond33 k0_t1 = 1#1), (Rect.unit (s := S13312x8x128) (k0_off195 v1283) S1x8x128.size (k0_off195_inb k0_t1 v1283 k0_hw65 k0_h33)).WholeWords (EltTy.packing .bf16) := fun k0_t1 v1283 k0_hw65 k0_h33 => k0_hw65.2 k0_h33 (k0_off195_inb k0_t1 v1283 k0_hw65 k0_h33)

def k0_off196 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let v870 : Index := Scalar.indexCast v866
  ![v870.toNat]
def k0_off197 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_547 : BitVec 32 := 64#32
  let v865 : BitVec 32 := Scalar.muli arg4 c64_i32_547
  let c32_i32_548 : BitVec 32 := 32#32
  let v866 : BitVec 32 := Scalar.addi v865 c32_i32_548
  let c0_i32_552 : BitVec 32 := 0#32
  let c0_i32_553 : BitVec 32 := 0#32
  ![v866.toNat, 0, 0]
def k0_off198 (v871 : BitVec 32) : Fin 3 → Nat :=
  let c0_i32_554 : BitVec 32 := 0#32
  let c0_i32_555 : BitVec 32 := 0#32
  ![v871.toNat, 0, 0]

def k0_chk66 (v871 : BitVec 32) : Prop :=
  (∀ a, (k0_off198 v871) a + S1x8x128.size a ≤ S13312x8x128.size a) ∧
  (∀ (hinb : ∀ a, (k0_off198 v871) a + S1x8x128.size a ≤ S13312x8x128.size a), (Rect.unit (s := S13312x8x128) (k0_off198 v871) S1x8x128.size hinb).WholeWords (EltTy.packing .bf16))
theorem k0_off198_inb : ∀ (v871 : BitVec 32) (k0_hw66 : k0_chk66 v871), ∀ a, (k0_off198 v871) a + S1x8x128.size a ≤ S13312x8x128.size a := fun v871 k0_hw66 => k0_hw66.1
theorem k0_off198_wordsbf16 : ∀ (v871 : BitVec 32) (k0_hw66 : k0_chk66 v871), (Rect.unit (s := S13312x8x128) (k0_off198 v871) S1x8x128.size (k0_off198_inb v871 k0_hw66)).WholeWords (EltTy.packing .bf16) := fun v871 k0_hw66 => k0_hw66.2 (k0_off198_inb v871 k0_hw66)

def k0_cond34 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_558 : BitVec 32 := 0#32
  let v880 : BitVec 1 := Scalar.cmpi .sgt arg4 c0_i32_558
  let v881 : BitVec 32 := Scalar.extui v880
  let c0_i32_559 : BitVec 32 := 0#32
  let v882 : BitVec 1 := Scalar.cmpi .ne v881 c0_i32_559
  v882

def k0_off199 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let v1282 : Index := Scalar.indexCast v1281
  ![v1282.toNat]
def k0_off200 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c64_i32_835 : BitVec 32 := 64#32
  let v1281 : BitVec 32 := Scalar.subi v879 c64_i32_835
  let c0_i32_837 : BitVec 32 := 0#32
  let c0_i32_838 : BitVec 32 := 0#32
  ![v1281.toNat, 0, 0]
def k0_off201 (v1283 : BitVec 32) : Fin 3 → Nat :=
  let c0_i32_839 : BitVec 32 := 0#32
  let c0_i32_840 : BitVec 32 := 0#32
  ![v1283.toNat, 0, 0]

def k0_chk67 (k0_t1 : Fin k0_t1_loop.trips) (v1283 : BitVec 32) : Prop :=
  (∀ (k0_h34 : k0_cond34 k0_t1 = 1#1), ∀ a, (k0_off201 v1283) a + S1x8x128.size a ≤ S13312x8x128.size a) ∧
  (∀ (k0_h34 : k0_cond34 k0_t1 = 1#1), ∀ (hinb : ∀ a, (k0_off201 v1283) a + S1x8x128.size a ≤ S13312x8x128.size a), (Rect.unit (s := S13312x8x128) (k0_off201 v1283) S1x8x128.size hinb).WholeWords (EltTy.packing .bf16))
theorem k0_off201_inb : ∀ (k0_t1 : Fin k0_t1_loop.trips) (v1283 : BitVec 32) (k0_hw67 : k0_chk67 k0_t1 v1283), ∀ (k0_h34 : k0_cond34 k0_t1 = 1#1), ∀ a, (k0_off201 v1283) a + S1x8x128.size a ≤ S13312x8x128.size a := fun k0_t1 v1283 k0_hw67 k0_h34 => k0_hw67.1 k0_h34
theorem k0_off201_wordsbf16 : ∀ (k0_t1 : Fin k0_t1_loop.trips) (v1283 : BitVec 32) (k0_hw67 : k0_chk67 k0_t1 v1283), ∀ (k0_h34 : k0_cond34 k0_t1 = 1#1), (Rect.unit (s := S13312x8x128) (k0_off201 v1283) S1x8x128.size (k0_off201_inb k0_t1 v1283 k0_hw67 k0_h34)).WholeWords (EltTy.packing .bf16) := fun k0_t1 v1283 k0_hw67 k0_h34 => k0_hw67.2 k0_h34 (k0_off201_inb k0_t1 v1283 k0_hw67 k0_h34)

def k0_off202 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let v883 : Index := Scalar.indexCast v879
  ![v883.toNat]
def k0_off203 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_556 : BitVec 32 := 64#32
  let v878 : BitVec 32 := Scalar.muli arg4 c64_i32_556
  let c33_i32_557 : BitVec 32 := 33#32
  let v879 : BitVec 32 := Scalar.addi v878 c33_i32_557
  let c0_i32_561 : BitVec 32 := 0#32
  let c0_i32_562 : BitVec 32 := 0#32
  ![v879.toNat, 0, 0]
def k0_off204 (v884 : BitVec 32) : Fin 3 → Nat :=
  let c0_i32_563 : BitVec 32 := 0#32
  let c0_i32_564 : BitVec 32 := 0#32
  ![v884.toNat, 0, 0]

def k0_chk68 (v884 : BitVec 32) : Prop :=
  (∀ a, (k0_off204 v884) a + S1x8x128.size a ≤ S13312x8x128.size a) ∧
  (∀ (hinb : ∀ a, (k0_off204 v884) a + S1x8x128.size a ≤ S13312x8x128.size a), (Rect.unit (s := S13312x8x128) (k0_off204 v884) S1x8x128.size hinb).WholeWords (EltTy.packing .bf16))
theorem k0_off204_inb : ∀ (v884 : BitVec 32) (k0_hw68 : k0_chk68 v884), ∀ a, (k0_off204 v884) a + S1x8x128.size a ≤ S13312x8x128.size a := fun v884 k0_hw68 => k0_hw68.1
theorem k0_off204_wordsbf16 : ∀ (v884 : BitVec 32) (k0_hw68 : k0_chk68 v884), (Rect.unit (s := S13312x8x128) (k0_off204 v884) S1x8x128.size (k0_off204_inb v884 k0_hw68)).WholeWords (EltTy.packing .bf16) := fun v884 k0_hw68 => k0_hw68.2 (k0_off204_inb v884 k0_hw68)

def k0_cond35 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_567 : BitVec 32 := 0#32
  let v893 : BitVec 1 := Scalar.cmpi .sgt arg4 c0_i32_567
  let v894 : BitVec 32 := Scalar.extui v893
  let c0_i32_568 : BitVec 32 := 0#32
  let v895 : BitVec 1 := Scalar.cmpi .ne v894 c0_i32_568
  v895

def k0_off205 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let v1282 : Index := Scalar.indexCast v1281
  ![v1282.toNat]
def k0_off206 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c64_i32_835 : BitVec 32 := 64#32
  let v1281 : BitVec 32 := Scalar.subi v892 c64_i32_835
  let c0_i32_837 : BitVec 32 := 0#32
  let c0_i32_838 : BitVec 32 := 0#32
  ![v1281.toNat, 0, 0]
def k0_off207 (v1283 : BitVec 32) : Fin 3 → Nat :=
  let c0_i32_839 : BitVec 32 := 0#32
  let c0_i32_840 : BitVec 32 := 0#32
  ![v1283.toNat, 0, 0]

def k0_chk69 (k0_t1 : Fin k0_t1_loop.trips) (v1283 : BitVec 32) : Prop :=
  (∀ (k0_h35 : k0_cond35 k0_t1 = 1#1), ∀ a, (k0_off207 v1283) a + S1x8x128.size a ≤ S13312x8x128.size a) ∧
  (∀ (k0_h35 : k0_cond35 k0_t1 = 1#1), ∀ (hinb : ∀ a, (k0_off207 v1283) a + S1x8x128.size a ≤ S13312x8x128.size a), (Rect.unit (s := S13312x8x128) (k0_off207 v1283) S1x8x128.size hinb).WholeWords (EltTy.packing .bf16))
theorem k0_off207_inb : ∀ (k0_t1 : Fin k0_t1_loop.trips) (v1283 : BitVec 32) (k0_hw69 : k0_chk69 k0_t1 v1283), ∀ (k0_h35 : k0_cond35 k0_t1 = 1#1), ∀ a, (k0_off207 v1283) a + S1x8x128.size a ≤ S13312x8x128.size a := fun k0_t1 v1283 k0_hw69 k0_h35 => k0_hw69.1 k0_h35
theorem k0_off207_wordsbf16 : ∀ (k0_t1 : Fin k0_t1_loop.trips) (v1283 : BitVec 32) (k0_hw69 : k0_chk69 k0_t1 v1283), ∀ (k0_h35 : k0_cond35 k0_t1 = 1#1), (Rect.unit (s := S13312x8x128) (k0_off207 v1283) S1x8x128.size (k0_off207_inb k0_t1 v1283 k0_hw69 k0_h35)).WholeWords (EltTy.packing .bf16) := fun k0_t1 v1283 k0_hw69 k0_h35 => k0_hw69.2 k0_h35 (k0_off207_inb k0_t1 v1283 k0_hw69 k0_h35)

def k0_off208 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let v896 : Index := Scalar.indexCast v892
  ![v896.toNat]
def k0_off209 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_565 : BitVec 32 := 64#32
  let v891 : BitVec 32 := Scalar.muli arg4 c64_i32_565
  let c34_i32_566 : BitVec 32 := 34#32
  let v892 : BitVec 32 := Scalar.addi v891 c34_i32_566
  let c0_i32_570 : BitVec 32 := 0#32
  let c0_i32_571 : BitVec 32 := 0#32
  ![v892.toNat, 0, 0]
def k0_off210 (v897 : BitVec 32) : Fin 3 → Nat :=
  let c0_i32_572 : BitVec 32 := 0#32
  let c0_i32_573 : BitVec 32 := 0#32
  ![v897.toNat, 0, 0]

def k0_chk70 (v897 : BitVec 32) : Prop :=
  (∀ a, (k0_off210 v897) a + S1x8x128.size a ≤ S13312x8x128.size a) ∧
  (∀ (hinb : ∀ a, (k0_off210 v897) a + S1x8x128.size a ≤ S13312x8x128.size a), (Rect.unit (s := S13312x8x128) (k0_off210 v897) S1x8x128.size hinb).WholeWords (EltTy.packing .bf16))
theorem k0_off210_inb : ∀ (v897 : BitVec 32) (k0_hw70 : k0_chk70 v897), ∀ a, (k0_off210 v897) a + S1x8x128.size a ≤ S13312x8x128.size a := fun v897 k0_hw70 => k0_hw70.1
theorem k0_off210_wordsbf16 : ∀ (v897 : BitVec 32) (k0_hw70 : k0_chk70 v897), (Rect.unit (s := S13312x8x128) (k0_off210 v897) S1x8x128.size (k0_off210_inb v897 k0_hw70)).WholeWords (EltTy.packing .bf16) := fun v897 k0_hw70 => k0_hw70.2 (k0_off210_inb v897 k0_hw70)

def k0_cond36 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_576 : BitVec 32 := 0#32
  let v906 : BitVec 1 := Scalar.cmpi .sgt arg4 c0_i32_576
  let v907 : BitVec 32 := Scalar.extui v906
  let c0_i32_577 : BitVec 32 := 0#32
  let v908 : BitVec 1 := Scalar.cmpi .ne v907 c0_i32_577
  v908

def k0_off211 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let v1282 : Index := Scalar.indexCast v1281
  ![v1282.toNat]
def k0_off212 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c64_i32_835 : BitVec 32 := 64#32
  let v1281 : BitVec 32 := Scalar.subi v905 c64_i32_835
  let c0_i32_837 : BitVec 32 := 0#32
  let c0_i32_838 : BitVec 32 := 0#32
  ![v1281.toNat, 0, 0]
def k0_off213 (v1283 : BitVec 32) : Fin 3 → Nat :=
  let c0_i32_839 : BitVec 32 := 0#32
  let c0_i32_840 : BitVec 32 := 0#32
  ![v1283.toNat, 0, 0]

def k0_chk71 (k0_t1 : Fin k0_t1_loop.trips) (v1283 : BitVec 32) : Prop :=
  (∀ (k0_h36 : k0_cond36 k0_t1 = 1#1), ∀ a, (k0_off213 v1283) a + S1x8x128.size a ≤ S13312x8x128.size a) ∧
  (∀ (k0_h36 : k0_cond36 k0_t1 = 1#1), ∀ (hinb : ∀ a, (k0_off213 v1283) a + S1x8x128.size a ≤ S13312x8x128.size a), (Rect.unit (s := S13312x8x128) (k0_off213 v1283) S1x8x128.size hinb).WholeWords (EltTy.packing .bf16))
theorem k0_off213_inb : ∀ (k0_t1 : Fin k0_t1_loop.trips) (v1283 : BitVec 32) (k0_hw71 : k0_chk71 k0_t1 v1283), ∀ (k0_h36 : k0_cond36 k0_t1 = 1#1), ∀ a, (k0_off213 v1283) a + S1x8x128.size a ≤ S13312x8x128.size a := fun k0_t1 v1283 k0_hw71 k0_h36 => k0_hw71.1 k0_h36
theorem k0_off213_wordsbf16 : ∀ (k0_t1 : Fin k0_t1_loop.trips) (v1283 : BitVec 32) (k0_hw71 : k0_chk71 k0_t1 v1283), ∀ (k0_h36 : k0_cond36 k0_t1 = 1#1), (Rect.unit (s := S13312x8x128) (k0_off213 v1283) S1x8x128.size (k0_off213_inb k0_t1 v1283 k0_hw71 k0_h36)).WholeWords (EltTy.packing .bf16) := fun k0_t1 v1283 k0_hw71 k0_h36 => k0_hw71.2 k0_h36 (k0_off213_inb k0_t1 v1283 k0_hw71 k0_h36)

def k0_off214 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let v909 : Index := Scalar.indexCast v905
  ![v909.toNat]
def k0_off215 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_574 : BitVec 32 := 64#32
  let v904 : BitVec 32 := Scalar.muli arg4 c64_i32_574
  let c35_i32_575 : BitVec 32 := 35#32
  let v905 : BitVec 32 := Scalar.addi v904 c35_i32_575
  let c0_i32_579 : BitVec 32 := 0#32
  let c0_i32_580 : BitVec 32 := 0#32
  ![v905.toNat, 0, 0]
def k0_off216 (v910 : BitVec 32) : Fin 3 → Nat :=
  let c0_i32_581 : BitVec 32 := 0#32
  let c0_i32_582 : BitVec 32 := 0#32
  ![v910.toNat, 0, 0]

def k0_chk72 (v910 : BitVec 32) : Prop :=
  (∀ a, (k0_off216 v910) a + S1x8x128.size a ≤ S13312x8x128.size a) ∧
  (∀ (hinb : ∀ a, (k0_off216 v910) a + S1x8x128.size a ≤ S13312x8x128.size a), (Rect.unit (s := S13312x8x128) (k0_off216 v910) S1x8x128.size hinb).WholeWords (EltTy.packing .bf16))
theorem k0_off216_inb : ∀ (v910 : BitVec 32) (k0_hw72 : k0_chk72 v910), ∀ a, (k0_off216 v910) a + S1x8x128.size a ≤ S13312x8x128.size a := fun v910 k0_hw72 => k0_hw72.1
theorem k0_off216_wordsbf16 : ∀ (v910 : BitVec 32) (k0_hw72 : k0_chk72 v910), (Rect.unit (s := S13312x8x128) (k0_off216 v910) S1x8x128.size (k0_off216_inb v910 k0_hw72)).WholeWords (EltTy.packing .bf16) := fun v910 k0_hw72 => k0_hw72.2 (k0_off216_inb v910 k0_hw72)

def k0_cond37 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_585 : BitVec 32 := 0#32
  let v919 : BitVec 1 := Scalar.cmpi .sgt arg4 c0_i32_585
  let v920 : BitVec 32 := Scalar.extui v919
  let c0_i32_586 : BitVec 32 := 0#32
  let v921 : BitVec 1 := Scalar.cmpi .ne v920 c0_i32_586
  v921

def k0_off217 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let v1282 : Index := Scalar.indexCast v1281
  ![v1282.toNat]
def k0_off218 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c64_i32_835 : BitVec 32 := 64#32
  let v1281 : BitVec 32 := Scalar.subi v918 c64_i32_835
  let c0_i32_837 : BitVec 32 := 0#32
  let c0_i32_838 : BitVec 32 := 0#32
  ![v1281.toNat, 0, 0]
def k0_off219 (v1283 : BitVec 32) : Fin 3 → Nat :=
  let c0_i32_839 : BitVec 32 := 0#32
  let c0_i32_840 : BitVec 32 := 0#32
  ![v1283.toNat, 0, 0]

def k0_chk73 (k0_t1 : Fin k0_t1_loop.trips) (v1283 : BitVec 32) : Prop :=
  (∀ (k0_h37 : k0_cond37 k0_t1 = 1#1), ∀ a, (k0_off219 v1283) a + S1x8x128.size a ≤ S13312x8x128.size a) ∧
  (∀ (k0_h37 : k0_cond37 k0_t1 = 1#1), ∀ (hinb : ∀ a, (k0_off219 v1283) a + S1x8x128.size a ≤ S13312x8x128.size a), (Rect.unit (s := S13312x8x128) (k0_off219 v1283) S1x8x128.size hinb).WholeWords (EltTy.packing .bf16))
theorem k0_off219_inb : ∀ (k0_t1 : Fin k0_t1_loop.trips) (v1283 : BitVec 32) (k0_hw73 : k0_chk73 k0_t1 v1283), ∀ (k0_h37 : k0_cond37 k0_t1 = 1#1), ∀ a, (k0_off219 v1283) a + S1x8x128.size a ≤ S13312x8x128.size a := fun k0_t1 v1283 k0_hw73 k0_h37 => k0_hw73.1 k0_h37
theorem k0_off219_wordsbf16 : ∀ (k0_t1 : Fin k0_t1_loop.trips) (v1283 : BitVec 32) (k0_hw73 : k0_chk73 k0_t1 v1283), ∀ (k0_h37 : k0_cond37 k0_t1 = 1#1), (Rect.unit (s := S13312x8x128) (k0_off219 v1283) S1x8x128.size (k0_off219_inb k0_t1 v1283 k0_hw73 k0_h37)).WholeWords (EltTy.packing .bf16) := fun k0_t1 v1283 k0_hw73 k0_h37 => k0_hw73.2 k0_h37 (k0_off219_inb k0_t1 v1283 k0_hw73 k0_h37)

def k0_off220 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let v922 : Index := Scalar.indexCast v918
  ![v922.toNat]
def k0_off221 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_583 : BitVec 32 := 64#32
  let v917 : BitVec 32 := Scalar.muli arg4 c64_i32_583
  let c36_i32_584 : BitVec 32 := 36#32
  let v918 : BitVec 32 := Scalar.addi v917 c36_i32_584
  let c0_i32_588 : BitVec 32 := 0#32
  let c0_i32_589 : BitVec 32 := 0#32
  ![v918.toNat, 0, 0]
def k0_off222 (v923 : BitVec 32) : Fin 3 → Nat :=
  let c0_i32_590 : BitVec 32 := 0#32
  let c0_i32_591 : BitVec 32 := 0#32
  ![v923.toNat, 0, 0]

def k0_chk74 (v923 : BitVec 32) : Prop :=
  (∀ a, (k0_off222 v923) a + S1x8x128.size a ≤ S13312x8x128.size a) ∧
  (∀ (hinb : ∀ a, (k0_off222 v923) a + S1x8x128.size a ≤ S13312x8x128.size a), (Rect.unit (s := S13312x8x128) (k0_off222 v923) S1x8x128.size hinb).WholeWords (EltTy.packing .bf16))
theorem k0_off222_inb : ∀ (v923 : BitVec 32) (k0_hw74 : k0_chk74 v923), ∀ a, (k0_off222 v923) a + S1x8x128.size a ≤ S13312x8x128.size a := fun v923 k0_hw74 => k0_hw74.1
theorem k0_off222_wordsbf16 : ∀ (v923 : BitVec 32) (k0_hw74 : k0_chk74 v923), (Rect.unit (s := S13312x8x128) (k0_off222 v923) S1x8x128.size (k0_off222_inb v923 k0_hw74)).WholeWords (EltTy.packing .bf16) := fun v923 k0_hw74 => k0_hw74.2 (k0_off222_inb v923 k0_hw74)

def k0_cond38 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_594 : BitVec 32 := 0#32
  let v932 : BitVec 1 := Scalar.cmpi .sgt arg4 c0_i32_594
  let v933 : BitVec 32 := Scalar.extui v932
  let c0_i32_595 : BitVec 32 := 0#32
  let v934 : BitVec 1 := Scalar.cmpi .ne v933 c0_i32_595
  v934

def k0_off223 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let v1282 : Index := Scalar.indexCast v1281
  ![v1282.toNat]
def k0_off224 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c64_i32_835 : BitVec 32 := 64#32
  let v1281 : BitVec 32 := Scalar.subi v931 c64_i32_835
  let c0_i32_837 : BitVec 32 := 0#32
  let c0_i32_838 : BitVec 32 := 0#32
  ![v1281.toNat, 0, 0]
def k0_off225 (v1283 : BitVec 32) : Fin 3 → Nat :=
  let c0_i32_839 : BitVec 32 := 0#32
  let c0_i32_840 : BitVec 32 := 0#32
  ![v1283.toNat, 0, 0]

def k0_chk75 (k0_t1 : Fin k0_t1_loop.trips) (v1283 : BitVec 32) : Prop :=
  (∀ (k0_h38 : k0_cond38 k0_t1 = 1#1), ∀ a, (k0_off225 v1283) a + S1x8x128.size a ≤ S13312x8x128.size a) ∧
  (∀ (k0_h38 : k0_cond38 k0_t1 = 1#1), ∀ (hinb : ∀ a, (k0_off225 v1283) a + S1x8x128.size a ≤ S13312x8x128.size a), (Rect.unit (s := S13312x8x128) (k0_off225 v1283) S1x8x128.size hinb).WholeWords (EltTy.packing .bf16))
theorem k0_off225_inb : ∀ (k0_t1 : Fin k0_t1_loop.trips) (v1283 : BitVec 32) (k0_hw75 : k0_chk75 k0_t1 v1283), ∀ (k0_h38 : k0_cond38 k0_t1 = 1#1), ∀ a, (k0_off225 v1283) a + S1x8x128.size a ≤ S13312x8x128.size a := fun k0_t1 v1283 k0_hw75 k0_h38 => k0_hw75.1 k0_h38
theorem k0_off225_wordsbf16 : ∀ (k0_t1 : Fin k0_t1_loop.trips) (v1283 : BitVec 32) (k0_hw75 : k0_chk75 k0_t1 v1283), ∀ (k0_h38 : k0_cond38 k0_t1 = 1#1), (Rect.unit (s := S13312x8x128) (k0_off225 v1283) S1x8x128.size (k0_off225_inb k0_t1 v1283 k0_hw75 k0_h38)).WholeWords (EltTy.packing .bf16) := fun k0_t1 v1283 k0_hw75 k0_h38 => k0_hw75.2 k0_h38 (k0_off225_inb k0_t1 v1283 k0_hw75 k0_h38)

def k0_off226 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let v935 : Index := Scalar.indexCast v931
  ![v935.toNat]
def k0_off227 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_592 : BitVec 32 := 64#32
  let v930 : BitVec 32 := Scalar.muli arg4 c64_i32_592
  let c37_i32_593 : BitVec 32 := 37#32
  let v931 : BitVec 32 := Scalar.addi v930 c37_i32_593
  let c0_i32_597 : BitVec 32 := 0#32
  let c0_i32_598 : BitVec 32 := 0#32
  ![v931.toNat, 0, 0]
def k0_off228 (v936 : BitVec 32) : Fin 3 → Nat :=
  let c0_i32_599 : BitVec 32 := 0#32
  let c0_i32_600 : BitVec 32 := 0#32
  ![v936.toNat, 0, 0]

def k0_chk76 (v936 : BitVec 32) : Prop :=
  (∀ a, (k0_off228 v936) a + S1x8x128.size a ≤ S13312x8x128.size a) ∧
  (∀ (hinb : ∀ a, (k0_off228 v936) a + S1x8x128.size a ≤ S13312x8x128.size a), (Rect.unit (s := S13312x8x128) (k0_off228 v936) S1x8x128.size hinb).WholeWords (EltTy.packing .bf16))
theorem k0_off228_inb : ∀ (v936 : BitVec 32) (k0_hw76 : k0_chk76 v936), ∀ a, (k0_off228 v936) a + S1x8x128.size a ≤ S13312x8x128.size a := fun v936 k0_hw76 => k0_hw76.1
theorem k0_off228_wordsbf16 : ∀ (v936 : BitVec 32) (k0_hw76 : k0_chk76 v936), (Rect.unit (s := S13312x8x128) (k0_off228 v936) S1x8x128.size (k0_off228_inb v936 k0_hw76)).WholeWords (EltTy.packing .bf16) := fun v936 k0_hw76 => k0_hw76.2 (k0_off228_inb v936 k0_hw76)

def k0_cond39 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_603 : BitVec 32 := 0#32
  let v945 : BitVec 1 := Scalar.cmpi .sgt arg4 c0_i32_603
  let v946 : BitVec 32 := Scalar.extui v945
  let c0_i32_604 : BitVec 32 := 0#32
  let v947 : BitVec 1 := Scalar.cmpi .ne v946 c0_i32_604
  v947

def k0_off229 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let v1282 : Index := Scalar.indexCast v1281
  ![v1282.toNat]
def k0_off230 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c64_i32_835 : BitVec 32 := 64#32
  let v1281 : BitVec 32 := Scalar.subi v944 c64_i32_835
  let c0_i32_837 : BitVec 32 := 0#32
  let c0_i32_838 : BitVec 32 := 0#32
  ![v1281.toNat, 0, 0]
def k0_off231 (v1283 : BitVec 32) : Fin 3 → Nat :=
  let c0_i32_839 : BitVec 32 := 0#32
  let c0_i32_840 : BitVec 32 := 0#32
  ![v1283.toNat, 0, 0]

def k0_chk77 (k0_t1 : Fin k0_t1_loop.trips) (v1283 : BitVec 32) : Prop :=
  (∀ (k0_h39 : k0_cond39 k0_t1 = 1#1), ∀ a, (k0_off231 v1283) a + S1x8x128.size a ≤ S13312x8x128.size a) ∧
  (∀ (k0_h39 : k0_cond39 k0_t1 = 1#1), ∀ (hinb : ∀ a, (k0_off231 v1283) a + S1x8x128.size a ≤ S13312x8x128.size a), (Rect.unit (s := S13312x8x128) (k0_off231 v1283) S1x8x128.size hinb).WholeWords (EltTy.packing .bf16))
theorem k0_off231_inb : ∀ (k0_t1 : Fin k0_t1_loop.trips) (v1283 : BitVec 32) (k0_hw77 : k0_chk77 k0_t1 v1283), ∀ (k0_h39 : k0_cond39 k0_t1 = 1#1), ∀ a, (k0_off231 v1283) a + S1x8x128.size a ≤ S13312x8x128.size a := fun k0_t1 v1283 k0_hw77 k0_h39 => k0_hw77.1 k0_h39
theorem k0_off231_wordsbf16 : ∀ (k0_t1 : Fin k0_t1_loop.trips) (v1283 : BitVec 32) (k0_hw77 : k0_chk77 k0_t1 v1283), ∀ (k0_h39 : k0_cond39 k0_t1 = 1#1), (Rect.unit (s := S13312x8x128) (k0_off231 v1283) S1x8x128.size (k0_off231_inb k0_t1 v1283 k0_hw77 k0_h39)).WholeWords (EltTy.packing .bf16) := fun k0_t1 v1283 k0_hw77 k0_h39 => k0_hw77.2 k0_h39 (k0_off231_inb k0_t1 v1283 k0_hw77 k0_h39)

def k0_off232 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let v948 : Index := Scalar.indexCast v944
  ![v948.toNat]
def k0_off233 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_601 : BitVec 32 := 64#32
  let v943 : BitVec 32 := Scalar.muli arg4 c64_i32_601
  let c38_i32_602 : BitVec 32 := 38#32
  let v944 : BitVec 32 := Scalar.addi v943 c38_i32_602
  let c0_i32_606 : BitVec 32 := 0#32
  let c0_i32_607 : BitVec 32 := 0#32
  ![v944.toNat, 0, 0]
def k0_off234 (v949 : BitVec 32) : Fin 3 → Nat :=
  let c0_i32_608 : BitVec 32 := 0#32
  let c0_i32_609 : BitVec 32 := 0#32
  ![v949.toNat, 0, 0]

def k0_chk78 (v949 : BitVec 32) : Prop :=
  (∀ a, (k0_off234 v949) a + S1x8x128.size a ≤ S13312x8x128.size a) ∧
  (∀ (hinb : ∀ a, (k0_off234 v949) a + S1x8x128.size a ≤ S13312x8x128.size a), (Rect.unit (s := S13312x8x128) (k0_off234 v949) S1x8x128.size hinb).WholeWords (EltTy.packing .bf16))
theorem k0_off234_inb : ∀ (v949 : BitVec 32) (k0_hw78 : k0_chk78 v949), ∀ a, (k0_off234 v949) a + S1x8x128.size a ≤ S13312x8x128.size a := fun v949 k0_hw78 => k0_hw78.1
theorem k0_off234_wordsbf16 : ∀ (v949 : BitVec 32) (k0_hw78 : k0_chk78 v949), (Rect.unit (s := S13312x8x128) (k0_off234 v949) S1x8x128.size (k0_off234_inb v949 k0_hw78)).WholeWords (EltTy.packing .bf16) := fun v949 k0_hw78 => k0_hw78.2 (k0_off234_inb v949 k0_hw78)

def k0_cond40 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_612 : BitVec 32 := 0#32
  let v958 : BitVec 1 := Scalar.cmpi .sgt arg4 c0_i32_612
  let v959 : BitVec 32 := Scalar.extui v958
  let c0_i32_613 : BitVec 32 := 0#32
  let v960 : BitVec 1 := Scalar.cmpi .ne v959 c0_i32_613
  v960

def k0_off235 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let v1282 : Index := Scalar.indexCast v1281
  ![v1282.toNat]
def k0_off236 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c64_i32_835 : BitVec 32 := 64#32
  let v1281 : BitVec 32 := Scalar.subi v957 c64_i32_835
  let c0_i32_837 : BitVec 32 := 0#32
  let c0_i32_838 : BitVec 32 := 0#32
  ![v1281.toNat, 0, 0]
def k0_off237 (v1283 : BitVec 32) : Fin 3 → Nat :=
  let c0_i32_839 : BitVec 32 := 0#32
  let c0_i32_840 : BitVec 32 := 0#32
  ![v1283.toNat, 0, 0]

def k0_chk79 (k0_t1 : Fin k0_t1_loop.trips) (v1283 : BitVec 32) : Prop :=
  (∀ (k0_h40 : k0_cond40 k0_t1 = 1#1), ∀ a, (k0_off237 v1283) a + S1x8x128.size a ≤ S13312x8x128.size a) ∧
  (∀ (k0_h40 : k0_cond40 k0_t1 = 1#1), ∀ (hinb : ∀ a, (k0_off237 v1283) a + S1x8x128.size a ≤ S13312x8x128.size a), (Rect.unit (s := S13312x8x128) (k0_off237 v1283) S1x8x128.size hinb).WholeWords (EltTy.packing .bf16))
theorem k0_off237_inb : ∀ (k0_t1 : Fin k0_t1_loop.trips) (v1283 : BitVec 32) (k0_hw79 : k0_chk79 k0_t1 v1283), ∀ (k0_h40 : k0_cond40 k0_t1 = 1#1), ∀ a, (k0_off237 v1283) a + S1x8x128.size a ≤ S13312x8x128.size a := fun k0_t1 v1283 k0_hw79 k0_h40 => k0_hw79.1 k0_h40
theorem k0_off237_wordsbf16 : ∀ (k0_t1 : Fin k0_t1_loop.trips) (v1283 : BitVec 32) (k0_hw79 : k0_chk79 k0_t1 v1283), ∀ (k0_h40 : k0_cond40 k0_t1 = 1#1), (Rect.unit (s := S13312x8x128) (k0_off237 v1283) S1x8x128.size (k0_off237_inb k0_t1 v1283 k0_hw79 k0_h40)).WholeWords (EltTy.packing .bf16) := fun k0_t1 v1283 k0_hw79 k0_h40 => k0_hw79.2 k0_h40 (k0_off237_inb k0_t1 v1283 k0_hw79 k0_h40)

def k0_off238 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let v961 : Index := Scalar.indexCast v957
  ![v961.toNat]
def k0_off239 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_610 : BitVec 32 := 64#32
  let v956 : BitVec 32 := Scalar.muli arg4 c64_i32_610
  let c39_i32_611 : BitVec 32 := 39#32
  let v957 : BitVec 32 := Scalar.addi v956 c39_i32_611
  let c0_i32_615 : BitVec 32 := 0#32
  let c0_i32_616 : BitVec 32 := 0#32
  ![v957.toNat, 0, 0]
def k0_off240 (v962 : BitVec 32) : Fin 3 → Nat :=
  let c0_i32_617 : BitVec 32 := 0#32
  let c0_i32_618 : BitVec 32 := 0#32
  ![v962.toNat, 0, 0]

def k0_chk80 (v962 : BitVec 32) : Prop :=
  (∀ a, (k0_off240 v962) a + S1x8x128.size a ≤ S13312x8x128.size a) ∧
  (∀ (hinb : ∀ a, (k0_off240 v962) a + S1x8x128.size a ≤ S13312x8x128.size a), (Rect.unit (s := S13312x8x128) (k0_off240 v962) S1x8x128.size hinb).WholeWords (EltTy.packing .bf16))
theorem k0_off240_inb : ∀ (v962 : BitVec 32) (k0_hw80 : k0_chk80 v962), ∀ a, (k0_off240 v962) a + S1x8x128.size a ≤ S13312x8x128.size a := fun v962 k0_hw80 => k0_hw80.1
theorem k0_off240_wordsbf16 : ∀ (v962 : BitVec 32) (k0_hw80 : k0_chk80 v962), (Rect.unit (s := S13312x8x128) (k0_off240 v962) S1x8x128.size (k0_off240_inb v962 k0_hw80)).WholeWords (EltTy.packing .bf16) := fun v962 k0_hw80 => k0_hw80.2 (k0_off240_inb v962 k0_hw80)

def k0_cond41 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_621 : BitVec 32 := 0#32
  let v971 : BitVec 1 := Scalar.cmpi .sgt arg4 c0_i32_621
  let v972 : BitVec 32 := Scalar.extui v971
  let c0_i32_622 : BitVec 32 := 0#32
  let v973 : BitVec 1 := Scalar.cmpi .ne v972 c0_i32_622
  v973

def k0_off241 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let v1282 : Index := Scalar.indexCast v1281
  ![v1282.toNat]
def k0_off242 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c64_i32_835 : BitVec 32 := 64#32
  let v1281 : BitVec 32 := Scalar.subi v970 c64_i32_835
  let c0_i32_837 : BitVec 32 := 0#32
  let c0_i32_838 : BitVec 32 := 0#32
  ![v1281.toNat, 0, 0]
def k0_off243 (v1283 : BitVec 32) : Fin 3 → Nat :=
  let c0_i32_839 : BitVec 32 := 0#32
  let c0_i32_840 : BitVec 32 := 0#32
  ![v1283.toNat, 0, 0]

def k0_chk81 (k0_t1 : Fin k0_t1_loop.trips) (v1283 : BitVec 32) : Prop :=
  (∀ (k0_h41 : k0_cond41 k0_t1 = 1#1), ∀ a, (k0_off243 v1283) a + S1x8x128.size a ≤ S13312x8x128.size a) ∧
  (∀ (k0_h41 : k0_cond41 k0_t1 = 1#1), ∀ (hinb : ∀ a, (k0_off243 v1283) a + S1x8x128.size a ≤ S13312x8x128.size a), (Rect.unit (s := S13312x8x128) (k0_off243 v1283) S1x8x128.size hinb).WholeWords (EltTy.packing .bf16))
theorem k0_off243_inb : ∀ (k0_t1 : Fin k0_t1_loop.trips) (v1283 : BitVec 32) (k0_hw81 : k0_chk81 k0_t1 v1283), ∀ (k0_h41 : k0_cond41 k0_t1 = 1#1), ∀ a, (k0_off243 v1283) a + S1x8x128.size a ≤ S13312x8x128.size a := fun k0_t1 v1283 k0_hw81 k0_h41 => k0_hw81.1 k0_h41
theorem k0_off243_wordsbf16 : ∀ (k0_t1 : Fin k0_t1_loop.trips) (v1283 : BitVec 32) (k0_hw81 : k0_chk81 k0_t1 v1283), ∀ (k0_h41 : k0_cond41 k0_t1 = 1#1), (Rect.unit (s := S13312x8x128) (k0_off243 v1283) S1x8x128.size (k0_off243_inb k0_t1 v1283 k0_hw81 k0_h41)).WholeWords (EltTy.packing .bf16) := fun k0_t1 v1283 k0_hw81 k0_h41 => k0_hw81.2 k0_h41 (k0_off243_inb k0_t1 v1283 k0_hw81 k0_h41)

def k0_off244 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let v974 : Index := Scalar.indexCast v970
  ![v974.toNat]
def k0_off245 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_619 : BitVec 32 := 64#32
  let v969 : BitVec 32 := Scalar.muli arg4 c64_i32_619
  let c40_i32_620 : BitVec 32 := 40#32
  let v970 : BitVec 32 := Scalar.addi v969 c40_i32_620
  let c0_i32_624 : BitVec 32 := 0#32
  let c0_i32_625 : BitVec 32 := 0#32
  ![v970.toNat, 0, 0]
def k0_off246 (v975 : BitVec 32) : Fin 3 → Nat :=
  let c0_i32_626 : BitVec 32 := 0#32
  let c0_i32_627 : BitVec 32 := 0#32
  ![v975.toNat, 0, 0]

def k0_chk82 (v975 : BitVec 32) : Prop :=
  (∀ a, (k0_off246 v975) a + S1x8x128.size a ≤ S13312x8x128.size a) ∧
  (∀ (hinb : ∀ a, (k0_off246 v975) a + S1x8x128.size a ≤ S13312x8x128.size a), (Rect.unit (s := S13312x8x128) (k0_off246 v975) S1x8x128.size hinb).WholeWords (EltTy.packing .bf16))
theorem k0_off246_inb : ∀ (v975 : BitVec 32) (k0_hw82 : k0_chk82 v975), ∀ a, (k0_off246 v975) a + S1x8x128.size a ≤ S13312x8x128.size a := fun v975 k0_hw82 => k0_hw82.1
theorem k0_off246_wordsbf16 : ∀ (v975 : BitVec 32) (k0_hw82 : k0_chk82 v975), (Rect.unit (s := S13312x8x128) (k0_off246 v975) S1x8x128.size (k0_off246_inb v975 k0_hw82)).WholeWords (EltTy.packing .bf16) := fun v975 k0_hw82 => k0_hw82.2 (k0_off246_inb v975 k0_hw82)

def k0_cond42 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_630 : BitVec 32 := 0#32
  let v984 : BitVec 1 := Scalar.cmpi .sgt arg4 c0_i32_630
  let v985 : BitVec 32 := Scalar.extui v984
  let c0_i32_631 : BitVec 32 := 0#32
  let v986 : BitVec 1 := Scalar.cmpi .ne v985 c0_i32_631
  v986

def k0_off247 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let v1282 : Index := Scalar.indexCast v1281
  ![v1282.toNat]
def k0_off248 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c64_i32_835 : BitVec 32 := 64#32
  let v1281 : BitVec 32 := Scalar.subi v983 c64_i32_835
  let c0_i32_837 : BitVec 32 := 0#32
  let c0_i32_838 : BitVec 32 := 0#32
  ![v1281.toNat, 0, 0]
def k0_off249 (v1283 : BitVec 32) : Fin 3 → Nat :=
  let c0_i32_839 : BitVec 32 := 0#32
  let c0_i32_840 : BitVec 32 := 0#32
  ![v1283.toNat, 0, 0]

def k0_chk83 (k0_t1 : Fin k0_t1_loop.trips) (v1283 : BitVec 32) : Prop :=
  (∀ (k0_h42 : k0_cond42 k0_t1 = 1#1), ∀ a, (k0_off249 v1283) a + S1x8x128.size a ≤ S13312x8x128.size a) ∧
  (∀ (k0_h42 : k0_cond42 k0_t1 = 1#1), ∀ (hinb : ∀ a, (k0_off249 v1283) a + S1x8x128.size a ≤ S13312x8x128.size a), (Rect.unit (s := S13312x8x128) (k0_off249 v1283) S1x8x128.size hinb).WholeWords (EltTy.packing .bf16))
theorem k0_off249_inb : ∀ (k0_t1 : Fin k0_t1_loop.trips) (v1283 : BitVec 32) (k0_hw83 : k0_chk83 k0_t1 v1283), ∀ (k0_h42 : k0_cond42 k0_t1 = 1#1), ∀ a, (k0_off249 v1283) a + S1x8x128.size a ≤ S13312x8x128.size a := fun k0_t1 v1283 k0_hw83 k0_h42 => k0_hw83.1 k0_h42
theorem k0_off249_wordsbf16 : ∀ (k0_t1 : Fin k0_t1_loop.trips) (v1283 : BitVec 32) (k0_hw83 : k0_chk83 k0_t1 v1283), ∀ (k0_h42 : k0_cond42 k0_t1 = 1#1), (Rect.unit (s := S13312x8x128) (k0_off249 v1283) S1x8x128.size (k0_off249_inb k0_t1 v1283 k0_hw83 k0_h42)).WholeWords (EltTy.packing .bf16) := fun k0_t1 v1283 k0_hw83 k0_h42 => k0_hw83.2 k0_h42 (k0_off249_inb k0_t1 v1283 k0_hw83 k0_h42)

def k0_off250 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let v987 : Index := Scalar.indexCast v983
  ![v987.toNat]
def k0_off251 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_628 : BitVec 32 := 64#32
  let v982 : BitVec 32 := Scalar.muli arg4 c64_i32_628
  let c41_i32_629 : BitVec 32 := 41#32
  let v983 : BitVec 32 := Scalar.addi v982 c41_i32_629
  let c0_i32_633 : BitVec 32 := 0#32
  let c0_i32_634 : BitVec 32 := 0#32
  ![v983.toNat, 0, 0]
def k0_off252 (v988 : BitVec 32) : Fin 3 → Nat :=
  let c0_i32_635 : BitVec 32 := 0#32
  let c0_i32_636 : BitVec 32 := 0#32
  ![v988.toNat, 0, 0]

def k0_chk84 (v988 : BitVec 32) : Prop :=
  (∀ a, (k0_off252 v988) a + S1x8x128.size a ≤ S13312x8x128.size a) ∧
  (∀ (hinb : ∀ a, (k0_off252 v988) a + S1x8x128.size a ≤ S13312x8x128.size a), (Rect.unit (s := S13312x8x128) (k0_off252 v988) S1x8x128.size hinb).WholeWords (EltTy.packing .bf16))
theorem k0_off252_inb : ∀ (v988 : BitVec 32) (k0_hw84 : k0_chk84 v988), ∀ a, (k0_off252 v988) a + S1x8x128.size a ≤ S13312x8x128.size a := fun v988 k0_hw84 => k0_hw84.1
theorem k0_off252_wordsbf16 : ∀ (v988 : BitVec 32) (k0_hw84 : k0_chk84 v988), (Rect.unit (s := S13312x8x128) (k0_off252 v988) S1x8x128.size (k0_off252_inb v988 k0_hw84)).WholeWords (EltTy.packing .bf16) := fun v988 k0_hw84 => k0_hw84.2 (k0_off252_inb v988 k0_hw84)

def k0_cond43 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_639 : BitVec 32 := 0#32
  let v997 : BitVec 1 := Scalar.cmpi .sgt arg4 c0_i32_639
  let v998 : BitVec 32 := Scalar.extui v997
  let c0_i32_640 : BitVec 32 := 0#32
  let v999 : BitVec 1 := Scalar.cmpi .ne v998 c0_i32_640
  v999

def k0_off253 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let v1282 : Index := Scalar.indexCast v1281
  ![v1282.toNat]
def k0_off254 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c64_i32_835 : BitVec 32 := 64#32
  let v1281 : BitVec 32 := Scalar.subi v996 c64_i32_835
  let c0_i32_837 : BitVec 32 := 0#32
  let c0_i32_838 : BitVec 32 := 0#32
  ![v1281.toNat, 0, 0]
def k0_off255 (v1283 : BitVec 32) : Fin 3 → Nat :=
  let c0_i32_839 : BitVec 32 := 0#32
  let c0_i32_840 : BitVec 32 := 0#32
  ![v1283.toNat, 0, 0]

def k0_chk85 (k0_t1 : Fin k0_t1_loop.trips) (v1283 : BitVec 32) : Prop :=
  (∀ (k0_h43 : k0_cond43 k0_t1 = 1#1), ∀ a, (k0_off255 v1283) a + S1x8x128.size a ≤ S13312x8x128.size a) ∧
  (∀ (k0_h43 : k0_cond43 k0_t1 = 1#1), ∀ (hinb : ∀ a, (k0_off255 v1283) a + S1x8x128.size a ≤ S13312x8x128.size a), (Rect.unit (s := S13312x8x128) (k0_off255 v1283) S1x8x128.size hinb).WholeWords (EltTy.packing .bf16))
theorem k0_off255_inb : ∀ (k0_t1 : Fin k0_t1_loop.trips) (v1283 : BitVec 32) (k0_hw85 : k0_chk85 k0_t1 v1283), ∀ (k0_h43 : k0_cond43 k0_t1 = 1#1), ∀ a, (k0_off255 v1283) a + S1x8x128.size a ≤ S13312x8x128.size a := fun k0_t1 v1283 k0_hw85 k0_h43 => k0_hw85.1 k0_h43
theorem k0_off255_wordsbf16 : ∀ (k0_t1 : Fin k0_t1_loop.trips) (v1283 : BitVec 32) (k0_hw85 : k0_chk85 k0_t1 v1283), ∀ (k0_h43 : k0_cond43 k0_t1 = 1#1), (Rect.unit (s := S13312x8x128) (k0_off255 v1283) S1x8x128.size (k0_off255_inb k0_t1 v1283 k0_hw85 k0_h43)).WholeWords (EltTy.packing .bf16) := fun k0_t1 v1283 k0_hw85 k0_h43 => k0_hw85.2 k0_h43 (k0_off255_inb k0_t1 v1283 k0_hw85 k0_h43)

def k0_off256 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let v1000 : Index := Scalar.indexCast v996
  ![v1000.toNat]
def k0_off257 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_637 : BitVec 32 := 64#32
  let v995 : BitVec 32 := Scalar.muli arg4 c64_i32_637
  let c42_i32_638 : BitVec 32 := 42#32
  let v996 : BitVec 32 := Scalar.addi v995 c42_i32_638
  let c0_i32_642 : BitVec 32 := 0#32
  let c0_i32_643 : BitVec 32 := 0#32
  ![v996.toNat, 0, 0]
def k0_off258 (v1001 : BitVec 32) : Fin 3 → Nat :=
  let c0_i32_644 : BitVec 32 := 0#32
  let c0_i32_645 : BitVec 32 := 0#32
  ![v1001.toNat, 0, 0]

def k0_chk86 (v1001 : BitVec 32) : Prop :=
  (∀ a, (k0_off258 v1001) a + S1x8x128.size a ≤ S13312x8x128.size a) ∧
  (∀ (hinb : ∀ a, (k0_off258 v1001) a + S1x8x128.size a ≤ S13312x8x128.size a), (Rect.unit (s := S13312x8x128) (k0_off258 v1001) S1x8x128.size hinb).WholeWords (EltTy.packing .bf16))
theorem k0_off258_inb : ∀ (v1001 : BitVec 32) (k0_hw86 : k0_chk86 v1001), ∀ a, (k0_off258 v1001) a + S1x8x128.size a ≤ S13312x8x128.size a := fun v1001 k0_hw86 => k0_hw86.1
theorem k0_off258_wordsbf16 : ∀ (v1001 : BitVec 32) (k0_hw86 : k0_chk86 v1001), (Rect.unit (s := S13312x8x128) (k0_off258 v1001) S1x8x128.size (k0_off258_inb v1001 k0_hw86)).WholeWords (EltTy.packing .bf16) := fun v1001 k0_hw86 => k0_hw86.2 (k0_off258_inb v1001 k0_hw86)

def k0_cond44 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_648 : BitVec 32 := 0#32
  let v1010 : BitVec 1 := Scalar.cmpi .sgt arg4 c0_i32_648
  let v1011 : BitVec 32 := Scalar.extui v1010
  let c0_i32_649 : BitVec 32 := 0#32
  let v1012 : BitVec 1 := Scalar.cmpi .ne v1011 c0_i32_649
  v1012

def k0_off259 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let v1282 : Index := Scalar.indexCast v1281
  ![v1282.toNat]
def k0_off260 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c64_i32_835 : BitVec 32 := 64#32
  let v1281 : BitVec 32 := Scalar.subi v1009 c64_i32_835
  let c0_i32_837 : BitVec 32 := 0#32
  let c0_i32_838 : BitVec 32 := 0#32
  ![v1281.toNat, 0, 0]
def k0_off261 (v1283 : BitVec 32) : Fin 3 → Nat :=
  let c0_i32_839 : BitVec 32 := 0#32
  let c0_i32_840 : BitVec 32 := 0#32
  ![v1283.toNat, 0, 0]

def k0_chk87 (k0_t1 : Fin k0_t1_loop.trips) (v1283 : BitVec 32) : Prop :=
  (∀ (k0_h44 : k0_cond44 k0_t1 = 1#1), ∀ a, (k0_off261 v1283) a + S1x8x128.size a ≤ S13312x8x128.size a) ∧
  (∀ (k0_h44 : k0_cond44 k0_t1 = 1#1), ∀ (hinb : ∀ a, (k0_off261 v1283) a + S1x8x128.size a ≤ S13312x8x128.size a), (Rect.unit (s := S13312x8x128) (k0_off261 v1283) S1x8x128.size hinb).WholeWords (EltTy.packing .bf16))
theorem k0_off261_inb : ∀ (k0_t1 : Fin k0_t1_loop.trips) (v1283 : BitVec 32) (k0_hw87 : k0_chk87 k0_t1 v1283), ∀ (k0_h44 : k0_cond44 k0_t1 = 1#1), ∀ a, (k0_off261 v1283) a + S1x8x128.size a ≤ S13312x8x128.size a := fun k0_t1 v1283 k0_hw87 k0_h44 => k0_hw87.1 k0_h44
theorem k0_off261_wordsbf16 : ∀ (k0_t1 : Fin k0_t1_loop.trips) (v1283 : BitVec 32) (k0_hw87 : k0_chk87 k0_t1 v1283), ∀ (k0_h44 : k0_cond44 k0_t1 = 1#1), (Rect.unit (s := S13312x8x128) (k0_off261 v1283) S1x8x128.size (k0_off261_inb k0_t1 v1283 k0_hw87 k0_h44)).WholeWords (EltTy.packing .bf16) := fun k0_t1 v1283 k0_hw87 k0_h44 => k0_hw87.2 k0_h44 (k0_off261_inb k0_t1 v1283 k0_hw87 k0_h44)

def k0_off262 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let v1013 : Index := Scalar.indexCast v1009
  ![v1013.toNat]
def k0_off263 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_646 : BitVec 32 := 64#32
  let v1008 : BitVec 32 := Scalar.muli arg4 c64_i32_646
  let c43_i32_647 : BitVec 32 := 43#32
  let v1009 : BitVec 32 := Scalar.addi v1008 c43_i32_647
  let c0_i32_651 : BitVec 32 := 0#32
  let c0_i32_652 : BitVec 32 := 0#32
  ![v1009.toNat, 0, 0]
def k0_off264 (v1014 : BitVec 32) : Fin 3 → Nat :=
  let c0_i32_653 : BitVec 32 := 0#32
  let c0_i32_654 : BitVec 32 := 0#32
  ![v1014.toNat, 0, 0]

def k0_chk88 (v1014 : BitVec 32) : Prop :=
  (∀ a, (k0_off264 v1014) a + S1x8x128.size a ≤ S13312x8x128.size a) ∧
  (∀ (hinb : ∀ a, (k0_off264 v1014) a + S1x8x128.size a ≤ S13312x8x128.size a), (Rect.unit (s := S13312x8x128) (k0_off264 v1014) S1x8x128.size hinb).WholeWords (EltTy.packing .bf16))
theorem k0_off264_inb : ∀ (v1014 : BitVec 32) (k0_hw88 : k0_chk88 v1014), ∀ a, (k0_off264 v1014) a + S1x8x128.size a ≤ S13312x8x128.size a := fun v1014 k0_hw88 => k0_hw88.1
theorem k0_off264_wordsbf16 : ∀ (v1014 : BitVec 32) (k0_hw88 : k0_chk88 v1014), (Rect.unit (s := S13312x8x128) (k0_off264 v1014) S1x8x128.size (k0_off264_inb v1014 k0_hw88)).WholeWords (EltTy.packing .bf16) := fun v1014 k0_hw88 => k0_hw88.2 (k0_off264_inb v1014 k0_hw88)

def k0_cond45 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_657 : BitVec 32 := 0#32
  let v1023 : BitVec 1 := Scalar.cmpi .sgt arg4 c0_i32_657
  let v1024 : BitVec 32 := Scalar.extui v1023
  let c0_i32_658 : BitVec 32 := 0#32
  let v1025 : BitVec 1 := Scalar.cmpi .ne v1024 c0_i32_658
  v1025

def k0_off265 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let v1282 : Index := Scalar.indexCast v1281
  ![v1282.toNat]
def k0_off266 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c64_i32_835 : BitVec 32 := 64#32
  let v1281 : BitVec 32 := Scalar.subi v1022 c64_i32_835
  let c0_i32_837 : BitVec 32 := 0#32
  let c0_i32_838 : BitVec 32 := 0#32
  ![v1281.toNat, 0, 0]
def k0_off267 (v1283 : BitVec 32) : Fin 3 → Nat :=
  let c0_i32_839 : BitVec 32 := 0#32
  let c0_i32_840 : BitVec 32 := 0#32
  ![v1283.toNat, 0, 0]

def k0_chk89 (k0_t1 : Fin k0_t1_loop.trips) (v1283 : BitVec 32) : Prop :=
  (∀ (k0_h45 : k0_cond45 k0_t1 = 1#1), ∀ a, (k0_off267 v1283) a + S1x8x128.size a ≤ S13312x8x128.size a) ∧
  (∀ (k0_h45 : k0_cond45 k0_t1 = 1#1), ∀ (hinb : ∀ a, (k0_off267 v1283) a + S1x8x128.size a ≤ S13312x8x128.size a), (Rect.unit (s := S13312x8x128) (k0_off267 v1283) S1x8x128.size hinb).WholeWords (EltTy.packing .bf16))
theorem k0_off267_inb : ∀ (k0_t1 : Fin k0_t1_loop.trips) (v1283 : BitVec 32) (k0_hw89 : k0_chk89 k0_t1 v1283), ∀ (k0_h45 : k0_cond45 k0_t1 = 1#1), ∀ a, (k0_off267 v1283) a + S1x8x128.size a ≤ S13312x8x128.size a := fun k0_t1 v1283 k0_hw89 k0_h45 => k0_hw89.1 k0_h45
theorem k0_off267_wordsbf16 : ∀ (k0_t1 : Fin k0_t1_loop.trips) (v1283 : BitVec 32) (k0_hw89 : k0_chk89 k0_t1 v1283), ∀ (k0_h45 : k0_cond45 k0_t1 = 1#1), (Rect.unit (s := S13312x8x128) (k0_off267 v1283) S1x8x128.size (k0_off267_inb k0_t1 v1283 k0_hw89 k0_h45)).WholeWords (EltTy.packing .bf16) := fun k0_t1 v1283 k0_hw89 k0_h45 => k0_hw89.2 k0_h45 (k0_off267_inb k0_t1 v1283 k0_hw89 k0_h45)

def k0_off268 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let v1026 : Index := Scalar.indexCast v1022
  ![v1026.toNat]
def k0_off269 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_655 : BitVec 32 := 64#32
  let v1021 : BitVec 32 := Scalar.muli arg4 c64_i32_655
  let c44_i32_656 : BitVec 32 := 44#32
  let v1022 : BitVec 32 := Scalar.addi v1021 c44_i32_656
  let c0_i32_660 : BitVec 32 := 0#32
  let c0_i32_661 : BitVec 32 := 0#32
  ![v1022.toNat, 0, 0]
def k0_off270 (v1027 : BitVec 32) : Fin 3 → Nat :=
  let c0_i32_662 : BitVec 32 := 0#32
  let c0_i32_663 : BitVec 32 := 0#32
  ![v1027.toNat, 0, 0]

def k0_chk90 (v1027 : BitVec 32) : Prop :=
  (∀ a, (k0_off270 v1027) a + S1x8x128.size a ≤ S13312x8x128.size a) ∧
  (∀ (hinb : ∀ a, (k0_off270 v1027) a + S1x8x128.size a ≤ S13312x8x128.size a), (Rect.unit (s := S13312x8x128) (k0_off270 v1027) S1x8x128.size hinb).WholeWords (EltTy.packing .bf16))
theorem k0_off270_inb : ∀ (v1027 : BitVec 32) (k0_hw90 : k0_chk90 v1027), ∀ a, (k0_off270 v1027) a + S1x8x128.size a ≤ S13312x8x128.size a := fun v1027 k0_hw90 => k0_hw90.1
theorem k0_off270_wordsbf16 : ∀ (v1027 : BitVec 32) (k0_hw90 : k0_chk90 v1027), (Rect.unit (s := S13312x8x128) (k0_off270 v1027) S1x8x128.size (k0_off270_inb v1027 k0_hw90)).WholeWords (EltTy.packing .bf16) := fun v1027 k0_hw90 => k0_hw90.2 (k0_off270_inb v1027 k0_hw90)

def k0_cond46 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_666 : BitVec 32 := 0#32
  let v1036 : BitVec 1 := Scalar.cmpi .sgt arg4 c0_i32_666
  let v1037 : BitVec 32 := Scalar.extui v1036
  let c0_i32_667 : BitVec 32 := 0#32
  let v1038 : BitVec 1 := Scalar.cmpi .ne v1037 c0_i32_667
  v1038

def k0_off271 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let v1282 : Index := Scalar.indexCast v1281
  ![v1282.toNat]
def k0_off272 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c64_i32_835 : BitVec 32 := 64#32
  let v1281 : BitVec 32 := Scalar.subi v1035 c64_i32_835
  let c0_i32_837 : BitVec 32 := 0#32
  let c0_i32_838 : BitVec 32 := 0#32
  ![v1281.toNat, 0, 0]
def k0_off273 (v1283 : BitVec 32) : Fin 3 → Nat :=
  let c0_i32_839 : BitVec 32 := 0#32
  let c0_i32_840 : BitVec 32 := 0#32
  ![v1283.toNat, 0, 0]

def k0_chk91 (k0_t1 : Fin k0_t1_loop.trips) (v1283 : BitVec 32) : Prop :=
  (∀ (k0_h46 : k0_cond46 k0_t1 = 1#1), ∀ a, (k0_off273 v1283) a + S1x8x128.size a ≤ S13312x8x128.size a) ∧
  (∀ (k0_h46 : k0_cond46 k0_t1 = 1#1), ∀ (hinb : ∀ a, (k0_off273 v1283) a + S1x8x128.size a ≤ S13312x8x128.size a), (Rect.unit (s := S13312x8x128) (k0_off273 v1283) S1x8x128.size hinb).WholeWords (EltTy.packing .bf16))
theorem k0_off273_inb : ∀ (k0_t1 : Fin k0_t1_loop.trips) (v1283 : BitVec 32) (k0_hw91 : k0_chk91 k0_t1 v1283), ∀ (k0_h46 : k0_cond46 k0_t1 = 1#1), ∀ a, (k0_off273 v1283) a + S1x8x128.size a ≤ S13312x8x128.size a := fun k0_t1 v1283 k0_hw91 k0_h46 => k0_hw91.1 k0_h46
theorem k0_off273_wordsbf16 : ∀ (k0_t1 : Fin k0_t1_loop.trips) (v1283 : BitVec 32) (k0_hw91 : k0_chk91 k0_t1 v1283), ∀ (k0_h46 : k0_cond46 k0_t1 = 1#1), (Rect.unit (s := S13312x8x128) (k0_off273 v1283) S1x8x128.size (k0_off273_inb k0_t1 v1283 k0_hw91 k0_h46)).WholeWords (EltTy.packing .bf16) := fun k0_t1 v1283 k0_hw91 k0_h46 => k0_hw91.2 k0_h46 (k0_off273_inb k0_t1 v1283 k0_hw91 k0_h46)

def k0_off274 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let v1039 : Index := Scalar.indexCast v1035
  ![v1039.toNat]
def k0_off275 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_664 : BitVec 32 := 64#32
  let v1034 : BitVec 32 := Scalar.muli arg4 c64_i32_664
  let c45_i32_665 : BitVec 32 := 45#32
  let v1035 : BitVec 32 := Scalar.addi v1034 c45_i32_665
  let c0_i32_669 : BitVec 32 := 0#32
  let c0_i32_670 : BitVec 32 := 0#32
  ![v1035.toNat, 0, 0]
def k0_off276 (v1040 : BitVec 32) : Fin 3 → Nat :=
  let c0_i32_671 : BitVec 32 := 0#32
  let c0_i32_672 : BitVec 32 := 0#32
  ![v1040.toNat, 0, 0]

def k0_chk92 (v1040 : BitVec 32) : Prop :=
  (∀ a, (k0_off276 v1040) a + S1x8x128.size a ≤ S13312x8x128.size a) ∧
  (∀ (hinb : ∀ a, (k0_off276 v1040) a + S1x8x128.size a ≤ S13312x8x128.size a), (Rect.unit (s := S13312x8x128) (k0_off276 v1040) S1x8x128.size hinb).WholeWords (EltTy.packing .bf16))
theorem k0_off276_inb : ∀ (v1040 : BitVec 32) (k0_hw92 : k0_chk92 v1040), ∀ a, (k0_off276 v1040) a + S1x8x128.size a ≤ S13312x8x128.size a := fun v1040 k0_hw92 => k0_hw92.1
theorem k0_off276_wordsbf16 : ∀ (v1040 : BitVec 32) (k0_hw92 : k0_chk92 v1040), (Rect.unit (s := S13312x8x128) (k0_off276 v1040) S1x8x128.size (k0_off276_inb v1040 k0_hw92)).WholeWords (EltTy.packing .bf16) := fun v1040 k0_hw92 => k0_hw92.2 (k0_off276_inb v1040 k0_hw92)

def k0_cond47 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_675 : BitVec 32 := 0#32
  let v1049 : BitVec 1 := Scalar.cmpi .sgt arg4 c0_i32_675
  let v1050 : BitVec 32 := Scalar.extui v1049
  let c0_i32_676 : BitVec 32 := 0#32
  let v1051 : BitVec 1 := Scalar.cmpi .ne v1050 c0_i32_676
  v1051

def k0_off277 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let v1282 : Index := Scalar.indexCast v1281
  ![v1282.toNat]
def k0_off278 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c64_i32_835 : BitVec 32 := 64#32
  let v1281 : BitVec 32 := Scalar.subi v1048 c64_i32_835
  let c0_i32_837 : BitVec 32 := 0#32
  let c0_i32_838 : BitVec 32 := 0#32
  ![v1281.toNat, 0, 0]
def k0_off279 (v1283 : BitVec 32) : Fin 3 → Nat :=
  let c0_i32_839 : BitVec 32 := 0#32
  let c0_i32_840 : BitVec 32 := 0#32
  ![v1283.toNat, 0, 0]

def k0_chk93 (k0_t1 : Fin k0_t1_loop.trips) (v1283 : BitVec 32) : Prop :=
  (∀ (k0_h47 : k0_cond47 k0_t1 = 1#1), ∀ a, (k0_off279 v1283) a + S1x8x128.size a ≤ S13312x8x128.size a) ∧
  (∀ (k0_h47 : k0_cond47 k0_t1 = 1#1), ∀ (hinb : ∀ a, (k0_off279 v1283) a + S1x8x128.size a ≤ S13312x8x128.size a), (Rect.unit (s := S13312x8x128) (k0_off279 v1283) S1x8x128.size hinb).WholeWords (EltTy.packing .bf16))
theorem k0_off279_inb : ∀ (k0_t1 : Fin k0_t1_loop.trips) (v1283 : BitVec 32) (k0_hw93 : k0_chk93 k0_t1 v1283), ∀ (k0_h47 : k0_cond47 k0_t1 = 1#1), ∀ a, (k0_off279 v1283) a + S1x8x128.size a ≤ S13312x8x128.size a := fun k0_t1 v1283 k0_hw93 k0_h47 => k0_hw93.1 k0_h47
theorem k0_off279_wordsbf16 : ∀ (k0_t1 : Fin k0_t1_loop.trips) (v1283 : BitVec 32) (k0_hw93 : k0_chk93 k0_t1 v1283), ∀ (k0_h47 : k0_cond47 k0_t1 = 1#1), (Rect.unit (s := S13312x8x128) (k0_off279 v1283) S1x8x128.size (k0_off279_inb k0_t1 v1283 k0_hw93 k0_h47)).WholeWords (EltTy.packing .bf16) := fun k0_t1 v1283 k0_hw93 k0_h47 => k0_hw93.2 k0_h47 (k0_off279_inb k0_t1 v1283 k0_hw93 k0_h47)

def k0_off280 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let v1052 : Index := Scalar.indexCast v1048
  ![v1052.toNat]
def k0_off281 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_673 : BitVec 32 := 64#32
  let v1047 : BitVec 32 := Scalar.muli arg4 c64_i32_673
  let c46_i32_674 : BitVec 32 := 46#32
  let v1048 : BitVec 32 := Scalar.addi v1047 c46_i32_674
  let c0_i32_678 : BitVec 32 := 0#32
  let c0_i32_679 : BitVec 32 := 0#32
  ![v1048.toNat, 0, 0]
def k0_off282 (v1053 : BitVec 32) : Fin 3 → Nat :=
  let c0_i32_680 : BitVec 32 := 0#32
  let c0_i32_681 : BitVec 32 := 0#32
  ![v1053.toNat, 0, 0]

def k0_chk94 (v1053 : BitVec 32) : Prop :=
  (∀ a, (k0_off282 v1053) a + S1x8x128.size a ≤ S13312x8x128.size a) ∧
  (∀ (hinb : ∀ a, (k0_off282 v1053) a + S1x8x128.size a ≤ S13312x8x128.size a), (Rect.unit (s := S13312x8x128) (k0_off282 v1053) S1x8x128.size hinb).WholeWords (EltTy.packing .bf16))
theorem k0_off282_inb : ∀ (v1053 : BitVec 32) (k0_hw94 : k0_chk94 v1053), ∀ a, (k0_off282 v1053) a + S1x8x128.size a ≤ S13312x8x128.size a := fun v1053 k0_hw94 => k0_hw94.1
theorem k0_off282_wordsbf16 : ∀ (v1053 : BitVec 32) (k0_hw94 : k0_chk94 v1053), (Rect.unit (s := S13312x8x128) (k0_off282 v1053) S1x8x128.size (k0_off282_inb v1053 k0_hw94)).WholeWords (EltTy.packing .bf16) := fun v1053 k0_hw94 => k0_hw94.2 (k0_off282_inb v1053 k0_hw94)

def k0_cond48 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_684 : BitVec 32 := 0#32
  let v1062 : BitVec 1 := Scalar.cmpi .sgt arg4 c0_i32_684
  let v1063 : BitVec 32 := Scalar.extui v1062
  let c0_i32_685 : BitVec 32 := 0#32
  let v1064 : BitVec 1 := Scalar.cmpi .ne v1063 c0_i32_685
  v1064

def k0_off283 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let v1282 : Index := Scalar.indexCast v1281
  ![v1282.toNat]
def k0_off284 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c64_i32_835 : BitVec 32 := 64#32
  let v1281 : BitVec 32 := Scalar.subi v1061 c64_i32_835
  let c0_i32_837 : BitVec 32 := 0#32
  let c0_i32_838 : BitVec 32 := 0#32
  ![v1281.toNat, 0, 0]
def k0_off285 (v1283 : BitVec 32) : Fin 3 → Nat :=
  let c0_i32_839 : BitVec 32 := 0#32
  let c0_i32_840 : BitVec 32 := 0#32
  ![v1283.toNat, 0, 0]

def k0_chk95 (k0_t1 : Fin k0_t1_loop.trips) (v1283 : BitVec 32) : Prop :=
  (∀ (k0_h48 : k0_cond48 k0_t1 = 1#1), ∀ a, (k0_off285 v1283) a + S1x8x128.size a ≤ S13312x8x128.size a) ∧
  (∀ (k0_h48 : k0_cond48 k0_t1 = 1#1), ∀ (hinb : ∀ a, (k0_off285 v1283) a + S1x8x128.size a ≤ S13312x8x128.size a), (Rect.unit (s := S13312x8x128) (k0_off285 v1283) S1x8x128.size hinb).WholeWords (EltTy.packing .bf16))
theorem k0_off285_inb : ∀ (k0_t1 : Fin k0_t1_loop.trips) (v1283 : BitVec 32) (k0_hw95 : k0_chk95 k0_t1 v1283), ∀ (k0_h48 : k0_cond48 k0_t1 = 1#1), ∀ a, (k0_off285 v1283) a + S1x8x128.size a ≤ S13312x8x128.size a := fun k0_t1 v1283 k0_hw95 k0_h48 => k0_hw95.1 k0_h48
theorem k0_off285_wordsbf16 : ∀ (k0_t1 : Fin k0_t1_loop.trips) (v1283 : BitVec 32) (k0_hw95 : k0_chk95 k0_t1 v1283), ∀ (k0_h48 : k0_cond48 k0_t1 = 1#1), (Rect.unit (s := S13312x8x128) (k0_off285 v1283) S1x8x128.size (k0_off285_inb k0_t1 v1283 k0_hw95 k0_h48)).WholeWords (EltTy.packing .bf16) := fun k0_t1 v1283 k0_hw95 k0_h48 => k0_hw95.2 k0_h48 (k0_off285_inb k0_t1 v1283 k0_hw95 k0_h48)

def k0_off286 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let v1065 : Index := Scalar.indexCast v1061
  ![v1065.toNat]
def k0_off287 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_682 : BitVec 32 := 64#32
  let v1060 : BitVec 32 := Scalar.muli arg4 c64_i32_682
  let c47_i32_683 : BitVec 32 := 47#32
  let v1061 : BitVec 32 := Scalar.addi v1060 c47_i32_683
  let c0_i32_687 : BitVec 32 := 0#32
  let c0_i32_688 : BitVec 32 := 0#32
  ![v1061.toNat, 0, 0]
def k0_off288 (v1066 : BitVec 32) : Fin 3 → Nat :=
  let c0_i32_689 : BitVec 32 := 0#32
  let c0_i32_690 : BitVec 32 := 0#32
  ![v1066.toNat, 0, 0]

def k0_chk96 (v1066 : BitVec 32) : Prop :=
  (∀ a, (k0_off288 v1066) a + S1x8x128.size a ≤ S13312x8x128.size a) ∧
  (∀ (hinb : ∀ a, (k0_off288 v1066) a + S1x8x128.size a ≤ S13312x8x128.size a), (Rect.unit (s := S13312x8x128) (k0_off288 v1066) S1x8x128.size hinb).WholeWords (EltTy.packing .bf16))
theorem k0_off288_inb : ∀ (v1066 : BitVec 32) (k0_hw96 : k0_chk96 v1066), ∀ a, (k0_off288 v1066) a + S1x8x128.size a ≤ S13312x8x128.size a := fun v1066 k0_hw96 => k0_hw96.1
theorem k0_off288_wordsbf16 : ∀ (v1066 : BitVec 32) (k0_hw96 : k0_chk96 v1066), (Rect.unit (s := S13312x8x128) (k0_off288 v1066) S1x8x128.size (k0_off288_inb v1066 k0_hw96)).WholeWords (EltTy.packing .bf16) := fun v1066 k0_hw96 => k0_hw96.2 (k0_off288_inb v1066 k0_hw96)

def k0_cond49 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_693 : BitVec 32 := 0#32
  let v1075 : BitVec 1 := Scalar.cmpi .sgt arg4 c0_i32_693
  let v1076 : BitVec 32 := Scalar.extui v1075
  let c0_i32_694 : BitVec 32 := 0#32
  let v1077 : BitVec 1 := Scalar.cmpi .ne v1076 c0_i32_694
  v1077

def k0_off289 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let v1282 : Index := Scalar.indexCast v1281
  ![v1282.toNat]
def k0_off290 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c64_i32_835 : BitVec 32 := 64#32
  let v1281 : BitVec 32 := Scalar.subi v1074 c64_i32_835
  let c0_i32_837 : BitVec 32 := 0#32
  let c0_i32_838 : BitVec 32 := 0#32
  ![v1281.toNat, 0, 0]
def k0_off291 (v1283 : BitVec 32) : Fin 3 → Nat :=
  let c0_i32_839 : BitVec 32 := 0#32
  let c0_i32_840 : BitVec 32 := 0#32
  ![v1283.toNat, 0, 0]

def k0_chk97 (k0_t1 : Fin k0_t1_loop.trips) (v1283 : BitVec 32) : Prop :=
  (∀ (k0_h49 : k0_cond49 k0_t1 = 1#1), ∀ a, (k0_off291 v1283) a + S1x8x128.size a ≤ S13312x8x128.size a) ∧
  (∀ (k0_h49 : k0_cond49 k0_t1 = 1#1), ∀ (hinb : ∀ a, (k0_off291 v1283) a + S1x8x128.size a ≤ S13312x8x128.size a), (Rect.unit (s := S13312x8x128) (k0_off291 v1283) S1x8x128.size hinb).WholeWords (EltTy.packing .bf16))
theorem k0_off291_inb : ∀ (k0_t1 : Fin k0_t1_loop.trips) (v1283 : BitVec 32) (k0_hw97 : k0_chk97 k0_t1 v1283), ∀ (k0_h49 : k0_cond49 k0_t1 = 1#1), ∀ a, (k0_off291 v1283) a + S1x8x128.size a ≤ S13312x8x128.size a := fun k0_t1 v1283 k0_hw97 k0_h49 => k0_hw97.1 k0_h49
theorem k0_off291_wordsbf16 : ∀ (k0_t1 : Fin k0_t1_loop.trips) (v1283 : BitVec 32) (k0_hw97 : k0_chk97 k0_t1 v1283), ∀ (k0_h49 : k0_cond49 k0_t1 = 1#1), (Rect.unit (s := S13312x8x128) (k0_off291 v1283) S1x8x128.size (k0_off291_inb k0_t1 v1283 k0_hw97 k0_h49)).WholeWords (EltTy.packing .bf16) := fun k0_t1 v1283 k0_hw97 k0_h49 => k0_hw97.2 k0_h49 (k0_off291_inb k0_t1 v1283 k0_hw97 k0_h49)

def k0_off292 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let v1078 : Index := Scalar.indexCast v1074
  ![v1078.toNat]
def k0_off293 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_691 : BitVec 32 := 64#32
  let v1073 : BitVec 32 := Scalar.muli arg4 c64_i32_691
  let c48_i32_692 : BitVec 32 := 48#32
  let v1074 : BitVec 32 := Scalar.addi v1073 c48_i32_692
  let c0_i32_696 : BitVec 32 := 0#32
  let c0_i32_697 : BitVec 32 := 0#32
  ![v1074.toNat, 0, 0]
def k0_off294 (v1079 : BitVec 32) : Fin 3 → Nat :=
  let c0_i32_698 : BitVec 32 := 0#32
  let c0_i32_699 : BitVec 32 := 0#32
  ![v1079.toNat, 0, 0]

def k0_chk98 (v1079 : BitVec 32) : Prop :=
  (∀ a, (k0_off294 v1079) a + S1x8x128.size a ≤ S13312x8x128.size a) ∧
  (∀ (hinb : ∀ a, (k0_off294 v1079) a + S1x8x128.size a ≤ S13312x8x128.size a), (Rect.unit (s := S13312x8x128) (k0_off294 v1079) S1x8x128.size hinb).WholeWords (EltTy.packing .bf16))
theorem k0_off294_inb : ∀ (v1079 : BitVec 32) (k0_hw98 : k0_chk98 v1079), ∀ a, (k0_off294 v1079) a + S1x8x128.size a ≤ S13312x8x128.size a := fun v1079 k0_hw98 => k0_hw98.1
theorem k0_off294_wordsbf16 : ∀ (v1079 : BitVec 32) (k0_hw98 : k0_chk98 v1079), (Rect.unit (s := S13312x8x128) (k0_off294 v1079) S1x8x128.size (k0_off294_inb v1079 k0_hw98)).WholeWords (EltTy.packing .bf16) := fun v1079 k0_hw98 => k0_hw98.2 (k0_off294_inb v1079 k0_hw98)

def k0_cond50 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_702 : BitVec 32 := 0#32
  let v1088 : BitVec 1 := Scalar.cmpi .sgt arg4 c0_i32_702
  let v1089 : BitVec 32 := Scalar.extui v1088
  let c0_i32_703 : BitVec 32 := 0#32
  let v1090 : BitVec 1 := Scalar.cmpi .ne v1089 c0_i32_703
  v1090

def k0_off295 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let v1282 : Index := Scalar.indexCast v1281
  ![v1282.toNat]
def k0_off296 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c64_i32_835 : BitVec 32 := 64#32
  let v1281 : BitVec 32 := Scalar.subi v1087 c64_i32_835
  let c0_i32_837 : BitVec 32 := 0#32
  let c0_i32_838 : BitVec 32 := 0#32
  ![v1281.toNat, 0, 0]
def k0_off297 (v1283 : BitVec 32) : Fin 3 → Nat :=
  let c0_i32_839 : BitVec 32 := 0#32
  let c0_i32_840 : BitVec 32 := 0#32
  ![v1283.toNat, 0, 0]

def k0_chk99 (k0_t1 : Fin k0_t1_loop.trips) (v1283 : BitVec 32) : Prop :=
  (∀ (k0_h50 : k0_cond50 k0_t1 = 1#1), ∀ a, (k0_off297 v1283) a + S1x8x128.size a ≤ S13312x8x128.size a) ∧
  (∀ (k0_h50 : k0_cond50 k0_t1 = 1#1), ∀ (hinb : ∀ a, (k0_off297 v1283) a + S1x8x128.size a ≤ S13312x8x128.size a), (Rect.unit (s := S13312x8x128) (k0_off297 v1283) S1x8x128.size hinb).WholeWords (EltTy.packing .bf16))
theorem k0_off297_inb : ∀ (k0_t1 : Fin k0_t1_loop.trips) (v1283 : BitVec 32) (k0_hw99 : k0_chk99 k0_t1 v1283), ∀ (k0_h50 : k0_cond50 k0_t1 = 1#1), ∀ a, (k0_off297 v1283) a + S1x8x128.size a ≤ S13312x8x128.size a := fun k0_t1 v1283 k0_hw99 k0_h50 => k0_hw99.1 k0_h50
theorem k0_off297_wordsbf16 : ∀ (k0_t1 : Fin k0_t1_loop.trips) (v1283 : BitVec 32) (k0_hw99 : k0_chk99 k0_t1 v1283), ∀ (k0_h50 : k0_cond50 k0_t1 = 1#1), (Rect.unit (s := S13312x8x128) (k0_off297 v1283) S1x8x128.size (k0_off297_inb k0_t1 v1283 k0_hw99 k0_h50)).WholeWords (EltTy.packing .bf16) := fun k0_t1 v1283 k0_hw99 k0_h50 => k0_hw99.2 k0_h50 (k0_off297_inb k0_t1 v1283 k0_hw99 k0_h50)

def k0_off298 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let v1091 : Index := Scalar.indexCast v1087
  ![v1091.toNat]
def k0_off299 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_700 : BitVec 32 := 64#32
  let v1086 : BitVec 32 := Scalar.muli arg4 c64_i32_700
  let c49_i32_701 : BitVec 32 := 49#32
  let v1087 : BitVec 32 := Scalar.addi v1086 c49_i32_701
  let c0_i32_705 : BitVec 32 := 0#32
  let c0_i32_706 : BitVec 32 := 0#32
  ![v1087.toNat, 0, 0]
def k0_off300 (v1092 : BitVec 32) : Fin 3 → Nat :=
  let c0_i32_707 : BitVec 32 := 0#32
  let c0_i32_708 : BitVec 32 := 0#32
  ![v1092.toNat, 0, 0]

def k0_chk100 (v1092 : BitVec 32) : Prop :=
  (∀ a, (k0_off300 v1092) a + S1x8x128.size a ≤ S13312x8x128.size a) ∧
  (∀ (hinb : ∀ a, (k0_off300 v1092) a + S1x8x128.size a ≤ S13312x8x128.size a), (Rect.unit (s := S13312x8x128) (k0_off300 v1092) S1x8x128.size hinb).WholeWords (EltTy.packing .bf16))
theorem k0_off300_inb : ∀ (v1092 : BitVec 32) (k0_hw100 : k0_chk100 v1092), ∀ a, (k0_off300 v1092) a + S1x8x128.size a ≤ S13312x8x128.size a := fun v1092 k0_hw100 => k0_hw100.1
theorem k0_off300_wordsbf16 : ∀ (v1092 : BitVec 32) (k0_hw100 : k0_chk100 v1092), (Rect.unit (s := S13312x8x128) (k0_off300 v1092) S1x8x128.size (k0_off300_inb v1092 k0_hw100)).WholeWords (EltTy.packing .bf16) := fun v1092 k0_hw100 => k0_hw100.2 (k0_off300_inb v1092 k0_hw100)

def k0_cond51 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_711 : BitVec 32 := 0#32
  let v1101 : BitVec 1 := Scalar.cmpi .sgt arg4 c0_i32_711
  let v1102 : BitVec 32 := Scalar.extui v1101
  let c0_i32_712 : BitVec 32 := 0#32
  let v1103 : BitVec 1 := Scalar.cmpi .ne v1102 c0_i32_712
  v1103

def k0_off301 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let v1282 : Index := Scalar.indexCast v1281
  ![v1282.toNat]
def k0_off302 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c64_i32_835 : BitVec 32 := 64#32
  let v1281 : BitVec 32 := Scalar.subi v1100 c64_i32_835
  let c0_i32_837 : BitVec 32 := 0#32
  let c0_i32_838 : BitVec 32 := 0#32
  ![v1281.toNat, 0, 0]
def k0_off303 (v1283 : BitVec 32) : Fin 3 → Nat :=
  let c0_i32_839 : BitVec 32 := 0#32
  let c0_i32_840 : BitVec 32 := 0#32
  ![v1283.toNat, 0, 0]

def k0_chk101 (k0_t1 : Fin k0_t1_loop.trips) (v1283 : BitVec 32) : Prop :=
  (∀ (k0_h51 : k0_cond51 k0_t1 = 1#1), ∀ a, (k0_off303 v1283) a + S1x8x128.size a ≤ S13312x8x128.size a) ∧
  (∀ (k0_h51 : k0_cond51 k0_t1 = 1#1), ∀ (hinb : ∀ a, (k0_off303 v1283) a + S1x8x128.size a ≤ S13312x8x128.size a), (Rect.unit (s := S13312x8x128) (k0_off303 v1283) S1x8x128.size hinb).WholeWords (EltTy.packing .bf16))
theorem k0_off303_inb : ∀ (k0_t1 : Fin k0_t1_loop.trips) (v1283 : BitVec 32) (k0_hw101 : k0_chk101 k0_t1 v1283), ∀ (k0_h51 : k0_cond51 k0_t1 = 1#1), ∀ a, (k0_off303 v1283) a + S1x8x128.size a ≤ S13312x8x128.size a := fun k0_t1 v1283 k0_hw101 k0_h51 => k0_hw101.1 k0_h51
theorem k0_off303_wordsbf16 : ∀ (k0_t1 : Fin k0_t1_loop.trips) (v1283 : BitVec 32) (k0_hw101 : k0_chk101 k0_t1 v1283), ∀ (k0_h51 : k0_cond51 k0_t1 = 1#1), (Rect.unit (s := S13312x8x128) (k0_off303 v1283) S1x8x128.size (k0_off303_inb k0_t1 v1283 k0_hw101 k0_h51)).WholeWords (EltTy.packing .bf16) := fun k0_t1 v1283 k0_hw101 k0_h51 => k0_hw101.2 k0_h51 (k0_off303_inb k0_t1 v1283 k0_hw101 k0_h51)

def k0_off304 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let v1104 : Index := Scalar.indexCast v1100
  ![v1104.toNat]
def k0_off305 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_709 : BitVec 32 := 64#32
  let v1099 : BitVec 32 := Scalar.muli arg4 c64_i32_709
  let c50_i32_710 : BitVec 32 := 50#32
  let v1100 : BitVec 32 := Scalar.addi v1099 c50_i32_710
  let c0_i32_714 : BitVec 32 := 0#32
  let c0_i32_715 : BitVec 32 := 0#32
  ![v1100.toNat, 0, 0]
def k0_off306 (v1105 : BitVec 32) : Fin 3 → Nat :=
  let c0_i32_716 : BitVec 32 := 0#32
  let c0_i32_717 : BitVec 32 := 0#32
  ![v1105.toNat, 0, 0]

def k0_chk102 (v1105 : BitVec 32) : Prop :=
  (∀ a, (k0_off306 v1105) a + S1x8x128.size a ≤ S13312x8x128.size a) ∧
  (∀ (hinb : ∀ a, (k0_off306 v1105) a + S1x8x128.size a ≤ S13312x8x128.size a), (Rect.unit (s := S13312x8x128) (k0_off306 v1105) S1x8x128.size hinb).WholeWords (EltTy.packing .bf16))
theorem k0_off306_inb : ∀ (v1105 : BitVec 32) (k0_hw102 : k0_chk102 v1105), ∀ a, (k0_off306 v1105) a + S1x8x128.size a ≤ S13312x8x128.size a := fun v1105 k0_hw102 => k0_hw102.1
theorem k0_off306_wordsbf16 : ∀ (v1105 : BitVec 32) (k0_hw102 : k0_chk102 v1105), (Rect.unit (s := S13312x8x128) (k0_off306 v1105) S1x8x128.size (k0_off306_inb v1105 k0_hw102)).WholeWords (EltTy.packing .bf16) := fun v1105 k0_hw102 => k0_hw102.2 (k0_off306_inb v1105 k0_hw102)

def k0_cond52 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_720 : BitVec 32 := 0#32
  let v1114 : BitVec 1 := Scalar.cmpi .sgt arg4 c0_i32_720
  let v1115 : BitVec 32 := Scalar.extui v1114
  let c0_i32_721 : BitVec 32 := 0#32
  let v1116 : BitVec 1 := Scalar.cmpi .ne v1115 c0_i32_721
  v1116

def k0_off307 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let v1282 : Index := Scalar.indexCast v1281
  ![v1282.toNat]
def k0_off308 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c64_i32_835 : BitVec 32 := 64#32
  let v1281 : BitVec 32 := Scalar.subi v1113 c64_i32_835
  let c0_i32_837 : BitVec 32 := 0#32
  let c0_i32_838 : BitVec 32 := 0#32
  ![v1281.toNat, 0, 0]
def k0_off309 (v1283 : BitVec 32) : Fin 3 → Nat :=
  let c0_i32_839 : BitVec 32 := 0#32
  let c0_i32_840 : BitVec 32 := 0#32
  ![v1283.toNat, 0, 0]

def k0_chk103 (k0_t1 : Fin k0_t1_loop.trips) (v1283 : BitVec 32) : Prop :=
  (∀ (k0_h52 : k0_cond52 k0_t1 = 1#1), ∀ a, (k0_off309 v1283) a + S1x8x128.size a ≤ S13312x8x128.size a) ∧
  (∀ (k0_h52 : k0_cond52 k0_t1 = 1#1), ∀ (hinb : ∀ a, (k0_off309 v1283) a + S1x8x128.size a ≤ S13312x8x128.size a), (Rect.unit (s := S13312x8x128) (k0_off309 v1283) S1x8x128.size hinb).WholeWords (EltTy.packing .bf16))
theorem k0_off309_inb : ∀ (k0_t1 : Fin k0_t1_loop.trips) (v1283 : BitVec 32) (k0_hw103 : k0_chk103 k0_t1 v1283), ∀ (k0_h52 : k0_cond52 k0_t1 = 1#1), ∀ a, (k0_off309 v1283) a + S1x8x128.size a ≤ S13312x8x128.size a := fun k0_t1 v1283 k0_hw103 k0_h52 => k0_hw103.1 k0_h52
theorem k0_off309_wordsbf16 : ∀ (k0_t1 : Fin k0_t1_loop.trips) (v1283 : BitVec 32) (k0_hw103 : k0_chk103 k0_t1 v1283), ∀ (k0_h52 : k0_cond52 k0_t1 = 1#1), (Rect.unit (s := S13312x8x128) (k0_off309 v1283) S1x8x128.size (k0_off309_inb k0_t1 v1283 k0_hw103 k0_h52)).WholeWords (EltTy.packing .bf16) := fun k0_t1 v1283 k0_hw103 k0_h52 => k0_hw103.2 k0_h52 (k0_off309_inb k0_t1 v1283 k0_hw103 k0_h52)

def k0_off310 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let v1117 : Index := Scalar.indexCast v1113
  ![v1117.toNat]
def k0_off311 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_718 : BitVec 32 := 64#32
  let v1112 : BitVec 32 := Scalar.muli arg4 c64_i32_718
  let c51_i32_719 : BitVec 32 := 51#32
  let v1113 : BitVec 32 := Scalar.addi v1112 c51_i32_719
  let c0_i32_723 : BitVec 32 := 0#32
  let c0_i32_724 : BitVec 32 := 0#32
  ![v1113.toNat, 0, 0]
def k0_off312 (v1118 : BitVec 32) : Fin 3 → Nat :=
  let c0_i32_725 : BitVec 32 := 0#32
  let c0_i32_726 : BitVec 32 := 0#32
  ![v1118.toNat, 0, 0]

def k0_chk104 (v1118 : BitVec 32) : Prop :=
  (∀ a, (k0_off312 v1118) a + S1x8x128.size a ≤ S13312x8x128.size a) ∧
  (∀ (hinb : ∀ a, (k0_off312 v1118) a + S1x8x128.size a ≤ S13312x8x128.size a), (Rect.unit (s := S13312x8x128) (k0_off312 v1118) S1x8x128.size hinb).WholeWords (EltTy.packing .bf16))
theorem k0_off312_inb : ∀ (v1118 : BitVec 32) (k0_hw104 : k0_chk104 v1118), ∀ a, (k0_off312 v1118) a + S1x8x128.size a ≤ S13312x8x128.size a := fun v1118 k0_hw104 => k0_hw104.1
theorem k0_off312_wordsbf16 : ∀ (v1118 : BitVec 32) (k0_hw104 : k0_chk104 v1118), (Rect.unit (s := S13312x8x128) (k0_off312 v1118) S1x8x128.size (k0_off312_inb v1118 k0_hw104)).WholeWords (EltTy.packing .bf16) := fun v1118 k0_hw104 => k0_hw104.2 (k0_off312_inb v1118 k0_hw104)

def k0_cond53 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_729 : BitVec 32 := 0#32
  let v1127 : BitVec 1 := Scalar.cmpi .sgt arg4 c0_i32_729
  let v1128 : BitVec 32 := Scalar.extui v1127
  let c0_i32_730 : BitVec 32 := 0#32
  let v1129 : BitVec 1 := Scalar.cmpi .ne v1128 c0_i32_730
  v1129

def k0_off313 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let v1282 : Index := Scalar.indexCast v1281
  ![v1282.toNat]
def k0_off314 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c64_i32_835 : BitVec 32 := 64#32
  let v1281 : BitVec 32 := Scalar.subi v1126 c64_i32_835
  let c0_i32_837 : BitVec 32 := 0#32
  let c0_i32_838 : BitVec 32 := 0#32
  ![v1281.toNat, 0, 0]
def k0_off315 (v1283 : BitVec 32) : Fin 3 → Nat :=
  let c0_i32_839 : BitVec 32 := 0#32
  let c0_i32_840 : BitVec 32 := 0#32
  ![v1283.toNat, 0, 0]

def k0_chk105 (k0_t1 : Fin k0_t1_loop.trips) (v1283 : BitVec 32) : Prop :=
  (∀ (k0_h53 : k0_cond53 k0_t1 = 1#1), ∀ a, (k0_off315 v1283) a + S1x8x128.size a ≤ S13312x8x128.size a) ∧
  (∀ (k0_h53 : k0_cond53 k0_t1 = 1#1), ∀ (hinb : ∀ a, (k0_off315 v1283) a + S1x8x128.size a ≤ S13312x8x128.size a), (Rect.unit (s := S13312x8x128) (k0_off315 v1283) S1x8x128.size hinb).WholeWords (EltTy.packing .bf16))
theorem k0_off315_inb : ∀ (k0_t1 : Fin k0_t1_loop.trips) (v1283 : BitVec 32) (k0_hw105 : k0_chk105 k0_t1 v1283), ∀ (k0_h53 : k0_cond53 k0_t1 = 1#1), ∀ a, (k0_off315 v1283) a + S1x8x128.size a ≤ S13312x8x128.size a := fun k0_t1 v1283 k0_hw105 k0_h53 => k0_hw105.1 k0_h53
theorem k0_off315_wordsbf16 : ∀ (k0_t1 : Fin k0_t1_loop.trips) (v1283 : BitVec 32) (k0_hw105 : k0_chk105 k0_t1 v1283), ∀ (k0_h53 : k0_cond53 k0_t1 = 1#1), (Rect.unit (s := S13312x8x128) (k0_off315 v1283) S1x8x128.size (k0_off315_inb k0_t1 v1283 k0_hw105 k0_h53)).WholeWords (EltTy.packing .bf16) := fun k0_t1 v1283 k0_hw105 k0_h53 => k0_hw105.2 k0_h53 (k0_off315_inb k0_t1 v1283 k0_hw105 k0_h53)

def k0_off316 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let v1130 : Index := Scalar.indexCast v1126
  ![v1130.toNat]
def k0_off317 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_727 : BitVec 32 := 64#32
  let v1125 : BitVec 32 := Scalar.muli arg4 c64_i32_727
  let c52_i32_728 : BitVec 32 := 52#32
  let v1126 : BitVec 32 := Scalar.addi v1125 c52_i32_728
  let c0_i32_732 : BitVec 32 := 0#32
  let c0_i32_733 : BitVec 32 := 0#32
  ![v1126.toNat, 0, 0]
def k0_off318 (v1131 : BitVec 32) : Fin 3 → Nat :=
  let c0_i32_734 : BitVec 32 := 0#32
  let c0_i32_735 : BitVec 32 := 0#32
  ![v1131.toNat, 0, 0]

def k0_chk106 (v1131 : BitVec 32) : Prop :=
  (∀ a, (k0_off318 v1131) a + S1x8x128.size a ≤ S13312x8x128.size a) ∧
  (∀ (hinb : ∀ a, (k0_off318 v1131) a + S1x8x128.size a ≤ S13312x8x128.size a), (Rect.unit (s := S13312x8x128) (k0_off318 v1131) S1x8x128.size hinb).WholeWords (EltTy.packing .bf16))
theorem k0_off318_inb : ∀ (v1131 : BitVec 32) (k0_hw106 : k0_chk106 v1131), ∀ a, (k0_off318 v1131) a + S1x8x128.size a ≤ S13312x8x128.size a := fun v1131 k0_hw106 => k0_hw106.1
theorem k0_off318_wordsbf16 : ∀ (v1131 : BitVec 32) (k0_hw106 : k0_chk106 v1131), (Rect.unit (s := S13312x8x128) (k0_off318 v1131) S1x8x128.size (k0_off318_inb v1131 k0_hw106)).WholeWords (EltTy.packing .bf16) := fun v1131 k0_hw106 => k0_hw106.2 (k0_off318_inb v1131 k0_hw106)

def k0_cond54 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_738 : BitVec 32 := 0#32
  let v1140 : BitVec 1 := Scalar.cmpi .sgt arg4 c0_i32_738
  let v1141 : BitVec 32 := Scalar.extui v1140
  let c0_i32_739 : BitVec 32 := 0#32
  let v1142 : BitVec 1 := Scalar.cmpi .ne v1141 c0_i32_739
  v1142

def k0_off319 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let v1282 : Index := Scalar.indexCast v1281
  ![v1282.toNat]
def k0_off320 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c64_i32_835 : BitVec 32 := 64#32
  let v1281 : BitVec 32 := Scalar.subi v1139 c64_i32_835
  let c0_i32_837 : BitVec 32 := 0#32
  let c0_i32_838 : BitVec 32 := 0#32
  ![v1281.toNat, 0, 0]
def k0_off321 (v1283 : BitVec 32) : Fin 3 → Nat :=
  let c0_i32_839 : BitVec 32 := 0#32
  let c0_i32_840 : BitVec 32 := 0#32
  ![v1283.toNat, 0, 0]

def k0_chk107 (k0_t1 : Fin k0_t1_loop.trips) (v1283 : BitVec 32) : Prop :=
  (∀ (k0_h54 : k0_cond54 k0_t1 = 1#1), ∀ a, (k0_off321 v1283) a + S1x8x128.size a ≤ S13312x8x128.size a) ∧
  (∀ (k0_h54 : k0_cond54 k0_t1 = 1#1), ∀ (hinb : ∀ a, (k0_off321 v1283) a + S1x8x128.size a ≤ S13312x8x128.size a), (Rect.unit (s := S13312x8x128) (k0_off321 v1283) S1x8x128.size hinb).WholeWords (EltTy.packing .bf16))
theorem k0_off321_inb : ∀ (k0_t1 : Fin k0_t1_loop.trips) (v1283 : BitVec 32) (k0_hw107 : k0_chk107 k0_t1 v1283), ∀ (k0_h54 : k0_cond54 k0_t1 = 1#1), ∀ a, (k0_off321 v1283) a + S1x8x128.size a ≤ S13312x8x128.size a := fun k0_t1 v1283 k0_hw107 k0_h54 => k0_hw107.1 k0_h54
theorem k0_off321_wordsbf16 : ∀ (k0_t1 : Fin k0_t1_loop.trips) (v1283 : BitVec 32) (k0_hw107 : k0_chk107 k0_t1 v1283), ∀ (k0_h54 : k0_cond54 k0_t1 = 1#1), (Rect.unit (s := S13312x8x128) (k0_off321 v1283) S1x8x128.size (k0_off321_inb k0_t1 v1283 k0_hw107 k0_h54)).WholeWords (EltTy.packing .bf16) := fun k0_t1 v1283 k0_hw107 k0_h54 => k0_hw107.2 k0_h54 (k0_off321_inb k0_t1 v1283 k0_hw107 k0_h54)

def k0_off322 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let v1143 : Index := Scalar.indexCast v1139
  ![v1143.toNat]
def k0_off323 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_736 : BitVec 32 := 64#32
  let v1138 : BitVec 32 := Scalar.muli arg4 c64_i32_736
  let c53_i32_737 : BitVec 32 := 53#32
  let v1139 : BitVec 32 := Scalar.addi v1138 c53_i32_737
  let c0_i32_741 : BitVec 32 := 0#32
  let c0_i32_742 : BitVec 32 := 0#32
  ![v1139.toNat, 0, 0]
def k0_off324 (v1144 : BitVec 32) : Fin 3 → Nat :=
  let c0_i32_743 : BitVec 32 := 0#32
  let c0_i32_744 : BitVec 32 := 0#32
  ![v1144.toNat, 0, 0]

def k0_chk108 (v1144 : BitVec 32) : Prop :=
  (∀ a, (k0_off324 v1144) a + S1x8x128.size a ≤ S13312x8x128.size a) ∧
  (∀ (hinb : ∀ a, (k0_off324 v1144) a + S1x8x128.size a ≤ S13312x8x128.size a), (Rect.unit (s := S13312x8x128) (k0_off324 v1144) S1x8x128.size hinb).WholeWords (EltTy.packing .bf16))
theorem k0_off324_inb : ∀ (v1144 : BitVec 32) (k0_hw108 : k0_chk108 v1144), ∀ a, (k0_off324 v1144) a + S1x8x128.size a ≤ S13312x8x128.size a := fun v1144 k0_hw108 => k0_hw108.1
theorem k0_off324_wordsbf16 : ∀ (v1144 : BitVec 32) (k0_hw108 : k0_chk108 v1144), (Rect.unit (s := S13312x8x128) (k0_off324 v1144) S1x8x128.size (k0_off324_inb v1144 k0_hw108)).WholeWords (EltTy.packing .bf16) := fun v1144 k0_hw108 => k0_hw108.2 (k0_off324_inb v1144 k0_hw108)

def k0_cond55 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_747 : BitVec 32 := 0#32
  let v1153 : BitVec 1 := Scalar.cmpi .sgt arg4 c0_i32_747
  let v1154 : BitVec 32 := Scalar.extui v1153
  let c0_i32_748 : BitVec 32 := 0#32
  let v1155 : BitVec 1 := Scalar.cmpi .ne v1154 c0_i32_748
  v1155

def k0_off325 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let v1282 : Index := Scalar.indexCast v1281
  ![v1282.toNat]
def k0_off326 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c64_i32_835 : BitVec 32 := 64#32
  let v1281 : BitVec 32 := Scalar.subi v1152 c64_i32_835
  let c0_i32_837 : BitVec 32 := 0#32
  let c0_i32_838 : BitVec 32 := 0#32
  ![v1281.toNat, 0, 0]
def k0_off327 (v1283 : BitVec 32) : Fin 3 → Nat :=
  let c0_i32_839 : BitVec 32 := 0#32
  let c0_i32_840 : BitVec 32 := 0#32
  ![v1283.toNat, 0, 0]

def k0_chk109 (k0_t1 : Fin k0_t1_loop.trips) (v1283 : BitVec 32) : Prop :=
  (∀ (k0_h55 : k0_cond55 k0_t1 = 1#1), ∀ a, (k0_off327 v1283) a + S1x8x128.size a ≤ S13312x8x128.size a) ∧
  (∀ (k0_h55 : k0_cond55 k0_t1 = 1#1), ∀ (hinb : ∀ a, (k0_off327 v1283) a + S1x8x128.size a ≤ S13312x8x128.size a), (Rect.unit (s := S13312x8x128) (k0_off327 v1283) S1x8x128.size hinb).WholeWords (EltTy.packing .bf16))
theorem k0_off327_inb : ∀ (k0_t1 : Fin k0_t1_loop.trips) (v1283 : BitVec 32) (k0_hw109 : k0_chk109 k0_t1 v1283), ∀ (k0_h55 : k0_cond55 k0_t1 = 1#1), ∀ a, (k0_off327 v1283) a + S1x8x128.size a ≤ S13312x8x128.size a := fun k0_t1 v1283 k0_hw109 k0_h55 => k0_hw109.1 k0_h55
theorem k0_off327_wordsbf16 : ∀ (k0_t1 : Fin k0_t1_loop.trips) (v1283 : BitVec 32) (k0_hw109 : k0_chk109 k0_t1 v1283), ∀ (k0_h55 : k0_cond55 k0_t1 = 1#1), (Rect.unit (s := S13312x8x128) (k0_off327 v1283) S1x8x128.size (k0_off327_inb k0_t1 v1283 k0_hw109 k0_h55)).WholeWords (EltTy.packing .bf16) := fun k0_t1 v1283 k0_hw109 k0_h55 => k0_hw109.2 k0_h55 (k0_off327_inb k0_t1 v1283 k0_hw109 k0_h55)

def k0_off328 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let v1156 : Index := Scalar.indexCast v1152
  ![v1156.toNat]
def k0_off329 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_745 : BitVec 32 := 64#32
  let v1151 : BitVec 32 := Scalar.muli arg4 c64_i32_745
  let c54_i32_746 : BitVec 32 := 54#32
  let v1152 : BitVec 32 := Scalar.addi v1151 c54_i32_746
  let c0_i32_750 : BitVec 32 := 0#32
  let c0_i32_751 : BitVec 32 := 0#32
  ![v1152.toNat, 0, 0]
def k0_off330 (v1157 : BitVec 32) : Fin 3 → Nat :=
  let c0_i32_752 : BitVec 32 := 0#32
  let c0_i32_753 : BitVec 32 := 0#32
  ![v1157.toNat, 0, 0]

def k0_chk110 (v1157 : BitVec 32) : Prop :=
  (∀ a, (k0_off330 v1157) a + S1x8x128.size a ≤ S13312x8x128.size a) ∧
  (∀ (hinb : ∀ a, (k0_off330 v1157) a + S1x8x128.size a ≤ S13312x8x128.size a), (Rect.unit (s := S13312x8x128) (k0_off330 v1157) S1x8x128.size hinb).WholeWords (EltTy.packing .bf16))
theorem k0_off330_inb : ∀ (v1157 : BitVec 32) (k0_hw110 : k0_chk110 v1157), ∀ a, (k0_off330 v1157) a + S1x8x128.size a ≤ S13312x8x128.size a := fun v1157 k0_hw110 => k0_hw110.1
theorem k0_off330_wordsbf16 : ∀ (v1157 : BitVec 32) (k0_hw110 : k0_chk110 v1157), (Rect.unit (s := S13312x8x128) (k0_off330 v1157) S1x8x128.size (k0_off330_inb v1157 k0_hw110)).WholeWords (EltTy.packing .bf16) := fun v1157 k0_hw110 => k0_hw110.2 (k0_off330_inb v1157 k0_hw110)

def k0_cond56 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_756 : BitVec 32 := 0#32
  let v1166 : BitVec 1 := Scalar.cmpi .sgt arg4 c0_i32_756
  let v1167 : BitVec 32 := Scalar.extui v1166
  let c0_i32_757 : BitVec 32 := 0#32
  let v1168 : BitVec 1 := Scalar.cmpi .ne v1167 c0_i32_757
  v1168

def k0_off331 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let v1282 : Index := Scalar.indexCast v1281
  ![v1282.toNat]
def k0_off332 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c64_i32_835 : BitVec 32 := 64#32
  let v1281 : BitVec 32 := Scalar.subi v1165 c64_i32_835
  let c0_i32_837 : BitVec 32 := 0#32
  let c0_i32_838 : BitVec 32 := 0#32
  ![v1281.toNat, 0, 0]
def k0_off333 (v1283 : BitVec 32) : Fin 3 → Nat :=
  let c0_i32_839 : BitVec 32 := 0#32
  let c0_i32_840 : BitVec 32 := 0#32
  ![v1283.toNat, 0, 0]

def k0_chk111 (k0_t1 : Fin k0_t1_loop.trips) (v1283 : BitVec 32) : Prop :=
  (∀ (k0_h56 : k0_cond56 k0_t1 = 1#1), ∀ a, (k0_off333 v1283) a + S1x8x128.size a ≤ S13312x8x128.size a) ∧
  (∀ (k0_h56 : k0_cond56 k0_t1 = 1#1), ∀ (hinb : ∀ a, (k0_off333 v1283) a + S1x8x128.size a ≤ S13312x8x128.size a), (Rect.unit (s := S13312x8x128) (k0_off333 v1283) S1x8x128.size hinb).WholeWords (EltTy.packing .bf16))
theorem k0_off333_inb : ∀ (k0_t1 : Fin k0_t1_loop.trips) (v1283 : BitVec 32) (k0_hw111 : k0_chk111 k0_t1 v1283), ∀ (k0_h56 : k0_cond56 k0_t1 = 1#1), ∀ a, (k0_off333 v1283) a + S1x8x128.size a ≤ S13312x8x128.size a := fun k0_t1 v1283 k0_hw111 k0_h56 => k0_hw111.1 k0_h56
theorem k0_off333_wordsbf16 : ∀ (k0_t1 : Fin k0_t1_loop.trips) (v1283 : BitVec 32) (k0_hw111 : k0_chk111 k0_t1 v1283), ∀ (k0_h56 : k0_cond56 k0_t1 = 1#1), (Rect.unit (s := S13312x8x128) (k0_off333 v1283) S1x8x128.size (k0_off333_inb k0_t1 v1283 k0_hw111 k0_h56)).WholeWords (EltTy.packing .bf16) := fun k0_t1 v1283 k0_hw111 k0_h56 => k0_hw111.2 k0_h56 (k0_off333_inb k0_t1 v1283 k0_hw111 k0_h56)

def k0_off334 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let v1169 : Index := Scalar.indexCast v1165
  ![v1169.toNat]
def k0_off335 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_754 : BitVec 32 := 64#32
  let v1164 : BitVec 32 := Scalar.muli arg4 c64_i32_754
  let c55_i32_755 : BitVec 32 := 55#32
  let v1165 : BitVec 32 := Scalar.addi v1164 c55_i32_755
  let c0_i32_759 : BitVec 32 := 0#32
  let c0_i32_760 : BitVec 32 := 0#32
  ![v1165.toNat, 0, 0]
def k0_off336 (v1170 : BitVec 32) : Fin 3 → Nat :=
  let c0_i32_761 : BitVec 32 := 0#32
  let c0_i32_762 : BitVec 32 := 0#32
  ![v1170.toNat, 0, 0]

def k0_chk112 (v1170 : BitVec 32) : Prop :=
  (∀ a, (k0_off336 v1170) a + S1x8x128.size a ≤ S13312x8x128.size a) ∧
  (∀ (hinb : ∀ a, (k0_off336 v1170) a + S1x8x128.size a ≤ S13312x8x128.size a), (Rect.unit (s := S13312x8x128) (k0_off336 v1170) S1x8x128.size hinb).WholeWords (EltTy.packing .bf16))
theorem k0_off336_inb : ∀ (v1170 : BitVec 32) (k0_hw112 : k0_chk112 v1170), ∀ a, (k0_off336 v1170) a + S1x8x128.size a ≤ S13312x8x128.size a := fun v1170 k0_hw112 => k0_hw112.1
theorem k0_off336_wordsbf16 : ∀ (v1170 : BitVec 32) (k0_hw112 : k0_chk112 v1170), (Rect.unit (s := S13312x8x128) (k0_off336 v1170) S1x8x128.size (k0_off336_inb v1170 k0_hw112)).WholeWords (EltTy.packing .bf16) := fun v1170 k0_hw112 => k0_hw112.2 (k0_off336_inb v1170 k0_hw112)

def k0_cond57 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_765 : BitVec 32 := 0#32
  let v1179 : BitVec 1 := Scalar.cmpi .sgt arg4 c0_i32_765
  let v1180 : BitVec 32 := Scalar.extui v1179
  let c0_i32_766 : BitVec 32 := 0#32
  let v1181 : BitVec 1 := Scalar.cmpi .ne v1180 c0_i32_766
  v1181

def k0_off337 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let v1282 : Index := Scalar.indexCast v1281
  ![v1282.toNat]
def k0_off338 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c64_i32_835 : BitVec 32 := 64#32
  let v1281 : BitVec 32 := Scalar.subi v1178 c64_i32_835
  let c0_i32_837 : BitVec 32 := 0#32
  let c0_i32_838 : BitVec 32 := 0#32
  ![v1281.toNat, 0, 0]
def k0_off339 (v1283 : BitVec 32) : Fin 3 → Nat :=
  let c0_i32_839 : BitVec 32 := 0#32
  let c0_i32_840 : BitVec 32 := 0#32
  ![v1283.toNat, 0, 0]

def k0_chk113 (k0_t1 : Fin k0_t1_loop.trips) (v1283 : BitVec 32) : Prop :=
  (∀ (k0_h57 : k0_cond57 k0_t1 = 1#1), ∀ a, (k0_off339 v1283) a + S1x8x128.size a ≤ S13312x8x128.size a) ∧
  (∀ (k0_h57 : k0_cond57 k0_t1 = 1#1), ∀ (hinb : ∀ a, (k0_off339 v1283) a + S1x8x128.size a ≤ S13312x8x128.size a), (Rect.unit (s := S13312x8x128) (k0_off339 v1283) S1x8x128.size hinb).WholeWords (EltTy.packing .bf16))
theorem k0_off339_inb : ∀ (k0_t1 : Fin k0_t1_loop.trips) (v1283 : BitVec 32) (k0_hw113 : k0_chk113 k0_t1 v1283), ∀ (k0_h57 : k0_cond57 k0_t1 = 1#1), ∀ a, (k0_off339 v1283) a + S1x8x128.size a ≤ S13312x8x128.size a := fun k0_t1 v1283 k0_hw113 k0_h57 => k0_hw113.1 k0_h57
theorem k0_off339_wordsbf16 : ∀ (k0_t1 : Fin k0_t1_loop.trips) (v1283 : BitVec 32) (k0_hw113 : k0_chk113 k0_t1 v1283), ∀ (k0_h57 : k0_cond57 k0_t1 = 1#1), (Rect.unit (s := S13312x8x128) (k0_off339 v1283) S1x8x128.size (k0_off339_inb k0_t1 v1283 k0_hw113 k0_h57)).WholeWords (EltTy.packing .bf16) := fun k0_t1 v1283 k0_hw113 k0_h57 => k0_hw113.2 k0_h57 (k0_off339_inb k0_t1 v1283 k0_hw113 k0_h57)

def k0_off340 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let v1182 : Index := Scalar.indexCast v1178
  ![v1182.toNat]
def k0_off341 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_763 : BitVec 32 := 64#32
  let v1177 : BitVec 32 := Scalar.muli arg4 c64_i32_763
  let c56_i32_764 : BitVec 32 := 56#32
  let v1178 : BitVec 32 := Scalar.addi v1177 c56_i32_764
  let c0_i32_768 : BitVec 32 := 0#32
  let c0_i32_769 : BitVec 32 := 0#32
  ![v1178.toNat, 0, 0]
def k0_off342 (v1183 : BitVec 32) : Fin 3 → Nat :=
  let c0_i32_770 : BitVec 32 := 0#32
  let c0_i32_771 : BitVec 32 := 0#32
  ![v1183.toNat, 0, 0]

def k0_chk114 (v1183 : BitVec 32) : Prop :=
  (∀ a, (k0_off342 v1183) a + S1x8x128.size a ≤ S13312x8x128.size a) ∧
  (∀ (hinb : ∀ a, (k0_off342 v1183) a + S1x8x128.size a ≤ S13312x8x128.size a), (Rect.unit (s := S13312x8x128) (k0_off342 v1183) S1x8x128.size hinb).WholeWords (EltTy.packing .bf16))
theorem k0_off342_inb : ∀ (v1183 : BitVec 32) (k0_hw114 : k0_chk114 v1183), ∀ a, (k0_off342 v1183) a + S1x8x128.size a ≤ S13312x8x128.size a := fun v1183 k0_hw114 => k0_hw114.1
theorem k0_off342_wordsbf16 : ∀ (v1183 : BitVec 32) (k0_hw114 : k0_chk114 v1183), (Rect.unit (s := S13312x8x128) (k0_off342 v1183) S1x8x128.size (k0_off342_inb v1183 k0_hw114)).WholeWords (EltTy.packing .bf16) := fun v1183 k0_hw114 => k0_hw114.2 (k0_off342_inb v1183 k0_hw114)

def k0_cond58 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_774 : BitVec 32 := 0#32
  let v1192 : BitVec 1 := Scalar.cmpi .sgt arg4 c0_i32_774
  let v1193 : BitVec 32 := Scalar.extui v1192
  let c0_i32_775 : BitVec 32 := 0#32
  let v1194 : BitVec 1 := Scalar.cmpi .ne v1193 c0_i32_775
  v1194

def k0_off343 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let v1282 : Index := Scalar.indexCast v1281
  ![v1282.toNat]
def k0_off344 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c64_i32_835 : BitVec 32 := 64#32
  let v1281 : BitVec 32 := Scalar.subi v1191 c64_i32_835
  let c0_i32_837 : BitVec 32 := 0#32
  let c0_i32_838 : BitVec 32 := 0#32
  ![v1281.toNat, 0, 0]
def k0_off345 (v1283 : BitVec 32) : Fin 3 → Nat :=
  let c0_i32_839 : BitVec 32 := 0#32
  let c0_i32_840 : BitVec 32 := 0#32
  ![v1283.toNat, 0, 0]

def k0_chk115 (k0_t1 : Fin k0_t1_loop.trips) (v1283 : BitVec 32) : Prop :=
  (∀ (k0_h58 : k0_cond58 k0_t1 = 1#1), ∀ a, (k0_off345 v1283) a + S1x8x128.size a ≤ S13312x8x128.size a) ∧
  (∀ (k0_h58 : k0_cond58 k0_t1 = 1#1), ∀ (hinb : ∀ a, (k0_off345 v1283) a + S1x8x128.size a ≤ S13312x8x128.size a), (Rect.unit (s := S13312x8x128) (k0_off345 v1283) S1x8x128.size hinb).WholeWords (EltTy.packing .bf16))
theorem k0_off345_inb : ∀ (k0_t1 : Fin k0_t1_loop.trips) (v1283 : BitVec 32) (k0_hw115 : k0_chk115 k0_t1 v1283), ∀ (k0_h58 : k0_cond58 k0_t1 = 1#1), ∀ a, (k0_off345 v1283) a + S1x8x128.size a ≤ S13312x8x128.size a := fun k0_t1 v1283 k0_hw115 k0_h58 => k0_hw115.1 k0_h58
theorem k0_off345_wordsbf16 : ∀ (k0_t1 : Fin k0_t1_loop.trips) (v1283 : BitVec 32) (k0_hw115 : k0_chk115 k0_t1 v1283), ∀ (k0_h58 : k0_cond58 k0_t1 = 1#1), (Rect.unit (s := S13312x8x128) (k0_off345 v1283) S1x8x128.size (k0_off345_inb k0_t1 v1283 k0_hw115 k0_h58)).WholeWords (EltTy.packing .bf16) := fun k0_t1 v1283 k0_hw115 k0_h58 => k0_hw115.2 k0_h58 (k0_off345_inb k0_t1 v1283 k0_hw115 k0_h58)

def k0_off346 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let v1195 : Index := Scalar.indexCast v1191
  ![v1195.toNat]
def k0_off347 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_772 : BitVec 32 := 64#32
  let v1190 : BitVec 32 := Scalar.muli arg4 c64_i32_772
  let c57_i32_773 : BitVec 32 := 57#32
  let v1191 : BitVec 32 := Scalar.addi v1190 c57_i32_773
  let c0_i32_777 : BitVec 32 := 0#32
  let c0_i32_778 : BitVec 32 := 0#32
  ![v1191.toNat, 0, 0]
def k0_off348 (v1196 : BitVec 32) : Fin 3 → Nat :=
  let c0_i32_779 : BitVec 32 := 0#32
  let c0_i32_780 : BitVec 32 := 0#32
  ![v1196.toNat, 0, 0]

def k0_chk116 (v1196 : BitVec 32) : Prop :=
  (∀ a, (k0_off348 v1196) a + S1x8x128.size a ≤ S13312x8x128.size a) ∧
  (∀ (hinb : ∀ a, (k0_off348 v1196) a + S1x8x128.size a ≤ S13312x8x128.size a), (Rect.unit (s := S13312x8x128) (k0_off348 v1196) S1x8x128.size hinb).WholeWords (EltTy.packing .bf16))
theorem k0_off348_inb : ∀ (v1196 : BitVec 32) (k0_hw116 : k0_chk116 v1196), ∀ a, (k0_off348 v1196) a + S1x8x128.size a ≤ S13312x8x128.size a := fun v1196 k0_hw116 => k0_hw116.1
theorem k0_off348_wordsbf16 : ∀ (v1196 : BitVec 32) (k0_hw116 : k0_chk116 v1196), (Rect.unit (s := S13312x8x128) (k0_off348 v1196) S1x8x128.size (k0_off348_inb v1196 k0_hw116)).WholeWords (EltTy.packing .bf16) := fun v1196 k0_hw116 => k0_hw116.2 (k0_off348_inb v1196 k0_hw116)

def k0_cond59 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_783 : BitVec 32 := 0#32
  let v1205 : BitVec 1 := Scalar.cmpi .sgt arg4 c0_i32_783
  let v1206 : BitVec 32 := Scalar.extui v1205
  let c0_i32_784 : BitVec 32 := 0#32
  let v1207 : BitVec 1 := Scalar.cmpi .ne v1206 c0_i32_784
  v1207

def k0_off349 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let v1282 : Index := Scalar.indexCast v1281
  ![v1282.toNat]
def k0_off350 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c64_i32_835 : BitVec 32 := 64#32
  let v1281 : BitVec 32 := Scalar.subi v1204 c64_i32_835
  let c0_i32_837 : BitVec 32 := 0#32
  let c0_i32_838 : BitVec 32 := 0#32
  ![v1281.toNat, 0, 0]
def k0_off351 (v1283 : BitVec 32) : Fin 3 → Nat :=
  let c0_i32_839 : BitVec 32 := 0#32
  let c0_i32_840 : BitVec 32 := 0#32
  ![v1283.toNat, 0, 0]

def k0_chk117 (k0_t1 : Fin k0_t1_loop.trips) (v1283 : BitVec 32) : Prop :=
  (∀ (k0_h59 : k0_cond59 k0_t1 = 1#1), ∀ a, (k0_off351 v1283) a + S1x8x128.size a ≤ S13312x8x128.size a) ∧
  (∀ (k0_h59 : k0_cond59 k0_t1 = 1#1), ∀ (hinb : ∀ a, (k0_off351 v1283) a + S1x8x128.size a ≤ S13312x8x128.size a), (Rect.unit (s := S13312x8x128) (k0_off351 v1283) S1x8x128.size hinb).WholeWords (EltTy.packing .bf16))
theorem k0_off351_inb : ∀ (k0_t1 : Fin k0_t1_loop.trips) (v1283 : BitVec 32) (k0_hw117 : k0_chk117 k0_t1 v1283), ∀ (k0_h59 : k0_cond59 k0_t1 = 1#1), ∀ a, (k0_off351 v1283) a + S1x8x128.size a ≤ S13312x8x128.size a := fun k0_t1 v1283 k0_hw117 k0_h59 => k0_hw117.1 k0_h59
theorem k0_off351_wordsbf16 : ∀ (k0_t1 : Fin k0_t1_loop.trips) (v1283 : BitVec 32) (k0_hw117 : k0_chk117 k0_t1 v1283), ∀ (k0_h59 : k0_cond59 k0_t1 = 1#1), (Rect.unit (s := S13312x8x128) (k0_off351 v1283) S1x8x128.size (k0_off351_inb k0_t1 v1283 k0_hw117 k0_h59)).WholeWords (EltTy.packing .bf16) := fun k0_t1 v1283 k0_hw117 k0_h59 => k0_hw117.2 k0_h59 (k0_off351_inb k0_t1 v1283 k0_hw117 k0_h59)

def k0_off352 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let v1208 : Index := Scalar.indexCast v1204
  ![v1208.toNat]
def k0_off353 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_781 : BitVec 32 := 64#32
  let v1203 : BitVec 32 := Scalar.muli arg4 c64_i32_781
  let c58_i32_782 : BitVec 32 := 58#32
  let v1204 : BitVec 32 := Scalar.addi v1203 c58_i32_782
  let c0_i32_786 : BitVec 32 := 0#32
  let c0_i32_787 : BitVec 32 := 0#32
  ![v1204.toNat, 0, 0]
def k0_off354 (v1209 : BitVec 32) : Fin 3 → Nat :=
  let c0_i32_788 : BitVec 32 := 0#32
  let c0_i32_789 : BitVec 32 := 0#32
  ![v1209.toNat, 0, 0]

def k0_chk118 (v1209 : BitVec 32) : Prop :=
  (∀ a, (k0_off354 v1209) a + S1x8x128.size a ≤ S13312x8x128.size a) ∧
  (∀ (hinb : ∀ a, (k0_off354 v1209) a + S1x8x128.size a ≤ S13312x8x128.size a), (Rect.unit (s := S13312x8x128) (k0_off354 v1209) S1x8x128.size hinb).WholeWords (EltTy.packing .bf16))
theorem k0_off354_inb : ∀ (v1209 : BitVec 32) (k0_hw118 : k0_chk118 v1209), ∀ a, (k0_off354 v1209) a + S1x8x128.size a ≤ S13312x8x128.size a := fun v1209 k0_hw118 => k0_hw118.1
theorem k0_off354_wordsbf16 : ∀ (v1209 : BitVec 32) (k0_hw118 : k0_chk118 v1209), (Rect.unit (s := S13312x8x128) (k0_off354 v1209) S1x8x128.size (k0_off354_inb v1209 k0_hw118)).WholeWords (EltTy.packing .bf16) := fun v1209 k0_hw118 => k0_hw118.2 (k0_off354_inb v1209 k0_hw118)

def k0_cond60 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_792 : BitVec 32 := 0#32
  let v1218 : BitVec 1 := Scalar.cmpi .sgt arg4 c0_i32_792
  let v1219 : BitVec 32 := Scalar.extui v1218
  let c0_i32_793 : BitVec 32 := 0#32
  let v1220 : BitVec 1 := Scalar.cmpi .ne v1219 c0_i32_793
  v1220

def k0_off355 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let v1282 : Index := Scalar.indexCast v1281
  ![v1282.toNat]
def k0_off356 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c64_i32_835 : BitVec 32 := 64#32
  let v1281 : BitVec 32 := Scalar.subi v1217 c64_i32_835
  let c0_i32_837 : BitVec 32 := 0#32
  let c0_i32_838 : BitVec 32 := 0#32
  ![v1281.toNat, 0, 0]
def k0_off357 (v1283 : BitVec 32) : Fin 3 → Nat :=
  let c0_i32_839 : BitVec 32 := 0#32
  let c0_i32_840 : BitVec 32 := 0#32
  ![v1283.toNat, 0, 0]

def k0_chk119 (k0_t1 : Fin k0_t1_loop.trips) (v1283 : BitVec 32) : Prop :=
  (∀ (k0_h60 : k0_cond60 k0_t1 = 1#1), ∀ a, (k0_off357 v1283) a + S1x8x128.size a ≤ S13312x8x128.size a) ∧
  (∀ (k0_h60 : k0_cond60 k0_t1 = 1#1), ∀ (hinb : ∀ a, (k0_off357 v1283) a + S1x8x128.size a ≤ S13312x8x128.size a), (Rect.unit (s := S13312x8x128) (k0_off357 v1283) S1x8x128.size hinb).WholeWords (EltTy.packing .bf16))
theorem k0_off357_inb : ∀ (k0_t1 : Fin k0_t1_loop.trips) (v1283 : BitVec 32) (k0_hw119 : k0_chk119 k0_t1 v1283), ∀ (k0_h60 : k0_cond60 k0_t1 = 1#1), ∀ a, (k0_off357 v1283) a + S1x8x128.size a ≤ S13312x8x128.size a := fun k0_t1 v1283 k0_hw119 k0_h60 => k0_hw119.1 k0_h60
theorem k0_off357_wordsbf16 : ∀ (k0_t1 : Fin k0_t1_loop.trips) (v1283 : BitVec 32) (k0_hw119 : k0_chk119 k0_t1 v1283), ∀ (k0_h60 : k0_cond60 k0_t1 = 1#1), (Rect.unit (s := S13312x8x128) (k0_off357 v1283) S1x8x128.size (k0_off357_inb k0_t1 v1283 k0_hw119 k0_h60)).WholeWords (EltTy.packing .bf16) := fun k0_t1 v1283 k0_hw119 k0_h60 => k0_hw119.2 k0_h60 (k0_off357_inb k0_t1 v1283 k0_hw119 k0_h60)

def k0_off358 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let v1221 : Index := Scalar.indexCast v1217
  ![v1221.toNat]
def k0_off359 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_790 : BitVec 32 := 64#32
  let v1216 : BitVec 32 := Scalar.muli arg4 c64_i32_790
  let c59_i32_791 : BitVec 32 := 59#32
  let v1217 : BitVec 32 := Scalar.addi v1216 c59_i32_791
  let c0_i32_795 : BitVec 32 := 0#32
  let c0_i32_796 : BitVec 32 := 0#32
  ![v1217.toNat, 0, 0]
def k0_off360 (v1222 : BitVec 32) : Fin 3 → Nat :=
  let c0_i32_797 : BitVec 32 := 0#32
  let c0_i32_798 : BitVec 32 := 0#32
  ![v1222.toNat, 0, 0]

def k0_chk120 (v1222 : BitVec 32) : Prop :=
  (∀ a, (k0_off360 v1222) a + S1x8x128.size a ≤ S13312x8x128.size a) ∧
  (∀ (hinb : ∀ a, (k0_off360 v1222) a + S1x8x128.size a ≤ S13312x8x128.size a), (Rect.unit (s := S13312x8x128) (k0_off360 v1222) S1x8x128.size hinb).WholeWords (EltTy.packing .bf16))
theorem k0_off360_inb : ∀ (v1222 : BitVec 32) (k0_hw120 : k0_chk120 v1222), ∀ a, (k0_off360 v1222) a + S1x8x128.size a ≤ S13312x8x128.size a := fun v1222 k0_hw120 => k0_hw120.1
theorem k0_off360_wordsbf16 : ∀ (v1222 : BitVec 32) (k0_hw120 : k0_chk120 v1222), (Rect.unit (s := S13312x8x128) (k0_off360 v1222) S1x8x128.size (k0_off360_inb v1222 k0_hw120)).WholeWords (EltTy.packing .bf16) := fun v1222 k0_hw120 => k0_hw120.2 (k0_off360_inb v1222 k0_hw120)

def k0_cond61 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_801 : BitVec 32 := 0#32
  let v1231 : BitVec 1 := Scalar.cmpi .sgt arg4 c0_i32_801
  let v1232 : BitVec 32 := Scalar.extui v1231
  let c0_i32_802 : BitVec 32 := 0#32
  let v1233 : BitVec 1 := Scalar.cmpi .ne v1232 c0_i32_802
  v1233

def k0_off361 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let v1282 : Index := Scalar.indexCast v1281
  ![v1282.toNat]
def k0_off362 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c64_i32_835 : BitVec 32 := 64#32
  let v1281 : BitVec 32 := Scalar.subi v1230 c64_i32_835
  let c0_i32_837 : BitVec 32 := 0#32
  let c0_i32_838 : BitVec 32 := 0#32
  ![v1281.toNat, 0, 0]
def k0_off363 (v1283 : BitVec 32) : Fin 3 → Nat :=
  let c0_i32_839 : BitVec 32 := 0#32
  let c0_i32_840 : BitVec 32 := 0#32
  ![v1283.toNat, 0, 0]

def k0_chk121 (k0_t1 : Fin k0_t1_loop.trips) (v1283 : BitVec 32) : Prop :=
  (∀ (k0_h61 : k0_cond61 k0_t1 = 1#1), ∀ a, (k0_off363 v1283) a + S1x8x128.size a ≤ S13312x8x128.size a) ∧
  (∀ (k0_h61 : k0_cond61 k0_t1 = 1#1), ∀ (hinb : ∀ a, (k0_off363 v1283) a + S1x8x128.size a ≤ S13312x8x128.size a), (Rect.unit (s := S13312x8x128) (k0_off363 v1283) S1x8x128.size hinb).WholeWords (EltTy.packing .bf16))
theorem k0_off363_inb : ∀ (k0_t1 : Fin k0_t1_loop.trips) (v1283 : BitVec 32) (k0_hw121 : k0_chk121 k0_t1 v1283), ∀ (k0_h61 : k0_cond61 k0_t1 = 1#1), ∀ a, (k0_off363 v1283) a + S1x8x128.size a ≤ S13312x8x128.size a := fun k0_t1 v1283 k0_hw121 k0_h61 => k0_hw121.1 k0_h61
theorem k0_off363_wordsbf16 : ∀ (k0_t1 : Fin k0_t1_loop.trips) (v1283 : BitVec 32) (k0_hw121 : k0_chk121 k0_t1 v1283), ∀ (k0_h61 : k0_cond61 k0_t1 = 1#1), (Rect.unit (s := S13312x8x128) (k0_off363 v1283) S1x8x128.size (k0_off363_inb k0_t1 v1283 k0_hw121 k0_h61)).WholeWords (EltTy.packing .bf16) := fun k0_t1 v1283 k0_hw121 k0_h61 => k0_hw121.2 k0_h61 (k0_off363_inb k0_t1 v1283 k0_hw121 k0_h61)

def k0_off364 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let v1234 : Index := Scalar.indexCast v1230
  ![v1234.toNat]
def k0_off365 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_799 : BitVec 32 := 64#32
  let v1229 : BitVec 32 := Scalar.muli arg4 c64_i32_799
  let c60_i32_800 : BitVec 32 := 60#32
  let v1230 : BitVec 32 := Scalar.addi v1229 c60_i32_800
  let c0_i32_804 : BitVec 32 := 0#32
  let c0_i32_805 : BitVec 32 := 0#32
  ![v1230.toNat, 0, 0]
def k0_off366 (v1235 : BitVec 32) : Fin 3 → Nat :=
  let c0_i32_806 : BitVec 32 := 0#32
  let c0_i32_807 : BitVec 32 := 0#32
  ![v1235.toNat, 0, 0]

def k0_chk122 (v1235 : BitVec 32) : Prop :=
  (∀ a, (k0_off366 v1235) a + S1x8x128.size a ≤ S13312x8x128.size a) ∧
  (∀ (hinb : ∀ a, (k0_off366 v1235) a + S1x8x128.size a ≤ S13312x8x128.size a), (Rect.unit (s := S13312x8x128) (k0_off366 v1235) S1x8x128.size hinb).WholeWords (EltTy.packing .bf16))
theorem k0_off366_inb : ∀ (v1235 : BitVec 32) (k0_hw122 : k0_chk122 v1235), ∀ a, (k0_off366 v1235) a + S1x8x128.size a ≤ S13312x8x128.size a := fun v1235 k0_hw122 => k0_hw122.1
theorem k0_off366_wordsbf16 : ∀ (v1235 : BitVec 32) (k0_hw122 : k0_chk122 v1235), (Rect.unit (s := S13312x8x128) (k0_off366 v1235) S1x8x128.size (k0_off366_inb v1235 k0_hw122)).WholeWords (EltTy.packing .bf16) := fun v1235 k0_hw122 => k0_hw122.2 (k0_off366_inb v1235 k0_hw122)

def k0_cond62 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_810 : BitVec 32 := 0#32
  let v1244 : BitVec 1 := Scalar.cmpi .sgt arg4 c0_i32_810
  let v1245 : BitVec 32 := Scalar.extui v1244
  let c0_i32_811 : BitVec 32 := 0#32
  let v1246 : BitVec 1 := Scalar.cmpi .ne v1245 c0_i32_811
  v1246

def k0_off367 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let v1282 : Index := Scalar.indexCast v1281
  ![v1282.toNat]
def k0_off368 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c64_i32_835 : BitVec 32 := 64#32
  let v1281 : BitVec 32 := Scalar.subi v1243 c64_i32_835
  let c0_i32_837 : BitVec 32 := 0#32
  let c0_i32_838 : BitVec 32 := 0#32
  ![v1281.toNat, 0, 0]
def k0_off369 (v1283 : BitVec 32) : Fin 3 → Nat :=
  let c0_i32_839 : BitVec 32 := 0#32
  let c0_i32_840 : BitVec 32 := 0#32
  ![v1283.toNat, 0, 0]

def k0_chk123 (k0_t1 : Fin k0_t1_loop.trips) (v1283 : BitVec 32) : Prop :=
  (∀ (k0_h62 : k0_cond62 k0_t1 = 1#1), ∀ a, (k0_off369 v1283) a + S1x8x128.size a ≤ S13312x8x128.size a) ∧
  (∀ (k0_h62 : k0_cond62 k0_t1 = 1#1), ∀ (hinb : ∀ a, (k0_off369 v1283) a + S1x8x128.size a ≤ S13312x8x128.size a), (Rect.unit (s := S13312x8x128) (k0_off369 v1283) S1x8x128.size hinb).WholeWords (EltTy.packing .bf16))
theorem k0_off369_inb : ∀ (k0_t1 : Fin k0_t1_loop.trips) (v1283 : BitVec 32) (k0_hw123 : k0_chk123 k0_t1 v1283), ∀ (k0_h62 : k0_cond62 k0_t1 = 1#1), ∀ a, (k0_off369 v1283) a + S1x8x128.size a ≤ S13312x8x128.size a := fun k0_t1 v1283 k0_hw123 k0_h62 => k0_hw123.1 k0_h62
theorem k0_off369_wordsbf16 : ∀ (k0_t1 : Fin k0_t1_loop.trips) (v1283 : BitVec 32) (k0_hw123 : k0_chk123 k0_t1 v1283), ∀ (k0_h62 : k0_cond62 k0_t1 = 1#1), (Rect.unit (s := S13312x8x128) (k0_off369 v1283) S1x8x128.size (k0_off369_inb k0_t1 v1283 k0_hw123 k0_h62)).WholeWords (EltTy.packing .bf16) := fun k0_t1 v1283 k0_hw123 k0_h62 => k0_hw123.2 k0_h62 (k0_off369_inb k0_t1 v1283 k0_hw123 k0_h62)

def k0_off370 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let v1247 : Index := Scalar.indexCast v1243
  ![v1247.toNat]
def k0_off371 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_808 : BitVec 32 := 64#32
  let v1242 : BitVec 32 := Scalar.muli arg4 c64_i32_808
  let c61_i32_809 : BitVec 32 := 61#32
  let v1243 : BitVec 32 := Scalar.addi v1242 c61_i32_809
  let c0_i32_813 : BitVec 32 := 0#32
  let c0_i32_814 : BitVec 32 := 0#32
  ![v1243.toNat, 0, 0]
def k0_off372 (v1248 : BitVec 32) : Fin 3 → Nat :=
  let c0_i32_815 : BitVec 32 := 0#32
  let c0_i32_816 : BitVec 32 := 0#32
  ![v1248.toNat, 0, 0]

def k0_chk124 (v1248 : BitVec 32) : Prop :=
  (∀ a, (k0_off372 v1248) a + S1x8x128.size a ≤ S13312x8x128.size a) ∧
  (∀ (hinb : ∀ a, (k0_off372 v1248) a + S1x8x128.size a ≤ S13312x8x128.size a), (Rect.unit (s := S13312x8x128) (k0_off372 v1248) S1x8x128.size hinb).WholeWords (EltTy.packing .bf16))
theorem k0_off372_inb : ∀ (v1248 : BitVec 32) (k0_hw124 : k0_chk124 v1248), ∀ a, (k0_off372 v1248) a + S1x8x128.size a ≤ S13312x8x128.size a := fun v1248 k0_hw124 => k0_hw124.1
theorem k0_off372_wordsbf16 : ∀ (v1248 : BitVec 32) (k0_hw124 : k0_chk124 v1248), (Rect.unit (s := S13312x8x128) (k0_off372 v1248) S1x8x128.size (k0_off372_inb v1248 k0_hw124)).WholeWords (EltTy.packing .bf16) := fun v1248 k0_hw124 => k0_hw124.2 (k0_off372_inb v1248 k0_hw124)

def k0_cond63 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_819 : BitVec 32 := 0#32
  let v1257 : BitVec 1 := Scalar.cmpi .sgt arg4 c0_i32_819
  let v1258 : BitVec 32 := Scalar.extui v1257
  let c0_i32_820 : BitVec 32 := 0#32
  let v1259 : BitVec 1 := Scalar.cmpi .ne v1258 c0_i32_820
  v1259

def k0_off373 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let v1282 : Index := Scalar.indexCast v1281
  ![v1282.toNat]
def k0_off374 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c64_i32_835 : BitVec 32 := 64#32
  let v1281 : BitVec 32 := Scalar.subi v1256 c64_i32_835
  let c0_i32_837 : BitVec 32 := 0#32
  let c0_i32_838 : BitVec 32 := 0#32
  ![v1281.toNat, 0, 0]
def k0_off375 (v1283 : BitVec 32) : Fin 3 → Nat :=
  let c0_i32_839 : BitVec 32 := 0#32
  let c0_i32_840 : BitVec 32 := 0#32
  ![v1283.toNat, 0, 0]

def k0_chk125 (k0_t1 : Fin k0_t1_loop.trips) (v1283 : BitVec 32) : Prop :=
  (∀ (k0_h63 : k0_cond63 k0_t1 = 1#1), ∀ a, (k0_off375 v1283) a + S1x8x128.size a ≤ S13312x8x128.size a) ∧
  (∀ (k0_h63 : k0_cond63 k0_t1 = 1#1), ∀ (hinb : ∀ a, (k0_off375 v1283) a + S1x8x128.size a ≤ S13312x8x128.size a), (Rect.unit (s := S13312x8x128) (k0_off375 v1283) S1x8x128.size hinb).WholeWords (EltTy.packing .bf16))
theorem k0_off375_inb : ∀ (k0_t1 : Fin k0_t1_loop.trips) (v1283 : BitVec 32) (k0_hw125 : k0_chk125 k0_t1 v1283), ∀ (k0_h63 : k0_cond63 k0_t1 = 1#1), ∀ a, (k0_off375 v1283) a + S1x8x128.size a ≤ S13312x8x128.size a := fun k0_t1 v1283 k0_hw125 k0_h63 => k0_hw125.1 k0_h63
theorem k0_off375_wordsbf16 : ∀ (k0_t1 : Fin k0_t1_loop.trips) (v1283 : BitVec 32) (k0_hw125 : k0_chk125 k0_t1 v1283), ∀ (k0_h63 : k0_cond63 k0_t1 = 1#1), (Rect.unit (s := S13312x8x128) (k0_off375 v1283) S1x8x128.size (k0_off375_inb k0_t1 v1283 k0_hw125 k0_h63)).WholeWords (EltTy.packing .bf16) := fun k0_t1 v1283 k0_hw125 k0_h63 => k0_hw125.2 k0_h63 (k0_off375_inb k0_t1 v1283 k0_hw125 k0_h63)

def k0_off376 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let v1260 : Index := Scalar.indexCast v1256
  ![v1260.toNat]
def k0_off377 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_817 : BitVec 32 := 64#32
  let v1255 : BitVec 32 := Scalar.muli arg4 c64_i32_817
  let c62_i32_818 : BitVec 32 := 62#32
  let v1256 : BitVec 32 := Scalar.addi v1255 c62_i32_818
  let c0_i32_822 : BitVec 32 := 0#32
  let c0_i32_823 : BitVec 32 := 0#32
  ![v1256.toNat, 0, 0]
def k0_off378 (v1261 : BitVec 32) : Fin 3 → Nat :=
  let c0_i32_824 : BitVec 32 := 0#32
  let c0_i32_825 : BitVec 32 := 0#32
  ![v1261.toNat, 0, 0]

def k0_chk126 (v1261 : BitVec 32) : Prop :=
  (∀ a, (k0_off378 v1261) a + S1x8x128.size a ≤ S13312x8x128.size a) ∧
  (∀ (hinb : ∀ a, (k0_off378 v1261) a + S1x8x128.size a ≤ S13312x8x128.size a), (Rect.unit (s := S13312x8x128) (k0_off378 v1261) S1x8x128.size hinb).WholeWords (EltTy.packing .bf16))
theorem k0_off378_inb : ∀ (v1261 : BitVec 32) (k0_hw126 : k0_chk126 v1261), ∀ a, (k0_off378 v1261) a + S1x8x128.size a ≤ S13312x8x128.size a := fun v1261 k0_hw126 => k0_hw126.1
theorem k0_off378_wordsbf16 : ∀ (v1261 : BitVec 32) (k0_hw126 : k0_chk126 v1261), (Rect.unit (s := S13312x8x128) (k0_off378 v1261) S1x8x128.size (k0_off378_inb v1261 k0_hw126)).WholeWords (EltTy.packing .bf16) := fun v1261 k0_hw126 => k0_hw126.2 (k0_off378_inb v1261 k0_hw126)

def k0_cond64 (k0_t1 : Fin k0_t1_loop.trips) : BitVec 1 :=
  let c0_i32 : BitVec 32 := 0#32
  let c1_i32 : BitVec 32 := 1#32
  let arg4 : BitVec 32 := Scf.iv c0_i32 c1_i32 k0_t1
  let c0_i32_828 : BitVec 32 := 0#32
  let v1270 : BitVec 1 := Scalar.cmpi .sgt arg4 c0_i32_828
  let v1271 : BitVec 32 := Scalar.extui v1270
  let c0_i32_829 : BitVec 32 := 0#32
  let v1272 : BitVec 1 := Scalar.cmpi .ne v1271 c0_i32_829
  v1272

def k0_off379 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let v1282 : Index := Scalar.indexCast v1281
  ![v1282.toNat]
def k0_off380 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c64_i32_835 : BitVec 32 := 64#32
  let v1281 : BitVec 32 := Scalar.subi v1269 c64_i32_835
  let c0_i32_837 : BitVec 32 := 0#32
  let c0_i32_838 : BitVec 32 := 0#32
  ![v1281.toNat, 0, 0]
def k0_off381 (v1283 : BitVec 32) : Fin 3 → Nat :=
  let c0_i32_839 : BitVec 32 := 0#32
  let c0_i32_840 : BitVec 32 := 0#32
  ![v1283.toNat, 0, 0]

def k0_chk127 (k0_t1 : Fin k0_t1_loop.trips) (v1283 : BitVec 32) : Prop :=
  (∀ (k0_h64 : k0_cond64 k0_t1 = 1#1), ∀ a, (k0_off381 v1283) a + S1x8x128.size a ≤ S13312x8x128.size a) ∧
  (∀ (k0_h64 : k0_cond64 k0_t1 = 1#1), ∀ (hinb : ∀ a, (k0_off381 v1283) a + S1x8x128.size a ≤ S13312x8x128.size a), (Rect.unit (s := S13312x8x128) (k0_off381 v1283) S1x8x128.size hinb).WholeWords (EltTy.packing .bf16))
theorem k0_off381_inb : ∀ (k0_t1 : Fin k0_t1_loop.trips) (v1283 : BitVec 32) (k0_hw127 : k0_chk127 k0_t1 v1283), ∀ (k0_h64 : k0_cond64 k0_t1 = 1#1), ∀ a, (k0_off381 v1283) a + S1x8x128.size a ≤ S13312x8x128.size a := fun k0_t1 v1283 k0_hw127 k0_h64 => k0_hw127.1 k0_h64
theorem k0_off381_wordsbf16 : ∀ (k0_t1 : Fin k0_t1_loop.trips) (v1283 : BitVec 32) (k0_hw127 : k0_chk127 k0_t1 v1283), ∀ (k0_h64 : k0_cond64 k0_t1 = 1#1), (Rect.unit (s := S13312x8x128) (k0_off381 v1283) S1x8x128.size (k0_off381_inb k0_t1 v1283 k0_hw127 k0_h64)).WholeWords (EltTy.packing .bf16) := fun k0_t1 v1283 k0_hw127 k0_h64 => k0_hw127.2 k0_h64 (k0_off381_inb k0_t1 v1283 k0_hw127 k0_h64)

def k0_off382 (k0_t1 : Fin k0_t1_loop.trips) : Fin 1 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let v1273 : Index := Scalar.indexCast v1269
  ![v1273.toNat]
def k0_off383 (k0_t1 : Fin k0_t1_loop.trips) : Fin 3 → Nat :=
  let c0_i32 : BitVec 32 := 0#32
  let c1_i32 : BitVec 32 := 1#32
  let arg4 : BitVec 32 := Scf.iv c0_i32 c1_i32 k0_t1
  let c64_i32_826 : BitVec 32 := 64#32
  let v1268 : BitVec 32 := Scalar.muli arg4 c64_i32_826
  let c63_i32_827 : BitVec 32 := 63#32
  let v1269 : BitVec 32 := Scalar.addi v1268 c63_i32_827
  let c0_i32_831 : BitVec 32 := 0#32
  let c0_i32_832 : BitVec 32 := 0#32
  ![v1269.toNat, 0, 0]
def k0_off384 (v1274 : BitVec 32) : Fin 3 → Nat :=
  let c0_i32_833 : BitVec 32 := 0#32
  let c0_i32_834 : BitVec 32 := 0#32
  ![v1274.toNat, 0, 0]

def k0_chk128 (v1274 : BitVec 32) : Prop :=
  (∀ a, (k0_off384 v1274) a + S1x8x128.size a ≤ S13312x8x128.size a) ∧
  (∀ (hinb : ∀ a, (k0_off384 v1274) a + S1x8x128.size a ≤ S13312x8x128.size a), (Rect.unit (s := S13312x8x128) (k0_off384 v1274) S1x8x128.size hinb).WholeWords (EltTy.packing .bf16))
theorem k0_off384_inb : ∀ (v1274 : BitVec 32) (k0_hw128 : k0_chk128 v1274), ∀ a, (k0_off384 v1274) a + S1x8x128.size a ≤ S13312x8x128.size a := fun v1274 k0_hw128 => k0_hw128.1
theorem k0_off384_wordsbf16 : ∀ (v1274 : BitVec 32) (k0_hw128 : k0_chk128 v1274), (Rect.unit (s := S13312x8x128) (k0_off384 v1274) S1x8x128.size (k0_off384_inb v1274 k0_hw128)).WholeWords (EltTy.packing .bf16) := fun v1274 k0_hw128 => k0_hw128.2 (k0_off384_inb v1274 k0_hw128)

def k0_off385 (v1 : BitVec 32) : Fin 3 → Nat :=
  let c0_i32_4 : BitVec 32 := 0#32
  let c0_i32_5 : BitVec 32 := 0#32
  ![v1.toNat, 0, 0]

def k0_chk129 (v1 : BitVec 32) : Prop :=
  (∀ a, (k0_off385 v1) a + S1x8x128.size a ≤ S13312x8x128.size a) ∧
  (∀ (hinb : ∀ a, (k0_off385 v1) a + S1x8x128.size a ≤ S13312x8x128.size a), (Rect.unit (s := S13312x8x128) (k0_off385 v1) S1x8x128.size hinb).WholeWords (EltTy.packing .bf16))
theorem k0_off385_inb : ∀ (v1 : BitVec 32) (k0_hw129 : k0_chk129 v1), ∀ a, (k0_off385 v1) a + S1x8x128.size a ≤ S13312x8x128.size a := fun v1 k0_hw129 => k0_hw129.1
theorem k0_off385_wordsbf16 : ∀ (v1 : BitVec 32) (k0_hw129 : k0_chk129 v1), (Rect.unit (s := S13312x8x128) (k0_off385 v1) S1x8x128.size (k0_off385_inb v1 k0_hw129)).WholeWords (EltTy.packing .bf16) := fun v1 k0_hw129 => k0_hw129.2 (k0_off385_inb v1 k0_hw129)

def k0_off386 (v8 : BitVec 32) : Fin 3 → Nat :=
  let c0_i32_9 : BitVec 32 := 0#32
  let c0_i32_10 : BitVec 32 := 0#32
  ![v8.toNat, 0, 0]

def k0_chk130 (v8 : BitVec 32) : Prop :=
  (∀ a, (k0_off386 v8) a + S1x8x128.size a ≤ S13312x8x128.size a) ∧
  (∀ (hinb : ∀ a, (k0_off386 v8) a + S1x8x128.size a ≤ S13312x8x128.size a), (Rect.unit (s := S13312x8x128) (k0_off386 v8) S1x8x128.size hinb).WholeWords (EltTy.packing .bf16))
theorem k0_off386_inb : ∀ (v8 : BitVec 32) (k0_hw130 : k0_chk130 v8), ∀ a, (k0_off386 v8) a + S1x8x128.size a ≤ S13312x8x128.size a := fun v8 k0_hw130 => k0_hw130.1
theorem k0_off386_wordsbf16 : ∀ (v8 : BitVec 32) (k0_hw130 : k0_chk130 v8), (Rect.unit (s := S13312x8x128) (k0_off386 v8) S1x8x128.size (k0_off386_inb v8 k0_hw130)).WholeWords (EltTy.packing .bf16) := fun v8 k0_hw130 => k0_hw130.2 (k0_off386_inb v8 k0_hw130)

def k0_off387 (v15 : BitVec 32) : Fin 3 → Nat :=
  let c0_i32_13 : BitVec 32 := 0#32
  let c0_i32_14 : BitVec 32 := 0#32
  ![v15.toNat, 0, 0]

def k0_chk131 (v15 : BitVec 32) : Prop :=
  (∀ a, (k0_off387 v15) a + S1x8x128.size a ≤ S13312x8x128.size a) ∧
  (∀ (hinb : ∀ a, (k0_off387 v15) a + S1x8x128.size a ≤ S13312x8x128.size a), (Rect.unit (s := S13312x8x128) (k0_off387 v15) S1x8x128.size hinb).WholeWords (EltTy.packing .bf16))
theorem k0_off387_inb : ∀ (v15 : BitVec 32) (k0_hw131 : k0_chk131 v15), ∀ a, (k0_off387 v15) a + S1x8x128.size a ≤ S13312x8x128.size a := fun v15 k0_hw131 => k0_hw131.1
theorem k0_off387_wordsbf16 : ∀ (v15 : BitVec 32) (k0_hw131 : k0_chk131 v15), (Rect.unit (s := S13312x8x128) (k0_off387 v15) S1x8x128.size (k0_off387_inb v15 k0_hw131)).WholeWords (EltTy.packing .bf16) := fun v15 k0_hw131 => k0_hw131.2 (k0_off387_inb v15 k0_hw131)

def k0_off388 (v22 : BitVec 32) : Fin 3 → Nat :=
  let c0_i32_17 : BitVec 32 := 0#32
  let c0_i32_18 : BitVec 32 := 0#32
  ![v22.toNat, 0, 0]

def k0_chk132 (v22 : BitVec 32) : Prop :=
  (∀ a, (k0_off388 v22) a + S1x8x128.size a ≤ S13312x8x128.size a) ∧
  (∀ (hinb : ∀ a, (k0_off388 v22) a + S1x8x128.size a ≤ S13312x8x128.size a), (Rect.unit (s := S13312x8x128) (k0_off388 v22) S1x8x128.size hinb).WholeWords (EltTy.packing .bf16))
theorem k0_off388_inb : ∀ (v22 : BitVec 32) (k0_hw132 : k0_chk132 v22), ∀ a, (k0_off388 v22) a + S1x8x128.size a ≤ S13312x8x128.size a := fun v22 k0_hw132 => k0_hw132.1
theorem k0_off388_wordsbf16 : ∀ (v22 : BitVec 32) (k0_hw132 : k0_chk132 v22), (Rect.unit (s := S13312x8x128) (k0_off388 v22) S1x8x128.size (k0_off388_inb v22 k0_hw132)).WholeWords (EltTy.packing .bf16) := fun v22 k0_hw132 => k0_hw132.2 (k0_off388_inb v22 k0_hw132)

def k0_off389 (v29 : BitVec 32) : Fin 3 → Nat :=
  let c0_i32_21 : BitVec 32 := 0#32
  let c0_i32_22 : BitVec 32 := 0#32
  ![v29.toNat, 0, 0]

def k0_chk133 (v29 : BitVec 32) : Prop :=
  (∀ a, (k0_off389 v29) a + S1x8x128.size a ≤ S13312x8x128.size a) ∧
  (∀ (hinb : ∀ a, (k0_off389 v29) a + S1x8x128.size a ≤ S13312x8x128.size a), (Rect.unit (s := S13312x8x128) (k0_off389 v29) S1x8x128.size hinb).WholeWords (EltTy.packing .bf16))
theorem k0_off389_inb : ∀ (v29 : BitVec 32) (k0_hw133 : k0_chk133 v29), ∀ a, (k0_off389 v29) a + S1x8x128.size a ≤ S13312x8x128.size a := fun v29 k0_hw133 => k0_hw133.1
theorem k0_off389_wordsbf16 : ∀ (v29 : BitVec 32) (k0_hw133 : k0_chk133 v29), (Rect.unit (s := S13312x8x128) (k0_off389 v29) S1x8x128.size (k0_off389_inb v29 k0_hw133)).WholeWords (EltTy.packing .bf16) := fun v29 k0_hw133 => k0_hw133.2 (k0_off389_inb v29 k0_hw133)

def k0_off390 (v36 : BitVec 32) : Fin 3 → Nat :=
  let c0_i32_25 : BitVec 32 := 0#32
  let c0_i32_26 : BitVec 32 := 0#32
  ![v36.toNat, 0, 0]

def k0_chk134 (v36 : BitVec 32) : Prop :=
  (∀ a, (k0_off390 v36) a + S1x8x128.size a ≤ S13312x8x128.size a) ∧
  (∀ (hinb : ∀ a, (k0_off390 v36) a + S1x8x128.size a ≤ S13312x8x128.size a), (Rect.unit (s := S13312x8x128) (k0_off390 v36) S1x8x128.size hinb).WholeWords (EltTy.packing .bf16))
theorem k0_off390_inb : ∀ (v36 : BitVec 32) (k0_hw134 : k0_chk134 v36), ∀ a, (k0_off390 v36) a + S1x8x128.size a ≤ S13312x8x128.size a := fun v36 k0_hw134 => k0_hw134.1
theorem k0_off390_wordsbf16 : ∀ (v36 : BitVec 32) (k0_hw134 : k0_chk134 v36), (Rect.unit (s := S13312x8x128) (k0_off390 v36) S1x8x128.size (k0_off390_inb v36 k0_hw134)).WholeWords (EltTy.packing .bf16) := fun v36 k0_hw134 => k0_hw134.2 (k0_off390_inb v36 k0_hw134)

def k0_off391 (v43 : BitVec 32) : Fin 3 → Nat :=
  let c0_i32_29 : BitVec 32 := 0#32
  let c0_i32_30 : BitVec 32 := 0#32
  ![v43.toNat, 0, 0]

def k0_chk135 (v43 : BitVec 32) : Prop :=
  (∀ a, (k0_off391 v43) a + S1x8x128.size a ≤ S13312x8x128.size a) ∧
  (∀ (hinb : ∀ a, (k0_off391 v43) a + S1x8x128.size a ≤ S13312x8x128.size a), (Rect.unit (s := S13312x8x128) (k0_off391 v43) S1x8x128.size hinb).WholeWords (EltTy.packing .bf16))
theorem k0_off391_inb : ∀ (v43 : BitVec 32) (k0_hw135 : k0_chk135 v43), ∀ a, (k0_off391 v43) a + S1x8x128.size a ≤ S13312x8x128.size a := fun v43 k0_hw135 => k0_hw135.1
theorem k0_off391_wordsbf16 : ∀ (v43 : BitVec 32) (k0_hw135 : k0_chk135 v43), (Rect.unit (s := S13312x8x128) (k0_off391 v43) S1x8x128.size (k0_off391_inb v43 k0_hw135)).WholeWords (EltTy.packing .bf16) := fun v43 k0_hw135 => k0_hw135.2 (k0_off391_inb v43 k0_hw135)

def k0_off392 (v50 : BitVec 32) : Fin 3 → Nat :=
  let c0_i32_33 : BitVec 32 := 0#32
  let c0_i32_34 : BitVec 32 := 0#32
  ![v50.toNat, 0, 0]

def k0_chk136 (v50 : BitVec 32) : Prop :=
  (∀ a, (k0_off392 v50) a + S1x8x128.size a ≤ S13312x8x128.size a) ∧
  (∀ (hinb : ∀ a, (k0_off392 v50) a + S1x8x128.size a ≤ S13312x8x128.size a), (Rect.unit (s := S13312x8x128) (k0_off392 v50) S1x8x128.size hinb).WholeWords (EltTy.packing .bf16))
theorem k0_off392_inb : ∀ (v50 : BitVec 32) (k0_hw136 : k0_chk136 v50), ∀ a, (k0_off392 v50) a + S1x8x128.size a ≤ S13312x8x128.size a := fun v50 k0_hw136 => k0_hw136.1
theorem k0_off392_wordsbf16 : ∀ (v50 : BitVec 32) (k0_hw136 : k0_chk136 v50), (Rect.unit (s := S13312x8x128) (k0_off392 v50) S1x8x128.size (k0_off392_inb v50 k0_hw136)).WholeWords (EltTy.packing .bf16) := fun v50 k0_hw136 => k0_hw136.2 (k0_off392_inb v50 k0_hw136)

def k0_off393 (v57 : BitVec 32) : Fin 3 → Nat :=
  let c0_i32_37 : BitVec 32 := 0#32
  let c0_i32_38 : BitVec 32 := 0#32
  ![v57.toNat, 0, 0]

def k0_chk137 (v57 : BitVec 32) : Prop :=
  (∀ a, (k0_off393 v57) a + S1x8x128.size a ≤ S13312x8x128.size a) ∧
  (∀ (hinb : ∀ a, (k0_off393 v57) a + S1x8x128.size a ≤ S13312x8x128.size a), (Rect.unit (s := S13312x8x128) (k0_off393 v57) S1x8x128.size hinb).WholeWords (EltTy.packing .bf16))
theorem k0_off393_inb : ∀ (v57 : BitVec 32) (k0_hw137 : k0_chk137 v57), ∀ a, (k0_off393 v57) a + S1x8x128.size a ≤ S13312x8x128.size a := fun v57 k0_hw137 => k0_hw137.1
theorem k0_off393_wordsbf16 : ∀ (v57 : BitVec 32) (k0_hw137 : k0_chk137 v57), (Rect.unit (s := S13312x8x128) (k0_off393 v57) S1x8x128.size (k0_off393_inb v57 k0_hw137)).WholeWords (EltTy.packing .bf16) := fun v57 k0_hw137 => k0_hw137.2 (k0_off393_inb v57 k0_hw137)

def k0_off394 (v64 : BitVec 32) : Fin 3 → Nat :=
  let c0_i32_41 : BitVec 32 := 0#32
  let c0_i32_42 : BitVec 32 := 0#32
  ![v64.toNat, 0, 0]

def k0_chk138 (v64 : BitVec 32) : Prop :=
  (∀ a, (k0_off394 v64) a + S1x8x128.size a ≤ S13312x8x128.size a) ∧
  (∀ (hinb : ∀ a, (k0_off394 v64) a + S1x8x128.size a ≤ S13312x8x128.size a), (Rect.unit (s := S13312x8x128) (k0_off394 v64) S1x8x128.size hinb).WholeWords (EltTy.packing .bf16))
theorem k0_off394_inb : ∀ (v64 : BitVec 32) (k0_hw138 : k0_chk138 v64), ∀ a, (k0_off394 v64) a + S1x8x128.size a ≤ S13312x8x128.size a := fun v64 k0_hw138 => k0_hw138.1
theorem k0_off394_wordsbf16 : ∀ (v64 : BitVec 32) (k0_hw138 : k0_chk138 v64), (Rect.unit (s := S13312x8x128) (k0_off394 v64) S1x8x128.size (k0_off394_inb v64 k0_hw138)).WholeWords (EltTy.packing .bf16) := fun v64 k0_hw138 => k0_hw138.2 (k0_off394_inb v64 k0_hw138)

def k0_off395 (v71 : BitVec 32) : Fin 3 → Nat :=
  let c0_i32_45 : BitVec 32 := 0#32
  let c0_i32_46 : BitVec 32 := 0#32
  ![v71.toNat, 0, 0]

def k0_chk139 (v71 : BitVec 32) : Prop :=
  (∀ a, (k0_off395 v71) a + S1x8x128.size a ≤ S13312x8x128.size a) ∧
  (∀ (hinb : ∀ a, (k0_off395 v71) a + S1x8x128.size a ≤ S13312x8x128.size a), (Rect.unit (s := S13312x8x128) (k0_off395 v71) S1x8x128.size hinb).WholeWords (EltTy.packing .bf16))
theorem k0_off395_inb : ∀ (v71 : BitVec 32) (k0_hw139 : k0_chk139 v71), ∀ a, (k0_off395 v71) a + S1x8x128.size a ≤ S13312x8x128.size a := fun v71 k0_hw139 => k0_hw139.1
theorem k0_off395_wordsbf16 : ∀ (v71 : BitVec 32) (k0_hw139 : k0_chk139 v71), (Rect.unit (s := S13312x8x128) (k0_off395 v71) S1x8x128.size (k0_off395_inb v71 k0_hw139)).WholeWords (EltTy.packing .bf16) := fun v71 k0_hw139 => k0_hw139.2 (k0_off395_inb v71 k0_hw139)

def k0_off396 (v78 : BitVec 32) : Fin 3 → Nat :=
  let c0_i32_49 : BitVec 32 := 0#32
  let c0_i32_50 : BitVec 32 := 0#32
  ![v78.toNat, 0, 0]

def k0_chk140 (v78 : BitVec 32) : Prop :=
  (∀ a, (k0_off396 v78) a + S1x8x128.size a ≤ S13312x8x128.size a) ∧
  (∀ (hinb : ∀ a, (k0_off396 v78) a + S1x8x128.size a ≤ S13312x8x128.size a), (Rect.unit (s := S13312x8x128) (k0_off396 v78) S1x8x128.size hinb).WholeWords (EltTy.packing .bf16))
theorem k0_off396_inb : ∀ (v78 : BitVec 32) (k0_hw140 : k0_chk140 v78), ∀ a, (k0_off396 v78) a + S1x8x128.size a ≤ S13312x8x128.size a := fun v78 k0_hw140 => k0_hw140.1
theorem k0_off396_wordsbf16 : ∀ (v78 : BitVec 32) (k0_hw140 : k0_chk140 v78), (Rect.unit (s := S13312x8x128) (k0_off396 v78) S1x8x128.size (k0_off396_inb v78 k0_hw140)).WholeWords (EltTy.packing .bf16) := fun v78 k0_hw140 => k0_hw140.2 (k0_off396_inb v78 k0_hw140)

def k0_off397 (v85 : BitVec 32) : Fin 3 → Nat :=
  let c0_i32_53 : BitVec 32 := 0#32
  let c0_i32_54 : BitVec 32 := 0#32
  ![v85.toNat, 0, 0]

def k0_chk141 (v85 : BitVec 32) : Prop :=
  (∀ a, (k0_off397 v85) a + S1x8x128.size a ≤ S13312x8x128.size a) ∧
  (∀ (hinb : ∀ a, (k0_off397 v85) a + S1x8x128.size a ≤ S13312x8x128.size a), (Rect.unit (s := S13312x8x128) (k0_off397 v85) S1x8x128.size hinb).WholeWords (EltTy.packing .bf16))
theorem k0_off397_inb : ∀ (v85 : BitVec 32) (k0_hw141 : k0_chk141 v85), ∀ a, (k0_off397 v85) a + S1x8x128.size a ≤ S13312x8x128.size a := fun v85 k0_hw141 => k0_hw141.1
theorem k0_off397_wordsbf16 : ∀ (v85 : BitVec 32) (k0_hw141 : k0_chk141 v85), (Rect.unit (s := S13312x8x128) (k0_off397 v85) S1x8x128.size (k0_off397_inb v85 k0_hw141)).WholeWords (EltTy.packing .bf16) := fun v85 k0_hw141 => k0_hw141.2 (k0_off397_inb v85 k0_hw141)

def k0_off398 (v92 : BitVec 32) : Fin 3 → Nat :=
  let c0_i32_57 : BitVec 32 := 0#32
  let c0_i32_58 : BitVec 32 := 0#32
  ![v92.toNat, 0, 0]

def k0_chk142 (v92 : BitVec 32) : Prop :=
  (∀ a, (k0_off398 v92) a + S1x8x128.size a ≤ S13312x8x128.size a) ∧
  (∀ (hinb : ∀ a, (k0_off398 v92) a + S1x8x128.size a ≤ S13312x8x128.size a), (Rect.unit (s := S13312x8x128) (k0_off398 v92) S1x8x128.size hinb).WholeWords (EltTy.packing .bf16))
theorem k0_off398_inb : ∀ (v92 : BitVec 32) (k0_hw142 : k0_chk142 v92), ∀ a, (k0_off398 v92) a + S1x8x128.size a ≤ S13312x8x128.size a := fun v92 k0_hw142 => k0_hw142.1
theorem k0_off398_wordsbf16 : ∀ (v92 : BitVec 32) (k0_hw142 : k0_chk142 v92), (Rect.unit (s := S13312x8x128) (k0_off398 v92) S1x8x128.size (k0_off398_inb v92 k0_hw142)).WholeWords (EltTy.packing .bf16) := fun v92 k0_hw142 => k0_hw142.2 (k0_off398_inb v92 k0_hw142)

def k0_off399 (v99 : BitVec 32) : Fin 3 → Nat :=
  let c0_i32_61 : BitVec 32 := 0#32
  let c0_i32_62 : BitVec 32 := 0#32
  ![v99.toNat, 0, 0]

def k0_chk143 (v99 : BitVec 32) : Prop :=
  (∀ a, (k0_off399 v99) a + S1x8x128.size a ≤ S13312x8x128.size a) ∧
  (∀ (hinb : ∀ a, (k0_off399 v99) a + S1x8x128.size a ≤ S13312x8x128.size a), (Rect.unit (s := S13312x8x128) (k0_off399 v99) S1x8x128.size hinb).WholeWords (EltTy.packing .bf16))
theorem k0_off399_inb : ∀ (v99 : BitVec 32) (k0_hw143 : k0_chk143 v99), ∀ a, (k0_off399 v99) a + S1x8x128.size a ≤ S13312x8x128.size a := fun v99 k0_hw143 => k0_hw143.1
theorem k0_off399_wordsbf16 : ∀ (v99 : BitVec 32) (k0_hw143 : k0_chk143 v99), (Rect.unit (s := S13312x8x128) (k0_off399 v99) S1x8x128.size (k0_off399_inb v99 k0_hw143)).WholeWords (EltTy.packing .bf16) := fun v99 k0_hw143 => k0_hw143.2 (k0_off399_inb v99 k0_hw143)

def k0_off400 (v106 : BitVec 32) : Fin 3 → Nat :=
  let c0_i32_65 : BitVec 32 := 0#32
  let c0_i32_66 : BitVec 32 := 0#32
  ![v106.toNat, 0, 0]

def k0_chk144 (v106 : BitVec 32) : Prop :=
  (∀ a, (k0_off400 v106) a + S1x8x128.size a ≤ S13312x8x128.size a) ∧
  (∀ (hinb : ∀ a, (k0_off400 v106) a + S1x8x128.size a ≤ S13312x8x128.size a), (Rect.unit (s := S13312x8x128) (k0_off400 v106) S1x8x128.size hinb).WholeWords (EltTy.packing .bf16))
theorem k0_off400_inb : ∀ (v106 : BitVec 32) (k0_hw144 : k0_chk144 v106), ∀ a, (k0_off400 v106) a + S1x8x128.size a ≤ S13312x8x128.size a := fun v106 k0_hw144 => k0_hw144.1
theorem k0_off400_wordsbf16 : ∀ (v106 : BitVec 32) (k0_hw144 : k0_chk144 v106), (Rect.unit (s := S13312x8x128) (k0_off400 v106) S1x8x128.size (k0_off400_inb v106 k0_hw144)).WholeWords (EltTy.packing .bf16) := fun v106 k0_hw144 => k0_hw144.2 (k0_off400_inb v106 k0_hw144)

def k0_off401 (v113 : BitVec 32) : Fin 3 → Nat :=
  let c0_i32_69 : BitVec 32 := 0#32
  let c0_i32_70 : BitVec 32 := 0#32
  ![v113.toNat, 0, 0]

def k0_chk145 (v113 : BitVec 32) : Prop :=
  (∀ a, (k0_off401 v113) a + S1x8x128.size a ≤ S13312x8x128.size a) ∧
  (∀ (hinb : ∀ a, (k0_off401 v113) a + S1x8x128.size a ≤ S13312x8x128.size a), (Rect.unit (s := S13312x8x128) (k0_off401 v113) S1x8x128.size hinb).WholeWords (EltTy.packing .bf16))
theorem k0_off401_inb : ∀ (v113 : BitVec 32) (k0_hw145 : k0_chk145 v113), ∀ a, (k0_off401 v113) a + S1x8x128.size a ≤ S13312x8x128.size a := fun v113 k0_hw145 => k0_hw145.1
theorem k0_off401_wordsbf16 : ∀ (v113 : BitVec 32) (k0_hw145 : k0_chk145 v113), (Rect.unit (s := S13312x8x128) (k0_off401 v113) S1x8x128.size (k0_off401_inb v113 k0_hw145)).WholeWords (EltTy.packing .bf16) := fun v113 k0_hw145 => k0_hw145.2 (k0_off401_inb v113 k0_hw145)

def k0_off402 (v120 : BitVec 32) : Fin 3 → Nat :=
  let c0_i32_73 : BitVec 32 := 0#32
  let c0_i32_74 : BitVec 32 := 0#32
  ![v120.toNat, 0, 0]

def k0_chk146 (v120 : BitVec 32) : Prop :=
  (∀ a, (k0_off402 v120) a + S1x8x128.size a ≤ S13312x8x128.size a) ∧
  (∀ (hinb : ∀ a, (k0_off402 v120) a + S1x8x128.size a ≤ S13312x8x128.size a), (Rect.unit (s := S13312x8x128) (k0_off402 v120) S1x8x128.size hinb).WholeWords (EltTy.packing .bf16))
theorem k0_off402_inb : ∀ (v120 : BitVec 32) (k0_hw146 : k0_chk146 v120), ∀ a, (k0_off402 v120) a + S1x8x128.size a ≤ S13312x8x128.size a := fun v120 k0_hw146 => k0_hw146.1
theorem k0_off402_wordsbf16 : ∀ (v120 : BitVec 32) (k0_hw146 : k0_chk146 v120), (Rect.unit (s := S13312x8x128) (k0_off402 v120) S1x8x128.size (k0_off402_inb v120 k0_hw146)).WholeWords (EltTy.packing .bf16) := fun v120 k0_hw146 => k0_hw146.2 (k0_off402_inb v120 k0_hw146)

def k0_off403 (v127 : BitVec 32) : Fin 3 → Nat :=
  let c0_i32_77 : BitVec 32 := 0#32
  let c0_i32_78 : BitVec 32 := 0#32
  ![v127.toNat, 0, 0]

def k0_chk147 (v127 : BitVec 32) : Prop :=
  (∀ a, (k0_off403 v127) a + S1x8x128.size a ≤ S13312x8x128.size a) ∧
  (∀ (hinb : ∀ a, (k0_off403 v127) a + S1x8x128.size a ≤ S13312x8x128.size a), (Rect.unit (s := S13312x8x128) (k0_off403 v127) S1x8x128.size hinb).WholeWords (EltTy.packing .bf16))
theorem k0_off403_inb : ∀ (v127 : BitVec 32) (k0_hw147 : k0_chk147 v127), ∀ a, (k0_off403 v127) a + S1x8x128.size a ≤ S13312x8x128.size a := fun v127 k0_hw147 => k0_hw147.1
theorem k0_off403_wordsbf16 : ∀ (v127 : BitVec 32) (k0_hw147 : k0_chk147 v127), (Rect.unit (s := S13312x8x128) (k0_off403 v127) S1x8x128.size (k0_off403_inb v127 k0_hw147)).WholeWords (EltTy.packing .bf16) := fun v127 k0_hw147 => k0_hw147.2 (k0_off403_inb v127 k0_hw147)

def k0_off404 (v134 : BitVec 32) : Fin 3 → Nat :=
  let c0_i32_81 : BitVec 32 := 0#32
  let c0_i32_82 : BitVec 32 := 0#32
  ![v134.toNat, 0, 0]

def k0_chk148 (v134 : BitVec 32) : Prop :=
  (∀ a, (k0_off404 v134) a + S1x8x128.size a ≤ S13312x8x128.size a) ∧
  (∀ (hinb : ∀ a, (k0_off404 v134) a + S1x8x128.size a ≤ S13312x8x128.size a), (Rect.unit (s := S13312x8x128) (k0_off404 v134) S1x8x128.size hinb).WholeWords (EltTy.packing .bf16))
theorem k0_off404_inb : ∀ (v134 : BitVec 32) (k0_hw148 : k0_chk148 v134), ∀ a, (k0_off404 v134) a + S1x8x128.size a ≤ S13312x8x128.size a := fun v134 k0_hw148 => k0_hw148.1
theorem k0_off404_wordsbf16 : ∀ (v134 : BitVec 32) (k0_hw148 : k0_chk148 v134), (Rect.unit (s := S13312x8x128) (k0_off404 v134) S1x8x128.size (k0_off404_inb v134 k0_hw148)).WholeWords (EltTy.packing .bf16) := fun v134 k0_hw148 => k0_hw148.2 (k0_off404_inb v134 k0_hw148)

def k0_off405 (v141 : BitVec 32) : Fin 3 → Nat :=
  let c0_i32_85 : BitVec 32 := 0#32
  let c0_i32_86 : BitVec 32 := 0#32
  ![v141.toNat, 0, 0]

def k0_chk149 (v141 : BitVec 32) : Prop :=
  (∀ a, (k0_off405 v141) a + S1x8x128.size a ≤ S13312x8x128.size a) ∧
  (∀ (hinb : ∀ a, (k0_off405 v141) a + S1x8x128.size a ≤ S13312x8x128.size a), (Rect.unit (s := S13312x8x128) (k0_off405 v141) S1x8x128.size hinb).WholeWords (EltTy.packing .bf16))
theorem k0_off405_inb : ∀ (v141 : BitVec 32) (k0_hw149 : k0_chk149 v141), ∀ a, (k0_off405 v141) a + S1x8x128.size a ≤ S13312x8x128.size a := fun v141 k0_hw149 => k0_hw149.1
theorem k0_off405_wordsbf16 : ∀ (v141 : BitVec 32) (k0_hw149 : k0_chk149 v141), (Rect.unit (s := S13312x8x128) (k0_off405 v141) S1x8x128.size (k0_off405_inb v141 k0_hw149)).WholeWords (EltTy.packing .bf16) := fun v141 k0_hw149 => k0_hw149.2 (k0_off405_inb v141 k0_hw149)

def k0_off406 (v148 : BitVec 32) : Fin 3 → Nat :=
  let c0_i32_89 : BitVec 32 := 0#32
  let c0_i32_90 : BitVec 32 := 0#32
  ![v148.toNat, 0, 0]

def k0_chk150 (v148 : BitVec 32) : Prop :=
  (∀ a, (k0_off406 v148) a + S1x8x128.size a ≤ S13312x8x128.size a) ∧
  (∀ (hinb : ∀ a, (k0_off406 v148) a + S1x8x128.size a ≤ S13312x8x128.size a), (Rect.unit (s := S13312x8x128) (k0_off406 v148) S1x8x128.size hinb).WholeWords (EltTy.packing .bf16))
theorem k0_off406_inb : ∀ (v148 : BitVec 32) (k0_hw150 : k0_chk150 v148), ∀ a, (k0_off406 v148) a + S1x8x128.size a ≤ S13312x8x128.size a := fun v148 k0_hw150 => k0_hw150.1
theorem k0_off406_wordsbf16 : ∀ (v148 : BitVec 32) (k0_hw150 : k0_chk150 v148), (Rect.unit (s := S13312x8x128) (k0_off406 v148) S1x8x128.size (k0_off406_inb v148 k0_hw150)).WholeWords (EltTy.packing .bf16) := fun v148 k0_hw150 => k0_hw150.2 (k0_off406_inb v148 k0_hw150)

def k0_off407 (v155 : BitVec 32) : Fin 3 → Nat :=
  let c0_i32_93 : BitVec 32 := 0#32
  let c0_i32_94 : BitVec 32 := 0#32
  ![v155.toNat, 0, 0]

def k0_chk151 (v155 : BitVec 32) : Prop :=
  (∀ a, (k0_off407 v155) a + S1x8x128.size a ≤ S13312x8x128.size a) ∧
  (∀ (hinb : ∀ a, (k0_off407 v155) a + S1x8x128.size a ≤ S13312x8x128.size a), (Rect.unit (s := S13312x8x128) (k0_off407 v155) S1x8x128.size hinb).WholeWords (EltTy.packing .bf16))
theorem k0_off407_inb : ∀ (v155 : BitVec 32) (k0_hw151 : k0_chk151 v155), ∀ a, (k0_off407 v155) a + S1x8x128.size a ≤ S13312x8x128.size a := fun v155 k0_hw151 => k0_hw151.1
theorem k0_off407_wordsbf16 : ∀ (v155 : BitVec 32) (k0_hw151 : k0_chk151 v155), (Rect.unit (s := S13312x8x128) (k0_off407 v155) S1x8x128.size (k0_off407_inb v155 k0_hw151)).WholeWords (EltTy.packing .bf16) := fun v155 k0_hw151 => k0_hw151.2 (k0_off407_inb v155 k0_hw151)

def k0_off408 (v162 : BitVec 32) : Fin 3 → Nat :=
  let c0_i32_97 : BitVec 32 := 0#32
  let c0_i32_98 : BitVec 32 := 0#32
  ![v162.toNat, 0, 0]

def k0_chk152 (v162 : BitVec 32) : Prop :=
  (∀ a, (k0_off408 v162) a + S1x8x128.size a ≤ S13312x8x128.size a) ∧
  (∀ (hinb : ∀ a, (k0_off408 v162) a + S1x8x128.size a ≤ S13312x8x128.size a), (Rect.unit (s := S13312x8x128) (k0_off408 v162) S1x8x128.size hinb).WholeWords (EltTy.packing .bf16))
theorem k0_off408_inb : ∀ (v162 : BitVec 32) (k0_hw152 : k0_chk152 v162), ∀ a, (k0_off408 v162) a + S1x8x128.size a ≤ S13312x8x128.size a := fun v162 k0_hw152 => k0_hw152.1
theorem k0_off408_wordsbf16 : ∀ (v162 : BitVec 32) (k0_hw152 : k0_chk152 v162), (Rect.unit (s := S13312x8x128) (k0_off408 v162) S1x8x128.size (k0_off408_inb v162 k0_hw152)).WholeWords (EltTy.packing .bf16) := fun v162 k0_hw152 => k0_hw152.2 (k0_off408_inb v162 k0_hw152)

def k0_off409 (v169 : BitVec 32) : Fin 3 → Nat :=
  let c0_i32_101 : BitVec 32 := 0#32
  let c0_i32_102 : BitVec 32 := 0#32
  ![v169.toNat, 0, 0]

def k0_chk153 (v169 : BitVec 32) : Prop :=
  (∀ a, (k0_off409 v169) a + S1x8x128.size a ≤ S13312x8x128.size a) ∧
  (∀ (hinb : ∀ a, (k0_off409 v169) a + S1x8x128.size a ≤ S13312x8x128.size a), (Rect.unit (s := S13312x8x128) (k0_off409 v169) S1x8x128.size hinb).WholeWords (EltTy.packing .bf16))
theorem k0_off409_inb : ∀ (v169 : BitVec 32) (k0_hw153 : k0_chk153 v169), ∀ a, (k0_off409 v169) a + S1x8x128.size a ≤ S13312x8x128.size a := fun v169 k0_hw153 => k0_hw153.1
theorem k0_off409_wordsbf16 : ∀ (v169 : BitVec 32) (k0_hw153 : k0_chk153 v169), (Rect.unit (s := S13312x8x128) (k0_off409 v169) S1x8x128.size (k0_off409_inb v169 k0_hw153)).WholeWords (EltTy.packing .bf16) := fun v169 k0_hw153 => k0_hw153.2 (k0_off409_inb v169 k0_hw153)

def k0_off410 (v176 : BitVec 32) : Fin 3 → Nat :=
  let c0_i32_105 : BitVec 32 := 0#32
  let c0_i32_106 : BitVec 32 := 0#32
  ![v176.toNat, 0, 0]

def k0_chk154 (v176 : BitVec 32) : Prop :=
  (∀ a, (k0_off410 v176) a + S1x8x128.size a ≤ S13312x8x128.size a) ∧
  (∀ (hinb : ∀ a, (k0_off410 v176) a + S1x8x128.size a ≤ S13312x8x128.size a), (Rect.unit (s := S13312x8x128) (k0_off410 v176) S1x8x128.size hinb).WholeWords (EltTy.packing .bf16))
theorem k0_off410_inb : ∀ (v176 : BitVec 32) (k0_hw154 : k0_chk154 v176), ∀ a, (k0_off410 v176) a + S1x8x128.size a ≤ S13312x8x128.size a := fun v176 k0_hw154 => k0_hw154.1
theorem k0_off410_wordsbf16 : ∀ (v176 : BitVec 32) (k0_hw154 : k0_chk154 v176), (Rect.unit (s := S13312x8x128) (k0_off410 v176) S1x8x128.size (k0_off410_inb v176 k0_hw154)).WholeWords (EltTy.packing .bf16) := fun v176 k0_hw154 => k0_hw154.2 (k0_off410_inb v176 k0_hw154)

def k0_off411 (v183 : BitVec 32) : Fin 3 → Nat :=
  let c0_i32_109 : BitVec 32 := 0#32
  let c0_i32_110 : BitVec 32 := 0#32
  ![v183.toNat, 0, 0]

def k0_chk155 (v183 : BitVec 32) : Prop :=
  (∀ a, (k0_off411 v183) a + S1x8x128.size a ≤ S13312x8x128.size a) ∧
  (∀ (hinb : ∀ a, (k0_off411 v183) a + S1x8x128.size a ≤ S13312x8x128.size a), (Rect.unit (s := S13312x8x128) (k0_off411 v183) S1x8x128.size hinb).WholeWords (EltTy.packing .bf16))
theorem k0_off411_inb : ∀ (v183 : BitVec 32) (k0_hw155 : k0_chk155 v183), ∀ a, (k0_off411 v183) a + S1x8x128.size a ≤ S13312x8x128.size a := fun v183 k0_hw155 => k0_hw155.1
theorem k0_off411_wordsbf16 : ∀ (v183 : BitVec 32) (k0_hw155 : k0_chk155 v183), (Rect.unit (s := S13312x8x128) (k0_off411 v183) S1x8x128.size (k0_off411_inb v183 k0_hw155)).WholeWords (EltTy.packing .bf16) := fun v183 k0_hw155 => k0_hw155.2 (k0_off411_inb v183 k0_hw155)

def k0_off412 (v190 : BitVec 32) : Fin 3 → Nat :=
  let c0_i32_113 : BitVec 32 := 0#32
  let c0_i32_114 : BitVec 32 := 0#32
  ![v190.toNat, 0, 0]

def k0_chk156 (v190 : BitVec 32) : Prop :=
  (∀ a, (k0_off412 v190) a + S1x8x128.size a ≤ S13312x8x128.size a) ∧
  (∀ (hinb : ∀ a, (k0_off412 v190) a + S1x8x128.size a ≤ S13312x8x128.size a), (Rect.unit (s := S13312x8x128) (k0_off412 v190) S1x8x128.size hinb).WholeWords (EltTy.packing .bf16))
theorem k0_off412_inb : ∀ (v190 : BitVec 32) (k0_hw156 : k0_chk156 v190), ∀ a, (k0_off412 v190) a + S1x8x128.size a ≤ S13312x8x128.size a := fun v190 k0_hw156 => k0_hw156.1
theorem k0_off412_wordsbf16 : ∀ (v190 : BitVec 32) (k0_hw156 : k0_chk156 v190), (Rect.unit (s := S13312x8x128) (k0_off412 v190) S1x8x128.size (k0_off412_inb v190 k0_hw156)).WholeWords (EltTy.packing .bf16) := fun v190 k0_hw156 => k0_hw156.2 (k0_off412_inb v190 k0_hw156)

def k0_off413 (v197 : BitVec 32) : Fin 3 → Nat :=
  let c0_i32_117 : BitVec 32 := 0#32
  let c0_i32_118 : BitVec 32 := 0#32
  ![v197.toNat, 0, 0]

def k0_chk157 (v197 : BitVec 32) : Prop :=
  (∀ a, (k0_off413 v197) a + S1x8x128.size a ≤ S13312x8x128.size a) ∧
  (∀ (hinb : ∀ a, (k0_off413 v197) a + S1x8x128.size a ≤ S13312x8x128.size a), (Rect.unit (s := S13312x8x128) (k0_off413 v197) S1x8x128.size hinb).WholeWords (EltTy.packing .bf16))
theorem k0_off413_inb : ∀ (v197 : BitVec 32) (k0_hw157 : k0_chk157 v197), ∀ a, (k0_off413 v197) a + S1x8x128.size a ≤ S13312x8x128.size a := fun v197 k0_hw157 => k0_hw157.1
theorem k0_off413_wordsbf16 : ∀ (v197 : BitVec 32) (k0_hw157 : k0_chk157 v197), (Rect.unit (s := S13312x8x128) (k0_off413 v197) S1x8x128.size (k0_off413_inb v197 k0_hw157)).WholeWords (EltTy.packing .bf16) := fun v197 k0_hw157 => k0_hw157.2 (k0_off413_inb v197 k0_hw157)

def k0_off414 (v204 : BitVec 32) : Fin 3 → Nat :=
  let c0_i32_121 : BitVec 32 := 0#32
  let c0_i32_122 : BitVec 32 := 0#32
  ![v204.toNat, 0, 0]

def k0_chk158 (v204 : BitVec 32) : Prop :=
  (∀ a, (k0_off414 v204) a + S1x8x128.size a ≤ S13312x8x128.size a) ∧
  (∀ (hinb : ∀ a, (k0_off414 v204) a + S1x8x128.size a ≤ S13312x8x128.size a), (Rect.unit (s := S13312x8x128) (k0_off414 v204) S1x8x128.size hinb).WholeWords (EltTy.packing .bf16))
theorem k0_off414_inb : ∀ (v204 : BitVec 32) (k0_hw158 : k0_chk158 v204), ∀ a, (k0_off414 v204) a + S1x8x128.size a ≤ S13312x8x128.size a := fun v204 k0_hw158 => k0_hw158.1
theorem k0_off414_wordsbf16 : ∀ (v204 : BitVec 32) (k0_hw158 : k0_chk158 v204), (Rect.unit (s := S13312x8x128) (k0_off414 v204) S1x8x128.size (k0_off414_inb v204 k0_hw158)).WholeWords (EltTy.packing .bf16) := fun v204 k0_hw158 => k0_hw158.2 (k0_off414_inb v204 k0_hw158)

def k0_off415 (v211 : BitVec 32) : Fin 3 → Nat :=
  let c0_i32_125 : BitVec 32 := 0#32
  let c0_i32_126 : BitVec 32 := 0#32
  ![v211.toNat, 0, 0]

def k0_chk159 (v211 : BitVec 32) : Prop :=
  (∀ a, (k0_off415 v211) a + S1x8x128.size a ≤ S13312x8x128.size a) ∧
  (∀ (hinb : ∀ a, (k0_off415 v211) a + S1x8x128.size a ≤ S13312x8x128.size a), (Rect.unit (s := S13312x8x128) (k0_off415 v211) S1x8x128.size hinb).WholeWords (EltTy.packing .bf16))
theorem k0_off415_inb : ∀ (v211 : BitVec 32) (k0_hw159 : k0_chk159 v211), ∀ a, (k0_off415 v211) a + S1x8x128.size a ≤ S13312x8x128.size a := fun v211 k0_hw159 => k0_hw159.1
theorem k0_off415_wordsbf16 : ∀ (v211 : BitVec 32) (k0_hw159 : k0_chk159 v211), (Rect.unit (s := S13312x8x128) (k0_off415 v211) S1x8x128.size (k0_off415_inb v211 k0_hw159)).WholeWords (EltTy.packing .bf16) := fun v211 k0_hw159 => k0_hw159.2 (k0_off415_inb v211 k0_hw159)

def k0_off416 (v218 : BitVec 32) : Fin 3 → Nat :=
  let c0_i32_129 : BitVec 32 := 0#32
  let c0_i32_130 : BitVec 32 := 0#32
  ![v218.toNat, 0, 0]

def k0_chk160 (v218 : BitVec 32) : Prop :=
  (∀ a, (k0_off416 v218) a + S1x8x128.size a ≤ S13312x8x128.size a) ∧
  (∀ (hinb : ∀ a, (k0_off416 v218) a + S1x8x128.size a ≤ S13312x8x128.size a), (Rect.unit (s := S13312x8x128) (k0_off416 v218) S1x8x128.size hinb).WholeWords (EltTy.packing .bf16))
theorem k0_off416_inb : ∀ (v218 : BitVec 32) (k0_hw160 : k0_chk160 v218), ∀ a, (k0_off416 v218) a + S1x8x128.size a ≤ S13312x8x128.size a := fun v218 k0_hw160 => k0_hw160.1
theorem k0_off416_wordsbf16 : ∀ (v218 : BitVec 32) (k0_hw160 : k0_chk160 v218), (Rect.unit (s := S13312x8x128) (k0_off416 v218) S1x8x128.size (k0_off416_inb v218 k0_hw160)).WholeWords (EltTy.packing .bf16) := fun v218 k0_hw160 => k0_hw160.2 (k0_off416_inb v218 k0_hw160)

def k0_off417 (v225 : BitVec 32) : Fin 3 → Nat :=
  let c0_i32_134 : BitVec 32 := 0#32
  let c0_i32_135 : BitVec 32 := 0#32
  ![v225.toNat, 0, 0]

def k0_chk161 (v225 : BitVec 32) : Prop :=
  (∀ a, (k0_off417 v225) a + S1x8x128.size a ≤ S13312x8x128.size a) ∧
  (∀ (hinb : ∀ a, (k0_off417 v225) a + S1x8x128.size a ≤ S13312x8x128.size a), (Rect.unit (s := S13312x8x128) (k0_off417 v225) S1x8x128.size hinb).WholeWords (EltTy.packing .bf16))
theorem k0_off417_inb : ∀ (v225 : BitVec 32) (k0_hw161 : k0_chk161 v225), ∀ a, (k0_off417 v225) a + S1x8x128.size a ≤ S13312x8x128.size a := fun v225 k0_hw161 => k0_hw161.1
theorem k0_off417_wordsbf16 : ∀ (v225 : BitVec 32) (k0_hw161 : k0_chk161 v225), (Rect.unit (s := S13312x8x128) (k0_off417 v225) S1x8x128.size (k0_off417_inb v225 k0_hw161)).WholeWords (EltTy.packing .bf16) := fun v225 k0_hw161 => k0_hw161.2 (k0_off417_inb v225 k0_hw161)

def k0_off418 (v232 : BitVec 32) : Fin 3 → Nat :=
  let c0_i32_138 : BitVec 32 := 0#32
  let c0_i32_139 : BitVec 32 := 0#32
  ![v232.toNat, 0, 0]

def k0_chk162 (v232 : BitVec 32) : Prop :=
  (∀ a, (k0_off418 v232) a + S1x8x128.size a ≤ S13312x8x128.size a) ∧
  (∀ (hinb : ∀ a, (k0_off418 v232) a + S1x8x128.size a ≤ S13312x8x128.size a), (Rect.unit (s := S13312x8x128) (k0_off418 v232) S1x8x128.size hinb).WholeWords (EltTy.packing .bf16))
theorem k0_off418_inb : ∀ (v232 : BitVec 32) (k0_hw162 : k0_chk162 v232), ∀ a, (k0_off418 v232) a + S1x8x128.size a ≤ S13312x8x128.size a := fun v232 k0_hw162 => k0_hw162.1
theorem k0_off418_wordsbf16 : ∀ (v232 : BitVec 32) (k0_hw162 : k0_chk162 v232), (Rect.unit (s := S13312x8x128) (k0_off418 v232) S1x8x128.size (k0_off418_inb v232 k0_hw162)).WholeWords (EltTy.packing .bf16) := fun v232 k0_hw162 => k0_hw162.2 (k0_off418_inb v232 k0_hw162)

def k0_off419 (v239 : BitVec 32) : Fin 3 → Nat :=
  let c0_i32_142 : BitVec 32 := 0#32
  let c0_i32_143 : BitVec 32 := 0#32
  ![v239.toNat, 0, 0]

def k0_chk163 (v239 : BitVec 32) : Prop :=
  (∀ a, (k0_off419 v239) a + S1x8x128.size a ≤ S13312x8x128.size a) ∧
  (∀ (hinb : ∀ a, (k0_off419 v239) a + S1x8x128.size a ≤ S13312x8x128.size a), (Rect.unit (s := S13312x8x128) (k0_off419 v239) S1x8x128.size hinb).WholeWords (EltTy.packing .bf16))
theorem k0_off419_inb : ∀ (v239 : BitVec 32) (k0_hw163 : k0_chk163 v239), ∀ a, (k0_off419 v239) a + S1x8x128.size a ≤ S13312x8x128.size a := fun v239 k0_hw163 => k0_hw163.1
theorem k0_off419_wordsbf16 : ∀ (v239 : BitVec 32) (k0_hw163 : k0_chk163 v239), (Rect.unit (s := S13312x8x128) (k0_off419 v239) S1x8x128.size (k0_off419_inb v239 k0_hw163)).WholeWords (EltTy.packing .bf16) := fun v239 k0_hw163 => k0_hw163.2 (k0_off419_inb v239 k0_hw163)

def k0_off420 (v246 : BitVec 32) : Fin 3 → Nat :=
  let c0_i32_146 : BitVec 32 := 0#32
  let c0_i32_147 : BitVec 32 := 0#32
  ![v246.toNat, 0, 0]

def k0_chk164 (v246 : BitVec 32) : Prop :=
  (∀ a, (k0_off420 v246) a + S1x8x128.size a ≤ S13312x8x128.size a) ∧
  (∀ (hinb : ∀ a, (k0_off420 v246) a + S1x8x128.size a ≤ S13312x8x128.size a), (Rect.unit (s := S13312x8x128) (k0_off420 v246) S1x8x128.size hinb).WholeWords (EltTy.packing .bf16))
theorem k0_off420_inb : ∀ (v246 : BitVec 32) (k0_hw164 : k0_chk164 v246), ∀ a, (k0_off420 v246) a + S1x8x128.size a ≤ S13312x8x128.size a := fun v246 k0_hw164 => k0_hw164.1
theorem k0_off420_wordsbf16 : ∀ (v246 : BitVec 32) (k0_hw164 : k0_chk164 v246), (Rect.unit (s := S13312x8x128) (k0_off420 v246) S1x8x128.size (k0_off420_inb v246 k0_hw164)).WholeWords (EltTy.packing .bf16) := fun v246 k0_hw164 => k0_hw164.2 (k0_off420_inb v246 k0_hw164)

def k0_off421 (v253 : BitVec 32) : Fin 3 → Nat :=
  let c0_i32_150 : BitVec 32 := 0#32
  let c0_i32_151 : BitVec 32 := 0#32
  ![v253.toNat, 0, 0]

def k0_chk165 (v253 : BitVec 32) : Prop :=
  (∀ a, (k0_off421 v253) a + S1x8x128.size a ≤ S13312x8x128.size a) ∧
  (∀ (hinb : ∀ a, (k0_off421 v253) a + S1x8x128.size a ≤ S13312x8x128.size a), (Rect.unit (s := S13312x8x128) (k0_off421 v253) S1x8x128.size hinb).WholeWords (EltTy.packing .bf16))
theorem k0_off421_inb : ∀ (v253 : BitVec 32) (k0_hw165 : k0_chk165 v253), ∀ a, (k0_off421 v253) a + S1x8x128.size a ≤ S13312x8x128.size a := fun v253 k0_hw165 => k0_hw165.1
theorem k0_off421_wordsbf16 : ∀ (v253 : BitVec 32) (k0_hw165 : k0_chk165 v253), (Rect.unit (s := S13312x8x128) (k0_off421 v253) S1x8x128.size (k0_off421_inb v253 k0_hw165)).WholeWords (EltTy.packing .bf16) := fun v253 k0_hw165 => k0_hw165.2 (k0_off421_inb v253 k0_hw165)

def k0_off422 (v260 : BitVec 32) : Fin 3 → Nat :=
  let c0_i32_154 : BitVec 32 := 0#32
  let c0_i32_155 : BitVec 32 := 0#32
  ![v260.toNat, 0, 0]

def k0_chk166 (v260 : BitVec 32) : Prop :=
  (∀ a, (k0_off422 v260) a + S1x8x128.size a ≤ S13312x8x128.size a) ∧
  (∀ (hinb : ∀ a, (k0_off422 v260) a + S1x8x128.size a ≤ S13312x8x128.size a), (Rect.unit (s := S13312x8x128) (k0_off422 v260) S1x8x128.size hinb).WholeWords (EltTy.packing .bf16))
theorem k0_off422_inb : ∀ (v260 : BitVec 32) (k0_hw166 : k0_chk166 v260), ∀ a, (k0_off422 v260) a + S1x8x128.size a ≤ S13312x8x128.size a := fun v260 k0_hw166 => k0_hw166.1
theorem k0_off422_wordsbf16 : ∀ (v260 : BitVec 32) (k0_hw166 : k0_chk166 v260), (Rect.unit (s := S13312x8x128) (k0_off422 v260) S1x8x128.size (k0_off422_inb v260 k0_hw166)).WholeWords (EltTy.packing .bf16) := fun v260 k0_hw166 => k0_hw166.2 (k0_off422_inb v260 k0_hw166)

def k0_off423 (v267 : BitVec 32) : Fin 3 → Nat :=
  let c0_i32_158 : BitVec 32 := 0#32
  let c0_i32_159 : BitVec 32 := 0#32
  ![v267.toNat, 0, 0]

def k0_chk167 (v267 : BitVec 32) : Prop :=
  (∀ a, (k0_off423 v267) a + S1x8x128.size a ≤ S13312x8x128.size a) ∧
  (∀ (hinb : ∀ a, (k0_off423 v267) a + S1x8x128.size a ≤ S13312x8x128.size a), (Rect.unit (s := S13312x8x128) (k0_off423 v267) S1x8x128.size hinb).WholeWords (EltTy.packing .bf16))
theorem k0_off423_inb : ∀ (v267 : BitVec 32) (k0_hw167 : k0_chk167 v267), ∀ a, (k0_off423 v267) a + S1x8x128.size a ≤ S13312x8x128.size a := fun v267 k0_hw167 => k0_hw167.1
theorem k0_off423_wordsbf16 : ∀ (v267 : BitVec 32) (k0_hw167 : k0_chk167 v267), (Rect.unit (s := S13312x8x128) (k0_off423 v267) S1x8x128.size (k0_off423_inb v267 k0_hw167)).WholeWords (EltTy.packing .bf16) := fun v267 k0_hw167 => k0_hw167.2 (k0_off423_inb v267 k0_hw167)

def k0_off424 (v274 : BitVec 32) : Fin 3 → Nat :=
  let c0_i32_162 : BitVec 32 := 0#32
  let c0_i32_163 : BitVec 32 := 0#32
  ![v274.toNat, 0, 0]

def k0_chk168 (v274 : BitVec 32) : Prop :=
  (∀ a, (k0_off424 v274) a + S1x8x128.size a ≤ S13312x8x128.size a) ∧
  (∀ (hinb : ∀ a, (k0_off424 v274) a + S1x8x128.size a ≤ S13312x8x128.size a), (Rect.unit (s := S13312x8x128) (k0_off424 v274) S1x8x128.size hinb).WholeWords (EltTy.packing .bf16))
theorem k0_off424_inb : ∀ (v274 : BitVec 32) (k0_hw168 : k0_chk168 v274), ∀ a, (k0_off424 v274) a + S1x8x128.size a ≤ S13312x8x128.size a := fun v274 k0_hw168 => k0_hw168.1
theorem k0_off424_wordsbf16 : ∀ (v274 : BitVec 32) (k0_hw168 : k0_chk168 v274), (Rect.unit (s := S13312x8x128) (k0_off424 v274) S1x8x128.size (k0_off424_inb v274 k0_hw168)).WholeWords (EltTy.packing .bf16) := fun v274 k0_hw168 => k0_hw168.2 (k0_off424_inb v274 k0_hw168)

def k0_off425 (v281 : BitVec 32) : Fin 3 → Nat :=
  let c0_i32_166 : BitVec 32 := 0#32
  let c0_i32_167 : BitVec 32 := 0#32
  ![v281.toNat, 0, 0]

def k0_chk169 (v281 : BitVec 32) : Prop :=
  (∀ a, (k0_off425 v281) a + S1x8x128.size a ≤ S13312x8x128.size a) ∧
  (∀ (hinb : ∀ a, (k0_off425 v281) a + S1x8x128.size a ≤ S13312x8x128.size a), (Rect.unit (s := S13312x8x128) (k0_off425 v281) S1x8x128.size hinb).WholeWords (EltTy.packing .bf16))
theorem k0_off425_inb : ∀ (v281 : BitVec 32) (k0_hw169 : k0_chk169 v281), ∀ a, (k0_off425 v281) a + S1x8x128.size a ≤ S13312x8x128.size a := fun v281 k0_hw169 => k0_hw169.1
theorem k0_off425_wordsbf16 : ∀ (v281 : BitVec 32) (k0_hw169 : k0_chk169 v281), (Rect.unit (s := S13312x8x128) (k0_off425 v281) S1x8x128.size (k0_off425_inb v281 k0_hw169)).WholeWords (EltTy.packing .bf16) := fun v281 k0_hw169 => k0_hw169.2 (k0_off425_inb v281 k0_hw169)

def k0_off426 (v288 : BitVec 32) : Fin 3 → Nat :=
  let c0_i32_170 : BitVec 32 := 0#32
  let c0_i32_171 : BitVec 32 := 0#32
  ![v288.toNat, 0, 0]

def k0_chk170 (v288 : BitVec 32) : Prop :=
  (∀ a, (k0_off426 v288) a + S1x8x128.size a ≤ S13312x8x128.size a) ∧
  (∀ (hinb : ∀ a, (k0_off426 v288) a + S1x8x128.size a ≤ S13312x8x128.size a), (Rect.unit (s := S13312x8x128) (k0_off426 v288) S1x8x128.size hinb).WholeWords (EltTy.packing .bf16))
theorem k0_off426_inb : ∀ (v288 : BitVec 32) (k0_hw170 : k0_chk170 v288), ∀ a, (k0_off426 v288) a + S1x8x128.size a ≤ S13312x8x128.size a := fun v288 k0_hw170 => k0_hw170.1
theorem k0_off426_wordsbf16 : ∀ (v288 : BitVec 32) (k0_hw170 : k0_chk170 v288), (Rect.unit (s := S13312x8x128) (k0_off426 v288) S1x8x128.size (k0_off426_inb v288 k0_hw170)).WholeWords (EltTy.packing .bf16) := fun v288 k0_hw170 => k0_hw170.2 (k0_off426_inb v288 k0_hw170)

def k0_off427 (v295 : BitVec 32) : Fin 3 → Nat :=
  let c0_i32_174 : BitVec 32 := 0#32
  let c0_i32_175 : BitVec 32 := 0#32
  ![v295.toNat, 0, 0]

def k0_chk171 (v295 : BitVec 32) : Prop :=
  (∀ a, (k0_off427 v295) a + S1x8x128.size a ≤ S13312x8x128.size a) ∧
  (∀ (hinb : ∀ a, (k0_off427 v295) a + S1x8x128.size a ≤ S13312x8x128.size a), (Rect.unit (s := S13312x8x128) (k0_off427 v295) S1x8x128.size hinb).WholeWords (EltTy.packing .bf16))
theorem k0_off427_inb : ∀ (v295 : BitVec 32) (k0_hw171 : k0_chk171 v295), ∀ a, (k0_off427 v295) a + S1x8x128.size a ≤ S13312x8x128.size a := fun v295 k0_hw171 => k0_hw171.1
theorem k0_off427_wordsbf16 : ∀ (v295 : BitVec 32) (k0_hw171 : k0_chk171 v295), (Rect.unit (s := S13312x8x128) (k0_off427 v295) S1x8x128.size (k0_off427_inb v295 k0_hw171)).WholeWords (EltTy.packing .bf16) := fun v295 k0_hw171 => k0_hw171.2 (k0_off427_inb v295 k0_hw171)

def k0_off428 (v302 : BitVec 32) : Fin 3 → Nat :=
  let c0_i32_178 : BitVec 32 := 0#32
  let c0_i32_179 : BitVec 32 := 0#32
  ![v302.toNat, 0, 0]

def k0_chk172 (v302 : BitVec 32) : Prop :=
  (∀ a, (k0_off428 v302) a + S1x8x128.size a ≤ S13312x8x128.size a) ∧
  (∀ (hinb : ∀ a, (k0_off428 v302) a + S1x8x128.size a ≤ S13312x8x128.size a), (Rect.unit (s := S13312x8x128) (k0_off428 v302) S1x8x128.size hinb).WholeWords (EltTy.packing .bf16))
theorem k0_off428_inb : ∀ (v302 : BitVec 32) (k0_hw172 : k0_chk172 v302), ∀ a, (k0_off428 v302) a + S1x8x128.size a ≤ S13312x8x128.size a := fun v302 k0_hw172 => k0_hw172.1
theorem k0_off428_wordsbf16 : ∀ (v302 : BitVec 32) (k0_hw172 : k0_chk172 v302), (Rect.unit (s := S13312x8x128) (k0_off428 v302) S1x8x128.size (k0_off428_inb v302 k0_hw172)).WholeWords (EltTy.packing .bf16) := fun v302 k0_hw172 => k0_hw172.2 (k0_off428_inb v302 k0_hw172)

def k0_off429 (v309 : BitVec 32) : Fin 3 → Nat :=
  let c0_i32_182 : BitVec 32 := 0#32
  let c0_i32_183 : BitVec 32 := 0#32
  ![v309.toNat, 0, 0]

def k0_chk173 (v309 : BitVec 32) : Prop :=
  (∀ a, (k0_off429 v309) a + S1x8x128.size a ≤ S13312x8x128.size a) ∧
  (∀ (hinb : ∀ a, (k0_off429 v309) a + S1x8x128.size a ≤ S13312x8x128.size a), (Rect.unit (s := S13312x8x128) (k0_off429 v309) S1x8x128.size hinb).WholeWords (EltTy.packing .bf16))
theorem k0_off429_inb : ∀ (v309 : BitVec 32) (k0_hw173 : k0_chk173 v309), ∀ a, (k0_off429 v309) a + S1x8x128.size a ≤ S13312x8x128.size a := fun v309 k0_hw173 => k0_hw173.1
theorem k0_off429_wordsbf16 : ∀ (v309 : BitVec 32) (k0_hw173 : k0_chk173 v309), (Rect.unit (s := S13312x8x128) (k0_off429 v309) S1x8x128.size (k0_off429_inb v309 k0_hw173)).WholeWords (EltTy.packing .bf16) := fun v309 k0_hw173 => k0_hw173.2 (k0_off429_inb v309 k0_hw173)

def k0_off430 (v316 : BitVec 32) : Fin 3 → Nat :=
  let c0_i32_186 : BitVec 32 := 0#32
  let c0_i32_187 : BitVec 32 := 0#32
  ![v316.toNat, 0, 0]

def k0_chk174 (v316 : BitVec 32) : Prop :=
  (∀ a, (k0_off430 v316) a + S1x8x128.size a ≤ S13312x8x128.size a) ∧
  (∀ (hinb : ∀ a, (k0_off430 v316) a + S1x8x128.size a ≤ S13312x8x128.size a), (Rect.unit (s := S13312x8x128) (k0_off430 v316) S1x8x128.size hinb).WholeWords (EltTy.packing .bf16))
theorem k0_off430_inb : ∀ (v316 : BitVec 32) (k0_hw174 : k0_chk174 v316), ∀ a, (k0_off430 v316) a + S1x8x128.size a ≤ S13312x8x128.size a := fun v316 k0_hw174 => k0_hw174.1
theorem k0_off430_wordsbf16 : ∀ (v316 : BitVec 32) (k0_hw174 : k0_chk174 v316), (Rect.unit (s := S13312x8x128) (k0_off430 v316) S1x8x128.size (k0_off430_inb v316 k0_hw174)).WholeWords (EltTy.packing .bf16) := fun v316 k0_hw174 => k0_hw174.2 (k0_off430_inb v316 k0_hw174)

def k0_off431 (v323 : BitVec 32) : Fin 3 → Nat :=
  let c0_i32_190 : BitVec 32 := 0#32
  let c0_i32_191 : BitVec 32 := 0#32
  ![v323.toNat, 0, 0]

def k0_chk175 (v323 : BitVec 32) : Prop :=
  (∀ a, (k0_off431 v323) a + S1x8x128.size a ≤ S13312x8x128.size a) ∧
  (∀ (hinb : ∀ a, (k0_off431 v323) a + S1x8x128.size a ≤ S13312x8x128.size a), (Rect.unit (s := S13312x8x128) (k0_off431 v323) S1x8x128.size hinb).WholeWords (EltTy.packing .bf16))
theorem k0_off431_inb : ∀ (v323 : BitVec 32) (k0_hw175 : k0_chk175 v323), ∀ a, (k0_off431 v323) a + S1x8x128.size a ≤ S13312x8x128.size a := fun v323 k0_hw175 => k0_hw175.1
theorem k0_off431_wordsbf16 : ∀ (v323 : BitVec 32) (k0_hw175 : k0_chk175 v323), (Rect.unit (s := S13312x8x128) (k0_off431 v323) S1x8x128.size (k0_off431_inb v323 k0_hw175)).WholeWords (EltTy.packing .bf16) := fun v323 k0_hw175 => k0_hw175.2 (k0_off431_inb v323 k0_hw175)

def k0_off432 (v330 : BitVec 32) : Fin 3 → Nat :=
  let c0_i32_194 : BitVec 32 := 0#32
  let c0_i32_195 : BitVec 32 := 0#32
  ![v330.toNat, 0, 0]

def k0_chk176 (v330 : BitVec 32) : Prop :=
  (∀ a, (k0_off432 v330) a + S1x8x128.size a ≤ S13312x8x128.size a) ∧
  (∀ (hinb : ∀ a, (k0_off432 v330) a + S1x8x128.size a ≤ S13312x8x128.size a), (Rect.unit (s := S13312x8x128) (k0_off432 v330) S1x8x128.size hinb).WholeWords (EltTy.packing .bf16))
theorem k0_off432_inb : ∀ (v330 : BitVec 32) (k0_hw176 : k0_chk176 v330), ∀ a, (k0_off432 v330) a + S1x8x128.size a ≤ S13312x8x128.size a := fun v330 k0_hw176 => k0_hw176.1
theorem k0_off432_wordsbf16 : ∀ (v330 : BitVec 32) (k0_hw176 : k0_chk176 v330), (Rect.unit (s := S13312x8x128) (k0_off432 v330) S1x8x128.size (k0_off432_inb v330 k0_hw176)).WholeWords (EltTy.packing .bf16) := fun v330 k0_hw176 => k0_hw176.2 (k0_off432_inb v330 k0_hw176)

def k0_off433 (v337 : BitVec 32) : Fin 3 → Nat :=
  let c0_i32_198 : BitVec 32 := 0#32
  let c0_i32_199 : BitVec 32 := 0#32
  ![v337.toNat, 0, 0]

def k0_chk177 (v337 : BitVec 32) : Prop :=
  (∀ a, (k0_off433 v337) a + S1x8x128.size a ≤ S13312x8x128.size a) ∧
  (∀ (hinb : ∀ a, (k0_off433 v337) a + S1x8x128.size a ≤ S13312x8x128.size a), (Rect.unit (s := S13312x8x128) (k0_off433 v337) S1x8x128.size hinb).WholeWords (EltTy.packing .bf16))
theorem k0_off433_inb : ∀ (v337 : BitVec 32) (k0_hw177 : k0_chk177 v337), ∀ a, (k0_off433 v337) a + S1x8x128.size a ≤ S13312x8x128.size a := fun v337 k0_hw177 => k0_hw177.1
theorem k0_off433_wordsbf16 : ∀ (v337 : BitVec 32) (k0_hw177 : k0_chk177 v337), (Rect.unit (s := S13312x8x128) (k0_off433 v337) S1x8x128.size (k0_off433_inb v337 k0_hw177)).WholeWords (EltTy.packing .bf16) := fun v337 k0_hw177 => k0_hw177.2 (k0_off433_inb v337 k0_hw177)

def k0_off434 (v344 : BitVec 32) : Fin 3 → Nat :=
  let c0_i32_202 : BitVec 32 := 0#32
  let c0_i32_203 : BitVec 32 := 0#32
  ![v344.toNat, 0, 0]

def k0_chk178 (v344 : BitVec 32) : Prop :=
  (∀ a, (k0_off434 v344) a + S1x8x128.size a ≤ S13312x8x128.size a) ∧
  (∀ (hinb : ∀ a, (k0_off434 v344) a + S1x8x128.size a ≤ S13312x8x128.size a), (Rect.unit (s := S13312x8x128) (k0_off434 v344) S1x8x128.size hinb).WholeWords (EltTy.packing .bf16))
theorem k0_off434_inb : ∀ (v344 : BitVec 32) (k0_hw178 : k0_chk178 v344), ∀ a, (k0_off434 v344) a + S1x8x128.size a ≤ S13312x8x128.size a := fun v344 k0_hw178 => k0_hw178.1
theorem k0_off434_wordsbf16 : ∀ (v344 : BitVec 32) (k0_hw178 : k0_chk178 v344), (Rect.unit (s := S13312x8x128) (k0_off434 v344) S1x8x128.size (k0_off434_inb v344 k0_hw178)).WholeWords (EltTy.packing .bf16) := fun v344 k0_hw178 => k0_hw178.2 (k0_off434_inb v344 k0_hw178)

def k0_off435 (v351 : BitVec 32) : Fin 3 → Nat :=
  let c0_i32_206 : BitVec 32 := 0#32
  let c0_i32_207 : BitVec 32 := 0#32
  ![v351.toNat, 0, 0]

def k0_chk179 (v351 : BitVec 32) : Prop :=
  (∀ a, (k0_off435 v351) a + S1x8x128.size a ≤ S13312x8x128.size a) ∧
  (∀ (hinb : ∀ a, (k0_off435 v351) a + S1x8x128.size a ≤ S13312x8x128.size a), (Rect.unit (s := S13312x8x128) (k0_off435 v351) S1x8x128.size hinb).WholeWords (EltTy.packing .bf16))
theorem k0_off435_inb : ∀ (v351 : BitVec 32) (k0_hw179 : k0_chk179 v351), ∀ a, (k0_off435 v351) a + S1x8x128.size a ≤ S13312x8x128.size a := fun v351 k0_hw179 => k0_hw179.1
theorem k0_off435_wordsbf16 : ∀ (v351 : BitVec 32) (k0_hw179 : k0_chk179 v351), (Rect.unit (s := S13312x8x128) (k0_off435 v351) S1x8x128.size (k0_off435_inb v351 k0_hw179)).WholeWords (EltTy.packing .bf16) := fun v351 k0_hw179 => k0_hw179.2 (k0_off435_inb v351 k0_hw179)

def k0_off436 (v358 : BitVec 32) : Fin 3 → Nat :=
  let c0_i32_210 : BitVec 32 := 0#32
  let c0_i32_211 : BitVec 32 := 0#32
  ![v358.toNat, 0, 0]

def k0_chk180 (v358 : BitVec 32) : Prop :=
  (∀ a, (k0_off436 v358) a + S1x8x128.size a ≤ S13312x8x128.size a) ∧
  (∀ (hinb : ∀ a, (k0_off436 v358) a + S1x8x128.size a ≤ S13312x8x128.size a), (Rect.unit (s := S13312x8x128) (k0_off436 v358) S1x8x128.size hinb).WholeWords (EltTy.packing .bf16))
theorem k0_off436_inb : ∀ (v358 : BitVec 32) (k0_hw180 : k0_chk180 v358), ∀ a, (k0_off436 v358) a + S1x8x128.size a ≤ S13312x8x128.size a := fun v358 k0_hw180 => k0_hw180.1
theorem k0_off436_wordsbf16 : ∀ (v358 : BitVec 32) (k0_hw180 : k0_chk180 v358), (Rect.unit (s := S13312x8x128) (k0_off436 v358) S1x8x128.size (k0_off436_inb v358 k0_hw180)).WholeWords (EltTy.packing .bf16) := fun v358 k0_hw180 => k0_hw180.2 (k0_off436_inb v358 k0_hw180)

def k0_off437 (v365 : BitVec 32) : Fin 3 → Nat :=
  let c0_i32_214 : BitVec 32 := 0#32
  let c0_i32_215 : BitVec 32 := 0#32
  ![v365.toNat, 0, 0]

def k0_chk181 (v365 : BitVec 32) : Prop :=
  (∀ a, (k0_off437 v365) a + S1x8x128.size a ≤ S13312x8x128.size a) ∧
  (∀ (hinb : ∀ a, (k0_off437 v365) a + S1x8x128.size a ≤ S13312x8x128.size a), (Rect.unit (s := S13312x8x128) (k0_off437 v365) S1x8x128.size hinb).WholeWords (EltTy.packing .bf16))
theorem k0_off437_inb : ∀ (v365 : BitVec 32) (k0_hw181 : k0_chk181 v365), ∀ a, (k0_off437 v365) a + S1x8x128.size a ≤ S13312x8x128.size a := fun v365 k0_hw181 => k0_hw181.1
theorem k0_off437_wordsbf16 : ∀ (v365 : BitVec 32) (k0_hw181 : k0_chk181 v365), (Rect.unit (s := S13312x8x128) (k0_off437 v365) S1x8x128.size (k0_off437_inb v365 k0_hw181)).WholeWords (EltTy.packing .bf16) := fun v365 k0_hw181 => k0_hw181.2 (k0_off437_inb v365 k0_hw181)

def k0_off438 (v372 : BitVec 32) : Fin 3 → Nat :=
  let c0_i32_218 : BitVec 32 := 0#32
  let c0_i32_219 : BitVec 32 := 0#32
  ![v372.toNat, 0, 0]

def k0_chk182 (v372 : BitVec 32) : Prop :=
  (∀ a, (k0_off438 v372) a + S1x8x128.size a ≤ S13312x8x128.size a) ∧
  (∀ (hinb : ∀ a, (k0_off438 v372) a + S1x8x128.size a ≤ S13312x8x128.size a), (Rect.unit (s := S13312x8x128) (k0_off438 v372) S1x8x128.size hinb).WholeWords (EltTy.packing .bf16))
theorem k0_off438_inb : ∀ (v372 : BitVec 32) (k0_hw182 : k0_chk182 v372), ∀ a, (k0_off438 v372) a + S1x8x128.size a ≤ S13312x8x128.size a := fun v372 k0_hw182 => k0_hw182.1
theorem k0_off438_wordsbf16 : ∀ (v372 : BitVec 32) (k0_hw182 : k0_chk182 v372), (Rect.unit (s := S13312x8x128) (k0_off438 v372) S1x8x128.size (k0_off438_inb v372 k0_hw182)).WholeWords (EltTy.packing .bf16) := fun v372 k0_hw182 => k0_hw182.2 (k0_off438_inb v372 k0_hw182)

def k0_off439 (v379 : BitVec 32) : Fin 3 → Nat :=
  let c0_i32_222 : BitVec 32 := 0#32
  let c0_i32_223 : BitVec 32 := 0#32
  ![v379.toNat, 0, 0]

def k0_chk183 (v379 : BitVec 32) : Prop :=
  (∀ a, (k0_off439 v379) a + S1x8x128.size a ≤ S13312x8x128.size a) ∧
  (∀ (hinb : ∀ a, (k0_off439 v379) a + S1x8x128.size a ≤ S13312x8x128.size a), (Rect.unit (s := S13312x8x128) (k0_off439 v379) S1x8x128.size hinb).WholeWords (EltTy.packing .bf16))
theorem k0_off439_inb : ∀ (v379 : BitVec 32) (k0_hw183 : k0_chk183 v379), ∀ a, (k0_off439 v379) a + S1x8x128.size a ≤ S13312x8x128.size a := fun v379 k0_hw183 => k0_hw183.1
theorem k0_off439_wordsbf16 : ∀ (v379 : BitVec 32) (k0_hw183 : k0_chk183 v379), (Rect.unit (s := S13312x8x128) (k0_off439 v379) S1x8x128.size (k0_off439_inb v379 k0_hw183)).WholeWords (EltTy.packing .bf16) := fun v379 k0_hw183 => k0_hw183.2 (k0_off439_inb v379 k0_hw183)

def k0_off440 (v386 : BitVec 32) : Fin 3 → Nat :=
  let c0_i32_226 : BitVec 32 := 0#32
  let c0_i32_227 : BitVec 32 := 0#32
  ![v386.toNat, 0, 0]

def k0_chk184 (v386 : BitVec 32) : Prop :=
  (∀ a, (k0_off440 v386) a + S1x8x128.size a ≤ S13312x8x128.size a) ∧
  (∀ (hinb : ∀ a, (k0_off440 v386) a + S1x8x128.size a ≤ S13312x8x128.size a), (Rect.unit (s := S13312x8x128) (k0_off440 v386) S1x8x128.size hinb).WholeWords (EltTy.packing .bf16))
theorem k0_off440_inb : ∀ (v386 : BitVec 32) (k0_hw184 : k0_chk184 v386), ∀ a, (k0_off440 v386) a + S1x8x128.size a ≤ S13312x8x128.size a := fun v386 k0_hw184 => k0_hw184.1
theorem k0_off440_wordsbf16 : ∀ (v386 : BitVec 32) (k0_hw184 : k0_chk184 v386), (Rect.unit (s := S13312x8x128) (k0_off440 v386) S1x8x128.size (k0_off440_inb v386 k0_hw184)).WholeWords (EltTy.packing .bf16) := fun v386 k0_hw184 => k0_hw184.2 (k0_off440_inb v386 k0_hw184)

def k0_off441 (v393 : BitVec 32) : Fin 3 → Nat :=
  let c0_i32_230 : BitVec 32 := 0#32
  let c0_i32_231 : BitVec 32 := 0#32
  ![v393.toNat, 0, 0]

def k0_chk185 (v393 : BitVec 32) : Prop :=
  (∀ a, (k0_off441 v393) a + S1x8x128.size a ≤ S13312x8x128.size a) ∧
  (∀ (hinb : ∀ a, (k0_off441 v393) a + S1x8x128.size a ≤ S13312x8x128.size a), (Rect.unit (s := S13312x8x128) (k0_off441 v393) S1x8x128.size hinb).WholeWords (EltTy.packing .bf16))
theorem k0_off441_inb : ∀ (v393 : BitVec 32) (k0_hw185 : k0_chk185 v393), ∀ a, (k0_off441 v393) a + S1x8x128.size a ≤ S13312x8x128.size a := fun v393 k0_hw185 => k0_hw185.1
theorem k0_off441_wordsbf16 : ∀ (v393 : BitVec 32) (k0_hw185 : k0_chk185 v393), (Rect.unit (s := S13312x8x128) (k0_off441 v393) S1x8x128.size (k0_off441_inb v393 k0_hw185)).WholeWords (EltTy.packing .bf16) := fun v393 k0_hw185 => k0_hw185.2 (k0_off441_inb v393 k0_hw185)

def k0_off442 (v400 : BitVec 32) : Fin 3 → Nat :=
  let c0_i32_234 : BitVec 32 := 0#32
  let c0_i32_235 : BitVec 32 := 0#32
  ![v400.toNat, 0, 0]

def k0_chk186 (v400 : BitVec 32) : Prop :=
  (∀ a, (k0_off442 v400) a + S1x8x128.size a ≤ S13312x8x128.size a) ∧
  (∀ (hinb : ∀ a, (k0_off442 v400) a + S1x8x128.size a ≤ S13312x8x128.size a), (Rect.unit (s := S13312x8x128) (k0_off442 v400) S1x8x128.size hinb).WholeWords (EltTy.packing .bf16))
theorem k0_off442_inb : ∀ (v400 : BitVec 32) (k0_hw186 : k0_chk186 v400), ∀ a, (k0_off442 v400) a + S1x8x128.size a ≤ S13312x8x128.size a := fun v400 k0_hw186 => k0_hw186.1
theorem k0_off442_wordsbf16 : ∀ (v400 : BitVec 32) (k0_hw186 : k0_chk186 v400), (Rect.unit (s := S13312x8x128) (k0_off442 v400) S1x8x128.size (k0_off442_inb v400 k0_hw186)).WholeWords (EltTy.packing .bf16) := fun v400 k0_hw186 => k0_hw186.2 (k0_off442_inb v400 k0_hw186)

def k0_off443 (v407 : BitVec 32) : Fin 3 → Nat :=
  let c0_i32_238 : BitVec 32 := 0#32
  let c0_i32_239 : BitVec 32 := 0#32
  ![v407.toNat, 0, 0]

def k0_chk187 (v407 : BitVec 32) : Prop :=
  (∀ a, (k0_off443 v407) a + S1x8x128.size a ≤ S13312x8x128.size a) ∧
  (∀ (hinb : ∀ a, (k0_off443 v407) a + S1x8x128.size a ≤ S13312x8x128.size a), (Rect.unit (s := S13312x8x128) (k0_off443 v407) S1x8x128.size hinb).WholeWords (EltTy.packing .bf16))
theorem k0_off443_inb : ∀ (v407 : BitVec 32) (k0_hw187 : k0_chk187 v407), ∀ a, (k0_off443 v407) a + S1x8x128.size a ≤ S13312x8x128.size a := fun v407 k0_hw187 => k0_hw187.1
theorem k0_off443_wordsbf16 : ∀ (v407 : BitVec 32) (k0_hw187 : k0_chk187 v407), (Rect.unit (s := S13312x8x128) (k0_off443 v407) S1x8x128.size (k0_off443_inb v407 k0_hw187)).WholeWords (EltTy.packing .bf16) := fun v407 k0_hw187 => k0_hw187.2 (k0_off443_inb v407 k0_hw187)

def k0_off444 (v414 : BitVec 32) : Fin 3 → Nat :=
  let c0_i32_242 : BitVec 32 := 0#32
  let c0_i32_243 : BitVec 32 := 0#32
  ![v414.toNat, 0, 0]

def k0_chk188 (v414 : BitVec 32) : Prop :=
  (∀ a, (k0_off444 v414) a + S1x8x128.size a ≤ S13312x8x128.size a) ∧
  (∀ (hinb : ∀ a, (k0_off444 v414) a + S1x8x128.size a ≤ S13312x8x128.size a), (Rect.unit (s := S13312x8x128) (k0_off444 v414) S1x8x128.size hinb).WholeWords (EltTy.packing .bf16))
theorem k0_off444_inb : ∀ (v414 : BitVec 32) (k0_hw188 : k0_chk188 v414), ∀ a, (k0_off444 v414) a + S1x8x128.size a ≤ S13312x8x128.size a := fun v414 k0_hw188 => k0_hw188.1
theorem k0_off444_wordsbf16 : ∀ (v414 : BitVec 32) (k0_hw188 : k0_chk188 v414), (Rect.unit (s := S13312x8x128) (k0_off444 v414) S1x8x128.size (k0_off444_inb v414 k0_hw188)).WholeWords (EltTy.packing .bf16) := fun v414 k0_hw188 => k0_hw188.2 (k0_off444_inb v414 k0_hw188)

def k0_off445 (v421 : BitVec 32) : Fin 3 → Nat :=
  let c0_i32_246 : BitVec 32 := 0#32
  let c0_i32_247 : BitVec 32 := 0#32
  ![v421.toNat, 0, 0]

def k0_chk189 (v421 : BitVec 32) : Prop :=
  (∀ a, (k0_off445 v421) a + S1x8x128.size a ≤ S13312x8x128.size a) ∧
  (∀ (hinb : ∀ a, (k0_off445 v421) a + S1x8x128.size a ≤ S13312x8x128.size a), (Rect.unit (s := S13312x8x128) (k0_off445 v421) S1x8x128.size hinb).WholeWords (EltTy.packing .bf16))
theorem k0_off445_inb : ∀ (v421 : BitVec 32) (k0_hw189 : k0_chk189 v421), ∀ a, (k0_off445 v421) a + S1x8x128.size a ≤ S13312x8x128.size a := fun v421 k0_hw189 => k0_hw189.1
theorem k0_off445_wordsbf16 : ∀ (v421 : BitVec 32) (k0_hw189 : k0_chk189 v421), (Rect.unit (s := S13312x8x128) (k0_off445 v421) S1x8x128.size (k0_off445_inb v421 k0_hw189)).WholeWords (EltTy.packing .bf16) := fun v421 k0_hw189 => k0_hw189.2 (k0_off445_inb v421 k0_hw189)

def k0_off446 (v428 : BitVec 32) : Fin 3 → Nat :=
  let c0_i32_250 : BitVec 32 := 0#32
  let c0_i32_251 : BitVec 32 := 0#32
  ![v428.toNat, 0, 0]

def k0_chk190 (v428 : BitVec 32) : Prop :=
  (∀ a, (k0_off446 v428) a + S1x8x128.size a ≤ S13312x8x128.size a) ∧
  (∀ (hinb : ∀ a, (k0_off446 v428) a + S1x8x128.size a ≤ S13312x8x128.size a), (Rect.unit (s := S13312x8x128) (k0_off446 v428) S1x8x128.size hinb).WholeWords (EltTy.packing .bf16))
theorem k0_off446_inb : ∀ (v428 : BitVec 32) (k0_hw190 : k0_chk190 v428), ∀ a, (k0_off446 v428) a + S1x8x128.size a ≤ S13312x8x128.size a := fun v428 k0_hw190 => k0_hw190.1
theorem k0_off446_wordsbf16 : ∀ (v428 : BitVec 32) (k0_hw190 : k0_chk190 v428), (Rect.unit (s := S13312x8x128) (k0_off446 v428) S1x8x128.size (k0_off446_inb v428 k0_hw190)).WholeWords (EltTy.packing .bf16) := fun v428 k0_hw190 => k0_hw190.2 (k0_off446_inb v428 k0_hw190)

def k0_off447 (v435 : BitVec 32) : Fin 3 → Nat :=
  let c0_i32_254 : BitVec 32 := 0#32
  let c0_i32_255 : BitVec 32 := 0#32
  ![v435.toNat, 0, 0]

def k0_chk191 (v435 : BitVec 32) : Prop :=
  (∀ a, (k0_off447 v435) a + S1x8x128.size a ≤ S13312x8x128.size a) ∧
  (∀ (hinb : ∀ a, (k0_off447 v435) a + S1x8x128.size a ≤ S13312x8x128.size a), (Rect.unit (s := S13312x8x128) (k0_off447 v435) S1x8x128.size hinb).WholeWords (EltTy.packing .bf16))
theorem k0_off447_inb : ∀ (v435 : BitVec 32) (k0_hw191 : k0_chk191 v435), ∀ a, (k0_off447 v435) a + S1x8x128.size a ≤ S13312x8x128.size a := fun v435 k0_hw191 => k0_hw191.1
theorem k0_off447_wordsbf16 : ∀ (v435 : BitVec 32) (k0_hw191 : k0_chk191 v435), (Rect.unit (s := S13312x8x128) (k0_off447 v435) S1x8x128.size (k0_off447_inb v435 k0_hw191)).WholeWords (EltTy.packing .bf16) := fun v435 k0_hw191 => k0_hw191.2 (k0_off447_inb v435 k0_hw191)

def k0_off448 (v442 : BitVec 32) : Fin 3 → Nat :=
  let c0_i32_258 : BitVec 32 := 0#32
  let c0_i32_259 : BitVec 32 := 0#32
  ![v442.toNat, 0, 0]

def k0_chk192 (v442 : BitVec 32) : Prop :=
  (∀ a, (k0_off448 v442) a + S1x8x128.size a ≤ S13312x8x128.size a) ∧
  (∀ (hinb : ∀ a, (k0_off448 v442) a + S1x8x128.size a ≤ S13312x8x128.size a), (Rect.unit (s := S13312x8x128) (k0_off448 v442) S1x8x128.size hinb).WholeWords (EltTy.packing .bf16))
theorem k0_off448_inb : ∀ (v442 : BitVec 32) (k0_hw192 : k0_chk192 v442), ∀ a, (k0_off448 v442) a + S1x8x128.size a ≤ S13312x8x128.size a := fun v442 k0_hw192 => k0_hw192.1
theorem k0_off448_wordsbf16 : ∀ (v442 : BitVec 32) (k0_hw192 : k0_chk192 v442), (Rect.unit (s := S13312x8x128) (k0_off448 v442) S1x8x128.size (k0_off448_inb v442 k0_hw192)).WholeWords (EltTy.packing .bf16) := fun v442 k0_hw192 => k0_hw192.2 (k0_off448_inb v442 k0_hw192)

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ResultRefIdeal.lean ====
abbrev S13312x1024 : Shape := ⟨2, ![13312, 1024]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S16384x1024 : Shape := ⟨2, ![16384, 1024]⟩
abbrev S2048x1024 : Shape := ⟨2, ![2048, 1024]⟩

abbrev nBuf : Space → Nat
  | .hbm => 53
  | .vmem => 0
  | .smem => 0
  | _ => 0

abbrev bufTy : (tb : Table) → Fin (tcTables nBuf tb) → BufTy
  | .hbm, ⟨0, _⟩ => ⟨S13312x1024, .bf16⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S1x16384, .i32⟩
  | .hbm, ⟨5, _⟩ => ⟨S16384x1, .i32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S16384x16384, .i1⟩
  | .hbm, ⟨15, _⟩ => ⟨S16384x16384, .i32⟩
  | .hbm, ⟨16, _⟩ => ⟨S_, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1024, .bf16⟩
  | .hbm, ⟨34, _⟩ => ⟨S16384x1024, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384x1, .i1⟩
  | .hbm, ⟨39, _⟩ => ⟨S_, .f32⟩
  | .hbm, ⟨40, _⟩ => ⟨S_, .f32⟩
  | .hbm, ⟨41, _⟩ => ⟨S16384x1024, .i1⟩
  | .hbm, ⟨42, _⟩ => ⟨S16384x1024, .f32⟩
  | .hbm, ⟨43, _⟩ => ⟨S16384x1024, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S2048x1024, .f32⟩
  | _, _ => ⟨S13312x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Ring.lean ====
/-
# The ring all-gather, generic in the program, the buffer and the float values

Eight devices hold one buffer each, cut along its first axis in eight blocks. Device `c` fills block `c` of its own
buffer; then blocks travel both ways round the ring: in hop `h` device `c` sends block `c - h` to the device after it
(four hops) and block `c + h` to the device before it (three hops). The seven transfers a device issues are its
CHANNELS, numbered 0–3 (clockwise, hop 0–3) and 4–6 (counter-clockwise, hop 0–2); channel `k` completes on send
semaphore `k` of its issuer and on receive semaphore `k` of its peer.

Here the ring is stated once: the arithmetic of who sends what to whom, the points-tos of the blocks, the schedule of
the semaphores' one round, the rules for one channel's transfer and its two waits, and the whole exchange — from the
own block filled to all eight blocks held.
-/
module

public import Idealize.ShloMosaic.Lib.Pipeline.Launch
public import Idealize.ShloMosaic.Lib.Pipeline.Kit
public import Idealize.ShloMosaic.Lib.Rounds
public import Idealize.ShloMosaic.Lib.Ring
public import Idealize.ShloMosaic.Lib.Tactic

@[expose] public section

noncomputable section

namespace Cert.RingAG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Who sends what to whom -/

/-- The device after `c` on the ring, and the one before it. -/
def nxt (c : Dev 8) : Dev 8 := c + 1
def prv (c : Dev 8) : Dev 8 := c + 7
theorem prv_nxt (c : Dev 8) : prv (nxt c) = c := by revert c; decide
theorem nxt_prv (c : Dev 8) : nxt (prv c) = c := by revert c; decide

/-- Where channel `k` of device `c` goes, and from whom device `c` receives on channel `k`. -/
def peer (c : Dev 8) (k : Fin 7) : Dev 8 := if k.val < 4 then nxt c else prv c
def back (c : Dev 8) (k : Fin 7) : Dev 8 := if k.val < 4 then prv c else nxt c
theorem peer_back (c : Dev 8) (k : Fin 7) : peer (back c k) k = c := by revert c k; decide
theorem back_peer (c : Dev 8) (k : Fin 7) : back (peer c k) k = c := by revert c k; decide

/-- The hop in which channel `k` is used. -/
def hop (k : Fin 7) : ℕ := if k.val < 4 then k.val else k.val - 4

/-- The block device `c` sends on channel `k`. -/
def blkOf (c : Dev 8) (k : Fin 7) : Fin 8 :=
  ⟨(c.val + if k.val < 4 then 8 - k.val else k.val - 4) % 8, Nat.mod_lt _ (Nat.succ_pos _)⟩

/-- The devices as channel `k` permutes them. -/
def peerEquiv (k : Fin 7) : Dev 8 ≃ Dev 8 :=
  ⟨fun c => peer c k, fun c => back c k, fun c => back_peer c k, fun c => peer_back c k⟩

/-! ## One ring of a program -/

/-- What one ring names in a program: the buffer it fills, its eight blocks, the barrier semaphore, the seven send and
    the seven receive semaphores. -/
structure RingBuf (sig : RefSig) where
  {s : Shape}
  {e : EltTy}
  /-- The gathered buffer. -/
  M : Memref sig .tc .vmem s e
  setM : M.view.set = Finset.univ
  off : Fin 8 → Fin s.rank → ℕ
  size : Fin s.rank → ℕ
  inb : ∀ b a, off b a + size a ≤ s.size a
  disj : ∀ b b', b ≠ b' → Disjoint (Rect.unit (off b) size (inb b)).set (Rect.unit (off b') size (inb b')).set
  cover : Finset.univ.biUnion (fun b => (Rect.unit (off b) size (inb b)).set) = Finset.univ
  bar : Sem sig
  sS : Fin 7 → DmaSem sig
  sR : Fin 7 → DmaSem sig
  /-- What one block's transfer credits. -/
  N : ℕ
  N_pos : 0 < N
  hN : ∀ b, (M.slice (Rect.unit (off b) size (inb b)) (fun _ => rfl)).view.dmaCredit = N

variable {sig : RefSig}

namespace RingBuf

variable (r : RingBuf sig)

/-- Block `b` of the buffer. -/
abbrev blk (b : Fin 8) : Memref sig .tc .vmem ⟨r.s.rank, r.size⟩ r.e :=
  r.M.slice (Rect.unit (r.off b) r.size (r.inb b)) (fun _ => rfl)

abbrev barC (c : Dev 8) : GSem 8 Topo.v7x sig := ((c : Thread 8 Topo.v7x), .reg r.bar)
abbrev sC (c : Dev 8) (k : Fin 7) : GSem 8 Topo.v7x sig := ((c : Thread 8 Topo.v7x), .dma (r.sS k))
abbrev rC (c : Dev 8) (k : Fin 7) : GSem 8 Topo.v7x sig := ((c : Thread 8 Topo.v7x), .dma (r.sR k))

end RingBuf

/-- A ring's cells on one device: the barrier, the send and the receive cell of each channel. -/
abbrev Cell : Type := Option (Bool × Fin 7)

namespace RingBuf
variable (r : RingBuf sig)
def csem : Cell → SemLoc sig
  | none => .reg r.bar
  | some (true, k) => .dma (r.sS k)
  | some (false, k) => .dma (r.sR k)
abbrev kcell (ck : Dev 8 × Cell) : GSem 8 Topo.v7x sig := ((ck.1 : Thread 8 Topo.v7x), r.csem ck.2)
end RingBuf

variable {Val : EltTy → Type} {UU : Type} [URA UU]

local notation "𝕄" => MT 8 Topo.v7x sig Unit Val ℕ UU ℕ

variable (ER : Emb (URounds (GSem 8 Topo.v7x sig) Bool) (MT 8 Topo.v7x sig Unit Val ℕ UU ℕ))
variable [ER.LandsIn (upEmb : UEmb _ (MT 8 Topo.v7x sig Unit Val ℕ UU ℕ))]
variable (r : RingBuf sig)

/-! ## The blocks' points-tos -/

/-- Block `b` of device `c`'s buffer at share `q`, at contents `f`. -/
def pts (c : Dev 8) (b : Fin 8) (q : PosShare TreeShare) (f : r.M.view.ref.ty.Contents Val) : sProp 𝕄 :=
  (r.blk b).view.loc (c : Thread 8 Topo.v7x) ↦[(r.blk b).view.set]{q} f

instance pts_storable (c : Dev 8) (b : Fin 8) (q) (f : r.M.view.ref.ty.Contents Val) :
    BI.Storable (upEmb : UEmb _ 𝕄) (pts (UU := UU) r c b q f) := by unfold pts; infer_instance

/-- The share at which channel `k`'s source is lent: the own block is sent both ways at once. -/
def qOf (k : Fin 7) : PosShare TreeShare :=
  if k.val = 0 then fullShare.left else if k.val = 4 then fullShare.right else fullShare

/-- What a transfer of a block leaves at its destination is the source's contents, on the block. -/
theorem pts_landed (c : Dev 8) (b : Fin 8) (f G : r.M.view.ref.ty.Contents Val) :
    pts (UU := UU) r c b fullShare ((r.blk b).view.write Val f ((r.blk b).view.read Val G) Finset.univ) = pts r c b fullShare G := by
  unfold pts
  refine pointsTo_congr fun i hi => ?_
  rw [View.write_read_eq_piecewise, View.setOn_univ, Finset.piecewise_eq_of_mem _ _ _ hi]

theorem blk_set (b : Fin 8) :
    (r.blk b).view.set = ((Rect.unit (r.off b) r.size (r.inb b)).set).map r.M.view.emb := by
  exact View.set_slice _ _

theorem blk_disj (b b' : Fin 8) (h : b ≠ b') : Disjoint (r.blk b).view.set (r.blk b').view.set := by
  rw [blk_set, blk_set, Finset.disjoint_map]; exact r.disj b b' h

/-- The elements of block `b`, as elements of the buffer. -/
def bset (b : Fin 8) : Finset r.M.view.ref.ty.Idx := (r.blk b).view.set

theorem blk_cover : Finset.univ.biUnion (bset r) = Finset.univ := by
  have h : ∀ b, bset r b = ((Rect.unit (r.off b) r.size (r.inb b)).set).map r.M.view.emb := blk_set r
  ext i
  simp only [Finset.mem_biUnion, Finset.mem_univ, true_and, iff_true]
  have hi : i ∈ r.M.view.set := by rw [r.setM]; exact Finset.mem_univ i
  obtain ⟨x, -, rfl⟩ := Finset.mem_map.mp hi
  have hx : x ∈ Finset.univ.biUnion (fun b => (Rect.unit (r.off b) r.size (r.inb b)).set) := by rw [r.cover]; exact Finset.mem_univ x
  obtain ⟨b, -, hb⟩ := Finset.mem_biUnion.mp hx
  exact ⟨b, by rw [h]; exact Finset.mem_map_of_mem _ hb⟩

/-- The buffer held whole is held block by block. -/
theorem pts_blocks (c : Dev 8) (f : r.M.view.ref.ty.Contents Val) :
    ((r.M.view.loc (c : Thread 8 Topo.v7x)) ↦{fullShare} f : sProp 𝕄) = bigSep Finset.univ fun b => pts (UU := UU) r c b fullShare f :=
  Idealize.ShloMosaic.Ring.pointsTo_blocks (ℓ := r.M.view.loc (c : Thread 8 Topo.v7x)) (bset r) (blk_disj r) (blk_cover r) f

/-! ## The schedule: one round on every cell -/

/-- What device `d`'s peer on channel `k` gives it at the barrier: the block channel `k` writes, of the peer's buffer, and
    that the peer's receive cell is at its first round. -/
def give (d : Dev 8) (k : Fin 7) : sProp 𝕄 :=
  iprop((∃ f : r.M.view.ref.ty.Contents Val, pts (Val := Val) r (peer d k) (blkOf d k) fullShare f) ∗ reached ER (r.rC (peer d k) k) 0)

instance give_storable (d : Dev 8) (k : Fin 7) : BI.Storable (upEmb : UEmb _ 𝕄) (give (Val := Val) ER r d k) := by unfold give; infer_instance

def giveCw (d : Dev 8) : sProp 𝕄 := iprop(give (Val := Val) ER r d 0 ∗ give (Val := Val) ER r d 1 ∗ give (Val := Val) ER r d 2 ∗ give (Val := Val) ER r d 3)
def giveCcw (d : Dev 8) : sProp 𝕄 := iprop(give (Val := Val) ER r d 4 ∗ give (Val := Val) ER r d 5 ∗ give (Val := Val) ER r d 6)
instance giveCw_storable (d : Dev 8) : BI.Storable (upEmb : UEmb _ 𝕄) (giveCw (Val := Val) ER r d) := by unfold giveCw; infer_instance
instance giveCcw_storable (d : Dev 8) : BI.Storable (upEmb : UEmb _ 𝕄) (giveCcw (Val := Val) ER r d) := by unfold giveCcw; infer_instance

/-- A schedule treats the ring's cells as the ring does, `G` the gathered contents: at the barrier two duties of one unit,
    `true` the clockwise peer's, `false` the counter-clockwise one's; on a send cell the block comes back, on a receive
    cell the block has landed. -/
structure Fits (Rd : Rounds.Schedule (GSem 8 Topo.v7x sig) Bool 𝕄) (G : r.M.view.ref.ty.Contents Val) : Prop where
  dBar : ∀ c, Rd.duties (r.barC c) 0 = Finset.univ
  dS : ∀ c k, Rd.duties (r.sC c k) 0 = {false}
  dR : ∀ c k, Rd.duties (r.rC c k) 0 = {false}
  later : ∀ ck n, 1 ≤ n → Rd.duties (r.kcell ck) n = ∅
  unitless : ∀ ck, ¬ Rd.unitless (r.kcell ck)
  aBar : ∀ c d, Rd.amount (r.barC c) 0 d = 1
  aS : ∀ c k, Rd.amount (r.sC c k) 0 false = r.N
  aR : ∀ c k, Rd.amount (r.rC c k) 0 false = r.N
  pBarT : ∀ c, Rd.payload (r.barC c) 0 true = giveCw ER r c
  pBarF : ∀ c, Rd.payload (r.barC c) 0 false = giveCcw ER r c
  pS : ∀ c k, Rd.payload (r.sC c k) 0 false = pts r c (blkOf c k) (qOf k) G
  pR : ∀ c k, Rd.payload (r.rC c k) 0 false = pts r c (blkOf (back c k) k) fullShare G

/-- The seven channels in the order of use. -/
theorem bigSep_chans (Φ : Fin 7 → sProp 𝕄) :
    bigSep Finset.univ Φ = iprop(Φ 0 ∗ Φ 4 ∗ Φ 1 ∗ Φ 5 ∗ Φ 2 ∗ Φ 6 ∗ Φ 3) := by
  rw [bigSep_univ_eq_bigSepL [0, 4, 1, 5, 2, 6, 3] (by decide) (by decide)]
  simp only [bigSepL_cons_cons, bigSepL_singleton]
  rfl

/-- The own block's two halves. -/
theorem own_halves (G : r.M.view.ref.ty.Contents Val) (c : Dev 8) :
    pts (UU := UU) r c (blkOf c 0) fullShare G ⊣⊢ iprop(pts r c (blkOf c 0) (qOf 0) G ∗ pts r c (blkOf c 4) (qOf 4) G) := by
  rw [show blkOf c 4 = blkOf c 0 by revert c; decide]
  exact pointsTo_share ((PosShare.mem_left_op_right fullShare))

variable (Rd : Rounds.Schedule (GSem 8 Topo.v7x sig) Bool (MT 8 Topo.v7x sig Unit Val ℕ UU ℕ))
variable (G : r.M.view.ref.ty.Contents Val)

section Fits
variable (hF : Fits ER r Rd G)
include hF

theorem expect_bar (c : Dev 8) : Rd.expect (r.barC c) 0 = 2 := by
  unfold Schedule.expect Schedule.amountOf
  rw [hF.dBar, Finset.sum_congr rfl fun d _ => hF.aBar c d, Finset.sum_const, Finset.card_univ, Fintype.card_bool, smul_eq_mul]
theorem expect_S (c : Dev 8) (k : Fin 7) : Rd.expect (r.sC c k) 0 = r.N := by
  unfold Schedule.expect Schedule.amountOf; rw [hF.dS, Finset.sum_singleton, hF.aS]
theorem expect_R (c : Dev 8) (k : Fin 7) : Rd.expect (r.rC c k) 0 = r.N := by
  unfold Schedule.expect Schedule.amountOf; rw [hF.dR, Finset.sum_singleton, hF.aR]
theorem rest_bar (c : Dev 8) :
    (bigSep (Rd.duties (r.barC c) 0 \ (∅ : Finset Bool)) (fun d => Rd.payload (r.barC c) 0 d) : sProp 𝕄) = iprop(giveCcw ER r c ∗ giveCw ER r c) := by
  rw [Finset.sdiff_empty, hF.dBar, bigSep_univ_eq_bigSepL [false, true] (by decide) (by decide), bigSepL_cons_cons, bigSepL_singleton,
    hF.pBarF, hF.pBarT]
  rfl
theorem rest_S (c : Dev 8) (k : Fin 7) :
    (bigSep (Rd.duties (r.sC c k) 0 \ (∅ : Finset Bool)) (fun d => Rd.payload (r.sC c k) 0 d) : sProp 𝕄) = pts r c (blkOf c k) (qOf k) G := by
  rw [Finset.sdiff_empty, hF.dS, bigSep_singleton, hF.pS]
theorem rest_R (c : Dev 8) (k : Fin 7) :
    (bigSep (Rd.duties (r.rC c k) 0 \ (∅ : Finset Bool)) (fun d => Rd.payload (r.rC c k) 0 d) : sProp 𝕄) = pts r c (blkOf (back c k) k) fullShare G := by
  rw [Finset.sdiff_empty, hF.dR, bigSep_singleton, hF.pR]
end Fits

/-! ## The records every device holds, and what is its own -/

/-- Every cell's invariant, and that every cell is at its first round. -/
def records (K : Dev 8 × Cell → ℕ) : sProp 𝕄 :=
  iprop((bigSep Finset.univ fun ck : Dev 8 × Cell => cellInv ER Rd (K ck) (r.kcell ck))
    ∗ bigSep Finset.univ fun ck : Dev 8 × Cell => reached ER (r.kcell ck) 0)
instance records_persistent (K : Dev 8 × Cell → ℕ) : BI.Persistent (records ER r Rd K) := by
  unfold records; infer_instance

theorem rec_inv {K : Dev 8 × Cell → ℕ} (ck : Dev 8 × Cell) : records ER r Rd K ⊢ cellInv ER Rd (K ck) (r.kcell ck) := by
  exact sep_elim_left.trans (bigSep_elim (Φ := fun ck => cellInv ER Rd (K ck) (r.kcell ck)) (Finset.mem_univ ck))
theorem rec_reached {K : Dev 8 × Cell → ℕ} (ck : Dev 8 × Cell) : records ER r Rd K ⊢ reached ER (r.kcell ck) 0 := by
  exact sep_elim_right.trans (bigSep_elim (Φ := fun ck => reached ER (r.kcell ck) 0) (Finset.mem_univ ck))

/-- What device `c` owes on the channels listed: each peer's receive cell one block's credit. -/
def owe (c : Dev 8) : List (Fin 7) → CellTallies 8 Topo.v7x sig Unit
  | [] => 0
  | k :: ks => owe c ks + tallyAt (r.rC (peer c k) k) () r.N

/-- The channels in the order a device uses them. -/
abbrev chans : List (Fin 7) := [0, 4, 1, 5, 2, 6, 3]

/-- Before channel `k` is used: its two duty tokens, the positions on its own two cells, the credit on its receive cell. -/
def chanLin (c : Dev 8) (k : Fin 7) : sProp 𝕄 :=
  iprop((dutyTok ER (r.sC c k) 0 false ∗ dutyTok ER (r.rC (peer c k) k) 0 false)
    ∗ (atPos ER (r.sC c k) 0 ∅ 0 ∗ atPos ER (r.rC c k) 0 ∅ 0) ∗ cred (tallyAt (r.rC c k) () r.N))
/-- In flight: the positions and the two credits. -/
def chanMid (c : Dev 8) (k : Fin 7) : sProp 𝕄 :=
  iprop(cred (tallyAt (r.sC c k) () r.N) ∗ (atPos ER (r.sC c k) 0 ∅ 0 ∗ atPos ER (r.rC c k) 0 ∅ 0) ∗ cred (tallyAt (r.rC c k) () r.N))
/-- Done: the two counters at zero. -/
def chanDone (c : Dev 8) (k : Fin 7) : sProp 𝕄 :=
  iprop(semVal (r.sC c k) 0 ∗ semVal (r.rC c k) 0)

/-! ## Levels -/

/-- Levels under which the ring's waits are met: the barrier's and the send cells' at most `base`, a receive cell's above
    by its hop. -/
structure Levels (L : GSem 8 Topo.v7x sig → Finset Unit) (lv : GSem 8 Topo.v7x sig → Unit → ℕ) (base : ℕ) : Prop where
  mem : ∀ ck, () ∈ L (r.kcell ck)
  bar : ∀ c, lv (r.barC c) () ≤ base
  send : ∀ c k, lv (r.sC c k) () ≤ base
  recv : ∀ c k, lv (r.rC c k) () = base + 1 + hop k

/-- What is owed besides sits above the ring's levels. -/
def Above (L : GSem 8 Topo.v7x sig → Finset Unit) (lv : GSem 8 Topo.v7x sig → Unit → ℕ) (base : ℕ)
    (X : CellTallies 8 Topo.v7x sig Unit) : Prop := ∀ g u, 0 < X g u → u ∈ L g ∧ base + 5 ≤ lv g u

theorem owe_pos {c : Dev 8} {ks : List (Fin 7)} {g : GSem 8 Topo.v7x sig} {u : Unit} (h : 0 < owe r c ks g u) :
    ∃ k ∈ ks, g = r.rC (peer c k) k := by
  induction ks with
  | nil => exact absurd h (Nat.lt_irrefl 0)
  | cons k ks ih =>
    unfold owe at h
    rw [Pi.add_apply, Finsupp.add_apply, tallyAt_apply] at h
    by_cases hg : g = r.rC (peer c k) k
    · exact ⟨k, List.mem_cons_self, hg⟩
    · rw [if_neg (fun h' => hg h'.1), Nat.add_zero] at h
      obtain ⟨k', hk', e⟩ := ih h
      exact ⟨k', List.mem_cons_of_mem _ hk', e⟩

variable {L : GSem 8 Topo.v7x sig → Finset Unit} {lv : GSem 8 Topo.v7x sig → Unit → ℕ} {base : ℕ}
  {X : CellTallies 8 Topo.v7x sig Unit}

/-- A device owing the channels `ks` may wait on a cell of its own below all of them. -/
theorem mayWait (hL : Levels r L lv base) (hX : Above L lv base X) (c : Dev 8) (cl : Cell) (ks : List (Fin 7)) (b : ℕ)
    (hb : lv (r.kcell (c, cl)) () ≤ b) (hb5 : b < base + 5) (hks : ∀ k ∈ ks, b < base + 1 + hop k) :
    (levAts L lv : sProp 𝕄) ⊢ MayWait (c : Thread 8 Topo.v7x) (r.csem cl) () (owe r c ks + X) :=
  MayOwe.of_cut (L := L) (lev := lv) b
    (fun p hp => by rw [Finset.mem_singleton.mp hp]; exact hL.mem (c, cl))
    (fun g u hg => by
      rw [Pi.add_apply, Finsupp.add_apply] at hg
      rcases Nat.eq_zero_or_pos (owe r c ks g u) with h0 | h0
      · exact (hX g u (by omega)).1
      · obtain ⟨k, -, rfl⟩ := owe_pos r h0; exact hL.mem (peer c k, some (false, k)))
    (fun p hp => by rw [Finset.mem_singleton.mp hp]; exact hb)
    (fun g u hg => by
      rw [Pi.add_apply, Finsupp.add_apply] at hg
      rcases Nat.eq_zero_or_pos (owe r c ks g u) with h0 | h0
      · have := (hX g u (by omega)).2; omega
      · obtain ⟨k, hk, rfl⟩ := owe_pos r h0; rw [hL.recv]; exact hks k hk)

/-- What the barrier takes of device `c`: the tokens of the signals it sends, the position on its own cell and the
    credit on it. -/
def barLin (c : Dev 8) : sProp 𝕄 :=
  iprop(dutyTok ER (r.barC (prv c)) 0 true ∗ dutyTok ER (r.barC (nxt c)) 0 false
    ∗ atPos ER (r.barC c) 0 ∅ 0 ∗ cred (tallyAt (r.barC c) () 2))

/-- Everything device `c` owes at the start, the barrier's two signals last. -/
def oweAll (c : Dev 8) : CellTallies 8 Topo.v7x sig Unit :=
  owe r c chans + tallyAt (r.barC (nxt c)) () 1 + tallyAt (r.barC (prv c)) () 1

/-- The eight blocks from device `c`'s side: its own, the four it receives clockwise, the three counter-clockwise. -/
theorem blocks_of (c : Dev 8) (Φ : Fin 8 → sProp 𝕄) :
    bigSep Finset.univ Φ = iprop(Φ (blkOf c 0) ∗ Φ (blkOf (prv c) 0) ∗ Φ (blkOf (prv c) 1) ∗ Φ (blkOf (prv c) 2) ∗ Φ (blkOf (prv c) 3)
      ∗ Φ (blkOf (nxt c) 4) ∗ Φ (blkOf (nxt c) 5) ∗ Φ (blkOf (nxt c) 6)) := by
  rw [bigSep_univ_eq_bigSepL [blkOf c 0, blkOf (prv c) 0, blkOf (prv c) 1, blkOf (prv c) 2, blkOf (prv c) 3, blkOf (nxt c) 4,
    blkOf (nxt c) 5, blkOf (nxt c) 6] (by revert c; decide) (by revert c; decide)]
  simp only [bigSepL_cons_cons, bigSepL_singleton]
  rfl

/-- What device `c` hands the ring-mates at the barrier: its seven other blocks. -/
theorem give_of (K : Dev 8 × Cell → ℕ) (c : Dev 8) (k : Fin 7) (f : r.M.view.ref.ty.Contents Val) :
    iprop(records ER r Rd K ∗ pts r c (blkOf (back c k) k) fullShare f) ⊢ (give (Val := Val) ER r (back c k) k : sProp 𝕄) := by
  unfold give
  rw [peer_back]
  iintro ⟨#HR, H⟩
  isplitl [H]; · iexists f; iexact H
  iapply (rec_reached ER r Rd (K := K) (c, some (false, k))); iexact HR

/-! ## The rules -/

variable {Λ : Labels} {defs : Defs 8 Topo.v7x sig Val Λ} (𝒱 : Variants)
variable [hst : ∀ g n d, BI.Storable (upEmb : UEmb _ (MT 8 Topo.v7x sig Unit Val ℕ UU ℕ)) (Rd.payload g n d)]
variable {α : Type} {Q : α → sProp (MT 8 Topo.v7x sig Unit Val ℕ UU ℕ)}
variable (hF : Fits ER r Rd G) (hL : Levels r L lv base) (hX : Above L lv base X) (K : Dev 8 × Cell → ℕ)

include hst hF

/-- Channel `k`'s transfer: the source lent, the peer's block handed over, the credit paid off. `m` and `n` are the block
    and the device as the kernel computes them. -/
theorem wp_chan_send (c : Dev 8) (k : Fin 7) (ks : List (Fin 7))
    (m : Memref sig .tc .vmem ⟨r.s.rank, r.size⟩ r.e) (n : Dev 8) (hm : m = r.blk (blkOf c k)) (hn : n = peer c k)
    (sS sR : DmaSem sig) (hsS : sS = r.sS k) (hsR : sR = r.sR k)
    {hsc : (m : Memref sig (Dev.tc n : Thread 8 Topo.v7x).2.kind .vmem ⟨r.s.rank, r.size⟩ r.e).view.ref.isScScratch = false}
    {hsrc : m.view.WordExact} {hdst : m.view.WordExact}
    {hsem : DmaTarget.Typed .vmem (.dma sR) (.remote (Dev.tc n : Thread 8 Topo.v7x) m (.dma sS) hsc)}
    {kk : PUnit → Prog (TpuEff 8 Topo.v7x sig Val Λ .tc) α} (W : Waits sig Unit) :
    iprop(records ER r Rd K ∗ chanLin ER r c k ∗ pts r c (blkOf c k) (qOf k) G ∗ give (Val := Val) ER r c k
        ∗ owes (c : Thread 8 Topo.v7x) (owe r c (k :: ks) + X) W)
      ⊢ iprop(((chanMid ER r c k ∗ owes (c : Thread 8 Topo.v7x) (owe r c ks + X) W)
            -∗ wp frame (wpE defs 𝒱 (c : Thread 8 Topo.v7x) none) Set.univ (kk ⟨⟩) Q)
          -∗ wp frame (wpE defs 𝒱 (c : Thread 8 Topo.v7x) none) Set.univ
              (.op (.enqueueDma m (.remote (Dev.tc n : Thread 8 Topo.v7x) m (.dma sS) hsc) (.dma sR) hsrc hdst hsem) kk) Q) := by
  subst hm hn hsS hsR
  unfold chanLin chanMid give
  iintro ⟨#HR, ⟨⟨HtS, HtR⟩, Hat, Hcr⟩, Hsrc, ⟨⟨%f, Hdst⟩, #Hre⟩, HO⟩ Hk
  unfold pts
  iapply (Rounds.wp_send_pointsTo 𝒱 ER Rd (c : Thread 8 Topo.v7x) none (κ₁ := K (c, some (true, k))) (κ₂ := K (peer c k, some (false, k)))
    (c' := (Dev.tc (peer c k) : Thread 8 Topo.v7x)) (sp' := .vmem) (sS := .dma (r.sS k)) (sem := .dma (r.sR k)) (src := r.blk (blkOf c k)) (dst := r.blk (blkOf c k)) (r₁ := 0) (r₂ := 0) (d₁ := false) (d₂ := false) (fd := f) (fs := G) (q := qOf k)
    (by rw [hF.dS]; exact Finset.mem_singleton_self _) (by rw [hF.dR]; exact Finset.mem_singleton_self _)
    () () r.N (r.hN _) (hF.aS c k) (hF.aR (peer c k) k) (owe r c ks + X)
    (by show owe r c ks + tallyAt (r.rC (peer c k) k) () r.N + X = _; exact add_right_comm _ _ _) (W := W)
    (by rw [hF.pS]; unfold pts; exact BI.Entails.refl _)
    (by rw [hF.pR, back_peer, ← pts_landed r (peer c k) (blkOf c k) f G]; unfold pts; exact BI.Entails.refl _)) $$ [HtS HtR Hsrc Hdst HO]
  · isplitr; · iapply (rec_inv ER r Rd (c, some (true, k))); iexact HR
    isplitr; · iapply (rec_inv ER r Rd (peer c k, some (false, k))); iexact HR
    isplitl [Hsrc]; · iexact Hsrc
    isplitl [Hdst]; · iexact Hdst
    isplitl [HO]; · iexact HO
    isplitl [HtS]; · iexact HtS
    isplitr; · iapply (rec_reached ER r Rd (K := K) (c, some (true, k))); iexact HR
    isplitl [HtR]; · iexact HtR
    iexact Hre
  iintro ⟨HcS, HO⟩
  iapply Hk
  isplitl [HcS Hat Hcr]
  · isplitl [HcS]; · iexact HcS
    isplitl [Hat]; · iexact Hat
    iexact Hcr
  iexact HO

include hL hX

/-- Channel `k`'s two waits: the block lent comes back, the block received is held, both counters are at zero. -/
theorem wp_chan_wait (c : Dev 8) (k : Fin 7) (ks : List (Fin 7)) (hks : ∀ k' ∈ ks, hop k < hop k')
    (m₁ m₂ m₃ m₄ : Memref sig .tc .vmem ⟨r.s.rank, r.size⟩ r.e)
    (h₂ : m₂ = r.blk (blkOf c k)) (h₄ : m₄ = r.blk (blkOf c k))
    (sS sR : DmaSem sig) (hsS : sS = r.sS k) (hsR : sR = r.sR k)
    {w₁ : m₁.view.WordExact} {w₂ : m₂.view.WordExact} {w₃ : m₃.view.WordExact} {w₄ : m₄.view.WordExact}
    {kk : PUnit → Prog (TpuEff 8 Topo.v7x sig Val Λ .tc) α} :
    iprop(records ER r Rd K ∗ levAts L lv ∗ chanMid ER r c k ∗ (∃ W, owes (c : Thread 8 Topo.v7x) (owe r c ks + X) W))
      ⊢ iprop(((pts r c (blkOf c k) (qOf k) G ∗ pts r c (blkOf (back c k) k) fullShare G ∗ chanDone r c k
              ∗ (∃ W, owes (c : Thread 8 Topo.v7x) (owe r c ks + X) W))
            -∗ wp frame (wpE defs 𝒱 (c : Thread 8 Topo.v7x) none) Set.univ (kk ⟨⟩) Q)
          -∗ wp frame (wpE defs 𝒱 (c : Thread 8 Topo.v7x) none) Set.univ
              (.op (.waitDma2 sS m₁ m₂ w₁ w₂) fun _ => .op (.waitDma2 sR m₃ m₄ w₃ w₄) kk) Q) := by
  subst h₂ h₄ hsS hsR
  unfold chanMid
  iintro ⟨#HR, #Hlev, ⟨HcS, ⟨HatS, HatR⟩, HcR⟩, ⟨%W, HO⟩⟩ Hk
  iapply (Rounds.wp_wait_rest_token 𝒱 ER Rd (c : Thread 8 Topo.v7x) none (κ := K (c, some (true, k)))
      (wpE_waitDma2_eq 𝒱 (c : Thread 8 Topo.v7x) none Set.univ) (Set.mem_univ _) () (O := owe r c ks + X) (W := W) (R := 0) (m := 0) (T := ∅)
      (by rw [Nat.zero_add, expect_S ER r Rd G hF c k]; exact r.hN _)) $$ [HcS HO HatS]
  · isplitr; · iapply (rec_inv ER r Rd (c, some (true, k))); iexact HR
    isplitl [HcS]; · rw [r.hN]; iexact HcS
    isplitl [HO]; · iexact HO
    isplitr; · iapply (mayWait r hL hX c (some (true, k)) ks base (hL.send c k) (by omega) (fun _ _ => by omega)); iexact Hlev
    iexact HatS
  iintro ⟨HO, HatS, -, HpS⟩
  iapply (Rounds.wp_wait_rest_token 𝒱 ER Rd (c : Thread 8 Topo.v7x) none (κ := K (c, some (false, k)))
      (wpE_waitDma2_eq 𝒱 (c : Thread 8 Topo.v7x) none Set.univ) (Set.mem_univ _) () (O := owe r c ks + X) (R := 0) (m := 0) (T := ∅)
      (by rw [Nat.zero_add, expect_R ER r Rd G hF c k]; exact r.hN _)) $$ [HcR HO HatR]
  · isplitr; · iapply (rec_inv ER r Rd (c, some (false, k))); iexact HR
    isplitl [HcR]; · rw [r.hN]; iexact HcR
    isplitl [HO]; · iexact HO
    isplitr
    · iapply (mayWait r hL hX c (some (false, k)) ks (base + 1 + hop k) (hL.recv c k).le
        (by have := (by decide : ∀ k : Fin 7, hop k < 4) k; omega) (fun k' h => Nat.add_lt_add_left (hks k' h) _)); iexact Hlev
    iexact HatR
  iintro ⟨HO, HatR, -, HpR⟩
  imod (Rounds.cell_close ER Rd (Set.mem_univ (K (c, some (true, k)))) (hF.unitless (c, some (true, k))) (R := 0 + 1) (hF.later (c, some (true, k)))) $$ [HatS] with HzS
  · isplitr; · iapply (rec_inv ER r Rd (c, some (true, k))); iexact HR
    iexact HatS
  imod (Rounds.cell_close ER Rd (Set.mem_univ (K (c, some (false, k)))) (hF.unitless (c, some (false, k))) (R := 0 + 1) (hF.later (c, some (false, k)))) $$ [HatR] with HzR
  · isplitr; · iapply (rec_inv ER r Rd (c, some (false, k))); iexact HR
    iexact HatR
  iapply Hk
  isplitl [HpS]; · iapply (Entails.of_eq (rest_S ER r Rd G hF c k)); iexact HpS
  isplitl [HpR]; · iapply (Entails.of_eq (rest_R ER r Rd G hF c k)); iexact HpR
  isplitl [HzS HzR]
  · unfold chanDone
    isplitl [HzS]; · iexact HzS
    iexact HzR
  iexists _; iexact HO

/-- One hop that uses a channel each way: both transfers are issued, then waited for. -/
theorem wp_hop (c : Dev 8) (k k' : Fin 7) (ks : List (Fin 7)) (hkk : hop k < hop k' + 1)
    (hks : ∀ j ∈ ks, hop k < hop j) (hks' : ∀ j ∈ ks, hop k' < hop j)
    {m m' : Memref sig .tc .vmem ⟨r.s.rank, r.size⟩ r.e} {n n' : Dev 8}
    (hm : m = r.blk (blkOf c k)) (hn : n = peer c k) (hm' : m' = r.blk (blkOf c k')) (hn' : n' = peer c k')
    {sS sR sS' sR' : DmaSem sig} (hsS : sS = r.sS k) (hsR : sR = r.sR k) (hsS' : sS' = r.sS k') (hsR' : sR' = r.sR k')
    {hsc : (m : Memref sig (Dev.tc n : Thread 8 Topo.v7x).2.kind .vmem ⟨r.s.rank, r.size⟩ r.e).view.ref.isScScratch = false}
    {hsrc : m.view.WordExact} {hdst : m.view.WordExact}
    {hsem : DmaTarget.Typed .vmem (.dma sR) (.remote (Dev.tc n : Thread 8 Topo.v7x) m (.dma sS) hsc)}
    {hsc' : (m' : Memref sig (Dev.tc n' : Thread 8 Topo.v7x).2.kind .vmem ⟨r.s.rank, r.size⟩ r.e).view.ref.isScScratch = false}
    {hsrc' : m'.view.WordExact} {hdst' : m'.view.WordExact}
    {hsem' : DmaTarget.Typed .vmem (.dma sR') (.remote (Dev.tc n' : Thread 8 Topo.v7x) m' (.dma sS') hsc')}
    {w₁ w₂ w₃ w₄ : m.view.WordExact} {w₁' w₂' w₃' w₄' : m'.view.WordExact}
    {kk : PUnit → Prog (TpuEff 8 Topo.v7x sig Val Λ .tc) α} :
    iprop(records ER r Rd K ∗ levAts L lv ∗ (chanLin ER r c k ∗ pts r c (blkOf c k) (qOf k) G ∗ give (Val := Val) ER r c k)
        ∗ (chanLin ER r c k' ∗ pts r c (blkOf c k') (qOf k') G ∗ give (Val := Val) ER r c k')
        ∗ (∃ W, owes (c : Thread 8 Topo.v7x) (owe r c (k :: k' :: ks) + X) W))
      ⊢ iprop((((pts r c (blkOf c k) (qOf k) G ∗ pts r c (blkOf (back c k) k) fullShare G ∗ chanDone r c k)
              ∗ (pts r c (blkOf c k') (qOf k') G ∗ pts r c (blkOf (back c k') k') fullShare G ∗ chanDone r c k')
              ∗ (∃ W, owes (c : Thread 8 Topo.v7x) (owe r c ks + X) W))
            -∗ wp frame (wpE defs 𝒱 (c : Thread 8 Topo.v7x) none) Set.univ (kk ⟨⟩) Q)
          -∗ wp frame (wpE defs 𝒱 (c : Thread 8 Topo.v7x) none) Set.univ
              (.op (.enqueueDma m (.remote (Dev.tc n : Thread 8 Topo.v7x) m (.dma sS) hsc) (.dma sR) hsrc hdst hsem) fun _ =>
                .op (.enqueueDma m' (.remote (Dev.tc n' : Thread 8 Topo.v7x) m' (.dma sS') hsc') (.dma sR') hsrc' hdst' hsem') fun _ =>
                .op (.waitDma2 sS m m w₁ w₂) fun _ => .op (.waitDma2 sR m m w₃ w₄) fun _ =>
                .op (.waitDma2 sS' m' m' w₁' w₂') fun _ => .op (.waitDma2 sR' m' m' w₃' w₄') kk) Q) := by
  iintro ⟨#HR, #Hlev, ⟨Hlin, Hsrc, Hg⟩, ⟨Hlin', Hsrc', Hg'⟩, ⟨%W, HO⟩⟩ Hk
  iapply (wp_chan_send ER r Rd G 𝒱 hF K c k (k' :: ks) m n hm hn sS sR hsS hsR W) $$ [Hlin Hsrc Hg HO]
  · isplitr; · iexact HR
    isplitl [Hlin]; · iexact Hlin
    isplitl [Hsrc]; · iexact Hsrc
    isplitl [Hg]; · iexact Hg
    iexact HO
  iintro ⟨Hmid, HO⟩
  iapply (wp_chan_send ER r Rd G 𝒱 hF K c k' ks m' n' hm' hn' sS' sR' hsS' hsR' W) $$ [Hlin' Hsrc' Hg' HO]
  · isplitr; · iexact HR
    isplitl [Hlin']; · iexact Hlin'
    isplitl [Hsrc']; · iexact Hsrc'
    isplitl [Hg']; · iexact Hg'
    iexact HO
  iintro ⟨Hmid', HO⟩
  iapply (wp_chan_wait ER r Rd G 𝒱 hF hL hX K c k ks hks m m m m hm hm sS sR hsS hsR) $$ [Hmid HO]
  · isplitr; · iexact HR
    isplitr; · iexact Hlev
    isplitl [Hmid]; · iexact Hmid
    iexists W; iexact HO
  iintro ⟨Hs, Hd, Hz, HO⟩
  iapply (wp_chan_wait ER r Rd G 𝒱 hF hL hX K c k' ks hks' m' m' m' m' hm' hm' sS' sR' hsS' hsR') $$ [Hmid' HO]
  · isplitr; · iexact HR
    isplitr; · iexact Hlev
    isplitl [Hmid']; · iexact Hmid'
    iexact HO
  iintro ⟨Hs', Hd', Hz', HO⟩
  iapply Hk
  isplitl [Hs Hd Hz]
  · isplitl [Hs]; · iexact Hs
    isplitl [Hd]; · iexact Hd
    iexact Hz
  isplitr [HO]
  · isplitl [Hs']; · iexact Hs'
    isplitl [Hd']; · iexact Hd'
    iexact Hz'
  iexact HO

/-- The last hop, clockwise only: afterwards the ring owes nothing. -/
theorem wp_last (c : Dev 8) (k : Fin 7)
    {m : Memref sig .tc .vmem ⟨r.s.rank, r.size⟩ r.e} {n : Dev 8} (hm : m = r.blk (blkOf c k)) (hn : n = peer c k)
    {sS sR : DmaSem sig} (hsS : sS = r.sS k) (hsR : sR = r.sR k)
    {hsc : (m : Memref sig (Dev.tc n : Thread 8 Topo.v7x).2.kind .vmem ⟨r.s.rank, r.size⟩ r.e).view.ref.isScScratch = false}
    {hsrc : m.view.WordExact} {hdst : m.view.WordExact}
    {hsem : DmaTarget.Typed .vmem (.dma sR) (.remote (Dev.tc n : Thread 8 Topo.v7x) m (.dma sS) hsc)}
    {w₁ w₂ w₃ w₄ : m.view.WordExact} {kk : PUnit → Prog (TpuEff 8 Topo.v7x sig Val Λ .tc) α} :
    iprop(records ER r Rd K ∗ levAts L lv ∗ (chanLin ER r c k ∗ pts r c (blkOf c k) (qOf k) G ∗ give (Val := Val) ER r c k)
        ∗ (∃ W, owes (c : Thread 8 Topo.v7x) (owe r c [k] + X) W))
      ⊢ iprop((((pts r c (blkOf c k) (qOf k) G ∗ pts r c (blkOf (back c k) k) fullShare G ∗ chanDone r c k)
              ∗ (∃ W, owes (c : Thread 8 Topo.v7x) X W))
            -∗ wp frame (wpE defs 𝒱 (c : Thread 8 Topo.v7x) none) Set.univ (kk ⟨⟩) Q)
          -∗ wp frame (wpE defs 𝒱 (c : Thread 8 Topo.v7x) none) Set.univ
              (.op (.enqueueDma m (.remote (Dev.tc n : Thread 8 Topo.v7x) m (.dma sS) hsc) (.dma sR) hsrc hdst hsem) fun _ =>
                .op (.waitDma2 sS m m w₁ w₂) fun _ => .op (.waitDma2 sR m m w₃ w₄) kk) Q) := by
  iintro ⟨#HR, #Hlev, ⟨Hlin, Hsrc, Hg⟩, ⟨%W, HO⟩⟩ Hk
  iapply (wp_chan_send ER r Rd G 𝒱 hF K c k [] m n hm hn sS sR hsS hsR W) $$ [Hlin Hsrc Hg HO]
  · isplitr; · iexact HR
    isplitl [Hlin]; · iexact Hlin
    isplitl [Hsrc]; · iexact Hsrc
    isplitl [Hg]; · iexact Hg
    iexact HO
  iintro ⟨Hmid, HO⟩
  iapply (wp_chan_wait ER r Rd G 𝒱 hF hL hX K c k [] (fun _ h => nomatch h) m m m m hm hm sS sR hsS hsR) $$ [Hmid HO]
  · isplitr; · iexact HR
    isplitr; · iexact Hlev
    isplitl [Hmid]; · iexact Hmid
    iexists W; iexact HO
  iintro ⟨Hs, Hd, Hz, ⟨%W', HO⟩⟩
  iapply Hk
  isplitl [Hs Hd Hz]
  · isplitl [Hs]; · iexact Hs
    isplitl [Hd]; · iexact Hd
    iexact Hz
  iexists W'
  iapply (Entails.of_eq (congrArg (fun O => owes (c : Thread 8 Topo.v7x) O W') (zero_add X)))
  iexact HO

/-- The barrier: two signals, the wait for both neighbours, who hand over the blocks device `c` is to write. -/
theorem wp_barrier (c : Dev 8) {n n' : Dev 8} (hn : n = prv c) (hn' : n' = nxt c) {b b' b'' : Sem sig}
    (hb : b = r.bar) (hb' : b' = r.bar) (hb'' : b'' = r.bar)
    (f : r.M.view.ref.ty.Contents Val) {kk : PUnit → Prog (TpuEff 8 Topo.v7x sig Val Λ .tc) α} :
    iprop(records ER r Rd K ∗ levAts L lv ∗ barLin ER r c ∗ ((r.M.view.loc (c : Thread 8 Topo.v7x)) ↦{fullShare} f)
        ∗ (∃ W, owes (c : Thread 8 Topo.v7x) (oweAll r c + X) W))
      ⊢ iprop(((pts r c (blkOf c 0) fullShare f ∗ giveCw (Val := Val) ER r c ∗ giveCcw (Val := Val) ER r c ∗ semVal (r.barC c) 0
              ∗ (∃ W, owes (c : Thread 8 Topo.v7x) (owe r c chans + X) W))
            -∗ wp frame (wpE defs 𝒱 (c : Thread 8 Topo.v7x) none) Set.univ (kk ⟨⟩) Q)
          -∗ wp frame (wpE defs 𝒱 (c : Thread 8 Topo.v7x) none) Set.univ
              (.op (.semSignal (Dev.tc n : Thread 8 Topo.v7x) b (1#32).toInt) fun _ =>
                .op (.semSignal (Dev.tc n' : Thread 8 Topo.v7x) b' (1#32).toInt) fun _ => .op (.semWait b'' (2#32).toInt) kk) Q) := by
  subst hn hn' hb hb' hb''
  unfold barLin
  iintro ⟨#HR, #Hlev, ⟨HtP, HtN, Hat, Hcr⟩, Hbuf, ⟨%W, HO⟩⟩ Hk
  ihave Hbuf := (Entails.of_eq ((pts_blocks (UU := UU) r c f).trans (blocks_of c _))) $$ Hbuf
  icases Hbuf with ⟨Hown, H0, H1, H2, H3, H4, H5, H6⟩
  iapply (Rounds.wp_signal 𝒱 ER Rd (c : Thread 8 Topo.v7x) none (dst := (prv c : Thread 8 Topo.v7x)) (κ := K (prv c, none))
      (d := true) (by rw [hF.dBar]; exact Finset.mem_univ _) ((hF.aBar (prv c) true).trans (by decide)) ()
      (O₀ := oweAll r c + X) (owe r c chans + X + tallyAt (r.barC (nxt c)) () 1)
      (by unfold oweAll; rw [add_right_comm _ _ X, add_right_comm _ _ X]; rfl)) $$ [HO HtP H0 H1 H2 H3]
  · isplitr; · iapply (rec_inv ER r Rd (prv c, none)); iexact HR
    isplitl [HO]; · iexact HO
    isplitl [HtP]; · iexact HtP
    isplitl [H0 H1 H2 H3]
    · rw [hF.pBarT]; unfold giveCw
      isplitl [H0]; · iapply (give_of ER r Rd K c 0 f); isplitr; iexact HR; iexact H0
      isplitl [H1]; · iapply (give_of ER r Rd K c 1 f); isplitr; iexact HR; iexact H1
      isplitl [H2]; · iapply (give_of ER r Rd K c 2 f); isplitr; iexact HR; iexact H2
      iapply (give_of ER r Rd K c 3 f); isplitr; iexact HR; iexact H3
    iapply (rec_reached ER r Rd (K := K) (prv c, none)); iexact HR
  iintro HO
  iapply (Rounds.wp_signal 𝒱 ER Rd (c : Thread 8 Topo.v7x) none (dst := (nxt c : Thread 8 Topo.v7x)) (κ := K (nxt c, none))
      (d := false) (by rw [hF.dBar]; exact Finset.mem_univ _) ((hF.aBar (nxt c) false).trans (by decide)) ()
      (owe r c chans + X) rfl) $$ [HO HtN H4 H5 H6]
  · isplitr; · iapply (rec_inv ER r Rd (nxt c, none)); iexact HR
    isplitl [HO]; · iexact HO
    isplitl [HtN]; · iexact HtN
    isplitl [H4 H5 H6]
    · rw [hF.pBarF]; unfold giveCcw
      isplitl [H4]; · iapply (give_of ER r Rd K c 4 f); isplitr; iexact HR; iexact H4
      isplitl [H5]; · iapply (give_of ER r Rd K c 5 f); isplitr; iexact HR; iexact H5
      iapply (give_of ER r Rd K c 6 f); isplitr; iexact HR; iexact H6
    iapply (rec_reached ER r Rd (K := K) (nxt c, none)); iexact HR
  iintro HO
  iapply (Rounds.wp_wait_rest_token 𝒱 ER Rd (c : Thread 8 Topo.v7x) none (κ := K (c, none))
      (wpE_semWait_eq 𝒱 (c : Thread 8 Topo.v7x) none Set.univ) (Set.mem_univ _) () (O := owe r c chans + X) (W := W) (R := 0) (m := 0) (T := ∅)
      (by rw [expect_bar ER r Rd G hF]; decide)) $$ [Hcr HO Hat]
  · isplitr; · iapply (rec_inv ER r Rd (c, none)); iexact HR
    isplitl [Hcr]; · iexact Hcr
    isplitl [HO]; · iexact HO
    isplitr; · iapply (mayWait r hL hX c none chans base (hL.bar c) (by omega) (fun _ _ => by omega)); iexact Hlev
    iexact Hat
  iintro ⟨HO, Hat, -, Hpay⟩
  imod (Rounds.cell_close ER Rd (Set.mem_univ (K (c, none))) (hF.unitless (c, none)) (R := 0 + 1) (hF.later (c, none))) $$ [Hat] with Hz
  · isplitr; · iapply (rec_inv ER r Rd (c, none)); iexact HR
    iexact Hat
  ihave Hpay := (Entails.of_eq (rest_bar ER r Rd G hF c)) $$ Hpay
  icases Hpay with ⟨Hccw, Hcw⟩
  iapply Hk
  isplitl [Hown]; · iexact Hown
  isplitl [Hcw]; · iexact Hcw
  isplitl [Hccw]; · iexact Hccw
  isplitl [Hz]; · iexact Hz
  iexists _; iexact HO

/-- The whole exchange: from the own block filled to the whole buffer held at the gathered contents, everything owed paid
    and every counter of the ring's transfers at zero. -/
theorem wp_exchange (c : Dev 8)
    {m0 : Memref sig .tc .vmem ⟨r.s.rank, r.size⟩ r.e} {n0 : Dev 8} {s0 t0 : DmaSem sig} (hm0 : m0 = r.blk (blkOf c 0)) (hn0 : n0 = peer c 0) (hs0 : s0 = r.sS 0) (ht0 : t0 = r.sR 0)
    {hsc0 : (m0 : Memref sig (Dev.tc n0 : Thread 8 Topo.v7x).2.kind .vmem ⟨r.s.rank, r.size⟩ r.e).view.ref.isScScratch = false}
    {e0 e0' : m0.view.WordExact} {y0 : DmaTarget.Typed .vmem (.dma t0) (.remote (Dev.tc n0 : Thread 8 Topo.v7x) m0 (.dma s0) hsc0)}
    {v0 v0' w0 w0' : m0.view.WordExact}
    {m4 : Memref sig .tc .vmem ⟨r.s.rank, r.size⟩ r.e} {n4 : Dev 8} {s4 t4 : DmaSem sig} (hm4 : m4 = r.blk (blkOf c 4)) (hn4 : n4 = peer c 4) (hs4 : s4 = r.sS 4) (ht4 : t4 = r.sR 4)
    {hsc4 : (m4 : Memref sig (Dev.tc n4 : Thread 8 Topo.v7x).2.kind .vmem ⟨r.s.rank, r.size⟩ r.e).view.ref.isScScratch = false}
    {e4 e4' : m4.view.WordExact} {y4 : DmaTarget.Typed .vmem (.dma t4) (.remote (Dev.tc n4 : Thread 8 Topo.v7x) m4 (.dma s4) hsc4)}
    {v4 v4' w4 w4' : m4.view.WordExact}
    {m1 : Memref sig .tc .vmem ⟨r.s.rank, r.size⟩ r.e} {n1 : Dev 8} {s1 t1 : DmaSem sig} (hm1 : m1 = r.blk (blkOf c 1)) (hn1 : n1 = peer c 1) (hs1 : s1 = r.sS 1) (ht1 : t1 = r.sR 1)
    {hsc1 : (m1 : Memref sig (Dev.tc n1 : Thread 8 Topo.v7x).2.kind .vmem ⟨r.s.rank, r.size⟩ r.e).view.ref.isScScratch = false}
    {e1 e1' : m1.view.WordExact} {y1 : DmaTarget.Typed .vmem (.dma t1) (.remote (Dev.tc n1 : Thread 8 Topo.v7x) m1 (.dma s1) hsc1)}
    {v1 v1' w1 w1' : m1.view.WordExact}
    {m5 : Memref sig .tc .vmem ⟨r.s.rank, r.size⟩ r.e} {n5 : Dev 8} {s5 t5 : DmaSem sig} (hm5 : m5 = r.blk (blkOf c 5)) (hn5 : n5 = peer c 5) (hs5 : s5 = r.sS 5) (ht5 : t5 = r.sR 5)
    {hsc5 : (m5 : Memref sig (Dev.tc n5 : Thread 8 Topo.v7x).2.kind .vmem ⟨r.s.rank, r.size⟩ r.e).view.ref.isScScratch = false}
    {e5 e5' : m5.view.WordExact} {y5 : DmaTarget.Typed .vmem (.dma t5) (.remote (Dev.tc n5 : Thread 8 Topo.v7x) m5 (.dma s5) hsc5)}
    {v5 v5' w5 w5' : m5.view.WordExact}
    {m2 : Memref sig .tc .vmem ⟨r.s.rank, r.size⟩ r.e} {n2 : Dev 8} {s2 t2 : DmaSem sig} (hm2 : m2 = r.blk (blkOf c 2)) (hn2 : n2 = peer c 2) (hs2 : s2 = r.sS 2) (ht2 : t2 = r.sR 2)
    {hsc2 : (m2 : Memref sig (Dev.tc n2 : Thread 8 Topo.v7x).2.kind .vmem ⟨r.s.rank, r.size⟩ r.e).view.ref.isScScratch = false}
    {e2 e2' : m2.view.WordExact} {y2 : DmaTarget.Typed .vmem (.dma t2) (.remote (Dev.tc n2 : Thread 8 Topo.v7x) m2 (.dma s2) hsc2)}
    {v2 v2' w2 w2' : m2.view.WordExact}
    {m6 : Memref sig .tc .vmem ⟨r.s.rank, r.size⟩ r.e} {n6 : Dev 8} {s6 t6 : DmaSem sig} (hm6 : m6 = r.blk (blkOf c 6)) (hn6 : n6 = peer c 6) (hs6 : s6 = r.sS 6) (ht6 : t6 = r.sR 6)
    {hsc6 : (m6 : Memref sig (Dev.tc n6 : Thread 8 Topo.v7x).2.kind .vmem ⟨r.s.rank, r.size⟩ r.e).view.ref.isScScratch = false}
    {e6 e6' : m6.view.WordExact} {y6 : DmaTarget.Typed .vmem (.dma t6) (.remote (Dev.tc n6 : Thread 8 Topo.v7x) m6 (.dma s6) hsc6)}
    {v6 v6' w6 w6' : m6.view.WordExact}
    {m3 : Memref sig .tc .vmem ⟨r.s.rank, r.size⟩ r.e} {n3 : Dev 8} {s3 t3 : DmaSem sig} (hm3 : m3 = r.blk (blkOf c 3)) (hn3 : n3 = peer c 3) (hs3 : s3 = r.sS 3) (ht3 : t3 = r.sR 3)
    {hsc3 : (m3 : Memref sig (Dev.tc n3 : Thread 8 Topo.v7x).2.kind .vmem ⟨r.s.rank, r.size⟩ r.e).view.ref.isScScratch = false}
    {e3 e3' : m3.view.WordExact} {y3 : DmaTarget.Typed .vmem (.dma t3) (.remote (Dev.tc n3 : Thread 8 Topo.v7x) m3 (.dma s3) hsc3)}
    {v3 v3' w3 w3' : m3.view.WordExact}
    {kk : PUnit → Prog (TpuEff 8 Topo.v7x sig Val Λ .tc) α} :
    iprop(records ER r Rd K ∗ levAts L lv ∗ (bigSep Finset.univ fun k => chanLin ER r c k) ∗ pts r c (blkOf c 0) fullShare G
        ∗ giveCw (Val := Val) ER r c ∗ giveCcw (Val := Val) ER r c ∗ (∃ W, owes (c : Thread 8 Topo.v7x) (owe r c chans + X) W))
      ⊢ iprop(((((r.M.view.loc (c : Thread 8 Topo.v7x)) ↦{fullShare} G) ∗ (bigSep Finset.univ fun k => chanDone r c k)
              ∗ (∃ W, owes (c : Thread 8 Topo.v7x) X W))
            -∗ wp frame (wpE defs 𝒱 (c : Thread 8 Topo.v7x) none) Set.univ (kk ⟨⟩) Q)
          -∗ wp frame (wpE defs 𝒱 (c : Thread 8 Topo.v7x) none) Set.univ
              (.op (.enqueueDma m0 (.remote (Dev.tc n0 : Thread 8 Topo.v7x) m0 (.dma s0) hsc0) (.dma t0) e0 e0' y0) fun _ =>
                .op (.enqueueDma m4 (.remote (Dev.tc n4 : Thread 8 Topo.v7x) m4 (.dma s4) hsc4) (.dma t4) e4 e4' y4) fun _ =>
                .op (.waitDma2 s0 m0 m0 v0 v0') fun _ => .op (.waitDma2 t0 m0 m0 w0 w0') fun _ =>
                .op (.waitDma2 s4 m4 m4 v4 v4') fun _ => .op (.waitDma2 t4 m4 m4 w4 w4') fun _ =>
                .op (.enqueueDma m1 (.remote (Dev.tc n1 : Thread 8 Topo.v7x) m1 (.dma s1) hsc1) (.dma t1) e1 e1' y1) fun _ =>
                .op (.enqueueDma m5 (.remote (Dev.tc n5 : Thread 8 Topo.v7x) m5 (.dma s5) hsc5) (.dma t5) e5 e5' y5) fun _ =>
                .op (.waitDma2 s1 m1 m1 v1 v1') fun _ => .op (.waitDma2 t1 m1 m1 w1 w1') fun _ =>
                .op (.waitDma2 s5 m5 m5 v5 v5') fun _ => .op (.waitDma2 t5 m5 m5 w5 w5') fun _ =>
                .op (.enqueueDma m2 (.remote (Dev.tc n2 : Thread 8 Topo.v7x) m2 (.dma s2) hsc2) (.dma t2) e2 e2' y2) fun _ =>
                .op (.enqueueDma m6 (.remote (Dev.tc n6 : Thread 8 Topo.v7x) m6 (.dma s6) hsc6) (.dma t6) e6 e6' y6) fun _ =>
                .op (.waitDma2 s2 m2 m2 v2 v2') fun _ => .op (.waitDma2 t2 m2 m2 w2 w2') fun _ =>
                .op (.waitDma2 s6 m6 m6 v6 v6') fun _ => .op (.waitDma2 t6 m6 m6 w6 w6') fun _ =>
                .op (.enqueueDma m3 (.remote (Dev.tc n3 : Thread 8 Topo.v7x) m3 (.dma s3) hsc3) (.dma t3) e3 e3' y3) fun _ =>
                .op (.waitDma2 s3 m3 m3 v3 v3') fun _ => .op (.waitDma2 t3 m3 m3 w3 w3') kk) Q) := by
  rw [bigSep_chans, bigSep_chans]
  unfold giveCw giveCcw
  iintro ⟨#HR, #Hlev, ⟨H0, H4, H1, H5, H2, H6, H3⟩, Hown, ⟨g0, g1, g2, g3⟩, ⟨g4, g5, g6⟩, HO⟩ Hk
  ihave Hh := (own_halves r G c).1 $$ Hown
  icases Hh with ⟨p0, p4⟩
  iapply (wp_hop ER r Rd G 𝒱 hF hL hX K c 0 4 [1, 5, 2, 6, 3] (by decide) (by decide) (by decide) hm0 hn0 hm4 hn4 hs0 ht0 hs4 ht4) $$ [H0 p0 g0 H4 p4 g4 HO]
  · isplitr; · iexact HR
    isplitr; · iexact Hlev
    isplitl [H0 p0 g0]
    · isplitl [H0]; · iexact H0
      isplitl [p0]; · iexact p0
      iexact g0
    isplitl [H4 p4 g4]
    · isplitl [H4]; · iexact H4
      isplitl [p4]; · iexact p4
      iexact g4
    iexact HO
  iintro ⟨⟨d0, p1, z0⟩, ⟨d4, p5, z4⟩, HO⟩
  ihave p1 := (Entails.of_eq (by rw [(by decide : ∀ c, blkOf (back c 0) 0 = blkOf c 1) c]; rfl) : _ ⊢ pts r c (blkOf c 1) (qOf 1) G) $$ p1
  ihave p5 := (Entails.of_eq (by rw [(by decide : ∀ c, blkOf (back c 4) 4 = blkOf c 5) c]; rfl) : _ ⊢ pts r c (blkOf c 5) (qOf 5) G) $$ p5
  iapply (wp_hop ER r Rd G 𝒱 hF hL hX K c 1 5 [2, 6, 3] (by decide) (by decide) (by decide) hm1 hn1 hm5 hn5 hs1 ht1 hs5 ht5) $$ [H1 p1 g1 H5 p5 g5 HO]
  · isplitr; · iexact HR
    isplitr; · iexact Hlev
    isplitl [H1 p1 g1]
    · isplitl [H1]; · iexact H1
      isplitl [p1]; · iexact p1
      iexact g1
    isplitl [H5 p5 g5]
    · isplitl [H5]; · iexact H5
      isplitl [p5]; · iexact p5
      iexact g5
    iexact HO
  iintro ⟨⟨d1, p2, z1⟩, ⟨d5, p6, z5⟩, HO⟩
  ihave p2 := (Entails.of_eq (by rw [(by decide : ∀ c, blkOf (back c 1) 1 = blkOf c 2) c]; rfl) : _ ⊢ pts r c (blkOf c 2) (qOf 2) G) $$ p2
  ihave p6 := (Entails.of_eq (by rw [(by decide : ∀ c, blkOf (back c 5) 5 = blkOf c 6) c]; rfl) : _ ⊢ pts r c (blkOf c 6) (qOf 6) G) $$ p6
  iapply (wp_hop ER r Rd G 𝒱 hF hL hX K c 2 6 [3] (by decide) (by decide) (by decide) hm2 hn2 hm6 hn6 hs2 ht2 hs6 ht6) $$ [H2 p2 g2 H6 p6 g6 HO]
  · isplitr; · iexact HR
    isplitr; · iexact Hlev
    isplitl [H2 p2 g2]
    · isplitl [H2]; · iexact H2
      isplitl [p2]; · iexact p2
      iexact g2
    isplitl [H6 p6 g6]
    · isplitl [H6]; · iexact H6
      isplitl [p6]; · iexact p6
      iexact g6
    iexact HO
  iintro ⟨⟨d2, p3, z2⟩, ⟨d6, p7, z6⟩, HO⟩
  ihave p3 := (Entails.of_eq (by rw [(by decide : ∀ c, blkOf (back c 2) 2 = blkOf c 3) c]; rfl) : _ ⊢ pts r c (blkOf c 3) (qOf 3) G) $$ p3
  iapply (wp_last ER r Rd G 𝒱 hF hL hX K c 3 hm3 hn3 hs3 ht3) $$ [H3 p3 g3 HO]
  · isplitr; · iexact HR
    isplitr; · iexact Hlev
    isplitl [H3 p3 g3]
    · isplitl [H3]; · iexact H3
      isplitl [p3]; · iexact p3
      iexact g3
    iexact HO
  iintro ⟨⟨d3, p4, z3⟩, HO⟩
  iapply Hk
  isplitl [d0 d4 d1 d5 d2 d6 d3 p4 p7]
  · iapply (Entails.of_eq ((pts_blocks (UU := UU) r c G).trans (blocks_of c _)).symm)
    isplitl [d0 d4]
    · iapply (own_halves r G c).2
      isplitl [d0]; · iexact d0
      iexact d4
    isplitl [d1]; · iapply (Entails.of_eq (by rw [(by decide : ∀ c, blkOf (prv c) 0 = blkOf c 1) c]; rfl) : pts r c (blkOf c 1) (qOf 1) G ⊢ _); iexact d1
    isplitl [d2]; · iapply (Entails.of_eq (by rw [(by decide : ∀ c, blkOf (prv c) 1 = blkOf c 2) c]; rfl) : pts r c (blkOf c 2) (qOf 2) G ⊢ _); iexact d2
    isplitl [d3]; · iapply (Entails.of_eq (by rw [(by decide : ∀ c, blkOf (prv c) 2 = blkOf c 3) c]; rfl) : pts r c (blkOf c 3) (qOf 3) G ⊢ _); iexact d3
    isplitl [p4]; · iexact p4
    isplitl [d5]; · iapply (Entails.of_eq (by rw [(by decide : ∀ c, blkOf (nxt c) 4 = blkOf c 5) c]; rfl) : pts r c (blkOf c 5) (qOf 5) G ⊢ _); iexact d5
    isplitl [d6]; · iapply (Entails.of_eq (by rw [(by decide : ∀ c, blkOf (nxt c) 5 = blkOf c 6) c]; rfl) : pts r c (blkOf c 6) (qOf 6) G ⊢ _); iexact d6
    iexact p7
  isplitl [z0 z4 z1 z5 z2 z6 z3]
  · isplitl [z0]; · iexact z0
    isplitl [z4]; · iexact z4
    isplitl [z1]; · iexact z1
    isplitl [z5]; · iexact z5
    isplitl [z2]; · iexact z2
    isplitl [z6]; · iexact z6
    iexact z3
  iexact HO

end Cert.RingAG

end
-- ==== Proof.RingLaunch.lean ====
/-
# Starting the ring: its schedule, its levels, its ghost state at launch

For a ring whose fifteen semaphores are distinct: the schedule of one round on every cell, the levels that let each
wait happen, and the launch — every cell's invariant allocated over the counters at zero, the duty tokens dealt to who
pays them, the credit each device starts with on its own cells.
-/
module

public import proofs.«01_k».proof.Proof.Ring

@[expose] public section

noncomputable section

namespace Cert.RingAG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {Val : EltTy → Type} {UU : Type} [URA UU]

local notation "𝕄" => MT 8 Topo.v7x sig Unit Val ℕ UU ℕ

variable (ER : Emb (URounds (GSem 8 Topo.v7x sig) Bool) (MT 8 Topo.v7x sig Unit Val ℕ UU ℕ))
variable [ER.LandsIn (upEmb : UEmb _ (MT 8 Topo.v7x sig Unit Val ℕ UU ℕ))]
variable (r : RingBuf sig)

/-! ## The schedule and the levels -/

open Classical in
/-- Which of the ring's cells a semaphore is. -/
def cellAt (s : SemLoc sig) : Option Cell := if h : ∃ cl, r.csem cl = s then some h.choose else none

section Inj
variable (hinj : Function.Injective r.csem)
include hinj

theorem cellAt_csem (cl : Cell) : cellAt r (r.csem cl) = some cl := by
  unfold cellAt
  have h : ∃ cl', r.csem cl' = r.csem cl := ⟨cl, rfl⟩
  rw [dif_pos h]
  exact congrArg some (hinj h.choose_spec)

theorem kcell_injective : Function.Injective r.kcell := by
  rintro ⟨c, k⟩ ⟨c', k'⟩ h
  have h1 : c = c' := congrArg (fun g : GSem 8 Topo.v7x sig => g.1.1) h
  have h2 : k = k' := hinj (congrArg Prod.snd h)
  rw [h1, h2]
end Inj

/-- What one cell's duty hands over. -/
def payOf (G : r.M.view.ref.ty.Contents Val) (c : Dev 8) (d : Bool) : Option Cell → sProp 𝕄
  | some none => if d then giveCw (Val := Val) ER r c else giveCcw (Val := Val) ER r c
  | some (some (true, k)) => pts r c (blkOf c k) (qOf k) G
  | some (some (false, k)) => pts r c (blkOf (back c k) k) fullShare G
  | none => iprop(emp)

def dutiesOf : Option Cell → Finset Bool
  | some none => Finset.univ
  | some (some _) => {false}
  | none => ∅

def amountOf : Option Cell → ℕ
  | some none => 1
  | _ => r.N

/-- One round on every cell of the ring: `G` is the gathered contents. -/
def sched (G : r.M.view.ref.ty.Contents Val) : Rounds.Schedule (GSem 8 Topo.v7x sig) Bool 𝕄 where
  duties g n := if n = 0 ∧ g.1.2 = .tc then dutiesOf (cellAt r g.2) else ∅
  unitless _ := False
  amount g _ _ := amountOf r (cellAt r g.2)
  payload g _ d := payOf ER r G g.1.1 d (cellAt r g.2)
  amount_pos g _ _ _ := by
    rcases cellAt r g.2 with _ | _ | _
    · exact r.N_pos
    · exact Nat.one_pos
    · exact r.N_pos

instance sched_storable (G : r.M.view.ref.ty.Contents Val) (g : GSem 8 Topo.v7x sig) (n : ℕ) (d : Bool) :
    BI.Storable (upEmb : UEmb _ 𝕄) ((sched ER r G).payload g n d) := by
  show BI.Storable upEmb (payOf ER r G g.1.1 d (cellAt r g.2))
  rcases cellAt r g.2 with _ | _ | ⟨b, k⟩
  · unfold payOf; infer_instance
  · cases d
    · show BI.Storable upEmb (giveCcw (Val := Val) ER r g.1.1); infer_instance
    · show BI.Storable upEmb (giveCw (Val := Val) ER r g.1.1); infer_instance
  · cases b <;> (unfold payOf; infer_instance)

theorem sched_fits (hinj : Function.Injective r.csem) (G : r.M.view.ref.ty.Contents Val) : Fits ER r (sched ER r G) G := by
  have hb := cellAt_csem r hinj none
  have hs := fun k => cellAt_csem r hinj (some (true, k))
  have hr := fun k => cellAt_csem r hinj (some (false, k))
  refine ⟨fun c => ?_, fun c k => ?_, fun c k => ?_, fun ck n hn => ?_, fun _ h => h, fun c d => ?_, fun c k => ?_, fun c k => ?_,
    fun c => ?_, fun c => ?_, fun c k => ?_, fun c k => ?_⟩
  · exact (if_pos (show (0 : ℕ) = 0 ∧ (Proc.tc : Proc Topo.v7x) = .tc from ⟨rfl, rfl⟩) (e := ∅)).trans (congrArg dutiesOf hb)
  · exact (if_pos (show (0 : ℕ) = 0 ∧ (Proc.tc : Proc Topo.v7x) = .tc from ⟨rfl, rfl⟩) (e := ∅)).trans (congrArg dutiesOf (hs k))
  · exact (if_pos (show (0 : ℕ) = 0 ∧ (Proc.tc : Proc Topo.v7x) = .tc from ⟨rfl, rfl⟩) (e := ∅)).trans (congrArg dutiesOf (hr k))
  · exact if_neg (fun h => by omega)
  · exact congrArg (amountOf r) hb
  · exact congrArg (amountOf r) (hs k)
  · exact congrArg (amountOf r) (hr k)
  · exact congrArg (payOf ER r G c true) hb
  · exact congrArg (payOf ER r G c false) hb
  · exact congrArg (payOf ER r G c false) (hs k)
  · exact congrArg (payOf ER r G c false) (hr k)

/-- Every cell of a TensorCore is levelled; -/
def L (g : GSem 8 Topo.v7x sig) : Finset Unit := if g.1.2 = .tc then {()} else ∅
theorem L_of_ne (g : GSem 8 Topo.v7x sig) (h : g.1.2 ≠ .tc) : L g = ∅ := if_neg h
theorem L_tc (c : Dev 8) (sm : SemLoc sig) : L ((c : Thread 8 Topo.v7x), sm) = {()} := if_pos rfl

def levOf : Option Cell → ℕ
  | some none => 1
  | some (some (false, k)) => 2 + hop k
  | _ => 0
/-- the barrier below the receive cells, these by their hop, everything else at the bottom. -/
def lv (g : GSem 8 Topo.v7x sig) (_ : Unit) : ℕ := levOf (cellAt r g.2)

section Inj
variable (hinj : Function.Injective r.csem)
include hinj

theorem levels : Levels r L (lv r) 1 :=
  ⟨fun ck => by rw [L_tc]; exact Finset.mem_singleton_self _,
   fun c => (congrArg levOf (cellAt_csem r hinj none)).le,
   fun c k => (congrArg levOf (cellAt_csem r hinj (some (true, k)))).le.trans (Nat.zero_le _),
   fun c k => congrArg levOf (cellAt_csem r hinj (some (false, k)))⟩
end Inj

theorem above_zero (L : GSem 8 Topo.v7x sig → Finset Unit) (lv : GSem 8 Topo.v7x sig → Unit → ℕ) (base : ℕ) :
    Above L lv base (0 : CellTallies 8 Topo.v7x sig Unit) := fun _ _ h => absurd h (Nat.lt_irrefl 0)

theorem oweAll_pos {c : Dev 8} {g : GSem 8 Topo.v7x sig} {u : Unit} (h : 0 < oweAll r c g u) :
    ∃ d cl, g = r.kcell (d, cl) ∧ ∀ k, cl ≠ some (true, k) := by
  unfold oweAll at h
  rw [Pi.add_apply, Finsupp.add_apply, Pi.add_apply, Finsupp.add_apply, tallyAt_apply, tallyAt_apply] at h
  by_cases h1 : g = r.barC (prv c)
  · exact ⟨prv c, none, h1, fun _ h => nomatch h⟩
  by_cases h2 : g = r.barC (nxt c)
  · exact ⟨nxt c, none, h2, fun _ h => nomatch h⟩
  rw [if_neg (fun h' => h2 h'.1), if_neg (fun h' => h1 h'.1), Nat.add_zero] at h
  obtain ⟨k, -, rfl⟩ := owe_pos r h
  exact ⟨peer c k, some (false, k), rfl, fun _ h => nomatch h⟩

/-- A wait on a semaphore that is none of the ring's, at any time: it sits below everything owed. -/
theorem mayWait_other (hinj : Function.Injective r.csem) (c : Dev 8) (s : SemLoc sig) (hs : ∀ cl, r.csem cl ≠ s)
    (O : CellTallies 8 Topo.v7x sig Unit) (hO : O = oweAll r c ∨ O = 0) :
    (levAts L (lv r) : sProp 𝕄) ⊢ MayWait (c : Thread 8 Topo.v7x) s () O := by
  rcases hO with rfl | rfl
  · refine MayOwe.of_cut (L := L) (lev := lv r) 0 (fun p hp => by rw [Finset.mem_singleton.mp hp, L_tc]; exact Finset.mem_singleton_self _)
      (fun g u hg => by obtain ⟨d, cl, rfl, -⟩ := oweAll_pos r hg; rw [L_tc]; exact Finset.mem_singleton_self _)
      (fun p hp => by
        rw [Finset.mem_singleton.mp hp]
        show levOf (cellAt r s) ≤ 0
        unfold cellAt; rw [dif_neg (fun ⟨cl, h⟩ => hs cl h)]; exact le_rfl)
      (fun g u hg => by
        obtain ⟨d, cl, rfl, hcl⟩ := oweAll_pos r hg
        show 0 < levOf (cellAt r (r.csem cl))
        rw [cellAt_csem r hinj]
        rcases cl with _ | ⟨_ | _, k⟩
        · exact Nat.one_pos
        · exact Nat.lt_of_lt_of_le Nat.two_pos (Nat.le_add_right _ _)
        · exact absurd rfl (hcl k))
  · rw [MayWait_zero]; iintro -; iempintro

/-! ## The ghost state at launch -/

theorem bigSep_cell (Φ : Cell → sProp 𝕄) : bigSep Finset.univ Φ
    = iprop(Φ none ∗ (bigSep Finset.univ fun k => Φ (some (true, k))) ∗ bigSep Finset.univ fun k => Φ (some (false, k))) := by
  rw [bigSep_univ_equiv (Equiv.optionEquivSumPUnit (Bool × Fin 7)).symm Φ, BI.bigSep_univ_sum, bigSep_univ_prod, bigSep_univ_eq_bigSepL [true, false] (by decide) (by decide),
    bigSepL_cons_cons, bigSepL_singleton, bigSep_univ_eq_bigSepL [(PUnit.unit : PUnit.{1})] (by decide) (by decide), bigSepL_singleton]
  exact equiv_iff.mp ⟨BI.sep_comm, BI.sep_comm⟩

/-- Swapping two iterated conjunctions. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), bigSep_univ_equiv (Equiv.prodComm B A), bigSep_univ_prod]
  rfl

/-- The duty tokens minted for a device's own cells: its barrier's two, then one for each other cell. -/
abbrev tokOf (cj : Dev 8 × (Bool ⊕ (Bool × Fin 7))) : GSem 8 Topo.v7x sig × ℕ × Bool :=
  match cj.2 with
  | .inl d => (r.kcell (cj.1, none), 0, d)
  | .inr x => (r.kcell (cj.1, some x), 0, false)

theorem tokOf_injective (hinj : Function.Injective r.csem) : Function.Injective (tokOf r) := by
  rintro ⟨c, j⟩ ⟨c', j'⟩ h
  have hk := kcell_injective r hinj
  rcases j with d | x <;> rcases j' with d' | x'
  · have h1 := hk (congrArg Prod.fst h)
    have h2 : d = d' := congrArg (fun x : GSem 8 Topo.v7x sig × ℕ × Bool => x.2.2) h
    have h3 : c = c' := (Prod.mk.inj h1).1
    rw [h2, h3]
  · exact absurd (Prod.mk.inj (hk (congrArg Prod.fst h))).2 (by simp)
  · exact absurd (Prod.mk.inj (hk (congrArg Prod.fst h))).2 (by simp)
  · have h1 := Prod.mk.inj (hk (congrArg Prod.fst h))
    have h2 : c = c' := h1.1
    rw [h2, Option.some.inj h1.2]

section Launch
variable (hinj : Function.Injective r.csem)

def ringCells : Finset (GSem 8 Topo.v7x sig) := Finset.univ.map ⟨r.kcell, kcell_injective r hinj⟩
def ringToks : Finset (GSem 8 Topo.v7x sig × ℕ × Bool) := Finset.univ.map ⟨tokOf r, tokOf_injective r hinj⟩

/-- The ring's element at launch. -/
def elem : URounds (GSem 8 Topo.v7x sig) Bool := initOf (ringCells r hinj) (ringToks r hinj)

variable (Rd : Rounds.Schedule (GSem 8 Topo.v7x sig) Bool (MT 8 Topo.v7x sig Unit Val ℕ UU ℕ))
variable [hst : ∀ g n d, BI.Storable (upEmb : UEmb _ (MT 8 Topo.v7x sig Unit Val ℕ UU ℕ)) (Rd.payload g n d)]

/-- The tokens of device `c`'s own cells. -/
def toks (c : Dev 8) : sProp 𝕄 :=
  iprop((dutyTok ER (r.barC c) 0 false ∗ dutyTok ER (r.barC c) 0 true)
    ∗ (bigSep Finset.univ fun k => dutyTok ER (r.sC c k) 0 false) ∗ bigSep Finset.univ fun k => dutyTok ER (r.rC c k) 0 false)

/-- What the launch element deals device `c`. -/
def dealt (c : Dev 8) : sProp 𝕄 :=
  iprop((bigSep Finset.univ fun k : Cell => roundState ER Rd (r.kcell (c, k)) 0)
    ∗ (bigSep Finset.univ fun k : Cell => iprop(atPos ER (r.kcell (c, k)) 0 ∅ 0 ∗ reached ER (r.kcell (c, k)) 0)) ∗ toks ER r c)

theorem fund_ring : BI.own (ER (elem r hinj)) ⊢ (|==> bigSep Finset.univ (dealt ER r Rd) : sProp 𝕄) := by
  have hX (Φ : GSem 8 Topo.v7x sig → sProp 𝕄) :
      bigSep (ringCells r hinj) Φ = bigSep Finset.univ fun c : Dev 8 => bigSep Finset.univ fun k : Cell => Φ (r.kcell (c, k)) := by
    unfold ringCells; rw [bigSep_map, bigSep_univ_prod]; rfl
  have hT : bigSep (ringToks r hinj) (fun x => (dutyTok ER x.1 x.2.1 x.2.2 : sProp 𝕄)) = bigSep Finset.univ fun c : Dev 8 => toks ER r c := by
    unfold ringToks; rw [bigSep_map, bigSep_univ_prod]
    refine bigSep_congr fun c _ => ?_
    rw [BI.bigSep_univ_sum, bigSep_univ_prod, bigSep_univ_eq_bigSepL [false, true] (by decide) (by decide),
      bigSepL_cons_cons, bigSepL_singleton, bigSep_univ_eq_bigSepL [true, false] (by decide) (by decide), bigSepL_cons_cons, bigSepL_singleton]
    rfl
  unfold elem
  iintro HX
  imod (Rounds.fund ER Rd (ringCells r hinj) (ringToks r hinj)) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The tokens of the duties device `c` PAYS, and the positions on its own cells. -/
def linear (c : Dev 8) : sProp 𝕄 :=
  iprop((dutyTok ER (r.barC (prv c)) 0 true ∗ dutyTok ER (r.barC (nxt c)) 0 false ∗ atPos ER (r.barC c) 0 ∅ 0)
    ∗ bigSep Finset.univ fun k => iprop((dutyTok ER (r.sC c k) 0 false ∗ dutyTok ER (r.rC (peer c k) k) 0 false)
        ∗ atPos ER (r.sC c k) 0 ∅ 0 ∗ atPos ER (r.rC c k) 0 ∅ 0))

/-- The credit on a device's own cells. -/
def creds (c : Dev 8) : sProp 𝕄 :=
  iprop(cred (tallyAt (r.barC c) () 2) ∗ bigSep Finset.univ fun k => cred (tallyAt (r.rC c k) () r.N))

theorem lin_creds (c : Dev 8) :
    (iprop(linear ER r c ∗ creds r c) : sProp 𝕄) ⊢ iprop(barLin ER r c ∗ bigSep Finset.univ fun k => chanLin ER r c k) := by
  unfold linear creds barLin chanLin
  simp only [bigSep_sep']
  iintro ⟨⟨⟨H1, H2, H3⟩, ⟨H4, H5⟩, H6, H7⟩, H8, H9⟩
  isplitl [H1 H2 H3 H8]
  · isplitl [H1]; · iexact H1
    isplitl [H2]; · iexact H2
    isplitl [H3]; · iexact H3
    iexact H8
  isplitl [H4 H5]
  · isplitl [H4]; · iexact H4
    iexact H5
  isplitl [H6 H7]
  · isplitl [H6]; · iexact H6
    iexact H7
  iexact H9

/-- What the launch makes of it: the records of every cell, and device `c`'s own share. -/
def ghost (c : Dev 8) : sProp 𝕄 := iprop(∃ K, records ER r Rd K ∗ linear ER r c)

def allotted (c : Dev 8) : sProp 𝕄 :=
  iprop((bigSep Finset.univ fun k : Cell => iprop(∃ κ : ℕ, cellInv ER Rd κ (r.kcell (c, k))))
    ∗ (bigSep Finset.univ fun k : Cell => iprop(atPos ER (r.kcell (c, k)) 0 ∅ 0 ∗ reached ER (r.kcell (c, k)) 0)) ∗ toks ER r c)

theorem core_alloc (c : Dev 8) :
    iprop((bigSep Finset.univ fun k : Cell => semVal (r.kcell (c, k)) 0) ∗ dealt ER r Rd c)
      ⊢ |={Set.univ}=> allotted ER r Rd c := by
  unfold dealt allotted
  iintro ⟨Hv, Hst, Hat, Htok⟩
  imod (show iprop((bigSep Finset.univ fun k : Cell => semVal (r.kcell (c, k)) 0) ∗ bigSep Finset.univ fun k : Cell => roundState ER Rd (r.kcell (c, k)) 0)
      ⊢ (|={Set.univ}=> bigSep Finset.univ fun k => iprop(∃ κ : ℕ, cellInv ER Rd κ (r.kcell (c, k))) : sProp 𝕄) from by
        rw [← bigSep_sep']
        exact (bigSep_mono fun k _ => (Rounds.body_intro ER Rd (r.kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def ringEquiv : Dev 8 ≃ Dev 8 := ⟨nxt, prv, prv_nxt, nxt_prv⟩

/-- The tokens and positions dealt to who uses them. -/
theorem deal : iprop((bigSep Finset.univ fun c : Dev 8 => bigSep Finset.univ fun k : Cell => atPos ER (r.kcell (c, k)) 0 ∅ 0)
      ∗ bigSep Finset.univ fun c : Dev 8 => toks ER r c) ⊢ (bigSep Finset.univ fun c : Dev 8 => linear ER r c : sProp 𝕄) := by
  have hr : (bigSep Finset.univ fun c : Dev 8 => bigSep Finset.univ fun k => dutyTok ER (r.rC c k) 0 false : sProp 𝕄)
      = bigSep Finset.univ fun c : Dev 8 => bigSep Finset.univ fun k => dutyTok ER (r.rC (peer c k) k) 0 false := by
    rw [bigSep_swap, bigSep_swap (fun (c : Dev 8) k => (dutyTok ER (r.rC (peer c k) k) 0 false : sProp 𝕄))]
    exact bigSep_congr fun k _ => bigSep_univ_equiv (peerEquiv k) (fun c : Dev 8 => (dutyTok ER (r.rC c k) 0 false : sProp 𝕄))
  unfold toks linear
  simp only [bigSep_sep', bigSep_cell]
  rw [hr, bigSep_univ_equiv ringEquiv.symm (fun c : Dev 8 => (dutyTok ER (r.barC c) 0 true : sProp 𝕄)),
    bigSep_univ_equiv ringEquiv (fun c : Dev 8 => (dutyTok ER (r.barC c) 0 false : sProp 𝕄))]
  iintro ⟨⟨H1, H2, H3⟩, ⟨H4, H5⟩, H6, H7⟩
  isplitl [H1 H4 H5]
  · isplitl [H5]; · iexact H5
    isplitl [H4]; · iexact H4
    iexact H1
  isplitl [H6 H7]
  · isplitl [H6]; · iexact H6
    iexact H7
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev 8 => allotted ER r Rd c : sProp 𝕄) ⊢ bigSep Finset.univ fun c : Dev 8 => ghost ER r Rd c := by
  unfold allotted
  rw [bigSep_sep', bigSep_sep', ← bigSep_univ_prod (fun ck : Dev 8 × Cell => iprop(∃ κ : ℕ, cellInv ER Rd κ (r.kcell ck))),
    bigSep_congr (s := Finset.univ) (fun (c : Dev 8) _ => bigSep_sep' Finset.univ (fun k : Cell => (atPos ER (r.kcell (c, k)) 0 ∅ 0 : sProp 𝕄)) (fun k => reached ER (r.kcell (c, k)) 0)),
    bigSep_sep', ← bigSep_univ_prod (fun ck : Dev 8 × Cell => (reached ER (r.kcell ck) 0 : sProp 𝕄))]
  iintro ⟨HI, ⟨Hat, #HR⟩, Htok⟩
  ihave HK := (BI.bigSep_exists_pi Finset.univ (fun (ck : Dev 8 × Cell) (κ : ℕ) => (cellInv ER Rd κ (r.kcell ck) : sProp 𝕄))) $$ HI
  icases HK with ⟨%K, #HI⟩
  ihave Hl := (deal ER r) $$ [Hat Htok]
  · isplitl [Hat] <;> iassumption
  iapply (bigSep_with_persistent (R := records ER r Rd K) (Φ := fun c => linear ER r c) fun c _ => (show iprop(records ER r Rd K ∗ linear ER r c) ⊢ ghost ER r Rd c from by
    unfold ghost; iintro H; iexists K; iexact H))
  isplitr
  · unfold records; isplitl; · iexact HI
    iexact HR
  · iexact Hl

/-- The launch's global step, from every ring counter at zero. -/
theorem glob : (bigSep Finset.univ fun c : Dev 8 => iprop((bigSep Finset.univ fun k : Cell => semVal (r.kcell (c, k)) 0) ∗ dealt ER r Rd c) : sProp 𝕄)
    ⊢ |={Set.univ}=> bigSep Finset.univ fun c : Dev 8 => ghost ER r Rd c :=
  ((bigSep_mono fun c _ => core_alloc ER r Rd c).trans (bigSep_fupd _ _)).trans (BI.fupd_mono (regroup ER r Rd))

/-! ## The credit at launch -/

include hinj

theorem kc_eq {a b : Dev 8} {x y : Cell} : r.kcell (a, x) = r.kcell (b, y) ↔ a = b ∧ x = y :=
  ⟨fun h => Prod.mk.inj (kcell_injective r hinj h), fun h => by rw [h.1, h.2]⟩

/-- What device `d` owes device `c`'s receive cell of channel `k` on the channels `ks`. -/
theorem owe_recv (d c : Dev 8) (k : Fin 7) (ks : List (Fin 7)) (hks : ks.Nodup) :
    owe r d ks (r.rC c k) () = if k ∈ ks ∧ d = back c k then r.N else 0 := by
  induction ks with
  | nil => rw [if_neg (fun h => nomatch h.1)]; rfl
  | cons j ks ih =>
    rw [List.nodup_cons] at hks
    unfold owe
    rw [Pi.add_apply, Finsupp.add_apply, ih hks.2, tallyAt_apply]
    have hiff : (r.rC c k = r.rC (peer d j) j ∧ () = ()) ↔ k = j ∧ d = back c k := by
      have h := kc_eq r hinj (a := c) (b := peer d j) (x := some (false, k)) (y := some (false, j))
      constructor
      · intro ⟨h1, _⟩
        obtain ⟨h2, h3⟩ := h.mp h1
        have h4 : k = j := congrArg Prod.snd (Option.some.inj h3)
        subst h4; exact ⟨rfl, by rw [h2, back_peer]⟩
      · rintro ⟨rfl, rfl⟩
        exact ⟨h.mpr ⟨(peer_back c k).symm, rfl⟩, rfl⟩
    by_cases hj : k = j
    · subst hj
      rw [if_neg (fun h => hks.1 h.1), Nat.zero_add]
      exact if_congr (hiff.trans ⟨fun h => ⟨List.mem_cons_self, h.2⟩, fun h => ⟨rfl, h.2⟩⟩) rfl rfl
    · rw [if_neg (fun h => hj (hiff.mp h).1), Nat.add_zero]
      exact if_congr ⟨fun h => ⟨List.mem_cons_of_mem _ h.1, h.2⟩, fun h => ⟨(List.mem_cons.mp h.1).resolve_left hj, h.2⟩⟩ rfl rfl

theorem owed_recv (d c : Dev 8) (k : Fin 7) : oweAll r d (r.rC c k) () = if d = back c k then r.N else 0 := by
  have hne : ∀ b : Dev 8, r.rC c k ≠ r.barC b := fun b h => by
    have := (kc_eq r hinj (a := c) (b := b) (x := some (false, k)) (y := none)).mp h
    exact nomatch this.2
  unfold oweAll
  rw [Pi.add_apply, Finsupp.add_apply, Pi.add_apply, Finsupp.add_apply, tallyAt_apply, tallyAt_apply,
    if_neg (fun h => hne _ h.1), if_neg (fun h => hne _ h.1), owe_recv r hinj d c k chans (by decide)]
  simp only [Nat.add_zero]
  have hk : k ∈ chans := (by decide : ∀ k : Fin 7, k ∈ chans) k
  exact if_congr ⟨fun h => h.2, fun h => ⟨hk, h⟩⟩ rfl rfl

theorem owed_bar (d c : Dev 8) : oweAll r d (r.barC c) () = (if d = prv c then 1 else 0) + (if d = nxt c then 1 else 0) := by
  have h0 : owe r d chans (r.barC c) () = 0 := Nat.eq_zero_of_not_pos fun h => by
    obtain ⟨k, -, e⟩ := owe_pos r h
    have := (kc_eq r hinj (a := c) (b := peer d k) (x := none) (y := some (false, k))).mp e
    exact nomatch this.2
  have hb : ∀ b : Dev 8, (r.barC c = r.barC b ∧ () = ()) ↔ c = b := fun b =>
    ⟨fun h => ((kc_eq r hinj (a := c) (b := b) (x := none) (y := none)).mp h.1).1, fun h => ⟨by rw [h], rfl⟩⟩
  unfold oweAll
  rw [Pi.add_apply, Finsupp.add_apply, Pi.add_apply, Finsupp.add_apply, tallyAt_apply, tallyAt_apply, h0, Nat.zero_add]
  congr 1
  · exact if_congr ((hb _).trans ⟨fun h => by rw [h, prv_nxt], fun h => by rw [h, nxt_prv]⟩) rfl rfl
  · exact if_congr ((hb _).trans ⟨fun h => by rw [h, nxt_prv], fun h => by rw [h, prv_nxt]⟩) rfl rfl

theorem launch_bar (c : Dev 8) :
    tallyOn (r.barC c) (launchCredit (Pipeline.owing (oweAll r)) 0 (r.barC c)) = (tallyAt (r.barC c) () 2 : CellTallies 8 Topo.v7x sig Unit) := by
  unfold tallyAt; refine congrArg _ (Finsupp.ext fun u => ?_); cases u
  rw [Pipeline.launchCredit_owing, Finsupp.single_eq_same, Finset.sum_congr rfl fun d _ => owed_bar r hinj d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev 8) (k : Fin 7) :
    tallyOn (r.rC c k) (launchCredit (Pipeline.owing (oweAll r)) 0 (r.rC c k)) = (tallyAt (r.rC c k) () r.N : CellTallies 8 Topo.v7x sig Unit) := by
  unfold tallyAt; refine congrArg _ (Finsupp.ext fun u => ?_); cases u
  rw [Pipeline.launchCredit_owing, Finsupp.single_eq_same, Finset.sum_congr rfl fun d _ => owed_recv r hinj d c k,
    Finset.sum_ite_eq' Finset.univ (back c k) fun _ => r.N, if_pos (Finset.mem_univ _)]

theorem creds_intro (c : Dev 8) : (Pipeline.launchCred (oweAll r) c : sProp 𝕄) ⊢ creds r c := by
  have h : (Pipeline.launchCred (oweAll r) c : sProp 𝕄) ⊢ bigSep Finset.univ fun cl : Cell =>
      cred (tallyOn (r.kcell (c, cl)) (launchCredit (Pipeline.owing (oweAll r)) 0 (r.kcell (c, cl)))) := by
    unfold Pipeline.launchCred
    exact (bigSep_subset (Finset.subset_univ (Finset.univ.map ⟨r.csem, hinj⟩))).trans (Entails.of_eq (bigSep_map _))
  unfold creds
  iintro H
  ihave H := (h.trans (Entails.of_eq (bigSep_cell _))) $$ H
  icases H with ⟨H1, -, H2⟩
  isplitl [H1]
  · iapply (Entails.of_eq (congrArg cred (launch_bar r hinj c))); iexact H1
  · iapply (Entails.of_eq (bigSep_congr fun k _ => congrArg cred (launch_recv r hinj c k))); iexact H2

end Launch

/-! ## The ring's own semaphores, on the launch's side -/

/-- A conjunction over the transfers' semaphores: the send ones', then the receive ones'. -/
theorem bigSep_own (Φ : Bool × Fin 7 → sProp 𝕄) : bigSep Finset.univ Φ
    = iprop((bigSep Finset.univ fun k => Φ (true, k)) ∗ bigSep Finset.univ fun k => Φ (false, k)) := by
  rw [bigSep_univ_prod, bigSep_univ_eq_bigSepL [true, false] (by decide) (by decide), bigSepL_cons_cons, bigSepL_singleton]
  rfl

/-- The send and receive counters and the barrier's are the cells' counters. -/
theorem sems_cells (c : Dev 8) :
    (iprop((bigSep Finset.univ fun x : Bool × Fin 7 => semVal (r.kcell (c, some x)) 0) ∗ semVal (r.barC c) 0) : sProp 𝕄)
      ⊢ bigSep Finset.univ fun k : Cell => semVal (r.kcell (c, k)) 0 := by
  rw [bigSep_cell, bigSep_own]
  iintro ⟨⟨H1, H2⟩, H3⟩
  isplitl [H3]; · iexact H3
  isplitl [H1]; · iexact H1
  iexact H2

/-- After the exchange they are all at zero. -/
theorem done_cells (c : Dev 8) :
    (bigSep Finset.univ fun k => chanDone r c k : sProp 𝕄) ⊢ bigSep Finset.univ fun x : Bool × Fin 7 => semVal (r.kcell (c, some x)) 0 := by
  rw [bigSep_own]; unfold chanDone
  exact Entails.of_eq (bigSep_sep' _ _ _)

end Cert.RingAG

end
-- ==== Proof.TableIdealRun.lean ====
/-
# The run of the expert product fused with the ring all-gather of its table

Each of eight devices multiplies its eight experts' token rows by their matrices into its own block of a table of
eight blocks, and the blocks go round the ring both ways (`Ring.lean`). Here: the body of one device, executed once at
a symbolic device, and the run of the whole mesh from any memory: every device ends with the same table `gath`, whose
block `b` is made of device `b`'s products.
-/
module

public import proofs.«01_k».proof.Proof.RingLaunch
public import proofs.«01_k».proof.Proof.Gen.TableIdeal
public import proofs.«01_k».proof.Proof.Gen.TableIdeal.Skeleton
public import proofs.«01_k».proof.Proof.Gen.TableIdeal.Launch
public import proofs.«01_k».proof.Proof.Gen.TableIdeal.Points
public import Idealize.ShloMosaic.Lib.Pipeline.Launch
public import Idealize.ShloMosaic.Lib.Pipeline.Kit
public import Idealize.ShloMosaic.Lib.Pipeline.Regions
public import Idealize.ShloMosaic.Lib.Pipeline.CollectiveSegs
public import Idealize.ShloMosaic.Lib.Tactic
public import Idealize.ShloMosaic.Lib.ValueIdxCore

@[expose] public section

noncomputable section

namespace Cert.TableIdealProof

open Cert.TableIdeal Cert.TableIdeal.Gen
open Cert.RingAG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring of this program -/

abbrev aM : Memref sig .tc .vmem S8x208x512 .bf16 := Memref.whole cc0_stg0_0
abbrev bM : Memref sig .tc .vmem S8x512x1024 .bf16 := Memref.whole cc0_stg1_0
abbrev tM : Memref sig .tc .vmem S13312x1024 .bf16 := Memref.whole cc0_stg2_0

/-- Block `b` of the table: 1664 rows. -/
def offB (b : Fin 8) : Fin S13312x1024.rank → ℕ := ![1664 * b.val, 0]
theorem offB_inb : ∀ (b : Fin 8) (a : Fin S13312x1024.rank), offB b a + S1664x1024.size a ≤ S13312x1024.size a := by decide

def ring : RingBuf sig where
  M := tM
  setM := by simp only [Memref.view_whole, View.set_whole]
  off := offB
  size := S1664x1024.size
  inb := offB_inb
  disj := Ring.lead_disjoint (s := S13312x1024) 0 1664 offB S1664x1024.size offB_inb (fun _ => rfl) rfl
  cover := Ring.lead_cover (s := S13312x1024) 0 1664 offB S1664x1024.size offB_inb (fun _ => rfl)
    (by decide) rfl (by decide) rfl
  bar := barrier2
  sS := ![3, 4, 5, 6, 11, 12, 13]
  sR := ![7, 8, 9, 10, 14, 15, 16]
  N := (tM.slice (Rect.unit (s := S13312x1024) (offB 0) S1664x1024.size (offB_inb 0)) (fun _ => rfl)).view.dmaCredit
  N_pos := by decide
  hN := fun _ => rfl

theorem ring_inj : Function.Injective ring.csem := by decide

/-! ## The values -/

def xstg (c : Dev nD) : (cc0_stg0_0 : Ref sig .tc).ty.Contents (Elt F) := (win0_0.blk (0 : Fin 1)).view.read (Elt F) ((s₀ m ρ).mem ((c : Thread nD τ).loc main_arg0))
def wstg (c : Dev nD) : (cc0_stg1_0 : Ref sig .tc).ty.Contents (Elt F) := (win0_1.blk (0 : Fin 1)).view.read (Elt F) ((s₀ m ρ).mem ((c : Thread nD τ).loc main_arg1))

theorem aRect_inb : ∀ (j : Fin 8) (a : Fin 3), (![j.val, 0, 0] : Fin 3 → ℕ) a + S1x208x512.size a ≤ S8x208x512.size a := by decide
theorem bRect_inb : ∀ (j : Fin 8) (a : Fin 3), (![j.val, 0, 0] : Fin 3 → ℕ) a + S1x512x1024.size a ≤ S8x512x1024.size a := by decide
/-- Expert `j`'s rows and matrix, and its strip of the table. -/
abbrev aRect (j : Fin 8) : Rect S8x208x512 := Rect.unit (s := S8x208x512) ![j.val, 0, 0] S1x208x512.size (aRect_inb j)
abbrev bRect (j : Fin 8) : Rect S8x512x1024 := Rect.unit (s := S8x512x1024) ![j.val, 0, 0] S1x512x1024.size (bRect_inb j)
abbrev strip (c : Dev nD) (j : Fin 8) : Rect S13312x1024 := Rect.unit (s := S13312x1024) (k0_off1 c (BitVec.ofNat 32 j.val)) S208x1024.size (k0_off1_inb c j)

/-- Device `c`'s product for its expert `j`. -/
def rowsOf (c : Dev nD) (j : Fin 8) : FVec F S208x1024 .bf16 :=
  k0_pay1 (aM.view.readAt (Elt F) (aRect j).toLoadRect (xstg m ρ c)) (bM.view.readAt (Elt F) (bRect j).toLoadRect (wstg m ρ c))

/-- The gathered table: row `1664 b + 208 j + t` is row `t` of device `b`'s product for its expert `j`. -/
def gath : (cc0_stg2_0 : Ref sig .tc).ty.Contents (Elt F) := fun i : S13312x1024.Idx =>
  rowsOf m ρ ⟨(i 0).val / 1664, by have h : (i 0).val < 13312 := (i 0).isLt; show _ < 8; omega⟩ ⟨(i 0).val % 1664 / 208, by omega⟩
    (ValueIdx.ix2 ⟨(i 0).val % 208, Nat.mod_lt _ (by decide)⟩ ⟨(i 1).val, (i 1).isLt⟩)

theorem gath_at (c : Dev nD) (j : Fin 8) (x : S208x1024.Idx) (i : S13312x1024.Idx) (h0 : (i 0).val = 1664 * c.val + 208 * j.val + (x 0).val)
    (h1 : (i 1).val = (x 1).val) : gath m ρ i = rowsOf m ρ c j x := by
  have hx0 : (x 0).val < 208 := (x 0).isLt
  have hj := j.isLt
  have e1 : (⟨(i 0).val / 1664, by have h : (i 0).val < 13312 := (i 0).isLt; show _ < 8; omega⟩ : Dev nD) = c := Fin.ext (by show (i 0).val / 1664 = c.val; omega)
  have e2 : (⟨(i 0).val % 1664 / 208, by omega⟩ : Fin 8) = j := Fin.ext (by show (i 0).val % 1664 / 208 = j.val; omega)
  have e3 : (ValueIdx.ix2 ⟨(i 0).val % 208, Nat.mod_lt _ (by decide)⟩ ⟨(i 1).val, (i 1).isLt⟩ : S208x1024.Idx) = x := by
    funext a; fin_cases a
    · exact Fin.ext (by show (i 0).val % 208 = (x 0).val; omega)
    · exact Fin.ext h1
  show rowsOf m ρ _ _ _ = _
  rw [e1, e2, e3]

theorem read_strip (c : Dev nD) (j : Fin 8) : ((tM.access (strip c j) : View sig .tc _ _ _)).read (Elt F) (gath m ρ) = rowsOf m ρ c j := by
  funext x
  refine gath_at m ρ c j x ((strip c j).emb x) ?_ ?_
  · show k0_off1 c (BitVec.ofNat 32 j.val) 0 + 1 * (x 0).val = _
    rw [k0_off1_eq, Nat.one_mul]; rfl
  · show k0_off1 c (BitVec.ofNat 32 j.val) 1 + 1 * (x 1).val = _
    rw [k0_off1_eq, Nat.one_mul]; exact Nat.zero_add _

/-! ## The strips of a device's own block -/

/-- The first `n` strips of device `c`'s own block hold the gathered table's rows. -/
def Filled (c : Dev nD) (n : ℕ) (f : (cc0_stg2_0 : Ref sig .tc).ty.Contents (Elt F)) : Prop :=
  ∀ i : S13312x1024.Idx, 1664 * c.val ≤ (i 0).val → (i 0).val < 1664 * c.val + 208 * n → f i = gath m ρ i

/-- The elements of device `c`'s own block. -/
def ownSet (c : Dev nD) : Finset S13312x1024.Idx := (Rect.unit (s := S13312x1024) (offB c) S1664x1024.size (offB_inb c)).set

theorem own_pts (c : Dev nD) (f : (cc0_stg2_0 : Ref sig .tc).ty.Contents (Elt F)) :
    (pts ring c (blkOf c 0) fullShare f : sProp 𝕄) = (((c : Thread nD τ).loc cc0_stg2_0) ↦[ownSet c]{fullShare} f) := by
  rw [show blkOf c 0 = c by revert c; decide]
  unfold pts
  rw [show (ring.blk c).view.set = ownSet c from View.set_slice_whole _ _]
  rfl

def ownPart (c : Dev nD) (n : ℕ) : sProp 𝕄 := iprop(∃ f, ⌜Filled m ρ c n f⌝ ∗ (((c : Thread nD τ).loc cc0_stg2_0) ↦[ownSet c]{fullShare} f))

theorem strip_mem (c : Dev nD) (j : Fin 8) (i : S13312x1024.Idx) :
    i ∈ (tM.access (strip c j) : View sig .tc _ _ _).set ↔ 1664 * c.val + 208 * j.val ≤ (i 0).val ∧ (i 0).val < 1664 * c.val + 208 * j.val + 208 := by
  rw [show (tM.access (strip c j) : View sig .tc _ _ _).set = (strip c j).set from View.set_slice_whole _ _, Rect.mem_set_unit, k0_off1_eq]
  refine ⟨fun h => h 0, fun h => Fin.forall_fin_two.mpr ⟨h, Nat.zero_le _, ?_⟩⟩
  have := (i 1).isLt
  exact lt_of_lt_of_eq this (Nat.zero_add _).symm

theorem own_mem (c : Dev nD) (i : S13312x1024.Idx) :
    i ∈ ownSet c ↔ 1664 * c.val ≤ (i 0).val ∧ (i 0).val < 1664 * c.val + 1664 := by
  unfold ownSet
  rw [Rect.mem_set_unit]
  refine ⟨fun h => h 0, fun h => Fin.forall_fin_two.mpr ⟨h, Nat.zero_le _, ?_⟩⟩
  have := (i 1).isLt
  exact lt_of_lt_of_eq this (Nat.zero_add _).symm

theorem strip_sub (c : Dev nD) (j : Fin 8) : (tM.access (strip c j) : View sig .tc _ _ _).set ⊆ ownSet c := fun i hi => by
  have h := (strip_mem c j i).mp hi
  have := j.isLt
  exact (own_mem c i).mpr ⟨by omega, by omega⟩

theorem filled_step (c : Dev nD) (j : Fin 8) (f : (cc0_stg2_0 : Ref sig .tc).ty.Contents (Elt F)) (hf : Filled m ρ c j.val f) :
    Filled m ρ c (j.val + 1) ((tM.access (strip c j) : View sig .tc _ _ _).write (Elt F) f (rowsOf m ρ c j) Finset.univ) := by
  intro i h1 h2
  rw [← read_strip, View.write_read_eq_piecewise, View.setOn_univ]
  by_cases hi : i ∈ (tM.access (strip c j) : View sig .tc _ _ _).set
  · exact Finset.piecewise_eq_of_mem _ _ _ hi
  · rw [Finset.piecewise_eq_of_notMem _ _ _ hi]
    refine hf i h1 ?_
    by_contra h
    exact hi ((strip_mem c j i).mpr ⟨by omega, by omega⟩)

theorem own_congr (c : Dev nD) (f : (cc0_stg2_0 : Ref sig .tc).ty.Contents (Elt F)) (hf : Filled m ρ c 8 f) :
    ((((c : Thread nD τ).loc cc0_stg2_0) ↦[ownSet c]{fullShare} f) : sProp 𝕄) = (((c : Thread nD τ).loc cc0_stg2_0) ↦[ownSet c]{fullShare} gath m ρ) :=
  pointsTo_congr fun i hi => hf i ((own_mem c i).mp hi).1 (by have := ((own_mem c i).mp hi).2; omega)

theorem filled_all (c : Dev nD) : ownPart m ρ c 8 ⊢ (pts ring c (blkOf c 0) fullShare (gath m ρ) : sProp 𝕄) := by
  rw [own_pts]
  unfold ownPart
  iintro ⟨%f, %hf, H⟩
  iapply (Entails.of_eq (own_congr m ρ c f hf))
  iexact H

theorem filled_none (c : Dev nD) (f : (cc0_stg2_0 : Ref sig .tc).ty.Contents (Elt F)) :
    (pts ring c (blkOf c 0) fullShare f : sProp 𝕄) ⊢ ownPart m ρ c 0 := by
  rw [own_pts]
  unfold ownPart
  iintro H
  iexists f
  isplitr
  · ipureintro; exact fun i h1 h2 => absurd h2 (by omega)
  iexact H

abbrev 𝒱₀ : Variants := Variants.none

/-- A load of the experts' rows. -/
theorem wp_rows (c : Dev nD) {r : LoadRect S8x208x512} {l : aM.view.LoadsAt r} {α : Type} {Q : α → sProp 𝕄}
    {kk : Vec F r.shape .bf16 → Prog (TpuEff nD τ sig (Elt F) Λ₀ .tc) α} :
    (((c : Thread nD τ).loc cc0_stg0_0) ↦{fullShare} xstg m ρ c : sProp 𝕄)
      ⊢ iprop(((((c : Thread nD τ).loc cc0_stg0_0) ↦{fullShare} xstg m ρ c)
            -∗ wp frame (wpE (defs₀ (F := F)) 𝒱₀ (c : Thread nD τ) none) Set.univ (kk (aM.view.readAt (Elt F) r (xstg m ρ c))) Q)
          -∗ wp frame (wpE (defs₀ (F := F)) 𝒱₀ (c : Thread nD τ) none) Set.univ (.op (.load aM r l) kk) Q) :=
  wp_load 𝒱₀ (c : Thread nD τ) none Set.univ (m := aM) (S := Finset.univ) (q := fullShare) (f := xstg m ρ c) (Finset.subset_univ _)

/-- A load of the experts' matrices. -/
theorem wp_mats (c : Dev nD) {r : LoadRect S8x512x1024} {l : bM.view.LoadsAt r} {α : Type} {Q : α → sProp 𝕄}
    {kk : Vec F r.shape .bf16 → Prog (TpuEff nD τ sig (Elt F) Λ₀ .tc) α} :
    (((c : Thread nD τ).loc cc0_stg1_0) ↦{fullShare} wstg m ρ c : sProp 𝕄)
      ⊢ iprop(((((c : Thread nD τ).loc cc0_stg1_0) ↦{fullShare} wstg m ρ c)
            -∗ wp frame (wpE (defs₀ (F := F)) 𝒱₀ (c : Thread nD τ) none) Set.univ (kk (bM.view.readAt (Elt F) r (wstg m ρ c))) Q)
          -∗ wp frame (wpE (defs₀ (F := F)) 𝒱₀ (c : Thread nD τ) none) Set.univ (.op (.load bM r l) kk) Q) :=
  wp_load 𝒱₀ (c : Thread nD τ) none Set.univ (m := bM) (S := Finset.univ) (q := fullShare) (f := wstg m ρ c) (Finset.subset_univ _)

/-- Expert `j`'s product stored into its strip. -/
theorem wp_put (c : Dev nD) (j : Fin 8) {α : Type} {Q : α → sProp 𝕄} (w : FVec F S208x1024 .bf16) (hw : w = rowsOf m ρ c j)
    {l : tM.view.LoadsAt (strip c j).toLoadRect}
    {hx : (tM.access (strip c j)).Stores Finset.univ} {hm : (Finset.univ : Finset (strip c j).shape.Idx) = Finset.univ ∨ ∀ a, (strip c j).stride a = 1}
    {kk : PUnit → Prog (TpuEff nD τ sig (Elt F) Λ₀ .tc) α} :
    ownPart m ρ c j.val
      ⊢ iprop((ownPart m ρ c (j.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load tM (strip c j).toLoadRect l) fun _ => .op (.store tM (strip c j) w Finset.univ hx hm) kk) Q) := by
  subst hw
  unfold ownPart
  iintro ⟨%f, %hf, Ht⟩ Hk
  iapply (wp_load_rect 𝒱₀ (c : Thread nD τ) none Set.univ (m := tM) (r := strip c j) (S := ownSet c) (q := fullShare) (f := f) (strip_sub c j)) $$ [Ht]
  · iexact Ht
  iintro Ht
  iapply (wp_store 𝒱₀ (c : Thread nD τ) none Set.univ (m := tM) (r := strip c j) (Mk := Finset.univ) (w := rowsOf m ρ c j) (S := ownSet c) (f := f) (by rw [View.setOn_univ]; exact strip_sub c j)) $$ [Ht]
  · iexact Ht
  iintro Ht
  iapply Hk
  iexists _
  isplitr
  · ipureintro; exact filled_step m ρ c j f hf
  iexact Ht

/-! ## What the program names: blocks, devices, semaphores -/

theorem cw_off : ∀ (c : Dev nD) (h : Fin 4), k0_off2 c (BitVec.ofNat 32 h.val) = offB (blkOf c (Fin.castLE (by decide) h)) := by decide +kernel
theorem ccw_off : ∀ (c : Dev nD) (h : Fin 3), k0_off3 c (BitVec.ofNat 32 h.val) = offB (blkOf c (Fin.natAdd 4 h)) := by decide +kernel

theorem cw_blk (c : Dev nD) (h : Fin 4) : (tM.slice (Rect.unit (s := S13312x1024) (k0_off2 c (BitVec.ofNat 32 h.val)) S1664x1024.size (k0_off2_inb c h)) (fun _ => rfl) : Memref sig .tc .vmem S1664x1024 .bf16)
    = ring.blk (blkOf c (Fin.castLE (by decide) h)) := Memref.slice_unit_congr tM (cw_off c h) _ _ _ _
theorem ccw_blk (c : Dev nD) (h : Fin 3) : (tM.slice (Rect.unit (s := S13312x1024) (k0_off3 c (BitVec.ofNat 32 h.val)) S1664x1024.size (k0_off3_inb c h)) (fun _ => rfl) : Memref sig .tc .vmem S1664x1024 .bf16)
    = ring.blk (blkOf c (Fin.natAdd 4 h)) := Memref.slice_unit_congr tM (ccw_off c h) _ _ _ _

theorem dev1 : ∀ c : Dev nD, (⟨k0_dev1 c, k0_dev1_lt c⟩ : Dev nD) = prv c := by decide +kernel
theorem dev2 : ∀ c : Dev nD, (⟨k0_dev2 c, k0_dev2_lt c⟩ : Dev nD) = nxt c := by decide +kernel
theorem dev3 : ∀ c : Dev nD, (⟨k0_dev3 c, k0_dev3_lt c⟩ : Dev nD) = peer c 0 := by decide +kernel
theorem dev4 : ∀ c : Dev nD, (⟨k0_dev4 c, k0_dev4_lt c⟩ : Dev nD) = peer c 4 := by decide +kernel
theorem dev5 : ∀ c : Dev nD, (⟨k0_dev5 c, k0_dev5_lt c⟩ : Dev nD) = peer c 1 := by decide +kernel
theorem dev6 : ∀ c : Dev nD, (⟨k0_dev6 c, k0_dev6_lt c⟩ : Dev nD) = peer c 5 := by decide +kernel
theorem dev7 : ∀ c : Dev nD, (⟨k0_dev7 c, k0_dev7_lt c⟩ : Dev nD) = peer c 2 := by decide +kernel
theorem dev8 : ∀ c : Dev nD, (⟨k0_dev8 c, k0_dev8_lt c⟩ : Dev nD) = peer c 6 := by decide +kernel
theorem dev9 : ∀ c : Dev nD, (⟨k0_dev9 c, k0_dev9_lt c⟩ : Dev nD) = peer c 3 := by decide +kernel

/-! ## The run's data -/

/-- The schedule: every receive delivers a block of the gathered table. -/
abbrev Rd : Rounds.Schedule (GSem nD τ sig) Bool 𝕄 := sched (ER (F := F)) ring (gath m ρ)
instance lands : (ER (F := F)).LandsIn (upEmb : UEmb _ 𝕄) := by unfold ER; infer_instance
instance Rd_storable (g : GSem nD τ sig) (n : ℕ) (d : Bool) : BI.Storable (upEmb : UEmb _ 𝕄) ((Rd m ρ).payload g n d) := sched_storable ER ring (gath m ρ) g n d
abbrev fits : Fits (ER (F := F)) ring (Rd m ρ) (gath m ρ) := sched_fits ER ring ring_inj (gath m ρ)

def start (c : Dev nD) : sProp 𝕄 := iprop(ghost ER ring (Rd m ρ) c ∗ creds ring c ∗ levAts L (lv ring))
def Φ₁ (c : Dev nD) : sProp 𝕄 := iprop(semVal (ring.barC c) 0 ∗ bigSep Finset.univ fun k => chanDone ring c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => gath m ρ
  Φ t := match t with
    | ⟨0, _⟩ => start m ρ c
    | ⟨_ + 1, _⟩ => Φ₁ c
  q _ := fullShare
  owed t := match t with
    | ⟨0, _⟩ => oweAll ring c
    | ⟨_ + 1, _⟩ => 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (gath m ρ))

/-! The eight experts' stored values are one function of what is loaded. -/

theorem pay3_eq (v : Vec F S1x208x512 .bf16) (w : Vec F S1x512x1024 .bf16) : k0_pay3 (k0_pay2 v) w = k0_pay1 v w := rfl
theorem pay4_eq : k0_pay4 (F := F) = k0_pay1 := rfl
theorem pay5_eq : k0_pay5 (F := F) = k0_pay1 := rfl
theorem pay6_eq : k0_pay6 (F := F) = k0_pay1 := rfl
theorem pay7_eq : k0_pay7 (F := F) = k0_pay1 := rfl
theorem pay10_eq (v : Vec F S1x208x512 .bf16) (w : Vec F S1x512x1024 .bf16) : k0_pay10 (k0_pay8 v) (k0_pay9 w) = k0_pay1 v w := rfl
theorem pay11_eq : k0_pay11 (F := F) = k0_pay1 := rfl

set_option maxHeartbeats 4000000 in
set_option maxRecDepth 8000 in
/-- The body: the barrier, eight strips, the exchange. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body aM (Memref.isWhole_whole _) bM (Memref.isWhole_whole _) tM (Memref.isWhole_whole _) cc0_scratch0 cc0_scratch1 cc0_scratch2 cc0_scratch3) Kt := by
  simp only [cc0_body_eq_skeleton]; unfold cc0_body_skel
  -- one part after the other, so that each is unfolded at plain arguments
  simp only [k0_part1_eq_skeleton]; unfold k0_part1_skel; simp only [semSignalWord, semWaitWord, Prog.lift, Prog.bind_op, Prog.bind_ret, Prog.pure_eq_ret, Prog.bind_assoc, wp_deviceId]
  simp only [k0_part2_eq_skeleton]; unfold k0_part2_skel; simp only [semSignalWord, semWaitWord, Prog.lift, Prog.bind_op, Prog.bind_ret, Prog.pure_eq_ret, Prog.bind_assoc]
  simp only [k0_part3_eq_skeleton]; unfold k0_part3_skel; simp only [semSignalWord, semWaitWord, Prog.lift, Prog.bind_op, Prog.bind_ret, Prog.pure_eq_ret, Prog.bind_assoc]
  simp only [k0_part4_eq_skeleton]; unfold k0_part4_skel; simp only [semSignalWord, semWaitWord, Prog.lift, Prog.bind_op, Prog.bind_ret, Prog.pure_eq_ret, Prog.bind_assoc]
  simp only [k0_part5_eq_skeleton]; unfold k0_part5_skel; simp only [semSignalWord, semWaitWord, Prog.lift, Prog.bind_op, Prog.bind_ret, Prog.pure_eq_ret, Prog.bind_assoc]
  simp only [k0_part6_eq_skeleton]; unfold k0_part6_skel; simp only [semSignalWord, semWaitWord, Prog.lift, Prog.bind_op, Prog.bind_ret, Prog.pure_eq_ret, Prog.bind_assoc]
  simp only [k0_part7_eq_skeleton]; unfold k0_part7_skel; simp only [semSignalWord, semWaitWord, Prog.lift, Prog.bind_op, Prog.bind_ret, Prog.pure_eq_ret, Prog.bind_assoc]
  simp only [k0_part8_eq_skeleton]; unfold k0_part8_skel; simp only [semSignalWord, semWaitWord, Prog.lift, Prog.bind_op, Prog.bind_ret, Prog.pure_eq_ret, Prog.bind_assoc]
  simp only [k0_part9_eq_skeleton]; unfold k0_part9_skel; simp only [semSignalWord, semWaitWord, Prog.lift, Prog.bind_op, Prog.bind_ret, Prog.pure_eq_ret, Prog.bind_assoc]
  simp only [pay3_eq, pay4_eq, pay5_eq, pay6_eq, pay7_eq, pay10_eq, pay11_eq]
  unfold bodyPre start ghost
  iintro ⟨⟨⟨⟨%K, #HR, Hl⟩, Hc, #Hlev⟩, Ho, ⟨%d0, %g0, %hg0, Ha⟩, ⟨%d1, %g1, %hg1, Hb⟩, ⟨%d2, %g2, %hg2, Ht⟩⟩, Hk⟩
  have ha : g0 = xstg m ρ c := by rw [hg0]; unfold Dat.before; rw [if_pos (fetch0_0 t₀)]; rfl
  have hb : g1 = wstg m ρ c := by rw [hg1]; unfold Dat.before; rw [if_pos (fetch0_1 t₀)]; rfl
  subst ha hb
  unfold Dat.owesAt Pipeline.owesWithin
  icases Ho with ⟨%W, %hW, HO⟩
  rw [show (dats m ρ 0 c).owed t₀.castSucc = oweAll ring c + 0 from (add_zero _).symm]
  ihave Hlc := (lin_creds ER ring c) $$ [Hl Hc]
  · isplitl [Hl] <;> iassumption
  icases Hlc with ⟨Hbar, Hch⟩
  iapply (wp_barrier ER ring (Rd m ρ) (gath m ρ) 𝒱₀ (fits m ρ) (levels ring ring_inj) (above_zero L (lv ring) 1) K c (dev1 c) (dev2 c) rfl rfl rfl g2) $$ [Hbar Ht HO]
  · isplitr; · iexact HR
    isplitr; · iexact Hlev
    isplitl [Hbar]; · iexact Hbar
    isplitl [Ht]; · iexact Ht
    iexists W; iexact HO
  iintro ⟨Hown, Hcw, Hccw, Hz, HO⟩
  ihave Hown := (filled_none m ρ c g2) $$ Hown
  iapply (wp_rows m ρ c) $$ Ha; iintro Ha
  iapply (wp_mats m ρ c) $$ Hb; iintro Hb
  iapply (wp_put m ρ c 0 _ rfl) $$ [Hown]
  · iexact Hown
  iintro Hown
  iapply (wp_rows m ρ c) $$ Ha; iintro Ha
  iapply (wp_mats m ρ c) $$ Hb; iintro Hb
  iapply (wp_put m ρ c 1 _ rfl) $$ [Hown]
  · iexact Hown
  iintro Hown
  iapply (wp_rows m ρ c) $$ Ha; iintro Ha
  iapply (wp_mats m ρ c) $$ Hb; iintro Hb
  iapply (wp_put m ρ c 2 _ rfl) $$ [Hown]
  · iexact Hown
  iintro Hown
  iapply (wp_rows m ρ c) $$ Ha; iintro Ha
  iapply (wp_mats m ρ c) $$ Hb; iintro Hb
  iapply (wp_put m ρ c 3 _ rfl) $$ [Hown]
  · iexact Hown
  iintro Hown
  iapply (wp_rows m ρ c) $$ Ha; iintro Ha
  iapply (wp_mats m ρ c) $$ Hb; iintro Hb
  iapply (wp_put m ρ c 4 _ rfl) $$ [Hown]
  · iexact Hown
  iintro Hown
  iapply (wp_rows m ρ c) $$ Ha; iintro Ha
  iapply (wp_mats m ρ c) $$ Hb; iintro Hb
  iapply (wp_put m ρ c 5 _ rfl) $$ [Hown]
  · iexact Hown
  iintro Hown
  iapply (wp_rows m ρ c) $$ Ha; iintro Ha
  iapply (wp_mats m ρ c) $$ Hb; iintro Hb
  iapply (wp_put m ρ c 6 _ rfl) $$ [Hown]
  · iexact Hown
  iintro Hown
  iapply (wp_rows m ρ c) $$ Ha; iintro Ha
  iapply (wp_mats m ρ c) $$ Hb; iintro Hb
  iapply (wp_put m ρ c 7 _ rfl) $$ [Hown]
  · iexact Hown
  iintro Hown
  ihave Hown := (filled_all m ρ c) $$ [Hown]
  · iexact Hown
  iapply (wp_exchange ER ring (Rd m ρ) (gath m ρ) 𝒱₀ (fits m ρ) (levels ring ring_inj) (above_zero L (lv ring) 1) K c
      (cw_blk c 0) (dev3 c) rfl rfl (ccw_blk c 0) (dev4 c) rfl rfl (cw_blk c 1) (dev5 c) rfl rfl (ccw_blk c 1) (dev6 c) rfl rfl
      (cw_blk c 2) (dev7 c) rfl rfl (ccw_blk c 2) (dev8 c) rfl rfl (cw_blk c 3) (dev9 c) rfl rfl) $$ [Hch Hown Hcw Hccw HO]
  · isplitr; · iexact HR
    isplitr; · iexact Hlev
    isplitl [Hch]; · iexact Hch
    isplitl [Hown]; · iexact Hown
    isplitl [Hcw]; · iexact Hcw
    isplitl [Hccw]; · iexact Hccw
    iexact HO
  iintro ⟨Ht, Hd, ⟨%W', HO⟩⟩
  rw [wp_ret]; imodintro
  iapply Hk
  unfold bodyPost Φ₁ Dat.owesAt Pipeline.owesWithin
  rw [show (dats m ρ 0 c).owed t₀.succ = 0 from rfl]
  isplitl [Hz Hd]
  · isplitl [Hz] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ht

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body aM (Memref.isWhole_whole _) bM (Memref.isWhole_whole _) tM (Memref.isWhole_whole _) cc0_scratch0 cc0_scratch1 cc0_scratch2 cc0_scratch3) (fun _ => bodyPost m ρ c)
  iintro H
  iapply (sound_body m ρ c fun _ => bodyPost m ρ c)
  isplitl
  · iexact H
  · iintro H; iexact H

/-! ## The launch -/

abbrev osem : Bool × Fin 7 → SemLoc sig := fun x => ring.csem (some x)
theorem ownSemFacts : Pipeline.OwnSemFacts cfg0.spec osem := by decide
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), elem ring ring_inj)

theorem unscopedSems0_eq (c : Dev nD) : (unscopedSems0 c : sProp 𝕄) = semVal (ring.barC c) 0 := by
  unfold unscopedSems0; rw [bigSep_eq_bigSepL_of_eq [SemLoc.reg barrier2] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : Bool × Fin 7 => semVal (ring.kcell (c, some x)) 0 := rfl

theorem sems_dealt (c : Dev nD) : (iprop(Pipeline.ownSems0 (Ix := Unit) (Name := ℕ) (U := UU) (Lvl := ℕ) (Val := Elt F) (τ := τ) osem c
        ∗ unscopedSems0 c ∗ dealt ER ring (Rd m ρ) c) : sProp 𝕄)
    ⊢ iprop((bigSep Finset.univ fun k : Cell => semVal (ring.kcell (c, k)) 0) ∗ dealt ER ring (Rd m ρ) c) := by
  rw [ownSems0_eq, unscopedSems0_eq]
  iintro ⟨H1, H2, H3⟩
  isplitl [H1 H2]
  · iapply (sems_cells ring c); isplitl [H1] <;> iassumption
  iexact H3

theorem hglob : (bigSep Finset.univ fun c : Dev nD => iprop(Pipeline.ownSems0 (Ix := Unit) (Name := ℕ) (U := UU) (Lvl := ℕ) (Val := Elt F) (τ := τ) osem c
        ∗ unscopedSems0 c ∗ dealt ER ring (Rd m ρ) c) : sProp 𝕄)
    ⊢ |={Set.univ}=> bigSep Finset.univ fun c : Dev nD => ghost ER ring (Rd m ρ) c :=
  (bigSep_mono fun c _ => sems_dealt m ρ c).trans (glob ER ring (Rd m ρ))

theorem start_intro (c : Dev nD) :
    iprop(Pipeline.unscopedRestP Pipeline.Prefetch.none cfg0.spec c (fun b => m ((c : Thread nD τ).loc b)) ∗ levAts L (lv ring)
        ∗ Pipeline.launchCred (oweAll ring) c ∗ prngReg c (ρ c) ∗ ghost ER ring (Rd m ρ) c)
      ⊢ |={Set.univ}=> iprop(start m ρ c ∗ emp) := by
  iintro ⟨-, Hlev, Hcr, -, HG⟩
  ihave Hc := (creds_intro ring ring_inj c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hz, Hd⟩
  isplitl [Hz]; · iexact Hz
  isplitl [Hd]; · iapply (done_cells ring c); iexact Hd
  iempintro

theorem waits (c : Dev nD) : (levAts L (lv ring) : sProp 𝕄) ⊢ Pipeline.cellsWaits cfgs (dats m ρ) () 0 c :=
  Pipeline.cellsWaits_intro cfgs (dats m ρ) () 0 c fun w s t =>
    mayWait_other ring ring_inj c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' run terminates, and every final state has each array at its
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll ring) (howed₀ := fun _ => rfl) (howedN := fun _ => rfl)
    (L := L) (lv := lv ring) (hL := L_of_ne) (hwaits := waits m ρ)
    (G := dealt ER ring (Rd m ρ)) (G' := ghost ER ring (Rd m ρ)) (u₀ := u₀)
    (hu₀ := by
      unfold u₀
      iintro Hu
      ihave H := (ownU_pair _ _) $$ Hu
      icases H with ⟨HP, HX⟩
      imod (fund_ring ER ring ring_inj (Rd m ρ)) $$ HX with HG
      imodintro
      isplitl [HP] <;> iassumption)
    (hglob := hglob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) := (dats (F := F) m ρ 0 c).arrAt_in (0 : Fin 3) rfl _
theorem finalA_w (c : Dev nD) : finalA m ρ c (1 : Fin 3) = (s₀ m ρ).mem (win0_1.arr.view.loc (c : Thread nD τ)) := (dats (F := F) m ρ 0 c).arrAt_in (1 : Fin 3) rfl _

/-- What a run leaves in the arguments: what they held. -/
theorem kept {r : PUnit × MemSt nD τ sig (Elt F)} (h : QC m ρ r) (c : Dev nD) :
    r.2.mem ((c : Thread nD τ).loc main_arg0) = m ((c : Thread nD τ).loc main_arg0) ∧ r.2.mem ((c : Thread nD τ).loc main_arg1) = m ((c : Thread nD τ).loc main_arg1) :=
  ⟨(h c (0 : Fin 3)).trans (finalA_x m ρ c), (h c (1 : Fin 3)).trans (finalA_w m ρ c)⟩

end Cert.TableIdealProof

end
-- ==== Proof.TableValue.lean ====
/-
# What the gathered table is, at exact arithmetic

At exact arithmetic each device's table of `TableIdealRun.lean` is the reference's: row `208 e + t` is row `t` of expert
`e`'s tokens times expert `e`'s matrix, expert `e` being device `e / 8`'s expert `e % 8`.
-/
module

public import proofs.«01_k».proof.Proof.TableIdealRun
public import proofs.«01_k».proof.Proof.Gen.TableRefIdeal.Run
public import Idealize.ShloMosaic.Lib.Pointwise
public import Idealize.ShloMosaic.Lib.Layout
public import Idealize.ShloMosaic.Lib.Pipeline.ValueKit.Geometry

@[expose] public section

noncomputable section

namespace Cert.TableValue

open Cert.TableIdeal Cert.TableIdeal.Gen Cert.TableIdealProof
open Idealize.ShloMosaic Idealize.ShloMosaic.TcCoe
open scoped BigOperators

variable (m : (ℓ : Loc nD τ sig) → Buf (Elt Ideal) ℓ) (ρ : Dev nD → PrngReg)

/-- Device `c`'s tokens and matrices. -/
abbrev X (c : Dev nD) : FVec Ideal S8x208x512 .bf16 := m ((c : Thread nD τ).loc main_arg0)
abbrev Wt (c : Dev nD) : FVec Ideal S8x512x1024 .bf16 := m ((c : Thread nD τ).loc main_arg1)

theorem pay_apply (v : Vec Ideal S1x208x512 .bf16) (w : Vec Ideal S1x512x1024 .bf16) (i : S208x1024.Idx) :
    k0_pay1 v w i = ∑ k : Fin 512, v (ix3 0 (i 0) k) * w (ix3 0 k (i 1)) := by
  pointwise [k0_pay1]

theorem ref_apply (v : FVec Ideal Cert.TableRefIdeal.S64x208x512 .bf16) (w : FVec Ideal Cert.TableRefIdeal.S64x512x1024 .bf16) (i : S13312x1024.Idx) :
    shapeCast Cert.TableRefIdeal.S13312x1024 (truncf .bf16 (Host.dotGeneral Cert.TableRefIdeal.dot_S64x208x512_S64x512x1024_S64x208x1024_2_1_1_2_0_0 none (extf .f32 v Cert.TableRefIdeal.Gen.bitsLt_bf16_f32)
      (extf .f32 w Cert.TableRefIdeal.Gen.bitsLt_bf16_f32)) Cert.TableRefIdeal.Gen.bitsLt_bf16_f32) Cert.TableRefIdeal.Gen.shapeCasts_S64x208x1024_S13312x1024 i
    = ∑ k : Fin 512, v (ix3 ⟨(i 0).val / 208, by have h : (i 0).val < 13312 := (i 0).isLt; omega⟩ ⟨(i 0).val % 208, Nat.mod_lt _ (by decide)⟩ k)
        * w (ix3 ⟨(i 0).val / 208, by have h : (i 0).val < 13312 := (i 0).isLt; omega⟩ k ⟨(i 1).val, (i 1).isLt⟩) := by
  pointwise

theorem final_out (c : Dev nD) : finalA m ρ c (2 : Fin 3) = gath m ρ := by
  refine (dats m ρ 0 c).arrAt_eq_of_after_last (2 : Fin 3) t₀ (by decide +kernel) _ fun j => ?_
  exact congrArg (gath m ρ) (funext fun a => Fin.ext rfl)

theorem rows_apply (c : Dev nD) (j : Fin 8) (x : S208x1024.Idx) :
    rowsOf m ρ c j x = ∑ k : Fin 512, X m c (ix3 j (x 0) k) * Wt m c (ix3 j k (x 1)) := by
  unfold rowsOf
  rw [pay_apply]
  refine Finset.sum_congr rfl fun k _ => ?_
  have h1 : aM.view.readAt (Elt Ideal) (aRect j).toLoadRect (xstg m ρ c) (ix3 0 (x 0) k) = X m c (ix3 j (x 0) k) := by
    refine congrArg (X m c) ?_
    funext a; apply Fin.ext
    fin_cases a
    · show 0 * 8 + 1 * (j.val + 1 * 0) = j.val; omega
    · show 0 * 208 + 1 * (0 + 1 * (x 0).val) = (x 0).val; omega
    · show 0 * 512 + 1 * (0 + 1 * k.val) = k.val; omega
  have h2 : bM.view.readAt (Elt Ideal) (bRect j).toLoadRect (wstg m ρ c) (ix3 0 k (x 1)) = Wt m c (ix3 j k (x 1)) := by
    refine congrArg (Wt m c) ?_
    funext a; apply Fin.ext
    fin_cases a
    · show 0 * 8 + 1 * (j.val + 1 * 0) = j.val; omega
    · show 0 * 512 + 1 * (0 + 1 * k.val) = k.val; omega
    · show 0 * 1024 + 1 * (0 + 1 * (x 1).val) = (x 1).val; omega
  rw [← h1, ← h2]

theorem gath_apply (i : S13312x1024.Idx) (A : FVec Ideal Cert.TableRefIdeal.S64x208x512 .bf16) (B : FVec Ideal Cert.TableRefIdeal.S64x512x1024 .bf16)
    (hA : ∀ c : Dev nD, X m c = Layout.block ⟨3, ![8, 208, 512]⟩ ⟨3, ![64, 208, 512]⟩ 0 8 c A)
    (hB : ∀ c : Dev nD, Wt m c = Layout.block ⟨3, ![8, 512, 1024]⟩ ⟨3, ![64, 512, 1024]⟩ 0 8 c B) :
    (show FVec Ideal S13312x1024 .bf16 from gath m ρ) i = ∑ k : Fin 512, A (ix3 ⟨(i 0).val / 208, by have h : (i 0).val < 13312 := (i 0).isLt; omega⟩ ⟨(i 0).val % 208, Nat.mod_lt _ (by decide)⟩ k)
        * B (ix3 ⟨(i 0).val / 208, by have h : (i 0).val < 13312 := (i 0).isLt; omega⟩ k ⟨(i 1).val, (i 1).isLt⟩) := by
  have hi : (i 0).val < 13312 := (i 0).isLt
  show rowsOf m ρ _ _ _ = _
  rw [rows_apply]
  refine Finset.sum_congr rfl fun k _ => ?_
  rw [hA, hB, Layout.block_apply, Layout.block_apply]
  refine congrArg₂ (· * ·) (congrArg A ?_) (congrArg B ?_)
  · funext a; apply Fin.ext
    rw [Layout.Tiles.idx_val]
    fin_cases a
    · show (i 0).val / 1664 * 8 + (i 0).val % 1664 / 208 = (i 0).val / 208; omega
    · show (i 0).val % 208 = (i 0).val % 208; rfl
    · rfl
  · funext a; apply Fin.ext
    rw [Layout.Tiles.idx_val]
    fin_cases a
    · show (i 0).val / 1664 * 8 + (i 0).val % 1664 / 208 = (i 0).val / 208; omega
    · rfl
    · rfl

end Cert.TableValue

end
-- ==== Proof.TableClaims.lean ====
/-
# The claims about the expert product fused with the ring all-gather

The frames of the two readings of the kernel and of the reference, and the equality of the results at exact arithmetic.
-/
module

public import proofs.«01_k».proof.Defs
public import proofs.«01_k».proof.Proof.TableRun
public import proofs.«01_k».proof.Proof.TableValue
public import Idealize.ShloMosaic.Lib.Quiescent

@[expose] public section

noncomputable section

namespace Cert.TableClaims

open Idealize.ShloMosaic Idealize.ShloMosaic.TcCoe Idealize.SL.Sem

theorem frame_kernel : Cert.quiescent_Table (hTable := Cert.Table.Gen.facts) := fun m g _ =>
  (θ_run _ _ _).mono (fun _ h => ⟨fun c => Cert.TableProof.kept m g h.1 c, h.2⟩) (Cert.TableProof.run_main (F := Bits) m g)

theorem frame_ideal : Cert.quiescent_TableIdeal (hTableIdeal := Cert.TableIdeal.Gen.facts) := fun m g _ =>
  (θ_run _ _ _).mono (fun _ h => ⟨fun c => Cert.TableIdealProof.kept m g h.1 c, h.2⟩) (Cert.TableIdealProof.run_main (F := Ideal) m g)

theorem frame_ref : Cert.quiescent_TableRefIdeal (hTableRefIdeal := Cert.TableRefIdeal.Gen.facts) := fun m g _ =>
  (θ_run _ _ _).mono (fun r h => ⟨fun c => (h c).2, sem_eq_zero_of_no_sems (by decide) r.2⟩) (Cert.TableRefIdeal.Value.run (F := Ideal) m g)

theorem values : Cert.algebraic_TableIdeal_TableRefIdeal (hTableIdeal := Cert.TableIdeal.Gen.facts) (hTableRefIdeal := Cert.TableRefIdeal.Gen.facts) :=
  fun m g m' g' _ harg =>
    ⟨_, (θ_run _ _ _).mono (fun _ h c => ⟨((h.1 c (2 : Fin 3)).trans (Cert.TableValue.final_out m g c)).trans (funext fun i =>
          (Cert.TableValue.gath_apply m g i _ _ (fun c => (harg c).1) fun c => (harg c).2).trans (Cert.TableValue.ref_apply _ _ i).symm),
          Cert.TableIdealProof.kept m g h.1 c⟩) (Cert.TableIdealProof.run_main (F := Ideal) m g),
      (θ_run _ _ _).mono (fun _ h => h 0) (Cert.TableRefIdeal.Value.run (F := Ideal) m' g')⟩

end Cert.TableClaims

end
-- ==== Proof.TokensIdealRun.lean ====
/-
# The run of the ring all-gather of the tokens

Each of eight devices copies its tokens into its own block of an array of eight blocks, and the blocks go round the
ring both ways (`Ring.lean`). Here: the body of one device, executed once at a symbolic device, and the run of the whole
mesh from any memory: every device ends with the same array `gath`, whose block `b` is device `b`'s tokens.
-/
module

public import proofs.«01_k».proof.Proof.RingLaunch
public import proofs.«01_k».proof.Proof.Gen.TokensIdeal
public import proofs.«01_k».proof.Proof.Gen.TokensIdeal.Skeleton
public import proofs.«01_k».proof.Proof.Gen.TokensIdeal.Launch
public import proofs.«01_k».proof.Proof.Gen.TokensIdeal.Points
public import Idealize.ShloMosaic.Lib.Pipeline.Launch
public import Idealize.ShloMosaic.Lib.Pipeline.Kit
public import Idealize.ShloMosaic.Lib.Pipeline.Regions
public import Idealize.ShloMosaic.Lib.Pipeline.CollectiveSegs
public import Idealize.ShloMosaic.Lib.Tactic
public import Idealize.ShloMosaic.Lib.ValueIdxCore

@[expose] public section

noncomputable section

namespace Cert.TokensIdealProof

open Cert.TokensIdeal Cert.TokensIdeal.Gen
open Cert.RingAG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring of this program -/

abbrev xM : Memref sig .tc .vmem S2048x512 .bf16 := Memref.whole cc0_stg0_0
abbrev gM : Memref sig .tc .vmem S16384x512 .bf16 := Memref.whole cc0_stg1_0

/-- Block `b` of the gathered array. -/
def offB (b : Fin 8) : Fin S16384x512.rank → ℕ := ![2048 * b.val, 0]
theorem offB_inb : ∀ (b : Fin 8) (a : Fin S16384x512.rank), offB b a + S2048x512.size a ≤ S16384x512.size a := by decide

def ring : RingBuf sig where
  M := gM
  setM := by simp only [Memref.view_whole, View.set_whole]
  off := offB
  size := S2048x512.size
  inb := offB_inb
  disj := Ring.lead_disjoint (s := S16384x512) 0 2048 offB S2048x512.size offB_inb (fun _ => rfl) rfl
  cover := Ring.lead_cover (s := S16384x512) 0 2048 offB S2048x512.size offB_inb (fun _ => rfl)
    (by decide) rfl (by decide) rfl
  bar := barrier1
  sS := ![2, 3, 4, 5, 10, 11, 12]
  sR := ![6, 7, 8, 9, 13, 14, 15]
  N := (gM.slice (Rect.unit (s := S16384x512) (offB 0) S2048x512.size (offB_inb 0)) (fun _ => rfl)).view.dmaCredit
  N_pos := by decide
  hN := fun _ => rfl

theorem ring_inj : Function.Injective ring.csem := by decide

/-! ## The values -/

/-- What device `c` loads. -/
def xstg (c : Dev nD) : (cc0_stg0_0 : Ref sig .tc).ty.Contents (Elt F) := (win0_0.blk (0 : Fin 1)).view.read (Elt F) ((s₀ m ρ).mem ((c : Thread nD τ).loc main_arg0))

abbrev ownRect (c : Dev nD) : Rect S16384x512 := Rect.unit (s := S16384x512) (k0_off1 c) S2048x512.size (k0_off1_inb c)

/-- Device `c`'s rows, as stored. -/
def rowsOf (c : Dev nD) : Vec F S2048x512 .bf16 :=
  k0_pay1 (xM.view.readAt (Elt F) (Rect.unit (s := S2048x512) ![0, 0] S2048x512.size inb_S2048x512_S2048x512_0_0).toLoadRect (xstg m ρ c))

/-- The gathered array: row `2048 b + t` is device `b`'s row `t`. -/
def gath : (cc0_stg1_0 : Ref sig .tc).ty.Contents (Elt F) := fun i : S16384x512.Idx =>
  rowsOf m ρ ⟨(i 0).val / 2048, by have h : (i 0).val < 16384 := (i 0).isLt; show _ < 8; omega⟩
    (ValueIdx.ix2 ⟨(i 0).val % 2048, Nat.mod_lt _ (by decide)⟩ ⟨(i 1).val, (i 1).isLt⟩)

theorem gath_at (c : Dev nD) (x : S2048x512.Idx) (i : S16384x512.Idx) (h0 : (i 0).val = 2048 * c.val + (x 0).val)
    (h1 : (i 1).val = (x 1).val) : gath m ρ i = rowsOf m ρ c x := by
  have hx0 : (x 0).val < 2048 := (x 0).isLt
  have e1 : (⟨(i 0).val / 2048, by have h : (i 0).val < 16384 := (i 0).isLt; show _ < 8; omega⟩ : Dev nD) = c := Fin.ext (by show (i 0).val / 2048 = c.val; omega)
  have e3 : (ValueIdx.ix2 ⟨(i 0).val % 2048, Nat.mod_lt _ (by decide)⟩ ⟨(i 1).val, (i 1).isLt⟩ : S2048x512.Idx) = x := by
    funext a; fin_cases a
    · exact Fin.ext (by show (i 0).val % 2048 = (x 0).val; omega)
    · exact Fin.ext h1
  show rowsOf m ρ _ _ = _
  rw [e1, e3]

theorem read_own (c : Dev nD) : ((gM.access (ownRect c) : View sig .tc _ _ _)).read (Elt F) (gath m ρ) = rowsOf m ρ c := by
  funext x
  refine gath_at m ρ c x ((ownRect c).emb x) ?_ ?_
  · show k0_off1 c 0 + 1 * (x 0).val = _
    rw [k0_off1_eq, Nat.one_mul]; rfl
  · show k0_off1 c 1 + 1 * (x 1).val = _
    rw [k0_off1_eq, Nat.one_mul]; exact Nat.zero_add _

/-! ## A device's own block -/

/-- The elements of device `c`'s own block. -/
def ownSet (c : Dev nD) : Finset S16384x512.Idx := (Rect.unit (s := S16384x512) (offB c) S2048x512.size (offB_inb c)).set

theorem own_pts (c : Dev nD) (f : (cc0_stg1_0 : Ref sig .tc).ty.Contents (Elt F)) :
    (pts ring c (blkOf c 0) fullShare f : sProp 𝕄) = (((c : Thread nD τ).loc cc0_stg1_0) ↦[ownSet c]{fullShare} f) := by
  rw [show blkOf c 0 = c by revert c; decide]
  unfold pts
  rw [show (ring.blk c).view.set = ownSet c from View.set_slice_whole _ _]
  rfl

theorem own_set (c : Dev nD) : (gM.access (ownRect c) : View sig .tc _ _ _).set = ownSet c := by
  rw [show (gM.access (ownRect c) : View sig .tc _ _ _).set = (ownRect c).set from View.set_slice_whole _ _]
  refine Finset.ext fun i => ?_
  unfold ownSet
  rw [Rect.mem_set_unit, Rect.mem_set_unit, k0_off1_eq]
  rfl

theorem own_written (c : Dev nD) (f : (cc0_stg1_0 : Ref sig .tc).ty.Contents (Elt F)) :
    ((((c : Thread nD τ).loc cc0_stg1_0) ↦[ownSet c]{fullShare} (gM.access (ownRect c) : View sig .tc _ _ _).write (Elt F) f (rowsOf m ρ c) Finset.univ) : sProp 𝕄)
      = (((c : Thread nD τ).loc cc0_stg1_0) ↦[ownSet c]{fullShare} gath m ρ) :=
  pointsTo_congr fun i hi => by
    rw [← read_own, View.write_read_eq_piecewise, View.setOn_univ]
    exact Finset.piecewise_eq_of_mem _ _ _ (by rw [own_set]; exact hi)

abbrev 𝒱₀ : Variants := Variants.none

/-- The load of the device's rows. -/
theorem wp_rows (c : Dev nD) {r : LoadRect S2048x512} {l : xM.view.LoadsAt r} {α : Type} {Q : α → sProp 𝕄}
    {kk : Vec F r.shape .bf16 → Prog (TpuEff nD τ sig (Elt F) Λ₀ .tc) α} :
    (((c : Thread nD τ).loc cc0_stg0_0) ↦{fullShare} xstg m ρ c : sProp 𝕄)
      ⊢ iprop(((((c : Thread nD τ).loc cc0_stg0_0) ↦{fullShare} xstg m ρ c)
            -∗ wp frame (wpE (defs₀ (F := F)) 𝒱₀ (c : Thread nD τ) none) Set.univ (kk (xM.view.readAt (Elt F) r (xstg m ρ c))) Q)
          -∗ wp frame (wpE (defs₀ (F := F)) 𝒱₀ (c : Thread nD τ) none) Set.univ (.op (.load xM r l) kk) Q) :=
  wp_load 𝒱₀ (c : Thread nD τ) none Set.univ (m := xM) (S := Finset.univ) (q := fullShare) (f := xstg m ρ c) (Finset.subset_univ _)

/-- The rows stored into the device's own block. -/
theorem wp_put (c : Dev nD) {α : Type} {Q : α → sProp 𝕄} (w : Vec F S2048x512 .bf16) (hw : w = rowsOf m ρ c) (f : (cc0_stg1_0 : Ref sig .tc).ty.Contents (Elt F))
    {l : gM.view.LoadsAt (ownRect c).toLoadRect}
    {hx : (gM.access (ownRect c)).Stores Finset.univ} {hm : (Finset.univ : Finset (ownRect c).shape.Idx) = Finset.univ ∨ ∀ a, (ownRect c).stride a = 1}
    {kk : PUnit → Prog (TpuEff nD τ sig (Elt F) Λ₀ .tc) α} :
    (pts ring c (blkOf c 0) fullShare f : sProp 𝕄)
      ⊢ iprop(((pts ring c (blkOf c 0) fullShare (gath m ρ)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load gM (ownRect c).toLoadRect l) fun _ => .op (.store gM (ownRect c) w Finset.univ hx hm) kk) Q) := by
  subst hw
  rw [own_pts, own_pts]
  iintro Ht Hk
  iapply (wp_load_rect 𝒱₀ (c : Thread nD τ) none Set.univ (m := gM) (r := ownRect c) (S := ownSet c) (q := fullShare) (f := f) (own_set c).subset) $$ [Ht]
  · iexact Ht
  iintro Ht
  iapply (wp_store 𝒱₀ (c : Thread nD τ) none Set.univ (m := gM) (r := ownRect c) (Mk := Finset.univ) (w := rowsOf m ρ c) (S := ownSet c) (f := f) (by rw [View.setOn_univ]; exact (own_set c).subset)) $$ [Ht]
  · iexact Ht
  iintro Ht
  iapply Hk
  iapply (Entails.of_eq (own_written m ρ c f))
  iexact Ht

/-! ## What the program names: blocks, devices, semaphores -/

theorem cw_off : ∀ (c : Dev nD) (h : Fin 4), k0_off2 c (BitVec.ofNat 32 h.val) = offB (blkOf c (Fin.castLE (by decide) h)) := by decide +kernel
theorem ccw_off : ∀ (c : Dev nD) (h : Fin 3), k0_off3 c (BitVec.ofNat 32 h.val) = offB (blkOf c (Fin.natAdd 4 h)) := by decide +kernel

theorem cw_blk (c : Dev nD) (h : Fin 4) : (gM.slice (Rect.unit (s := S16384x512) (k0_off2 c (BitVec.ofNat 32 h.val)) S2048x512.size (k0_off2_inb c h)) (fun _ => rfl) : Memref sig .tc .vmem S2048x512 .bf16)
    = ring.blk (blkOf c (Fin.castLE (by decide) h)) := Memref.slice_unit_congr gM (cw_off c h) _ _ _ _
theorem ccw_blk (c : Dev nD) (h : Fin 3) : (gM.slice (Rect.unit (s := S16384x512) (k0_off3 c (BitVec.ofNat 32 h.val)) S2048x512.size (k0_off3_inb c h)) (fun _ => rfl) : Memref sig .tc .vmem S2048x512 .bf16)
    = ring.blk (blkOf c (Fin.natAdd 4 h)) := Memref.slice_unit_congr gM (ccw_off c h) _ _ _ _

theorem dev1 : ∀ c : Dev nD, (⟨k0_dev1 c, k0_dev1_lt c⟩ : Dev nD) = prv c := by decide +kernel
theorem dev2 : ∀ c : Dev nD, (⟨k0_dev2 c, k0_dev2_lt c⟩ : Dev nD) = nxt c := by decide +kernel
theorem dev3 : ∀ c : Dev nD, (⟨k0_dev3 c, k0_dev3_lt c⟩ : Dev nD) = peer c 0 := by decide +kernel
theorem dev4 : ∀ c : Dev nD, (⟨k0_dev4 c, k0_dev4_lt c⟩ : Dev nD) = peer c 4 := by decide +kernel
theorem dev5 : ∀ c : Dev nD, (⟨k0_dev5 c, k0_dev5_lt c⟩ : Dev nD) = peer c 1 := by decide +kernel
theorem dev6 : ∀ c : Dev nD, (⟨k0_dev6 c, k0_dev6_lt c⟩ : Dev nD) = peer c 5 := by decide +kernel
theorem dev7 : ∀ c : Dev nD, (⟨k0_dev7 c, k0_dev7_lt c⟩ : Dev nD) = peer c 2 := by decide +kernel
theorem dev8 : ∀ c : Dev nD, (⟨k0_dev8 c, k0_dev8_lt c⟩ : Dev nD) = peer c 6 := by decide +kernel
theorem dev9 : ∀ c : Dev nD, (⟨k0_dev9 c, k0_dev9_lt c⟩ : Dev nD) = peer c 3 := by decide +kernel

/-! ## The run's data -/

/-- The schedule: every receive delivers a block of the gathered array. -/
abbrev Rd : Rounds.Schedule (GSem nD τ sig) Bool 𝕄 := sched (ER (F := F)) ring (gath m ρ)
instance lands : (ER (F := F)).LandsIn (upEmb : UEmb _ 𝕄) := by unfold ER; infer_instance
instance Rd_storable (g : GSem nD τ sig) (n : ℕ) (d : Bool) : BI.Storable (upEmb : UEmb _ 𝕄) ((Rd m ρ).payload g n d) := sched_storable ER ring (gath m ρ) g n d
abbrev fits : Fits (ER (F := F)) ring (Rd m ρ) (gath m ρ) := sched_fits ER ring ring_inj (gath m ρ)

def start (c : Dev nD) : sProp 𝕄 := iprop(ghost ER ring (Rd m ρ) c ∗ creds ring c ∗ levAts L (lv ring))
def Φ₁ (c : Dev nD) : sProp 𝕄 := iprop(semVal (ring.barC c) 0 ∗ bigSep Finset.univ fun k => chanDone ring c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ
  Φ t := match t with
    | ⟨0, _⟩ => start m ρ c
    | ⟨_ + 1, _⟩ => Φ₁ c
  q _ := fullShare
  owed t := match t with
    | ⟨0, _⟩ => oweAll ring c
    | ⟨_ + 1, _⟩ => 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gath m ρ))

set_option maxHeartbeats 4000000 in
set_option maxRecDepth 8000 in
/-- The body: the barrier, the store, the exchange. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) gM (Memref.isWhole_whole _) cc0_scratch0 cc0_scratch1 cc0_scratch2 cc0_scratch3) Kt := by
  simp only [cc0_body_eq_skeleton]; unfold cc0_body_skel
  -- one part after the other, so that each is unfolded at plain arguments
  simp only [k0_part1_eq_skeleton]; unfold k0_part1_skel; simp only [semSignalWord, semWaitWord, Prog.lift, Prog.bind_op, Prog.bind_ret, Prog.pure_eq_ret, Prog.bind_assoc, wp_deviceId]
  simp only [k0_part2_eq_skeleton]; unfold k0_part2_skel; simp only [semSignalWord, semWaitWord, Prog.lift, Prog.bind_op, Prog.bind_ret, Prog.pure_eq_ret, Prog.bind_assoc]
  simp only [k0_part3_eq_skeleton]; unfold k0_part3_skel; simp only [semSignalWord, semWaitWord, Prog.lift, Prog.bind_op, Prog.bind_ret, Prog.pure_eq_ret, Prog.bind_assoc]
  simp only [k0_part4_eq_skeleton]; unfold k0_part4_skel; simp only [semSignalWord, semWaitWord, Prog.lift, Prog.bind_op, Prog.bind_ret, Prog.pure_eq_ret, Prog.bind_assoc]
  simp only [k0_part5_eq_skeleton]; unfold k0_part5_skel; simp only [semSignalWord, semWaitWord, Prog.lift, Prog.bind_op, Prog.bind_ret, Prog.pure_eq_ret, Prog.bind_assoc]
  simp only [k0_part6_eq_skeleton]; unfold k0_part6_skel; simp only [semSignalWord, semWaitWord, Prog.lift, Prog.bind_op, Prog.bind_ret, Prog.pure_eq_ret, Prog.bind_assoc]
  unfold bodyPre start ghost
  iintro ⟨⟨⟨⟨%K, #HR, Hl⟩, Hc, #Hlev⟩, Ho, ⟨%d0, %g0, %hg0, Ha⟩, ⟨%d1, %g1, %hg1, Ht⟩⟩, Hk⟩
  have ha : g0 = xstg m ρ c := by rw [hg0]; unfold Dat.before; rw [if_pos (fetch0_0 t₀)]; rfl
  subst ha
  unfold Dat.owesAt Pipeline.owesWithin
  icases Ho with ⟨%W, %hW, HO⟩
  rw [show (dats m ρ 0 c).owed t₀.castSucc = oweAll ring c + 0 from (add_zero _).symm]
  ihave Hlc := (lin_creds ER ring c) $$ [Hl Hc]
  · isplitl [Hl] <;> iassumption
  icases Hlc with ⟨Hbar, Hch⟩
  iapply (wp_barrier ER ring (Rd m ρ) (gath m ρ) 𝒱₀ (fits m ρ) (levels ring ring_inj) (above_zero L (lv ring) 1) K c (dev1 c) (dev2 c) rfl rfl rfl g1) $$ [Hbar Ht HO]
  · isplitr; · iexact HR
    isplitr; · iexact Hlev
    isplitl [Hbar]; · iexact Hbar
    isplitl [Ht]; · iexact Ht
    iexists W; iexact HO
  iintro ⟨Hown, Hcw, Hccw, Hz, HO⟩
  iapply (wp_rows m ρ c) $$ Ha; iintro Ha
  iapply (wp_put m ρ c _ rfl g1) $$ Hown; iintro Hown
  iapply (wp_exchange ER ring (Rd m ρ) (gath m ρ) 𝒱₀ (fits m ρ) (levels ring ring_inj) (above_zero L (lv ring) 1) K c
      (cw_blk c 0) (dev3 c) rfl rfl (ccw_blk c 0) (dev4 c) rfl rfl (cw_blk c 1) (dev5 c) rfl rfl (ccw_blk c 1) (dev6 c) rfl rfl
      (cw_blk c 2) (dev7 c) rfl rfl (ccw_blk c 2) (dev8 c) rfl rfl (cw_blk c 3) (dev9 c) rfl rfl) $$ [Hch Hown Hcw Hccw HO]
  · isplitr; · iexact HR
    isplitr; · iexact Hlev
    isplitl [Hch]; · iexact Hch
    isplitl [Hown]; · iexact Hown
    isplitl [Hcw]; · iexact Hcw
    isplitl [Hccw]; · iexact Hccw
    iexact HO
  iintro ⟨Ht, Hd, ⟨%W', HO⟩⟩
  rw [wp_ret]; imodintro
  iapply Hk
  unfold bodyPost Φ₁ Dat.owesAt Pipeline.owesWithin
  rw [show (dats m ρ 0 c).owed t₀.succ = 0 from rfl]
  isplitl [Hz Hd]
  · isplitl [Hz] <;> iassumption
  isplitl [HO]
  · iexists W'
    isplitr; · ipureintro; exact fun _ _ => Or.inl trivial
    iexact HO
  isplitl [Ha]
  · iexists _; isplitr; · (ipureintro; rfl)
    iexact Ha
  iexists _; isplitr; · (ipureintro; rfl)
  iexact Ht

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) gM (Memref.isWhole_whole _) cc0_scratch0 cc0_scratch1 cc0_scratch2 cc0_scratch3) (fun _ => bodyPost m ρ c)
  iintro H
  iapply (sound_body m ρ c fun _ => bodyPost m ρ c)
  isplitl
  · iexact H
  · iintro H; iexact H

/-! ## The launch -/

abbrev osem : Bool × Fin 7 → SemLoc sig := fun x => ring.csem (some x)
theorem ownSemFacts : Pipeline.OwnSemFacts cfg0.spec osem := by decide
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), elem ring ring_inj)

theorem unscopedSems0_eq (c : Dev nD) : (unscopedSems0 c : sProp 𝕄) = semVal (ring.barC c) 0 := by
  unfold unscopedSems0; rw [bigSep_eq_bigSepL_of_eq [SemLoc.reg barrier1] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : Bool × Fin 7 => semVal (ring.kcell (c, some x)) 0 := rfl

theorem sems_dealt (c : Dev nD) : (iprop(Pipeline.ownSems0 (Ix := Unit) (Name := ℕ) (U := UU) (Lvl := ℕ) (Val := Elt F) (τ := τ) osem c
        ∗ unscopedSems0 c ∗ dealt ER ring (Rd m ρ) c) : sProp 𝕄)
    ⊢ iprop((bigSep Finset.univ fun k : Cell => semVal (ring.kcell (c, k)) 0) ∗ dealt ER ring (Rd m ρ) c) := by
  rw [ownSems0_eq, unscopedSems0_eq]
  iintro ⟨H1, H2, H3⟩
  isplitl [H1 H2]
  · iapply (sems_cells ring c); isplitl [H1] <;> iassumption
  iexact H3

theorem hglob : (bigSep Finset.univ fun c : Dev nD => iprop(Pipeline.ownSems0 (Ix := Unit) (Name := ℕ) (U := UU) (Lvl := ℕ) (Val := Elt F) (τ := τ) osem c
        ∗ unscopedSems0 c ∗ dealt ER ring (Rd m ρ) c) : sProp 𝕄)
    ⊢ |={Set.univ}=> bigSep Finset.univ fun c : Dev nD => ghost ER ring (Rd m ρ) c :=
  (bigSep_mono fun c _ => sems_dealt m ρ c).trans (glob ER ring (Rd m ρ))

theorem start_intro (c : Dev nD) :
    iprop(Pipeline.unscopedRestP Pipeline.Prefetch.none cfg0.spec c (fun b => m ((c : Thread nD τ).loc b)) ∗ levAts L (lv ring)
        ∗ Pipeline.launchCred (oweAll ring) c ∗ prngReg c (ρ c) ∗ ghost ER ring (Rd m ρ) c)
      ⊢ |={Set.univ}=> iprop(start m ρ c ∗ emp) := by
  iintro ⟨-, Hlev, Hcr, -, HG⟩
  ihave Hc := (creds_intro ring ring_inj c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hz, Hd⟩
  isplitl [Hz]; · iexact Hz
  isplitl [Hd]; · iapply (done_cells ring c); iexact Hd
  iempintro

theorem waits (c : Dev nD) : (levAts L (lv ring) : sProp 𝕄) ⊢ Pipeline.cellsWaits cfgs (dats m ρ) () 0 c :=
  Pipeline.cellsWaits_intro cfgs (dats m ρ) () 0 c fun w s t =>
    mayWait_other ring ring_inj c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' run terminates, and every final state has each array at its
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll ring) (howed₀ := fun _ => rfl) (howedN := fun _ => rfl)
    (L := L) (lv := lv ring) (hL := L_of_ne) (hwaits := waits m ρ)
    (G := dealt ER ring (Rd m ρ)) (G' := ghost ER ring (Rd m ρ)) (u₀ := u₀)
    (hu₀ := by
      unfold u₀
      iintro Hu
      ihave H := (ownU_pair _ _) $$ Hu
      icases H with ⟨HP, HX⟩
      imod (fund_ring ER ring ring_inj (Rd m ρ)) $$ HX with HG
      imodintro
      isplitl [HP] <;> iassumption)
    (hglob := hglob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) := (dats (F := F) m ρ 0 c).arrAt_in (0 : Fin 2) rfl _

/-- What a run leaves in the argument: what it held. -/
theorem kept {r : PUnit × MemSt nD τ sig (Elt F)} (h : QC m ρ r) (c : Dev nD) :
    r.2.mem ((c : Thread nD τ).loc main_arg0) = m ((c : Thread nD τ).loc main_arg0) := (h c (0 : Fin 2)).trans (finalA_x m ρ c)

end Cert.TokensIdealProof

end
-- ==== Proof.TokensClaims.lean ====
/-
# The claims about the ring all-gather of the tokens

The frames of the two readings of the kernel and of the reference, and the equality of the results: every device ends
with the whole array, which is what the reference returns.
-/
module

public import proofs.«01_k».proof.Defs
public import proofs.«01_k».proof.Proof.TokensRun
public import proofs.«01_k».proof.Proof.TokensIdealRun
public import proofs.«01_k».proof.Proof.Gen.TokensRefIdeal
public import Idealize.ShloMosaic.Lib.Layout
public import Idealize.ShloMosaic.Lib.Pointwise
public import Idealize.ShloMosaic.Lib.Pipeline.ValueKit.Geometry
public import Idealize.ShloMosaic.Lib.Quiescent
public import Idealize.ShloMosaic.Lib.StableHlo.Run

@[expose] public section

noncomputable section

namespace Cert.TokensClaims

open Idealize.ShloMosaic Idealize.ShloMosaic.TcCoe Idealize.SL.Sem Idealize.ShloMosaic.StableHlo

/-! ## The reference: it returns its argument -/

section
open Cert.TokensRefIdeal Cert.TokensRefIdeal.Gen
variable {F : FTy → Type} [FloatOps F]

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq (by decide) (by decide) defs main (fun _ => ([] : List (HloOp τ sig (Elt F)))) (fun _ => rfl) (fun _ => trivial) m ρ)
end

/-! ## The gathered array -/

section
open Cert.TokensIdeal Cert.TokensIdeal.Gen Cert.TokensIdealProof
variable (m : (ℓ : Loc nD τ sig) → Buf (Elt Ideal) ℓ) (ρ : Dev nD → PrngReg)

theorem final_out (c : Dev nD) : finalA m ρ c (1 : Fin 2) = gath m ρ := by
  refine (dats m ρ 0 c).arrAt_eq_of_after_last (1 : Fin 2) t₀ (by decide +kernel) _ fun j => ?_
  exact congrArg (gath m ρ) (funext fun a => Fin.ext rfl)

theorem rows_apply (c : Dev nD) (x : S2048x512.Idx) : rowsOf m ρ c x = m ((c : Thread nD τ).loc main_arg0) x := by
  unfold rowsOf
  pointwise [k0_pay1]
  refine congrArg (m ((c : Thread nD τ).loc main_arg0)) ?_
  funext a; apply Fin.ext
  fin_cases a
  · show 0 * 2048 + 1 * (0 + 1 * (x 0).val) = (x 0).val; omega
  · show 0 * 512 + 1 * (0 + 1 * (x 1).val) = (x 1).val; omega

theorem gath_eq (A : Vec Ideal S16384x512 .bf16)
    (hA : ∀ c : Dev nD, m ((c : Thread nD τ).loc main_arg0) = Layout.block ⟨2, ![2048, 512]⟩ ⟨2, ![16384, 512]⟩ 0 8 c A) : gath m ρ = A := by
  funext i
  have hi : (i 0).val < 16384 := (i 0).isLt
  refine (rows_apply m ρ _ _).trans ?_
  rw [hA, Layout.block_apply]
  refine congrArg A ?_
  funext a; apply Fin.ext
  rw [Layout.Tiles.idx_val]
  fin_cases a
  · show (i 0).val / 2048 * 2048 + (i 0).val % 2048 = (i 0).val; omega
  · rfl
end

/-! ## The claims -/

theorem frame_kernel : Cert.quiescent_Tokens (hTokens := Cert.Tokens.Gen.facts) := fun m g _ =>
  (θ_run _ _ _).mono (fun _ h => ⟨fun c => Cert.TokensProof.kept m g h.1 c, h.2⟩) (Cert.TokensProof.run_main (F := Bits) m g)

theorem frame_ideal : Cert.quiescent_TokensIdeal (hTokensIdeal := Cert.TokensIdeal.Gen.facts) := fun m g _ =>
  (θ_run _ _ _).mono (fun _ h => ⟨fun c => Cert.TokensIdealProof.kept m g h.1 c, h.2⟩) (Cert.TokensIdealProof.run_main (F := Ideal) m g)

theorem frame_ref : Cert.quiescent_TokensRefIdeal (hTokensRefIdeal := Cert.TokensRefIdeal.Gen.facts) := fun m g _ =>
  (θ_run _ _ _).mono (fun r h => ⟨h, sem_eq_zero_of_no_sems (by decide) r.2⟩) (ref_run (F := Ideal) m g)

theorem values : Cert.algebraic_TokensIdeal_TokensRefIdeal (hTokensIdeal := Cert.TokensIdeal.Gen.facts) (hTokensRefIdeal := Cert.TokensRefIdeal.Gen.facts) :=
  fun m g m' g' _ harg =>
    ⟨_, (θ_run _ _ _).mono (fun _ h c => ⟨((h.1 c (1 : Fin 2)).trans (final_out m g c)).trans (gath_eq m g _ harg),
          Cert.TokensIdealProof.kept m g h.1 c⟩) (Cert.TokensIdealProof.run_main (F := Ideal) m g),
      (θ_run _ _ _).mono (fun _ h => ⟨h 0, h 0⟩) (ref_run (F := Ideal) m' g')⟩

end Cert.TokensClaims

end
-- ==== Proof.RoutesIdealRun.lean ====
/-
# The run of the ring all-gather of the routes

Each of eight devices copies its routes into its own block of an array of eight blocks, and the blocks go round the
ring both ways (`Ring.lean`). Here: the body of one device, executed once at a symbolic device, and the run of the whole
mesh from any memory: every device ends with the same array `gath`, whose block `b` is device `b`'s routes.
-/
module

public import proofs.«01_k».proof.Proof.RingLaunch
public import proofs.«01_k».proof.Proof.Gen.RoutesIdeal
public import proofs.«01_k».proof.Proof.Gen.RoutesIdeal.Skeleton
public import proofs.«01_k».proof.Proof.Gen.RoutesIdeal.Launch
public import proofs.«01_k».proof.Proof.Gen.RoutesIdeal.Points
public import Idealize.ShloMosaic.Lib.Pipeline.Launch
public import Idealize.ShloMosaic.Lib.Pipeline.Kit
public import Idealize.ShloMosaic.Lib.Pipeline.Regions
public import Idealize.ShloMosaic.Lib.Pipeline.CollectiveSegs
public import Idealize.ShloMosaic.Lib.Tactic
public import Idealize.ShloMosaic.Lib.ValueIdxCore

@[expose] public section

noncomputable section

namespace Cert.RoutesIdealProof

open Cert.RoutesIdeal Cert.RoutesIdeal.Gen
open Cert.RingAG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring of this program -/

abbrev xM : Memref sig .tc .vmem S16x128 .i32 := Memref.whole cc0_stg0_0
abbrev gM : Memref sig .tc .vmem S128x128 .i32 := Memref.whole cc0_stg1_0

/-- Block `b` of the gathered array. -/
def offB (b : Fin 8) : Fin S128x128.rank → ℕ := ![16 * b.val, 0]
theorem offB_inb : ∀ (b : Fin 8) (a : Fin S128x128.rank), offB b a + S16x128.size a ≤ S128x128.size a := by decide

def ring : RingBuf sig where
  M := gM
  setM := by simp only [Memref.view_whole, View.set_whole]
  off := offB
  size := S16x128.size
  inb := offB_inb
  disj := Ring.lead_disjoint (s := S128x128) 0 16 offB S16x128.size offB_inb (fun _ => rfl) rfl
  cover := Ring.lead_cover (s := S128x128) 0 16 offB S16x128.size offB_inb (fun _ => rfl)
    (by decide) rfl (by decide) rfl
  bar := barrier0
  sS := ![2, 3, 4, 5, 10, 11, 12]
  sR := ![6, 7, 8, 9, 13, 14, 15]
  N := (gM.slice (Rect.unit (s := S128x128) (offB 0) S16x128.size (offB_inb 0)) (fun _ => rfl)).view.dmaCredit
  N_pos := by decide
  hN := fun _ => rfl

theorem ring_inj : Function.Injective ring.csem := by decide

/-! ## The values -/

/-- What device `c` loads. -/
def xstg (c : Dev nD) : (cc0_stg0_0 : Ref sig .tc).ty.Contents (Elt F) := (win0_0.blk (0 : Fin 1)).view.read (Elt F) ((s₀ m ρ).mem ((c : Thread nD τ).loc main_arg0))

abbrev ownRect (c : Dev nD) : Rect S128x128 := Rect.unit (s := S128x128) (k0_off1 c) S16x128.size (k0_off1_inb c)

/-- Device `c`'s rows, as stored. -/
def rowsOf (c : Dev nD) : Vec F S16x128 .i32 :=
  k0_pay1 (xM.view.readAt (Elt F) (Rect.unit (s := S16x128) ![0, 0] S16x128.size inb_S16x128_S16x128_0_0).toLoadRect (xstg m ρ c))

/-- The gathered array: row `16 b + t` is device `b`'s row `t`. -/
def gath : (cc0_stg1_0 : Ref sig .tc).ty.Contents (Elt F) := fun i : S128x128.Idx =>
  rowsOf m ρ ⟨(i 0).val / 16, by have h : (i 0).val < 128 := (i 0).isLt; show _ < 8; omega⟩
    (ValueIdx.ix2 ⟨(i 0).val % 16, Nat.mod_lt _ (by decide)⟩ ⟨(i 1).val, (i 1).isLt⟩)

theorem gath_at (c : Dev nD) (x : S16x128.Idx) (i : S128x128.Idx) (h0 : (i 0).val = 16 * c.val + (x 0).val)
    (h1 : (i 1).val = (x 1).val) : gath m ρ i = rowsOf m ρ c x := by
  have hx0 : (x 0).val < 16 := (x 0).isLt
  have e1 : (⟨(i 0).val / 16, by have h : (i 0).val < 128 := (i 0).isLt; show _ < 8; omega⟩ : Dev nD) = c := Fin.ext (by show (i 0).val / 16 = c.val; omega)
  have e3 : (ValueIdx.ix2 ⟨(i 0).val % 16, Nat.mod_lt _ (by decide)⟩ ⟨(i 1).val, (i 1).isLt⟩ : S16x128.Idx) = x := by
    funext a; fin_cases a
    · exact Fin.ext (by show (i 0).val % 16 = (x 0).val; omega)
    · exact Fin.ext h1
  show rowsOf m ρ _ _ = _
  rw [e1, e3]

theorem read_own (c : Dev nD) : ((gM.access (ownRect c) : View sig .tc _ _ _)).read (Elt F) (gath m ρ) = rowsOf m ρ c := by
  funext x
  refine gath_at m ρ c x ((ownRect c).emb x) ?_ ?_
  · show k0_off1 c 0 + 1 * (x 0).val = _
    rw [k0_off1_eq, Nat.one_mul]; rfl
  · show k0_off1 c 1 + 1 * (x 1).val = _
    rw [k0_off1_eq, Nat.one_mul]; exact Nat.zero_add _

/-! ## A device's own block -/

/-- The elements of device `c`'s own block. -/
def ownSet (c : Dev nD) : Finset S128x128.Idx := (Rect.unit (s := S128x128) (offB c) S16x128.size (offB_inb c)).set

theorem own_pts (c : Dev nD) (f : (cc0_stg1_0 : Ref sig .tc).ty.Contents (Elt F)) :
    (pts ring c (blkOf c 0) fullShare f : sProp 𝕄) = (((c : Thread nD τ).loc cc0_stg1_0) ↦[ownSet c]{fullShare} f) := by
  rw [show blkOf c 0 = c by revert c; decide]
  unfold pts
  rw [show (ring.blk c).view.set = ownSet c from View.set_slice_whole _ _]
  rfl

theorem own_set (c : Dev nD) : (gM.access (ownRect c) : View sig .tc _ _ _).set = ownSet c := by
  rw [show (gM.access (ownRect c) : View sig .tc _ _ _).set = (ownRect c).set from View.set_slice_whole _ _]
  refine Finset.ext fun i => ?_
  unfold ownSet
  rw [Rect.mem_set_unit, Rect.mem_set_unit, k0_off1_eq]
  rfl

theorem own_written (c : Dev nD) (f : (cc0_stg1_0 : Ref sig .tc).ty.Contents (Elt F)) :
    ((((c : Thread nD τ).loc cc0_stg1_0) ↦[ownSet c]{fullShare} (gM.access (ownRect c) : View sig .tc _ _ _).write (Elt F) f (rowsOf m ρ c) Finset.univ) : sProp 𝕄)
      = (((c : Thread nD τ).loc cc0_stg1_0) ↦[ownSet c]{fullShare} gath m ρ) :=
  pointsTo_congr fun i hi => by
    rw [← read_own, View.write_read_eq_piecewise, View.setOn_univ]
    exact Finset.piecewise_eq_of_mem _ _ _ (by rw [own_set]; exact hi)

abbrev 𝒱₀ : Variants := Variants.none

/-- The load of the device's rows. -/
theorem wp_rows (c : Dev nD) {r : LoadRect S16x128} {l : xM.view.LoadsAt r} {α : Type} {Q : α → sProp 𝕄}
    {kk : Vec F r.shape .i32 → Prog (TpuEff nD τ sig (Elt F) Λ₀ .tc) α} :
    (((c : Thread nD τ).loc cc0_stg0_0) ↦{fullShare} xstg m ρ c : sProp 𝕄)
      ⊢ iprop(((((c : Thread nD τ).loc cc0_stg0_0) ↦{fullShare} xstg m ρ c)
            -∗ wp frame (wpE (defs₀ (F := F)) 𝒱₀ (c : Thread nD τ) none) Set.univ (kk (xM.view.readAt (Elt F) r (xstg m ρ c))) Q)
          -∗ wp frame (wpE (defs₀ (F := F)) 𝒱₀ (c : Thread nD τ) none) Set.univ (.op (.load xM r l) kk) Q) :=
  wp_load 𝒱₀ (c : Thread nD τ) none Set.univ (m := xM) (S := Finset.univ) (q := fullShare) (f := xstg m ρ c) (Finset.subset_univ _)

/-- The rows stored into the device's own block. -/
theorem wp_put (c : Dev nD) {α : Type} {Q : α → sProp 𝕄} (w : Vec F S16x128 .i32) (hw : w = rowsOf m ρ c) (f : (cc0_stg1_0 : Ref sig .tc).ty.Contents (Elt F))
    {l : gM.view.LoadsAt (ownRect c).toLoadRect}
    {hx : (gM.access (ownRect c)).Stores Finset.univ} {hm : (Finset.univ : Finset (ownRect c).shape.Idx) = Finset.univ ∨ ∀ a, (ownRect c).stride a = 1}
    {kk : PUnit → Prog (TpuEff nD τ sig (Elt F) Λ₀ .tc) α} :
    (pts ring c (blkOf c 0) fullShare f : sProp 𝕄)
      ⊢ iprop(((pts ring c (blkOf c 0) fullShare (gath m ρ)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load gM (ownRect c).toLoadRect l) fun _ => .op (.store gM (ownRect c) w Finset.univ hx hm) kk) Q) := by
  subst hw
  rw [own_pts, own_pts]
  iintro Ht Hk
  iapply (wp_load_rect 𝒱₀ (c : Thread nD τ) none Set.univ (m := gM) (r := ownRect c) (S := ownSet c) (q := fullShare) (f := f) (own_set c).subset) $$ [Ht]
  · iexact Ht
  iintro Ht
  iapply (wp_store 𝒱₀ (c : Thread nD τ) none Set.univ (m := gM) (r := ownRect c) (Mk := Finset.univ) (w := rowsOf m ρ c) (S := ownSet c) (f := f) (by rw [View.setOn_univ]; exact (own_set c).subset)) $$ [Ht]
  · iexact Ht
  iintro Ht
  iapply Hk
  iapply (Entails.of_eq (own_written m ρ c f))
  iexact Ht

/-! ## What the program names: blocks, devices, semaphores -/

theorem cw_off : ∀ (c : Dev nD) (h : Fin 4), k0_off2 c (BitVec.ofNat 32 h.val) = offB (blkOf c (Fin.castLE (by decide) h)) := by decide +kernel
theorem ccw_off : ∀ (c : Dev nD) (h : Fin 3), k0_off3 c (BitVec.ofNat 32 h.val) = offB (blkOf c (Fin.natAdd 4 h)) := by decide +kernel

theorem cw_blk (c : Dev nD) (h : Fin 4) : (gM.slice (Rect.unit (s := S128x128) (k0_off2 c (BitVec.ofNat 32 h.val)) S16x128.size (k0_off2_inb c h)) (fun _ => rfl) : Memref sig .tc .vmem S16x128 .i32)
    = ring.blk (blkOf c (Fin.castLE (by decide) h)) := Memref.slice_unit_congr gM (cw_off c h) _ _ _ _
theorem ccw_blk (c : Dev nD) (h : Fin 3) : (gM.slice (Rect.unit (s := S128x128) (k0_off3 c (BitVec.ofNat 32 h.val)) S16x128.size (k0_off3_inb c h)) (fun _ => rfl) : Memref sig .tc .vmem S16x128 .i32)
    = ring.blk (blkOf c (Fin.natAdd 4 h)) := Memref.slice_unit_congr gM (ccw_off c h) _ _ _ _

theorem dev1 : ∀ c : Dev nD, (⟨k0_dev1 c, k0_dev1_lt c⟩ : Dev nD) = prv c := by decide +kernel
theorem dev2 : ∀ c : Dev nD, (⟨k0_dev2 c, k0_dev2_lt c⟩ : Dev nD) = nxt c := by decide +kernel
theorem dev3 : ∀ c : Dev nD, (⟨k0_dev3 c, k0_dev3_lt c⟩ : Dev nD) = peer c 0 := by decide +kernel
theorem dev4 : ∀ c : Dev nD, (⟨k0_dev4 c, k0_dev4_lt c⟩ : Dev nD) = peer c 4 := by decide +kernel
theorem dev5 : ∀ c : Dev nD, (⟨k0_dev5 c, k0_dev5_lt c⟩ : Dev nD) = peer c 1 := by decide +kernel
theorem dev6 : ∀ c : Dev nD, (⟨k0_dev6 c, k0_dev6_lt c⟩ : Dev nD) = peer c 5 := by decide +kernel
theorem dev7 : ∀ c : Dev nD, (⟨k0_dev7 c, k0_dev7_lt c⟩ : Dev nD) = peer c 2 := by decide +kernel
theorem dev8 : ∀ c : Dev nD, (⟨k0_dev8 c, k0_dev8_lt c⟩ : Dev nD) = peer c 6 := by decide +kernel
theorem dev9 : ∀ c : Dev nD, (⟨k0_dev9 c, k0_dev9_lt c⟩ : Dev nD) = peer c 3 := by decide +kernel

/-! ## The run's data -/

/-- The schedule: every receive delivers a block of the gathered array. -/
abbrev Rd : Rounds.Schedule (GSem nD τ sig) Bool 𝕄 := sched (ER (F := F)) ring (gath m ρ)
instance lands : (ER (F := F)).LandsIn (upEmb : UEmb _ 𝕄) := by unfold ER; infer_instance
instance Rd_storable (g : GSem nD τ sig) (n : ℕ) (d : Bool) : BI.Storable (upEmb : UEmb _ 𝕄) ((Rd m ρ).payload g n d) := sched_storable ER ring (gath m ρ) g n d
abbrev fits : Fits (ER (F := F)) ring (Rd m ρ) (gath m ρ) := sched_fits ER ring ring_inj (gath m ρ)

def start (c : Dev nD) : sProp 𝕄 := iprop(ghost ER ring (Rd m ρ) c ∗ creds ring c ∗ levAts L (lv ring))
def Φ₁ (c : Dev nD) : sProp 𝕄 := iprop(semVal (ring.barC c) 0 ∗ bigSep Finset.univ fun k => chanDone ring c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ
  Φ t := match t with
    | ⟨0, _⟩ => start m ρ c
    | ⟨_ + 1, _⟩ => Φ₁ c
  q _ := fullShare
  owed t := match t with
    | ⟨0, _⟩ => oweAll ring c
    | ⟨_ + 1, _⟩ => 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gath m ρ))

set_option maxHeartbeats 4000000 in
set_option maxRecDepth 8000 in
/-- The body: the barrier, the store, the exchange. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) gM (Memref.isWhole_whole _) cc0_scratch0 cc0_scratch1 cc0_scratch2 cc0_scratch3) Kt := by
  simp only [cc0_body_eq_skeleton]; unfold cc0_body_skel
  -- one part after the other, so that each is unfolded at plain arguments
  simp only [k0_part1_eq_skeleton]; unfold k0_part1_skel; simp only [semSignalWord, semWaitWord, Prog.lift, Prog.bind_op, Prog.bind_ret, Prog.pure_eq_ret, Prog.bind_assoc, wp_deviceId]
  simp only [k0_part2_eq_skeleton]; unfold k0_part2_skel; simp only [semSignalWord, semWaitWord, Prog.lift, Prog.bind_op, Prog.bind_ret, Prog.pure_eq_ret, Prog.bind_assoc]
  simp only [k0_part3_eq_skeleton]; unfold k0_part3_skel; simp only [semSignalWord, semWaitWord, Prog.lift, Prog.bind_op, Prog.bind_ret, Prog.pure_eq_ret, Prog.bind_assoc]
  simp only [k0_part4_eq_skeleton]; unfold k0_part4_skel; simp only [semSignalWord, semWaitWord, Prog.lift, Prog.bind_op, Prog.bind_ret, Prog.pure_eq_ret, Prog.bind_assoc]
  simp only [k0_part5_eq_skeleton]; unfold k0_part5_skel; simp only [semSignalWord, semWaitWord, Prog.lift, Prog.bind_op, Prog.bind_ret, Prog.pure_eq_ret, Prog.bind_assoc]
  simp only [k0_part6_eq_skeleton]; unfold k0_part6_skel; simp only [semSignalWord, semWaitWord, Prog.lift, Prog.bind_op, Prog.bind_ret, Prog.pure_eq_ret, Prog.bind_assoc]
  unfold bodyPre start ghost
  iintro ⟨⟨⟨⟨%K, #HR, Hl⟩, Hc, #Hlev⟩, Ho, ⟨%d0, %g0, %hg0, Ha⟩, ⟨%d1, %g1, %hg1, Ht⟩⟩, Hk⟩
  have ha : g0 = xstg m ρ c := by rw [hg0]; unfold Dat.before; rw [if_pos (fetch0_0 t₀)]; rfl
  subst ha
  unfold Dat.owesAt Pipeline.owesWithin
  icases Ho with ⟨%W, %hW, HO⟩
  rw [show (dats m ρ 0 c).owed t₀.castSucc = oweAll ring c + 0 from (add_zero _).symm]
  ihave Hlc := (lin_creds ER ring c) $$ [Hl Hc]
  · isplitl [Hl] <;> iassumption
  icases Hlc with ⟨Hbar, Hch⟩
  iapply (wp_barrier ER ring (Rd m ρ) (gath m ρ) 𝒱₀ (fits m ρ) (levels ring ring_inj) (above_zero L (lv ring) 1) K c (dev1 c) (dev2 c) rfl rfl rfl g1) $$ [Hbar Ht HO]
  · isplitr; · iexact HR
    isplitr; · iexact Hlev
    isplitl [Hbar]; · iexact Hbar
    isplitl [Ht]; · iexact Ht
    iexists W; iexact HO
  iintro ⟨Hown, Hcw, Hccw, Hz, HO⟩
  iapply (wp_rows m ρ c) $$ Ha; iintro Ha
  iapply (wp_put m ρ c _ rfl g1) $$ Hown; iintro Hown
  iapply (wp_exchange ER ring (Rd m ρ) (gath m ρ) 𝒱₀ (fits m ρ) (levels ring ring_inj) (above_zero L (lv ring) 1) K c
      (cw_blk c 0) (dev3 c) rfl rfl (ccw_blk c 0) (dev4 c) rfl rfl (cw_blk c 1) (dev5 c) rfl rfl (ccw_blk c 1) (dev6 c) rfl rfl
      (cw_blk c 2) (dev7 c) rfl rfl (ccw_blk c 2) (dev8 c) rfl rfl (cw_blk c 3) (dev9 c) rfl rfl) $$ [Hch Hown Hcw Hccw HO]
  · isplitr; · iexact HR
    isplitr; · iexact Hlev
    isplitl [Hch]; · iexact Hch
    isplitl [Hown]; · iexact Hown
    isplitl [Hcw]; · iexact Hcw
    isplitl [Hccw]; · iexact Hccw
    iexact HO
  iintro ⟨Ht, Hd, ⟨%W', HO⟩⟩
  rw [wp_ret]; imodintro
  iapply Hk
  unfold bodyPost Φ₁ Dat.owesAt Pipeline.owesWithin
  rw [show (dats m ρ 0 c).owed t₀.succ = 0 from rfl]
  isplitl [Hz Hd]
  · isplitl [Hz] <;> iassumption
  isplitl [HO]
  · iexists W'
    isplitr; · ipureintro; exact fun _ _ => Or.inl trivial
    iexact HO
  isplitl [Ha]
  · iexists _; isplitr; · (ipureintro; rfl)
    iexact Ha
  iexists _; isplitr; · (ipureintro; rfl)
  iexact Ht

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) gM (Memref.isWhole_whole _) cc0_scratch0 cc0_scratch1 cc0_scratch2 cc0_scratch3) (fun _ => bodyPost m ρ c)
  iintro H
  iapply (sound_body m ρ c fun _ => bodyPost m ρ c)
  isplitl
  · iexact H
  · iintro H; iexact H

/-! ## The launch -/

abbrev osem : Bool × Fin 7 → SemLoc sig := fun x => ring.csem (some x)
theorem ownSemFacts : Pipeline.OwnSemFacts cfg0.spec osem := by decide
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), elem ring ring_inj)

theorem unscopedSems0_eq (c : Dev nD) : (unscopedSems0 c : sProp 𝕄) = semVal (ring.barC c) 0 := by
  unfold unscopedSems0; rw [bigSep_eq_bigSepL_of_eq [SemLoc.reg barrier0] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : Bool × Fin 7 => semVal (ring.kcell (c, some x)) 0 := rfl

theorem sems_dealt (c : Dev nD) : (iprop(Pipeline.ownSems0 (Ix := Unit) (Name := ℕ) (U := UU) (Lvl := ℕ) (Val := Elt F) (τ := τ) osem c
        ∗ unscopedSems0 c ∗ dealt ER ring (Rd m ρ) c) : sProp 𝕄)
    ⊢ iprop((bigSep Finset.univ fun k : Cell => semVal (ring.kcell (c, k)) 0) ∗ dealt ER ring (Rd m ρ) c) := by
  rw [ownSems0_eq, unscopedSems0_eq]
  iintro ⟨H1, H2, H3⟩
  isplitl [H1 H2]
  · iapply (sems_cells ring c); isplitl [H1] <;> iassumption
  iexact H3

theorem hglob : (bigSep Finset.univ fun c : Dev nD => iprop(Pipeline.ownSems0 (Ix := Unit) (Name := ℕ) (U := UU) (Lvl := ℕ) (Val := Elt F) (τ := τ) osem c
        ∗ unscopedSems0 c ∗ dealt ER ring (Rd m ρ) c) : sProp 𝕄)
    ⊢ |={Set.univ}=> bigSep Finset.univ fun c : Dev nD => ghost ER ring (Rd m ρ) c :=
  (bigSep_mono fun c _ => sems_dealt m ρ c).trans (glob ER ring (Rd m ρ))

theorem start_intro (c : Dev nD) :
    iprop(Pipeline.unscopedRestP Pipeline.Prefetch.none cfg0.spec c (fun b => m ((c : Thread nD τ).loc b)) ∗ levAts L (lv ring)
        ∗ Pipeline.launchCred (oweAll ring) c ∗ prngReg c (ρ c) ∗ ghost ER ring (Rd m ρ) c)
      ⊢ |={Set.univ}=> iprop(start m ρ c ∗ emp) := by
  iintro ⟨-, Hlev, Hcr, -, HG⟩
  ihave Hc := (creds_intro ring ring_inj c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hz, Hd⟩
  isplitl [Hz]; · iexact Hz
  isplitl [Hd]; · iapply (done_cells ring c); iexact Hd
  iempintro

theorem waits (c : Dev nD) : (levAts L (lv ring) : sProp 𝕄) ⊢ Pipeline.cellsWaits cfgs (dats m ρ) () 0 c :=
  Pipeline.cellsWaits_intro cfgs (dats m ρ) () 0 c fun w s t =>
    mayWait_other ring ring_inj c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' run terminates, and every final state has each array at its
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll ring) (howed₀ := fun _ => rfl) (howedN := fun _ => rfl)
    (L := L) (lv := lv ring) (hL := L_of_ne) (hwaits := waits m ρ)
    (G := dealt ER ring (Rd m ρ)) (G' := ghost ER ring (Rd m ρ)) (u₀ := u₀)
    (hu₀ := by
      unfold u₀
      iintro Hu
      ihave H := (ownU_pair _ _) $$ Hu
      icases H with ⟨HP, HX⟩
      imod (fund_ring ER ring ring_inj (Rd m ρ)) $$ HX with HG
      imodintro
      isplitl [HP] <;> iassumption)
    (hglob := hglob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) := (dats (F := F) m ρ 0 c).arrAt_in (0 : Fin 2) rfl _

/-- What a run leaves in the argument: what it held. -/
theorem kept {r : PUnit × MemSt nD τ sig (Elt F)} (h : QC m ρ r) (c : Dev nD) :
    r.2.mem ((c : Thread nD τ).loc main_arg0) = m ((c : Thread nD τ).loc main_arg0) := (h c (0 : Fin 2)).trans (finalA_x m ρ c)

end Cert.RoutesIdealProof

end
-- ==== Proof.RoutesClaims.lean ====
/-
# The claims about the ring all-gather of the routes

The frames of the two readings of the kernel and of the reference, and the equality of the results: every device ends
with the whole array, which is what the reference returns.
-/
module

public import proofs.«01_k».proof.Defs
public import proofs.«01_k».proof.Proof.RoutesRun
public import proofs.«01_k».proof.Proof.RoutesIdealRun
public import proofs.«01_k».proof.Proof.Gen.RoutesRefIdeal
public import Idealize.ShloMosaic.Lib.Layout
public import Idealize.ShloMosaic.Lib.Pointwise
public import Idealize.ShloMosaic.Lib.Pipeline.ValueKit.Geometry
public import Idealize.ShloMosaic.Lib.Quiescent
public import Idealize.ShloMosaic.Lib.StableHlo.Run

@[expose] public section

noncomputable section

namespace Cert.RoutesClaims

open Idealize.ShloMosaic Idealize.ShloMosaic.TcCoe Idealize.SL.Sem Idealize.ShloMosaic.StableHlo

/-! ## The reference: it returns its argument -/

section
open Cert.RoutesRefIdeal Cert.RoutesRefIdeal.Gen
variable {F : FTy → Type} [FloatOps F]

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq (by decide) (by decide) defs main (fun _ => ([] : List (HloOp τ sig (Elt F)))) (fun _ => rfl) (fun _ => trivial) m ρ)
end

/-! ## The gathered array -/

section
open Cert.RoutesIdeal Cert.RoutesIdeal.Gen Cert.RoutesIdealProof
variable (m : (ℓ : Loc nD τ sig) → Buf (Elt Ideal) ℓ) (ρ : Dev nD → PrngReg)

theorem final_out (c : Dev nD) : finalA m ρ c (1 : Fin 2) = gath m ρ := by
  refine (dats m ρ 0 c).arrAt_eq_of_after_last (1 : Fin 2) t₀ (by decide +kernel) _ fun j => ?_
  exact congrArg (gath m ρ) (funext fun a => Fin.ext rfl)

theorem rows_apply (c : Dev nD) (x : S16x128.Idx) : rowsOf m ρ c x = m ((c : Thread nD τ).loc main_arg0) x := by
  unfold rowsOf
  pointwise [k0_pay1]
  refine congrArg (m ((c : Thread nD τ).loc main_arg0)) ?_
  funext a; apply Fin.ext
  fin_cases a
  · show 0 * 16 + 1 * (0 + 1 * (x 0).val) = (x 0).val; omega
  · show 0 * 128 + 1 * (0 + 1 * (x 1).val) = (x 1).val; omega

theorem gath_eq (A : Vec Ideal S128x128 .i32)
    (hA : ∀ c : Dev nD, m ((c : Thread nD τ).loc main_arg0) = Layout.block ⟨2, ![16, 128]⟩ ⟨2, ![128, 128]⟩ 0 8 c A) : gath m ρ = A := by
  funext i
  have hi : (i 0).val < 128 := (i 0).isLt
  refine (rows_apply m ρ _ _).trans ?_
  rw [hA, Layout.block_apply]
  refine congrArg A ?_
  funext a; apply Fin.ext
  rw [Layout.Tiles.idx_val]
  fin_cases a
  · show (i 0).val / 16 * 16 + (i 0).val % 16 = (i 0).val; omega
  · rfl
end

/-! ## The claims -/

theorem frame_kernel : Cert.quiescent_Routes (hRoutes := Cert.Routes.Gen.facts) := fun m g _ =>
  (θ_run _ _ _).mono (fun _ h => ⟨fun c => Cert.RoutesProof.kept m g h.1 c, h.2⟩) (Cert.RoutesProof.run_main (F := Bits) m g)

theorem frame_ideal : Cert.quiescent_RoutesIdeal (hRoutesIdeal := Cert.RoutesIdeal.Gen.facts) := fun m g _ =>
  (θ_run _ _ _).mono (fun _ h => ⟨fun c => Cert.RoutesIdealProof.kept m g h.1 c, h.2⟩) (Cert.RoutesIdealProof.run_main (F := Ideal) m g)

theorem frame_ref : Cert.quiescent_RoutesRefIdeal (hRoutesRefIdeal := Cert.RoutesRefIdeal.Gen.facts) := fun m g _ =>
  (θ_run _ _ _).mono (fun r h => ⟨h, sem_eq_zero_of_no_sems (by decide) r.2⟩) (ref_run (F := Ideal) m g)

theorem values : Cert.algebraic_RoutesIdeal_RoutesRefIdeal (hRoutesIdeal := Cert.RoutesIdeal.Gen.facts) (hRoutesRefIdeal := Cert.RoutesRefIdeal.Gen.facts) :=
  fun m g m' g' _ harg =>
    ⟨_, (θ_run _ _ _).mono (fun _ h c => ⟨((h.1 c (1 : Fin 2)).trans (final_out m g c)).trans (gath_eq m g _ harg),
          Cert.RoutesIdealProof.kept m g h.1 c⟩) (Cert.RoutesIdealProof.run_main (F := Ideal) m g),
      (θ_run _ _ _).mono (fun _ h => ⟨h 0, h 0⟩) (ref_run (F := Ideal) m' g')⟩

end Cert.RoutesClaims

end
-- ==== Proof.GatherRef.lean ====
/-
# The rows a reference names

`src[idx]` on the host is a gather down the first axis of a table of rows, at row numbers from which negative ones have
been wrapped around. Read at an index, where every row number names a row: the row of the table it names.
-/
module

public import Idealize.ShloMosaic.Lib.ValueIdxCore
public import Idealize.ShloMosaic.Lib.Routing.OpsPair
public import Idealize.ShloMosaic.Lib.StableHlo.Predicate

@[expose] public section

noncomputable section

namespace Cert.RowGather

open Idealize.ShloMosaic Idealize.ShloMosaic.ValueIdx

section
variable {α : Type} {N a R : ℕ}

/-- The dimension numbers of `src[idx]`, `src` a table of `N` rows of `a` by 128 and `idx` `R` row numbers. -/
abbrev rowDims (N a R : ℕ)
    (wf : GatherDims.WF ⟨3, ![N, a, 128]⟩ ⟨2, ![R, 1]⟩ ⟨3, ![R, a, 128]⟩ [1, 2] [0] [] [0] [] 1 ![1, a, 128]) :
    GatherDims ⟨3, ![N, a, 128]⟩ ⟨2, ![R, 1]⟩ ⟨3, ![R, a, 128]⟩ where
  offsetDims := [1, 2]
  collapsedSliceDims := [0]
  operandBatchingDims := []
  startIndicesBatchingDims := []
  startIndexMap := [0]
  indexVectorDim := 1
  sliceSizes := ![1, a, 128]
  wf := wf

/-- The place of the row number of result index `y`. -/
abbrev numIdx (y : (⟨3, ![R, a, 128]⟩ : Shape).Idx) : (⟨2, ![R, 1]⟩ : Shape).Idx :=
  fun b => match b with | ⟨0, _⟩ => ⟨(y 0).val, (y 0).isLt⟩ | ⟨1, _⟩ => ⟨0, Nat.one_pos⟩

/-- Result index `y` on row `v` of the table. -/
abbrev onRow (v : Fin N) (y : (⟨3, ![R, a, 128]⟩ : Shape).Idx) : (⟨3, ![N, a, 128]⟩ : Shape).Idx :=
  fun b => match b with | ⟨0, _⟩ => v | ⟨1, _⟩ => y 1 | ⟨2, _⟩ => y 2

/-- The gather at an index whose row number, read signed, names row `v`. -/
theorem gather_rows_apply (wf : GatherDims.WF ⟨3, ![N, a, 128]⟩ ⟨2, ![R, 1]⟩ ⟨3, ![R, a, 128]⟩ [1, 2] [0] [] [0] [] 1 ![1, a, 128])
    (x : (⟨3, ![N, a, 128]⟩ : Shape).Idx → α) (idx : IVec ⟨2, ![R, 1]⟩ 32) (y : (⟨3, ![R, a, 128]⟩ : Shape).Idx)
    (v : Fin N) (hv : (idx (numIdx y)).toInt.toNat = v.val) : Host.gather (rowDims N a R wf) x idx y = x (onRow v y) := by
  unfold Host.gather
  congr 1
  funext b
  refine Fin.ext ?_
  show (rowDims N a R wf).start y idx b + (rowDims N a R wf).batchCoord y b + (rowDims N a R wf).offCoord y b = _
  rw [GatherDims.batchCoord_eq_zero _ _ _ List.not_mem_nil, Nat.add_zero]
  match b with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (rowDims N a R wf).startIndexMap from List.mem_singleton.mpr rfl)]
    have hsi : (rowDims N a R wf).siIdx y ⟨List.idxOf (⟨0, by decide⟩ : Fin 3) (rowDims N a R wf).startIndexMap,
        List.idxOf_lt_length_iff.2 (List.mem_singleton.mpr rfl)⟩ = numIdx y := by
      funext b; refine Fin.ext ?_
      match b with
      | ⟨0, _⟩ => rfl
      | ⟨1, _⟩ => rfl
    rw [hsi]
    show min (idx (numIdx y)).toInt.toNat (N - 1) + 0 = v.val
    rw [hv]; omega
  | ⟨1, _⟩ =>
    unfold GatherDims.start
    rw [dif_neg (show (⟨1, by decide⟩ : Fin 3) ∉ (rowDims N a R wf).startIndexMap from by simp)]
    show 0 + (y 1).val = (y 1).val
    omega
  | ⟨2, _⟩ =>
    unfold GatherDims.start
    rw [dif_neg (show (⟨2, by decide⟩ : Fin 3) ∉ (rowDims N a R wf).startIndexMap from by simp)]
    show 0 + (y 2).val = (y 2).val
    omega
end

/-- A number that is at least zero and below `n`, both read signed, is below `n`. -/
theorem lt_of_bits (x : BitVec 32) (n : ℕ) (hn : n < 2 ^ 31)
    (h : IntOp.cmpi .sge x 0#32 &&& IntOp.cmpi .slt x (BitVec.ofNat 32 n) = 1#1) : x.toNat < n := by
  have key : ∀ a b : BitVec 1, a &&& b = 1#1 → a = 1#1 ∧ b = 1#1 := by decide
  obtain ⟨h1, h2⟩ := key _ _ h
  unfold IntOp.cmpi at h1 h2
  simp only [StableHlo.Predicate.ofBool_eq_one_iff, BitVec.sle, BitVec.slt, decide_eq_true_eq, BitVec.toInt_eq_toNat_cond, BitVec.toNat_ofNat] at h1 h2
  have := x.isLt
  split at h1 <;> split at h2 <;> simp at h1 h2 <;> omega

theorem toInt_of_lt (x : BitVec 32) (n : ℕ) (hn : n < 2 ^ 31) (h : x.toNat < n) : x.toInt.toNat = x.toNat := by
  rw [BitVec.toInt_eq_toNat_cond, if_pos (by omega)]; rfl

end Cert.RowGather

end
-- ==== Proof.Gather.lean ====
/-
# The pipelined row gather, generic in the program, the sizes and the float values

One device holds a table of `N` rows in HBM, `R = 64 T` row numbers in SMEM and an output of `R` rows in VMEM. Row `i` of
the output is fetched by a transfer of its own, out of the row of the table its number names. At most 64 transfers are in
flight: output row `64 q + k` completes on semaphore `k`, and before its transfer is started the one of row
`64 (q - 1) + k` is waited for. After the last start the 64 transfers still in flight are waited for.

The 64 COLUMNS `k` are independent of one another: column `k` holds its semaphore, a share of the table and the output rows
`64 q + k`. Here the state of the columns between any two operations is named (`St`), and each operation of the kernel —
the load of a row number, the check of it, the wait, the start — is given its rule over that state.
-/
module

public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

/-! ## What a gather names -/

abbrev Arr (n a : ℕ) : Shape := ⟨3, ![n, a, 128]⟩
abbrev Row (a : ℕ) : Shape := ⟨2, ![a, 128]⟩
abbrev Nums (n : ℕ) : Shape := ⟨1, ![n]⟩

/-- The buffers and the semaphores of one gather, of `R = 64 T` rows out of `N`, a row being `a` by 128 elements. -/
structure Gather (sig : RefSig) (N a R T : ℕ) where
  src : Memref sig .tc .hbm (Arr N a) .bf16
  idx : Memref sig .tc .smem (Nums R) .i32
  out : Memref sig .tc .vmem (Arr R a) .bf16
  setOut : out.view.set = Finset.univ
  rows : R = 64 * T
  sem : Fin 64 → DmaSem sig
  squeeze : (Arr 1 a).Squeezes (Row a)
  credit_pos : 0 < out.view.ref.dmaCredit (Row a) .bf16

variable {sig : RefSig} {N a R T : ℕ} {nD : ℕ}

theorem row_inb {n a i : ℕ} (h : i < n) : ∀ d, (![i, 0, 0] : Fin 3 → ℕ) d + (Arr 1 a).size d ≤ (Arr n a).size d := by
  intro d; fin_cases d <;> simp <;> omega

namespace Gather
variable (g : Gather sig N a R T)

/-- Row `i` of the output. -/
abbrev row (i : Fin R) : Memref sig .tc .vmem (Row a) .bf16 :=
  (g.out.slice (Rect.unit (s := Arr R a) ![i.val, 0, 0] (Arr 1 a).size (row_inb i.2)) (fun _ => rfl)).squeeze (Row a) g.squeeze
/-- Row `v` of the table. -/
abbrev srow (v : Fin N) : Memref sig .tc .hbm (Row a) .bf16 :=
  (g.src.slice (Rect.unit (s := Arr N a) ![v.val, 0, 0] (Arr 1 a).size (row_inb v.2)) (fun _ => rfl)).squeeze (Row a) g.squeeze

/-- The output row of column `k` in trip `q`. -/
def at_ (q : Fin T) (k : Fin 64) : Fin R := ⟨64 * q.val + k.val, by rw [g.rows]; omega⟩

/-- What a row's transfer credits. -/
abbrev credit : ℕ := g.out.view.ref.dmaCredit (Row a) .bf16

end Gather

variable (g : Gather sig N a R T)

theorem row_set (i : Fin R) :
    (g.row i).view.set = ((Rect.unit (s := Arr R a) ![i.val, 0, 0] (Arr 1 a).size (row_inb i.2)).set).map g.out.view.emb := by
  show View.set (View.reshape _ _ _) = _
  rw [View.set_reshape]; exact View.set_slice _ _

theorem rect_disj (i j : Fin R) (h : i ≠ j) :
    Disjoint (Rect.unit (s := Arr R a) ![i.val, 0, 0] (Arr 1 a).size (row_inb i.2)).set
      (Rect.unit (s := Arr R a) ![j.val, 0, 0] (Arr 1 a).size (row_inb j.2)).set := by
  rw [Finset.disjoint_left]
  intro x hx hy
  have h1 := (Rect.mem_set_unit.mp hx) 0
  have h2 := (Rect.mem_set_unit.mp hy) 0
  have : i.val ≠ j.val := fun e => h (Fin.ext e)
  simp at h1 h2
  omega

/-- The elements of output row `i`, as elements of the buffer. -/
def rset (i : Fin R) : Finset g.out.view.ref.ty.Idx := (g.row i).view.set

theorem rset_disj (i j : Fin R) (h : i ≠ j) : Disjoint (rset g i) (rset g j) := by
  unfold rset; rw [row_set, row_set, Finset.disjoint_map]; exact rect_disj i j h

theorem rset_cover : Finset.univ.biUnion (rset g) = Finset.univ := by
  ext x
  simp only [Finset.mem_biUnion, Finset.mem_univ, true_and, iff_true]
  have hx : x ∈ g.out.view.set := by rw [g.setOut]; exact Finset.mem_univ x
  obtain ⟨y, -, rfl⟩ := Finset.mem_map.mp hx
  have h0 : (y 0).val < R := (y 0).isLt
  refine ⟨⟨(y 0).val, h0⟩, ?_⟩
  unfold rset; rw [row_set]
  refine Finset.mem_map_of_mem _ (Rect.mem_set_unit.mpr fun d => ?_)
  fin_cases d
  · exact ⟨le_refl _, Nat.lt_succ_self _⟩
  · exact ⟨Nat.zero_le _, by simpa using (y 1).isLt⟩
  · exact ⟨Nat.zero_le _, by simpa using (y 2).isLt⟩

/-! ## The contents -/

variable {F : FTy → Type} [FloatOps F]

/-- Position `i` of the row numbers. -/
def pos (i : Fin R) : (Nums R).Idx := fun d => ⟨i.val, by fin_cases d; exact i.2⟩

/-- The data of a gather: the table, the row numbers, the output before and after. -/
structure Data where
  fs : g.src.view.ref.ty.Contents (Elt F)
  fi : g.idx.view.ref.ty.Contents (Elt F)
  num : Fin R → BitVec 32
  /-- The numbers are what the buffer holds. -/
  read : ∀ i : Fin R, g.idx.view.read (Elt F) fi (pos i) = num i
  /-- Every number names a row of the table. -/
  lt : ∀ i, (num i).toNat < N
  g₀ : g.out.view.ref.ty.Contents (Elt F)
  G : g.out.view.ref.ty.Contents (Elt F)
  /-- Row `i` of the result is the row of the table its number names. -/
  gathered : ∀ i, (g.row i).view.read (Elt F) G = (g.srow ⟨(num i).toNat, lt i⟩).view.read (Elt F) fs

variable {g}
variable {τ : Topo} {UU : Type} [URA UU]

local notation "𝕄" => MT nD τ sig Unit (Elt F) ℕ UU ℕ

variable (EC : UEmb Counters (MT nD τ sig Unit (Elt F) ℕ UU ℕ)) [EC.LandsIn (upEmb : UEmb _ (MT nD τ sig Unit (Elt F) ℕ UU ℕ))]
variable (D : Data g (F := F)) (c : Dev nD)

/-- Output row `i` at the contents `f`. -/
def pts (i : Fin R) (f : g.out.view.ref.ty.Contents (Elt F)) : sProp 𝕄 :=
  (g.row i).view.loc (c : Thread nD τ) ↦[rset g i]{fullShare} f

/-- Column `k`'s share of the table. -/
def shr (k : Fin 64) : PosShare TreeShare := dealOf fullShare Finset.univ k

/-- The table row that output row `i` is fetched from. -/
abbrev from_ (i : Fin R) : Memref sig .tc .hbm (Row a) .bf16 := g.srow ⟨(D.num i).toNat, D.lt i⟩

/-- The elements of that row, as elements of the table. -/
def sset (i : Fin R) : Finset g.src.view.ref.ty.Idx := (from_ D i).view.set

def lent (k : Fin 64) (S : Finset g.src.view.ref.ty.Idx) : sProp 𝕄 :=
  g.src.view.loc (c : Thread nD τ) ↦[S]{shr k} D.fs

/-- What a transfer leaves in output row `i` is the gathered array, on the row. -/
theorem pts_landed (i : Fin R) (f : g.out.view.ref.ty.Contents (Elt F)) :
    pts (UU := UU) (τ := τ) c i ((g.row i).view.write (Elt F) f ((from_ D i).view.read (Elt F) D.fs) Finset.univ) = pts (F := F) c i D.G := by
  rw [← D.gathered i]
  unfold pts
  refine pointsTo_congr fun x hx => ?_
  rw [View.write_read_eq_piecewise, View.setOn_univ]
  exact Finset.piecewise_eq_of_mem _ _ _ hx

/-- Row `q` of column `k` when the first `n` rows of the column have been fetched. -/
def cell (k : Fin 64) (n : ℕ) (q : Fin T) : sProp 𝕄 := pts c (g.at_ q k) (if q.val < n then D.G else D.g₀)

/-- Column `k` at rest, its first `n` rows fetched. -/
def Free (k : Fin 64) (n : ℕ) : sProp 𝕄 :=
  iprop(semVal ((c : Thread nD τ), .dma (g.sem k)) 0 ∗ lent D c k Finset.univ ∗ bigSep Finset.univ (cell D c k n))

/-- Column `k` with row `q` in flight, the rows before it fetched. -/
def Busy (k : Fin 64) (q : Fin T) : sProp 𝕄 :=
  iprop(Flight EC (c : Thread nD τ) (.dma (g.sem k)) () g.credit iprop(pts c (g.at_ q k) D.G ∗ lent D c k (sset D (g.at_ q k)))
    ∗ lent D c k (Finset.univ \ sset D (g.at_ q k)) ∗ bigSep (Finset.univ.erase q) (cell D c k q.val))

/-- Column `k` after `n` starts. -/
def Col (k : Fin 64) : ℕ → sProp 𝕄
  | 0 => Free D c k 0
  | n + 1 => if h : n < T then Busy EC D c k ⟨n, h⟩ else iprop(emp)

theorem take_out {I : Type} [DecidableEq I] {s : Finset I} {i : I} (hi : i ∈ s) (Φ : I → sProp 𝕄) :
    bigSep s Φ = iprop(Φ i ∗ bigSep (s.erase i) Φ) := BI.bigSep_erase hi

/-- The other rows of a column do not see row `q` fetched. -/
theorem rest_eq (k : Fin 64) (q : Fin T) :
    bigSep (Finset.univ.erase q) (cell (UU := UU) (τ := τ) D c k q.val) = bigSep (Finset.univ.erase q) (cell D c k (q.val + 1)) := by
  refine bigSep_congr fun x hx => ?_
  have hne : x.val ≠ q.val := fun e => (Finset.mem_erase.mp hx).1 (Fin.ext e)
  unfold cell
  by_cases h : x.val < q.val
  · rw [if_pos h, if_pos (Nat.lt_succ_of_lt h)]
  · rw [if_neg h, if_neg (by omega)]

/-- Row `q` lands: the column is at rest with one more row fetched. -/
theorem landed (k : Fin 64) (q : Fin T) :
    iprop((pts c (g.at_ q k) D.G ∗ lent D c k (sset D (g.at_ q k))) ∗ semVal ((c : Thread nD τ), .dma (g.sem k)) 0
      ∗ lent D c k (Finset.univ \ sset D (g.at_ q k)) ∗ bigSep (Finset.univ.erase q) (cell D c k q.val))
    ⊢ (Free D c k (q.val + 1) : sProp 𝕄) := by
  unfold Free
  rw [rest_eq, take_out (Finset.mem_univ q) (cell D c k (q.val + 1))]
  have h1 : (cell D c k (q.val + 1) q : sProp 𝕄) = pts c (g.at_ q k) D.G := by unfold cell; rw [if_pos (Nat.lt_succ_self _)]
  rw [h1]
  iintro ⟨⟨Hr, Hs⟩, Hv, Hc, Hb⟩
  isplitl [Hv]; · iexact Hv
  isplitl [Hs Hc]
  · unfold lent
    iapply (pointsTo_split_subset (Finset.subset_univ _)).2
    isplitl [Hs] <;> iassumption
  isplitl [Hr] <;> iassumption

/-- What column `k` gives to start row `q`. -/
theorem starting (k : Fin 64) (q : Fin T) :
    (Free D c k q.val : sProp 𝕄) ⊢ iprop((lent D c k (sset D (g.at_ q k)) ∗ pts c (g.at_ q k) D.g₀ ∗ semVal ((c : Thread nD τ), .dma (g.sem k)) 0)
      ∗ lent D c k (Finset.univ \ sset D (g.at_ q k)) ∗ bigSep (Finset.univ.erase q) (cell D c k q.val)) := by
  unfold Free
  rw [take_out (Finset.mem_univ q) (cell D c k q.val)]
  have h1 : (cell D c k q.val q : sProp 𝕄) = pts c (g.at_ q k) D.g₀ := by unfold cell; rw [if_neg (lt_irrefl _)]
  rw [h1]
  iintro ⟨Hv, Hs, Hr, Hb⟩
  unfold lent
  ihave Hs := (pointsTo_split_subset (Finset.subset_univ (sset D (g.at_ q k)))).1 $$ Hs
  icases Hs with ⟨Hs, Hc⟩
  isplitl [Hv Hs Hr]
  · isplitl [Hs]; · iexact Hs
    isplitl [Hr] <;> iassumption
  isplitl [Hc] <;> iassumption

/-! ## The state between two operations -/

/-- Column `j` in trip `t`, when the columns before `k` have had their turn, and column `k` too as far as its wait (`b`). -/
def colAt (t k : ℕ) (b : Bool) (j : Fin 64) : sProp 𝕄 :=
  if j.val < k then Col EC D c j (t + 1) else if j.val = k ∧ b = true then Free D c j t else Col EC D c j t

/-- The row numbers, and that the device owes nothing. -/
def base : sProp 𝕄 :=
  iprop((g.idx.view.loc (c : Thread nD τ) ↦[g.idx.view.set]{fullShare} D.fi) ∗ ∃ W, owes (c : Thread nD τ) 0 W)

/-- The state in trip `t`: the row numbers and the 64 columns. -/
def St (t k : ℕ) (b : Bool) : sProp 𝕄 := iprop(base D c ∗ bigSep Finset.univ (colAt EC D c t k b))

/-- The columns other than `k`. -/
def others (t : ℕ) (k : Fin 64) : sProp 𝕄 := bigSep (Finset.univ.erase k) (colAt EC D c t k.val false)

theorem St_before (t : ℕ) (k : Fin 64) :
    (St EC D c t k.val false : sProp 𝕄) = iprop(base D c ∗ Col EC D c k t ∗ others EC D c t k) := by
  unfold St others
  rw [take_out (Finset.mem_univ k)]
  have h : (colAt EC D c t k.val false k : sProp 𝕄) = Col EC D c k t := by
    unfold colAt; rw [if_neg (lt_irrefl _), if_neg (by simp)]
  rw [h]

theorem St_mid (t : ℕ) (k : Fin 64) :
    (St EC D c t k.val true : sProp 𝕄) = iprop(base D c ∗ Free D c k t ∗ others EC D c t k) := by
  unfold St others
  rw [take_out (Finset.mem_univ k)]
  have h : (colAt EC D c t k.val true k : sProp 𝕄) = Free D c k t := by
    unfold colAt; rw [if_neg (lt_irrefl _), if_pos ⟨rfl, rfl⟩]
  rw [h]
  refine congrArg (fun X => iprop(base D c ∗ _ ∗ X)) (bigSep_congr fun j hj => ?_)
  have hne : j.val ≠ k.val := fun e => (Finset.mem_erase.mp hj).1 (Fin.ext e)
  unfold colAt
  simp [hne]

theorem St_after (t : ℕ) (k : Fin 64) :
    (St EC D c t (k.val + 1) false : sProp 𝕄) = iprop(base D c ∗ Col EC D c k (t + 1) ∗ others EC D c t k) := by
  unfold St others
  rw [take_out (Finset.mem_univ k)]
  have h : (colAt EC D c t (k.val + 1) false k : sProp 𝕄) = Col EC D c k (t + 1) := by
    unfold colAt; rw [if_pos (Nat.lt_succ_self _)]
  rw [h]
  refine congrArg (fun X => iprop(base D c ∗ _ ∗ X)) (bigSep_congr fun j hj => ?_)
  have hne : j.val ≠ k.val := fun e => (Finset.mem_erase.mp hj).1 (Fin.ext e)
  unfold colAt
  by_cases h : j.val < k.val
  · rw [if_pos h, if_pos (Nat.lt_succ_of_lt h)]
  · rw [if_neg h, if_neg (by omega)]; simp

/-- A trip's end is the next trip's start. -/
theorem St_next (t : ℕ) : (St EC D c t 64 false : sProp 𝕄) = St EC D c (t + 1) 0 false := by
  unfold St
  refine congrArg (fun X => iprop(base D c ∗ X)) (bigSep_congr fun j _ => ?_)
  unfold colAt
  rw [if_pos j.isLt, if_neg (Nat.not_lt_zero _), if_neg (by simp)]

/-- In the first trip there is nothing to wait for. -/
theorem St_first (k : Fin 64) : (St EC D c 0 k.val false : sProp 𝕄) = St EC D c 0 k.val true := by
  rw [St_before, St_mid]; rfl

/-- Column `j` after the last trip, when the columns before `k` have been waited for. -/
def drainAt (k : ℕ) (j : Fin 64) : sProp 𝕄 := if j.val < k then Free D c j T else Col EC D c j T

/-- The state after the last trip. -/
def Dr (k : ℕ) : sProp 𝕄 := iprop(base D c ∗ bigSep Finset.univ (drainAt EC D c k))

theorem Dr_start : (St EC D c T 0 false : sProp 𝕄) = Dr EC D c 0 := by
  unfold St Dr
  refine congrArg (fun X => iprop(base D c ∗ X)) (bigSep_congr fun j _ => ?_)
  unfold colAt drainAt
  rw [if_neg (Nat.not_lt_zero _), if_neg (by simp), if_neg (Nat.not_lt_zero _)]

theorem Dr_before (k : Fin 64) :
    (Dr EC D c k.val : sProp 𝕄) = iprop(base D c ∗ Col EC D c k T ∗ bigSep (Finset.univ.erase k) (drainAt EC D c k.val)) := by
  unfold Dr
  rw [take_out (Finset.mem_univ k)]
  have h : (drainAt EC D c k.val k : sProp 𝕄) = Col EC D c k T := by unfold drainAt; rw [if_neg (lt_irrefl _)]
  rw [h]

theorem Dr_after (k : Fin 64) :
    (Dr EC D c (k.val + 1) : sProp 𝕄) = iprop(base D c ∗ Free D c k T ∗ bigSep (Finset.univ.erase k) (drainAt EC D c k.val)) := by
  unfold Dr
  rw [take_out (Finset.mem_univ k)]
  have h : (drainAt EC D c (k.val + 1) k : sProp 𝕄) = Free D c k T := by unfold drainAt; rw [if_pos (Nat.lt_succ_self _)]
  rw [h]
  refine congrArg (fun X => iprop(base D c ∗ _ ∗ X)) (bigSep_congr fun j hj => ?_)
  have hne : j.val ≠ k.val := fun e => (Finset.mem_erase.mp hj).1 (Fin.ext e)
  unfold drainAt
  by_cases h : j.val < k.val
  · rw [if_pos h, if_pos (Nat.lt_succ_of_lt h)]
  · rw [if_neg h, if_neg (by omega)]

/-! ## The rules -/

variable {Λ : Labels} {defs : Defs nD τ sig (Elt F) Λ} (𝒱 : Variants)
variable {α β : Type} {Q : β → sProp (MT nD τ sig Unit (Elt F) ℕ UU ℕ)}

/-- The load of a row number, in whatever state holds the row numbers: its continuation is run at the number. -/
theorem wp_num {P X : sProp 𝕄} (hP : P = iprop(base D c ∗ X)) (i : Fin R) {off : Fin 1 → ℕ} (ho : off = ![i.val])
    {inb : ∀ d, off d + (Nums 1).size d ≤ (Nums R).size d} {h1 : (Rect.unit (s := Nums R) off (Nums 1).size inb).shape.numel = 1}
    {hp : EltTy.packing .i32 = 1} {kk : Elt F .i32 → Prog (TpuEff nD τ sig (Elt F) Λ .tc) β}
    (h : P ⊢ wp frame (wpE defs 𝒱 (c : Thread nD τ) none) Set.univ (kk (D.num i)) Q) :
    P ⊢ wp frame (wpE defs 𝒱 (c : Thread nD τ) none) Set.univ
      (smemLoad g.idx (Rect.unit (s := Nums R) off (Nums 1).size inb) h1 hp >>= kk) Q := by
  subst ho
  have hr : (g.idx.access (Rect.unit (s := Nums R) ![i.val] (Nums 1).size inb)).read (Elt F) D.fi (Shape.Idx.first (h1.symm ▸ Nat.one_pos)) = D.num i := by
    rw [← D.read i]
    show g.idx.view.read (Elt F) D.fi ((Rect.unit (s := Nums R) ![i.val] (Nums 1).size inb).emb _) = _
    congr 1
    funext d
    refine Fin.ext ?_
    have hx := (Shape.Idx.first (h1.symm ▸ Nat.one_pos) : (Rect.unit (s := Nums R) ![i.val] (Nums 1).size inb).shape.Idx) d |>.isLt
    fin_cases d
    simp [pos] at hx ⊢
    omega
  rw [hP] at h ⊢
  unfold base at h ⊢
  show _ ⊢ wp frame (wpE defs 𝒱 (c : Thread nD τ) none) Set.univ
    (.op (.load g.idx (Rect.unit (s := Nums R) ![i.val] (Nums 1).size inb).toLoadRect (View.loadsAt_rect (View.loads_smem_one hp h1)))
      fun f => kk (f (Shape.Idx.first (h1.symm ▸ Nat.one_pos)))) Q
  iintro ⟨⟨Hi, HO⟩, HX⟩
  iapply (wp_load_rect 𝒱 (c : Thread nD τ) none Set.univ (m := g.idx) (r := Rect.unit (s := Nums R) ![i.val] (Nums 1).size inb) (S := g.idx.view.set) (q := fullShare) (f := D.fi)
    (View.set_slice_subset _ _)) $$ [Hi]
  · iexact Hi
  iintro Hi
  rw [hr]
  iapply h
  isplitl [Hi HO]
  · isplitl [Hi] <;> iassumption
  iexact HX

/-- The check of a row number. -/
theorem wp_check {P : sProp 𝕄} {C : Prop} {dec : Decidable C} (hc : C) {kk : PLift C → Prog (TpuEff nD τ sig (Elt F) Λ .tc) β}
    (h : P ⊢ wp frame (wpE defs 𝒱 (c : Thread nD τ) none) Set.univ (kk ⟨hc⟩) Q) :
    P ⊢ wp frame (wpE defs 𝒱 (c : Thread nD τ) none) Set.univ (Prog.lift (TpuEff.assume C dec) >>= kk) Q :=
  h.trans (wp_assume 𝒱 (c : Thread nD τ) none Set.univ hc)

/-- A returned value goes to the continuation. -/
theorem wp_pure {P : sProp 𝕄} {x : β} (h : P ⊢ Q x) :
    P ⊢ wp frame (wpE defs 𝒱 (c : Thread nD τ) none) Set.univ (pure x) Q :=
  h.trans (fupd_intro.trans (Entails.of_eq (wp_ret frame _ _ x Q).symm))

/-- A program run in front of another. -/
theorem wp_seq {P : sProp 𝕄} {p : Prog (TpuEff nD τ sig (Elt F) Λ .tc) α} {kk : α → Prog (TpuEff nD τ sig (Elt F) Λ .tc) β}
    (h : P ⊢ wp frame (wpE defs 𝒱 (c : Thread nD τ) none) Set.univ p fun x => wp frame (wpE defs 𝒱 (c : Thread nD τ) none) Set.univ (kk x) Q) :
    P ⊢ wp frame (wpE defs 𝒱 (c : Thread nD τ) none) Set.univ (p >>= kk) Q :=
  h.trans (Entails.of_eq (wp_bind frame _ _ p kk Q).symm)

/-- The wait for the row in flight on column `k`. -/
theorem wp_land (k : Fin 64) (n : ℕ) (hn : n < T) {sm : DmaSem sig} (hs : sm = g.sem k)
    {srcw : Memref sig .tc .hbm (Row a) .bf16} {off : Fin 3 → ℕ} {inb : ∀ d, off d + (Arr 1 a).size d ≤ (Arr R a).size d}
    {sq : (Arr 1 a).Squeezes (Row a)} {hsrc : srcw.view.WordExact}
    {hdst : ((g.out.slice (Rect.unit (s := Arr R a) off (Arr 1 a).size inb) (fun _ => rfl)).squeeze (Row a) sq).view.WordExact}
    {X : sProp 𝕄} {kk : PUnit → Prog (TpuEff nD τ sig (Elt F) Λ .tc) β}
    (h : iprop(base D c ∗ Free D c k (n + 1) ∗ X) ⊢ wp frame (wpE defs 𝒱 (c : Thread nD τ) none) Set.univ (kk ⟨⟩) Q) :
    iprop(base D c ∗ Col EC D c k (n + 1) ∗ X) ⊢ wp frame (wpE defs 𝒱 (c : Thread nD τ) none) Set.univ
      (Prog.lift (.waitDma2 sm srcw ((g.out.slice (Rect.unit (s := Arr R a) off (Arr 1 a).size inb) (fun _ => rfl)).squeeze (Row a) sq) hsrc hdst) >>= kk) Q := by
  subst hs
  have hC : (Col EC D c k (n + 1) : sProp 𝕄) = Busy EC D c k ⟨n, hn⟩ := dif_pos hn
  rw [hC]
  unfold Busy base
  unfold base at h
  iintro ⟨⟨Hi, %W, HO⟩, ⟨Hf, Hc, Hb⟩, HX⟩
  iapply (wp_waitLocal EC 𝒱 (c : Thread nD τ) none (sem := g.sem k) (srcw := srcw)
    (dstw := (g.out.slice (Rect.unit (s := Arr R a) off (Arr 1 a).size inb) (fun _ => rfl)).squeeze (Row a) sq) (k := kk) () (N := g.credit) rfl) $$ [Hf HO]
  · isplitl [Hf] <;> iassumption
  iintro ⟨HD, Hv, HO⟩
  iapply h
  isplitl [Hi HO]
  · isplitl [Hi]; · iexact Hi
    iexists _; iexact HO
  isplitr [HX]
  · iapply (landed D c k ⟨n, hn⟩)
    isplitl [HD]; · iexact HD
    isplitl [Hv]; · iexact Hv
    isplitl [Hc] <;> iassumption
  iexact HX

/-- The start of row `t` of column `k`. -/
theorem wp_start (t : ℕ) (ht : t < T) (k : Fin 64) {sm : DmaSem sig} (hs : sm = g.sem k) {off : Fin 3 → ℕ} (ho : off = ![64 * t + k.val, 0, 0])
    {offs : Fin 3 → ℕ} (hos : offs = ![(D.num (g.at_ ⟨t, ht⟩ k)).toNat, 0, 0])
    {inb : ∀ d, off d + (Arr 1 a).size d ≤ (Arr R a).size d} {inbs : ∀ d, offs d + (Arr 1 a).size d ≤ (Arr N a).size d}
    {sq sq' : (Arr 1 a).Squeezes (Row a)}
    {hsrc : ((g.src.slice (Rect.unit (s := Arr N a) offs (Arr 1 a).size inbs) (fun _ => rfl)).squeeze (Row a) sq').view.WordExact}
    {hdst : ((g.out.slice (Rect.unit (s := Arr R a) off (Arr 1 a).size inb) (fun _ => rfl)).squeeze (Row a) sq).view.WordExact}
    {hsem : DmaTarget.Typed (nD := nD) (τ := τ) (p := .tc) .hbm (.dma sm) (.here ((g.out.slice (Rect.unit (s := Arr R a) off (Arr 1 a).size inb) (fun _ => rfl)).squeeze (Row a) sq))}
    {kk : PUnit → Prog (TpuEff nD τ sig (Elt F) Λ .tc) β}
    (h : St EC D c t (k.val + 1) false ⊢ wp frame (wpE defs 𝒱 (c : Thread nD τ) none) Set.univ (kk ⟨⟩) Q) :
    St EC D c t k.val true ⊢ wp frame (wpE defs 𝒱 (c : Thread nD τ) none) Set.univ
      (Prog.lift (.enqueueDma ((g.src.slice (Rect.unit (s := Arr N a) offs (Arr 1 a).size inbs) (fun _ => rfl)).squeeze (Row a) sq')
        (.here ((g.out.slice (Rect.unit (s := Arr R a) off (Arr 1 a).size inb) (fun _ => rfl)).squeeze (Row a) sq)) (.dma sm) hsrc hdst hsem) >>= kk) Q := by
  subst hs ho hos
  rw [St_mid]
  rw [St_after] at h
  have hC : (Col EC D c k (t + 1) : sProp 𝕄) = Busy EC D c k ⟨t, ht⟩ := dif_pos ht
  rw [hC] at h
  iintro ⟨HB, HF, HX⟩
  ihave HF := (starting D c k ⟨t, ht⟩) $$ HF
  icases HF with ⟨⟨Hs, Hr, Hv⟩, Hc, Hb⟩
  iapply (wp_dmaLocal EC 𝒱 (c : Thread nD τ) none (sm := .dma (g.sem k)) (src := from_ D (g.at_ ⟨t, ht⟩ k)) (dst := g.row (g.at_ ⟨t, ht⟩ k)) (via := .same)
    (Sd := rset g (g.at_ ⟨t, ht⟩ k)) (fd := D.g₀) (fs := D.fs) (q := shr k) (k := kk) () g.credit rfl g.credit_pos (Finset.Subset.refl _)) $$ [Hs Hr Hv]
  · isplitl [Hs]; · unfold lent; iexact Hs
    isplitl [Hr]; · unfold pts; iexact Hr
    iexact Hv
  iintro Hf
  iapply h
  isplitl [HB]; · iexact HB
  isplitr [HX]
  · unfold Busy
    rw [← pts_landed D c (g.at_ ⟨t, ht⟩ k) D.g₀]
    isplitl [Hf]; · iexact Hf
    isplitl [Hc] <;> iassumption
  iexact HX

/-- A number that only a wait uses: which row it names does not matter, only that it names one. -/
theorem wp_num_wait (t : ℕ) (h0 : 0 < t) (ht : t < T) (k : ℕ) (hk : k < 64) {off : Fin 1 → ℕ} (ho : off = ![64 * (t - 1) + k])
    {inb : ∀ d, off d + (Nums 1).size d ≤ (Nums R).size d} {h1 : (Rect.unit (s := Nums R) off (Nums 1).size inb).shape.numel = 1}
    {hp : EltTy.packing .i32 = 1} {kk : Elt F .i32 → Prog (TpuEff nD τ sig (Elt F) Λ .tc) β}
    (h : ∀ v : BitVec 32, v.toNat < N → St EC D c t k false ⊢ wp frame (wpE defs 𝒱 (c : Thread nD τ) none) Set.univ (kk v) Q) :
    St EC D c t k false ⊢ wp frame (wpE defs 𝒱 (c : Thread nD τ) none) Set.univ
      (smemLoad g.idx (Rect.unit (s := Nums R) off (Nums 1).size inb) h1 hp >>= kk) Q :=
  wp_num D c 𝒱 rfl (g.at_ ⟨t - 1, by omega⟩ ⟨k, hk⟩) ho (h _ (D.lt _))

/-- A number loaded after the last trip. -/
theorem wp_num_drain (k : ℕ) (i : ℕ) (hi : i < R) {off : Fin 1 → ℕ} (ho : off = ![i])
    {inb : ∀ d, off d + (Nums 1).size d ≤ (Nums R).size d} {h1 : (Rect.unit (s := Nums R) off (Nums 1).size inb).shape.numel = 1}
    {hp : EltTy.packing .i32 = 1} {kk : Elt F .i32 → Prog (TpuEff nD τ sig (Elt F) Λ .tc) β}
    (h : Dr EC D c k ⊢ wp frame (wpE defs 𝒱 (c : Thread nD τ) none) Set.univ (kk (D.num ⟨i, hi⟩)) Q) :
    Dr EC D c k ⊢ wp frame (wpE defs 𝒱 (c : Thread nD τ) none) Set.univ
      (smemLoad g.idx (Rect.unit (s := Nums R) off (Nums 1).size inb) h1 hp >>= kk) Q :=
  wp_num D c 𝒱 rfl ⟨i, hi⟩ ho h

/-- The same at the end of a part, which returns the number. -/
theorem wp_num_last (k : ℕ) (i : ℕ) (hi : i < R) {off : Fin 1 → ℕ} (ho : off = ![i])
    {inb : ∀ d, off d + (Nums 1).size d ≤ (Nums R).size d} {h1 : (Rect.unit (s := Nums R) off (Nums 1).size inb).shape.numel = 1}
    {hp : EltTy.packing .i32 = 1} {Q' : Elt F .i32 → sProp 𝕄} (h : Dr EC D c k ⊢ Q' (D.num ⟨i, hi⟩)) :
    Dr EC D c k ⊢ wp frame (wpE defs 𝒱 (c : Thread nD τ) none) Set.univ
      (smemLoad g.idx (Rect.unit (s := Nums R) off (Nums 1).size inb) h1 hp) Q' :=
  (wp_num_drain EC D c (defs := defs) 𝒱 k i hi ho (inb := inb) (h1 := h1) (hp := hp) (kk := pure) (wp_pure c 𝒱 h)).trans (Entails.of_eq (by rw [bind_pure]))

/-- The number of the row that a trip starts. -/
theorem wp_num_start (t : ℕ) (ht : t < T) (k : ℕ) (hk : k < 64) {off : Fin 1 → ℕ} (ho : off = ![64 * t + k])
    {inb : ∀ d, off d + (Nums 1).size d ≤ (Nums R).size d} {h1 : (Rect.unit (s := Nums R) off (Nums 1).size inb).shape.numel = 1}
    {hp : EltTy.packing .i32 = 1} {kk : Elt F .i32 → Prog (TpuEff nD τ sig (Elt F) Λ .tc) β}
    (h : St EC D c t k true ⊢ wp frame (wpE defs 𝒱 (c : Thread nD τ) none) Set.univ (kk (D.num (g.at_ ⟨t, ht⟩ ⟨k, hk⟩))) Q) :
    St EC D c t k true ⊢ wp frame (wpE defs 𝒱 (c : Thread nD τ) none) Set.univ
      (smemLoad g.idx (Rect.unit (s := Nums R) off (Nums 1).size inb) h1 hp >>= kk) Q :=
  wp_num D c 𝒱 rfl (g.at_ ⟨t, ht⟩ ⟨k, hk⟩) ho h

/-- A part of the text, run for any continuation that its result and the state after it serve. -/
theorem wp_part {α : Type} {P R : sProp 𝕄} {x : α} {p : Prog (TpuEff nD τ sig (Elt F) Λ .tc) α} {kk : α → Prog (TpuEff nD τ sig (Elt F) Λ .tc) β}
    (hp : ∀ Q' : α → sProp 𝕄, (R ⊢ Q' x) → P ⊢ wp frame (wpE defs 𝒱 (c : Thread nD τ) none) Set.univ p Q')
    (hk : R ⊢ wp frame (wpE defs 𝒱 (c : Thread nD τ) none) Set.univ (kk x) Q) :
    P ⊢ wp frame (wpE defs 𝒱 (c : Thread nD τ) none) Set.univ (p >>= kk) Q :=
  wp_seq c 𝒱 (hp _ hk)

/-- The wait inside a trip. -/
theorem wp_wait (t : ℕ) (h0 : 0 < t) (ht : t < T) (k : ℕ) (hk : k < 64) {sm : DmaSem sig} (hs : sm = g.sem ⟨k, hk⟩)
    {srcw : Memref sig .tc .hbm (Row a) .bf16} {off : Fin 3 → ℕ} {inb : ∀ d, off d + (Arr 1 a).size d ≤ (Arr R a).size d}
    {sq : (Arr 1 a).Squeezes (Row a)} {hsrc : srcw.view.WordExact}
    {hdst : ((g.out.slice (Rect.unit (s := Arr R a) off (Arr 1 a).size inb) (fun _ => rfl)).squeeze (Row a) sq).view.WordExact}
    {kk : PUnit → Prog (TpuEff nD τ sig (Elt F) Λ .tc) β}
    (h : St EC D c t k true ⊢ wp frame (wpE defs 𝒱 (c : Thread nD τ) none) Set.univ (kk ⟨⟩) Q) :
    St EC D c t k false ⊢ wp frame (wpE defs 𝒱 (c : Thread nD τ) none) Set.univ
      (Prog.lift (.waitDma2 sm srcw ((g.out.slice (Rect.unit (s := Arr R a) off (Arr 1 a).size inb) (fun _ => rfl)).squeeze (Row a) sq) hsrc hdst) >>= kk) Q := by
  obtain ⟨n, rfl⟩ : ∃ n, t = n + 1 := ⟨t - 1, by omega⟩
  rw [St_before EC D c (n + 1) ⟨k, hk⟩]
  rw [St_mid EC D c (n + 1) ⟨k, hk⟩] at h
  exact wp_land EC D c 𝒱 ⟨k, hk⟩ n (by omega) hs h

/-- The wait after the last trip. -/
theorem wp_drain (hT : 0 < T) (k : ℕ) (hk : k < 64) {sm : DmaSem sig} (hs : sm = g.sem ⟨k, hk⟩)
    {srcw : Memref sig .tc .hbm (Row a) .bf16} {off : Fin 3 → ℕ} {inb : ∀ d, off d + (Arr 1 a).size d ≤ (Arr R a).size d}
    {sq : (Arr 1 a).Squeezes (Row a)} {hsrc : srcw.view.WordExact}
    {hdst : ((g.out.slice (Rect.unit (s := Arr R a) off (Arr 1 a).size inb) (fun _ => rfl)).squeeze (Row a) sq).view.WordExact}
    {kk : PUnit → Prog (TpuEff nD τ sig (Elt F) Λ .tc) β}
    (h : Dr EC D c (k + 1) ⊢ wp frame (wpE defs 𝒱 (c : Thread nD τ) none) Set.univ (kk ⟨⟩) Q) :
    Dr EC D c k ⊢ wp frame (wpE defs 𝒱 (c : Thread nD τ) none) Set.univ
      (Prog.lift (.waitDma2 sm srcw ((g.out.slice (Rect.unit (s := Arr R a) off (Arr 1 a).size inb) (fun _ => rfl)).squeeze (Row a) sq) hsrc hdst) >>= kk) Q := by
  obtain ⟨n, hn⟩ : ∃ n, T = n + 1 := ⟨T - 1, by omega⟩
  have key := wp_land EC D c (defs := defs) 𝒱 ⟨k, hk⟩ n (by omega) hs (X := bigSep (Finset.univ.erase ⟨k, hk⟩) (drainAt EC D c k)) (srcw := srcw) (inb := inb) (hsrc := hsrc) (hdst := hdst) (kk := kk) (Q := Q)
  rw [← hn] at key
  rw [Dr_before EC D c ⟨k, hk⟩]
  rw [Dr_after EC D c ⟨k, hk⟩] at h
  exact key h

/-- The start inside a trip. -/
theorem wp_issue (t : ℕ) (ht : t < T) (k : ℕ) (hk : k < 64) {sm : DmaSem sig} (hs : sm = g.sem ⟨k, hk⟩) {off : Fin 3 → ℕ} (ho : off = ![64 * t + k, 0, 0])
    {offs : Fin 3 → ℕ} (hos : offs = ![(D.num (g.at_ ⟨t, ht⟩ ⟨k, hk⟩)).toNat, 0, 0])
    {inb : ∀ d, off d + (Arr 1 a).size d ≤ (Arr R a).size d} {inbs : ∀ d, offs d + (Arr 1 a).size d ≤ (Arr N a).size d}
    {sq sq' : (Arr 1 a).Squeezes (Row a)}
    {hsrc : ((g.src.slice (Rect.unit (s := Arr N a) offs (Arr 1 a).size inbs) (fun _ => rfl)).squeeze (Row a) sq').view.WordExact}
    {hdst : ((g.out.slice (Rect.unit (s := Arr R a) off (Arr 1 a).size inb) (fun _ => rfl)).squeeze (Row a) sq).view.WordExact}
    {hsem : DmaTarget.Typed (nD := nD) (τ := τ) (p := .tc) .hbm (.dma sm) (.here ((g.out.slice (Rect.unit (s := Arr R a) off (Arr 1 a).size inb) (fun _ => rfl)).squeeze (Row a) sq))}
    {kk : PUnit → Prog (TpuEff nD τ sig (Elt F) Λ .tc) β}
    (h : St EC D c t (k + 1) false ⊢ wp frame (wpE defs 𝒱 (c : Thread nD τ) none) Set.univ (kk ⟨⟩) Q) :
    St EC D c t k true ⊢ wp frame (wpE defs 𝒱 (c : Thread nD τ) none) Set.univ
      (Prog.lift (.enqueueDma ((g.src.slice (Rect.unit (s := Arr N a) offs (Arr 1 a).size inbs) (fun _ => rfl)).squeeze (Row a) sq')
        (.here ((g.out.slice (Rect.unit (s := Arr R a) off (Arr 1 a).size inb) (fun _ => rfl)).squeeze (Row a) sq)) (.dma sm) hsrc hdst hsem) >>= kk) Q :=
  wp_start EC D c 𝒱 t ht ⟨k, hk⟩ hs ho hos h

/-- What is done in every trip but the first: the text goes on with `X` either way. -/
theorem wp_when (t : ℕ) (k : ℕ) (hk : k < 64) {cnd : Prop} {dc : Decidable cnd} {A : cnd → Prog (TpuEff nD τ sig (Elt F) Λ .tc) β}
    {B : ¬ cnd → Prog (TpuEff nD τ sig (Elt F) Λ .tc) β} (hc : cnd ↔ 0 < t) {X : Prog (TpuEff nD τ sig (Elt F) Λ .tc) β} (hB : ∀ h, B h = X)
    (hA : ∀ h : cnd, 0 < t → (St EC D c t k true ⊢ wp frame (wpE defs 𝒱 (c : Thread nD τ) none) Set.univ X Q) →
      St EC D c t k false ⊢ wp frame (wpE defs 𝒱 (c : Thread nD τ) none) Set.univ (A h) Q)
    (hX : St EC D c t k true ⊢ wp frame (wpE defs 𝒱 (c : Thread nD τ) none) Set.univ X Q) :
    St EC D c t k false ⊢ wp frame (wpE defs 𝒱 (c : Thread nD τ) none) Set.univ (@dite _ cnd dc A B) Q := by
  by_cases hh : cnd
  · rw [dif_pos hh]
    exact hA hh (hc.mp hh) hX
  · rw [dif_neg hh, hB]
    obtain rfl : t = 0 := by have := mt hc.mpr hh; omega
    rw [St_first EC D c ⟨k, hk⟩]; exact hX

/-- The loop: each trip starts a batch of 64 rows. -/
theorem wp_trips {lb ub st : BitVec 32} (hok : Scf.OK lb ub st) (hn : Scf.trips lb ub st = T)
    {body : Fin (Scf.trips lb ub st) → Unit → Prog (TpuEff nD τ sig (Elt F) Λ .tc) Unit}
    (hb : ∀ t : Fin (Scf.trips lb ub st), St EC D c t.val 0 false ⊢ wp frame (wpE defs 𝒱 (c : Thread nD τ) none) Set.univ (body t ()) fun _ => St EC D c t.val 64 false)
    {kk : Unit → Prog (TpuEff nD τ sig (Elt F) Λ .tc) β}
    (h : Dr EC D c 0 ⊢ wp frame (wpE defs 𝒱 (c : Thread nD τ) none) Set.univ (kk ()) Q) :
    St EC D c 0 0 false ⊢ wp frame (wpE defs 𝒱 (c : Thread nD τ) none) Set.univ (Scf.for lb ub st hok () body >>= kk) Q := by
  iintro H
  iapply (Scf.wp_for_bind frame (wpE defs 𝒱 (c : Thread nD τ) none) Set.univ lb ub st hok () body (fun n _ => St EC D c n 0 false)
    (fun t u => by rw [← St_next]; exact hb t)) $$ H
  iintro %u H
  iapply h
  rw [hn, ← Dr_start]
  iexact H

/-! ## The ends -/

/-- A family of triples is three families. -/
theorem sep_apart (X Y Z : Fin 64 → sProp 𝕄) : bigSep Finset.univ (fun k => iprop(X k ∗ Y k ∗ Z k))
    = iprop(bigSep Finset.univ X ∗ bigSep Finset.univ Y ∗ bigSep Finset.univ Z) :=
  (BI.bigSep_sep _ X fun k => iprop(Y k ∗ Z k)).trans (congrArg (fun W => iprop(bigSep Finset.univ X ∗ W)) (BI.bigSep_sep _ Y Z))

/-- The rows of one column. -/
def column (k : Fin 64) : Fin T ↪ Fin R :=
  ⟨fun q => g.at_ q k, fun q q' h => Fin.ext (by have := congrArg Fin.val h; simp [Gather.at_] at this; omega)⟩

/-- The output whole is its rows, column by column. -/
theorem out_cells (f : g.out.view.ref.ty.Contents (Elt F)) :
    ((g.out.view.loc (c : Thread nD τ)) ↦{fullShare} f : sProp 𝕄)
      = bigSep Finset.univ fun k : Fin 64 => bigSep Finset.univ fun q : Fin T => pts c (g.at_ q k) f := by
  rw [Idealize.ShloMosaic.Ring.pointsTo_blocks (ℓ := g.out.view.loc (c : Thread nD τ)) (rset g) (rset_disj g) (rset_cover g) f]
  have hu : (Finset.univ : Finset (Fin R)) = Finset.univ.biUnion fun k : Fin 64 => Finset.univ.map (column (g := g) k) := by
    ext i
    have hi : i.val / 64 < T := by have := i.isLt; have := g.rows; omega
    simp only [Finset.mem_univ, Finset.mem_biUnion, true_and, true_iff]
    refine ⟨⟨i.val % 64, Nat.mod_lt _ (by decide)⟩, Finset.mem_map.mpr ⟨⟨i.val / 64, hi⟩, Finset.mem_univ _, Fin.ext ?_⟩⟩
    show 64 * (i.val / 64) + i.val % 64 = i.val
    omega
  rw [hu, Idealize.SL.BI.bigSep_biUnion_eq]
  · exact bigSep_congr fun k _ => bigSep_map (column (g := g) k)
  · intro k _ k' _ hk
    rw [Finset.disjoint_left]
    intro x hx hx'
    obtain ⟨q, -, rfl⟩ := Finset.mem_map.mp hx
    obtain ⟨q', -, h⟩ := Finset.mem_map.mp hx'
    refine hk (Fin.ext ?_)
    have := congrArg Fin.val h
    simp [column, Gather.at_] at this
    omega

/-- The table whole is the columns' shares of it. -/
theorem src_shares : ((g.src.view.loc (c : Thread nD τ)) ↦{fullShare} D.fs : sProp 𝕄) = bigSep Finset.univ fun k : Fin 64 => lent D c k Finset.univ :=
  pointsTo_deal Finset.univ ⟨0, Finset.mem_univ _⟩ fullShare

theorem start_intro (W : Waits sig Unit) :
    iprop((g.idx.view.loc (c : Thread nD τ) ↦[g.idx.view.set]{fullShare} D.fi) ∗ owes (c : Thread nD τ) 0 W
      ∗ ((g.src.view.loc (c : Thread nD τ)) ↦{fullShare} D.fs) ∗ ((g.out.view.loc (c : Thread nD τ)) ↦{fullShare} D.g₀)
      ∗ bigSep Finset.univ fun k : Fin 64 => semVal ((c : Thread nD τ), .dma (g.sem k)) 0)
    ⊢ (St EC D c 0 0 false : sProp 𝕄) := by
  have h : bigSep Finset.univ (colAt (UU := UU) (τ := τ) EC D c 0 0 false)
      = bigSep Finset.univ fun k : Fin 64 => iprop(semVal ((c : Thread nD τ), .dma (g.sem k)) 0 ∗ lent D c k Finset.univ
          ∗ bigSep Finset.univ fun q : Fin T => pts c (g.at_ q k) D.g₀) := by
    refine bigSep_congr fun j _ => ?_
    unfold colAt
    rw [if_neg (Nat.not_lt_zero _), if_neg (by simp)]
    show iprop(_ ∗ _ ∗ bigSep _ _) = iprop(_ ∗ _ ∗ bigSep _ _)
    refine congrArg (fun X => iprop(_ ∗ _ ∗ X)) (bigSep_congr fun q _ => ?_)
    unfold cell; rw [if_neg (Nat.not_lt_zero _)]
  unfold St base
  rw [h, sep_apart, src_shares, out_cells]
  iintro ⟨Hi, HO, Hs, Ho, Hv⟩
  isplitl [Hi HO]
  · isplitl [Hi]; · iexact Hi
    iexists W; iexact HO
  isplitl [Hv]; · iexact Hv
  isplitl [Hs] <;> iassumption

theorem end_elim :
    (Dr EC D c 64 : sProp 𝕄) ⊢
    iprop((g.idx.view.loc (c : Thread nD τ) ↦[g.idx.view.set]{fullShare} D.fi) ∗ (∃ W, owes (c : Thread nD τ) 0 W)
      ∗ ((g.src.view.loc (c : Thread nD τ)) ↦{fullShare} D.fs) ∗ ((g.out.view.loc (c : Thread nD τ)) ↦{fullShare} D.G)
      ∗ bigSep Finset.univ fun k : Fin 64 => semVal ((c : Thread nD τ), .dma (g.sem k)) 0) := by
  have h : bigSep Finset.univ (drainAt (UU := UU) (τ := τ) EC D c 64)
      = bigSep Finset.univ fun k : Fin 64 => iprop(semVal ((c : Thread nD τ), .dma (g.sem k)) 0 ∗ lent D c k Finset.univ
          ∗ bigSep Finset.univ fun q : Fin T => pts c (g.at_ q k) D.G) := by
    refine bigSep_congr fun j _ => ?_
    unfold drainAt
    rw [if_pos j.isLt]
    show iprop(_ ∗ _ ∗ bigSep _ _) = iprop(_ ∗ _ ∗ bigSep _ _)
    refine congrArg (fun X => iprop(_ ∗ _ ∗ X)) (bigSep_congr fun q _ => ?_)
    unfold cell; rw [if_pos q.isLt]
  unfold Dr base
  rw [h, sep_apart, src_shares, out_cells]
  iintro ⟨⟨Hi, HO⟩, Hv, Hs, Ho⟩
  isplitl [Hi]; · iexact Hi
  isplitl [HO]; · iexact HO
  isplitl [Hs]; · iexact Hs
  isplitl [Ho] <;> iassumption

attribute [irreducible] St Dr

end Cert.RowGather
-- ==== Proof.PicksIdealTrip.lean ====
/-
# The picks' gather, a trip at a time

`Gather.lean` names the state between any two operations of a row gather and gives one rule for each operation. Here the
rules are put to the text of one trip of the gather of the picks, which starts 64 rows after waiting for the 64 rows of the
trip before.
-/
module

public import proofs.«01_k».proof.Proof.Gather
public import proofs.«01_k».proof.Proof.Gen.PicksIdeal
public import proofs.«01_k».proof.Proof.Gen.PicksIdeal.Skeleton
public import proofs.«01_k».proof.Proof.Gen.PicksIdeal.Launch

@[expose] public section

noncomputable section

namespace Cert.PicksIdealProof

open Cert.PicksIdeal Cert.PicksIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

abbrev UU : Type := UR sig nD τ × Counters

local notation "𝕄" => MT nD τ sig Unit (Elt F) ℕ UU ℕ

abbrev EC : UEmb Counters (MT nD τ sig Unit (Elt F) ℕ UU ℕ) := (UEmb.inr : UEmb Counters UU).trans uEmb

abbrev 𝒱₀ : Variants := Variants.none

theorem sem_inb (k : Fin 64) : ∀ a, (![k.val] : Fin 1 → ℕ) a + S1.size a ≤ S64.size a := by
  intro a; fin_cases a; simp; omega

set_option maxRecDepth 4000 in
/-- The buffers and the semaphores of the gather of the picks. -/
def gt : Gather sig 16384 4 1664 26 where
  src := Memref.whole main_arg0
  idx := Memref.whole cc0_stg0_0
  out := Memref.whole cc0_stg1_0
  setOut := View.set_whole _
  rows := rfl
  sem := fun k => ((cc0_scratch0.slice (Rect.unit (s := S64) ![k.val] S1.size (sem_inb k))).squeeze S_ squeezes_S1_S_).sem
  squeeze := squeezes_S1x4x128_S4x128
  credit_pos := by decide

theorem cond_iff (t : Fin k0_t1_loop.trips) : k0_cond1 t = 1#1 ↔ 0 < t.val := by
  revert t; decide +kernel

theorem off_eq (t : Fin k0_t1_loop.trips) (k : ℕ) (hk : k < 64) :
    (Scalar.addi (Scalar.muli (Scf.iv 0#32 1#32 t) 64#32) (BitVec.ofNat 32 k)).toNat = 64 * t.val + k := by
  have h : ∀ (t : Fin k0_t1_loop.trips) (k : Fin 64),
      (Scalar.addi (Scalar.muli (Scf.iv 0#32 1#32 t) 64#32) (BitVec.ofNat 32 k.val)).toNat = 64 * t.val + k.val := by decide +kernel
  exact h t ⟨k, hk⟩

theorem off_prev (t : Fin k0_t1_loop.trips) (h0 : 0 < t.val) (k : ℕ) (hk : k < 64) :
    (Scalar.subi (Scalar.addi (Scalar.muli (Scf.iv 0#32 1#32 t) 64#32) (BitVec.ofNat 32 k)) 64#32).toNat = 64 * (t.val - 1) + k := by
  have h : ∀ (t : Fin k0_t1_loop.trips) (k : Fin 64), 0 < t.val →
      (Scalar.subi (Scalar.addi (Scalar.muli (Scf.iv 0#32 1#32 t) 64#32) (BitVec.ofNat 32 k.val)) 64#32).toNat = 64 * (t.val - 1) + k.val := by decide +kernel
  exact h t ⟨k, hk⟩ h0

/-- An offset of the row numbers, and of the rows. -/
theorem at1 {x : BitVec 32} {n : ℕ} (h : x.toNat = n) : (![(Scalar.indexCast x).toNat] : Fin 1 → ℕ) = ![n] := congrArg (fun n => ![n]) h
theorem at3 {x : BitVec 32} {n : ℕ} (h : x.toNat = n) : (![x.toNat, 0, 0] : Fin 3 → ℕ) = ![n, 0, 0] := congrArg (fun n => ![n, 0, 0]) h

/-- A row number below the height of the table passes the checks of a transfer. -/
theorem chk_of (v : BitVec 32) (hv : v.toNat < 16384) : k0_chk2 v :=
  ⟨by intro a; show (![v.toNat, 0, 0] : Fin 3 → ℕ) a + _ ≤ _; fin_cases a <;> simp <;> omega,
   fun hinb => .inr ⟨by decide, rfl, rfl, rfl⟩⟩

variable (D : Data gt (F := F)) (c : Dev nD)

set_option maxRecDepth 8000 in
set_option maxHeartbeats 8000000 in
/-- One trip: the state goes from before its first column to after its last. -/
theorem trip (t : Fin k0_t1_loop.trips) :
    St EC D c t.val 0 false ⊢ wp frame (wpE (defs₀ (F := F)) 𝒱₀ (c : Thread nD τ) none) Set.univ
      (k0_t1_body gt.src (Memref.isWhole_whole _) gt.idx (Memref.isWhole_whole _) gt.out (Memref.isWhole_whole _) cc0_scratch0 t ()) fun _ => St EC D c t.val 64 false := by
  show _ ⊢ wp _ _ _ (k0_part27 _ _ _ _ _ _ _ _ _ _ >>= _) _
  apply wp_part c 𝒱₀
  · intro Q hQ
    rw [k0_part27_eq_skeleton]; unfold k0_part27_skel
    apply wp_part c 𝒱₀
    · intro Q' hQ'
      iterate 2
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
      exact wp_pure c 𝒱₀ hQ'
    iterate 5
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    refine wp_issue EC D c 𝒱₀ t.val t.isLt _ (by decide) rfl (at3 (off_eq t _ (by decide))) rfl ?_
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    exact wp_pure c 𝒱₀ hQ
  refine wp_issue EC D c 𝒱₀ t.val t.isLt _ (by decide) rfl (at3 (off_eq t _ (by decide))) rfl ?_
  exact wp_pure c 𝒱₀ .rfl

end Cert.PicksIdealProof

end
-- ==== Proof.PicksIdealRun.lean ====
/-
# The run of the gather of the picks

The gather is a call of one device: its table stays in HBM, its row numbers are staged into SMEM and its output is staged
out of VMEM. Here: the body at the contents a memory gives it, and the run of the call from any memory whose row numbers
all name rows of the table. The call ends with the rows named, and with its arguments and semaphores as they were.
-/
module

public import proofs.«01_k».proof.Proof.PicksIdealTrip
public import proofs.«01_k».proof.Proof.Gen.PicksIdeal.Points
public import Idealize.ShloMosaic.Lib.Pipeline.Routed
public import Idealize.ShloMosaic.Lib.Pipeline.ValueKit.Geometry

@[expose] public section

noncomputable section

namespace Cert.PicksIdealProof

open Cert.PicksIdeal Cert.PicksIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ UU ℕ

section
variable (D : Data gt (F := F)) (c : Dev nD)

set_option maxRecDepth 8000 in
set_option maxHeartbeats 8000000 in
/-- The body: the trips, then the 64 waits for the rows of the last trip. -/
theorem body (Kt : PUnit → sProp 𝕄) (h : Dr EC D c 64 ⊢ Kt ⟨⟩) :
    St EC D c 0 0 false ⊢ wp frame (wpE (defs₀ (F := F)) 𝒱₀ (c : Thread nD τ) none) Set.univ
      (cc0_body gt.src (Memref.isWhole_whole _) gt.idx (Memref.isWhole_whole _) gt.out (Memref.isWhole_whole _) cc0_scratch0) Kt := by
  rw [cc0_body_eq_skeleton]; unfold cc0_body_skel
  apply wp_part c 𝒱₀
  · intro Q' hQ'
    rw [k0_part28_eq_skeleton]; unfold k0_part28_skel
    refine wp_trips EC D c 𝒱₀ k0_t1_ok (by decide) (fun t => trip D c t) ?_
    iterate 3
      refine wp_num_drain EC D c 𝒱₀ _ _ (by decide) rfl ?_
      refine wp_check c 𝒱₀ (chk_of _ (D.lt _)) ?_
      refine wp_drain EC D c 𝒱₀ (by decide) _ (by decide) rfl ?_
    refine wp_num_drain EC D c 𝒱₀ _ _ (by decide) rfl ?_
    refine wp_check c 𝒱₀ (chk_of _ (D.lt _)) ?_
    exact wp_pure c 𝒱₀ hQ'
  iterate 4
    apply wp_part c 𝒱₀
    · intro Q' hQ'
      refine wp_drain EC D c 𝒱₀ (by decide) _ (by decide) rfl ?_
      iterate 3
        refine wp_num_drain EC D c 𝒱₀ _ _ (by decide) rfl ?_
        refine wp_check c 𝒱₀ (chk_of _ (D.lt _)) ?_
        refine wp_drain EC D c 𝒱₀ (by decide) _ (by decide) rfl ?_
      exact wp_num_last EC D c 𝒱₀ _ _ (by decide) rfl hQ'
    apply wp_part c 𝒱₀
    · intro Q' hQ'
      refine wp_check c 𝒱₀ (chk_of _ (D.lt _)) ?_
      refine wp_drain EC D c 𝒱₀ (by decide) _ (by decide) rfl ?_
      iterate 2
        refine wp_num_drain EC D c 𝒱₀ _ _ (by decide) rfl ?_
        refine wp_check c 𝒱₀ (chk_of _ (D.lt _)) ?_
        refine wp_drain EC D c 𝒱₀ (by decide) _ (by decide) rfl ?_
      refine wp_num_drain EC D c 𝒱₀ _ _ (by decide) rfl ?_
      refine wp_check c 𝒱₀ (chk_of _ (D.lt _)) ?_
      exact wp_pure c 𝒱₀ hQ'
    iterate 2
      apply wp_part c 𝒱₀
      · intro Q' hQ'
        refine wp_drain EC D c 𝒱₀ (by decide) _ (by decide) rfl ?_
        iterate 3
          refine wp_num_drain EC D c 𝒱₀ _ _ (by decide) rfl ?_
          refine wp_check c 𝒱₀ (chk_of _ (D.lt _)) ?_
          refine wp_drain EC D c 𝒱₀ (by decide) _ (by decide) rfl ?_
        refine wp_num_drain EC D c 𝒱₀ _ _ (by decide) rfl ?_
        refine wp_check c 𝒱₀ (chk_of _ (D.lt _)) ?_
        exact wp_pure c 𝒱₀ hQ'
  refine wp_drain EC D c 𝒱₀ (by decide) _ (by decide) rfl ?_
  exact wp_pure c 𝒱₀ h
end

variable (m : (ℓ : Loc nD τ sig) → Buf (Elt F) ℓ) (ρ : Dev nD → PrngReg)

/-! ## The contents -/

/-- The row number at position `i`. -/
def num (c : Dev nD) (i : Fin 1664) : BitVec 32 := m ((c : Thread nD τ).loc main_arg1) (pos i)

/-- The row numbers as they are staged. -/
def nstg (c : Dev nD) : (cc0_stg0_0 : Ref sig .tc).ty.Contents (Elt F) :=
  (win0_0.blk (0 : Fin 1)).view.read (Elt F) (m ((c : Thread nD τ).loc main_arg1))

theorem nstg_pos (c : Dev nD) (i : Fin 1664) : nstg m c (pos i) = num m c i := by
  refine congrArg (m ((c : Thread nD τ).loc main_arg1)) ?_
  funext a; apply Fin.ext
  fin_cases a
  show 0 * 1664 + 1 * i.val = i.val
  omega

variable (hlt : ∀ (c : Dev nD) (i : Fin 1664), (num m c i).toNat < 16384)

/-- The row of the output that holds an index. -/
abbrev top (x : S1664x4x128.Idx) : Fin 1664 := x 0

/-- The rows named. -/
def rowsOf (c : Dev nD) : (cc0_stg1_0 : Ref sig .tc).ty.Contents (Elt F) := fun x : S1664x4x128.Idx =>
  m ((c : Thread nD τ).loc main_arg0) (fun | ⟨0, _⟩ => ⟨(num m c (top x)).toNat, hlt c (top x)⟩ | ⟨1, _⟩ => x 1 | ⟨2, _⟩ => x 2 : S16384x4x128.Idx)

theorem rowsOf_row (c : Dev nD) (i : Fin 1664) :
    (gt.row i).view.read (Elt F) (rowsOf m hlt c) = (gt.srow ⟨(num m c i).toNat, hlt c i⟩).view.read (Elt F) (m ((c : Thread nD τ).loc main_arg0)) := by
  funext y
  have h0 : ((Shape.reshapeEquiv (Shape.Squeezes.numel_eq squeezes_S1x4x128_S4x128) y : S1x4x128.Idx) 0).val < 1 := Fin.isLt _
  have hi : top ((gt.row i).view.emb y) = i := by
    apply Fin.ext
    show i.val + 1 * ((Shape.reshapeEquiv _ y : S1x4x128.Idx) 0).val = i.val
    omega
  show m ((c : Thread nD τ).loc main_arg0) _ = m ((c : Thread nD τ).loc main_arg0) _
  refine congrArg (m ((c : Thread nD τ).loc main_arg0)) ?_
  funext a; apply Fin.ext
  fin_cases a
  · show (num m c (top ((gt.row i).view.emb y))).toNat = (num m c i).toNat + 1 * ((Shape.reshapeEquiv _ y : S1x4x128.Idx) 0).val
    rw [hi]; omega
  · rfl
  · rfl

/-- The data of the gather, the output holding `g₀` before it. -/
def data (c : Dev nD) (g₀ : (cc0_stg1_0 : Ref sig .tc).ty.Contents (Elt F)) : Data gt (F := F) where
  fs := m ((c : Thread nD τ).loc main_arg0)
  fi := nstg m c
  num := num m c
  read := nstg_pos m c
  lt := hlt c
  g₀ := g₀
  G := rowsOf m hlt c
  gathered := rowsOf_row m hlt c

/-! ## The body -/

abbrev osem : Fin 64 → SemLoc sig := fun k => .dma (gt.sem k)

abbrev V (c : Dev nD) (b : Ref sig .tc) : Buf (Elt F) ((c : Thread nD τ).loc b) := m ((c : Thread nD τ).loc b)

def dats (_ : Fin 1) (c : Dev nD) : Dat τ (Elt F) Unit ℕ UU ℕ cfg0 c where
  A w := m ((cfg0.win w).arr.view.loc (c : Thread nD τ))
  after w _ := match w with
    | ⟨0, _⟩ => nstg m c
    | ⟨1, _⟩ => rowsOf m hlt c
  Φ _ := Pipeline.Ends cfg0.spec osem {main_arg0} c (V m c)
  q _ := fullShare
  owed _ := 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem nums_eq (c : Dev nD) (f : (cc0_stg0_0 : Ref sig .tc).ty.Contents (Elt F)) :
    ((gt.idx.view.loc (c : Thread nD τ)) ↦[gt.idx.view.set]{fullShare} f : sProp 𝕄) = (((c : Thread nD τ).loc cc0_stg0_0) ↦{fullShare} f) := by
  rw [show gt.idx.view.set = Finset.univ from View.set_whole _]; rfl

/-- What the body holds of the call's buffers and semaphores, the output being `g`. -/
def held (c : Dev nD) (o : sProp 𝕄) (g : (cc0_stg1_0 : Ref sig .tc).ty.Contents (Elt F)) : sProp 𝕄 :=
  iprop((((c : Thread nD τ).loc cc0_stg0_0) ↦{fullShare} nstg m c) ∗ o
    ∗ (((c : Thread nD τ).loc main_arg0) ↦{fullShare} m ((c : Thread nD τ).loc main_arg0))
    ∗ (((c : Thread nD τ).loc cc0_stg1_0) ↦{fullShare} g) ∗ Pipeline.ownSems0 osem c)

theorem held_in (c : Dev nD) (W : Waits sig Unit) (g : (cc0_stg1_0 : Ref sig .tc).ty.Contents (Elt F)) :
    held m c (owes (c : Thread nD τ) 0 W) g ⊢ St EC (data m hlt c g) c 0 0 false :=
  (sep_mono_l (Entails.of_eq (nums_eq c (nstg m c)).symm)).trans (start_intro EC (data m hlt c g) c W)

theorem held_out (c : Dev nD) (g : (cc0_stg1_0 : Ref sig .tc).ty.Contents (Elt F)) :
    Dr EC (data m hlt c g) c 64 ⊢ held m c iprop(∃ W, owes (c : Thread nD τ) 0 W) (rowsOf m hlt c) :=
  (end_elim EC (data m hlt c g) c).trans (sep_mono_l (Entails.of_eq (nums_eq c (nstg m c))))

def bodyPre (c : Dev nD) : sProp 𝕄 :=
  iprop(Pipeline.Ends cfg0.spec osem {main_arg0} c (V m c) ∗ (dats m hlt 0 c).owesAt () t₀.castSucc
    ∗ (∃ d, stg c cc0_stg0_0 ((dats m hlt 0 c).before (0 : Fin 2) t₀ d))
    ∗ (∃ d, stg c cc0_stg1_0 ((dats m hlt 0 c).before (1 : Fin 2) t₀ d)))

def bodyPost (c : Dev nD) : sProp 𝕄 :=
  iprop(Pipeline.Ends cfg0.spec osem {main_arg0} c (V m c) ∗ (dats m hlt 0 c).owesAt () t₀.succ
    ∗ stg c cc0_stg0_0 (nstg m c) ∗ stg c cc0_stg1_0 (rowsOf m hlt c))

set_option maxRecDepth 4000 in
theorem sound_body (c : Dev nD) :
    bodyPre m hlt c ⊢ wp frame (wpE (defs₀ (F := F)) 𝒱₀ (c : Thread nD τ) none) Set.univ
      (cc0_body gt.src (Memref.isWhole_whole _) gt.idx (Memref.isWhole_whole _) gt.out (Memref.isWhole_whole _) cc0_scratch0) (fun _ => bodyPost m hlt c) := by
  unfold bodyPre Pipeline.Ends
  rw [Pipeline.routed_singleton, scopedRest0_eq]
  iintro ⟨⟨Hs, Hv, -, Hp⟩, Ho, ⟨%d0, %f0, %hf0, Hi⟩, ⟨%d1, %f1, -, Ht⟩⟩
  have h0 : f0 = nstg m c := by rw [hf0]; unfold Dat.before; rw [if_pos (fetch0_0 t₀)]; rfl
  subst h0
  unfold Dat.owesAt Pipeline.owesWithin
  icases Ho with ⟨%W, -, HO⟩
  ihave H := (held_in m hlt c W f1) $$ [Hs Hv HO Hi Ht]
  · unfold held
    isplitl [Hi]; · iexact Hi
    isplitl [HO]; · iexact HO
    isplitl [Hs]; · iexact Hs
    isplitl [Ht]; · iexact Ht
    iexact Hv
  iapply (wp_wand_r frame (wpE (defs₀ (F := F)) 𝒱₀ (c : Thread nD τ) none) Set.univ (Q := fun _ => Dr EC (data m hlt c f1) c 64))
  isplitl [H]
  · iapply (body (data m hlt c f1) c (fun _ => Dr EC (data m hlt c f1) c 64) .rfl)
    iexact H
  iintro %_ H
  ihave H := (held_out m hlt c f1) $$ H
  unfold held
  icases H with ⟨Hi, ⟨%W', HO⟩, Hs, Ht, Hv⟩
  unfold bodyPost Pipeline.Ends Dat.owesAt Pipeline.owesWithin
  rw [Pipeline.routed_singleton, scopedRest0_eq]
  isplitl [Hs Hv Hp]
  · isplitl [Hs]; · iexact Hs
    isplitl [Hv]; · iexact Hv
    isplitr; · iempintro
    iexact Hp
  isplitl [HO]
  · iexists W'
    isplitr; · ipureintro; exact fun _ _ => Or.inl trivial
    iexact HO
  isplitl [Hi]
  · iexists _; isplitr; · (ipureintro; rfl)
    iexact Hi
  iexists _; isplitr; · (ipureintro; rfl)
  iexact Ht

set_option maxRecDepth 4000 in
theorem body_obligation (c : Dev nD) : BodyObligation (dats (F := F) m hlt 0 c) (defs₀ (F := F)) 𝒱₀ () Set.univ := fun t => by
  rw [fin_N t]
  rw [bigSep_W, bigSep_W]
  simp only [owns_whole_eq]
  exact sound_body m hlt c

/-! ## The launch -/

theorem ownSemFacts : Pipeline.OwnSemFacts cfg0.spec osem := by decide
theorem share_eq (c : Dev nD) (w : Fin cfg0.W) : (dats m hlt 0 c).share w = fullShare := by unfold Dat.share; split <;> rfl

/-- The arguments as they were, the rows named in the result, and every semaphore at zero. -/
def Post (r : PUnit × MemSt nD τ sig (Elt F)) : Prop :=
  (∀ c : Dev nD, r.2.mem ((c : Thread nD τ).loc main_v0) = rowsOf m hlt c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem final_out (c : Dev nD) : (dats m hlt 0 c).arrAt (1 : Fin 2) cfg0.N = rowsOf m hlt c := by
  refine (dats m hlt 0 c).arrAt_eq_of_after_last (1 : Fin 2) t₀ (by decide +kernel) _ fun j => ?_
  exact congrArg (rowsOf m hlt c) (funext fun a => Fin.ext rfl)

set_option maxRecDepth 8000 in
/-- The run of the call, from any memory whose row numbers name rows. -/
theorem run_main : θ_run defs (onTc (τ := τ) (main (F := F))) ⟨m, fun _ => 0, ρ⟩ (Post m hlt) :=
  Pipeline.θ_run_frame_routed cfgs (dats m hlt) 0 launch0 ownSemFacts defs₀ 𝒱₀ m ρ main
    (hbody := fun c => (body_obligation m hlt c).loose) (hshare := share_eq m hlt) (howed := fun _ _ => rfl)
    (V := V m) (hmain := Pipeline.hmain_region cfgs 0 defs₀ 𝒱₀ m main fun c => (main_chain c).trans rfl)
    (hA := fun _ _ => rfl) (R := {main_arg0}) (hR := by decide) (Y := V m)
    (hin := fun _ => .rfl) (hout := fun _ => .rfl)
    (Q' := Post m hlt)
    (hQ' := fun r h => ⟨fun c => ⟨((h.1 c).1 (1 : Fin 2)).trans (final_out m hlt c), (h.1 c).2.1 main_arg0 (Finset.mem_singleton_self _),
      ((h.1 c).1 (0 : Fin 2)).trans ((dats m hlt 0 c).arrAt_in (0 : Fin 2) rfl _)⟩, h.2⟩)

end Cert.PicksIdealProof

end
-- ==== Proof.PicksClaims.lean ====
/-
# The claims about the gather of the picks

The frames of the two readings of the kernel and of the reference, and the equality of the results: where every row number
names a row of the table, kernel and reference both return the rows named.
-/
module

public import proofs.«01_k».proof.Defs
public import proofs.«01_k».proof.Proof.GatherRef
public import proofs.«01_k».proof.Proof.PicksRun
public import proofs.«01_k».proof.Proof.PicksIdealRun
public import proofs.«01_k».proof.Proof.Gen.PicksRefIdeal
public import proofs.«01_k».proof.Proof.Gen.PicksRefIdeal.Run
public import Idealize.ShloMosaic.Lib.Quiescent

@[expose] public section

noncomputable section

namespace Cert.PicksClaims

open Idealize.ShloMosaic Idealize.ShloMosaic.TcCoe Idealize.SL.Sem Idealize.ShloMosaic.StableHlo

/-! ## The precondition: every row number names a row -/

theorem preFacts : Cert.Pre_picks_exist.Facts := ⟨by decide⟩

theorem named {F : FTy → Type} [FloatOps F] (a0 : FVec F Cert.Pre_picks_exist.S16384x4x128 .bf16) (a1 : IVec Cert.Pre_picks_exist.S1664 32)
    (h : @Cert.Pre_picks_exist.fn preFacts F _ a0 a1 = fun _ => 1#1) (i : Cert.Pre_picks_exist.S1664.Idx) : (a1 i).toNat < 16384 :=
  Cert.RowGather.lt_of_bits (a1 i) 16384 (by decide) (congrFun h i)

theorem lt_kernel (m : (ℓ : Loc Cert.Picks.nD Cert.Picks.τ Cert.Picks.sig) → Buf (Elt Bits) ℓ) (h : Cert.Pre_Picks (hPre_picks_exist := preFacts) m)
    (c : Dev Cert.Picks.nD) (i : Fin 1664) : (Cert.PicksProof.num m c i).toNat < 16384 := named _ _ (h c) _

theorem lt_ideal (m : (ℓ : Loc Cert.PicksIdeal.nD Cert.PicksIdeal.τ Cert.PicksIdeal.sig) → Buf (Elt Ideal) ℓ)
    (h : Cert.Pre_PicksIdeal (hPre_picks_exist := preFacts) m)
    (c : Dev Cert.PicksIdeal.nD) (i : Fin 1664) : (Cert.PicksIdealProof.num m c i).toNat < 16384 := named _ _ (h c) _

/-! ## The reference's rows -/

section
open Cert.PicksRefIdeal Cert.PicksRefIdeal.Gen

/-- What the reference returns, of its two arguments. -/
def refRows (x : FVec Ideal S16384x4x128 .bf16) (n : IVec S1664 32) : FVec Ideal S1664x4x128 .bf16 :=
  Host.gather gather_S16384x4x128_S1664x1_S1664x4x128_12_0_n_n_0_1_14128 x
    (broadcastInDim S1664x1 ![0] bcast_S1664_S1664x1_0
      (select (cmpi .slt n (broadcastInDim S1664 ![] bcast_S_S1664 (constantI S_ 32 0#32)))
        (addi n (broadcastInDim S1664 ![] bcast_S_S1664 (constantI S_ 32 16384#32))) n))

/-- A row number below the height of the table is not wrapped around. -/
theorem wrapped (n : IVec S1664 32) (i : S1664.Idx) (h : (n i).toNat < 16384) :
    select (cmpi .slt n (broadcastInDim S1664 ![] bcast_S_S1664 (constantI S_ 32 0#32)))
        (addi n (broadcastInDim S1664 ![] bcast_S_S1664 (constantI S_ 32 16384#32))) n i = n i :=
  Routing.wrap_of_lt (n i) _ (by omega)

theorem refRows_apply (x : FVec Ideal S16384x4x128 .bf16) (n : IVec S1664 32) (h : ∀ i, (n i).toNat < 16384) (y : S1664x4x128.Idx) :
    refRows x n y = x (Cert.RowGather.onRow ⟨(n (Cert.RowGather.pos (y 0))).toNat, h _⟩ y) := by
  refine Cert.RowGather.gather_rows_apply gather_S16384x4x128_S1664x1_S1664x4x128_12_0_n_n_0_1_14128_wf x _ y _ ?_
  show (select _ _ n (fun _ => _)).toInt.toNat = _
  refine (congrArg (fun w : BitVec 32 => w.toInt.toNat) (wrapped n _ (h _))).trans ?_
  refine (Cert.RowGather.toInt_of_lt _ 16384 (by decide) (h _)).trans ?_
  refine congrArg (fun i => (n i).toNat) ?_
  funext a; fin_cases a; rfl
end

theorem rows_eq (m : (ℓ : Loc Cert.PicksIdeal.nD Cert.PicksIdeal.τ Cert.PicksIdeal.sig) → Buf (Elt Ideal) ℓ)
    (hlt : ∀ (c : Dev Cert.PicksIdeal.nD) (i : Fin 1664), (Cert.PicksIdealProof.num m c i).toNat < 16384)
    (h : ∀ (c : Dev Cert.PicksIdeal.nD) i, (m ((c.tc : Thread Cert.PicksIdeal.nD Cert.PicksIdeal.τ).loc Cert.PicksIdeal.main_arg1) i).toNat < 16384)
    (c : Dev Cert.PicksIdeal.nD) :
    refRows (m ((c.tc : Thread Cert.PicksIdeal.nD Cert.PicksIdeal.τ).loc Cert.PicksIdeal.main_arg0))
      (m ((c.tc : Thread Cert.PicksIdeal.nD Cert.PicksIdeal.τ).loc Cert.PicksIdeal.main_arg1)) = Cert.PicksIdealProof.rowsOf m hlt c := by
  funext y
  refine (refRows_apply _ _ (h c) y).trans ?_
  unfold Cert.PicksIdealProof.rowsOf
  refine congrArg (m ((c.tc : Thread Cert.PicksIdeal.nD Cert.PicksIdeal.τ).loc Cert.PicksIdeal.main_arg0)) ?_
  funext a
  match a with
  | ⟨0, _⟩ => rfl
  | ⟨1, _⟩ => rfl
  | ⟨2, _⟩ => rfl

/-! ## The claims -/

theorem frame_kernel : Cert.quiescent_Picks (hPicks := Cert.Picks.Gen.facts) (hPre_picks_exist := preFacts) := fun m g hpre =>
  (θ_run _ _ _).mono (fun _ h => ⟨fun c => (h.1 c).2, h.2⟩) (Cert.PicksProof.run_main (F := Bits) m g (lt_kernel m hpre))

theorem frame_ideal : Cert.quiescent_PicksIdeal (hPicksIdeal := Cert.PicksIdeal.Gen.facts) (hPre_picks_exist := preFacts) := fun m g hpre =>
  (θ_run _ _ _).mono (fun _ h => ⟨fun c => (h.1 c).2, h.2⟩) (Cert.PicksIdealProof.run_main (F := Ideal) m g (lt_ideal m hpre))

theorem frame_ref : Cert.quiescent_PicksRefIdeal (hPicksRefIdeal := Cert.PicksRefIdeal.Gen.facts) := fun m g _ =>
  (θ_run _ _ _).mono (fun r h => ⟨fun c => (h c).2, sem_eq_zero_of_no_sems (by decide) r.2⟩) (Cert.PicksRefIdeal.Value.run (F := Ideal) m g)

theorem frame_ref_pre : Cert.quiescent_PicksRefIdeal_pre_picks_exist (hPicksRefIdeal := Cert.PicksRefIdeal.Gen.facts) (hPre_picks_exist := preFacts) :=
  fun m g _ => frame_ref m g trivial

theorem values : Cert.algebraic_PicksIdeal_PicksRefIdeal (hPicksIdeal := Cert.PicksIdeal.Gen.facts)
    (hPicksRefIdeal := Cert.PicksRefIdeal.Gen.facts) (hPre_picks_exist := preFacts) :=
  fun m g m' g' hpre harg =>
    ⟨Cert.PicksIdealProof.rowsOf m (lt_ideal m hpre),
      (θ_run _ _ _).mono (fun _ h c => h.1 c) (Cert.PicksIdealProof.run_main (F := Ideal) m g (lt_ideal m hpre)),
      (θ_run _ _ _).mono (fun _ h c => ⟨(h c).1.trans ((congrArg₂ refRows (harg c).1 (harg c).2).trans
          (rows_eq m (lt_ideal m hpre) (fun c i => named _ _ (hpre c) i) c)), (h c).2⟩)
        (Cert.PicksRefIdeal.Value.run (F := Ideal) m' g')⟩

end Cert.PicksClaims

end
-- ==== Proof.ReturnsIdealTrip.lean ====
/-
# The gather of the returns, a trip at a time

`Gather.lean` names the state between any two operations of a row gather and gives one rule for each operation. Here the
rules are put to the text of one trip of the gather of the returns, which starts 64 rows after waiting for the 64 rows of the
trip before.
-/
module

public import proofs.«01_k».proof.Proof.Gather
public import proofs.«01_k».proof.Proof.Gen.ReturnsIdeal
public import proofs.«01_k».proof.Proof.Gen.ReturnsIdeal.Skeleton
public import proofs.«01_k».proof.Proof.Gen.ReturnsIdeal.Launch

@[expose] public section

noncomputable section

namespace Cert.ReturnsIdealProof

open Cert.ReturnsIdeal Cert.ReturnsIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

abbrev UU : Type := UR sig nD τ × Counters

local notation "𝕄" => MT nD τ sig Unit (Elt F) ℕ UU ℕ

abbrev EC : UEmb Counters (MT nD τ sig Unit (Elt F) ℕ UU ℕ) := (UEmb.inr : UEmb Counters UU).trans uEmb

abbrev 𝒱₀ : Variants := Variants.none

theorem sem_inb (k : Fin 64) : ∀ a, (![k.val] : Fin 1 → ℕ) a + S1.size a ≤ S64.size a := by
  intro a; fin_cases a; simp; omega

set_option maxRecDepth 4000 in
/-- The buffers and the semaphores of the gather of the returns. -/
def gt : Gather sig 13312 8 2048 32 where
  src := Memref.whole main_arg0
  idx := Memref.whole cc0_stg0_0
  out := Memref.whole cc0_stg1_0
  setOut := View.set_whole _
  rows := rfl
  sem := fun k => ((cc0_scratch0.slice (Rect.unit (s := S64) ![k.val] S1.size (sem_inb k))).squeeze S_ squeezes_S1_S_).sem
  squeeze := squeezes_S1x8x128_S8x128
  credit_pos := by decide

theorem cond_iff (t : Fin k0_t1_loop.trips) : k0_cond1 t = 1#1 ↔ 0 < t.val := by
  revert t; decide +kernel

theorem off_eq (t : Fin k0_t1_loop.trips) (k : ℕ) (hk : k < 64) :
    (Scalar.addi (Scalar.muli (Scf.iv 0#32 1#32 t) 64#32) (BitVec.ofNat 32 k)).toNat = 64 * t.val + k := by
  have h : ∀ (t : Fin k0_t1_loop.trips) (k : Fin 64),
      (Scalar.addi (Scalar.muli (Scf.iv 0#32 1#32 t) 64#32) (BitVec.ofNat 32 k.val)).toNat = 64 * t.val + k.val := by decide +kernel
  exact h t ⟨k, hk⟩

theorem off_prev (t : Fin k0_t1_loop.trips) (h0 : 0 < t.val) (k : ℕ) (hk : k < 64) :
    (Scalar.subi (Scalar.addi (Scalar.muli (Scf.iv 0#32 1#32 t) 64#32) (BitVec.ofNat 32 k)) 64#32).toNat = 64 * (t.val - 1) + k := by
  have h : ∀ (t : Fin k0_t1_loop.trips) (k : Fin 64), 0 < t.val →
      (Scalar.subi (Scalar.addi (Scalar.muli (Scf.iv 0#32 1#32 t) 64#32) (BitVec.ofNat 32 k.val)) 64#32).toNat = 64 * (t.val - 1) + k.val := by decide +kernel
  exact h t ⟨k, hk⟩ h0

/-- An offset of the row numbers, and of the rows. -/
theorem at1 {x : BitVec 32} {n : ℕ} (h : x.toNat = n) : (![(Scalar.indexCast x).toNat] : Fin 1 → ℕ) = ![n] := congrArg (fun n => ![n]) h
theorem at3 {x : BitVec 32} {n : ℕ} (h : x.toNat = n) : (![x.toNat, 0, 0] : Fin 3 → ℕ) = ![n, 0, 0] := congrArg (fun n => ![n, 0, 0]) h

/-- A row number below the height of the table passes the checks of a transfer. -/
theorem chk_of (v : BitVec 32) (hv : v.toNat < 13312) : k0_chk2 v :=
  ⟨by intro a; show (![v.toNat, 0, 0] : Fin 3 → ℕ) a + _ ≤ _; fin_cases a <;> simp <;> omega,
   fun hinb => .inr ⟨by decide, rfl, rfl, rfl⟩⟩

variable (D : Data gt (F := F)) (c : Dev nD)

set_option maxRecDepth 8000 in
set_option maxHeartbeats 8000000 in
/-- One trip: the state goes from before its first column to after its last. -/
theorem trip (t : Fin k0_t1_loop.trips) :
    St EC D c t.val 0 false ⊢ wp frame (wpE (defs₀ (F := F)) 𝒱₀ (c : Thread nD τ) none) Set.univ
      (k0_t1_body gt.src (Memref.isWhole_whole _) gt.idx (Memref.isWhole_whole _) gt.out (Memref.isWhole_whole _) cc0_scratch0 t ()) fun _ => St EC D c t.val 64 false := by
  show _ ⊢ wp _ _ _ (k0_part27 _ _ _ _ _ _ _ _ _ _ >>= _) _
  apply wp_part c 𝒱₀
  · intro Q hQ
    rw [k0_part27_eq_skeleton]; unfold k0_part27_skel
    apply wp_part c 𝒱₀
    · intro Q' hQ'
      iterate 2
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
      exact wp_pure c 𝒱₀ hQ'
    iterate 5
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    refine wp_issue EC D c 𝒱₀ t.val t.isLt _ (by decide) rfl (at3 (off_eq t _ (by decide))) rfl ?_
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    exact wp_pure c 𝒱₀ hQ
  refine wp_issue EC D c 𝒱₀ t.val t.isLt _ (by decide) rfl (at3 (off_eq t _ (by decide))) rfl ?_
  exact wp_pure c 𝒱₀ .rfl

end Cert.ReturnsIdealProof

end
-- ==== Proof.ReturnsIdealRun.lean ====
/-
# The run of the gather of the returns

The gather is a call of one device: its table stays in HBM, its row numbers are staged into SMEM and its output is staged
out of VMEM. Here: the body at the contents a memory gives it, and the run of the call from any memory whose row numbers
all name rows of the table. The call ends with the rows named, and with its arguments and semaphores as they were.
-/
module

public import proofs.«01_k».proof.Proof.ReturnsIdealTrip
public import proofs.«01_k».proof.Proof.Gen.ReturnsIdeal.Points
public import Idealize.ShloMosaic.Lib.Pipeline.Routed
public import Idealize.ShloMosaic.Lib.Pipeline.ValueKit.Geometry

@[expose] public section

noncomputable section

namespace Cert.ReturnsIdealProof

open Cert.ReturnsIdeal Cert.ReturnsIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ UU ℕ

section
variable (D : Data gt (F := F)) (c : Dev nD)

set_option maxRecDepth 8000 in
set_option maxHeartbeats 8000000 in
/-- The body: the trips, then the 64 waits for the rows of the last trip. -/
theorem body (Kt : PUnit → sProp 𝕄) (h : Dr EC D c 64 ⊢ Kt ⟨⟩) :
    St EC D c 0 0 false ⊢ wp frame (wpE (defs₀ (F := F)) 𝒱₀ (c : Thread nD τ) none) Set.univ
      (cc0_body gt.src (Memref.isWhole_whole _) gt.idx (Memref.isWhole_whole _) gt.out (Memref.isWhole_whole _) cc0_scratch0) Kt := by
  rw [cc0_body_eq_skeleton]; unfold cc0_body_skel
  apply wp_part c 𝒱₀
  · intro Q' hQ'
    rw [k0_part28_eq_skeleton]; unfold k0_part28_skel
    refine wp_trips EC D c 𝒱₀ k0_t1_ok (by decide) (fun t => trip D c t) ?_
    iterate 3
      refine wp_num_drain EC D c 𝒱₀ _ _ (by decide) rfl ?_
      refine wp_check c 𝒱₀ (chk_of _ (D.lt _)) ?_
      refine wp_drain EC D c 𝒱₀ (by decide) _ (by decide) rfl ?_
    refine wp_num_drain EC D c 𝒱₀ _ _ (by decide) rfl ?_
    refine wp_check c 𝒱₀ (chk_of _ (D.lt _)) ?_
    exact wp_pure c 𝒱₀ hQ'
  iterate 4
    apply wp_part c 𝒱₀
    · intro Q' hQ'
      refine wp_drain EC D c 𝒱₀ (by decide) _ (by decide) rfl ?_
      iterate 3
        refine wp_num_drain EC D c 𝒱₀ _ _ (by decide) rfl ?_
        refine wp_check c 𝒱₀ (chk_of _ (D.lt _)) ?_
        refine wp_drain EC D c 𝒱₀ (by decide) _ (by decide) rfl ?_
      exact wp_num_last EC D c 𝒱₀ _ _ (by decide) rfl hQ'
    apply wp_part c 𝒱₀
    · intro Q' hQ'
      refine wp_check c 𝒱₀ (chk_of _ (D.lt _)) ?_
      refine wp_drain EC D c 𝒱₀ (by decide) _ (by decide) rfl ?_
      iterate 2
        refine wp_num_drain EC D c 𝒱₀ _ _ (by decide) rfl ?_
        refine wp_check c 𝒱₀ (chk_of _ (D.lt _)) ?_
        refine wp_drain EC D c 𝒱₀ (by decide) _ (by decide) rfl ?_
      refine wp_num_drain EC D c 𝒱₀ _ _ (by decide) rfl ?_
      refine wp_check c 𝒱₀ (chk_of _ (D.lt _)) ?_
      exact wp_pure c 𝒱₀ hQ'
    iterate 2
      apply wp_part c 𝒱₀
      · intro Q' hQ'
        refine wp_drain EC D c 𝒱₀ (by decide) _ (by decide) rfl ?_
        iterate 3
          refine wp_num_drain EC D c 𝒱₀ _ _ (by decide) rfl ?_
          refine wp_check c 𝒱₀ (chk_of _ (D.lt _)) ?_
          refine wp_drain EC D c 𝒱₀ (by decide) _ (by decide) rfl ?_
        refine wp_num_drain EC D c 𝒱₀ _ _ (by decide) rfl ?_
        refine wp_check c 𝒱₀ (chk_of _ (D.lt _)) ?_
        exact wp_pure c 𝒱₀ hQ'
  refine wp_drain EC D c 𝒱₀ (by decide) _ (by decide) rfl ?_
  exact wp_pure c 𝒱₀ h
end

variable (m : (ℓ : Loc nD τ sig) → Buf (Elt F) ℓ) (ρ : Dev nD → PrngReg)

/-! ## The contents -/

/-- The row number at position `i`. -/
def num (c : Dev nD) (i : Fin 2048) : BitVec 32 := m ((c : Thread nD τ).loc main_arg1) (pos i)

/-- The row numbers as they are staged. -/
def nstg (c : Dev nD) : (cc0_stg0_0 : Ref sig .tc).ty.Contents (Elt F) :=
  (win0_0.blk (0 : Fin 1)).view.read (Elt F) (m ((c : Thread nD τ).loc main_arg1))

theorem nstg_pos (c : Dev nD) (i : Fin 2048) : nstg m c (pos i) = num m c i := by
  refine congrArg (m ((c : Thread nD τ).loc main_arg1)) ?_
  funext a; apply Fin.ext
  fin_cases a
  show 0 * 2048 + 1 * i.val = i.val
  omega

variable (hlt : ∀ (c : Dev nD) (i : Fin 2048), (num m c i).toNat < 13312)

/-- The row of the output that holds an index. -/
abbrev top (x : S2048x8x128.Idx) : Fin 2048 := x 0

/-- The rows named. -/
def rowsOf (c : Dev nD) : (cc0_stg1_0 : Ref sig .tc).ty.Contents (Elt F) := fun x : S2048x8x128.Idx =>
  m ((c : Thread nD τ).loc main_arg0) (fun | ⟨0, _⟩ => ⟨(num m c (top x)).toNat, hlt c (top x)⟩ | ⟨1, _⟩ => x 1 | ⟨2, _⟩ => x 2 : S13312x8x128.Idx)

theorem rowsOf_row (c : Dev nD) (i : Fin 2048) :
    (gt.row i).view.read (Elt F) (rowsOf m hlt c) = (gt.srow ⟨(num m c i).toNat, hlt c i⟩).view.read (Elt F) (m ((c : Thread nD τ).loc main_arg0)) := by
  funext y
  have h0 : ((Shape.reshapeEquiv (Shape.Squeezes.numel_eq squeezes_S1x8x128_S8x128) y : S1x8x128.Idx) 0).val < 1 := Fin.isLt _
  have hi : top ((gt.row i).view.emb y) = i := by
    apply Fin.ext
    show i.val + 1 * ((Shape.reshapeEquiv _ y : S1x8x128.Idx) 0).val = i.val
    omega
  show m ((c : Thread nD τ).loc main_arg0) _ = m ((c : Thread nD τ).loc main_arg0) _
  refine congrArg (m ((c : Thread nD τ).loc main_arg0)) ?_
  funext a; apply Fin.ext
  fin_cases a
  · show (num m c (top ((gt.row i).view.emb y))).toNat = (num m c i).toNat + 1 * ((Shape.reshapeEquiv _ y : S1x8x128.Idx) 0).val
    rw [hi]; omega
  · rfl
  · rfl

/-- The data of the gather, the output holding `g₀` before it. -/
def data (c : Dev nD) (g₀ : (cc0_stg1_0 : Ref sig .tc).ty.Contents (Elt F)) : Data gt (F := F) where
  fs := m ((c : Thread nD τ).loc main_arg0)
  fi := nstg m c
  num := num m c
  read := nstg_pos m c
  lt := hlt c
  g₀ := g₀
  G := rowsOf m hlt c
  gathered := rowsOf_row m hlt c

/-! ## The body -/

abbrev osem : Fin 64 → SemLoc sig := fun k => .dma (gt.sem k)

abbrev V (c : Dev nD) (b : Ref sig .tc) : Buf (Elt F) ((c : Thread nD τ).loc b) := m ((c : Thread nD τ).loc b)

def dats (_ : Fin 1) (c : Dev nD) : Dat τ (Elt F) Unit ℕ UU ℕ cfg0 c where
  A w := m ((cfg0.win w).arr.view.loc (c : Thread nD τ))
  after w _ := match w with
    | ⟨0, _⟩ => nstg m c
    | ⟨1, _⟩ => rowsOf m hlt c
  Φ _ := Pipeline.Ends cfg0.spec osem {main_arg0} c (V m c)
  q _ := fullShare
  owed _ := 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem nums_eq (c : Dev nD) (f : (cc0_stg0_0 : Ref sig .tc).ty.Contents (Elt F)) :
    ((gt.idx.view.loc (c : Thread nD τ)) ↦[gt.idx.view.set]{fullShare} f : sProp 𝕄) = (((c : Thread nD τ).loc cc0_stg0_0) ↦{fullShare} f) := by
  rw [show gt.idx.view.set = Finset.univ from View.set_whole _]; rfl

/-- What the body holds of the call's buffers and semaphores, the output being `g`. -/
def held (c : Dev nD) (o : sProp 𝕄) (g : (cc0_stg1_0 : Ref sig .tc).ty.Contents (Elt F)) : sProp 𝕄 :=
  iprop((((c : Thread nD τ).loc cc0_stg0_0) ↦{fullShare} nstg m c) ∗ o
    ∗ (((c : Thread nD τ).loc main_arg0) ↦{fullShare} m ((c : Thread nD τ).loc main_arg0))
    ∗ (((c : Thread nD τ).loc cc0_stg1_0) ↦{fullShare} g) ∗ Pipeline.ownSems0 osem c)

theorem held_in (c : Dev nD) (W : Waits sig Unit) (g : (cc0_stg1_0 : Ref sig .tc).ty.Contents (Elt F)) :
    held m c (owes (c : Thread nD τ) 0 W) g ⊢ St EC (data m hlt c g) c 0 0 false :=
  (sep_mono_l (Entails.of_eq (nums_eq c (nstg m c)).symm)).trans (start_intro EC (data m hlt c g) c W)

theorem held_out (c : Dev nD) (g : (cc0_stg1_0 : Ref sig .tc).ty.Contents (Elt F)) :
    Dr EC (data m hlt c g) c 64 ⊢ held m c iprop(∃ W, owes (c : Thread nD τ) 0 W) (rowsOf m hlt c) :=
  (end_elim EC (data m hlt c g) c).trans (sep_mono_l (Entails.of_eq (nums_eq c (nstg m c))))

def bodyPre (c : Dev nD) : sProp 𝕄 :=
  iprop(Pipeline.Ends cfg0.spec osem {main_arg0} c (V m c) ∗ (dats m hlt 0 c).owesAt () t₀.castSucc
    ∗ (∃ d, stg c cc0_stg0_0 ((dats m hlt 0 c).before (0 : Fin 2) t₀ d))
    ∗ (∃ d, stg c cc0_stg1_0 ((dats m hlt 0 c).before (1 : Fin 2) t₀ d)))

def bodyPost (c : Dev nD) : sProp 𝕄 :=
  iprop(Pipeline.Ends cfg0.spec osem {main_arg0} c (V m c) ∗ (dats m hlt 0 c).owesAt () t₀.succ
    ∗ stg c cc0_stg0_0 (nstg m c) ∗ stg c cc0_stg1_0 (rowsOf m hlt c))

set_option maxRecDepth 4000 in
theorem sound_body (c : Dev nD) :
    bodyPre m hlt c ⊢ wp frame (wpE (defs₀ (F := F)) 𝒱₀ (c : Thread nD τ) none) Set.univ
      (cc0_body gt.src (Memref.isWhole_whole _) gt.idx (Memref.isWhole_whole _) gt.out (Memref.isWhole_whole _) cc0_scratch0) (fun _ => bodyPost m hlt c) := by
  unfold bodyPre Pipeline.Ends
  rw [Pipeline.routed_singleton, scopedRest0_eq]
  iintro ⟨⟨Hs, Hv, -, Hp⟩, Ho, ⟨%d0, %f0, %hf0, Hi⟩, ⟨%d1, %f1, -, Ht⟩⟩
  have h0 : f0 = nstg m c := by rw [hf0]; unfold Dat.before; rw [if_pos (fetch0_0 t₀)]; rfl
  subst h0
  unfold Dat.owesAt Pipeline.owesWithin
  icases Ho with ⟨%W, -, HO⟩
  ihave H := (held_in m hlt c W f1) $$ [Hs Hv HO Hi Ht]
  · unfold held
    isplitl [Hi]; · iexact Hi
    isplitl [HO]; · iexact HO
    isplitl [Hs]; · iexact Hs
    isplitl [Ht]; · iexact Ht
    iexact Hv
  iapply (wp_wand_r frame (wpE (defs₀ (F := F)) 𝒱₀ (c : Thread nD τ) none) Set.univ (Q := fun _ => Dr EC (data m hlt c f1) c 64))
  isplitl [H]
  · iapply (body (data m hlt c f1) c (fun _ => Dr EC (data m hlt c f1) c 64) .rfl)
    iexact H
  iintro %_ H
  ihave H := (held_out m hlt c f1) $$ H
  unfold held
  icases H with ⟨Hi, ⟨%W', HO⟩, Hs, Ht, Hv⟩
  unfold bodyPost Pipeline.Ends Dat.owesAt Pipeline.owesWithin
  rw [Pipeline.routed_singleton, scopedRest0_eq]
  isplitl [Hs Hv Hp]
  · isplitl [Hs]; · iexact Hs
    isplitl [Hv]; · iexact Hv
    isplitr; · iempintro
    iexact Hp
  isplitl [HO]
  · iexists W'
    isplitr; · ipureintro; exact fun _ _ => Or.inl trivial
    iexact HO
  isplitl [Hi]
  · iexists _; isplitr; · (ipureintro; rfl)
    iexact Hi
  iexists _; isplitr; · (ipureintro; rfl)
  iexact Ht

set_option maxRecDepth 4000 in
theorem body_obligation (c : Dev nD) : BodyObligation (dats (F := F) m hlt 0 c) (defs₀ (F := F)) 𝒱₀ () Set.univ := fun t => by
  rw [fin_N t]
  rw [bigSep_W, bigSep_W]
  simp only [owns_whole_eq]
  exact sound_body m hlt c

/-! ## The launch -/

theorem ownSemFacts : Pipeline.OwnSemFacts cfg0.spec osem := by decide
theorem share_eq (c : Dev nD) (w : Fin cfg0.W) : (dats m hlt 0 c).share w = fullShare := by unfold Dat.share; split <;> rfl

/-- The arguments as they were, the rows named in the result, and every semaphore at zero. -/
def Post (r : PUnit × MemSt nD τ sig (Elt F)) : Prop :=
  (∀ c : Dev nD, r.2.mem ((c : Thread nD τ).loc main_v0) = rowsOf m hlt c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem final_out (c : Dev nD) : (dats m hlt 0 c).arrAt (1 : Fin 2) cfg0.N = rowsOf m hlt c := by
  refine (dats m hlt 0 c).arrAt_eq_of_after_last (1 : Fin 2) t₀ (by decide +kernel) _ fun j => ?_
  exact congrArg (rowsOf m hlt c) (funext fun a => Fin.ext rfl)

set_option maxRecDepth 8000 in
/-- The run of the call, from any memory whose row numbers name rows. -/
theorem run_main : θ_run defs (onTc (τ := τ) (main (F := F))) ⟨m, fun _ => 0, ρ⟩ (Post m hlt) :=
  Pipeline.θ_run_frame_routed cfgs (dats m hlt) 0 launch0 ownSemFacts defs₀ 𝒱₀ m ρ main
    (hbody := fun c => (body_obligation m hlt c).loose) (hshare := share_eq m hlt) (howed := fun _ _ => rfl)
    (V := V m) (hmain := Pipeline.hmain_region cfgs 0 defs₀ 𝒱₀ m main fun c => (main_chain c).trans rfl)
    (hA := fun _ _ => rfl) (R := {main_arg0}) (hR := by decide) (Y := V m)
    (hin := fun _ => .rfl) (hout := fun _ => .rfl)
    (Q' := Post m hlt)
    (hQ' := fun r h => ⟨fun c => ⟨((h.1 c).1 (1 : Fin 2)).trans (final_out m hlt c), (h.1 c).2.1 main_arg0 (Finset.mem_singleton_self _),
      ((h.1 c).1 (0 : Fin 2)).trans ((dats m hlt 0 c).arrAt_in (0 : Fin 2) rfl _)⟩, h.2⟩)

end Cert.ReturnsIdealProof

end
-- ==== Proof.ReturnsClaims.lean ====
/-
# The claims about the gather of the returns

The frames of the two readings of the kernel and of the reference, and the equality of the results: where every row number
names a row of the table, kernel and reference both return the rows named.
-/
module

public import proofs.«01_k».proof.Defs
public import proofs.«01_k».proof.Proof.GatherRef
public import proofs.«01_k».proof.Proof.ReturnsRun
public import proofs.«01_k».proof.Proof.ReturnsIdealRun
public import proofs.«01_k».proof.Proof.Gen.ReturnsRefIdeal
public import proofs.«01_k».proof.Proof.Gen.ReturnsRefIdeal.Run
public import Idealize.ShloMosaic.Lib.Quiescent

@[expose] public section

noncomputable section

namespace Cert.ReturnsClaims

open Idealize.ShloMosaic Idealize.ShloMosaic.TcCoe Idealize.SL.Sem Idealize.ShloMosaic.StableHlo

/-! ## The precondition: every row number names a row -/

theorem preFacts : Cert.Pre_returns_exist.Facts := ⟨by decide⟩

theorem named {F : FTy → Type} [FloatOps F] (a0 : FVec F Cert.Pre_returns_exist.S13312x8x128 .bf16) (a1 : IVec Cert.Pre_returns_exist.S2048 32)
    (h : @Cert.Pre_returns_exist.fn preFacts F _ a0 a1 = fun _ => 1#1) (i : Cert.Pre_returns_exist.S2048.Idx) : (a1 i).toNat < 13312 :=
  Cert.RowGather.lt_of_bits (a1 i) 13312 (by decide) (congrFun h i)

theorem lt_kernel (m : (ℓ : Loc Cert.Returns.nD Cert.Returns.τ Cert.Returns.sig) → Buf (Elt Bits) ℓ) (h : Cert.Pre_Returns (hPre_returns_exist := preFacts) m)
    (c : Dev Cert.Returns.nD) (i : Fin 2048) : (Cert.ReturnsProof.num m c i).toNat < 13312 := named _ _ (h c) _

theorem lt_ideal (m : (ℓ : Loc Cert.ReturnsIdeal.nD Cert.ReturnsIdeal.τ Cert.ReturnsIdeal.sig) → Buf (Elt Ideal) ℓ)
    (h : Cert.Pre_ReturnsIdeal (hPre_returns_exist := preFacts) m)
    (c : Dev Cert.ReturnsIdeal.nD) (i : Fin 2048) : (Cert.ReturnsIdealProof.num m c i).toNat < 13312 := named _ _ (h c) _

/-! ## The reference's rows -/

section
open Cert.ReturnsRefIdeal Cert.ReturnsRefIdeal.Gen

/-- What the reference returns, of its two arguments. -/
def refRows (x : FVec Ideal S13312x8x128 .bf16) (n : IVec S2048 32) : FVec Ideal S2048x8x128 .bf16 :=
  Host.gather gather_S13312x8x128_S2048x1_S2048x8x128_12_0_n_n_0_1_18128 x
    (broadcastInDim S2048x1 ![0] bcast_S2048_S2048x1_0
      (select (cmpi .slt n (broadcastInDim S2048 ![] bcast_S_S2048 (constantI S_ 32 0#32)))
        (addi n (broadcastInDim S2048 ![] bcast_S_S2048 (constantI S_ 32 13312#32))) n))

/-- A row number below the height of the table is not wrapped around. -/
theorem wrapped (n : IVec S2048 32) (i : S2048.Idx) (h : (n i).toNat < 13312) :
    select (cmpi .slt n (broadcastInDim S2048 ![] bcast_S_S2048 (constantI S_ 32 0#32)))
        (addi n (broadcastInDim S2048 ![] bcast_S_S2048 (constantI S_ 32 13312#32))) n i = n i :=
  Routing.wrap_of_lt (n i) _ (by omega)

theorem refRows_apply (x : FVec Ideal S13312x8x128 .bf16) (n : IVec S2048 32) (h : ∀ i, (n i).toNat < 13312) (y : S2048x8x128.Idx) :
    refRows x n y = x (Cert.RowGather.onRow ⟨(n (Cert.RowGather.pos (y 0))).toNat, h _⟩ y) := by
  refine Cert.RowGather.gather_rows_apply gather_S13312x8x128_S2048x1_S2048x8x128_12_0_n_n_0_1_18128_wf x _ y _ ?_
  show (select _ _ n (fun _ => _)).toInt.toNat = _
  refine (congrArg (fun w : BitVec 32 => w.toInt.toNat) (wrapped n _ (h _))).trans ?_
  refine (Cert.RowGather.toInt_of_lt _ 13312 (by decide) (h _)).trans ?_
  refine congrArg (fun i => (n i).toNat) ?_
  funext a; fin_cases a; rfl
end

theorem rows_eq (m : (ℓ : Loc Cert.ReturnsIdeal.nD Cert.ReturnsIdeal.τ Cert.ReturnsIdeal.sig) → Buf (Elt Ideal) ℓ)
    (hlt : ∀ (c : Dev Cert.ReturnsIdeal.nD) (i : Fin 2048), (Cert.ReturnsIdealProof.num m c i).toNat < 13312)
    (h : ∀ (c : Dev Cert.ReturnsIdeal.nD) i, (m ((c.tc : Thread Cert.ReturnsIdeal.nD Cert.ReturnsIdeal.τ).loc Cert.ReturnsIdeal.main_arg1) i).toNat < 13312)
    (c : Dev Cert.ReturnsIdeal.nD) :
    refRows (m ((c.tc : Thread Cert.ReturnsIdeal.nD Cert.ReturnsIdeal.τ).loc Cert.ReturnsIdeal.main_arg0))
      (m ((c.tc : Thread Cert.ReturnsIdeal.nD Cert.ReturnsIdeal.τ).loc Cert.ReturnsIdeal.main_arg1)) = Cert.ReturnsIdealProof.rowsOf m hlt c := by
  funext y
  refine (refRows_apply _ _ (h c) y).trans ?_
  unfold Cert.ReturnsIdealProof.rowsOf
  refine congrArg (m ((c.tc : Thread Cert.ReturnsIdeal.nD Cert.ReturnsIdeal.τ).loc Cert.ReturnsIdeal.main_arg0)) ?_
  funext a
  match a with
  | ⟨0, _⟩ => rfl
  | ⟨1, _⟩ => rfl
  | ⟨2, _⟩ => rfl

/-! ## The claims -/

theorem frame_kernel : Cert.quiescent_Returns (hReturns := Cert.Returns.Gen.facts) (hPre_returns_exist := preFacts) := fun m g hpre =>
  (θ_run _ _ _).mono (fun _ h => ⟨fun c => (h.1 c).2, h.2⟩) (Cert.ReturnsProof.run_main (F := Bits) m g (lt_kernel m hpre))

theorem frame_ideal : Cert.quiescent_ReturnsIdeal (hReturnsIdeal := Cert.ReturnsIdeal.Gen.facts) (hPre_returns_exist := preFacts) := fun m g hpre =>
  (θ_run _ _ _).mono (fun _ h => ⟨fun c => (h.1 c).2, h.2⟩) (Cert.ReturnsIdealProof.run_main (F := Ideal) m g (lt_ideal m hpre))

theorem frame_ref : Cert.quiescent_ReturnsRefIdeal (hReturnsRefIdeal := Cert.ReturnsRefIdeal.Gen.facts) := fun m g _ =>
  (θ_run _ _ _).mono (fun r h => ⟨fun c => (h c).2, sem_eq_zero_of_no_sems (by decide) r.2⟩) (Cert.ReturnsRefIdeal.Value.run (F := Ideal) m g)

theorem frame_ref_pre : Cert.quiescent_ReturnsRefIdeal_pre_returns_exist (hReturnsRefIdeal := Cert.ReturnsRefIdeal.Gen.facts) (hPre_returns_exist := preFacts) :=
  fun m g _ => frame_ref m g trivial

theorem values : Cert.algebraic_ReturnsIdeal_ReturnsRefIdeal (hReturnsIdeal := Cert.ReturnsIdeal.Gen.facts)
    (hReturnsRefIdeal := Cert.ReturnsRefIdeal.Gen.facts) (hPre_returns_exist := preFacts) :=
  fun m g m' g' hpre harg =>
    ⟨Cert.ReturnsIdealProof.rowsOf m (lt_ideal m hpre),
      (θ_run _ _ _).mono (fun _ h c => h.1 c) (Cert.ReturnsIdealProof.run_main (F := Ideal) m g (lt_ideal m hpre)),
      (θ_run _ _ _).mono (fun _ h c => ⟨(h c).1.trans ((congrArg₂ refRows (harg c).1 (harg c).2).trans
          (rows_eq m (lt_ideal m hpre) (fun c i => named _ _ (hpre c) i) c)), (h c).2⟩)
        (Cert.ReturnsRefIdeal.Value.run (F := Ideal) m' g')⟩

end Cert.ReturnsClaims

end
-- ==== Proof.Rank.lean ====
/-
# The rank of a token among the tokens of its expert

The kernel counts by a running sum of the tokens' one-hot rows, read at each token's own expert. The reference counts, for
each token, the tokens up to itself that name the same expert. Both words hold the same number, `rank`. Further the words
that follow from a rank: whether the token is kept, and the row of the table that is its own.
-/
module

public import Idealize.ShloMosaic.Lib.ValueIdxCore
public import Idealize.ShloMosaic.Lib.Routing.OpsOne
public import Idealize.ShloMosaic.Lib.Routing.OpsPair
public import Idealize.ShloMosaic.Lib.Routing.Count
public import Idealize.ShloMosaic.Lib.StableHlo.Predicate
public import Idealize.ShloMosaic.Lib.Pointwise.Reduce

@[expose] public section

noncomputable section

namespace Cert.Rank

open Idealize.ShloMosaic hiding ix0 ix1 ix2 ix3
open Idealize.ShloMosaic.ValueIdx Idealize.ShloMosaic.Routing

/-! ## A row with one entry -/

theorem fold_zero {ι : Type} [DecidableEq ι] (S : Finset ι) (f : ι → BitVec 32) (h : ∀ a ∈ S, f a = 0#32) : S.fold IntOp.addi 0#32 f = 0#32 := by
  induction S using Finset.cons_induction with
  | empty => rfl
  | cons a S ha ih =>
    rw [Finset.fold_cons, ih fun b hb => h b (Finset.mem_cons_of_mem hb), h a (Finset.mem_cons_self a S)]
    rfl

/-- The sum of a row that is zero but at column `c` is its entry there. -/
theorem sum_one {n m : ℕ} (x : IVec (shape2 n m) 32) (h : (shape2 n m).ReducesTo [1] (shape1 n)) (hu : 0 < shape0.numel) (i : Fin n) (c : Fin m)
    (hx : ∀ q, q ≠ c → x (ix2 i q) = 0#32) : Host.reduce IntOp.addi x (constantI shape0 32 0#32) h hu (ix1 i) = x (ix2 i c) := by
  classical
  rw [Host.reduce_eq_fold]
  have hmem : ∀ y : (shape2 n m).Idx, h.drop y = ix1 i → y 0 = i := fun y e => by
    have hv : (h.drop y 0 : Nat) = y 0 := Shape.ReducesTo.drop_apply_val h y 0
    rw [e] at hv
    exact Fin.ext hv.symm
  have hc : ix2 i c ∈ Finset.univ.filter (fun y : (shape2 n m).Idx => h.drop y = ix1 i) := Finset.mem_filter.2 ⟨Finset.mem_univ _, by
    funext b
    have hb : b = 0 := Subsingleton.elim _ _
    subst hb
    exact Fin.ext (Shape.ReducesTo.drop_apply_val h (ix2 i c) 0)⟩
  rw [← Finset.insert_erase hc, Finset.fold_insert (Finset.notMem_erase _ _)]
  rw [show (constantI shape0 32 0#32) (Shape.Idx.first hu) = 0#32 from rfl, fold_zero]
  · exact BitVec.add_zero _
  · intro y hy
    obtain ⟨hne, hf⟩ := Finset.mem_erase.1 hy
    have h0 := hmem y (Finset.mem_filter.1 hf).2
    have hy' : y = ix2 i (y 1) := by
      funext b
      match b with
      | ⟨0, _⟩ => exact h0
      | ⟨1, _⟩ => rfl
    rw [hy']
    exact hx _ fun e => hne (hy'.trans (congrArg (ix2 i) e))

/-! ## The rank -/

section
variable (route : IVec (shape1 16384) 32)

/-- The expert of token `i`, as a number. -/
def expert (i : ℕ) : ℕ := if h : i < 16384 then (route (ix1 ⟨i, h⟩)).toNat else 0

theorem expert_val (i : Fin 16384) : expert route i.val = (route (ix1 i)).toNat := dif_pos i.isLt

/-- How many tokens up to `j`, `j` among them, name the expert of `j`. -/
def rank (j : ℕ) : ℕ := Nat.count (fun i => expert route i = expert route j) (j + 1)

theorem rank_pos (j : ℕ) : 0 < rank route j := by
  unfold rank
  rw [Nat.count_succ, if_pos rfl]
  exact Nat.succ_pos _

theorem rank_le (j : ℕ) : rank route j ≤ j + 1 := Nat.count_le _

/-- The one-hot rows' running sum, read at each token's own expert. -/
theorem kernel_rank (hr : ∀ i, (route i).toNat < 64) (hot : IVec (shape2 16384 64) 32)
    (hhot : ∀ (i : Fin 16384) (c : Fin 64), hot (ix2 i c) = BitVec.ofNat 32 (if expert route i.val = c.val then 1 else 0))
    (init : IVec shape0 32) (hinit : init ix0 = 0#32)
    (h : (shape2 16384 64).ReduceWindows (![16384, 1] : Fin 2 → Nat) ![1, 1] ![16383, 0] ![0, 0] (shape2 16384 64)) (hu hu' : 0 < shape0.numel)
    (hd : (shape2 16384 64).ReducesTo [1] (shape1 16384)) (j : Fin 16384) :
    Host.reduce IntOp.addi (muli (Host.reduceWindow IntOp.addi ![16384, 1] ![1, 1] ![16383, 0] ![0, 0] hot init h hu) hot) (constantI shape0 32 0#32) hd hu' (ix1 j)
      = BitVec.ofNat 32 (rank route j.val) := by
  have hc : expert route j.val < 64 := by rw [expert_val]; exact hr _
  have hat : ∀ q : Fin 64, muli (Host.reduceWindow IntOp.addi ![16384, 1] ![1, 1] ![16383, 0] ![0, 0] hot init h hu) hot (ix2 j q)
      = BitVec.ofNat 32 ((List.range (j.val + 1)).map fun i => if expert route i = q.val then 1 else 0).sum
        * BitVec.ofNat 32 (if expert route j.val = q.val then 1 else 0) := fun q =>
    congrArg₂ (fun a b : BitVec 32 => a * b)
      (Routing.cumsum_rows rfl hot (fun i c => if expert route i = c then 1 else 0) hhot init hinit h hu j q) (hhot j q)
  rw [sum_one _ hd hu' j ⟨expert route j.val, hc⟩ fun q hq => ?_, hat]
  · rw [Routing.sum_map_ite (fun i => expert route i = expert route j.val), if_pos rfl]
    exact BitVec.mul_one _
  · rw [hat, if_neg fun e => hq (Fin.ext e.symm)]
    exact BitVec.mul_zero

/-- The tokens up to each token that name its expert. -/
theorem reference_rank (msk : IVec (shape2 16384 16384) 1) (hw : 1 < 32) (h : (shape2 16384 16384).ReducesTo [1] (shape1 16384)) (hu : 0 < shape0.numel)
    (i : Fin 16384) (hmsk : ∀ q : Fin 16384, msk (ix2 i q) = 1#1 ↔ q.val ≤ i.val ∧ expert route q.val = expert route i.val) :
    Host.reduce IntOp.addi (extui 32 msk hw) (constantI shape0 32 0#32) h hu (ix1 i) = BitVec.ofNat 32 (rank route i.val) := by
  rw [Routing.reduce_count (by decide) msk hw h hu i (fun q => q ≤ i.val ∧ expert route q = expert route i.val) hmsk]
  refine congrArg (BitVec.ofNat 32) ?_
  unfold rank
  rw [Nat.count_eq_card_filter_range, Nat.count_eq_card_filter_range]
  refine congrArg Finset.card ?_
  ext q
  have := i.isLt
  simp only [Finset.mem_filter, Finset.mem_range]
  constructor
  · rintro ⟨-, h1, h2⟩; exact ⟨by omega, h2⟩
  · rintro ⟨h1, h2⟩; exact ⟨by omega, by omega, h2⟩

end

/-! ## The device's tokens -/

/-- Token `i` of the 2048 from the word `w` on, the start held to where all 2048 exist. -/
def tok (w : BitVec 32) (i : Fin 2048) : Fin 16384 :=
  ⟨(min (max w.toInt 0) ((16384 - 2048 : ℕ) : ℤ)).toNat + i.val, by
    have := i.isLt
    omega⟩

/-! ## The words that follow -/

/-- Whether a token is kept. -/
theorem kept_iff (k : ℕ) (h : k ≤ 16384) : IntOp.cmpi .sle (BitVec.ofNat 32 k) 204#32 = 1#1 ↔ k ≤ 204 := by
  unfold IntOp.cmpi
  simp only [StableHlo.Predicate.ofBool_eq_one_iff, BitVec.sle, decide_eq_true_eq, BitVec.toInt_eq_toNat_cond, BitVec.toNat_ofNat]
  rw [Nat.mod_eq_of_lt (by omega), if_pos (by omega), if_pos (by decide)]
  simp

/-- The row of a kept token, counting its slot from zero first. -/
theorem row_kernel (e k : ℕ) (he : e < 64) (h0 : 0 < k) (hk : k ≤ 204) :
    BitVec.ofNat 32 e * 208#32 + (BitVec.ofNat 32 k - 1#32) = BitVec.ofNat 32 (e * 208 + (k - 1)) := by
  apply BitVec.eq_of_toNat_eq
  simp only [BitVec.toNat_add, BitVec.toNat_mul, BitVec.toNat_sub, BitVec.toNat_ofNat]
  omega

/-- The row of a kept token, counting from one and taking the one away last. -/
theorem row_reference (e k : ℕ) (he : e < 64) (h0 : 0 < k) (hk : k ≤ 204) :
    BitVec.ofNat 32 e * 208#32 + BitVec.ofNat 32 k - 1#32 = BitVec.ofNat 32 (e * 208 + (k - 1)) := by
  apply BitVec.eq_of_toNat_eq
  simp only [BitVec.toNat_add, BitVec.toNat_mul, BitVec.toNat_sub, BitVec.toNat_ofNat]
  omega

end Cert.Rank

end
-- ==== Proof.ResultIdealTrip.lean ====
/-
# The gather of the result, a trip at a time

`Gather.lean` names the state between any two operations of a row gather and gives one rule for each operation. Here the
rules are put to the text of one trip of the gather of the result, which starts 64 rows after waiting for the 64 rows of the
trip before.
-/
module

public import proofs.«01_k».proof.Proof.Gather
public import proofs.«01_k».proof.Proof.Gen.ResultIdeal
public import proofs.«01_k».proof.Proof.Gen.ResultIdeal.Skeleton
public import proofs.«01_k».proof.Proof.Gen.ResultIdeal.Launch

@[expose] public section

noncomputable section

namespace Cert.ResultIdealProof

open Cert.ResultIdeal Cert.ResultIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

abbrev UU : Type := UR sig nD τ × Counters

local notation "𝕄" => MT nD τ sig Unit (Elt F) ℕ UU ℕ

abbrev EC : UEmb Counters (MT nD τ sig Unit (Elt F) ℕ UU ℕ) := (UEmb.inr : UEmb Counters UU).trans uEmb

abbrev 𝒱₀ : Variants := Variants.none

theorem sem_inb (k : Fin 64) : ∀ a, (![k.val] : Fin 1 → ℕ) a + S1.size a ≤ S64.size a := by
  intro a; fin_cases a; simp; omega

set_option maxRecDepth 4000 in
/-- The buffers and the semaphores of the gather of the result. -/
def gt : Gather sig 13312 8 2048 32 where
  src := Memref.whole main_v31
  idx := Memref.whole cc0_stg0_0
  out := Memref.whole cc0_stg1_0
  setOut := View.set_whole _
  rows := rfl
  sem := fun k => ((cc0_scratch0.slice (Rect.unit (s := S64) ![k.val] S1.size (sem_inb k))).squeeze S_ squeezes_S1_S_).sem
  squeeze := squeezes_S1x8x128_S8x128
  credit_pos := by decide

theorem cond_iff (t : Fin k0_t1_loop.trips) : k0_cond1 t = 1#1 ↔ 0 < t.val := by
  revert t; decide +kernel

theorem off_eq (t : Fin k0_t1_loop.trips) (k : ℕ) (hk : k < 64) :
    (Scalar.addi (Scalar.muli (Scf.iv 0#32 1#32 t) 64#32) (BitVec.ofNat 32 k)).toNat = 64 * t.val + k := by
  have h : ∀ (t : Fin k0_t1_loop.trips) (k : Fin 64),
      (Scalar.addi (Scalar.muli (Scf.iv 0#32 1#32 t) 64#32) (BitVec.ofNat 32 k.val)).toNat = 64 * t.val + k.val := by decide +kernel
  exact h t ⟨k, hk⟩

theorem off_prev (t : Fin k0_t1_loop.trips) (h0 : 0 < t.val) (k : ℕ) (hk : k < 64) :
    (Scalar.subi (Scalar.addi (Scalar.muli (Scf.iv 0#32 1#32 t) 64#32) (BitVec.ofNat 32 k)) 64#32).toNat = 64 * (t.val - 1) + k := by
  have h : ∀ (t : Fin k0_t1_loop.trips) (k : Fin 64), 0 < t.val →
      (Scalar.subi (Scalar.addi (Scalar.muli (Scf.iv 0#32 1#32 t) 64#32) (BitVec.ofNat 32 k.val)) 64#32).toNat = 64 * (t.val - 1) + k.val := by decide +kernel
  exact h t ⟨k, hk⟩ h0

/-- An offset of the row numbers, and of the rows. -/
theorem at1 {x : BitVec 32} {n : ℕ} (h : x.toNat = n) : (![(Scalar.indexCast x).toNat] : Fin 1 → ℕ) = ![n] := congrArg (fun n => ![n]) h
theorem at3 {x : BitVec 32} {n : ℕ} (h : x.toNat = n) : (![x.toNat, 0, 0] : Fin 3 → ℕ) = ![n, 0, 0] := congrArg (fun n => ![n, 0, 0]) h

/-- A row number below the height of the table passes the checks of a transfer. -/
theorem chk_of (v : BitVec 32) (hv : v.toNat < 13312) : k0_chk2 v :=
  ⟨by intro a; show (![v.toNat, 0, 0] : Fin 3 → ℕ) a + _ ≤ _; fin_cases a <;> simp <;> omega,
   fun hinb => .inr ⟨by decide, rfl, rfl, rfl⟩⟩

variable (D : Data gt (F := F)) (c : Dev nD)

set_option maxRecDepth 8000 in
set_option maxHeartbeats 8000000 in
/-- One trip: the state goes from before its first column to after its last. -/
theorem trip (t : Fin k0_t1_loop.trips) :
    St EC D c t.val 0 false ⊢ wp frame (wpE (defs₀ (F := F)) 𝒱₀ (c : Thread nD τ) none) Set.univ
      (k0_t1_body gt.src (Memref.isWhole_whole _) gt.idx (Memref.isWhole_whole _) gt.out (Memref.isWhole_whole _) cc0_scratch0 t ()) fun _ => St EC D c t.val 64 false := by
  show _ ⊢ wp _ _ _ (k0_part27 _ _ _ _ _ _ _ _ _ _ >>= _) _
  apply wp_part c 𝒱₀
  · intro Q hQ
    rw [k0_part27_eq_skeleton]; unfold k0_part27_skel
    apply wp_part c 𝒱₀
    · intro Q' hQ'
      iterate 2
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
      exact wp_pure c 𝒱₀ hQ'
    iterate 5
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
      apply wp_part c 𝒱₀
      · intro Q' hQ'
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        refine wp_issue EC D c 𝒱₀ t.val t.isLt _ (by decide) rfl (at3 (off_eq t _ (by decide))) rfl ?_
        refine wp_when EC D c 𝒱₀ t.val _ (by decide) (cond_iff t) (fun _ => rfl) (fun _ ht hx => ?_) ?_
        · refine wp_num_wait EC D c 𝒱₀ t.val ht t.isLt _ (by decide) (at1 (off_prev t ht _ (by decide))) fun v hv => ?_
          refine wp_check c 𝒱₀ ⟨fun _ => (chk_of v hv).1, fun _ => (chk_of v hv).2⟩ ?_
          exact wp_wait EC D c 𝒱₀ t.val ht t.isLt _ (by decide) rfl hx
        refine wp_num_start EC D c 𝒱₀ t.val t.isLt _ (by decide) (at1 (off_eq t _ (by decide))) ?_
        refine wp_check c 𝒱₀ (chk_of _ (D.lt _)) ?_
        exact wp_pure c 𝒱₀ hQ'
      apply wp_part c 𝒱₀
      · intro Q' hQ'
        refine wp_issue EC D c 𝒱₀ t.val t.isLt _ (by decide) rfl (at3 (off_eq t _ (by decide))) rfl ?_
        iterate 2
          refine wp_when EC D c 𝒱₀ t.val _ (by decide) (cond_iff t) (fun _ => rfl) (fun _ ht hx => ?_) ?_
          · refine wp_num_wait EC D c 𝒱₀ t.val ht t.isLt _ (by decide) (at1 (off_prev t ht _ (by decide))) fun v hv => ?_
            refine wp_check c 𝒱₀ ⟨fun _ => (chk_of v hv).1, fun _ => (chk_of v hv).2⟩ ?_
            exact wp_wait EC D c 𝒱₀ t.val ht t.isLt _ (by decide) rfl hx
          refine wp_num_start EC D c 𝒱₀ t.val t.isLt _ (by decide) (at1 (off_eq t _ (by decide))) ?_
          refine wp_check c 𝒱₀ (chk_of _ (D.lt _)) ?_
          refine wp_issue EC D c 𝒱₀ t.val t.isLt _ (by decide) rfl (at3 (off_eq t _ (by decide))) rfl ?_
        exact wp_pure c 𝒱₀ hQ'
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    refine wp_issue EC D c 𝒱₀ t.val t.isLt _ (by decide) rfl (at3 (off_eq t _ (by decide))) rfl ?_
    refine wp_when EC D c 𝒱₀ t.val _ (by decide) (cond_iff t) (fun _ => rfl) (fun _ ht hx => ?_) ?_
    · refine wp_num_wait EC D c 𝒱₀ t.val ht t.isLt _ (by decide) (at1 (off_prev t ht _ (by decide))) fun v hv => ?_
      refine wp_check c 𝒱₀ ⟨fun _ => (chk_of v hv).1, fun _ => (chk_of v hv).2⟩ ?_
      exact wp_wait EC D c 𝒱₀ t.val ht t.isLt _ (by decide) rfl hx
    refine wp_num_start EC D c 𝒱₀ t.val t.isLt _ (by decide) (at1 (off_eq t _ (by decide))) ?_
    refine wp_check c 𝒱₀ (chk_of _ (D.lt _)) ?_
    exact wp_pure c 𝒱₀ hQ
  refine wp_issue EC D c 𝒱₀ t.val t.isLt _ (by decide) rfl (at3 (off_eq t _ (by decide))) rfl ?_
  exact wp_pure c 𝒱₀ .rfl

end Cert.ResultIdealProof

end
-- ==== Proof.ResultIdealRun.lean ====
/-
# The run of the result's program

Host lines count the tokens and give row numbers, a gather takes the rows, and host lines mask them. The gather is a call
of one device: its table stays in HBM, its row numbers are staged into SMEM and its output is staged out of VMEM. Here: the
body at the contents the host lines leave, and the run of the whole program from any memory whose row numbers all name rows
of the table. The later host lines find the rows named, and the arguments and semaphores end as they were.
-/
module

public import proofs.«01_k».proof.Proof.ResultIdealTrip
public import proofs.«01_k».proof.Proof.Gen.ResultIdeal.Frame
public import Idealize.ShloMosaic.Lib.Pipeline.FrameSuffixV
public import Idealize.ShloMosaic.Lib.Pipeline.ValueKit.Geometry

@[expose] public section

noncomputable section

namespace Cert.ResultIdealProof

open Cert.ResultIdeal Cert.ResultIdeal.Gen
open Cert.RowGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ UU ℕ

section
variable (D : Data gt (F := F)) (c : Dev nD)

set_option maxRecDepth 8000 in
set_option maxHeartbeats 8000000 in
/-- The body: the trips, then the 64 waits for the rows of the last trip. -/
theorem body (Kt : PUnit → sProp 𝕄) (h : Dr EC D c 64 ⊢ Kt ⟨⟩) :
    St EC D c 0 0 false ⊢ wp frame (wpE (defs₀ (F := F)) 𝒱₀ (c : Thread nD τ) none) Set.univ
      (cc0_body gt.src (Memref.isWhole_whole _) gt.idx (Memref.isWhole_whole _) gt.out (Memref.isWhole_whole _) cc0_scratch0) Kt := by
  rw [cc0_body_eq_skeleton]; unfold cc0_body_skel
  apply wp_part c 𝒱₀
  · intro Q' hQ'
    rw [k0_part28_eq_skeleton]; unfold k0_part28_skel
    refine wp_trips EC D c 𝒱₀ k0_t1_ok (by decide) (fun t => trip D c t) ?_
    iterate 3
      refine wp_num_drain EC D c 𝒱₀ _ _ (by decide) rfl ?_
      refine wp_check c 𝒱₀ (chk_of _ (D.lt _)) ?_
      refine wp_drain EC D c 𝒱₀ (by decide) _ (by decide) rfl ?_
    refine wp_num_drain EC D c 𝒱₀ _ _ (by decide) rfl ?_
    refine wp_check c 𝒱₀ (chk_of _ (D.lt _)) ?_
    exact wp_pure c 𝒱₀ hQ'
  iterate 4
    apply wp_part c 𝒱₀
    · intro Q' hQ'
      refine wp_drain EC D c 𝒱₀ (by decide) _ (by decide) rfl ?_
      iterate 3
        refine wp_num_drain EC D c 𝒱₀ _ _ (by decide) rfl ?_
        refine wp_check c 𝒱₀ (chk_of _ (D.lt _)) ?_
        refine wp_drain EC D c 𝒱₀ (by decide) _ (by decide) rfl ?_
      exact wp_num_last EC D c 𝒱₀ _ _ (by decide) rfl hQ'
    apply wp_part c 𝒱₀
    · intro Q' hQ'
      refine wp_check c 𝒱₀ (chk_of _ (D.lt _)) ?_
      refine wp_drain EC D c 𝒱₀ (by decide) _ (by decide) rfl ?_
      iterate 2
        refine wp_num_drain EC D c 𝒱₀ _ _ (by decide) rfl ?_
        refine wp_check c 𝒱₀ (chk_of _ (D.lt _)) ?_
        refine wp_drain EC D c 𝒱₀ (by decide) _ (by decide) rfl ?_
      refine wp_num_drain EC D c 𝒱₀ _ _ (by decide) rfl ?_
      refine wp_check c 𝒱₀ (chk_of _ (D.lt _)) ?_
      exact wp_pure c 𝒱₀ hQ'
    iterate 2
      apply wp_part c 𝒱₀
      · intro Q' hQ'
        refine wp_drain EC D c 𝒱₀ (by decide) _ (by decide) rfl ?_
        iterate 3
          refine wp_num_drain EC D c 𝒱₀ _ _ (by decide) rfl ?_
          refine wp_check c 𝒱₀ (chk_of _ (D.lt _)) ?_
          refine wp_drain EC D c 𝒱₀ (by decide) _ (by decide) rfl ?_
        refine wp_num_drain EC D c 𝒱₀ _ _ (by decide) rfl ?_
        refine wp_check c 𝒱₀ (chk_of _ (D.lt _)) ?_
        exact wp_pure c 𝒱₀ hQ'
  refine wp_drain EC D c 𝒱₀ (by decide) _ (by decide) rfl ?_
  exact wp_pure c 𝒱₀ h
end

section
variable (V₀ : Dev nD → Valuation τ sig (Elt F))

/-! ## The contents -/

/-- A buffer's contents when the gather starts. -/
abbrev V (c : Dev nD) (b : Ref sig .tc) : Buf (Elt F) ((c : Thread nD τ).loc b) := V₀ c (Proc.devRef .tc b)

/-- The row number at position `i`. -/
def num (c : Dev nD) (i : Fin 2048) : BitVec 32 := V V₀ c main_v30 (pos i)

/-- The row numbers as they are staged. -/
def nstg (c : Dev nD) : (cc0_stg0_0 : Ref sig .tc).ty.Contents (Elt F) :=
  (win0_0.blk (0 : Fin 1)).view.read (Elt F) (V V₀ c main_v30)

theorem nstg_pos (c : Dev nD) (i : Fin 2048) : nstg V₀ c (pos i) = num V₀ c i := by
  refine congrArg (V V₀ c main_v30) ?_
  funext a; apply Fin.ext
  fin_cases a
  show 0 * 2048 + 1 * i.val = i.val
  omega

variable (hlt : ∀ (c : Dev nD) (i : Fin 2048), (num V₀ c i).toNat < 13312)

/-- The row of the output that holds an index. -/
abbrev top (x : S2048x8x128.Idx) : Fin 2048 := x 0

/-- The rows named. -/
def rowsOf (c : Dev nD) : (cc0_stg1_0 : Ref sig .tc).ty.Contents (Elt F) := fun x : S2048x8x128.Idx =>
  V V₀ c main_v31 (fun | ⟨0, _⟩ => ⟨(num V₀ c (top x)).toNat, hlt c (top x)⟩ | ⟨1, _⟩ => x 1 | ⟨2, _⟩ => x 2 : S13312x8x128.Idx)

theorem rowsOf_row (c : Dev nD) (i : Fin 2048) :
    (gt.row i).view.read (Elt F) (rowsOf V₀ hlt c) = (gt.srow ⟨(num V₀ c i).toNat, hlt c i⟩).view.read (Elt F) (V V₀ c main_v31) := by
  funext y
  have h0 : ((Shape.reshapeEquiv (Shape.Squeezes.numel_eq squeezes_S1x8x128_S8x128) y : S1x8x128.Idx) 0).val < 1 := Fin.isLt _
  have hi : top ((gt.row i).view.emb y) = i := by
    apply Fin.ext
    show i.val + 1 * ((Shape.reshapeEquiv _ y : S1x8x128.Idx) 0).val = i.val
    omega
  show V V₀ c main_v31 _ = V V₀ c main_v31 _
  refine congrArg (V V₀ c main_v31) ?_
  funext a; apply Fin.ext
  fin_cases a
  · show (num V₀ c (top ((gt.row i).view.emb y))).toNat = (num V₀ c i).toNat + 1 * ((Shape.reshapeEquiv _ y : S1x8x128.Idx) 0).val
    rw [hi]; omega
  · rfl
  · rfl

/-- The data of the gather, the output holding `g₀` before it. -/
def data (c : Dev nD) (g₀ : (cc0_stg1_0 : Ref sig .tc).ty.Contents (Elt F)) : Data gt (F := F) where
  fs := V V₀ c main_v31
  fi := nstg V₀ c
  num := num V₀ c
  read := nstg_pos V₀ c
  lt := hlt c
  g₀ := g₀
  G := rowsOf V₀ hlt c
  gathered := rowsOf_row V₀ hlt c

/-! ## The body -/

abbrev osem : Fin 64 → SemLoc sig := fun k => .dma (gt.sem k)

def dats (_ : Fin 1) (c : Dev nD) : Dat τ (Elt F) Unit ℕ UU ℕ cfg0 c where
  A w := V V₀ c (Pipeline.arrRef spec0 w)
  after w _ := match w with
    | ⟨0, _⟩ => nstg V₀ c
    | ⟨1, _⟩ => rowsOf V₀ hlt c
  Φ _ := Pipeline.ΦDRV osem cfg0.spec {main_v31} ∅ (V V₀) (V V₀) c
  q _ := fullShare
  owed _ := 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem nums_eq (c : Dev nD) (f : (cc0_stg0_0 : Ref sig .tc).ty.Contents (Elt F)) :
    ((gt.idx.view.loc (c : Thread nD τ)) ↦[gt.idx.view.set]{fullShare} f : sProp 𝕄) = (((c : Thread nD τ).loc cc0_stg0_0) ↦{fullShare} f) := by
  rw [show gt.idx.view.set = Finset.univ from View.set_whole _]; rfl

/-- What the body holds of the call's buffers and semaphores, the output being `g`. -/
def held (c : Dev nD) (o : sProp 𝕄) (g : (cc0_stg1_0 : Ref sig .tc).ty.Contents (Elt F)) : sProp 𝕄 :=
  iprop((((c : Thread nD τ).loc cc0_stg0_0) ↦{fullShare} nstg V₀ c) ∗ o
    ∗ (((c : Thread nD τ).loc main_v31) ↦{fullShare} V V₀ c main_v31)
    ∗ (((c : Thread nD τ).loc cc0_stg1_0) ↦{fullShare} g) ∗ Pipeline.ownSems0 osem c)

theorem held_in (c : Dev nD) (W : Waits sig Unit) (g : (cc0_stg1_0 : Ref sig .tc).ty.Contents (Elt F)) :
    held V₀ c (owes (c : Thread nD τ) 0 W) g ⊢ St EC (data V₀ hlt c g) c 0 0 false :=
  (sep_mono_l (Entails.of_eq (nums_eq c (nstg V₀ c)).symm)).trans (start_intro EC (data V₀ hlt c g) c W)

theorem held_out (c : Dev nD) (g : (cc0_stg1_0 : Ref sig .tc).ty.Contents (Elt F)) :
    Dr EC (data V₀ hlt c g) c 64 ⊢ held V₀ c iprop(∃ W, owes (c : Thread nD τ) 0 W) (rowsOf V₀ hlt c) :=
  (end_elim EC (data V₀ hlt c g) c).trans (sep_mono_l (Entails.of_eq (nums_eq c (nstg V₀ c))))

def bodyPre (c : Dev nD) : sProp 𝕄 :=
  iprop(Pipeline.ΦDRV osem cfg0.spec {main_v31} ∅ (V V₀) (V V₀) c ∗ (dats V₀ hlt 0 c).owesAt () t₀.castSucc
    ∗ (∃ d, stg c cc0_stg0_0 ((dats V₀ hlt 0 c).before (0 : Fin 2) t₀ d))
    ∗ (∃ d, stg c cc0_stg1_0 ((dats V₀ hlt 0 c).before (1 : Fin 2) t₀ d)))

def bodyPost (c : Dev nD) : sProp 𝕄 :=
  iprop(Pipeline.ΦDRV osem cfg0.spec {main_v31} ∅ (V V₀) (V V₀) c ∗ (dats V₀ hlt 0 c).owesAt () t₀.succ
    ∗ stg c cc0_stg0_0 (nstg V₀ c) ∗ stg c cc0_stg1_0 (rowsOf V₀ hlt c))

set_option maxRecDepth 4000 in
theorem sound_body (c : Dev nD) :
    bodyPre V₀ hlt c ⊢ wp frame (wpE (defs₀ (F := F)) 𝒱₀ (c : Thread nD τ) none) Set.univ
      (cc0_body gt.src (Memref.isWhole_whole _) gt.idx (Memref.isWhole_whole _) gt.out (Memref.isWhole_whole _) cc0_scratch0) (fun _ => bodyPost V₀ hlt c) := by
  unfold bodyPre Pipeline.ΦDRV
  rw [bigSep_singleton, bigSep_empty, scopedRest0_eq]
  iintro ⟨⟨-, Hv, Hs, Hp⟩, Ho, ⟨%d0, %f0, %hf0, Hi⟩, ⟨%d1, %f1, -, Ht⟩⟩
  have h0 : f0 = nstg V₀ c := by rw [hf0]; unfold Dat.before; rw [if_pos (fetch0_0 t₀)]; rfl
  subst h0
  unfold Dat.owesAt Pipeline.owesWithin
  icases Ho with ⟨%W, -, HO⟩
  ihave H := (held_in V₀ hlt c W f1) $$ [Hs Hv HO Hi Ht]
  · unfold held
    isplitl [Hi]; · iexact Hi
    isplitl [HO]; · iexact HO
    isplitl [Hs]; · iexact Hs
    isplitl [Ht]; · iexact Ht
    iexact Hv
  iapply (wp_wand_r frame (wpE (defs₀ (F := F)) 𝒱₀ (c : Thread nD τ) none) Set.univ (Q := fun _ => Dr EC (data V₀ hlt c f1) c 64))
  isplitl [H]
  · iapply (body (data V₀ hlt c f1) c (fun _ => Dr EC (data V₀ hlt c f1) c 64) .rfl)
    iexact H
  iintro %_ H
  ihave H := (held_out V₀ hlt c f1) $$ H
  unfold held
  icases H with ⟨Hi, ⟨%W', HO⟩, Hs, Ht, Hv⟩
  unfold bodyPost Pipeline.ΦDRV Dat.owesAt Pipeline.owesWithin
  rw [bigSep_singleton, bigSep_empty, scopedRest0_eq]
  isplitl [Hs Hv Hp]
  · isplitr; · iempintro
    isplitl [Hv]; · iexact Hv
    isplitl [Hs]; · iexact Hs
    iexact Hp
  isplitl [HO]
  · iexists W'
    isplitr; · ipureintro; exact fun _ _ => Or.inl trivial
    iexact HO
  isplitl [Hi]
  · iexists _; isplitr; · (ipureintro; rfl)
    iexact Hi
  iexists _; isplitr; · (ipureintro; rfl)
  iexact Ht

set_option maxRecDepth 4000 in
theorem body_obligation (c : Dev nD) : BodyObligation (dats (F := F) V₀ hlt 0 c) (defs₀ (F := F)) 𝒱₀ () Set.univ := fun t => by
  rw [fin_N t]
  rw [bigSep_W, bigSep_W]
  simp only [owns_whole_eq]
  exact sound_body V₀ hlt c

/-! ## The launch -/

theorem ownSemFacts : Pipeline.OwnSemFacts cfg0.spec osem := by decide
theorem share_eq (c : Dev nD) (w : Fin cfg0.W) : (dats V₀ hlt 0 c).share w = fullShare := by unfold Dat.share; split <;> rfl

theorem final_out (c : Dev nD) : (dats V₀ hlt 0 c).arrAt (1 : Fin 2) cfg0.N = rowsOf V₀ hlt c := by
  refine (dats V₀ hlt 0 c).arrAt_eq_of_after_last (1 : Fin 2) t₀ (by decide +kernel) _ fun j => ?_
  exact congrArg (rowsOf V₀ hlt c) (funext fun a => Fin.ext rfl)

/-- The contents when the gather has ended: the rows named in its output, all else as it was. -/
def mid (c : Dev nD) : Valuation τ sig (Elt F) := Pipeline.withArrays cfg0.spec c (V₀ c) fun w => (dats V₀ hlt 0 c).arrAt w cfg0.N

theorem mid_rows (c : Dev nD) : mid V₀ hlt c (Proc.devRef .tc main_v32) = rowsOf V₀ hlt c :=
  (Pipeline.withArrays_arr cfg0.spec (by decide) c (V₀ c) (fun w => (dats V₀ hlt 0 c).arrAt w cfg0.N) (1 : Fin 2)).trans (final_out V₀ hlt c)

theorem mid_of_ne (c : Dev nD) (b : Ref sig .tc) (hb : ∀ w, Pipeline.arrRef cfg0.spec w ≠ b) : mid V₀ hlt c (Proc.devRef .tc b) = V V₀ c b :=
  Pipeline.withArrays_of_ne cfg0.spec c (V₀ c) _ b hb

/-- What the host lines after the gather leave in a buffer. -/
def last (c : Dev nD) (b : Ref sig .tc) : Buf (Elt F) ((c : Thread nD τ).loc b) :=
  StableHlo.after (List.flatten [hostOps1, hostOps1_1]) (mid V₀ hlt c) (Proc.devRef .tc b)

end

section
variable (m : (ℓ : Loc nD τ sig) → Buf (Elt F) ℓ) (ρ : Dev nD → PrngReg)
variable (hlt : ∀ (c : Dev nD) (i : Fin 2048), (num (Gen.V0 m) c i).toNat < 13312)

/-- The arguments as they were, the result as the last host lines leave it, and every semaphore at zero. -/
def Post (r : PUnit × MemSt nD τ sig (Elt F)) : Prop :=
  (∀ c : Dev nD, r.2.mem ((c : Thread nD τ).loc main_v36) = last (Gen.V0 m) hlt c main_v36
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

theorem withR_none (V : Valuation τ sig (Elt F)) (c : Dev nD) (G : (b : Ref sig .tc) → Buf (Elt F) ((c.tc : Thread nD τ).loc b)) :
    Pipeline.withR V ∅ c G = V := by
  funext r
  unfold Pipeline.withR
  rw [dif_neg]
  rintro ⟨b, hb, -⟩
  exact absurd hb (Finset.notMem_empty b)

/-- An argument is written by no host line, before the gather or after it. -/
theorem arg_kept (c : Dev nD) (b : Ref sig .tc) (hb : ∀ w, Pipeline.arrRef cfg0.spec w ≠ b) (h : Gen.V m c b = m ((c : Thread nD τ).loc b))
    (h' : ∀ b' ∈ [main_v33, main_v34, main_v35, main_cst, main_call2_v0, main_call2_v1, main_v36], b ≠ b') :
    last (Gen.V0 m) hlt c b = m ((c : Thread nD τ).loc b) := by
  refine (StableHlo.after_of_forall_not_mem (b := Proc.devRef .tc b) _ _ (List.forall_iff_forall_mem.mp ?_)).trans ((mid_of_ne (Gen.V0 m) hlt c b hb).trans h)
  simp only [hostOps1, hostOps1_1, List.flatten_cons, List.flatten_nil, List.append_nil, List.cons_append, List.nil_append, List.Forall,
    StableHlo.nullary_writes, StableHlo.unary_writes, StableHlo.ternary_writes, StableHlo.reshape_writes, Finset.mem_singleton]
  repeat' apply And.intro
  all_goals exact StableHlo.devRef_ne_of_ne (h' _ (by simp))

set_option maxRecDepth 8000 in
/-- The run of the program, from any memory whose row numbers name rows. -/
theorem run_main : θ_run defs (onTc (τ := τ) (main (F := F))) ⟨m, fun _ => 0, ρ⟩ (Post m hlt) :=
  Pipeline.θ_run_frame_dmaR_aroundV cfgs (dats (Gen.V0 m) hlt) 0 launch0 osem defs₀ 𝒱₀ ownSemFacts {main_v31} ∅ (by decide) (Finset.empty_subset _) m ρ main
    (hbody := fun c => (body_obligation (Gen.V0 m) hlt c).loose) (hshare := share_eq (Gen.V0 m) hlt) (howed := fun _ _ => rfl)
    (Gen.V0 m) [hostOps1, hostOps1_1] sfx_sub sfx_fresh sfx_keeps (V (Gen.V0 m))
    (hmain := Pipeline.hmain_around cfgs 0 defs₀ 𝒱₀ m main [hostOps0, hostOps0_1, hostOps0_2, hostOps0_3, hostOps0_4] [hostOps1, hostOps1_1]
      (by simp only [List.Forall]; exact ⟨hostOps0_sub, hostOps0_1_sub, hostOps0_2_sub, hostOps0_3_sub, hostOps0_4_sub⟩)
      (by simp only [List.Forall]; exact ⟨hostOps0_fresh, hostOps0_1_fresh, hostOps0_2_fresh, hostOps0_3_fresh, hostOps0_4_fresh⟩) main_chain)
    (hA := fun _ _ => rfl) (hin := fun _ => .rfl) (hout := fun _ => .rfl)
    (Q' := Post m hlt)
    (hQ' := fun r h => ⟨fun c => by
      have key : ∀ b ∈ Pipeline.restRefs sig cfg0.spec, r.2.mem ((c : Thread nD τ).loc b) = last (Gen.V0 m) hlt c b := fun b hb => by
        refine ((h.1 c).2 b hb).trans ?_
        rw [withR_none]
        rfl
      exact ⟨key _ (Pipeline.mem_restRefs_of main_v36 (by decide) (by decide)),
        (key _ (Pipeline.mem_restRefs_of main_arg0 (by decide) (by decide))).trans (arg_kept m hlt c main_arg0 (by decide) (V_main_arg0 m c) (by decide)),
        (key _ (Pipeline.mem_restRefs_of main_arg1 (by decide) (by decide))).trans (arg_kept m hlt c main_arg1 (by decide) (V_main_arg1 m c) (by decide)),
        (key _ (Pipeline.mem_restRefs_of main_arg2 (by decide) (by decide))).trans (arg_kept m hlt c main_arg2 (by decide) (V_main_arg2 m c) (by decide))⟩, h.2⟩)
end

end Cert.ResultIdealProof

end
-- ==== Proof.ResultIdealHost.lean ====
/-
# The host lines of the result's program

The lines before the gather rank each token among the tokens of its expert, keep those of rank 204 and less, and give each of
the device's tokens a row number: its own row of the table where it is kept, row 0 where it is not. The lines after the
gather put the rows side by side and zero those of the tokens not kept.
-/
module

public import proofs.«01_k».proof.Proof.Rank
public import proofs.«01_k».proof.Proof.ResultIdealRun
public import Idealize.ShloMosaic.Lib.StableHlo.RunRead

@[expose] public section

noncomputable section

namespace Cert.ResultIdealProof

open Cert.ResultIdeal Cert.ResultIdeal.Gen

open Idealize.ShloMosaic Idealize.ShloMosaic.TcCoe

variable {F : FTy → Type} [FloatOps F]

/-! ## The lines' terms -/

/-- Where the device's tokens start. -/
def start (p : IVec S_ 32) : IVec S_ 32 :=
  select (cmpi .slt (muli p (constantI S_ 32 2048#32)) (constantI S_ 32 0#32)) (addi (muli p (constantI S_ 32 2048#32)) (constantI S_ 32 16384#32))
    (muli p (constantI S_ 32 2048#32))

/-- The device's part of a vector over all tokens. -/
def part {α : Type} (x : S16384.Idx → α) (p : IVec S_ 32) : S2048.Idx → α :=
  Host.dynamicSlice S2048 x (fun k => ((![start p] : Fin 1 → IVec S_ 32) k (Shape.Idx.first h_S_)).toInt) sliceFits_S16384_S2048

/-- The one-hot row of each token's expert. -/
def hot (route : IVec S16384 32) : IVec S16384x64 32 :=
  extui 32 (cmpi .eq (broadcastInDim S16384x64 ![0, 1] bcast_S16384x1_S16384x64_0_1 (broadcastInDim S16384x1 ![0] bcast_S16384_S16384x1_0 route))
    (broadcastInDim S16384x64 ![0, 1] bcast_S1x64_S16384x64_0_1 (broadcastInDim S1x64 ![1] bcast_S64_S1x64_1 (iotaInDim S64 32 0)))) natLt_1_32

/-- The ranks. -/
def ranks (route : IVec S16384 32) : IVec S16384 32 :=
  Host.reduce IntOp.addi (muli (Host.reduceWindow IntOp.addi ![16384, 1] ![1, 1] ![16383, 0] ![0, 0] (hot route)
      (broadcastInDim S_ ![] bcast_S_S_ (constantI S_ 32 0#32)) reduceWindows_S16384x64_S16384x64_w16384s1p16383_0_w1s1p0_0 h_S_) (hot route))
    (constantI S_ 32 0#32) reducesTo_S16384x64_S16384_d1 h_S_

/-- Which tokens are kept. -/
def keeps (route : IVec S16384 32) : IVec S16384 1 := cmpi .sle (ranks route) (broadcastInDim S16384 ![] bcast_S_S16384 (constantI S_ 32 204#32))

/-- The row numbers. -/
def rows (route : IVec S16384 32) (p : IVec S_ 32) : IVec S2048 32 :=
  select (part (keeps route) p)
    (addi (muli (part route p) (broadcastInDim S2048 ![] bcast_S_S2048 (constantI S_ 32 208#32)))
      (part (subi (ranks route) (broadcastInDim S16384 ![] bcast_S_S16384 (constantI S_ 32 1#32))) p))
    (broadcastInDim S2048 ![] bcast_S_S2048 (id (constantI S_ 32 0#32)))

/-- The result from the rows gathered. -/
def masked (k : IVec S2048 1) (g : FVec F S2048x8x128 .bf16) : FVec F S2048x1024 .f32 :=
  select (broadcastInDim S2048x1024 ![0, 1] bcast_S2048x1_S2048x1024_0_1 (broadcastInDim S2048x1 ![0] bcast_S2048_S2048x1_0 k))
    (extf .f32 (shapeCast S2048x1024 g shapeCasts_S2048x8x128_S2048x1024) bitsLt_bf16_f32)
    (broadcastInDim S2048x1024 ![] bcast_S_S2048x1024 (constant S_ .f32 0x00000000#32))

/-! ## What the lines leave -/

section
variable (m : (ℓ : Loc nD τ sig) → Buf (Elt F) ℓ) (c : Dev nD)

set_option maxRecDepth 8192 in
set_option maxHeartbeats 2000000 in
theorem V_rows : V (Gen.V0 m) c main_v30 = rows (m ((c : Thread nD τ).loc main_arg1)) (m ((c : Thread nD τ).loc main_arg2)) := by
  unfold V Gen.V0
  after_reads_simp [StableHlo.unaryIndexed_result_read, StableHlo.indexContents_cons, StableHlo.indexContents_empty]
  simp only [StableHlo.TRef.toBuf, StableHlo.TRef.ofBuf, cast_eq]
  rfl

set_option maxRecDepth 8192 in
set_option maxHeartbeats 2000000 in
theorem V_table : V (Gen.V0 m) c main_v31 = shapeCast S13312x8x128 (m ((c : Thread nD τ).loc main_arg0) : FVec F S13312x1024 .bf16) shapeCasts_S13312x1024_S13312x8x128 := by
  unfold V Gen.V0
  after_reads_simp
  rfl

set_option maxRecDepth 8192 in
set_option maxHeartbeats 2000000 in
theorem V_keeps : V (Gen.V0 m) c main_v26 = part (keeps (m ((c : Thread nD τ).loc main_arg1))) (m ((c : Thread nD τ).loc main_arg2)) := by
  unfold V Gen.V0
  after_reads_simp [StableHlo.unaryIndexed_result_read, StableHlo.indexContents_cons, StableHlo.indexContents_empty]
  simp only [StableHlo.TRef.toBuf, StableHlo.TRef.ofBuf, cast_eq]
  rfl

theorem last_result (hlt : ∀ (c : Dev nD) (i : Fin 2048), (num (Gen.V0 m) c i).toNat < 13312) :
    last (Gen.V0 m) hlt c main_v36 = masked (part (keeps (m ((c : Thread nD τ).loc main_arg1))) (m ((c : Thread nD τ).loc main_arg2))) (rowsOf (Gen.V0 m) hlt c) := by
  have hk := (mid_of_ne (Gen.V0 m) hlt c main_v26 (by decide)).trans (V_keeps m c)
  have hg := mid_rows (Gen.V0 m) hlt c
  unfold last
  generalize mid (Gen.V0 m) hlt c = W at hk hg ⊢
  rw [← hk, ← hg]
  simp only [Gen.hostOps1, Gen.hostOps1_1, List.flatten_cons, List.flatten_nil, List.append_nil,
    List.cons_append, List.nil_append, StableHlo.TRef.nullary, StableHlo.TRef.unary, StableHlo.TRef.binary, StableHlo.TRef.ternary,
    StableHlo.TRef.toBuf, StableHlo.TRef.ofBuf, cast_eq]
  after_results_simp
  rfl
end

end Cert.ResultIdealProof

end
-- ==== Proof.ResultIdealRows.lean ====
/-
# The row numbers of the result's program

The host lines' words, one at a time. Where every token names an expert, a kept token's row number is its own row of the
table, the others' is 0, and every row number names a row.
-/
module

public import proofs.«01_k».proof.Proof.ResultIdealHost
public import Idealize.ShloMosaic.Lib.Pointwise.ShapeOpsCore

@[expose] public section

noncomputable section

namespace Cert.ResultIdealProof

open Cert.ResultIdeal Cert.ResultIdeal.Gen

open Idealize.ShloMosaic hiding ix0 ix1 ix2 ix3
open Idealize.ShloMosaic.TcCoe Idealize.ShloMosaic.ValueIdx
open Cert.Rank

section
variable (route : IVec S16384 32) (p : IVec S_ 32)

/-- The token at position `i` of the device's part. -/
abbrev own (i : Fin 2048) : Fin 16384 := tok (start p (Shape.Idx.first h_S_)) i

theorem part_apply {α : Type} (x : S16384.Idx → α) (i : Fin 2048) : part x p (ix1 i) = x (ix1 (own p i)) := by
  unfold part
  rw [Host.dynamicSlice_apply]
  refine congrArg x ?_
  funext a
  match a with
  | ⟨0, _⟩ => rfl

theorem hot_apply (i : Fin 16384) (c : Fin 64) : hot route (ix2 i c) = BitVec.ofNat 32 (if expert route i.val = c.val then 1 else 0) := by
  unfold hot
  show BitVec.setWidth 32 (IntOp.cmpi .eq _ _) = _
  rw [Routing.bcRows, Routing.bcCols, expert_val]
  show BitVec.setWidth 32 (BitVec.ofBool (route (ix1 i) == BitVec.ofNat 32 c.val)) = _
  have hc := c.isLt
  by_cases h : (route (ix1 i)).toNat = c.val
  · rw [if_pos h, show route (ix1 i) = BitVec.ofNat 32 c.val from BitVec.eq_of_toNat_eq (by rw [h, BitVec.toNat_ofNat, Nat.mod_eq_of_lt (by omega)])]
    simp
  · rw [if_neg h, show (route (ix1 i) == BitVec.ofNat 32 c.val) = false from beq_eq_false_iff_ne.2 fun e => h (by
      rw [e, BitVec.toNat_ofNat, Nat.mod_eq_of_lt (by omega)])]
    rfl

variable (hr : ∀ i, (route i).toNat < 64)
include hr

theorem ranks_apply (j : Fin 16384) : ranks route (ix1 j) = BitVec.ofNat 32 (rank route j.val) := by
  unfold ranks
  exact kernel_rank route hr (hot route) (hot_apply route) _ rfl _ _ _ _ j

theorem keeps_iff (j : Fin 16384) : keeps route (ix1 j) = 1#1 ↔ rank route j.val ≤ 204 := by
  unfold keeps
  show IntOp.cmpi .sle (ranks route (ix1 j)) _ = 1#1 ↔ _
  rw [ranks_apply route hr j, Routing.bc0]
  exact kept_iff _ (Nat.le_trans (rank_le route j.val) (by have := j.isLt; omega))

/-- A kept token's row number. -/
theorem rows_kept (i : Fin 2048) (h : rank route (own p i).val ≤ 204) :
    rows route p (ix1 i) = BitVec.ofNat 32 (expert route (own p i).val * 208 + (rank route (own p i).val - 1)) := by
  unfold rows
  show Scalar.select (part (keeps route) p (ix1 i)) (part route p (ix1 i) * _ + part _ p (ix1 i)) _ = _
  rw [part_apply, (keeps_iff route hr _).2 h, part_apply, part_apply, Routing.bc0]
  show route (ix1 (own p i)) * 208#32 + (ranks route (ix1 (own p i)) - _) = _
  rw [ranks_apply route hr, Routing.bc0, show route (ix1 (own p i)) = BitVec.ofNat 32 (expert route (own p i).val) by
    rw [expert_val, BitVec.ofNat_toNat, BitVec.setWidth_eq]]
  exact row_kernel _ _ (by rw [expert_val]; exact hr _) (rank_pos route _) h

/-- The row number of a token not kept. -/
theorem rows_not (i : Fin 2048) (h : ¬ rank route (own p i).val ≤ 204) : rows route p (ix1 i) = 0#32 := by
  unfold rows
  show Scalar.select (part (keeps route) p (ix1 i)) _ _ = _
  rw [part_apply, (BitVec.eq_zero_or_eq_one (keeps route (ix1 (own p i)))).resolve_right fun e => h ((keeps_iff route hr _).1 e)]
  exact Routing.bc0 bcast_S_S2048 (id (constantI S_ 32 0#32)) (ix1 i)

theorem row_lt (j : ℕ) (hj : j < 16384) (h : rank route j ≤ 204) : expert route j * 208 + (rank route j - 1) < 13312 := by
  have : expert route j < 64 := by
    have := expert_val route ⟨j, hj⟩
    rw [show expert route j = _ from this]
    exact hr _
  omega

/-- Every row number names a row. -/
theorem rows_lt (i : Fin 2048) : (rows route p (ix1 i)).toNat < 13312 := by
  by_cases h : rank route (own p i).val ≤ 204
  · rw [rows_kept route p hr i h, BitVec.toNat_ofNat]
    have := row_lt route hr _ (own p i).isLt h
    omega
  · rw [rows_not route p hr i h]
    decide
end

variable {F : FTy → Type} [FloatOps F] (m : (ℓ : Loc nD τ sig) → Buf (Elt F) ℓ)

/-- The row numbers the gather is given, by the host lines' term. -/
theorem num_eq (c : Dev nD) (i : Fin 2048) :
    num (Gen.V0 m) c i = rows (m ((c : Thread nD τ).loc main_arg1)) (m ((c : Thread nD τ).loc main_arg2)) (ix1 i) := by
  unfold num
  rw [V_rows]
  refine congrArg (rows _ _) ?_
  funext a
  match a with
  | ⟨0, _⟩ => rfl

theorem num_lt (hr : ∀ (c : Dev nD) i, (m ((c : Thread nD τ).loc main_arg1) i : BitVec 32).toNat < 64) (c : Dev nD) (i : Fin 2048) :
    (num (Gen.V0 m) c i).toNat < 13312 := by
  rw [num_eq]
  exact rows_lt _ _ (hr c) i

end Cert.ResultIdealProof

end
-- ==== Proof.ResultClaims.lean ====
/-
# The claims about the result

The frames of the two readings of the kernel and of the reference, and the equality of the results: where every token names
an expert, kernel and reference both return, for each of the device's tokens, the token's row of the table if its rank among
the tokens of its expert is 204 or less, and zeros if not.
-/
module

public import proofs.«01_k».proof.Defs
public import proofs.«01_k».proof.Proof.GatherRef
public import proofs.«01_k».proof.Proof.ResultRows
public import proofs.«01_k».proof.Proof.ResultIdealRows
public import proofs.«01_k».proof.Proof.Gen.ResultRefIdeal
public import proofs.«01_k».proof.Proof.Gen.ResultRefIdeal.Run
public import Idealize.ShloMosaic.Lib.Quiescent
public import Idealize.ShloMosaic.Lib.Pipeline.Value

@[expose] public section

noncomputable section

namespace Cert.ResultClaims

open Idealize.ShloMosaic hiding ix0 ix1 ix2 ix3
open Idealize.ShloMosaic.TcCoe Idealize.SL.Sem Idealize.ShloMosaic.StableHlo Idealize.ShloMosaic.ValueIdx
open Cert.Rank

/-! ## The precondition: every token names an expert -/

theorem preFacts : Cert.Pre_routes_exist.Facts := ⟨by decide⟩

theorem named {F : FTy → Type} [FloatOps F] (a0 : FVec F Cert.Pre_routes_exist.S13312x1024 .bf16) (a1 : IVec Cert.Pre_routes_exist.S16384 32)
    (a2 : IVec Cert.Pre_routes_exist.S_ 32)
    (h : @Cert.Pre_routes_exist.fn preFacts F _ a0 a1 a2 = fun _ => 1#1) (i : Cert.Pre_routes_exist.S16384.Idx) : (a1 i).toNat < 64 :=
  Cert.RowGather.lt_of_bits (a1 i) 64 (by decide) (congrFun h i)

theorem lt_kernel (m : (ℓ : Loc Cert.Result.nD Cert.Result.τ Cert.Result.sig) → Buf (Elt Bits) ℓ) (h : Cert.Pre_Result (hPre_routes_exist := preFacts) m)
    (c : Dev Cert.Result.nD) (i : Fin 2048) : (Cert.ResultProof.num (Cert.Result.Gen.V0 m) c i).toNat < 13312 :=
  Cert.ResultProof.num_lt m (fun c i => named _ _ _ (h c) i) c i

theorem lt_ideal (m : (ℓ : Loc Cert.ResultIdeal.nD Cert.ResultIdeal.τ Cert.ResultIdeal.sig) → Buf (Elt Ideal) ℓ)
    (h : Cert.Pre_ResultIdeal (hPre_routes_exist := preFacts) m)
    (c : Dev Cert.ResultIdeal.nD) (i : Fin 2048) : (Cert.ResultIdealProof.num (Cert.ResultIdeal.Gen.V0 m) c i).toNat < 13312 :=
  Cert.ResultIdealProof.num_lt m (fun c i => named _ _ _ (h c) i) c i

/-! ## The reference -/

section
open Cert.ResultRefIdeal Cert.ResultRefIdeal.Gen

/-- Which tokens count towards which: those up to it that name its expert. -/
def before (route : IVec S16384 32) : IVec S16384x16384 1 :=
  andi
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))
    (cmpi .eq (broadcastInDim S16384x16384 ![0, 1] bcast_S1x16384_S16384x16384_0_1 (broadcastInDim S1x16384 ![1] bcast_S16384_S1x16384_1 route))
      (broadcastInDim S16384x16384 ![0, 1] bcast_S16384x1_S16384x16384_0_1 (broadcastInDim S16384x1 ![0] bcast_S16384_S16384x1_0 route)))

/-- The ranks. -/
def counts (route : IVec S16384 32) : IVec S16384 32 :=
  Host.reduce IntOp.addi (extui 32 (before route) natLt_1_32) (constantI S_ 32 0#32) reducesTo_S16384x16384_S16384_d1 h_S_

/-- The tokens' rows, not yet wrapped around. -/
def rowNums (route : IVec S16384 32) : IVec S16384 32 :=
  subi (addi (muli route (broadcastInDim S16384 ![] bcast_S_S16384 (constantI S_ 32 208#32))) (counts route))
    (broadcastInDim S16384 ![] bcast_S_S16384 (constantI S_ 32 1#32))

/-- All tokens' rows of the result. -/
def allRows (x : FVec Ideal S13312x1024 .bf16) (route : IVec S16384 32) : FVec Ideal S16384x1024 .f32 :=
  select (broadcastInDim S16384x1024 ![0, 1] bcast_S16384x1_S16384x1024_0_1 (broadcastInDim S16384x1 ![0] bcast_S16384_S16384x1_0
      (cmpi .sle (counts route) (broadcastInDim S16384 ![] bcast_S_S16384 (constantI S_ 32 204#32)))))
    (extf .f32 (Host.gather gather_S13312x1024_S16384x1_S16384x1024_1_0_n_n_0_1_11024 x (broadcastInDim S16384x1 ![0] bcast_S16384_S16384x1_0
      (select (cmpi .slt (rowNums route) (broadcastInDim S16384 ![] bcast_S_S16384 (constantI S_ 32 0#32)))
        (addi (rowNums route) (broadcastInDim S16384 ![] bcast_S_S16384 (constantI S_ 32 13312#32))) (rowNums route)))) bitsLt_bf16_f32)
    (broadcastInDim S16384x1024 ![] bcast_S_S16384x1024 (id (constant S_ .f32 0x00000000#32)))

/-- What the reference returns, of its three arguments. -/
def refResult (x : FVec Ideal S13312x1024 .bf16) (route : IVec S16384 32) (p : IVec S_ 32) : FVec Ideal S2048x1024 .f32 :=
  Host.dynamicSlice S2048x1024 (allRows x route)
    (fun k => ((![Cert.ResultIdealProof.start p, constantI S_ 32 0#32] : Fin 2 → IVec S_ 32) k (Shape.Idx.first h_S_)).toInt) sliceFits_S16384x1024_S2048x1024

theorem ref_eq (m : (ℓ : Loc nD τ sig) → Buf (Elt Ideal) ℓ) (c : Dev nD) :
    Cert.ResultRefIdeal.Value.res_main_v35 m c
      = refResult (m ((c.tc : Thread nD τ).loc main_arg0)) (m ((c.tc : Thread nD τ).loc main_arg1)) (m ((c.tc : Thread nD τ).loc main_arg2)) := rfl

variable (x : FVec Ideal S13312x1024 .bf16) (route : IVec S16384 32) (p : IVec S_ 32)

theorem refResult_apply (i : Fin 2048) (j : Fin 1024) :
    refResult x route p (ix2 i j) = allRows x route (ix2 (Cert.ResultIdealProof.own p i) j) := by
  unfold refResult
  rw [Host.dynamicSlice_apply]
  refine congrArg (allRows x route) ?_
  funext a
  match a with
  | ⟨0, _⟩ => rfl
  | ⟨1, _⟩ =>
    apply Fin.ext
    show 0 + j.val = j.val
    omega

theorem before_iff (i q : Fin 16384) : before route (ix2 i q) = 1#1 ↔ q.val ≤ i.val ∧ expert route q.val = expert route i.val := by
  have key : ∀ a b : BitVec 1, a &&& b = 1#1 ↔ a = 1#1 ∧ b = 1#1 := by decide
  unfold before
  show IntOp.cmpi .sle _ _ &&& IntOp.cmpi .eq _ _ = 1#1 ↔ _
  rw [key, Routing.bcCols, Routing.bcRows, Routing.bcCols, Routing.bcRows, expert_val, expert_val]
  refine and_congr ?_ ?_
  · show IntOp.cmpi .sle (BitVec.ofNat 32 q.val) (BitVec.ofNat 32 i.val) = 1#1 ↔ _
    have hq := q.isLt
    have hi := i.isLt
    unfold IntOp.cmpi
    simp only [StableHlo.Predicate.ofBool_eq_one_iff, BitVec.sle, decide_eq_true_eq, BitVec.toInt_eq_toNat_cond, BitVec.toNat_ofNat]
    rw [Nat.mod_eq_of_lt (by omega), Nat.mod_eq_of_lt (by omega), if_pos (by omega), if_pos (by omega)]
    omega
  · unfold IntOp.cmpi
    simp only [StableHlo.Predicate.ofBool_eq_one_iff, beq_iff_eq]
    exact ⟨fun h => congrArg _ h, fun h => BitVec.eq_of_toNat_eq h⟩

theorem counts_apply (i : Fin 16384) : counts route (ix1 i) = BitVec.ofNat 32 (rank route i.val) := by
  unfold counts
  exact reference_rank route (before route) _ _ _ i (before_iff route i)

variable (hr : ∀ i, (route i).toNat < 64)
include hr

theorem rowNums_apply (i : Fin 16384) (h : rank route i.val ≤ 204) :
    rowNums route (ix1 i) = BitVec.ofNat 32 (expert route i.val * 208 + (rank route i.val - 1)) := by
  unfold rowNums
  show route (ix1 i) * _ + counts route (ix1 i) - _ = _
  rw [counts_apply, Routing.bc0, Routing.bc0, show route (ix1 i) = BitVec.ofNat 32 (expert route i.val) by
    rw [expert_val, BitVec.ofNat_toNat, BitVec.setWidth_eq]]
  exact row_reference _ _ (by rw [expert_val]; exact hr _) (rank_pos route _) h

/-- The rows of a kept token. -/
theorem gathered (i : Fin 16384) (j : Fin 1024) (h : rank route i.val ≤ 204) :
    Host.gather gather_S13312x1024_S16384x1_S16384x1024_1_0_n_n_0_1_11024 x (broadcastInDim S16384x1 ![0] bcast_S16384_S16384x1_0
      (select (cmpi .slt (rowNums route) (broadcastInDim S16384 ![] bcast_S_S16384 (constantI S_ 32 0#32)))
        (addi (rowNums route) (broadcastInDim S16384 ![] bcast_S_S16384 (constantI S_ 32 13312#32))) (rowNums route))) (ix2 i j)
      = x (ix2 ⟨_, Cert.ResultIdealProof.row_lt route hr i.val i.isLt h⟩ j) := by
  refine Routing.gather_row _ rfl rfl rfl rfl rfl x _ i j ⟨_, Cert.ResultIdealProof.row_lt route hr i.val i.isLt h⟩ ?_ (by decide)
  rw [Routing.bcCol]
  have := Cert.ResultIdealProof.row_lt route hr i.val i.isLt h
  refine (Routing.wrap_of_lt (rowNums route (ix1 i)) _ ?_).trans (rowNums_apply route hr i h)
  rw [rowNums_apply route hr i h, BitVec.toNat_ofNat]
  omega
end

/-! ## The results are equal -/

section
open Cert.ResultIdeal Cert.ResultIdeal.Gen Cert.ResultIdealProof

variable (m : (ℓ : Loc nD τ sig) → Buf (Elt Ideal) ℓ) (hlt : ∀ (c : Dev nD) (i : Fin 2048), (num (Gen.V0 m) c i).toNat < 13312)

theorem flat_apply {α : Type} (f : S2048x8x128.Idx → α) (h : S2048x8x128.ShapeCasts S2048x1024) (i : Fin 2048) (j : Fin 1024)
    (h1 : j.val / 128 < 8) (h2 : j.val % 128 < 128) : shapeCast S2048x1024 f h (ix2 i j) = f (ix3 i ⟨_, h1⟩ ⟨_, h2⟩) := by
  refine shapeCast_apply f h (ix2 i j) (ix3 i ⟨_, h1⟩ ⟨_, h2⟩) ?_
  rw [Shape.rowMajor_val_three, Shape.rowMajor_val_two]
  show (i.val * 8 + j.val / 128) * 128 + j.val % 128 = i.val * 1024 + j.val
  omega

theorem cut_apply {α : Type} (f : S13312x1024.Idx → α) (h : S13312x1024.ShapeCasts S13312x8x128) (z : S13312x8x128.Idx) (n : Fin 13312) (j : Fin 1024)
    (h0 : (z 0).val = n.val) (h1 : (z 1).val = j.val / 128) (h2 : (z 2).val = j.val % 128) : shapeCast S13312x8x128 f h z = f (ix2 n j) := by
  refine shapeCast_apply f h z (ix2 n j) ?_
  rw [Shape.rowMajor_val_three, Shape.rowMajor_val_two]
  show n.val * 1024 + j.val = ((z 0).val * 8 + (z 1).val) * 128 + (z 2).val
  rw [h0, h1, h2]
  omega

/-- The row gathered for a position, at a column. -/
theorem rowsOf_apply (c : Dev nD) (i : Fin 2048) (j : Fin 1024) (n : Fin 13312) (hn : (num (Gen.V0 m) c i).toNat = n.val) :
    shapeCast S2048x1024 (rowsOf (Gen.V0 m) hlt c) shapeCasts_S2048x8x128_S2048x1024 (ix2 i j)
      = (m ((c : Thread nD τ).loc main_arg0) : FVec Ideal S13312x1024 .bf16) (ix2 n j) := by
  have h1 : j.val / 128 < 8 := Nat.div_lt_of_lt_mul j.isLt
  have h2 : j.val % 128 < 128 := Nat.mod_lt _ (by decide)
  refine (flat_apply _ shapeCasts_S2048x8x128_S2048x1024 i j h1 h2).trans ?_
  unfold rowsOf
  refine (congrFun (V_table m c) _).trans (cut_apply _ _ _ n j ?_ ?_ ?_)
  · dsimp only
    exact hn
  · rfl
  · rfl

theorem results_eq (hr : ∀ (c : Dev nD) i, (m ((c : Thread nD τ).loc main_arg1) i : BitVec 32).toNat < 64) (c : Dev nD) :
    refResult (m ((c : Thread nD τ).loc main_arg0)) (m ((c : Thread nD τ).loc main_arg1)) (m ((c : Thread nD τ).loc main_arg2))
      = last (Gen.V0 m) hlt c main_v36 := by
  rw [last_result]
  funext y
  obtain ⟨i, j, rfl⟩ : ∃ (i : Fin 2048) (j : Fin 1024), y = ix2 i j := ⟨y 0, y 1, funext fun a => match a with | ⟨0, _⟩ => rfl | ⟨1, _⟩ => rfl⟩
  rw [refResult_apply]
  have hk : part (keeps (m ((c : Thread nD τ).loc main_arg1))) (m ((c : Thread nD τ).loc main_arg2)) (ix1 i)
      = IntOp.cmpi .sle (counts (m ((c : Thread nD τ).loc main_arg1)) (ix1 (own (m ((c : Thread nD τ).loc main_arg2)) i))) 204#32 := by
    rw [part_apply, counts_apply]
    unfold keeps
    show IntOp.cmpi .sle (ranks _ (ix1 _)) _ = _
    rw [ranks_apply _ (hr c), Routing.bc0]
    rfl
  unfold allRows masked
  show Scalar.select _ (FloatOps.extf .f32 _ _) _ = Scalar.select _ (FloatOps.extf .f32 _ _) _
  rw [Routing.bcRows, Routing.bcRows, Routing.bc0, Routing.bc0, hk]
  show Scalar.select (IntOp.cmpi .sle (counts _ (ix1 _)) (broadcastInDim _ _ _ _ _)) _ _ = _
  rw [Routing.bc0, counts_apply]
  by_cases h : rank (m ((c : Thread nD τ).loc main_arg1)) (own (m ((c : Thread nD τ).loc main_arg2)) i).val ≤ 204
  · rw [gathered _ _ (hr c) _ j h, rowsOf_apply m hlt c i j ⟨_, row_lt _ (hr c) _ (own _ i).isLt h⟩ (by
      rw [num_eq, rows_kept _ _ (hr c) i h, BitVec.toNat_ofNat]
      exact Nat.mod_eq_of_lt (Nat.lt_trans (row_lt _ (hr c) _ (own _ i).isLt h) (by decide)))]
    rfl
  · have h0 : IntOp.cmpi .sle (BitVec.ofNat 32 (rank (m ((c : Thread nD τ).loc main_arg1)) (own (m ((c : Thread nD τ).loc main_arg2)) i).val)) 204#32 = 0#1 :=
      (BitVec.eq_zero_or_eq_one _).resolve_right fun e => h ((kept_iff _ (Nat.le_trans (rank_le _ _) (by have := (own (m ((c : Thread nD τ).loc main_arg2)) i).isLt; omega))).1 e)
    show Scalar.select (IntOp.cmpi .sle _ 204#32) _ _ = _
    rw [h0]
    rfl
end

/-! ## The claims -/

theorem frame_kernel : Cert.quiescent_Result (hResult := Cert.Result.Gen.facts) (hPre_routes_exist := preFacts) := fun m g hpre =>
  (θ_run _ _ _).mono (fun _ h => ⟨fun c => (h.1 c).2, h.2⟩) (Cert.ResultProof.run_main (F := Bits) m g (lt_kernel m hpre))

theorem frame_ideal : Cert.quiescent_ResultIdeal (hResultIdeal := Cert.ResultIdeal.Gen.facts) (hPre_routes_exist := preFacts) := fun m g hpre =>
  (θ_run _ _ _).mono (fun _ h => ⟨fun c => (h.1 c).2, h.2⟩) (Cert.ResultIdealProof.run_main (F := Ideal) m g (lt_ideal m hpre))

theorem frame_ref : Cert.quiescent_ResultRefIdeal (hResultRefIdeal := Cert.ResultRefIdeal.Gen.facts) := fun m g _ =>
  (θ_run _ _ _).mono (fun r h => ⟨fun c => (h c).2, sem_eq_zero_of_no_sems (by decide) r.2⟩) (Cert.ResultRefIdeal.Value.run (F := Ideal) m g)

theorem frame_ref_pre : Cert.quiescent_ResultRefIdeal_pre_routes_exist (hResultRefIdeal := Cert.ResultRefIdeal.Gen.facts) (hPre_routes_exist := preFacts) :=
  fun m g _ => frame_ref m g trivial

theorem values : Cert.algebraic_ResultIdeal_ResultRefIdeal (hResultIdeal := Cert.ResultIdeal.Gen.facts)
    (hResultRefIdeal := Cert.ResultRefIdeal.Gen.facts) (hPre_routes_exist := preFacts) :=
  fun m g m' g' hpre harg =>
    ⟨fun c => Cert.ResultIdealProof.last (Cert.ResultIdeal.Gen.V0 m) (lt_ideal m hpre) c Cert.ResultIdeal.main_v36,
      (θ_run _ _ _).mono (fun _ h c => h.1 c) (Cert.ResultIdealProof.run_main (F := Ideal) m g (lt_ideal m hpre)),
      (θ_run _ _ _).mono (fun _ h c => ⟨(h c).1.trans ((ref_eq m' c).trans (((congrArg₂ (fun x r => refResult x r _) (harg c).1 (harg c).2.1).trans
          (congrArg (refResult _ _) (harg c).2.2)).trans (results_eq m (lt_ideal m hpre) (fun c i => named _ _ _ (hpre c) i) c))), (h c).2⟩)
        (Cert.ResultRefIdeal.Value.run (F := Ideal) m' g')⟩

end Cert.ResultClaims

end
-- ==== Proof.lean ====
module

public import proofs.«01_k».proof.Defs
public import proofs.«01_k».proof.Proof.Gen.Result
public import proofs.«01_k».proof.Proof.Gen.Result.Skeleton
public import proofs.«01_k».proof.Proof.Gen.Result.Launch
public import proofs.«01_k».proof.Proof.Gen.Result.Points
public import proofs.«01_k».proof.Proof.Gen.Result.Frame
public import proofs.«01_k».proof.Proof.Gen.ResultIdeal
public import proofs.«01_k».proof.Proof.Gen.ResultIdeal.Skeleton
public import proofs.«01_k».proof.Proof.Gen.ResultIdeal.Launch
public import proofs.«01_k».proof.Proof.Gen.ResultIdeal.Points
public import proofs.«01_k».proof.Proof.Gen.ResultIdeal.Frame
public import proofs.«01_k».proof.Proof.Gen.ResultRefIdeal
public import proofs.«01_k».proof.Proof.Gen.ResultRefIdeal.Run
public import proofs.«01_k».proof.Proof.Gen.Picks
public import proofs.«01_k».proof.Proof.Gen.Picks.Skeleton
public import proofs.«01_k».proof.Proof.Gen.Picks.Launch
public import proofs.«01_k».proof.Proof.Gen.Picks.Points
public import proofs.«01_k».proof.Proof.Gen.Picks.Frame
public import proofs.«01_k».proof.Proof.Gen.PicksIdeal
public import proofs.«01_k».proof.Proof.Gen.PicksIdeal.Skeleton
public import proofs.«01_k».proof.Proof.Gen.PicksIdeal.Launch
public import proofs.«01_k».proof.Proof.Gen.PicksIdeal.Points
public import proofs.«01_k».proof.Proof.Gen.PicksIdeal.Frame
public import proofs.«01_k».proof.Proof.Gen.PicksRefIdeal
public import proofs.«01_k».proof.Proof.Gen.PicksRefIdeal.Run
public import proofs.«01_k».proof.Proof.Gen.Returns
public import proofs.«01_k».proof.Proof.Gen.Returns.Skeleton
public import proofs.«01_k».proof.Proof.Gen.Returns.Launch
public import proofs.«01_k».proof.Proof.Gen.Returns.Points
public import proofs.«01_k».proof.Proof.Gen.Returns.Frame
public import proofs.«01_k».proof.Proof.Gen.ReturnsIdeal
public import proofs.«01_k».proof.Proof.Gen.ReturnsIdeal.Skeleton
public import proofs.«01_k».proof.Proof.Gen.ReturnsIdeal.Launch
public import proofs.«01_k».proof.Proof.Gen.ReturnsIdeal.Points
public import proofs.«01_k».proof.Proof.Gen.ReturnsIdeal.Frame
public import proofs.«01_k».proof.Proof.Gen.ReturnsRefIdeal
public import proofs.«01_k».proof.Proof.Gen.ReturnsRefIdeal.Run
public import proofs.«01_k».proof.Proof.Gen.Table
public import proofs.«01_k».proof.Proof.Gen.Table.Skeleton
public import proofs.«01_k».proof.Proof.Gen.Table.Launch
public import proofs.«01_k».proof.Proof.Gen.Table.Points
public import proofs.«01_k».proof.Proof.Gen.Table.Frame
public import proofs.«01_k».proof.Proof.Gen.TableIdeal
public import proofs.«01_k».proof.Proof.Gen.TableIdeal.Skeleton
public import proofs.«01_k».proof.Proof.Gen.TableIdeal.Launch
public import proofs.«01_k».proof.Proof.Gen.TableIdeal.Points
public import proofs.«01_k».proof.Proof.Gen.TableIdeal.Frame
public import proofs.«01_k».proof.Proof.Gen.TableRefIdeal
public import proofs.«01_k».proof.Proof.Gen.TableRefIdeal.Run
public import proofs.«01_k».proof.Proof.Gen.Tokens
public import proofs.«01_k».proof.Proof.Gen.Tokens.Skeleton
public import proofs.«01_k».proof.Proof.Gen.Tokens.Launch
public import proofs.«01_k».proof.Proof.Gen.Tokens.Points
public import proofs.«01_k».proof.Proof.Gen.TokensIdeal
public import proofs.«01_k».proof.Proof.Gen.TokensIdeal.Skeleton
public import proofs.«01_k».proof.Proof.Gen.TokensIdeal.Launch
public import proofs.«01_k».proof.Proof.Gen.TokensIdeal.Points
public import proofs.«01_k».proof.Proof.Gen.TokensRefIdeal
public import proofs.«01_k».proof.Proof.Gen.Routes
public import proofs.«01_k».proof.Proof.Gen.Routes.Skeleton
public import proofs.«01_k».proof.Proof.Gen.Routes.Launch
public import proofs.«01_k».proof.Proof.Gen.Routes.Points
public import proofs.«01_k».proof.Proof.Gen.RoutesIdeal
public import proofs.«01_k».proof.Proof.Gen.RoutesIdeal.Skeleton
public import proofs.«01_k».proof.Proof.Gen.RoutesIdeal.Launch
public import proofs.«01_k».proof.Proof.Gen.RoutesIdeal.Points
public import proofs.«01_k».proof.Proof.Gen.RoutesRefIdeal
public import proofs.«01_k».proof.Proof.TableClaims
public import proofs.«01_k».proof.Proof.TokensClaims
public import proofs.«01_k».proof.Proof.RoutesClaims
public import proofs.«01_k».proof.Proof.PicksClaims
public import proofs.«01_k».proof.Proof.ReturnsClaims
public import proofs.«01_k».proof.Proof.ResultClaims
public import Idealize.ShloMosaic.Adequacy
public import Idealize.ShloMosaic.Init

@[expose] public section

noncomputable section

namespace Cert.Proof

open Idealize.ShloMosaic Idealize.SL.Sem Cert.Table

theorem claim : Cert.Claim :=
  ⟨Cert.Table.Gen.facts, Cert.TableIdeal.Gen.facts, Cert.TableRefIdeal.Gen.facts,
    Cert.Tokens.Gen.facts, Cert.TokensIdeal.Gen.facts, Cert.TokensRefIdeal.Gen.facts,
    Cert.Routes.Gen.facts, Cert.RoutesIdeal.Gen.facts, Cert.RoutesRefIdeal.Gen.facts,
    Cert.Picks.Gen.facts, Cert.PicksIdeal.Gen.facts, Cert.PicksRefIdeal.Gen.facts,
    Cert.Returns.Gen.facts, Cert.ReturnsIdeal.Gen.facts, Cert.ReturnsRefIdeal.Gen.facts,
    Cert.Result.Gen.facts, Cert.ResultIdeal.Gen.facts, Cert.ResultRefIdeal.Gen.facts,
    PicksClaims.preFacts, ReturnsClaims.preFacts, ResultClaims.preFacts,
    TableClaims.frame_kernel, TableClaims.frame_ideal, TableClaims.frame_ref,
    TokensClaims.frame_kernel, TokensClaims.frame_ideal, TokensClaims.frame_ref,
    RoutesClaims.frame_kernel, RoutesClaims.frame_ideal, RoutesClaims.frame_ref,
    PicksClaims.frame_kernel, PicksClaims.frame_ideal, PicksClaims.frame_ref, PicksClaims.frame_ref_pre,
    ReturnsClaims.frame_kernel, ReturnsClaims.frame_ideal, ReturnsClaims.frame_ref, ReturnsClaims.frame_ref_pre,
    ResultClaims.frame_kernel, ResultClaims.frame_ideal, ResultClaims.frame_ref, ResultClaims.frame_ref_pre,
    trivial, TableClaims.values, trivial, TokensClaims.values, trivial, RoutesClaims.values,
    trivial, PicksClaims.values, trivial, ReturnsClaims.values, trivial, ResultClaims.values⟩

end Cert.Proof

end
